-- ==== Defs.lean ====
def Pre_BIn (m : (ℓ : Loc Cert.BIn.nD Cert.BIn.τ Cert.BIn.sig) → Buf (Elt Bits) ℓ) : Prop :=
  True

def Pre_BInIdeal (m : (ℓ : Loc Cert.BInIdeal.nD Cert.BInIdeal.τ Cert.BInIdeal.sig) → Buf (Elt Ideal) ℓ) : Prop :=
  True

def Pre_BInIdeal_finite_args [hPre_finite_args : Cert.Pre_finite_args.Facts] (m : (ℓ : Loc Cert.BInIdeal.nD Cert.BInIdeal.τ Cert.BInIdeal.sig) → Buf (Elt Ideal) ℓ) : Prop :=
  ∀ c : Dev Cert.BInIdeal.nD,
    (Cert.Pre_finite_args.fn (F := Ideal) (m ((c.tc : Thread Cert.BInIdeal.nD Cert.BInIdeal.τ).loc Cert.BInIdeal.main_arg0)) (m ((c.tc : Thread Cert.BInIdeal.nD Cert.BInIdeal.τ).loc Cert.BInIdeal.main_arg1)) (m ((c.tc : Thread Cert.BInIdeal.nD Cert.BInIdeal.τ).loc Cert.BInIdeal.main_arg2)) (m ((c.tc : Thread Cert.BInIdeal.nD Cert.BInIdeal.τ).loc Cert.BInIdeal.main_arg3)) (m ((c.tc : Thread Cert.BInIdeal.nD Cert.BInIdeal.τ).loc Cert.BInIdeal.main_arg4)) (m ((c.tc : Thread Cert.BInIdeal.nD Cert.BInIdeal.τ).loc Cert.BInIdeal.main_arg5))) = (fun _ => 1#1)

def Pre_BInRefIdeal (m : (ℓ : Loc Cert.BInRefIdeal.nD Cert.BInRefIdeal.τ Cert.BInRefIdeal.sig) → Buf (Elt Ideal) ℓ) : Prop :=
  True

def Pre_BInRefIdeal_finite_args [hPre_finite_args : Cert.Pre_finite_args.Facts] (m : (ℓ : Loc Cert.BInRefIdeal.nD Cert.BInRefIdeal.τ Cert.BInRefIdeal.sig) → Buf (Elt Ideal) ℓ) : Prop :=
  ∀ c : Dev Cert.BInRefIdeal.nD,
    (Cert.Pre_finite_args.fn (F := Ideal) (m ((c.tc : Thread Cert.BInRefIdeal.nD Cert.BInRefIdeal.τ).loc Cert.BInRefIdeal.main_arg0)) (m ((c.tc : Thread Cert.BInRefIdeal.nD Cert.BInRefIdeal.τ).loc Cert.BInRefIdeal.main_arg1)) (m ((c.tc : Thread Cert.BInRefIdeal.nD Cert.BInRefIdeal.τ).loc Cert.BInRefIdeal.main_arg2)) (m ((c.tc : Thread Cert.BInRefIdeal.nD Cert.BInRefIdeal.τ).loc Cert.BInRefIdeal.main_arg3)) (m ((c.tc : Thread Cert.BInRefIdeal.nD Cert.BInRefIdeal.τ).loc Cert.BInRefIdeal.main_arg4)) (m ((c.tc : Thread Cert.BInRefIdeal.nD Cert.BInRefIdeal.τ).loc Cert.BInRefIdeal.main_arg5))) = (fun _ => 1#1)

def Pre_Flash (m : (ℓ : Loc Cert.Flash.nD Cert.Flash.τ Cert.Flash.sig) → Buf (Elt Bits) ℓ) : Prop :=
  True

def Pre_FlashIdeal (m : (ℓ : Loc Cert.FlashIdeal.nD Cert.FlashIdeal.τ Cert.FlashIdeal.sig) → Buf (Elt Ideal) ℓ) : Prop :=
  True

def Pre_FlashIdeal_finite_flash [hPre_finite_flash : Cert.Pre_finite_flash.Facts] (m : (ℓ : Loc Cert.FlashIdeal.nD Cert.FlashIdeal.τ Cert.FlashIdeal.sig) → Buf (Elt Ideal) ℓ) : Prop :=
  ∀ c : Dev Cert.FlashIdeal.nD,
    (Cert.Pre_finite_flash.fn (F := Ideal) (m ((c.tc : Thread Cert.FlashIdeal.nD Cert.FlashIdeal.τ).loc Cert.FlashIdeal.main_arg0)) (m ((c.tc : Thread Cert.FlashIdeal.nD Cert.FlashIdeal.τ).loc Cert.FlashIdeal.main_arg1)) (m ((c.tc : Thread Cert.FlashIdeal.nD Cert.FlashIdeal.τ).loc Cert.FlashIdeal.main_arg2)) (m ((c.tc : Thread Cert.FlashIdeal.nD Cert.FlashIdeal.τ).loc Cert.FlashIdeal.main_arg3))) = (fun _ => 1#1)

def Pre_FlashRefIdeal (m : (ℓ : Loc Cert.FlashRefIdeal.nD Cert.FlashRefIdeal.τ Cert.FlashRefIdeal.sig) → Buf (Elt Ideal) ℓ) : Prop :=
  True

def Pre_FlashRefIdeal_finite_flash [hPre_finite_flash : Cert.Pre_finite_flash.Facts] (m : (ℓ : Loc Cert.FlashRefIdeal.nD Cert.FlashRefIdeal.τ Cert.FlashRefIdeal.sig) → Buf (Elt Ideal) ℓ) : Prop :=
  ∀ c : Dev Cert.FlashRefIdeal.nD,
    (Cert.Pre_finite_flash.fn (F := Ideal) (m ((c.tc : Thread Cert.FlashRefIdeal.nD Cert.FlashRefIdeal.τ).loc Cert.FlashRefIdeal.main_arg0)) (m ((c.tc : Thread Cert.FlashRefIdeal.nD Cert.FlashRefIdeal.τ).loc Cert.FlashRefIdeal.main_arg1)) (m ((c.tc : Thread Cert.FlashRefIdeal.nD Cert.FlashRefIdeal.τ).loc Cert.FlashRefIdeal.main_arg2)) (m ((c.tc : Thread Cert.FlashRefIdeal.nD Cert.FlashRefIdeal.τ).loc Cert.FlashRefIdeal.main_arg3))) = (fun _ => 1#1)

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedIdeal_finite_gated [hPre_finite_gated : Cert.Pre_finite_gated.Facts] (m : (ℓ : Loc Cert.GatedIdeal.nD Cert.GatedIdeal.τ Cert.GatedIdeal.sig) → Buf (Elt Ideal) ℓ) : Prop :=
  ∀ c : Dev Cert.GatedIdeal.nD,
    (Cert.Pre_finite_gated.fn (F := Ideal) (m ((c.tc : Thread Cert.GatedIdeal.nD Cert.GatedIdeal.τ).loc Cert.GatedIdeal.main_arg0)) (m ((c.tc : Thread Cert.GatedIdeal.nD Cert.GatedIdeal.τ).loc Cert.GatedIdeal.main_arg1)) (m ((c.tc : Thread Cert.GatedIdeal.nD Cert.GatedIdeal.τ).loc Cert.GatedIdeal.main_arg2)) (m ((c.tc : Thread Cert.GatedIdeal.nD Cert.GatedIdeal.τ).loc Cert.GatedIdeal.main_arg3))) = (fun _ => 1#1)

def Pre_GatedRefIdeal (m : (ℓ : Loc Cert.GatedRefIdeal.nD Cert.GatedRefIdeal.τ Cert.GatedRefIdeal.sig) → Buf (Elt Ideal) ℓ) : Prop :=
  True

def Pre_GatedRefIdeal_finite_gated [hPre_finite_gated : Cert.Pre_finite_gated.Facts] (m : (ℓ : Loc Cert.GatedRefIdeal.nD Cert.GatedRefIdeal.τ Cert.GatedRefIdeal.sig) → Buf (Elt Ideal) ℓ) : Prop :=
  ∀ c : Dev Cert.GatedRefIdeal.nD,
    (Cert.Pre_finite_gated.fn (F := Ideal) (m ((c.tc : Thread Cert.GatedRefIdeal.nD Cert.GatedRefIdeal.τ).loc Cert.GatedRefIdeal.main_arg0)) (m ((c.tc : Thread Cert.GatedRefIdeal.nD Cert.GatedRefIdeal.τ).loc Cert.GatedRefIdeal.main_arg1)) (m ((c.tc : Thread Cert.GatedRefIdeal.nD Cert.GatedRefIdeal.τ).loc Cert.GatedRefIdeal.main_arg2)) (m ((c.tc : Thread Cert.GatedRefIdeal.nD Cert.GatedRefIdeal.τ).loc Cert.GatedRefIdeal.main_arg3))) = (fun _ => 1#1)

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QProjIdeal_finite_q [hPre_finite_q : Cert.Pre_finite_q.Facts] (m : (ℓ : Loc Cert.QProjIdeal.nD Cert.QProjIdeal.τ Cert.QProjIdeal.sig) → Buf (Elt Ideal) ℓ) : Prop :=
  ∀ c : Dev Cert.QProjIdeal.nD,
    (Cert.Pre_finite_q.fn (F := Ideal) (m ((c.tc : Thread Cert.QProjIdeal.nD Cert.QProjIdeal.τ).loc Cert.QProjIdeal.main_arg0)) (m ((c.tc : Thread Cert.QProjIdeal.nD Cert.QProjIdeal.τ).loc Cert.QProjIdeal.main_arg1)) (m ((c.tc : Thread Cert.QProjIdeal.nD Cert.QProjIdeal.τ).loc Cert.QProjIdeal.main_arg2)) (m ((c.tc : Thread Cert.QProjIdeal.nD Cert.QProjIdeal.τ).loc Cert.QProjIdeal.main_arg3))) = (fun _ => 1#1)

def Pre_QProjRefIdeal (m : (ℓ : Loc Cert.QProjRefIdeal.nD Cert.QProjRefIdeal.τ Cert.QProjRefIdeal.sig) → Buf (Elt Ideal) ℓ) : Prop :=
  True

def Pre_QProjRefIdeal_finite_q [hPre_finite_q : Cert.Pre_finite_q.Facts] (m : (ℓ : Loc Cert.QProjRefIdeal.nD Cert.QProjRefIdeal.τ Cert.QProjRefIdeal.sig) → Buf (Elt Ideal) ℓ) : Prop :=
  ∀ c : Dev Cert.QProjRefIdeal.nD,
    (Cert.Pre_finite_q.fn (F := Ideal) (m ((c.tc : Thread Cert.QProjRefIdeal.nD Cert.QProjRefIdeal.τ).loc Cert.QProjRefIdeal.main_arg0)) (m ((c.tc : Thread Cert.QProjRefIdeal.nD Cert.QProjRefIdeal.τ).loc Cert.QProjRefIdeal.main_arg1)) (m ((c.tc : Thread Cert.QProjRefIdeal.nD Cert.QProjRefIdeal.τ).loc Cert.QProjRefIdeal.main_arg2)) (m ((c.tc : Thread Cert.QProjRefIdeal.nD Cert.QProjRefIdeal.τ).loc Cert.QProjRefIdeal.main_arg3))) = (fun _ => 1#1)

def Pre_KvProj (m : (ℓ : Loc Cert.KvProj.nD Cert.KvProj.τ Cert.KvProj.sig) → Buf (Elt Bits) ℓ) : Prop :=
  True

def Pre_KvProjIdeal (m : (ℓ : Loc Cert.KvProjIdeal.nD Cert.KvProjIdeal.τ Cert.KvProjIdeal.sig) → Buf (Elt Ideal) ℓ) : Prop :=
  True

def Pre_KvProjIdeal_finite_kv [hPre_finite_kv : Cert.Pre_finite_kv.Facts] (m : (ℓ : Loc Cert.KvProjIdeal.nD Cert.KvProjIdeal.τ Cert.KvProjIdeal.sig) → Buf (Elt Ideal) ℓ) : Prop :=
  ∀ c : Dev Cert.KvProjIdeal.nD,
    (Cert.Pre_finite_kv.fn (F := Ideal) (m ((c.tc : Thread Cert.KvProjIdeal.nD Cert.KvProjIdeal.τ).loc Cert.KvProjIdeal.main_arg0)) (m ((c.tc : Thread Cert.KvProjIdeal.nD Cert.KvProjIdeal.τ).loc Cert.KvProjIdeal.main_arg1)) (m ((c.tc : Thread Cert.KvProjIdeal.nD Cert.KvProjIdeal.τ).loc Cert.KvProjIdeal.main_arg2)) (m ((c.tc : Thread Cert.KvProjIdeal.nD Cert.KvProjIdeal.τ).loc Cert.KvProjIdeal.main_arg3)) (m ((c.tc : Thread Cert.KvProjIdeal.nD Cert.KvProjIdeal.τ).loc Cert.KvProjIdeal.main_arg4)) (m ((c.tc : Thread Cert.KvProjIdeal.nD Cert.KvProjIdeal.τ).loc Cert.KvProjIdeal.main_arg5))) = (fun _ => 1#1)

def Pre_KvProjRefIdeal (m : (ℓ : Loc Cert.KvProjRefIdeal.nD Cert.KvProjRefIdeal.τ Cert.KvProjRefIdeal.sig) → Buf (Elt Ideal) ℓ) : Prop :=
  True

def Pre_KvProjRefIdeal_finite_kv [hPre_finite_kv : Cert.Pre_finite_kv.Facts] (m : (ℓ : Loc Cert.KvProjRefIdeal.nD Cert.KvProjRefIdeal.τ Cert.KvProjRefIdeal.sig) → Buf (Elt Ideal) ℓ) : Prop :=
  ∀ c : Dev Cert.KvProjRefIdeal.nD,
    (Cert.Pre_finite_kv.fn (F := Ideal) (m ((c.tc : Thread Cert.KvProjRefIdeal.nD Cert.KvProjRefIdeal.τ).loc Cert.KvProjRefIdeal.main_arg0)) (m ((c.tc : Thread Cert.KvProjRefIdeal.nD Cert.KvProjRefIdeal.τ).loc Cert.KvProjRefIdeal.main_arg1)) (m ((c.tc : Thread Cert.KvProjRefIdeal.nD Cert.KvProjRefIdeal.τ).loc Cert.KvProjRefIdeal.main_arg2)) (m ((c.tc : Thread Cert.KvProjRefIdeal.nD Cert.KvProjRefIdeal.τ).loc Cert.KvProjRefIdeal.main_arg3)) (m ((c.tc : Thread Cert.KvProjRefIdeal.nD Cert.KvProjRefIdeal.τ).loc Cert.KvProjRefIdeal.main_arg4)) (m ((c.tc : Thread Cert.KvProjRefIdeal.nD Cert.KvProjRefIdeal.τ).loc Cert.KvProjRefIdeal.main_arg5))) = (fun _ => 1#1)

def Pre_AIn (m : (ℓ : Loc Cert.AIn.nD Cert.AIn.τ Cert.AIn.sig) → Buf (Elt Bits) ℓ) : Prop :=
  True

def Pre_AInIdeal (m : (ℓ : Loc Cert.AInIdeal.nD Cert.AInIdeal.τ Cert.AInIdeal.sig) → Buf (Elt Ideal) ℓ) : Prop :=
  True

def Pre_AInIdeal_finite_a_in [hPre_finite_a_in : Cert.Pre_finite_a_in.Facts] (m : (ℓ : Loc Cert.AInIdeal.nD Cert.AInIdeal.τ Cert.AInIdeal.sig) → Buf (Elt Ideal) ℓ) : Prop :=
  ∀ c : Dev Cert.AInIdeal.nD,
    (Cert.Pre_finite_a_in.fn (F := Ideal) (m ((c.tc : Thread Cert.AInIdeal.nD Cert.AInIdeal.τ).loc Cert.AInIdeal.main_arg0)) (m ((c.tc : Thread Cert.AInIdeal.nD Cert.AInIdeal.τ).loc Cert.AInIdeal.main_arg1)) (m ((c.tc : Thread Cert.AInIdeal.nD Cert.AInIdeal.τ).loc Cert.AInIdeal.main_arg2)) (m ((c.tc : Thread Cert.AInIdeal.nD Cert.AInIdeal.τ).loc Cert.AInIdeal.main_arg3)) (m ((c.tc : Thread Cert.AInIdeal.nD Cert.AInIdeal.τ).loc Cert.AInIdeal.main_arg4)) (m ((c.tc : Thread Cert.AInIdeal.nD Cert.AInIdeal.τ).loc Cert.AInIdeal.main_arg5)) (m ((c.tc : Thread Cert.AInIdeal.nD Cert.AInIdeal.τ).loc Cert.AInIdeal.main_arg6)) (m ((c.tc : Thread Cert.AInIdeal.nD Cert.AInIdeal.τ).loc Cert.AInIdeal.main_arg7))) = (fun _ => 1#1)

def Pre_AInRefIdeal (m : (ℓ : Loc Cert.AInRefIdeal.nD Cert.AInRefIdeal.τ Cert.AInRefIdeal.sig) → Buf (Elt Ideal) ℓ) : Prop :=
  True

def Pre_AInRefIdeal_finite_a_in [hPre_finite_a_in : Cert.Pre_finite_a_in.Facts] (m : (ℓ : Loc Cert.AInRefIdeal.nD Cert.AInRefIdeal.τ Cert.AInRefIdeal.sig) → Buf (Elt Ideal) ℓ) : Prop :=
  ∀ c : Dev Cert.AInRefIdeal.nD,
    (Cert.Pre_finite_a_in.fn (F := Ideal) (m ((c.tc : Thread Cert.AInRefIdeal.nD Cert.AInRefIdeal.τ).loc Cert.AInRefIdeal.main_arg0)) (m ((c.tc : Thread Cert.AInRefIdeal.nD Cert.AInRefIdeal.τ).loc Cert.AInRefIdeal.main_arg1)) (m ((c.tc : Thread Cert.AInRefIdeal.nD Cert.AInRefIdeal.τ).loc Cert.AInRefIdeal.main_arg2)) (m ((c.tc : Thread Cert.AInRefIdeal.nD Cert.AInRefIdeal.τ).loc Cert.AInRefIdeal.main_arg3)) (m ((c.tc : Thread Cert.AInRefIdeal.nD Cert.AInRefIdeal.τ).loc Cert.AInRefIdeal.main_arg4)) (m ((c.tc : Thread Cert.AInRefIdeal.nD Cert.AInRefIdeal.τ).loc Cert.AInRefIdeal.main_arg5)) (m ((c.tc : Thread Cert.AInRefIdeal.nD Cert.AInRefIdeal.τ).loc Cert.AInRefIdeal.main_arg6)) (m ((c.tc : Thread Cert.AInRefIdeal.nD Cert.AInRefIdeal.τ).loc Cert.AInRefIdeal.main_arg7))) = (fun _ => 1#1)

def Pre_OutLoss (m : (ℓ : Loc Cert.OutLoss.nD Cert.OutLoss.τ Cert.OutLoss.sig) → Buf (Elt Bits) ℓ) : Prop :=
  True

def Pre_OutLossIdeal (m : (ℓ : Loc Cert.OutLossIdeal.nD Cert.OutLossIdeal.τ Cert.OutLossIdeal.sig) → Buf (Elt Ideal) ℓ) : Prop :=
  True

def Pre_OutLossIdeal_finite_out_loss [hPre_finite_out_loss : Cert.Pre_finite_out_loss.Facts] (m : (ℓ : Loc Cert.OutLossIdeal.nD Cert.OutLossIdeal.τ Cert.OutLossIdeal.sig) → Buf (Elt Ideal) ℓ) : Prop :=
  ∀ c : Dev Cert.OutLossIdeal.nD,
    (Cert.Pre_finite_out_loss.fn (F := Ideal) (m ((c.tc : Thread Cert.OutLossIdeal.nD Cert.OutLossIdeal.τ).loc Cert.OutLossIdeal.main_arg0)) (m ((c.tc : Thread Cert.OutLossIdeal.nD Cert.OutLossIdeal.τ).loc Cert.OutLossIdeal.main_arg1)) (m ((c.tc : Thread Cert.OutLossIdeal.nD Cert.OutLossIdeal.τ).loc Cert.OutLossIdeal.main_arg2)) (m ((c.tc : Thread Cert.OutLossIdeal.nD Cert.OutLossIdeal.τ).loc Cert.OutLossIdeal.main_arg3)) (m ((c.tc : Thread Cert.OutLossIdeal.nD Cert.OutLossIdeal.τ).loc Cert.OutLossIdeal.main_arg4)) (m ((c.tc : Thread Cert.OutLossIdeal.nD Cert.OutLossIdeal.τ).loc Cert.OutLossIdeal.main_arg5))) = (fun _ => 1#1)

def Pre_OutLossRefIdeal (m : (ℓ : Loc Cert.OutLossRefIdeal.nD Cert.OutLossRefIdeal.τ Cert.OutLossRefIdeal.sig) → Buf (Elt Ideal) ℓ) : Prop :=
  True

def Pre_OutLossRefIdeal_finite_out_loss [hPre_finite_out_loss : Cert.Pre_finite_out_loss.Facts] (m : (ℓ : Loc Cert.OutLossRefIdeal.nD Cert.OutLossRefIdeal.τ Cert.OutLossRefIdeal.sig) → Buf (Elt Ideal) ℓ) : Prop :=
  ∀ c : Dev Cert.OutLossRefIdeal.nD,
    (Cert.Pre_finite_out_loss.fn (F := Ideal) (m ((c.tc : Thread Cert.OutLossRefIdeal.nD Cert.OutLossRefIdeal.τ).loc Cert.OutLossRefIdeal.main_arg0)) (m ((c.tc : Thread Cert.OutLossRefIdeal.nD Cert.OutLossRefIdeal.τ).loc Cert.OutLossRefIdeal.main_arg1)) (m ((c.tc : Thread Cert.OutLossRefIdeal.nD Cert.OutLossRefIdeal.τ).loc Cert.OutLossRefIdeal.main_arg2)) (m ((c.tc : Thread Cert.OutLossRefIdeal.nD Cert.OutLossRefIdeal.τ).loc Cert.OutLossRefIdeal.main_arg3)) (m ((c.tc : Thread Cert.OutLossRefIdeal.nD Cert.OutLossRefIdeal.τ).loc Cert.OutLossRefIdeal.main_arg4)) (m ((c.tc : Thread Cert.OutLossRefIdeal.nD Cert.OutLossRefIdeal.τ).loc Cert.OutLossRefIdeal.main_arg5))) = (fun _ => 1#1)

def Pre_OutIn (m : (ℓ : Loc Cert.OutIn.nD Cert.OutIn.τ Cert.OutIn.sig) → Buf (Elt Bits) ℓ) : Prop :=
  True

def Pre_OutInIdeal (m : (ℓ : Loc Cert.OutInIdeal.nD Cert.OutInIdeal.τ Cert.OutInIdeal.sig) → Buf (Elt Ideal) ℓ) : Prop :=
  True

def Pre_OutInRefIdeal (m : (ℓ : Loc Cert.OutInRefIdeal.nD Cert.OutInRefIdeal.τ Cert.OutInRefIdeal.sig) → Buf (Elt Ideal) ℓ) : Prop :=
  True

def Pre_QFwd (m : (ℓ : Loc Cert.QFwd.nD Cert.QFwd.τ Cert.QFwd.sig) → Buf (Elt Bits) ℓ) : Prop :=
  True

def Pre_QFwdIdeal (m : (ℓ : Loc Cert.QFwdIdeal.nD Cert.QFwdIdeal.τ Cert.QFwdIdeal.sig) → Buf (Elt Ideal) ℓ) : Prop :=
  True

def Pre_QFwdRefIdeal (m : (ℓ : Loc Cert.QFwdRefIdeal.nD Cert.QFwdRefIdeal.τ Cert.QFwdRefIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def quiescent_BIn [hBIn : Cert.BIn.Facts] : Prop :=
  ∀ (m : (ℓ : Loc Cert.BIn.nD Cert.BIn.τ Cert.BIn.sig) → Buf (Elt Bits) ℓ) (g : Dev Cert.BIn.nD → PrngReg), Pre_BIn m →
    θ_run (Cert.BIn.defs (F := Bits)) (onTc (τ := Cert.BIn.τ) (Cert.BIn.main (F := Bits))) ⟨m, fun _ => 0, g⟩ (fun r => (∀ c : Dev Cert.BIn.nD,
      r.2.mem ((c.tc : Thread Cert.BIn.nD Cert.BIn.τ).loc Cert.BIn.main_arg0) = m ((c.tc : Thread Cert.BIn.nD Cert.BIn.τ).loc Cert.BIn.main_arg0)
      ∧ r.2.mem ((c.tc : Thread Cert.BIn.nD Cert.BIn.τ).loc Cert.BIn.main_arg1) = m ((c.tc : Thread Cert.BIn.nD Cert.BIn.τ).loc Cert.BIn.main_arg1)
      ∧ r.2.mem ((c.tc : Thread Cert.BIn.nD Cert.BIn.τ).loc Cert.BIn.main_arg2) = m ((c.tc : Thread Cert.BIn.nD Cert.BIn.τ).loc Cert.BIn.main_arg2)
      ∧ r.2.mem ((c.tc : Thread Cert.BIn.nD Cert.BIn.τ).loc Cert.BIn.main_arg3) = m ((c.tc : Thread Cert.BIn.nD Cert.BIn.τ).loc Cert.BIn.main_arg3)
      ∧ r.2.mem ((c.tc : Thread Cert.BIn.nD Cert.BIn.τ).loc Cert.BIn.main_arg4) = m ((c.tc : Thread Cert.BIn.nD Cert.BIn.τ).loc Cert.BIn.main_arg4)
      ∧ r.2.mem ((c.tc : Thread Cert.BIn.nD Cert.BIn.τ).loc Cert.BIn.main_arg5) = m ((c.tc : Thread Cert.BIn.nD Cert.BIn.τ).loc Cert.BIn.main_arg5))
      ∧ r.2.sem = fun _ => 0)

def quiescent_BInIdeal [hBInIdeal : Cert.BInIdeal.Facts] : Prop :=
  ∀ (m : (ℓ : Loc Cert.BInIdeal.nD Cert.BInIdeal.τ Cert.BInIdeal.sig) → Buf (Elt Ideal) ℓ) (g : Dev Cert.BInIdeal.nD → PrngReg), Pre_BInIdeal m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
      ∧ r.2.mem ((c.tc : Thread Cert.BInIdeal.nD Cert.BInIdeal.τ).loc Cert.BInIdeal.main_arg3) = m ((c.tc : Thread Cert.BInIdeal.nD Cert.BInIdeal.τ).loc Cert.BInIdeal.main_arg3)
      ∧ r.2.mem ((c.tc : Thread Cert.BInIdeal.nD Cert.BInIdeal.τ).loc Cert.BInIdeal.main_arg4) = m ((c.tc : Thread Cert.BInIdeal.nD Cert.BInIdeal.τ).loc Cert.BInIdeal.main_arg4)
      ∧ r.2.mem ((c.tc : Thread Cert.BInIdeal.nD Cert.BInIdeal.τ).loc Cert.BInIdeal.main_arg5) = m ((c.tc : Thread Cert.BInIdeal.nD Cert.BInIdeal.τ).loc Cert.BInIdeal.main_arg5))
      ∧ r.2.sem = fun _ => 0)

def quiescent_BInIdeal_pre_finite_args [hBInIdeal : Cert.BInIdeal.Facts] [hPre_finite_args : Cert.Pre_finite_args.Facts] : Prop :=
  ∀ (m : (ℓ : Loc Cert.BInIdeal.nD Cert.BInIdeal.τ Cert.BInIdeal.sig) → Buf (Elt Ideal) ℓ) (g : Dev Cert.BInIdeal.nD → PrngReg), Pre_BInIdeal_finite_args m →
    θ_run (Cert.BInIdeal.defs (F := Ideal)) (onTc (τ := Cert.BInIdeal.τ) (Cert.BInIdeal.main (F := Ideal))) ⟨m, fun _ => 0, g⟩ (fun r => (∀ c : Dev Cert.BInIdeal.nD,
      r.2.mem ((c.tc : Thread Cert.BInIdeal.nD Cert.BInIdeal.τ).loc Cert.BInIdeal.main_arg0) = m ((c.tc : Thread Cert.BInIdeal.nD Cert.BInIdeal.τ).loc Cert.BInIdeal.main_arg0)
      ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
      ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
      ∧ r.2.mem ((c.tc : Thread Cert.BInIdeal.nD Cert.BInIdeal.τ).loc Cert.BInIdeal.main_arg3) = m ((c.tc : Thread Cert.BInIdeal.nD Cert.BInIdeal.τ).loc Cert.BInIdeal.main_arg3)
      ∧ r.2.mem ((c.tc : Thread Cert.BInIdeal.nD Cert.BInIdeal.τ).loc Cert.BInIdeal.main_arg4) = m ((c.tc : Thread Cert.BInIdeal.nD Cert.BInIdeal.τ).loc Cert.BInIdeal.main_arg4)
      ∧ r.2.mem ((c.tc : Thread Cert.BInIdeal.nD Cert.BInIdeal.τ).loc Cert.BInIdeal.main_arg5) = m ((c.tc : Thread Cert.BInIdeal.nD Cert.BInIdeal.τ).loc Cert.BInIdeal.main_arg5))
      ∧ r.2.sem = fun _ => 0)

def quiescent_BInRefIdeal [hBInRefIdeal : Cert.BInRefIdeal.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2)
      ∧ r.2.mem ((c.tc : Thread Cert.BInRefIdeal.nD Cert.BInRefIdeal.τ).loc Cert.BInRefIdeal.main_arg3) = m ((c.tc : Thread Cert.BInRefIdeal.nD Cert.BInRefIdeal.τ).loc Cert.BInRefIdeal.main_arg3)
      ∧ r.2.mem ((c.tc : Thread Cert.BInRefIdeal.nD Cert.BInRefIdeal.τ).loc Cert.BInRefIdeal.main_arg4) = m ((c.tc : Thread Cert.BInRefIdeal.nD Cert.BInRefIdeal.τ).loc Cert.BInRefIdeal.main_arg4)
      ∧ r.2.mem ((c.tc : Thread Cert.BInRefIdeal.nD Cert.BInRefIdeal.τ).loc Cert.BInRefIdeal.main_arg5) = m ((c.tc : Thread Cert.BInRefIdeal.nD Cert.BInRefIdeal.τ).loc Cert.BInRefIdeal.main_arg5))
      ∧ r.2.sem = fun _ => 0)

def quiescent_BInRefIdeal_pre_finite_args [hBInRefIdeal : Cert.BInRefIdeal.Facts] [hPre_finite_args : Cert.Pre_finite_args.Facts] : Prop :=
  ∀ (m : (ℓ : Loc Cert.BInRefIdeal.nD Cert.BInRefIdeal.τ Cert.BInRefIdeal.sig) → Buf (Elt Ideal) ℓ) (g : Dev Cert.BInRefIdeal.nD → PrngReg), Pre_BInRefIdeal_finite_args m →
    θ_run (Cert.BInRefIdeal.defs (F := Ideal)) (onTc (τ := Cert.BInRefIdeal.τ) (Cert.BInRefIdeal.main (F := Ideal))) ⟨m, fun _ => 0, g⟩ (fun r => (∀ c : Dev Cert.BInRefIdeal.nD,
      r.2.mem ((c.tc : Thread Cert.BInRefIdeal.nD Cert.BInRefIdeal.τ).loc Cert.BInRefIdeal.main_arg0) = m ((c.tc : Thread Cert.BInRefIdeal.nD Cert.BInRefIdeal.τ).loc Cert.BInRefIdeal.main_arg0)
      ∧ r.2.mem ((c.tc : Thread Cert.BInRefIdeal.nD Cert.BInRefIdeal.τ).loc Cert.BInRefIdeal.main_arg1) = m ((c.tc : Thread Cert.BInRefIdeal.nD Cert.BInRefIdeal.τ).loc Cert.BInRefIdeal.main_arg1)
      ∧ r.2.mem ((c.tc : Thread Cert.BInRefIdeal.nD Cert.BInRefIdeal.τ).loc Cert.BInRefIdeal.main_arg2) = m ((c.tc : Thread Cert.BInRefIdeal.nD Cert.BInRefIdeal.τ).loc Cert.BInRefIdeal.main_arg2)
      ∧ r.2.mem ((c.tc : Thread Cert.BInRefIdeal.nD Cert.BInRefIdeal.τ).loc Cert.BInRefIdeal.main_arg3) = m ((c.tc : Thread Cert.BInRefIdeal.nD Cert.BInRefIdeal.τ).loc Cert.BInRefIdeal.main_arg3)
      ∧ r.2.mem ((c.tc : Thread Cert.BInRefIdeal.nD Cert.BInRefIdeal.τ).loc Cert.BInRefIdeal.main_arg4) = m ((c.tc : Thread Cert.BInRefIdeal.nD Cert.BInRefIdeal.τ).loc Cert.BInRefIdeal.main_arg4)
      ∧ r.2.mem ((c.tc : Thread Cert.BInRefIdeal.nD Cert.BInRefIdeal.τ).loc Cert.BInRefIdeal.main_arg5) = m ((c.tc : Thread Cert.BInRefIdeal.nD Cert.BInRefIdeal.τ).loc Cert.BInRefIdeal.main_arg5))
      ∧ r.2.sem = fun _ => 0)

def quiescent_Flash [hFlash : Cert.Flash.Facts] : Prop :=
  ∀ (m : (ℓ : Loc Cert.Flash.nD Cert.Flash.τ Cert.Flash.sig) → Buf (Elt Bits) ℓ) (g : Dev Cert.Flash.nD → PrngReg), Pre_Flash m →
    θ_run (Cert.Flash.defs (F := Bits)) (onTc (τ := Cert.Flash.τ) (Cert.Flash.main (F := Bits))) ⟨m, fun _ => 0, g⟩ (fun r => (∀ c : Dev Cert.Flash.nD,
      r.2.mem ((c.tc : Thread Cert.Flash.nD Cert.Flash.τ).loc Cert.Flash.main_arg0) = m ((c.tc : Thread Cert.Flash.nD Cert.Flash.τ).loc Cert.Flash.main_arg0)
      ∧ r.2.mem ((c.tc : Thread Cert.Flash.nD Cert.Flash.τ).loc Cert.Flash.main_arg1) = m ((c.tc : Thread Cert.Flash.nD Cert.Flash.τ).loc Cert.Flash.main_arg1)
      ∧ r.2.mem ((c.tc : Thread Cert.Flash.nD Cert.Flash.τ).loc Cert.Flash.main_arg2) = m ((c.tc : Thread Cert.Flash.nD Cert.Flash.τ).loc Cert.Flash.main_arg2)
      ∧ r.2.mem ((c.tc : Thread Cert.Flash.nD Cert.Flash.τ).loc Cert.Flash.main_arg3) = m ((c.tc : Thread Cert.Flash.nD Cert.Flash.τ).loc Cert.Flash.main_arg3))
      ∧ r.2.sem = fun _ => 0)

def quiescent_FlashIdeal [hFlashIdeal : Cert.FlashIdeal.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashIdeal_pre_finite_flash [hFlashIdeal : Cert.FlashIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg), Pre_FlashIdeal_finite_flash m →
    θ_run (Cert.FlashIdeal.defs (F := Ideal)) (onTc (τ := Cert.FlashIdeal.τ) (Cert.FlashIdeal.main (F := Ideal))) ⟨m, fun _ => 0, g⟩ (fun r => (∀ c : Dev Cert.FlashIdeal.nD,
      r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
      ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
      ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
      ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ r.2.sem = fun _ => 0)

def quiescent_FlashRefIdeal [hFlashRefIdeal : Cert.FlashRefIdeal.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_FlashRefIdeal_pre_finite_flash [hFlashRefIdeal : Cert.FlashRefIdeal.Facts] [hPre_finite_flash : Cert.Pre_finite_flash.Facts] : Prop :=
  ∀ (m : (ℓ : Loc Cert.FlashRefIdeal.nD Cert.FlashRefIdeal.τ Cert.FlashRefIdeal.sig) → Buf (Elt Ideal) ℓ) (g : Dev Cert.FlashRefIdeal.nD → PrngReg), Pre_FlashRefIdeal_finite_flash m →
    θ_run (Cert.FlashRefIdeal.defs (F := Ideal)) (onTc (τ := Cert.FlashRefIdeal.τ) (Cert.FlashRefIdeal.main (F := Ideal))) ⟨m, fun _ => 0, g⟩ (fun r => (∀ c : Dev Cert.FlashRefIdeal.nD,
      r.2.mem ((c.tc : Thread Cert.FlashRefIdeal.nD Cert.FlashRefIdeal.τ).loc Cert.FlashRefIdeal.main_arg0) = m ((c.tc : Thread Cert.FlashRefIdeal.nD Cert.FlashRefIdeal.τ).loc Cert.FlashRefIdeal.main_arg0)
      ∧ r.2.mem ((c.tc : Thread Cert.FlashRefIdeal.nD Cert.FlashRefIdeal.τ).loc Cert.FlashRefIdeal.main_arg1) = m ((c.tc : Thread Cert.FlashRefIdeal.nD Cert.FlashRefIdeal.τ).loc Cert.FlashRefIdeal.main_arg1)
      ∧ r.2.mem ((c.tc : Thread Cert.FlashRefIdeal.nD Cert.FlashRefIdeal.τ).loc Cert.FlashRefIdeal.main_arg2) = m ((c.tc : Thread Cert.FlashRefIdeal.nD Cert.FlashRefIdeal.τ).loc Cert.FlashRefIdeal.main_arg2)
      ∧ r.2.mem ((c.tc : Thread Cert.FlashRefIdeal.nD Cert.FlashRefIdeal.τ).loc Cert.FlashRefIdeal.main_arg3) = m ((c.tc : Thread Cert.FlashRefIdeal.nD Cert.FlashRefIdeal.τ).loc Cert.FlashRefIdeal.main_arg3))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2)
      ∧ r.2.mem ((c.tc : Thread Cert.Gated.nD Cert.Gated.τ).loc Cert.Gated.main_arg3) = m ((c.tc : Thread Cert.Gated.nD Cert.Gated.τ).loc Cert.Gated.main_arg3))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedIdeal_pre_finite_gated [hGatedIdeal : Cert.GatedIdeal.Facts] [hPre_finite_gated : Cert.Pre_finite_gated.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal_finite_gated m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
      ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_GatedRefIdeal_pre_finite_gated [hGatedRefIdeal : Cert.GatedRefIdeal.Facts] [hPre_finite_gated : Cert.Pre_finite_gated.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal_finite_gated m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2)
      ∧ r.2.mem ((c.tc : Thread Cert.GatedRefIdeal.nD Cert.GatedRefIdeal.τ).loc Cert.GatedRefIdeal.main_arg3) = m ((c.tc : Thread Cert.GatedRefIdeal.nD Cert.GatedRefIdeal.τ).loc Cert.GatedRefIdeal.main_arg3))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2)
      ∧ r.2.mem ((c.tc : Thread Cert.QProj.nD Cert.QProj.τ).loc Cert.QProj.main_arg3) = m ((c.tc : Thread Cert.QProj.nD Cert.QProj.τ).loc Cert.QProj.main_arg3))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjIdeal_pre_finite_q [hQProjIdeal : Cert.QProjIdeal.Facts] [hPre_finite_q : Cert.Pre_finite_q.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal_finite_q m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
      ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ r.2.sem = fun _ => 0)

def quiescent_QProjRefIdeal [hQProjRefIdeal : Cert.QProjRefIdeal.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_QProjRefIdeal_pre_finite_q [hQProjRefIdeal : Cert.QProjRefIdeal.Facts] [hPre_finite_q : Cert.Pre_finite_q.Facts] : Prop :=
  ∀ (m : (ℓ : Loc Cert.QProjRefIdeal.nD Cert.QProjRefIdeal.τ Cert.QProjRefIdeal.sig) → Buf (Elt Ideal) ℓ) (g : Dev Cert.QProjRefIdeal.nD → PrngReg), Pre_QProjRefIdeal_finite_q m →
    θ_run (Cert.QProjRefIdeal.defs (F := Ideal)) (onTc (τ := Cert.QProjRefIdeal.τ) (Cert.QProjRefIdeal.main (F := Ideal))) ⟨m, fun _ => 0, g⟩ (fun r => (∀ c : Dev Cert.QProjRefIdeal.nD,
      r.2.mem ((c.tc : Thread Cert.QProjRefIdeal.nD Cert.QProjRefIdeal.τ).loc Cert.QProjRefIdeal.main_arg0) = m ((c.tc : Thread Cert.QProjRefIdeal.nD Cert.QProjRefIdeal.τ).loc Cert.QProjRefIdeal.main_arg0)
      ∧ r.2.mem ((c.tc : Thread Cert.QProjRefIdeal.nD Cert.QProjRefIdeal.τ).loc Cert.QProjRefIdeal.main_arg1) = m ((c.tc : Thread Cert.QProjRefIdeal.nD Cert.QProjRefIdeal.τ).loc Cert.QProjRefIdeal.main_arg1)
      ∧ r.2.mem ((c.tc : Thread Cert.QProjRefIdeal.nD Cert.QProjRefIdeal.τ).loc Cert.QProjRefIdeal.main_arg2) = m ((c.tc : Thread Cert.QProjRefIdeal.nD Cert.QProjRefIdeal.τ).loc Cert.QProjRefIdeal.main_arg2)
      ∧ r.2.mem ((c.tc : Thread Cert.QProjRefIdeal.nD Cert.QProjRefIdeal.τ).loc Cert.QProjRefIdeal.main_arg3) = m ((c.tc : Thread Cert.QProjRefIdeal.nD Cert.QProjRefIdeal.τ).loc Cert.QProjRefIdeal.main_arg3))
      ∧ r.2.sem = fun _ => 0)

def quiescent_KvProj [hKvProj : Cert.KvProj.Facts] : Prop :=
  ∀ (m : (ℓ : Loc Cert.KvProj.nD Cert.KvProj.τ Cert.KvProj.sig) → Buf (Elt Bits) ℓ) (g : Dev Cert.KvProj.nD → PrngReg), Pre_KvProj m →
    θ_run (Cert.KvProj.defs (F := Bits)) (onTc (τ := Cert.KvProj.τ) (Cert.KvProj.main (F := Bits))) ⟨m, fun _ => 0, g⟩ (fun r => (∀ c : Dev Cert.KvProj.nD,
      r.2.mem ((c.tc : Thread Cert.KvProj.nD Cert.KvProj.τ).loc Cert.KvProj.main_arg0) = m ((c.tc : Thread Cert.KvProj.nD Cert.KvProj.τ).loc Cert.KvProj.main_arg0)
      ∧ r.2.mem ((c.tc : Thread Cert.KvProj.nD Cert.KvProj.τ).loc Cert.KvProj.main_arg1) = m ((c.tc : Thread Cert.KvProj.nD Cert.KvProj.τ).loc Cert.KvProj.main_arg1)
      ∧ r.2.mem ((c.tc : Thread Cert.KvProj.nD Cert.KvProj.τ).loc Cert.KvProj.main_arg2) = m ((c.tc : Thread Cert.KvProj.nD Cert.KvProj.τ).loc Cert.KvProj.main_arg2)
      ∧ r.2.mem ((c.tc : Thread Cert.KvProj.nD Cert.KvProj.τ).loc Cert.KvProj.main_arg3) = m ((c.tc : Thread Cert.KvProj.nD Cert.KvProj.τ).loc Cert.KvProj.main_arg3)
      ∧ r.2.mem ((c.tc : Thread Cert.KvProj.nD Cert.KvProj.τ).loc Cert.KvProj.main_arg4) = m ((c.tc : Thread Cert.KvProj.nD Cert.KvProj.τ).loc Cert.KvProj.main_arg4)
      ∧ r.2.mem ((c.tc : Thread Cert.KvProj.nD Cert.KvProj.τ).loc Cert.KvProj.main_arg5) = m ((c.tc : Thread Cert.KvProj.nD Cert.KvProj.τ).loc Cert.KvProj.main_arg5))
      ∧ r.2.sem = fun _ => 0)

def quiescent_KvProjIdeal [hKvProjIdeal : Cert.KvProjIdeal.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
      ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
      ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ r.2.sem = fun _ => 0)

def quiescent_KvProjIdeal_pre_finite_kv [hKvProjIdeal : Cert.KvProjIdeal.Facts] [hPre_finite_kv : Cert.Pre_finite_kv.Facts] : Prop :=
  ∀ (m : (ℓ : Loc Cert.KvProjIdeal.nD Cert.KvProjIdeal.τ Cert.KvProjIdeal.sig) → Buf (Elt Ideal) ℓ) (g : Dev Cert.KvProjIdeal.nD → PrngReg), Pre_KvProjIdeal_finite_kv m →
    θ_run (Cert.KvProjIdeal.defs (F := Ideal)) (onTc (τ := Cert.KvProjIdeal.τ) (Cert.KvProjIdeal.main (F := Ideal))) ⟨m, fun _ => 0, g⟩ (fun r => (∀ c : Dev Cert.KvProjIdeal.nD,
      r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
      ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
      ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
      ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
      ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
      ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ r.2.sem = fun _ => 0)

def quiescent_KvProjRefIdeal [hKvProjRefIdeal : Cert.KvProjRefIdeal.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3)
      ∧ r.2.mem ((c.tc : Thread Cert.KvProjRefIdeal.nD Cert.KvProjRefIdeal.τ).loc Cert.KvProjRefIdeal.main_arg4) = m ((c.tc : Thread Cert.KvProjRefIdeal.nD Cert.KvProjRefIdeal.τ).loc Cert.KvProjRefIdeal.main_arg4)
      ∧ r.2.mem ((c.tc : Thread Cert.KvProjRefIdeal.nD Cert.KvProjRefIdeal.τ).loc Cert.KvProjRefIdeal.main_arg5) = m ((c.tc : Thread Cert.KvProjRefIdeal.nD Cert.KvProjRefIdeal.τ).loc Cert.KvProjRefIdeal.main_arg5))
      ∧ r.2.sem = fun _ => 0)

def quiescent_KvProjRefIdeal_pre_finite_kv [hKvProjRefIdeal : Cert.KvProjRefIdeal.Facts] [hPre_finite_kv : Cert.Pre_finite_kv.Facts] : Prop :=
  ∀ (m : (ℓ : Loc Cert.KvProjRefIdeal.nD Cert.KvProjRefIdeal.τ Cert.KvProjRefIdeal.sig) → Buf (Elt Ideal) ℓ) (g : Dev Cert.KvProjRefIdeal.nD → PrngReg), Pre_KvProjRefIdeal_finite_kv m →
    θ_run (Cert.KvProjRefIdeal.defs (F := Ideal)) (onTc (τ := Cert.KvProjRefIdeal.τ) (Cert.KvProjRefIdeal.main (F := Ideal))) ⟨m, fun _ => 0, g⟩ (fun r => (∀ c : Dev Cert.KvProjRefIdeal.nD,
      r.2.mem ((c.tc : Thread Cert.KvProjRefIdeal.nD Cert.KvProjRefIdeal.τ).loc Cert.KvProjRefIdeal.main_arg0) = m ((c.tc : Thread Cert.KvProjRefIdeal.nD Cert.KvProjRefIdeal.τ).loc Cert.KvProjRefIdeal.main_arg0)
      ∧ r.2.mem ((c.tc : Thread Cert.KvProjRefIdeal.nD Cert.KvProjRefIdeal.τ).loc Cert.KvProjRefIdeal.main_arg1) = m ((c.tc : Thread Cert.KvProjRefIdeal.nD Cert.KvProjRefIdeal.τ).loc Cert.KvProjRefIdeal.main_arg1)
      ∧ r.2.mem ((c.tc : Thread Cert.KvProjRefIdeal.nD Cert.KvProjRefIdeal.τ).loc Cert.KvProjRefIdeal.main_arg2) = m ((c.tc : Thread Cert.KvProjRefIdeal.nD Cert.KvProjRefIdeal.τ).loc Cert.KvProjRefIdeal.main_arg2)
      ∧ r.2.mem ((c.tc : Thread Cert.KvProjRefIdeal.nD Cert.KvProjRefIdeal.τ).loc Cert.KvProjRefIdeal.main_arg3) = m ((c.tc : Thread Cert.KvProjRefIdeal.nD Cert.KvProjRefIdeal.τ).loc Cert.KvProjRefIdeal.main_arg3)
      ∧ r.2.mem ((c.tc : Thread Cert.KvProjRefIdeal.nD Cert.KvProjRefIdeal.τ).loc Cert.KvProjRefIdeal.main_arg4) = m ((c.tc : Thread Cert.KvProjRefIdeal.nD Cert.KvProjRefIdeal.τ).loc Cert.KvProjRefIdeal.main_arg4)
      ∧ r.2.mem ((c.tc : Thread Cert.KvProjRefIdeal.nD Cert.KvProjRefIdeal.τ).loc Cert.KvProjRefIdeal.main_arg5) = m ((c.tc : Thread Cert.KvProjRefIdeal.nD Cert.KvProjRefIdeal.τ).loc Cert.KvProjRefIdeal.main_arg5))
      ∧ r.2.sem = fun _ => 0)

def quiescent_AIn [hAIn : Cert.AIn.Facts] : Prop :=
  ∀ (m : (ℓ : Loc Cert.AIn.nD Cert.AIn.τ Cert.AIn.sig) → Buf (Elt Bits) ℓ) (g : Dev Cert.AIn.nD → PrngReg), Pre_AIn m →
    θ_run (Cert.AIn.defs (F := Bits)) (onTc (τ := Cert.AIn.τ) (Cert.AIn.main (F := Bits))) ⟨m, fun _ => 0, g⟩ (fun r => (∀ c : Dev Cert.AIn.nD,
      r.2.mem ((c.tc : Thread Cert.AIn.nD Cert.AIn.τ).loc Cert.AIn.main_arg0) = m ((c.tc : Thread Cert.AIn.nD Cert.AIn.τ).loc Cert.AIn.main_arg0)
      ∧ r.2.mem ((c.tc : Thread Cert.AIn.nD Cert.AIn.τ).loc Cert.AIn.main_arg1) = m ((c.tc : Thread Cert.AIn.nD Cert.AIn.τ).loc Cert.AIn.main_arg1)
      ∧ r.2.mem ((c.tc : Thread Cert.AIn.nD Cert.AIn.τ).loc Cert.AIn.main_arg2) = m ((c.tc : Thread Cert.AIn.nD Cert.AIn.τ).loc Cert.AIn.main_arg2)
      ∧ r.2.mem ((c.tc : Thread Cert.AIn.nD Cert.AIn.τ).loc Cert.AIn.main_arg3) = m ((c.tc : Thread Cert.AIn.nD Cert.AIn.τ).loc Cert.AIn.main_arg3)
      ∧ r.2.mem ((c.tc : Thread Cert.AIn.nD Cert.AIn.τ).loc Cert.AIn.main_arg4) = m ((c.tc : Thread Cert.AIn.nD Cert.AIn.τ).loc Cert.AIn.main_arg4)
      ∧ r.2.mem ((c.tc : Thread Cert.AIn.nD Cert.AIn.τ).loc Cert.AIn.main_arg5) = m ((c.tc : Thread Cert.AIn.nD Cert.AIn.τ).loc Cert.AIn.main_arg5)
      ∧ r.2.mem ((c.tc : Thread Cert.AIn.nD Cert.AIn.τ).loc Cert.AIn.main_arg6) = m ((c.tc : Thread Cert.AIn.nD Cert.AIn.τ).loc Cert.AIn.main_arg6)
      ∧ r.2.mem ((c.tc : Thread Cert.AIn.nD Cert.AIn.τ).loc Cert.AIn.main_arg7) = m ((c.tc : Thread Cert.AIn.nD Cert.AIn.τ).loc Cert.AIn.main_arg7))
      ∧ r.2.sem = fun _ => 0)

def quiescent_AInIdeal [hAInIdeal : Cert.AInIdeal.Facts] : Prop :=
  ∀ (m : (ℓ : Loc Cert.AInIdeal.nD Cert.AInIdeal.τ Cert.AInIdeal.sig) → Buf (Elt Ideal) ℓ) (g : Dev Cert.AInIdeal.nD → PrngReg), Pre_AInIdeal m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4)
      ∧ r.2.mem ((c.tc : Thread Cert.AInIdeal.nD Cert.AInIdeal.τ).loc Cert.AInIdeal.main_arg5) = m ((c.tc : Thread Cert.AInIdeal.nD Cert.AInIdeal.τ).loc Cert.AInIdeal.main_arg5)
      ∧ r.2.mem ((c.tc : Thread Cert.AInIdeal.nD Cert.AInIdeal.τ).loc Cert.AInIdeal.main_arg6) = m ((c.tc : Thread Cert.AInIdeal.nD Cert.AInIdeal.τ).loc Cert.AInIdeal.main_arg6)
      ∧ r.2.mem ((c.tc : Thread Cert.AInIdeal.nD Cert.AInIdeal.τ).loc Cert.AInIdeal.main_arg7) = m ((c.tc : Thread Cert.AInIdeal.nD Cert.AInIdeal.τ).loc Cert.AInIdeal.main_arg7))
      ∧ r.2.sem = fun _ => 0)

def quiescent_AInIdeal_pre_finite_a_in [hAInIdeal : Cert.AInIdeal.Facts] [hPre_finite_a_in : Cert.Pre_finite_a_in.Facts] : Prop :=
  ∀ (m : (ℓ : Loc Cert.AInIdeal.nD Cert.AInIdeal.τ Cert.AInIdeal.sig) → Buf (Elt Ideal) ℓ) (g : Dev Cert.AInIdeal.nD → PrngReg), Pre_AInIdeal_finite_a_in m →
    θ_run (Cert.AInIdeal.defs (F := Ideal)) (onTc (τ := Cert.AInIdeal.τ) (Cert.AInIdeal.main (F := Ideal))) ⟨m, fun _ => 0, g⟩ (fun r => (∀ c : Dev Cert.AInIdeal.nD,
      r.2.mem ((c.tc : Thread Cert.AInIdeal.nD Cert.AInIdeal.τ).loc Cert.AInIdeal.main_arg0) = m ((c.tc : Thread Cert.AInIdeal.nD Cert.AInIdeal.τ).loc Cert.AInIdeal.main_arg0)
      ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
      ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
      ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
      ∧ r.2.mem ((c.tc : Thread Cert.AInIdeal.nD Cert.AInIdeal.τ).loc Cert.AInIdeal.main_arg4) = m ((c.tc : Thread Cert.AInIdeal.nD Cert.AInIdeal.τ).loc Cert.AInIdeal.main_arg4)
      ∧ r.2.mem ((c.tc : Thread Cert.AInIdeal.nD Cert.AInIdeal.τ).loc Cert.AInIdeal.main_arg5) = m ((c.tc : Thread Cert.AInIdeal.nD Cert.AInIdeal.τ).loc Cert.AInIdeal.main_arg5)
      ∧ r.2.mem ((c.tc : Thread Cert.AInIdeal.nD Cert.AInIdeal.τ).loc Cert.AInIdeal.main_arg6) = m ((c.tc : Thread Cert.AInIdeal.nD Cert.AInIdeal.τ).loc Cert.AInIdeal.main_arg6)
      ∧ r.2.mem ((c.tc : Thread Cert.AInIdeal.nD Cert.AInIdeal.τ).loc Cert.AInIdeal.main_arg7) = m ((c.tc : Thread Cert.AInIdeal.nD Cert.AInIdeal.τ).loc Cert.AInIdeal.main_arg7))
      ∧ r.2.sem = fun _ => 0)

def quiescent_AInRefIdeal [hAInRefIdeal : Cert.AInRefIdeal.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4)
      ∧ r.2.mem ((c.tc : Thread Cert.AInRefIdeal.nD Cert.AInRefIdeal.τ).loc Cert.AInRefIdeal.main_arg5) = m ((c.tc : Thread Cert.AInRefIdeal.nD Cert.AInRefIdeal.τ).loc Cert.AInRefIdeal.main_arg5)
      ∧ r.2.mem ((c.tc : Thread Cert.AInRefIdeal.nD Cert.AInRefIdeal.τ).loc Cert.AInRefIdeal.main_arg6) = m ((c.tc : Thread Cert.AInRefIdeal.nD Cert.AInRefIdeal.τ).loc Cert.AInRefIdeal.main_arg6)
      ∧ r.2.mem ((c.tc : Thread Cert.AInRefIdeal.nD Cert.AInRefIdeal.τ).loc Cert.AInRefIdeal.main_arg7) = m ((c.tc : Thread Cert.AInRefIdeal.nD Cert.AInRefIdeal.τ).loc Cert.AInRefIdeal.main_arg7))
      ∧ r.2.sem = fun _ => 0)

def quiescent_AInRefIdeal_pre_finite_a_in [hAInRefIdeal : Cert.AInRefIdeal.Facts] [hPre_finite_a_in : Cert.Pre_finite_a_in.Facts] : Prop :=
  ∀ (m : (ℓ : Loc Cert.AInRefIdeal.nD Cert.AInRefIdeal.τ Cert.AInRefIdeal.sig) → Buf (Elt Ideal) ℓ) (g : Dev Cert.AInRefIdeal.nD → PrngReg), Pre_AInRefIdeal_finite_a_in m →
    θ_run (Cert.AInRefIdeal.defs (F := Ideal)) (onTc (τ := Cert.AInRefIdeal.τ) (Cert.AInRefIdeal.main (F := Ideal))) ⟨m, fun _ => 0, g⟩ (fun r => (∀ c : Dev Cert.AInRefIdeal.nD,
      r.2.mem ((c.tc : Thread Cert.AInRefIdeal.nD Cert.AInRefIdeal.τ).loc Cert.AInRefIdeal.main_arg0) = m ((c.tc : Thread Cert.AInRefIdeal.nD Cert.AInRefIdeal.τ).loc Cert.AInRefIdeal.main_arg0)
      ∧ r.2.mem ((c.tc : Thread Cert.AInRefIdeal.nD Cert.AInRefIdeal.τ).loc Cert.AInRefIdeal.main_arg1) = m ((c.tc : Thread Cert.AInRefIdeal.nD Cert.AInRefIdeal.τ).loc Cert.AInRefIdeal.main_arg1)
      ∧ r.2.mem ((c.tc : Thread Cert.AInRefIdeal.nD Cert.AInRefIdeal.τ).loc Cert.AInRefIdeal.main_arg2) = m ((c.tc : Thread Cert.AInRefIdeal.nD Cert.AInRefIdeal.τ).loc Cert.AInRefIdeal.main_arg2)
      ∧ r.2.mem ((c.tc : Thread Cert.AInRefIdeal.nD Cert.AInRefIdeal.τ).loc Cert.AInRefIdeal.main_arg3) = m ((c.tc : Thread Cert.AInRefIdeal.nD Cert.AInRefIdeal.τ).loc Cert.AInRefIdeal.main_arg3)
      ∧ r.2.mem ((c.tc : Thread Cert.AInRefIdeal.nD Cert.AInRefIdeal.τ).loc Cert.AInRefIdeal.main_arg4) = m ((c.tc : Thread Cert.AInRefIdeal.nD Cert.AInRefIdeal.τ).loc Cert.AInRefIdeal.main_arg4)
      ∧ r.2.mem ((c.tc : Thread Cert.AInRefIdeal.nD Cert.AInRefIdeal.τ).loc Cert.AInRefIdeal.main_arg5) = m ((c.tc : Thread Cert.AInRefIdeal.nD Cert.AInRefIdeal.τ).loc Cert.AInRefIdeal.main_arg5)
      ∧ r.2.mem ((c.tc : Thread Cert.AInRefIdeal.nD Cert.AInRefIdeal.τ).loc Cert.AInRefIdeal.main_arg6) = m ((c.tc : Thread Cert.AInRefIdeal.nD Cert.AInRefIdeal.τ).loc Cert.AInRefIdeal.main_arg6)
      ∧ r.2.mem ((c.tc : Thread Cert.AInRefIdeal.nD Cert.AInRefIdeal.τ).loc Cert.AInRefIdeal.main_arg7) = m ((c.tc : Thread Cert.AInRefIdeal.nD Cert.AInRefIdeal.τ).loc Cert.AInRefIdeal.main_arg7))
      ∧ r.2.sem = fun _ => 0)

def quiescent_OutLoss [hOutLoss : Cert.OutLoss.Facts] : Prop :=
  ∀ (m : (ℓ : Loc Cert.OutLoss.nD Cert.OutLoss.τ Cert.OutLoss.sig) → Buf (Elt Bits) ℓ) (g : Dev Cert.OutLoss.nD → PrngReg), Pre_OutLoss m →
    θ_run (Cert.OutLoss.defs (F := Bits)) (onTc (τ := Cert.OutLoss.τ) (Cert.OutLoss.main (F := Bits))) ⟨m, fun _ => 0, g⟩ (fun r => (∀ c : Dev Cert.OutLoss.nD,
      r.2.mem ((c.tc : Thread Cert.OutLoss.nD Cert.OutLoss.τ).loc Cert.OutLoss.main_arg0) = m ((c.tc : Thread Cert.OutLoss.nD Cert.OutLoss.τ).loc Cert.OutLoss.main_arg0)
      ∧ r.2.mem ((c.tc : Thread Cert.OutLoss.nD Cert.OutLoss.τ).loc Cert.OutLoss.main_arg1) = m ((c.tc : Thread Cert.OutLoss.nD Cert.OutLoss.τ).loc Cert.OutLoss.main_arg1)
      ∧ r.2.mem ((c.tc : Thread Cert.OutLoss.nD Cert.OutLoss.τ).loc Cert.OutLoss.main_arg2) = m ((c.tc : Thread Cert.OutLoss.nD Cert.OutLoss.τ).loc Cert.OutLoss.main_arg2)
      ∧ r.2.mem ((c.tc : Thread Cert.OutLoss.nD Cert.OutLoss.τ).loc Cert.OutLoss.main_arg3) = m ((c.tc : Thread Cert.OutLoss.nD Cert.OutLoss.τ).loc Cert.OutLoss.main_arg3)
      ∧ r.2.mem ((c.tc : Thread Cert.OutLoss.nD Cert.OutLoss.τ).loc Cert.OutLoss.main_arg4) = m ((c.tc : Thread Cert.OutLoss.nD Cert.OutLoss.τ).loc Cert.OutLoss.main_arg4)
      ∧ r.2.mem ((c.tc : Thread Cert.OutLoss.nD Cert.OutLoss.τ).loc Cert.OutLoss.main_arg5) = m ((c.tc : Thread Cert.OutLoss.nD Cert.OutLoss.τ).loc Cert.OutLoss.main_arg5))
      ∧ r.2.sem = fun _ => 0)

def quiescent_OutLossIdeal [hOutLossIdeal : Cert.OutLossIdeal.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ r.2.sem = fun _ => 0)

def quiescent_OutLossIdeal_pre_finite_out_loss [hOutLossIdeal : Cert.OutLossIdeal.Facts] [hPre_finite_out_loss : Cert.Pre_finite_out_loss.Facts] : Prop :=
  ∀ (m : (ℓ : Loc Cert.OutLossIdeal.nD Cert.OutLossIdeal.τ Cert.OutLossIdeal.sig) → Buf (Elt Ideal) ℓ) (g : Dev Cert.OutLossIdeal.nD → PrngReg), Pre_OutLossIdeal_finite_out_loss m →
    θ_run (Cert.OutLossIdeal.defs (F := Ideal)) (onTc (τ := Cert.OutLossIdeal.τ) (Cert.OutLossIdeal.main (F := Ideal))) ⟨m, fun _ => 0, g⟩ (fun r => (∀ c : Dev Cert.OutLossIdeal.nD,
      r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
      ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
      ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
      ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
      ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
      ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ r.2.sem = fun _ => 0)

def quiescent_OutLossRefIdeal [hOutLossRefIdeal : Cert.OutLossRefIdeal.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5))
      ∧ r.2.sem = fun _ => 0)

def quiescent_OutLossRefIdeal_pre_finite_out_loss [hOutLossRefIdeal : Cert.OutLossRefIdeal.Facts] [hPre_finite_out_loss : Cert.Pre_finite_out_loss.Facts] : Prop :=
  ∀ (m : (ℓ : Loc Cert.OutLossRefIdeal.nD Cert.OutLossRefIdeal.τ Cert.OutLossRefIdeal.sig) → Buf (Elt Ideal) ℓ) (g : Dev Cert.OutLossRefIdeal.nD → PrngReg), Pre_OutLossRefIdeal_finite_out_loss m →
    θ_run (Cert.OutLossRefIdeal.defs (F := Ideal)) (onTc (τ := Cert.OutLossRefIdeal.τ) (Cert.OutLossRefIdeal.main (F := Ideal))) ⟨m, fun _ => 0, g⟩ (fun r => (∀ c : Dev Cert.OutLossRefIdeal.nD,
      r.2.mem ((c.tc : Thread Cert.OutLossRefIdeal.nD Cert.OutLossRefIdeal.τ).loc Cert.OutLossRefIdeal.main_arg0) = m ((c.tc : Thread Cert.OutLossRefIdeal.nD Cert.OutLossRefIdeal.τ).loc Cert.OutLossRefIdeal.main_arg0)
      ∧ r.2.mem ((c.tc : Thread Cert.OutLossRefIdeal.nD Cert.OutLossRefIdeal.τ).loc Cert.OutLossRefIdeal.main_arg1) = m ((c.tc : Thread Cert.OutLossRefIdeal.nD Cert.OutLossRefIdeal.τ).loc Cert.OutLossRefIdeal.main_arg1)
      ∧ r.2.mem ((c.tc : Thread Cert.OutLossRefIdeal.nD Cert.OutLossRefIdeal.τ).loc Cert.OutLossRefIdeal.main_arg2) = m ((c.tc : Thread Cert.OutLossRefIdeal.nD Cert.OutLossRefIdeal.τ).loc Cert.OutLossRefIdeal.main_arg2)
      ∧ r.2.mem ((c.tc : Thread Cert.OutLossRefIdeal.nD Cert.OutLossRefIdeal.τ).loc Cert.OutLossRefIdeal.main_arg3) = m ((c.tc : Thread Cert.OutLossRefIdeal.nD Cert.OutLossRefIdeal.τ).loc Cert.OutLossRefIdeal.main_arg3)
      ∧ r.2.mem ((c.tc : Thread Cert.OutLossRefIdeal.nD Cert.OutLossRefIdeal.τ).loc Cert.OutLossRefIdeal.main_arg4) = m ((c.tc : Thread Cert.OutLossRefIdeal.nD Cert.OutLossRefIdeal.τ).loc Cert.OutLossRefIdeal.main_arg4)
      ∧ r.2.mem ((c.tc : Thread Cert.OutLossRefIdeal.nD Cert.OutLossRefIdeal.τ).loc Cert.OutLossRefIdeal.main_arg5) = m ((c.tc : Thread Cert.OutLossRefIdeal.nD Cert.OutLossRefIdeal.τ).loc Cert.OutLossRefIdeal.main_arg5))
      ∧ r.2.sem = fun _ => 0)

def quiescent_OutIn [hOutIn : Cert.OutIn.Facts] : Prop :=
  ∀ (m : (ℓ : Loc Cert.OutIn.nD Cert.OutIn.τ Cert.OutIn.sig) → Buf (Elt Bits) ℓ) (g : Dev Cert.OutIn.nD → PrngReg), Pre_OutIn m →
    θ_run (Cert.OutIn.defs (F := Bits)) (onTc (τ := Cert.OutIn.τ) (Cert.OutIn.main (F := Bits))) ⟨m, fun _ => 0, g⟩ (fun r => (∀ c : Dev Cert.OutIn.nD,
      r.2.mem ((c.tc : Thread Cert.OutIn.nD Cert.OutIn.τ).loc Cert.OutIn.main_arg0) = m ((c.tc : Thread Cert.OutIn.nD Cert.OutIn.τ).loc Cert.OutIn.main_arg0)
      ∧ r.2.mem ((c.tc : Thread Cert.OutIn.nD Cert.OutIn.τ).loc Cert.OutIn.main_arg1) = m ((c.tc : Thread Cert.OutIn.nD Cert.OutIn.τ).loc Cert.OutIn.main_arg1)
      ∧ r.2.mem ((c.tc : Thread Cert.OutIn.nD Cert.OutIn.τ).loc Cert.OutIn.main_arg2) = m ((c.tc : Thread Cert.OutIn.nD Cert.OutIn.τ).loc Cert.OutIn.main_arg2)
      ∧ r.2.mem ((c.tc : Thread Cert.OutIn.nD Cert.OutIn.τ).loc Cert.OutIn.main_arg3) = m ((c.tc : Thread Cert.OutIn.nD Cert.OutIn.τ).loc Cert.OutIn.main_arg3)
      ∧ r.2.mem ((c.tc : Thread Cert.OutIn.nD Cert.OutIn.τ).loc Cert.OutIn.main_arg4) = m ((c.tc : Thread Cert.OutIn.nD Cert.OutIn.τ).loc Cert.OutIn.main_arg4)
      ∧ r.2.mem ((c.tc : Thread Cert.OutIn.nD Cert.OutIn.τ).loc Cert.OutIn.main_arg5) = m ((c.tc : Thread Cert.OutIn.nD Cert.OutIn.τ).loc Cert.OutIn.main_arg5))
      ∧ r.2.sem = fun _ => 0)

def quiescent_OutInIdeal [hOutInIdeal : Cert.OutInIdeal.Facts] : Prop :=
  ∀ (m : (ℓ : Loc Cert.OutInIdeal.nD Cert.OutInIdeal.τ Cert.OutInIdeal.sig) → Buf (Elt Ideal) ℓ) (g : Dev Cert.OutInIdeal.nD → PrngReg), Pre_OutInIdeal m →
    θ_run (Cert.OutInIdeal.defs (F := Ideal)) (onTc (τ := Cert.OutInIdeal.τ) (Cert.OutInIdeal.main (F := Ideal))) ⟨m, fun _ => 0, g⟩ (fun r => (∀ c : Dev Cert.OutInIdeal.nD,
      r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
      ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
      ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
      ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
      ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
      ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5))
      ∧ r.2.sem = fun _ => 0)

def quiescent_OutInRefIdeal [hOutInRefIdeal : Cert.OutInRefIdeal.Facts] : Prop :=
  ∀ (m : (ℓ : Loc Cert.OutInRefIdeal.nD Cert.OutInRefIdeal.τ Cert.OutInRefIdeal.sig) → Buf (Elt Ideal) ℓ) (g : Dev Cert.OutInRefIdeal.nD → PrngReg), Pre_OutInRefIdeal m →
    θ_run (Cert.OutInRefIdeal.defs (F := Ideal)) (onTc (τ := Cert.OutInRefIdeal.τ) (Cert.OutInRefIdeal.main (F := Ideal))) ⟨m, fun _ => 0, g⟩ (fun r => (∀ c : Dev Cert.OutInRefIdeal.nD,
      r.2.mem ((c.tc : Thread Cert.OutInRefIdeal.nD Cert.OutInRefIdeal.τ).loc Cert.OutInRefIdeal.main_arg0) = m ((c.tc : Thread Cert.OutInRefIdeal.nD Cert.OutInRefIdeal.τ).loc Cert.OutInRefIdeal.main_arg0)
      ∧ r.2.mem ((c.tc : Thread Cert.OutInRefIdeal.nD Cert.OutInRefIdeal.τ).loc Cert.OutInRefIdeal.main_arg1) = m ((c.tc : Thread Cert.OutInRefIdeal.nD Cert.OutInRefIdeal.τ).loc Cert.OutInRefIdeal.main_arg1)
      ∧ r.2.mem ((c.tc : Thread Cert.OutInRefIdeal.nD Cert.OutInRefIdeal.τ).loc Cert.OutInRefIdeal.main_arg2) = m ((c.tc : Thread Cert.OutInRefIdeal.nD Cert.OutInRefIdeal.τ).loc Cert.OutInRefIdeal.main_arg2)
      ∧ r.2.mem ((c.tc : Thread Cert.OutInRefIdeal.nD Cert.OutInRefIdeal.τ).loc Cert.OutInRefIdeal.main_arg3) = m ((c.tc : Thread Cert.OutInRefIdeal.nD Cert.OutInRefIdeal.τ).loc Cert.OutInRefIdeal.main_arg3)
      ∧ r.2.mem ((c.tc : Thread Cert.OutInRefIdeal.nD Cert.OutInRefIdeal.τ).loc Cert.OutInRefIdeal.main_arg4) = m ((c.tc : Thread Cert.OutInRefIdeal.nD Cert.OutInRefIdeal.τ).loc Cert.OutInRefIdeal.main_arg4)
      ∧ r.2.mem ((c.tc : Thread Cert.OutInRefIdeal.nD Cert.OutInRefIdeal.τ).loc Cert.OutInRefIdeal.main_arg5) = m ((c.tc : Thread Cert.OutInRefIdeal.nD Cert.OutInRefIdeal.τ).loc Cert.OutInRefIdeal.main_arg5))
      ∧ r.2.sem = fun _ => 0)

def quiescent_QFwd [hQFwd : Cert.QFwd.Facts] : Prop :=
  ∀ (m : (ℓ : Loc Cert.QFwd.nD Cert.QFwd.τ Cert.QFwd.sig) → Buf (Elt Bits) ℓ) (g : Dev Cert.QFwd.nD → PrngReg), Pre_QFwd m →
    θ_run (Cert.QFwd.defs (F := Bits)) (onTc (τ := Cert.QFwd.τ) (Cert.QFwd.main (F := Bits))) ⟨m, fun _ => 0, g⟩ (fun r => (∀ c : Dev Cert.QFwd.nD,
      r.2.mem ((c.tc : Thread Cert.QFwd.nD Cert.QFwd.τ).loc Cert.QFwd.main_arg0) = m ((c.tc : Thread Cert.QFwd.nD Cert.QFwd.τ).loc Cert.QFwd.main_arg0)
      ∧ r.2.mem ((c.tc : Thread Cert.QFwd.nD Cert.QFwd.τ).loc Cert.QFwd.main_arg1) = m ((c.tc : Thread Cert.QFwd.nD Cert.QFwd.τ).loc Cert.QFwd.main_arg1)
      ∧ r.2.mem ((c.tc : Thread Cert.QFwd.nD Cert.QFwd.τ).loc Cert.QFwd.main_arg2) = m ((c.tc : Thread Cert.QFwd.nD Cert.QFwd.τ).loc Cert.QFwd.main_arg2))
      ∧ r.2.sem = fun _ => 0)

def quiescent_QFwdIdeal [hQFwdIdeal : Cert.QFwdIdeal.Facts] : Prop :=
  ∀ (m : (ℓ : Loc Cert.QFwdIdeal.nD Cert.QFwdIdeal.τ Cert.QFwdIdeal.sig) → Buf (Elt Ideal) ℓ) (g : Dev Cert.QFwdIdeal.nD → PrngReg), Pre_QFwdIdeal m →
    θ_run (Cert.QFwdIdeal.defs (F := Ideal)) (onTc (τ := Cert.QFwdIdeal.τ) (Cert.QFwdIdeal.main (F := Ideal))) ⟨m, fun _ => 0, g⟩ (fun r => (∀ c : Dev Cert.QFwdIdeal.nD,
      r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
      ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
      ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ r.2.sem = fun _ => 0)

def quiescent_QFwdRefIdeal [hQFwdRefIdeal : Cert.QFwdRefIdeal.Facts] : Prop :=
  ∀ (m : (ℓ : Loc Cert.QFwdRefIdeal.nD Cert.QFwdRefIdeal.τ Cert.QFwdRefIdeal.sig) → Buf (Elt Ideal) ℓ) (g : Dev Cert.QFwdRefIdeal.nD → PrngReg), Pre_QFwdRefIdeal m →
    θ_run (Cert.QFwdRefIdeal.defs (F := Ideal)) (onTc (τ := Cert.QFwdRefIdeal.τ) (Cert.QFwdRefIdeal.main (F := Ideal))) ⟨m, fun _ => 0, g⟩ (fun r => (∀ c : Dev Cert.QFwdRefIdeal.nD,
      r.2.mem ((c.tc : Thread Cert.QFwdRefIdeal.nD Cert.QFwdRefIdeal.τ).loc Cert.QFwdRefIdeal.main_arg0) = m ((c.tc : Thread Cert.QFwdRefIdeal.nD Cert.QFwdRefIdeal.τ).loc Cert.QFwdRefIdeal.main_arg0)
      ∧ r.2.mem ((c.tc : Thread Cert.QFwdRefIdeal.nD Cert.QFwdRefIdeal.τ).loc Cert.QFwdRefIdeal.main_arg1) = m ((c.tc : Thread Cert.QFwdRefIdeal.nD Cert.QFwdRefIdeal.τ).loc Cert.QFwdRefIdeal.main_arg1)
      ∧ r.2.mem ((c.tc : Thread Cert.QFwdRefIdeal.nD Cert.QFwdRefIdeal.τ).loc Cert.QFwdRefIdeal.main_arg2) = m ((c.tc : Thread Cert.QFwdRefIdeal.nD Cert.QFwdRefIdeal.τ).loc Cert.QFwdRefIdeal.main_arg2))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2)
      ∧ r.2.mem ((c.tc : Thread Cert.KvFwd.nD Cert.KvFwd.τ).loc Cert.KvFwd.main_arg3) = m ((c.tc : Thread Cert.KvFwd.nD Cert.KvFwd.τ).loc Cert.KvFwd.main_arg3))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2)
      ∧ r.2.mem ((c.tc : Thread Cert.KvFwdIdeal.nD Cert.KvFwdIdeal.τ).loc Cert.KvFwdIdeal.main_arg3) = m ((c.tc : Thread Cert.KvFwdIdeal.nD Cert.KvFwdIdeal.τ).loc Cert.KvFwdIdeal.main_arg3))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2)
      ∧ r.2.mem ((c.tc : Thread Cert.KvFwdRefIdeal.nD Cert.KvFwdRefIdeal.τ).loc Cert.KvFwdRefIdeal.main_arg3) = m ((c.tc : Thread Cert.KvFwdRefIdeal.nD Cert.KvFwdRefIdeal.τ).loc Cert.KvFwdRefIdeal.main_arg3))
      ∧ r.2.sem = fun _ => 0)

def preserves_BIn_BInIdeal : Prop :=
  True

def algebraic_BInIdeal_BInRefIdeal_pre_finite_args [hBInIdeal : Cert.BInIdeal.Facts] [hBInRefIdeal : Cert.BInRefIdeal.Facts] [hPre_finite_args : Cert.Pre_finite_args.Facts] : Prop :=
  ∀ (m : (ℓ : Loc Cert.BInIdeal.nD Cert.BInIdeal.τ Cert.BInIdeal.sig) → Buf (Elt Ideal) ℓ) (g : Dev Cert.BInIdeal.nD → PrngReg)
    (m' : (ℓ : Loc Cert.BInRefIdeal.nD Cert.BInRefIdeal.τ Cert.BInRefIdeal.sig) → Buf (Elt Ideal) ℓ) (g' : Dev Cert.BInRefIdeal.nD → PrngReg), Pre_BInIdeal_finite_args m →
    (∀ c : Dev Cert.BInIdeal.nD,
      m' ((c.tc : Thread Cert.BInRefIdeal.nD Cert.BInRefIdeal.τ).loc Cert.BInRefIdeal.main_arg0) = m ((c.tc : Thread Cert.BInIdeal.nD Cert.BInIdeal.τ).loc Cert.BInIdeal.main_arg0)
      ∧ m' ((c.tc : Thread Cert.BInRefIdeal.nD Cert.BInRefIdeal.τ).loc Cert.BInRefIdeal.main_arg1) = m ((c.tc : Thread Cert.BInIdeal.nD Cert.BInIdeal.τ).loc Cert.BInIdeal.main_arg1)
      ∧ m' ((c.tc : Thread Cert.BInRefIdeal.nD Cert.BInRefIdeal.τ).loc Cert.BInRefIdeal.main_arg2) = m ((c.tc : Thread Cert.BInIdeal.nD Cert.BInIdeal.τ).loc Cert.BInIdeal.main_arg2)
      ∧ m' ((c.tc : Thread Cert.BInRefIdeal.nD Cert.BInRefIdeal.τ).loc Cert.BInRefIdeal.main_arg3) = m ((c.tc : Thread Cert.BInIdeal.nD Cert.BInIdeal.τ).loc Cert.BInIdeal.main_arg3)
      ∧ m' ((c.tc : Thread Cert.BInRefIdeal.nD Cert.BInRefIdeal.τ).loc Cert.BInRefIdeal.main_arg4) = m ((c.tc : Thread Cert.BInIdeal.nD Cert.BInIdeal.τ).loc Cert.BInIdeal.main_arg4)
      ∧ m' ((c.tc : Thread Cert.BInRefIdeal.nD Cert.BInRefIdeal.τ).loc Cert.BInRefIdeal.main_arg5) = m ((c.tc : Thread Cert.BInIdeal.nD Cert.BInIdeal.τ).loc Cert.BInIdeal.main_arg5)) →
    ∃ (v0 : (c : Dev Cert.BInIdeal.nD) → Buf (Elt Ideal) ((c.tc : Thread Cert.BInIdeal.nD Cert.BInIdeal.τ).loc Cert.BInIdeal.main_v8_0)) (v1 : (c : Dev Cert.BInIdeal.nD) → Buf (Elt Ideal) ((c.tc : Thread Cert.BInIdeal.nD Cert.BInIdeal.τ).loc Cert.BInIdeal.main_v8_1)) (v2 : (c : Dev Cert.BInIdeal.nD) → Buf (Elt Ideal) ((c.tc : Thread Cert.BInIdeal.nD Cert.BInIdeal.τ).loc Cert.BInIdeal.main_v8_2)),
      θ_run (Cert.BInIdeal.defs (F := Ideal)) (onTc (τ := Cert.BInIdeal.τ) (Cert.BInIdeal.main (F := Ideal))) ⟨m, fun _ => 0, g⟩ (fun r => ∀ c : Dev Cert.BInIdeal.nD,
          r.2.mem ((c.tc : Thread Cert.BInIdeal.nD Cert.BInIdeal.τ).loc Cert.BInIdeal.main_v8_0) = v0 c
          ∧ r.2.mem ((c.tc : Thread Cert.BInIdeal.nD Cert.BInIdeal.τ).loc Cert.BInIdeal.main_v8_1) = v1 c
          ∧ r.2.mem ((c.tc : Thread Cert.BInIdeal.nD Cert.BInIdeal.τ).loc Cert.BInIdeal.main_v8_2) = v2 c
          ∧ r.2.mem ((c.tc : Thread Cert.BInIdeal.nD Cert.BInIdeal.τ).loc Cert.BInIdeal.main_arg0) = m ((c.tc : Thread Cert.BInIdeal.nD Cert.BInIdeal.τ).loc Cert.BInIdeal.main_arg0)
          ∧ r.2.mem ((c.tc : Thread Cert.BInIdeal.nD Cert.BInIdeal.τ).loc Cert.BInIdeal.main_arg1) = m ((c.tc : Thread Cert.BInIdeal.nD Cert.BInIdeal.τ).loc Cert.BInIdeal.main_arg1)
          ∧ r.2.mem ((c.tc : Thread Cert.BInIdeal.nD Cert.BInIdeal.τ).loc Cert.BInIdeal.main_arg2) = m ((c.tc : Thread Cert.BInIdeal.nD Cert.BInIdeal.τ).loc Cert.BInIdeal.main_arg2)
          ∧ r.2.mem ((c.tc : Thread Cert.BInIdeal.nD Cert.BInIdeal.τ).loc Cert.BInIdeal.main_arg3) = m ((c.tc : Thread Cert.BInIdeal.nD Cert.BInIdeal.τ).loc Cert.BInIdeal.main_arg3)
          ∧ r.2.mem ((c.tc : Thread Cert.BInIdeal.nD Cert.BInIdeal.τ).loc Cert.BInIdeal.main_arg4) = m ((c.tc : Thread Cert.BInIdeal.nD Cert.BInIdeal.τ).loc Cert.BInIdeal.main_arg4)
          ∧ r.2.mem ((c.tc : Thread Cert.BInIdeal.nD Cert.BInIdeal.τ).loc Cert.BInIdeal.main_arg5) = m ((c.tc : Thread Cert.BInIdeal.nD Cert.BInIdeal.τ).loc Cert.BInIdeal.main_arg5))
      ∧ θ_run (Cert.BInRefIdeal.defs (F := Ideal)) (onTc (τ := Cert.BInRefIdeal.τ) (Cert.BInRefIdeal.main (F := Ideal))) ⟨m', fun _ => 0, g'⟩ (fun r => ∀ c : Dev Cert.BInRefIdeal.nD,
          r.2.mem ((c.tc : Thread Cert.BInRefIdeal.nD Cert.BInRefIdeal.τ).loc Cert.BInRefIdeal.main_v48) = v0 c
          ∧ r.2.mem ((c.tc : Thread Cert.BInRefIdeal.nD Cert.BInRefIdeal.τ).loc Cert.BInRefIdeal.main_v49) = v1 c
          ∧ r.2.mem ((c.tc : Thread Cert.BInRefIdeal.nD Cert.BInRefIdeal.τ).loc Cert.BInRefIdeal.main_v47) = v2 c
          ∧ r.2.mem ((c.tc : Thread Cert.BInRefIdeal.nD Cert.BInRefIdeal.τ).loc Cert.BInRefIdeal.main_arg0) = m' ((c.tc : Thread Cert.BInRefIdeal.nD Cert.BInRefIdeal.τ).loc Cert.BInRefIdeal.main_arg0)
          ∧ r.2.mem ((c.tc : Thread Cert.BInRefIdeal.nD Cert.BInRefIdeal.τ).loc Cert.BInRefIdeal.main_arg1) = m' ((c.tc : Thread Cert.BInRefIdeal.nD Cert.BInRefIdeal.τ).loc Cert.BInRefIdeal.main_arg1)
          ∧ r.2.mem ((c.tc : Thread Cert.BInRefIdeal.nD Cert.BInRefIdeal.τ).loc Cert.BInRefIdeal.main_arg2) = m' ((c.tc : Thread Cert.BInRefIdeal.nD Cert.BInRefIdeal.τ).loc Cert.BInRefIdeal.main_arg2)
          ∧ r.2.mem ((c.tc : Thread Cert.BInRefIdeal.nD Cert.BInRefIdeal.τ).loc Cert.BInRefIdeal.main_arg3) = m' ((c.tc : Thread Cert.BInRefIdeal.nD Cert.BInRefIdeal.τ).loc Cert.BInRefIdeal.main_arg3)
          ∧ r.2.mem ((c.tc : Thread Cert.BInRefIdeal.nD Cert.BInRefIdeal.τ).loc Cert.BInRefIdeal.main_arg4) = m' ((c.tc : Thread Cert.BInRefIdeal.nD Cert.BInRefIdeal.τ).loc Cert.BInRefIdeal.main_arg4)
          ∧ r.2.mem ((c.tc : Thread Cert.BInRefIdeal.nD Cert.BInRefIdeal.τ).loc Cert.BInRefIdeal.main_arg5) = m' ((c.tc : Thread Cert.BInRefIdeal.nD Cert.BInRefIdeal.τ).loc Cert.BInRefIdeal.main_arg5))

def preserves_Flash_FlashIdeal : Prop :=
  IdealRules.named_const.Statement Cert.FlashIdeal.κ "scale_log2e" .f32 0x3DD53B95#32 (((Real.sqrt 192)⁻¹ * (Real.log 2)⁻¹ : ℝ) : EReal)
  ∧ IdealRules.named_const.Statement Cert.FlashIdeal.κ "scale" .f32 0x3D93CD3A#32 (((Real.sqrt 192)⁻¹ : ℝ) : EReal)

def algebraic_FlashIdeal_FlashRefIdeal_pre_finite_flash [hFlashIdeal : Cert.FlashIdeal.Facts] [hFlashRefIdeal : Cert.FlashRefIdeal.Facts] [hPre_finite_flash : Cert.Pre_finite_flash.Facts] : Prop :=
  ∀ (m : (ℓ : Loc Cert.FlashIdeal.nD Cert.FlashIdeal.τ Cert.FlashIdeal.sig) → Buf (Elt Ideal) ℓ) (g : Dev Cert.FlashIdeal.nD → PrngReg)
    (m' : (ℓ : Loc Cert.FlashRefIdeal.nD Cert.FlashRefIdeal.τ Cert.FlashRefIdeal.sig) → Buf (Elt Ideal) ℓ) (g' : Dev Cert.FlashRefIdeal.nD → PrngReg), Pre_FlashIdeal_finite_flash m →
    (∀ c : Dev Cert.FlashIdeal.nD,
      m' ((c.tc : Thread Cert.FlashRefIdeal.nD Cert.FlashRefIdeal.τ).loc Cert.FlashRefIdeal.main_arg0) = m ((c.tc : Thread Cert.FlashIdeal.nD Cert.FlashIdeal.τ).loc Cert.FlashIdeal.main_arg0)
      ∧ m' ((c.tc : Thread Cert.FlashRefIdeal.nD Cert.FlashRefIdeal.τ).loc Cert.FlashRefIdeal.main_arg1) = m ((c.tc : Thread Cert.FlashIdeal.nD Cert.FlashIdeal.τ).loc Cert.FlashIdeal.main_arg1)
      ∧ m' ((c.tc : Thread Cert.FlashRefIdeal.nD Cert.FlashRefIdeal.τ).loc Cert.FlashRefIdeal.main_arg2) = m ((c.tc : Thread Cert.FlashIdeal.nD Cert.FlashIdeal.τ).loc Cert.FlashIdeal.main_arg2)
      ∧ m' ((c.tc : Thread Cert.FlashRefIdeal.nD Cert.FlashRefIdeal.τ).loc Cert.FlashRefIdeal.main_arg3) = m ((c.tc : Thread Cert.FlashIdeal.nD Cert.FlashIdeal.τ).loc Cert.FlashIdeal.main_arg3)) →
    ∃ (v0 : (c : Dev Cert.FlashIdeal.nD) → Buf (Elt Ideal) ((c.tc : Thread Cert.FlashIdeal.nD Cert.FlashIdeal.τ).loc Cert.FlashIdeal.main_v47_0)) (v1 : (c : Dev Cert.FlashIdeal.nD) → Buf (Elt Ideal) ((c.tc : Thread Cert.FlashIdeal.nD Cert.FlashIdeal.τ).loc Cert.FlashIdeal.main_v48)) (v2 : (c : Dev Cert.FlashIdeal.nD) → Buf (Elt Ideal) ((c.tc : Thread Cert.FlashIdeal.nD Cert.FlashIdeal.τ).loc Cert.FlashIdeal.main_v49)),
      θ_run (Cert.FlashIdeal.defs (F := Ideal)) (onTc (τ := Cert.FlashIdeal.τ) (Cert.FlashIdeal.main (F := Ideal))) ⟨m, fun _ => 0, g⟩ (fun r => ∀ c : Dev Cert.FlashIdeal.nD,
          r.2.mem ((c.tc : Thread Cert.FlashIdeal.nD Cert.FlashIdeal.τ).loc Cert.FlashIdeal.main_v47_0) = v0 c
          ∧ r.2.mem ((c.tc : Thread Cert.FlashIdeal.nD Cert.FlashIdeal.τ).loc Cert.FlashIdeal.main_v48) = v1 c
          ∧ r.2.mem ((c.tc : Thread Cert.FlashIdeal.nD Cert.FlashIdeal.τ).loc Cert.FlashIdeal.main_v49) = v2 c
          ∧ r.2.mem ((c.tc : Thread Cert.FlashIdeal.nD Cert.FlashIdeal.τ).loc Cert.FlashIdeal.main_arg0) = m ((c.tc : Thread Cert.FlashIdeal.nD Cert.FlashIdeal.τ).loc Cert.FlashIdeal.main_arg0)
          ∧ r.2.mem ((c.tc : Thread Cert.FlashIdeal.nD Cert.FlashIdeal.τ).loc Cert.FlashIdeal.main_arg1) = m ((c.tc : Thread Cert.FlashIdeal.nD Cert.FlashIdeal.τ).loc Cert.FlashIdeal.main_arg1)
          ∧ r.2.mem ((c.tc : Thread Cert.FlashIdeal.nD Cert.FlashIdeal.τ).loc Cert.FlashIdeal.main_arg2) = m ((c.tc : Thread Cert.FlashIdeal.nD Cert.FlashIdeal.τ).loc Cert.FlashIdeal.main_arg2)
          ∧ r.2.mem ((c.tc : Thread Cert.FlashIdeal.nD Cert.FlashIdeal.τ).loc Cert.FlashIdeal.main_arg3) = m ((c.tc : Thread Cert.FlashIdeal.nD Cert.FlashIdeal.τ).loc Cert.FlashIdeal.main_arg3))
      ∧ θ_run (Cert.FlashRefIdeal.defs (F := Ideal)) (onTc (τ := Cert.FlashRefIdeal.τ) (Cert.FlashRefIdeal.main (F := Ideal))) ⟨m', fun _ => 0, g'⟩ (fun r => ∀ c : Dev Cert.FlashRefIdeal.nD,
          r.2.mem ((c.tc : Thread Cert.FlashRefIdeal.nD Cert.FlashRefIdeal.τ).loc Cert.FlashRefIdeal.main_v63) = v0 c
          ∧ r.2.mem ((c.tc : Thread Cert.FlashRefIdeal.nD Cert.FlashRefIdeal.τ).loc Cert.FlashRefIdeal.main_v66) = v1 c
          ∧ r.2.mem ((c.tc : Thread Cert.FlashRefIdeal.nD Cert.FlashRefIdeal.τ).loc Cert.FlashRefIdeal.main_v67) = v2 c
          ∧ r.2.mem ((c.tc : Thread Cert.FlashRefIdeal.nD Cert.FlashRefIdeal.τ).loc Cert.FlashRefIdeal.main_arg0) = m' ((c.tc : Thread Cert.FlashRefIdeal.nD Cert.FlashRefIdeal.τ).loc Cert.FlashRefIdeal.main_arg0)
          ∧ r.2.mem ((c.tc : Thread Cert.FlashRefIdeal.nD Cert.FlashRefIdeal.τ).loc Cert.FlashRefIdeal.main_arg1) = m' ((c.tc : Thread Cert.FlashRefIdeal.nD Cert.FlashRefIdeal.τ).loc Cert.FlashRefIdeal.main_arg1)
          ∧ r.2.mem ((c.tc : Thread Cert.FlashRefIdeal.nD Cert.FlashRefIdeal.τ).loc Cert.FlashRefIdeal.main_arg2) = m' ((c.tc : Thread Cert.FlashRefIdeal.nD Cert.FlashRefIdeal.τ).loc Cert.FlashRefIdeal.main_arg2)
          ∧ r.2.mem ((c.tc : Thread Cert.FlashRefIdeal.nD Cert.FlashRefIdeal.τ).loc Cert.FlashRefIdeal.main_arg3) = m' ((c.tc : Thread Cert.FlashRefIdeal.nD Cert.FlashRefIdeal.τ).loc Cert.FlashRefIdeal.main_arg3))

def preserves_Gated_GatedIdeal : Prop :=
  True

def algebraic_GatedIdeal_GatedRefIdeal_pre_finite_gated [hGatedIdeal : Cert.GatedIdeal.Facts] [hGatedRefIdeal : Cert.GatedRefIdeal.Facts] [hPre_finite_gated : Cert.Pre_finite_gated.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal_finite_gated m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)
      ∧ m' ((c.tc : Thread Cert.GatedRefIdeal.nD Cert.GatedRefIdeal.τ).loc Cert.GatedRefIdeal.main_arg3) = m ((c.tc : Thread Cert.GatedIdeal.nD Cert.GatedIdeal.τ).loc Cert.GatedIdeal.main_arg3)) →
    ∃ (v0 : (c : Dev Cert.GatedIdeal.nD) → Buf (Elt Ideal) ((c.tc : Thread Cert.GatedIdeal.nD Cert.GatedIdeal.τ).loc Cert.GatedIdeal.main_v5_0)) (v1 : (c : Dev Cert.GatedIdeal.nD) → Buf (Elt Ideal) ((c.tc : Thread Cert.GatedIdeal.nD Cert.GatedIdeal.τ).loc Cert.GatedIdeal.main_v5_1)) (v2 : (c : Dev Cert.GatedIdeal.nD) → Buf (Elt Ideal) ((c.tc : Thread Cert.GatedIdeal.nD Cert.GatedIdeal.τ).loc Cert.GatedIdeal.main_v5_2)) (v3 : (c : Dev Cert.GatedIdeal.nD) → Buf (Elt Ideal) ((c.tc : Thread Cert.GatedIdeal.nD Cert.GatedIdeal.τ).loc Cert.GatedIdeal.main_v5_3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v5_0) = v0 c
          ∧ r.2.mem ((c.tc : Thread Cert.GatedIdeal.nD Cert.GatedIdeal.τ).loc Cert.GatedIdeal.main_v5_1) = v1 c
          ∧ r.2.mem ((c.tc : Thread Cert.GatedIdeal.nD Cert.GatedIdeal.τ).loc Cert.GatedIdeal.main_v5_2) = v2 c
          ∧ r.2.mem ((c.tc : Thread Cert.GatedIdeal.nD Cert.GatedIdeal.τ).loc Cert.GatedIdeal.main_v5_3) = v3 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2)
          ∧ r.2.mem ((c.tc : Thread Cert.GatedIdeal.nD Cert.GatedIdeal.τ).loc Cert.GatedIdeal.main_arg3) = m ((c.tc : Thread Cert.GatedIdeal.nD Cert.GatedIdeal.τ).loc Cert.GatedIdeal.main_arg3))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v15) = v0 c
          ∧ r.2.mem ((c.tc : Thread Cert.GatedRefIdeal.nD Cert.GatedRefIdeal.τ).loc Cert.GatedRefIdeal.main_v17) = v1 c
          ∧ r.2.mem ((c.tc : Thread Cert.GatedRefIdeal.nD Cert.GatedRefIdeal.τ).loc Cert.GatedRefIdeal.main_v18) = v2 c
          ∧ r.2.mem ((c.tc : Thread Cert.GatedRefIdeal.nD Cert.GatedRefIdeal.τ).loc Cert.GatedRefIdeal.main_v22) = v3 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2)
          ∧ r.2.mem ((c.tc : Thread Cert.GatedRefIdeal.nD Cert.GatedRefIdeal.τ).loc Cert.GatedRefIdeal.main_arg3) = m' ((c.tc : Thread Cert.GatedRefIdeal.nD Cert.GatedRefIdeal.τ).loc Cert.GatedRefIdeal.main_arg3))

def preserves_QProj_QProjIdeal : Prop :=
  True

def algebraic_QProjIdeal_QProjRefIdeal_pre_finite_q [hQProjIdeal : Cert.QProjIdeal.Facts] [hQProjRefIdeal : Cert.QProjRefIdeal.Facts] [hPre_finite_q : Cert.Pre_finite_q.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QProjRefIdeal.nD Cert.QProjRefIdeal.τ Cert.QProjRefIdeal.sig) → Buf (Elt Ideal) ℓ) (g' : Dev Cert.QProjRefIdeal.nD → PrngReg), Pre_QProjIdeal_finite_q m →
    (∀ c : Dev Cert.QProjIdeal.nD,
      m' ((c.tc : Thread Cert.QProjRefIdeal.nD Cert.QProjRefIdeal.τ).loc Cert.QProjRefIdeal.main_arg0) = m ((c.tc : Thread Cert.QProjIdeal.nD Cert.QProjIdeal.τ).loc Cert.QProjIdeal.main_arg0)
      ∧ m' ((c.tc : Thread Cert.QProjRefIdeal.nD Cert.QProjRefIdeal.τ).loc Cert.QProjRefIdeal.main_arg1) = m ((c.tc : Thread Cert.QProjIdeal.nD Cert.QProjIdeal.τ).loc Cert.QProjIdeal.main_arg1)
      ∧ m' ((c.tc : Thread Cert.QProjRefIdeal.nD Cert.QProjRefIdeal.τ).loc Cert.QProjRefIdeal.main_arg2) = m ((c.tc : Thread Cert.QProjIdeal.nD Cert.QProjIdeal.τ).loc Cert.QProjIdeal.main_arg2)
      ∧ m' ((c.tc : Thread Cert.QProjRefIdeal.nD Cert.QProjRefIdeal.τ).loc Cert.QProjRefIdeal.main_arg3) = m ((c.tc : Thread Cert.QProjIdeal.nD Cert.QProjIdeal.τ).loc Cert.QProjIdeal.main_arg3)) →
    ∃ (v0 : (c : Dev Cert.QProjIdeal.nD) → Buf (Elt Ideal) ((c.tc : Thread Cert.QProjIdeal.nD Cert.QProjIdeal.τ).loc Cert.QProjIdeal.main_v34_0)) (v1 : (c : Dev Cert.QProjIdeal.nD) → Buf (Elt Ideal) ((c.tc : Thread Cert.QProjIdeal.nD Cert.QProjIdeal.τ).loc Cert.QProjIdeal.main_v34_1)) (v2 : (c : Dev Cert.QProjIdeal.nD) → Buf (Elt Ideal) ((c.tc : Thread Cert.QProjIdeal.nD Cert.QProjIdeal.τ).loc Cert.QProjIdeal.main_v34_2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v34_0) = v0 c
          ∧ r.2.mem ((c.tc : Thread Cert.QProjIdeal.nD Cert.QProjIdeal.τ).loc Cert.QProjIdeal.main_v34_1) = v1 c
          ∧ r.2.mem ((c.tc : Thread Cert.QProjIdeal.nD Cert.QProjIdeal.τ).loc Cert.QProjIdeal.main_v34_2) = v2 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2)
          ∧ r.2.mem ((c.tc : Thread Cert.QProjIdeal.nD Cert.QProjIdeal.τ).loc Cert.QProjIdeal.main_arg3) = m ((c.tc : Thread Cert.QProjIdeal.nD Cert.QProjIdeal.τ).loc Cert.QProjIdeal.main_arg3))
      ∧ θ_run (Cert.QProjRefIdeal.defs (F := Ideal)) (onTc (τ := Cert.QProjRefIdeal.τ) (Cert.QProjRefIdeal.main (F := Ideal))) ⟨m', fun _ => 0, g'⟩ (fun r => ∀ c : Dev Cert.QProjRefIdeal.nD,
          r.2.mem ((c.tc : Thread Cert.QProjRefIdeal.nD Cert.QProjRefIdeal.τ).loc Cert.QProjRefIdeal.main_v104) = v0 c
          ∧ r.2.mem ((c.tc : Thread Cert.QProjRefIdeal.nD Cert.QProjRefIdeal.τ).loc Cert.QProjRefIdeal.main_v108) = v1 c
          ∧ r.2.mem ((c.tc : Thread Cert.QProjRefIdeal.nD Cert.QProjRefIdeal.τ).loc Cert.QProjRefIdeal.main_v102) = v2 c
          ∧ r.2.mem ((c.tc : Thread Cert.QProjRefIdeal.nD Cert.QProjRefIdeal.τ).loc Cert.QProjRefIdeal.main_arg0) = m' ((c.tc : Thread Cert.QProjRefIdeal.nD Cert.QProjRefIdeal.τ).loc Cert.QProjRefIdeal.main_arg0)
          ∧ r.2.mem ((c.tc : Thread Cert.QProjRefIdeal.nD Cert.QProjRefIdeal.τ).loc Cert.QProjRefIdeal.main_arg1) = m' ((c.tc : Thread Cert.QProjRefIdeal.nD Cert.QProjRefIdeal.τ).loc Cert.QProjRefIdeal.main_arg1)
          ∧ r.2.mem ((c.tc : Thread Cert.QProjRefIdeal.nD Cert.QProjRefIdeal.τ).loc Cert.QProjRefIdeal.main_arg2) = m' ((c.tc : Thread Cert.QProjRefIdeal.nD Cert.QProjRefIdeal.τ).loc Cert.QProjRefIdeal.main_arg2)
          ∧ r.2.mem ((c.tc : Thread Cert.QProjRefIdeal.nD Cert.QProjRefIdeal.τ).loc Cert.QProjRefIdeal.main_arg3) = m' ((c.tc : Thread Cert.QProjRefIdeal.nD Cert.QProjRefIdeal.τ).loc Cert.QProjRefIdeal.main_arg3))

def preserves_KvProj_KvProjIdeal : Prop :=
  True

def algebraic_KvProjIdeal_KvProjRefIdeal_pre_finite_kv [hKvProjIdeal : Cert.KvProjIdeal.Facts] [hKvProjRefIdeal : Cert.KvProjRefIdeal.Facts] [hPre_finite_kv : Cert.Pre_finite_kv.Facts] : Prop :=
  ∀ (m : (ℓ : Loc Cert.KvProjIdeal.nD Cert.KvProjIdeal.τ Cert.KvProjIdeal.sig) → Buf (Elt Ideal) ℓ) (g : Dev Cert.KvProjIdeal.nD → PrngReg)
    (m' : (ℓ : Loc Cert.KvProjRefIdeal.nD Cert.KvProjRefIdeal.τ Cert.KvProjRefIdeal.sig) → Buf (Elt Ideal) ℓ) (g' : Dev Cert.KvProjRefIdeal.nD → PrngReg), Pre_KvProjIdeal_finite_kv m →
    (∀ c : Dev Cert.KvProjIdeal.nD,
      m' ((c.tc : Thread Cert.KvProjRefIdeal.nD Cert.KvProjRefIdeal.τ).loc Cert.KvProjRefIdeal.main_arg0) = m ((c.tc : Thread Cert.KvProjIdeal.nD Cert.KvProjIdeal.τ).loc Cert.KvProjIdeal.main_arg0)
      ∧ m' ((c.tc : Thread Cert.KvProjRefIdeal.nD Cert.KvProjRefIdeal.τ).loc Cert.KvProjRefIdeal.main_arg1) = m ((c.tc : Thread Cert.KvProjIdeal.nD Cert.KvProjIdeal.τ).loc Cert.KvProjIdeal.main_arg1)
      ∧ m' ((c.tc : Thread Cert.KvProjRefIdeal.nD Cert.KvProjRefIdeal.τ).loc Cert.KvProjRefIdeal.main_arg2) = m ((c.tc : Thread Cert.KvProjIdeal.nD Cert.KvProjIdeal.τ).loc Cert.KvProjIdeal.main_arg2)
      ∧ m' ((c.tc : Thread Cert.KvProjRefIdeal.nD Cert.KvProjRefIdeal.τ).loc Cert.KvProjRefIdeal.main_arg3) = m ((c.tc : Thread Cert.KvProjIdeal.nD Cert.KvProjIdeal.τ).loc Cert.KvProjIdeal.main_arg3)
      ∧ m' ((c.tc : Thread Cert.KvProjRefIdeal.nD Cert.KvProjRefIdeal.τ).loc Cert.KvProjRefIdeal.main_arg4) = m ((c.tc : Thread Cert.KvProjIdeal.nD Cert.KvProjIdeal.τ).loc Cert.KvProjIdeal.main_arg4)
      ∧ m' ((c.tc : Thread Cert.KvProjRefIdeal.nD Cert.KvProjRefIdeal.τ).loc Cert.KvProjRefIdeal.main_arg5) = m ((c.tc : Thread Cert.KvProjIdeal.nD Cert.KvProjIdeal.τ).loc Cert.KvProjIdeal.main_arg5)) →
    ∃ (v0 : (c : Dev Cert.KvProjIdeal.nD) → Buf (Elt Ideal) ((c.tc : Thread Cert.KvProjIdeal.nD Cert.KvProjIdeal.τ).loc Cert.KvProjIdeal.main_v33_0)) (v1 : (c : Dev Cert.KvProjIdeal.nD) → Buf (Elt Ideal) ((c.tc : Thread Cert.KvProjIdeal.nD Cert.KvProjIdeal.τ).loc Cert.KvProjIdeal.main_v33_1)) (v2 : (c : Dev Cert.KvProjIdeal.nD) → Buf (Elt Ideal) ((c.tc : Thread Cert.KvProjIdeal.nD Cert.KvProjIdeal.τ).loc Cert.KvProjIdeal.main_v33_2)) (v3 : (c : Dev Cert.KvProjIdeal.nD) → Buf (Elt Ideal) ((c.tc : Thread Cert.KvProjIdeal.nD Cert.KvProjIdeal.τ).loc Cert.KvProjIdeal.main_v33_3)),
      θ_run (Cert.KvProjIdeal.defs (F := Ideal)) (onTc (τ := Cert.KvProjIdeal.τ) (Cert.KvProjIdeal.main (F := Ideal))) ⟨m, fun _ => 0, g⟩ (fun r => ∀ c : Dev Cert.KvProjIdeal.nD,
          r.2.mem ((c.tc : Thread Cert.KvProjIdeal.nD Cert.KvProjIdeal.τ).loc Cert.KvProjIdeal.main_v33_0) = v0 c
          ∧ r.2.mem ((c.tc : Thread Cert.KvProjIdeal.nD Cert.KvProjIdeal.τ).loc Cert.KvProjIdeal.main_v33_1) = v1 c
          ∧ r.2.mem ((c.tc : Thread Cert.KvProjIdeal.nD Cert.KvProjIdeal.τ).loc Cert.KvProjIdeal.main_v33_2) = v2 c
          ∧ r.2.mem ((c.tc : Thread Cert.KvProjIdeal.nD Cert.KvProjIdeal.τ).loc Cert.KvProjIdeal.main_v33_3) = v3 c
          ∧ r.2.mem ((c.tc : Thread Cert.KvProjIdeal.nD Cert.KvProjIdeal.τ).loc Cert.KvProjIdeal.main_arg0) = m ((c.tc : Thread Cert.KvProjIdeal.nD Cert.KvProjIdeal.τ).loc Cert.KvProjIdeal.main_arg0)
          ∧ r.2.mem ((c.tc : Thread Cert.KvProjIdeal.nD Cert.KvProjIdeal.τ).loc Cert.KvProjIdeal.main_arg1) = m ((c.tc : Thread Cert.KvProjIdeal.nD Cert.KvProjIdeal.τ).loc Cert.KvProjIdeal.main_arg1)
          ∧ r.2.mem ((c.tc : Thread Cert.KvProjIdeal.nD Cert.KvProjIdeal.τ).loc Cert.KvProjIdeal.main_arg2) = m ((c.tc : Thread Cert.KvProjIdeal.nD Cert.KvProjIdeal.τ).loc Cert.KvProjIdeal.main_arg2)
          ∧ r.2.mem ((c.tc : Thread Cert.KvProjIdeal.nD Cert.KvProjIdeal.τ).loc Cert.KvProjIdeal.main_arg3) = m ((c.tc : Thread Cert.KvProjIdeal.nD Cert.KvProjIdeal.τ).loc Cert.KvProjIdeal.main_arg3)
          ∧ r.2.mem ((c.tc : Thread Cert.KvProjIdeal.nD Cert.KvProjIdeal.τ).loc Cert.KvProjIdeal.main_arg4) = m ((c.tc : Thread Cert.KvProjIdeal.nD Cert.KvProjIdeal.τ).loc Cert.KvProjIdeal.main_arg4)
          ∧ r.2.mem ((c.tc : Thread Cert.KvProjIdeal.nD Cert.KvProjIdeal.τ).loc Cert.KvProjIdeal.main_arg5) = m ((c.tc : Thread Cert.KvProjIdeal.nD Cert.KvProjIdeal.τ).loc Cert.KvProjIdeal.main_arg5))
      ∧ θ_run (Cert.KvProjRefIdeal.defs (F := Ideal)) (onTc (τ := Cert.KvProjRefIdeal.τ) (Cert.KvProjRefIdeal.main (F := Ideal))) ⟨m', fun _ => 0, g'⟩ (fun r => ∀ c : Dev Cert.KvProjRefIdeal.nD,
          r.2.mem ((c.tc : Thread Cert.KvProjRefIdeal.nD Cert.KvProjRefIdeal.τ).loc Cert.KvProjRefIdeal.main_v100) = v0 c
          ∧ r.2.mem ((c.tc : Thread Cert.KvProjRefIdeal.nD Cert.KvProjRefIdeal.τ).loc Cert.KvProjRefIdeal.main_v101) = v1 c
          ∧ r.2.mem ((c.tc : Thread Cert.KvProjRefIdeal.nD Cert.KvProjRefIdeal.τ).loc Cert.KvProjRefIdeal.main_v97) = v2 c
          ∧ r.2.mem ((c.tc : Thread Cert.KvProjRefIdeal.nD Cert.KvProjRefIdeal.τ).loc Cert.KvProjRefIdeal.main_v102) = v3 c
          ∧ r.2.mem ((c.tc : Thread Cert.KvProjRefIdeal.nD Cert.KvProjRefIdeal.τ).loc Cert.KvProjRefIdeal.main_arg0) = m' ((c.tc : Thread Cert.KvProjRefIdeal.nD Cert.KvProjRefIdeal.τ).loc Cert.KvProjRefIdeal.main_arg0)
          ∧ r.2.mem ((c.tc : Thread Cert.KvProjRefIdeal.nD Cert.KvProjRefIdeal.τ).loc Cert.KvProjRefIdeal.main_arg1) = m' ((c.tc : Thread Cert.KvProjRefIdeal.nD Cert.KvProjRefIdeal.τ).loc Cert.KvProjRefIdeal.main_arg1)
          ∧ r.2.mem ((c.tc : Thread Cert.KvProjRefIdeal.nD Cert.KvProjRefIdeal.τ).loc Cert.KvProjRefIdeal.main_arg2) = m' ((c.tc : Thread Cert.KvProjRefIdeal.nD Cert.KvProjRefIdeal.τ).loc Cert.KvProjRefIdeal.main_arg2)
          ∧ r.2.mem ((c.tc : Thread Cert.KvProjRefIdeal.nD Cert.KvProjRefIdeal.τ).loc Cert.KvProjRefIdeal.main_arg3) = m' ((c.tc : Thread Cert.KvProjRefIdeal.nD Cert.KvProjRefIdeal.τ).loc Cert.KvProjRefIdeal.main_arg3)
          ∧ r.2.mem ((c.tc : Thread Cert.KvProjRefIdeal.nD Cert.KvProjRefIdeal.τ).loc Cert.KvProjRefIdeal.main_arg4) = m' ((c.tc : Thread Cert.KvProjRefIdeal.nD Cert.KvProjRefIdeal.τ).loc Cert.KvProjRefIdeal.main_arg4)
          ∧ r.2.mem ((c.tc : Thread Cert.KvProjRefIdeal.nD Cert.KvProjRefIdeal.τ).loc Cert.KvProjRefIdeal.main_arg5) = m' ((c.tc : Thread Cert.KvProjRefIdeal.nD Cert.KvProjRefIdeal.τ).loc Cert.KvProjRefIdeal.main_arg5))

def preserves_AIn_AInIdeal : Prop :=
  True

def algebraic_AInIdeal_AInRefIdeal_pre_finite_a_in [hAInIdeal : Cert.AInIdeal.Facts] [hAInRefIdeal : Cert.AInRefIdeal.Facts] [hPre_finite_a_in : Cert.Pre_finite_a_in.Facts] : Prop :=
  ∀ (m : (ℓ : Loc Cert.AInIdeal.nD Cert.AInIdeal.τ Cert.AInIdeal.sig) → Buf (Elt Ideal) ℓ) (g : Dev Cert.AInIdeal.nD → PrngReg)
    (m' : (ℓ : Loc Cert.AInRefIdeal.nD Cert.AInRefIdeal.τ Cert.AInRefIdeal.sig) → Buf (Elt Ideal) ℓ) (g' : Dev Cert.AInRefIdeal.nD → PrngReg), Pre_AInIdeal_finite_a_in m →
    (∀ c : Dev Cert.AInIdeal.nD,
      m' ((c.tc : Thread Cert.AInRefIdeal.nD Cert.AInRefIdeal.τ).loc Cert.AInRefIdeal.main_arg0) = m ((c.tc : Thread Cert.AInIdeal.nD Cert.AInIdeal.τ).loc Cert.AInIdeal.main_arg0)
      ∧ m' ((c.tc : Thread Cert.AInRefIdeal.nD Cert.AInRefIdeal.τ).loc Cert.AInRefIdeal.main_arg1) = m ((c.tc : Thread Cert.AInIdeal.nD Cert.AInIdeal.τ).loc Cert.AInIdeal.main_arg1)
      ∧ m' ((c.tc : Thread Cert.AInRefIdeal.nD Cert.AInRefIdeal.τ).loc Cert.AInRefIdeal.main_arg2) = m ((c.tc : Thread Cert.AInIdeal.nD Cert.AInIdeal.τ).loc Cert.AInIdeal.main_arg2)
      ∧ m' ((c.tc : Thread Cert.AInRefIdeal.nD Cert.AInRefIdeal.τ).loc Cert.AInRefIdeal.main_arg3) = m ((c.tc : Thread Cert.AInIdeal.nD Cert.AInIdeal.τ).loc Cert.AInIdeal.main_arg3)
      ∧ m' ((c.tc : Thread Cert.AInRefIdeal.nD Cert.AInRefIdeal.τ).loc Cert.AInRefIdeal.main_arg4) = m ((c.tc : Thread Cert.AInIdeal.nD Cert.AInIdeal.τ).loc Cert.AInIdeal.main_arg4)
      ∧ m' ((c.tc : Thread Cert.AInRefIdeal.nD Cert.AInRefIdeal.τ).loc Cert.AInRefIdeal.main_arg5) = m ((c.tc : Thread Cert.AInIdeal.nD Cert.AInIdeal.τ).loc Cert.AInIdeal.main_arg5)
      ∧ m' ((c.tc : Thread Cert.AInRefIdeal.nD Cert.AInRefIdeal.τ).loc Cert.AInRefIdeal.main_arg6) = m ((c.tc : Thread Cert.AInIdeal.nD Cert.AInIdeal.τ).loc Cert.AInIdeal.main_arg6)
      ∧ m' ((c.tc : Thread Cert.AInRefIdeal.nD Cert.AInRefIdeal.τ).loc Cert.AInRefIdeal.main_arg7) = m ((c.tc : Thread Cert.AInIdeal.nD Cert.AInIdeal.τ).loc Cert.AInIdeal.main_arg7)) →
    ∃ (v0 : (c : Dev Cert.AInIdeal.nD) → Buf (Elt Ideal) ((c.tc : Thread Cert.AInIdeal.nD Cert.AInIdeal.τ).loc Cert.AInIdeal.main_v17_0)) (v1 : (c : Dev Cert.AInIdeal.nD) → Buf (Elt Ideal) ((c.tc : Thread Cert.AInIdeal.nD Cert.AInIdeal.τ).loc Cert.AInIdeal.main_v17_1)) (v2 : (c : Dev Cert.AInIdeal.nD) → Buf (Elt Ideal) ((c.tc : Thread Cert.AInIdeal.nD Cert.AInIdeal.τ).loc Cert.AInIdeal.main_v17_2)),
      θ_run (Cert.AInIdeal.defs (F := Ideal)) (onTc (τ := Cert.AInIdeal.τ) (Cert.AInIdeal.main (F := Ideal))) ⟨m, fun _ => 0, g⟩ (fun r => ∀ c : Dev Cert.AInIdeal.nD,
          r.2.mem ((c.tc : Thread Cert.AInIdeal.nD Cert.AInIdeal.τ).loc Cert.AInIdeal.main_v17_0) = v0 c
          ∧ r.2.mem ((c.tc : Thread Cert.AInIdeal.nD Cert.AInIdeal.τ).loc Cert.AInIdeal.main_v17_1) = v1 c
          ∧ r.2.mem ((c.tc : Thread Cert.AInIdeal.nD Cert.AInIdeal.τ).loc Cert.AInIdeal.main_v17_2) = v2 c
          ∧ r.2.mem ((c.tc : Thread Cert.AInIdeal.nD Cert.AInIdeal.τ).loc Cert.AInIdeal.main_arg0) = m ((c.tc : Thread Cert.AInIdeal.nD Cert.AInIdeal.τ).loc Cert.AInIdeal.main_arg0)
          ∧ r.2.mem ((c.tc : Thread Cert.AInIdeal.nD Cert.AInIdeal.τ).loc Cert.AInIdeal.main_arg1) = m ((c.tc : Thread Cert.AInIdeal.nD Cert.AInIdeal.τ).loc Cert.AInIdeal.main_arg1)
          ∧ r.2.mem ((c.tc : Thread Cert.AInIdeal.nD Cert.AInIdeal.τ).loc Cert.AInIdeal.main_arg2) = m ((c.tc : Thread Cert.AInIdeal.nD Cert.AInIdeal.τ).loc Cert.AInIdeal.main_arg2)
          ∧ r.2.mem ((c.tc : Thread Cert.AInIdeal.nD Cert.AInIdeal.τ).loc Cert.AInIdeal.main_arg3) = m ((c.tc : Thread Cert.AInIdeal.nD Cert.AInIdeal.τ).loc Cert.AInIdeal.main_arg3)
          ∧ r.2.mem ((c.tc : Thread Cert.AInIdeal.nD Cert.AInIdeal.τ).loc Cert.AInIdeal.main_arg4) = m ((c.tc : Thread Cert.AInIdeal.nD Cert.AInIdeal.τ).loc Cert.AInIdeal.main_arg4)
          ∧ r.2.mem ((c.tc : Thread Cert.AInIdeal.nD Cert.AInIdeal.τ).loc Cert.AInIdeal.main_arg5) = m ((c.tc : Thread Cert.AInIdeal.nD Cert.AInIdeal.τ).loc Cert.AInIdeal.main_arg5)
          ∧ r.2.mem ((c.tc : Thread Cert.AInIdeal.nD Cert.AInIdeal.τ).loc Cert.AInIdeal.main_arg6) = m ((c.tc : Thread Cert.AInIdeal.nD Cert.AInIdeal.τ).loc Cert.AInIdeal.main_arg6)
          ∧ r.2.mem ((c.tc : Thread Cert.AInIdeal.nD Cert.AInIdeal.τ).loc Cert.AInIdeal.main_arg7) = m ((c.tc : Thread Cert.AInIdeal.nD Cert.AInIdeal.τ).loc Cert.AInIdeal.main_arg7))
      ∧ θ_run (Cert.AInRefIdeal.defs (F := Ideal)) (onTc (τ := Cert.AInRefIdeal.τ) (Cert.AInRefIdeal.main (F := Ideal))) ⟨m', fun _ => 0, g'⟩ (fun r => ∀ c : Dev Cert.AInRefIdeal.nD,
          r.2.mem ((c.tc : Thread Cert.AInRefIdeal.nD Cert.AInRefIdeal.τ).loc Cert.AInRefIdeal.main_v50) = v0 c
          ∧ r.2.mem ((c.tc : Thread Cert.AInRefIdeal.nD Cert.AInRefIdeal.τ).loc Cert.AInRefIdeal.main_v56) = v1 c
          ∧ r.2.mem ((c.tc : Thread Cert.AInRefIdeal.nD Cert.AInRefIdeal.τ).loc Cert.AInRefIdeal.main_v49) = v2 c
          ∧ r.2.mem ((c.tc : Thread Cert.AInRefIdeal.nD Cert.AInRefIdeal.τ).loc Cert.AInRefIdeal.main_arg0) = m' ((c.tc : Thread Cert.AInRefIdeal.nD Cert.AInRefIdeal.τ).loc Cert.AInRefIdeal.main_arg0)
          ∧ r.2.mem ((c.tc : Thread Cert.AInRefIdeal.nD Cert.AInRefIdeal.τ).loc Cert.AInRefIdeal.main_arg1) = m' ((c.tc : Thread Cert.AInRefIdeal.nD Cert.AInRefIdeal.τ).loc Cert.AInRefIdeal.main_arg1)
          ∧ r.2.mem ((c.tc : Thread Cert.AInRefIdeal.nD Cert.AInRefIdeal.τ).loc Cert.AInRefIdeal.main_arg2) = m' ((c.tc : Thread Cert.AInRefIdeal.nD Cert.AInRefIdeal.τ).loc Cert.AInRefIdeal.main_arg2)
          ∧ r.2.mem ((c.tc : Thread Cert.AInRefIdeal.nD Cert.AInRefIdeal.τ).loc Cert.AInRefIdeal.main_arg3) = m' ((c.tc : Thread Cert.AInRefIdeal.nD Cert.AInRefIdeal.τ).loc Cert.AInRefIdeal.main_arg3)
          ∧ r.2.mem ((c.tc : Thread Cert.AInRefIdeal.nD Cert.AInRefIdeal.τ).loc Cert.AInRefIdeal.main_arg4) = m' ((c.tc : Thread Cert.AInRefIdeal.nD Cert.AInRefIdeal.τ).loc Cert.AInRefIdeal.main_arg4)
          ∧ r.2.mem ((c.tc : Thread Cert.AInRefIdeal.nD Cert.AInRefIdeal.τ).loc Cert.AInRefIdeal.main_arg5) = m' ((c.tc : Thread Cert.AInRefIdeal.nD Cert.AInRefIdeal.τ).loc Cert.AInRefIdeal.main_arg5)
          ∧ r.2.mem ((c.tc : Thread Cert.AInRefIdeal.nD Cert.AInRefIdeal.τ).loc Cert.AInRefIdeal.main_arg6) = m' ((c.tc : Thread Cert.AInRefIdeal.nD Cert.AInRefIdeal.τ).loc Cert.AInRefIdeal.main_arg6)
          ∧ r.2.mem ((c.tc : Thread Cert.AInRefIdeal.nD Cert.AInRefIdeal.τ).loc Cert.AInRefIdeal.main_arg7) = m' ((c.tc : Thread Cert.AInRefIdeal.nD Cert.AInRefIdeal.τ).loc Cert.AInRefIdeal.main_arg7))

def preserves_OutLoss_OutLossIdeal : Prop :=
  True

def algebraic_OutLossIdeal_OutLossRefIdeal_pre_finite_out_loss [hOutLossIdeal : Cert.OutLossIdeal.Facts] [hOutLossRefIdeal : Cert.OutLossRefIdeal.Facts] [hPre_finite_out_loss : Cert.Pre_finite_out_loss.Facts] : Prop :=
  ∀ (m : (ℓ : Loc Cert.OutLossIdeal.nD Cert.OutLossIdeal.τ Cert.OutLossIdeal.sig) → Buf (Elt Ideal) ℓ) (g : Dev Cert.OutLossIdeal.nD → PrngReg)
    (m' : (ℓ : Loc Cert.OutLossRefIdeal.nD Cert.OutLossRefIdeal.τ Cert.OutLossRefIdeal.sig) → Buf (Elt Ideal) ℓ) (g' : Dev Cert.OutLossRefIdeal.nD → PrngReg), Pre_OutLossIdeal_finite_out_loss m →
    (∀ c : Dev Cert.OutLossIdeal.nD,
      m' ((c.tc : Thread Cert.OutLossRefIdeal.nD Cert.OutLossRefIdeal.τ).loc Cert.OutLossRefIdeal.main_arg0) = m ((c.tc : Thread Cert.OutLossIdeal.nD Cert.OutLossIdeal.τ).loc Cert.OutLossIdeal.main_arg0)
      ∧ m' ((c.tc : Thread Cert.OutLossRefIdeal.nD Cert.OutLossRefIdeal.τ).loc Cert.OutLossRefIdeal.main_arg1) = m ((c.tc : Thread Cert.OutLossIdeal.nD Cert.OutLossIdeal.τ).loc Cert.OutLossIdeal.main_arg1)
      ∧ m' ((c.tc : Thread Cert.OutLossRefIdeal.nD Cert.OutLossRefIdeal.τ).loc Cert.OutLossRefIdeal.main_arg2) = m ((c.tc : Thread Cert.OutLossIdeal.nD Cert.OutLossIdeal.τ).loc Cert.OutLossIdeal.main_arg2)
      ∧ m' ((c.tc : Thread Cert.OutLossRefIdeal.nD Cert.OutLossRefIdeal.τ).loc Cert.OutLossRefIdeal.main_arg3) = m ((c.tc : Thread Cert.OutLossIdeal.nD Cert.OutLossIdeal.τ).loc Cert.OutLossIdeal.main_arg3)
      ∧ m' ((c.tc : Thread Cert.OutLossRefIdeal.nD Cert.OutLossRefIdeal.τ).loc Cert.OutLossRefIdeal.main_arg4) = m ((c.tc : Thread Cert.OutLossIdeal.nD Cert.OutLossIdeal.τ).loc Cert.OutLossIdeal.main_arg4)
      ∧ m' ((c.tc : Thread Cert.OutLossRefIdeal.nD Cert.OutLossRefIdeal.τ).loc Cert.OutLossRefIdeal.main_arg5) = m ((c.tc : Thread Cert.OutLossIdeal.nD Cert.OutLossIdeal.τ).loc Cert.OutLossIdeal.main_arg5)) →
    ∃ (v0 : (c : Dev Cert.OutLossIdeal.nD) → Buf (Elt Ideal) ((c.tc : Thread Cert.OutLossIdeal.nD Cert.OutLossIdeal.τ).loc Cert.OutLossIdeal.main_v6_0)) (v1 : (c : Dev Cert.OutLossIdeal.nD) → Buf (Elt Ideal) ((c.tc : Thread Cert.OutLossIdeal.nD Cert.OutLossIdeal.τ).loc Cert.OutLossIdeal.main_v6_1)) (v2 : (c : Dev Cert.OutLossIdeal.nD) → Buf (Elt Ideal) ((c.tc : Thread Cert.OutLossIdeal.nD Cert.OutLossIdeal.τ).loc Cert.OutLossIdeal.main_v6_2)) (v3 : (c : Dev Cert.OutLossIdeal.nD) → Buf (Elt Ideal) ((c.tc : Thread Cert.OutLossIdeal.nD Cert.OutLossIdeal.τ).loc Cert.OutLossIdeal.main_v6_3)) (v4 : (c : Dev Cert.OutLossIdeal.nD) → Buf (Elt Ideal) ((c.tc : Thread Cert.OutLossIdeal.nD Cert.OutLossIdeal.τ).loc Cert.OutLossIdeal.main_v6_4)) (v5 : (c : Dev Cert.OutLossIdeal.nD) → Buf (Elt Ideal) ((c.tc : Thread Cert.OutLossIdeal.nD Cert.OutLossIdeal.τ).loc Cert.OutLossIdeal.main_v6_5)),
      θ_run (Cert.OutLossIdeal.defs (F := Ideal)) (onTc (τ := Cert.OutLossIdeal.τ) (Cert.OutLossIdeal.main (F := Ideal))) ⟨m, fun _ => 0, g⟩ (fun r => ∀ c : Dev Cert.OutLossIdeal.nD,
          r.2.mem ((c.tc : Thread Cert.OutLossIdeal.nD Cert.OutLossIdeal.τ).loc Cert.OutLossIdeal.main_v6_0) = v0 c
          ∧ r.2.mem ((c.tc : Thread Cert.OutLossIdeal.nD Cert.OutLossIdeal.τ).loc Cert.OutLossIdeal.main_v6_1) = v1 c
          ∧ r.2.mem ((c.tc : Thread Cert.OutLossIdeal.nD Cert.OutLossIdeal.τ).loc Cert.OutLossIdeal.main_v6_2) = v2 c
          ∧ r.2.mem ((c.tc : Thread Cert.OutLossIdeal.nD Cert.OutLossIdeal.τ).loc Cert.OutLossIdeal.main_v6_3) = v3 c
          ∧ r.2.mem ((c.tc : Thread Cert.OutLossIdeal.nD Cert.OutLossIdeal.τ).loc Cert.OutLossIdeal.main_v6_4) = v4 c
          ∧ r.2.mem ((c.tc : Thread Cert.OutLossIdeal.nD Cert.OutLossIdeal.τ).loc Cert.OutLossIdeal.main_v6_5) = v5 c
          ∧ r.2.mem ((c.tc : Thread Cert.OutLossIdeal.nD Cert.OutLossIdeal.τ).loc Cert.OutLossIdeal.main_arg0) = m ((c.tc : Thread Cert.OutLossIdeal.nD Cert.OutLossIdeal.τ).loc Cert.OutLossIdeal.main_arg0)
          ∧ r.2.mem ((c.tc : Thread Cert.OutLossIdeal.nD Cert.OutLossIdeal.τ).loc Cert.OutLossIdeal.main_arg1) = m ((c.tc : Thread Cert.OutLossIdeal.nD Cert.OutLossIdeal.τ).loc Cert.OutLossIdeal.main_arg1)
          ∧ r.2.mem ((c.tc : Thread Cert.OutLossIdeal.nD Cert.OutLossIdeal.τ).loc Cert.OutLossIdeal.main_arg2) = m ((c.tc : Thread Cert.OutLossIdeal.nD Cert.OutLossIdeal.τ).loc Cert.OutLossIdeal.main_arg2)
          ∧ r.2.mem ((c.tc : Thread Cert.OutLossIdeal.nD Cert.OutLossIdeal.τ).loc Cert.OutLossIdeal.main_arg3) = m ((c.tc : Thread Cert.OutLossIdeal.nD Cert.OutLossIdeal.τ).loc Cert.OutLossIdeal.main_arg3)
          ∧ r.2.mem ((c.tc : Thread Cert.OutLossIdeal.nD Cert.OutLossIdeal.τ).loc Cert.OutLossIdeal.main_arg4) = m ((c.tc : Thread Cert.OutLossIdeal.nD Cert.OutLossIdeal.τ).loc Cert.OutLossIdeal.main_arg4)
          ∧ r.2.mem ((c.tc : Thread Cert.OutLossIdeal.nD Cert.OutLossIdeal.τ).loc Cert.OutLossIdeal.main_arg5) = m ((c.tc : Thread Cert.OutLossIdeal.nD Cert.OutLossIdeal.τ).loc Cert.OutLossIdeal.main_arg5))
      ∧ θ_run (Cert.OutLossRefIdeal.defs (F := Ideal)) (onTc (τ := Cert.OutLossRefIdeal.τ) (Cert.OutLossRefIdeal.main (F := Ideal))) ⟨m', fun _ => 0, g'⟩ (fun r => ∀ c : Dev Cert.OutLossRefIdeal.nD,
          r.2.mem ((c.tc : Thread Cert.OutLossRefIdeal.nD Cert.OutLossRefIdeal.τ).loc Cert.OutLossRefIdeal.main_v65) = v0 c
          ∧ r.2.mem ((c.tc : Thread Cert.OutLossRefIdeal.nD Cert.OutLossRefIdeal.τ).loc Cert.OutLossRefIdeal.main_v66) = v1 c
          ∧ r.2.mem ((c.tc : Thread Cert.OutLossRefIdeal.nD Cert.OutLossRefIdeal.τ).loc Cert.OutLossRefIdeal.main_v67) = v2 c
          ∧ r.2.mem ((c.tc : Thread Cert.OutLossRefIdeal.nD Cert.OutLossRefIdeal.τ).loc Cert.OutLossRefIdeal.main_v68) = v3 c
          ∧ r.2.mem ((c.tc : Thread Cert.OutLossRefIdeal.nD Cert.OutLossRefIdeal.τ).loc Cert.OutLossRefIdeal.main_v70) = v4 c
          ∧ r.2.mem ((c.tc : Thread Cert.OutLossRefIdeal.nD Cert.OutLossRefIdeal.τ).loc Cert.OutLossRefIdeal.main_v71) = v5 c
          ∧ r.2.mem ((c.tc : Thread Cert.OutLossRefIdeal.nD Cert.OutLossRefIdeal.τ).loc Cert.OutLossRefIdeal.main_arg0) = m' ((c.tc : Thread Cert.OutLossRefIdeal.nD Cert.OutLossRefIdeal.τ).loc Cert.OutLossRefIdeal.main_arg0)
          ∧ r.2.mem ((c.tc : Thread Cert.OutLossRefIdeal.nD Cert.OutLossRefIdeal.τ).loc Cert.OutLossRefIdeal.main_arg1) = m' ((c.tc : Thread Cert.OutLossRefIdeal.nD Cert.OutLossRefIdeal.τ).loc Cert.OutLossRefIdeal.main_arg1)
          ∧ r.2.mem ((c.tc : Thread Cert.OutLossRefIdeal.nD Cert.OutLossRefIdeal.τ).loc Cert.OutLossRefIdeal.main_arg2) = m' ((c.tc : Thread Cert.OutLossRefIdeal.nD Cert.OutLossRefIdeal.τ).loc Cert.OutLossRefIdeal.main_arg2)
          ∧ r.2.mem ((c.tc : Thread Cert.OutLossRefIdeal.nD Cert.OutLossRefIdeal.τ).loc Cert.OutLossRefIdeal.main_arg3) = m' ((c.tc : Thread Cert.OutLossRefIdeal.nD Cert.OutLossRefIdeal.τ).loc Cert.OutLossRefIdeal.main_arg3)
          ∧ r.2.mem ((c.tc : Thread Cert.OutLossRefIdeal.nD Cert.OutLossRefIdeal.τ).loc Cert.OutLossRefIdeal.main_arg4) = m' ((c.tc : Thread Cert.OutLossRefIdeal.nD Cert.OutLossRefIdeal.τ).loc Cert.OutLossRefIdeal.main_arg4)
          ∧ r.2.mem ((c.tc : Thread Cert.OutLossRefIdeal.nD Cert.OutLossRefIdeal.τ).loc Cert.OutLossRefIdeal.main_arg5) = m' ((c.tc : Thread Cert.OutLossRefIdeal.nD Cert.OutLossRefIdeal.τ).loc Cert.OutLossRefIdeal.main_arg5))

def preserves_OutIn_OutInIdeal : Prop :=
  True

def algebraic_OutInIdeal_OutInRefIdeal [hOutInIdeal : Cert.OutInIdeal.Facts] [hOutInRefIdeal : Cert.OutInRefIdeal.Facts] : Prop :=
  ∀ (m : (ℓ : Loc Cert.OutInIdeal.nD Cert.OutInIdeal.τ Cert.OutInIdeal.sig) → Buf (Elt Ideal) ℓ) (g : Dev Cert.OutInIdeal.nD → PrngReg)
    (m' : (ℓ : Loc Cert.OutInRefIdeal.nD Cert.OutInRefIdeal.τ Cert.OutInRefIdeal.sig) → Buf (Elt Ideal) ℓ) (g' : Dev Cert.OutInRefIdeal.nD → PrngReg), Pre_OutInIdeal m →
    (∀ c : Dev Cert.OutInIdeal.nD,
      m' ((c.tc : Thread Cert.OutInRefIdeal.nD Cert.OutInRefIdeal.τ).loc Cert.OutInRefIdeal.main_arg0) = m ((c.tc : Thread Cert.OutInIdeal.nD Cert.OutInIdeal.τ).loc Cert.OutInIdeal.main_arg0)
      ∧ m' ((c.tc : Thread Cert.OutInRefIdeal.nD Cert.OutInRefIdeal.τ).loc Cert.OutInRefIdeal.main_arg1) = m ((c.tc : Thread Cert.OutInIdeal.nD Cert.OutInIdeal.τ).loc Cert.OutInIdeal.main_arg1)
      ∧ m' ((c.tc : Thread Cert.OutInRefIdeal.nD Cert.OutInRefIdeal.τ).loc Cert.OutInRefIdeal.main_arg2) = m ((c.tc : Thread Cert.OutInIdeal.nD Cert.OutInIdeal.τ).loc Cert.OutInIdeal.main_arg2)
      ∧ m' ((c.tc : Thread Cert.OutInRefIdeal.nD Cert.OutInRefIdeal.τ).loc Cert.OutInRefIdeal.main_arg3) = m ((c.tc : Thread Cert.OutInIdeal.nD Cert.OutInIdeal.τ).loc Cert.OutInIdeal.main_arg3)
      ∧ m' ((c.tc : Thread Cert.OutInRefIdeal.nD Cert.OutInRefIdeal.τ).loc Cert.OutInRefIdeal.main_arg4) = m ((c.tc : Thread Cert.OutInIdeal.nD Cert.OutInIdeal.τ).loc Cert.OutInIdeal.main_arg4)
      ∧ m' ((c.tc : Thread Cert.OutInRefIdeal.nD Cert.OutInRefIdeal.τ).loc Cert.OutInRefIdeal.main_arg5) = m ((c.tc : Thread Cert.OutInIdeal.nD Cert.OutInIdeal.τ).loc Cert.OutInIdeal.main_arg5)) →
    ∃ (v0 : (c : Dev Cert.OutInIdeal.nD) → Buf (Elt Ideal) ((c.tc : Thread Cert.OutInIdeal.nD Cert.OutInIdeal.τ).loc Cert.OutInIdeal.main_v7_0)) (v1 : (c : Dev Cert.OutInIdeal.nD) → Buf (Elt Ideal) ((c.tc : Thread Cert.OutInIdeal.nD Cert.OutInIdeal.τ).loc Cert.OutInIdeal.main_v7_1)) (v2 : (c : Dev Cert.OutInIdeal.nD) → Buf (Elt Ideal) ((c.tc : Thread Cert.OutInIdeal.nD Cert.OutInIdeal.τ).loc Cert.OutInIdeal.main_v7_2)),
      θ_run (Cert.OutInIdeal.defs (F := Ideal)) (onTc (τ := Cert.OutInIdeal.τ) (Cert.OutInIdeal.main (F := Ideal))) ⟨m, fun _ => 0, g⟩ (fun r => ∀ c : Dev Cert.OutInIdeal.nD,
          r.2.mem ((c.tc : Thread Cert.OutInIdeal.nD Cert.OutInIdeal.τ).loc Cert.OutInIdeal.main_v7_0) = v0 c
          ∧ r.2.mem ((c.tc : Thread Cert.OutInIdeal.nD Cert.OutInIdeal.τ).loc Cert.OutInIdeal.main_v7_1) = v1 c
          ∧ r.2.mem ((c.tc : Thread Cert.OutInIdeal.nD Cert.OutInIdeal.τ).loc Cert.OutInIdeal.main_v7_2) = v2 c
          ∧ r.2.mem ((c.tc : Thread Cert.OutInIdeal.nD Cert.OutInIdeal.τ).loc Cert.OutInIdeal.main_arg0) = m ((c.tc : Thread Cert.OutInIdeal.nD Cert.OutInIdeal.τ).loc Cert.OutInIdeal.main_arg0)
          ∧ r.2.mem ((c.tc : Thread Cert.OutInIdeal.nD Cert.OutInIdeal.τ).loc Cert.OutInIdeal.main_arg1) = m ((c.tc : Thread Cert.OutInIdeal.nD Cert.OutInIdeal.τ).loc Cert.OutInIdeal.main_arg1)
          ∧ r.2.mem ((c.tc : Thread Cert.OutInIdeal.nD Cert.OutInIdeal.τ).loc Cert.OutInIdeal.main_arg2) = m ((c.tc : Thread Cert.OutInIdeal.nD Cert.OutInIdeal.τ).loc Cert.OutInIdeal.main_arg2)
          ∧ r.2.mem ((c.tc : Thread Cert.OutInIdeal.nD Cert.OutInIdeal.τ).loc Cert.OutInIdeal.main_arg3) = m ((c.tc : Thread Cert.OutInIdeal.nD Cert.OutInIdeal.τ).loc Cert.OutInIdeal.main_arg3)
          ∧ r.2.mem ((c.tc : Thread Cert.OutInIdeal.nD Cert.OutInIdeal.τ).loc Cert.OutInIdeal.main_arg4) = m ((c.tc : Thread Cert.OutInIdeal.nD Cert.OutInIdeal.τ).loc Cert.OutInIdeal.main_arg4)
          ∧ r.2.mem ((c.tc : Thread Cert.OutInIdeal.nD Cert.OutInIdeal.τ).loc Cert.OutInIdeal.main_arg5) = m ((c.tc : Thread Cert.OutInIdeal.nD Cert.OutInIdeal.τ).loc Cert.OutInIdeal.main_arg5))
      ∧ θ_run (Cert.OutInRefIdeal.defs (F := Ideal)) (onTc (τ := Cert.OutInRefIdeal.τ) (Cert.OutInRefIdeal.main (F := Ideal))) ⟨m', fun _ => 0, g'⟩ (fun r => ∀ c : Dev Cert.OutInRefIdeal.nD,
          r.2.mem ((c.tc : Thread Cert.OutInRefIdeal.nD Cert.OutInRefIdeal.τ).loc Cert.OutInRefIdeal.main_v23) = v0 c
          ∧ r.2.mem ((c.tc : Thread Cert.OutInRefIdeal.nD Cert.OutInRefIdeal.τ).loc Cert.OutInRefIdeal.main_v24) = v1 c
          ∧ r.2.mem ((c.tc : Thread Cert.OutInRefIdeal.nD Cert.OutInRefIdeal.τ).loc Cert.OutInRefIdeal.main_v25) = v2 c
          ∧ r.2.mem ((c.tc : Thread Cert.OutInRefIdeal.nD Cert.OutInRefIdeal.τ).loc Cert.OutInRefIdeal.main_arg0) = m' ((c.tc : Thread Cert.OutInRefIdeal.nD Cert.OutInRefIdeal.τ).loc Cert.OutInRefIdeal.main_arg0)
          ∧ r.2.mem ((c.tc : Thread Cert.OutInRefIdeal.nD Cert.OutInRefIdeal.τ).loc Cert.OutInRefIdeal.main_arg1) = m' ((c.tc : Thread Cert.OutInRefIdeal.nD Cert.OutInRefIdeal.τ).loc Cert.OutInRefIdeal.main_arg1)
          ∧ r.2.mem ((c.tc : Thread Cert.OutInRefIdeal.nD Cert.OutInRefIdeal.τ).loc Cert.OutInRefIdeal.main_arg2) = m' ((c.tc : Thread Cert.OutInRefIdeal.nD Cert.OutInRefIdeal.τ).loc Cert.OutInRefIdeal.main_arg2)
          ∧ r.2.mem ((c.tc : Thread Cert.OutInRefIdeal.nD Cert.OutInRefIdeal.τ).loc Cert.OutInRefIdeal.main_arg3) = m' ((c.tc : Thread Cert.OutInRefIdeal.nD Cert.OutInRefIdeal.τ).loc Cert.OutInRefIdeal.main_arg3)
          ∧ r.2.mem ((c.tc : Thread Cert.OutInRefIdeal.nD Cert.OutInRefIdeal.τ).loc Cert.OutInRefIdeal.main_arg4) = m' ((c.tc : Thread Cert.OutInRefIdeal.nD Cert.OutInRefIdeal.τ).loc Cert.OutInRefIdeal.main_arg4)
          ∧ r.2.mem ((c.tc : Thread Cert.OutInRefIdeal.nD Cert.OutInRefIdeal.τ).loc Cert.OutInRefIdeal.main_arg5) = m' ((c.tc : Thread Cert.OutInRefIdeal.nD Cert.OutInRefIdeal.τ).loc Cert.OutInRefIdeal.main_arg5))

def preserves_QFwd_QFwdIdeal : Prop :=
  True

def algebraic_QFwdIdeal_QFwdRefIdeal [hQFwdIdeal : Cert.QFwdIdeal.Facts] [hQFwdRefIdeal : Cert.QFwdRefIdeal.Facts] : Prop :=
  ∀ (m : (ℓ : Loc Cert.QFwdIdeal.nD Cert.QFwdIdeal.τ Cert.QFwdIdeal.sig) → Buf (Elt Ideal) ℓ) (g : Dev Cert.QFwdIdeal.nD → PrngReg)
    (m' : (ℓ : Loc Cert.QFwdRefIdeal.nD Cert.QFwdRefIdeal.τ Cert.QFwdRefIdeal.sig) → Buf (Elt Ideal) ℓ) (g' : Dev Cert.QFwdRefIdeal.nD → PrngReg), Pre_QFwdIdeal m →
    (∀ c : Dev Cert.QFwdIdeal.nD,
      m' ((c.tc : Thread Cert.QFwdRefIdeal.nD Cert.QFwdRefIdeal.τ).loc Cert.QFwdRefIdeal.main_arg0) = m ((c.tc : Thread Cert.QFwdIdeal.nD Cert.QFwdIdeal.τ).loc Cert.QFwdIdeal.main_arg0)
      ∧ m' ((c.tc : Thread Cert.QFwdRefIdeal.nD Cert.QFwdRefIdeal.τ).loc Cert.QFwdRefIdeal.main_arg1) = m ((c.tc : Thread Cert.QFwdIdeal.nD Cert.QFwdIdeal.τ).loc Cert.QFwdIdeal.main_arg1)
      ∧ m' ((c.tc : Thread Cert.QFwdRefIdeal.nD Cert.QFwdRefIdeal.τ).loc Cert.QFwdRefIdeal.main_arg2) = m ((c.tc : Thread Cert.QFwdIdeal.nD Cert.QFwdIdeal.τ).loc Cert.QFwdIdeal.main_arg2)) →
    ∃ (v0 : (c : Dev Cert.QFwdIdeal.nD) → Buf (Elt Ideal) ((c.tc : Thread Cert.QFwdIdeal.nD Cert.QFwdIdeal.τ).loc Cert.QFwdIdeal.main_v32)),
      θ_run (Cert.QFwdIdeal.defs (F := Ideal)) (onTc (τ := Cert.QFwdIdeal.τ) (Cert.QFwdIdeal.main (F := Ideal))) ⟨m, fun _ => 0, g⟩ (fun r => ∀ c : Dev Cert.QFwdIdeal.nD,
          r.2.mem ((c.tc : Thread Cert.QFwdIdeal.nD Cert.QFwdIdeal.τ).loc Cert.QFwdIdeal.main_v32) = v0 c
          ∧ r.2.mem ((c.tc : Thread Cert.QFwdIdeal.nD Cert.QFwdIdeal.τ).loc Cert.QFwdIdeal.main_arg0) = m ((c.tc : Thread Cert.QFwdIdeal.nD Cert.QFwdIdeal.τ).loc Cert.QFwdIdeal.main_arg0)
          ∧ r.2.mem ((c.tc : Thread Cert.QFwdIdeal.nD Cert.QFwdIdeal.τ).loc Cert.QFwdIdeal.main_arg1) = m ((c.tc : Thread Cert.QFwdIdeal.nD Cert.QFwdIdeal.τ).loc Cert.QFwdIdeal.main_arg1)
          ∧ r.2.mem ((c.tc : Thread Cert.QFwdIdeal.nD Cert.QFwdIdeal.τ).loc Cert.QFwdIdeal.main_arg2) = m ((c.tc : Thread Cert.QFwdIdeal.nD Cert.QFwdIdeal.τ).loc Cert.QFwdIdeal.main_arg2))
      ∧ θ_run (Cert.QFwdRefIdeal.defs (F := Ideal)) (onTc (τ := Cert.QFwdRefIdeal.τ) (Cert.QFwdRefIdeal.main (F := Ideal))) ⟨m', fun _ => 0, g'⟩ (fun r => ∀ c : Dev Cert.QFwdRefIdeal.nD,
          r.2.mem ((c.tc : Thread Cert.QFwdRefIdeal.nD Cert.QFwdRefIdeal.τ).loc Cert.QFwdRefIdeal.main_v58) = v0 c
          ∧ r.2.mem ((c.tc : Thread Cert.QFwdRefIdeal.nD Cert.QFwdRefIdeal.τ).loc Cert.QFwdRefIdeal.main_arg0) = m' ((c.tc : Thread Cert.QFwdRefIdeal.nD Cert.QFwdRefIdeal.τ).loc Cert.QFwdRefIdeal.main_arg0)
          ∧ r.2.mem ((c.tc : Thread Cert.QFwdRefIdeal.nD Cert.QFwdRefIdeal.τ).loc Cert.QFwdRefIdeal.main_arg1) = m' ((c.tc : Thread Cert.QFwdRefIdeal.nD Cert.QFwdRefIdeal.τ).loc Cert.QFwdRefIdeal.main_arg1)
          ∧ r.2.mem ((c.tc : Thread Cert.QFwdRefIdeal.nD Cert.QFwdRefIdeal.τ).loc Cert.QFwdRefIdeal.main_arg2) = m' ((c.tc : Thread Cert.QFwdRefIdeal.nD Cert.QFwdRefIdeal.τ).loc Cert.QFwdRefIdeal.main_arg2))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)
      ∧ m' ((c.tc : Thread Cert.KvFwdRefIdeal.nD Cert.KvFwdRefIdeal.τ).loc Cert.KvFwdRefIdeal.main_arg3) = m ((c.tc : Thread Cert.KvFwdIdeal.nD Cert.KvFwdIdeal.τ).loc Cert.KvFwdIdeal.main_arg3)) →
    ∃ (v0 : (c : Dev Cert.KvFwdIdeal.nD) → Buf (Elt Ideal) ((c.tc : Thread Cert.KvFwdIdeal.nD Cert.KvFwdIdeal.τ).loc Cert.KvFwdIdeal.main_v30_0)) (v1 : (c : Dev Cert.KvFwdIdeal.nD) → Buf (Elt Ideal) ((c.tc : Thread Cert.KvFwdIdeal.nD Cert.KvFwdIdeal.τ).loc Cert.KvFwdIdeal.main_v30_1)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v30_0) = v0 c
          ∧ r.2.mem ((c.tc : Thread Cert.KvFwdIdeal.nD Cert.KvFwdIdeal.τ).loc Cert.KvFwdIdeal.main_v30_1) = v1 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2)
          ∧ r.2.mem ((c.tc : Thread Cert.KvFwdIdeal.nD Cert.KvFwdIdeal.τ).loc Cert.KvFwdIdeal.main_arg3) = m ((c.tc : Thread Cert.KvFwdIdeal.nD Cert.KvFwdIdeal.τ).loc Cert.KvFwdIdeal.main_arg3))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v54) = v0 c
          ∧ r.2.mem ((c.tc : Thread Cert.KvFwdRefIdeal.nD Cert.KvFwdRefIdeal.τ).loc Cert.KvFwdRefIdeal.main_v57) = v1 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2)
          ∧ r.2.mem ((c.tc : Thread Cert.KvFwdRefIdeal.nD Cert.KvFwdRefIdeal.τ).loc Cert.KvFwdRefIdeal.main_arg3) = m' ((c.tc : Thread Cert.KvFwdRefIdeal.nD Cert.KvFwdRefIdeal.τ).loc Cert.KvFwdRefIdeal.main_arg3))

def Claim : Prop :=
  ∃ (hBIn : Cert.BIn.Facts) (hBInIdeal : Cert.BInIdeal.Facts) (hBInRefIdeal : Cert.BInRefIdeal.Facts) (hFlash : Cert.Flash.Facts) (hFlashIdeal : Cert.FlashIdeal.Facts) (hFlashRefIdeal : Cert.FlashRefIdeal.Facts) (hGated : Cert.Gated.Facts) (hGatedIdeal : Cert.GatedIdeal.Facts) (hGatedRefIdeal : Cert.GatedRefIdeal.Facts) (hQProj : Cert.QProj.Facts) (hQProjIdeal : Cert.QProjIdeal.Facts) (hQProjRefIdeal : Cert.QProjRefIdeal.Facts) (hKvProj : Cert.KvProj.Facts) (hKvProjIdeal : Cert.KvProjIdeal.Facts) (hKvProjRefIdeal : Cert.KvProjRefIdeal.Facts) (hAIn : Cert.AIn.Facts) (hAInIdeal : Cert.AInIdeal.Facts) (hAInRefIdeal : Cert.AInRefIdeal.Facts) (hOutLoss : Cert.OutLoss.Facts) (hOutLossIdeal : Cert.OutLossIdeal.Facts) (hOutLossRefIdeal : Cert.OutLossRefIdeal.Facts) (hOutIn : Cert.OutIn.Facts) (hOutInIdeal : Cert.OutInIdeal.Facts) (hOutInRefIdeal : Cert.OutInRefIdeal.Facts) (hQFwd : Cert.QFwd.Facts) (hQFwdIdeal : Cert.QFwdIdeal.Facts) (hQFwdRefIdeal : Cert.QFwdRefIdeal.Facts) (hKvFwd : Cert.KvFwd.Facts) (hKvFwdIdeal : Cert.KvFwdIdeal.Facts) (hKvFwdRefIdeal : Cert.KvFwdRefIdeal.Facts) (hPre_finite_args : Cert.Pre_finite_args.Facts) (hPre_finite_flash : Cert.Pre_finite_flash.Facts) (hPre_finite_gated : Cert.Pre_finite_gated.Facts) (hPre_finite_q : Cert.Pre_finite_q.Facts) (hPre_finite_kv : Cert.Pre_finite_kv.Facts) (hPre_finite_a_in : Cert.Pre_finite_a_in.Facts) (hPre_finite_out_loss : Cert.Pre_finite_out_loss.Facts),
    quiescent_BIn (hBIn := hBIn)
    ∧ quiescent_BInIdeal (hBInIdeal := hBInIdeal)
    ∧ quiescent_BInIdeal_pre_finite_args (hBInIdeal := hBInIdeal) (hPre_finite_args := hPre_finite_args)
    ∧ quiescent_BInRefIdeal (hBInRefIdeal := hBInRefIdeal)
    ∧ quiescent_BInRefIdeal_pre_finite_args (hBInRefIdeal := hBInRefIdeal) (hPre_finite_args := hPre_finite_args)
    ∧ quiescent_Flash (hFlash := hFlash)
    ∧ quiescent_FlashIdeal (hFlashIdeal := hFlashIdeal)
    ∧ quiescent_FlashIdeal_pre_finite_flash (hFlashIdeal := hFlashIdeal) (hPre_finite_flash := hPre_finite_flash)
    ∧ quiescent_FlashRefIdeal (hFlashRefIdeal := hFlashRefIdeal)
    ∧ quiescent_FlashRefIdeal_pre_finite_flash (hFlashRefIdeal := hFlashRefIdeal) (hPre_finite_flash := hPre_finite_flash)
    ∧ quiescent_Gated (hGated := hGated)
    ∧ quiescent_GatedIdeal (hGatedIdeal := hGatedIdeal)
    ∧ quiescent_GatedIdeal_pre_finite_gated (hGatedIdeal := hGatedIdeal) (hPre_finite_gated := hPre_finite_gated)
    ∧ quiescent_GatedRefIdeal (hGatedRefIdeal := hGatedRefIdeal)
    ∧ quiescent_GatedRefIdeal_pre_finite_gated (hGatedRefIdeal := hGatedRefIdeal) (hPre_finite_gated := hPre_finite_gated)
    ∧ quiescent_QProj (hQProj := hQProj)
    ∧ quiescent_QProjIdeal (hQProjIdeal := hQProjIdeal)
    ∧ quiescent_QProjIdeal_pre_finite_q (hQProjIdeal := hQProjIdeal) (hPre_finite_q := hPre_finite_q)
    ∧ quiescent_QProjRefIdeal (hQProjRefIdeal := hQProjRefIdeal)
    ∧ quiescent_QProjRefIdeal_pre_finite_q (hQProjRefIdeal := hQProjRefIdeal) (hPre_finite_q := hPre_finite_q)
    ∧ quiescent_KvProj (hKvProj := hKvProj)
    ∧ quiescent_KvProjIdeal (hKvProjIdeal := hKvProjIdeal)
    ∧ quiescent_KvProjIdeal_pre_finite_kv (hKvProjIdeal := hKvProjIdeal) (hPre_finite_kv := hPre_finite_kv)
    ∧ quiescent_KvProjRefIdeal (hKvProjRefIdeal := hKvProjRefIdeal)
    ∧ quiescent_KvProjRefIdeal_pre_finite_kv (hKvProjRefIdeal := hKvProjRefIdeal) (hPre_finite_kv := hPre_finite_kv)
    ∧ quiescent_AIn (hAIn := hAIn)
    ∧ quiescent_AInIdeal (hAInIdeal := hAInIdeal)
    ∧ quiescent_AInIdeal_pre_finite_a_in (hAInIdeal := hAInIdeal) (hPre_finite_a_in := hPre_finite_a_in)
    ∧ quiescent_AInRefIdeal (hAInRefIdeal := hAInRefIdeal)
    ∧ quiescent_AInRefIdeal_pre_finite_a_in (hAInRefIdeal := hAInRefIdeal) (hPre_finite_a_in := hPre_finite_a_in)
    ∧ quiescent_OutLoss (hOutLoss := hOutLoss)
    ∧ quiescent_OutLossIdeal (hOutLossIdeal := hOutLossIdeal)
    ∧ quiescent_OutLossIdeal_pre_finite_out_loss (hOutLossIdeal := hOutLossIdeal) (hPre_finite_out_loss := hPre_finite_out_loss)
    ∧ quiescent_OutLossRefIdeal (hOutLossRefIdeal := hOutLossRefIdeal)
    ∧ quiescent_OutLossRefIdeal_pre_finite_out_loss (hOutLossRefIdeal := hOutLossRefIdeal) (hPre_finite_out_loss := hPre_finite_out_loss)
    ∧ quiescent_OutIn (hOutIn := hOutIn)
    ∧ quiescent_OutInIdeal (hOutInIdeal := hOutInIdeal)
    ∧ quiescent_OutInRefIdeal (hOutInRefIdeal := hOutInRefIdeal)
    ∧ quiescent_QFwd (hQFwd := hQFwd)
    ∧ quiescent_QFwdIdeal (hQFwdIdeal := hQFwdIdeal)
    ∧ quiescent_QFwdRefIdeal (hQFwdRefIdeal := hQFwdRefIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ preserves_BIn_BInIdeal
    ∧ algebraic_BInIdeal_BInRefIdeal_pre_finite_args (hBInIdeal := hBInIdeal) (hBInRefIdeal := hBInRefIdeal) (hPre_finite_args := hPre_finite_args)
    ∧ preserves_Flash_FlashIdeal
    ∧ algebraic_FlashIdeal_FlashRefIdeal_pre_finite_flash (hFlashIdeal := hFlashIdeal) (hFlashRefIdeal := hFlashRefIdeal) (hPre_finite_flash := hPre_finite_flash)
    ∧ preserves_Gated_GatedIdeal
    ∧ algebraic_GatedIdeal_GatedRefIdeal_pre_finite_gated (hGatedIdeal := hGatedIdeal) (hGatedRefIdeal := hGatedRefIdeal) (hPre_finite_gated := hPre_finite_gated)
    ∧ preserves_QProj_QProjIdeal
    ∧ algebraic_QProjIdeal_QProjRefIdeal_pre_finite_q (hQProjIdeal := hQProjIdeal) (hQProjRefIdeal := hQProjRefIdeal) (hPre_finite_q := hPre_finite_q)
    ∧ preserves_KvProj_KvProjIdeal
    ∧ algebraic_KvProjIdeal_KvProjRefIdeal_pre_finite_kv (hKvProjIdeal := hKvProjIdeal) (hKvProjRefIdeal := hKvProjRefIdeal) (hPre_finite_kv := hPre_finite_kv)
    ∧ preserves_AIn_AInIdeal
    ∧ algebraic_AInIdeal_AInRefIdeal_pre_finite_a_in (hAInIdeal := hAInIdeal) (hAInRefIdeal := hAInRefIdeal) (hPre_finite_a_in := hPre_finite_a_in)
    ∧ preserves_OutLoss_OutLossIdeal
    ∧ algebraic_OutLossIdeal_OutLossRefIdeal_pre_finite_out_loss (hOutLossIdeal := hOutLossIdeal) (hOutLossRefIdeal := hOutLossRefIdeal) (hPre_finite_out_loss := hPre_finite_out_loss)
    ∧ preserves_OutIn_OutInIdeal
    ∧ algebraic_OutInIdeal_OutInRefIdeal (hOutInIdeal := hOutInIdeal) (hOutInRefIdeal := hOutInRefIdeal)
    ∧ preserves_QFwd_QFwdIdeal
    ∧ algebraic_QFwdIdeal_QFwdRefIdeal (hQFwdIdeal := hQFwdIdeal) (hQFwdRefIdeal := hQFwdRefIdeal)
    ∧ preserves_KvFwd_KvFwdIdeal
    ∧ algebraic_KvFwdIdeal_KvFwdRefIdeal (hKvFwdIdeal := hKvFwdIdeal) (hKvFwdRefIdeal := hKvFwdRefIdeal)
-- ==== Pre_finite_a_in.lean ====
abbrev S4112x1024 : Shape := ⟨2, ![4112, 1024]⟩
abbrev S1x1024 : Shape := ⟨2, ![1, 1024]⟩
abbrev S1x1024x1728 : Shape := ⟨3, ![1, 1024, 1728]⟩
abbrev S4112x384 : Shape := ⟨2, ![4112, 384]⟩
abbrev S4112x256 : Shape := ⟨2, ![4112, 256]⟩
abbrev S4112x64 : Shape := ⟨2, ![4112, 64]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x1728 : S_.BroadcastsInDim S1x1024x1728 (![] : Fin 0 → Fin S1x1024x1728.rank)
  reducesTo_S1x1024x1728_S_d0_1_2 : S1x1024x1728.ReducesTo [0, 1, 2] S_
  bcast_S_S4112x384 : S_.BroadcastsInDim S4112x384 (![] : Fin 0 → Fin S4112x384.rank)
  reducesTo_S4112x384_S_d0_1 : S4112x384.ReducesTo [0, 1] S_
  bcast_S_S4112x256 : S_.BroadcastsInDim S4112x256 (![] : Fin 0 → Fin S4112x256.rank)
  reducesTo_S4112x256_S_d0_1 : S4112x256.ReducesTo [0, 1] S_
  bcast_S_S4112x64 : S_.BroadcastsInDim S4112x64 (![] : Fin 0 → Fin S4112x64.rank)
  reducesTo_S4112x64_S_d0_1 : S4112x64.ReducesTo [0, 1] S_

variable [Facts]

def fn_part1 {F : FTy → Type} [FloatOps F] (main_arg4 : FVec F S4112x256 .f32) (main_arg5 : FVec F S4112x64 .f32) (main_arg6 : FVec F S4112x1024 .f32) (main_v13 : IVec S_ 1) (main_v16 : IVec S4112x384 1) : IVec S_ 1 :=
  let main_c_5 : IVec S_ 1 := constantI S_ 1 1#1
  let main_v17 : IVec S_ 1 := (fun x v => Host.reduce IntOp.andi x v reducesTo_S4112x384_S_d0_1 h_S_) main_v16 main_c_5
  let main_v18 : IVec S_ 1 := andi main_v13 main_v17
  let main_v19 : FVec F S4112x256 .f32 := Host.absf main_arg4
  let main_cst_6 : FVec F S_ .f32 := constant S_ .f32 0x7F800000#32
  let main_v20 : FVec F S4112x256 .f32 := broadcastInDim S4112x256 ![] bcast_S_S4112x256 main_cst_6
  let main_v21 : IVec S4112x256 1 := cmpf .olt main_v19 main_v20
  let main_c_7 : IVec S_ 1 := constantI S_ 1 1#1
  let main_v22 : IVec S_ 1 := (fun x v => Host.reduce IntOp.andi x v reducesTo_S4112x256_S_d0_1 h_S_) main_v21 main_c_7
  let main_v23 : IVec S_ 1 := andi main_v18 main_v22
  let main_v24 : FVec F S4112x64 .f32 := Host.absf main_arg5
  let main_cst_8 : FVec F S_ .f32 := constant S_ .f32 0x7F800000#32
  let main_v25 : FVec F S4112x64 .f32 := broadcastInDim S4112x64 ![] bcast_S_S4112x64 main_cst_8
  let main_v26 : IVec S4112x64 1 := cmpf .olt main_v24 main_v25
  let main_c_9 : IVec S_ 1 := constantI S_ 1 1#1
  let main_v27 : IVec S_ 1 := (fun x v => Host.reduce IntOp.andi x v reducesTo_S4112x64_S_d0_1 h_S_) main_v26 main_c_9
  let main_v28 : IVec S_ 1 := andi main_v23 main_v27
  let main_v29 : FVec F S4112x1024 .f32 := Host.absf main_arg6
  let main_cst_10 : FVec F S_ .f32 := constant S_ .f32 0x7F800000#32
  let main_v30 : FVec F S4112x1024 .f32 := broadcastInDim S4112x1024 ![] bcast_S_S4112x1024 main_cst_10
  let main_v31 : IVec S4112x1024 1 := cmpf .olt main_v29 main_v30
  let main_c_11 : IVec S_ 1 := constantI S_ 1 1#1
  let main_v32 : IVec S_ 1 := (fun x v => Host.reduce IntOp.andi x v reducesTo_S4112x1024_S_d0_1 h_S_) main_v31 main_c_11
  let main_v33 : IVec S_ 1 := andi main_v28 main_v32
  main_v33

def fn {F : FTy → Type} [FloatOps F] (main_arg0 : FVec F S4112x1024 .f32) (main_arg1 : FVec F S1x1024 .f32) (main_arg2 : FVec F S1x1024x1728 .f32) (main_arg3 : FVec F S4112x384 .f32) (main_arg4 : FVec F S4112x256 .f32) (main_arg5 : FVec F S4112x64 .f32) (main_arg6 : FVec F S4112x1024 .f32) (main_arg7 : FVec F S4112x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x1728 .f32 := Host.absf main_arg2
  let main_cst_2 : FVec F S_ .f32 := constant S_ .f32 0x7F800000#32
  let main_v10 : FVec F S1x1024x1728 .f32 := broadcastInDim S1x1024x1728 ![] bcast_S_S1x1024x1728 main_cst_2
  let main_v11 : IVec S1x1024x1728 1 := cmpf .olt main_v9 main_v10
  let main_c_3 : IVec S_ 1 := constantI S_ 1 1#1
  let main_v12 : IVec S_ 1 := (fun x v => Host.reduce IntOp.andi x v reducesTo_S1x1024x1728_S_d0_1_2 h_S_) main_v11 main_c_3
  let main_v13 : IVec S_ 1 := andi main_v8 main_v12
  let main_v14 : FVec F S4112x384 .f32 := Host.absf main_arg3
  let main_cst_4 : FVec F S_ .f32 := constant S_ .f32 0x7F800000#32
  let main_v15 : FVec F S4112x384 .f32 := broadcastInDim S4112x384 ![] bcast_S_S4112x384 main_cst_4
  let main_v16 : IVec S4112x384 1 := cmpf .olt main_v14 main_v15
  fn_part1 (F := F) main_arg4 main_arg5 main_arg6 main_v13 main_v16
-- ==== Pre_finite_args.lean ====
abbrev S4112x1024 : Shape := ⟨2, ![4112, 1024]⟩
abbrev S1x1024 : Shape := ⟨2, ![1, 1024]⟩
abbrev S1x1024x2048 : Shape := ⟨3, ![1, 1024, 2048]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x2048 : S_.BroadcastsInDim S1x1024x2048 (![] : Fin 0 → Fin S1x1024x2048.rank)
  reducesTo_S1x1024x2048_S_d0_1_2 : S1x1024x2048.ReducesTo [0, 1, 2] S_

variable [Facts]

def fn_part1 {F : FTy → Type} [FloatOps F] (main_arg4 : FVec F S4112x1024 .f32) (main_v13 : IVec S_ 1) (main_v16 : IVec S4112x1024 1) : IVec S_ 1 :=
  let main_c_5 : IVec S_ 1 := constantI S_ 1 1#1
  let main_v17 : IVec S_ 1 := (fun x v => Host.reduce IntOp.andi x v reducesTo_S4112x1024_S_d0_1 h_S_) main_v16 main_c_5
  let main_v18 : IVec S_ 1 := andi main_v13 main_v17
  let main_v19 : FVec F S4112x1024 .f32 := Host.absf main_arg4
  let main_cst_6 : FVec F S_ .f32 := constant S_ .f32 0x7F800000#32
  let main_v20 : FVec F S4112x1024 .f32 := broadcastInDim S4112x1024 ![] bcast_S_S4112x1024 main_cst_6
  let main_v21 : IVec S4112x1024 1 := cmpf .olt main_v19 main_v20
  let main_c_7 : IVec S_ 1 := constantI S_ 1 1#1
  let main_v22 : IVec S_ 1 := (fun x v => Host.reduce IntOp.andi x v reducesTo_S4112x1024_S_d0_1 h_S_) main_v21 main_c_7
  let main_v23 : IVec S_ 1 := andi main_v18 main_v22
  main_v23

def fn {F : FTy → Type} [FloatOps F] (main_arg0 : FVec F S4112x1024 .f32) (main_arg1 : FVec F S1x1024 .f32) (main_arg2 : FVec F S1x1024x2048 .f32) (main_arg3 : FVec F S4112x1024 .f32) (main_arg4 : FVec F S4112x1024 .f32) (main_arg5 : FVec F S4112x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x2048 .f32 := Host.absf main_arg2
  let main_cst_2 : FVec F S_ .f32 := constant S_ .f32 0x7F800000#32
  let main_v10 : FVec F S1x1024x2048 .f32 := broadcastInDim S1x1024x2048 ![] bcast_S_S1x1024x2048 main_cst_2
  let main_v11 : IVec S1x1024x2048 1 := cmpf .olt main_v9 main_v10
  let main_c_3 : IVec S_ 1 := constantI S_ 1 1#1
  let main_v12 : IVec S_ 1 := (fun x v => Host.reduce IntOp.andi x v reducesTo_S1x1024x2048_S_d0_1_2 h_S_) main_v11 main_c_3
  let main_v13 : IVec S_ 1 := andi main_v8 main_v12
  let main_v14 : FVec F S4112x1024 .f32 := Host.absf main_arg3
  let main_cst_4 : FVec F S_ .f32 := constant S_ .f32 0x7F800000#32
  let main_v15 : FVec F S4112x1024 .f32 := broadcastInDim S4112x1024 ![] bcast_S_S4112x1024 main_cst_4
  let main_v16 : IVec S4112x1024 1 := cmpf .olt main_v14 main_v15
  fn_part1 (F := F) main_arg4 main_v13 main_v16
-- ==== Pre_finite_flash.lean ====
abbrev S4112x8x192 : Shape := ⟨3, ![4112, 8, 192]⟩
abbrev S4112x8x128 : Shape := ⟨3, ![4112, 8, 128]⟩
abbrev S_ : Shape := ⟨0, ![]⟩

class Facts : Prop where
  bcast_S_S4112x8x192 : S_.BroadcastsInDim S4112x8x192 (![] : Fin 0 → Fin S4112x8x192.rank)
  reducesTo_S4112x8x192_S_d0_1_2 : S4112x8x192.ReducesTo [0, 1, 2] S_
  h_S_ : 0 < S_.numel
  bcast_S_S4112x8x128 : S_.BroadcastsInDim S4112x8x128 (![] : Fin 0 → Fin S4112x8x128.rank)
  reducesTo_S4112x8x128_S_d0_1_2 : S4112x8x128.ReducesTo [0, 1, 2] S_

variable [Facts]

def fn_part1 {F : FTy → Type} [FloatOps F] (main_v13 : IVec S_ 1) (main_v16 : IVec S4112x8x128 1) : IVec S_ 1 :=
  let main_c_5 : IVec S_ 1 := constantI S_ 1 1#1
  let main_v17 : IVec S_ 1 := (fun x v => Host.reduce IntOp.andi x v reducesTo_S4112x8x128_S_d0_1_2 h_S_) main_v16 main_c_5
  let main_v18 : IVec S_ 1 := andi main_v13 main_v17
  main_v18

def fn {F : FTy → Type} [FloatOps F] (main_arg0 : FVec F S4112x8x192 .f32) (main_arg1 : FVec F S4112x8x192 .f32) (main_arg2 : FVec F S4112x8x128 .f32) (main_arg3 : FVec F S4112x8x128 .f32) : IVec S_ 1 :=
  let main_v0 : FVec F S4112x8x192 .f32 := Host.absf main_arg0
  let main_cst : FVec F S_ .f32 := constant S_ .f32 0x7F800000#32
  let main_v1 : FVec F S4112x8x192 .f32 := broadcastInDim S4112x8x192 ![] bcast_S_S4112x8x192 main_cst
  let main_v2 : IVec S4112x8x192 1 := cmpf .olt main_v0 main_v1
  let main_c : IVec S_ 1 := constantI S_ 1 1#1
  let main_v3 : IVec S_ 1 := (fun x v => Host.reduce IntOp.andi x v reducesTo_S4112x8x192_S_d0_1_2 h_S_) main_v2 main_c
  let main_v4 : FVec F S4112x8x192 .f32 := Host.absf main_arg1
  let main_cst_0 : FVec F S_ .f32 := constant S_ .f32 0x7F800000#32
  let main_v5 : FVec F S4112x8x192 .f32 := broadcastInDim S4112x8x192 ![] bcast_S_S4112x8x192 main_cst_0
  let main_v6 : IVec S4112x8x192 1 := cmpf .olt main_v4 main_v5
  let main_c_1 : IVec S_ 1 := constantI S_ 1 1#1
  let main_v7 : IVec S_ 1 := (fun x v => Host.reduce IntOp.andi x v reducesTo_S4112x8x192_S_d0_1_2 h_S_) main_v6 main_c_1
  let main_v8 : IVec S_ 1 := andi main_v3 main_v7
  let main_v9 : FVec F S4112x8x128 .f32 := Host.absf main_arg2
  let main_cst_2 : FVec F S_ .f32 := constant S_ .f32 0x7F800000#32
  let main_v10 : FVec F S4112x8x128 .f32 := broadcastInDim S4112x8x128 ![] bcast_S_S4112x8x128 main_cst_2
  let main_v11 : IVec S4112x8x128 1 := cmpf .olt main_v9 main_v10
  let main_c_3 : IVec S_ 1 := constantI S_ 1 1#1
  let main_v12 : IVec S_ 1 := (fun x v => Host.reduce IntOp.andi x v reducesTo_S4112x8x128_S_d0_1_2 h_S_) main_v11 main_c_3
  let main_v13 : IVec S_ 1 := andi main_v8 main_v12
  let main_v14 : FVec F S4112x8x128 .f32 := Host.absf main_arg3
  let main_cst_4 : FVec F S_ .f32 := constant S_ .f32 0x7F800000#32
  let main_v15 : FVec F S4112x8x128 .f32 := broadcastInDim S4112x8x128 ![] bcast_S_S4112x8x128 main_cst_4
  let main_v16 : IVec S4112x8x128 1 := cmpf .olt main_v14 main_v15
  fn_part1 (F := F) main_v13 main_v16
-- ==== Pre_finite_gated.lean ====
abbrev S4112x1024 : Shape := ⟨2, ![4112, 1024]⟩
abbrev S1x1024x1024 : Shape := ⟨3, ![1, 1024, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn {F : FTy → Type} [FloatOps F] (main_arg0 : FVec F S4112x1024 .f32) (main_arg1 : FVec F S4112x1024 .f32) (main_arg2 : FVec F S4112x1024 .f32) (main_arg3 : FVec F S1x1024x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S4112x1024 .f32 := Host.absf main_arg1
  let main_cst_0 : FVec F S_ .f32 := constant S_ .f32 0x7F800000#32
  let main_v5 : FVec F S4112x1024 .f32 := broadcastInDim S4112x1024 ![] bcast_S_S4112x1024 main_cst_0
  let main_v6 : IVec S4112x1024 1 := cmpf .olt main_v4 main_v5
  let main_c_1 : IVec S_ 1 := constantI S_ 1 1#1
  let main_v7 : IVec S_ 1 := (fun x v => Host.reduce IntOp.andi x v reducesTo_S4112x1024_S_d0_1 h_S_) main_v6 main_c_1
  let main_v8 : IVec S_ 1 := andi main_v3 main_v7
  let main_v9 : FVec F S1x1024x1024 .f32 := Host.absf main_arg3
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  main_v13
-- ==== Pre_finite_kv.lean ====
abbrev S4112x256 : Shape := ⟨2, ![4112, 256]⟩
abbrev S4112x64 : Shape := ⟨2, ![4112, 64]⟩
abbrev S1x256 : Shape := ⟨2, ![1, 256]⟩
abbrev S1x256x2048 : Shape := ⟨3, ![1, 256, 2048]⟩
abbrev S4112x8x192 : Shape := ⟨3, ![4112, 8, 192]⟩
abbrev S4112x8x128 : Shape := ⟨3, ![4112, 8, 128]⟩
abbrev S_ : Shape := ⟨0, ![]⟩

class Facts : Prop where
  bcast_S_S4112x256 : S_.BroadcastsInDim S4112x256 (![] : Fin 0 → Fin S4112x256.rank)
  reducesTo_S4112x256_S_d0_1 : S4112x256.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S1x256x2048 : S_.BroadcastsInDim S1x256x2048 (![] : Fin 0 → Fin S1x256x2048.rank)
  reducesTo_S1x256x2048_S_d0_1_2 : S1x256x2048.ReducesTo [0, 1, 2] S_
  bcast_S_S4112x8x192 : S_.BroadcastsInDim S4112x8x192 (![] : Fin 0 → Fin S4112x8x192.rank)
  reducesTo_S4112x8x192_S_d0_1_2 : S4112x8x192.ReducesTo [0, 1, 2] S_
  bcast_S_S4112x8x128 : S_.BroadcastsInDim S4112x8x128 (![] : Fin 0 → Fin S4112x8x128.rank)
  reducesTo_S4112x8x128_S_d0_1_2 : S4112x8x128.ReducesTo [0, 1, 2] S_

variable [Facts]

def fn_part1 {F : FTy → Type} [FloatOps F] (main_arg5 : FVec F S4112x8x128 .f32) (main_v13 : IVec S_ 1) (main_v16 : IVec S4112x8x192 1) : IVec S_ 1 :=
  let main_c_5 : IVec S_ 1 := constantI S_ 1 1#1
  let main_v17 : IVec S_ 1 := (fun x v => Host.reduce IntOp.andi x v reducesTo_S4112x8x192_S_d0_1_2 h_S_) main_v16 main_c_5
  let main_v18 : IVec S_ 1 := andi main_v13 main_v17
  let main_v19 : FVec F S4112x8x128 .f32 := Host.absf main_arg5
  let main_cst_6 : FVec F S_ .f32 := constant S_ .f32 0x7F800000#32
  let main_v20 : FVec F S4112x8x128 .f32 := broadcastInDim S4112x8x128 ![] bcast_S_S4112x8x128 main_cst_6
  let main_v21 : IVec S4112x8x128 1 := cmpf .olt main_v19 main_v20
  let main_c_7 : IVec S_ 1 := constantI S_ 1 1#1
  let main_v22 : IVec S_ 1 := (fun x v => Host.reduce IntOp.andi x v reducesTo_S4112x8x128_S_d0_1_2 h_S_) main_v21 main_c_7
  let main_v23 : IVec S_ 1 := andi main_v18 main_v22
  main_v23

def fn {F : FTy → Type} [FloatOps F] (main_arg0 : FVec F S4112x256 .f32) (main_arg1 : FVec F S4112x64 .f32) (main_arg2 : FVec F S1x256 .f32) (main_arg3 : FVec F S1x256x2048 .f32) (main_arg4 : FVec F S4112x8x192 .f32) (main_arg5 : FVec F S4112x8x128 .f32) : IVec S_ 1 :=
  let main_v0 : FVec F S4112x256 .f32 := Host.absf main_arg0
  let main_cst : FVec F S_ .f32 := constant S_ .f32 0x7F800000#32
  let main_v1 : FVec F S4112x256 .f32 := broadcastInDim S4112x256 ![] bcast_S_S4112x256 main_cst
  let main_v2 : IVec S4112x256 1 := cmpf .olt main_v0 main_v1
  let main_c : IVec S_ 1 := constantI S_ 1 1#1
  let main_v3 : IVec S_ 1 := (fun x v => Host.reduce IntOp.andi x v reducesTo_S4112x256_S_d0_1 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1x256x2048 .f32 := Host.absf main_arg3
  let main_cst_2 : FVec F S_ .f32 := constant S_ .f32 0x7F800000#32
  let main_v10 : FVec F S1x256x2048 .f32 := broadcastInDim S1x256x2048 ![] bcast_S_S1x256x2048 main_cst_2
  let main_v11 : IVec S1x256x2048 1 := cmpf .olt main_v9 main_v10
  let main_c_3 : IVec S_ 1 := constantI S_ 1 1#1
  let main_v12 : IVec S_ 1 := (fun x v => Host.reduce IntOp.andi x v reducesTo_S1x256x2048_S_d0_1_2 h_S_) main_v11 main_c_3
  let main_v13 : IVec S_ 1 := andi main_v8 main_v12
  let main_v14 : FVec F S4112x8x192 .f32 := Host.absf main_arg4
  let main_cst_4 : FVec F S_ .f32 := constant S_ .f32 0x7F800000#32
  let main_v15 : FVec F S4112x8x192 .f32 := broadcastInDim S4112x8x192 ![] bcast_S_S4112x8x192 main_cst_4
  let main_v16 : IVec S4112x8x192 1 := cmpf .olt main_v14 main_v15
  fn_part1 (F := F) main_arg5 main_v13 main_v16
-- ==== Pre_finite_out_loss.lean ====
abbrev S4112x1024 : Shape := ⟨2, ![4112, 1024]⟩
abbrev S1x1024x1024 : Shape := ⟨3, ![1, 1024, 1024]⟩
abbrev S1024 : Shape := ⟨1, ![1024]⟩
abbrev S4096x1024 : Shape := ⟨2, ![4096, 1024]⟩
abbrev S_ : Shape := ⟨0, ![]⟩

class Facts : Prop where
  bcast_S_S4112x1024 : S_.BroadcastsInDim S4112x1024 (![] : Fin 0 → Fin S4112x1024.rank)
  reducesTo_S4112x1024_S_d0_1 : S4112x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S4096x1024 .f32) (main_v13 : IVec S_ 1) (main_v16 : IVec S4112x1024 1) : IVec S_ 1 :=
  let main_c_5 : IVec S_ 1 := constantI S_ 1 1#1
  let main_v17 : IVec S_ 1 := (fun x v => Host.reduce IntOp.andi x v reducesTo_S4112x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4112x1024 .f32) (main_arg1 : FVec F S4112x1024 .f32) (main_arg2 : FVec F S1x1024x1024 .f32) (main_arg3 : FVec F S4112x1024 .f32) (main_arg4 : FVec F S1024 .f32) (main_arg5 : FVec F S4096x1024 .f32) : IVec S_ 1 :=
  let main_v0 : FVec F S4112x1024 .f32 := Host.absf main_arg0
  let main_cst : FVec F S_ .f32 := constant S_ .f32 0x7F800000#32
  let main_v1 : FVec F S4112x1024 .f32 := broadcastInDim S4112x1024 ![] bcast_S_S4112x1024 main_cst
  let main_v2 : IVec S4112x1024 1 := cmpf .olt main_v0 main_v1
  let main_c : IVec S_ 1 := constantI S_ 1 1#1
  let main_v3 : IVec S_ 1 := (fun x v => Host.reduce IntOp.andi x v reducesTo_S4112x1024_S_d0_1 h_S_) main_v2 main_c
  let main_v4 : FVec F S4112x1024 .f32 := Host.absf main_arg1
  let main_cst_0 : FVec F S_ .f32 := constant S_ .f32 0x7F800000#32
  let main_v5 : FVec F S4112x1024 .f32 := broadcastInDim S4112x1024 ![] bcast_S_S4112x1024 main_cst_0
  let main_v6 : IVec S4112x1024 1 := cmpf .olt main_v4 main_v5
  let main_c_1 : IVec S_ 1 := constantI S_ 1 1#1
  let main_v7 : IVec S_ 1 := (fun x v => Host.reduce IntOp.andi x v reducesTo_S4112x1024_S_d0_1 h_S_) main_v6 main_c_1
  let main_v8 : IVec S_ 1 := andi main_v3 main_v7
  let main_v9 : FVec F S1x1024x1024 .f32 := Host.absf main_arg2
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S4112x1024 .f32 := Host.absf main_arg3
  let main_cst_4 : FVec F S_ .f32 := constant S_ .f32 0x7F800000#32
  let main_v15 : FVec F S4112x1024 .f32 := broadcastInDim S4112x1024 ![] bcast_S_S4112x1024 main_cst_4
  let main_v16 : IVec S4112x1024 1 := cmpf .olt main_v14 main_v15
  fn_part1 (F := F) main_arg4 main_arg5 main_v13 main_v16
-- ==== Pre_finite_q.lean ====
abbrev S4112x384 : Shape := ⟨2, ![4112, 384]⟩
abbrev S1x384 : Shape := ⟨2, ![1, 384]⟩
abbrev S1x384x1536 : Shape := ⟨3, ![1, 384, 1536]⟩
abbrev S4112x8x192 : Shape := ⟨3, ![4112, 8, 192]⟩
abbrev S_ : Shape := ⟨0, ![]⟩

class Facts : Prop where
  bcast_S_S4112x384 : S_.BroadcastsInDim S4112x384 (![] : Fin 0 → Fin S4112x384.rank)
  reducesTo_S4112x384_S_d0_1 : S4112x384.ReducesTo [0, 1] S_
  h_S_ : 0 < S_.numel
  bcast_S_S1x384 : S_.BroadcastsInDim S1x384 (![] : Fin 0 → Fin S1x384.rank)
  reducesTo_S1x384_S_d0_1 : S1x384.ReducesTo [0, 1] S_
  bcast_S_S1x384x1536 : S_.BroadcastsInDim S1x384x1536 (![] : Fin 0 → Fin S1x384x1536.rank)
  reducesTo_S1x384x1536_S_d0_1_2 : S1x384x1536.ReducesTo [0, 1, 2] S_
  bcast_S_S4112x8x192 : S_.BroadcastsInDim S4112x8x192 (![] : Fin 0 → Fin S4112x8x192.rank)
  reducesTo_S4112x8x192_S_d0_1_2 : S4112x8x192.ReducesTo [0, 1, 2] S_

variable [Facts]

def fn_part1 {F : FTy → Type} [FloatOps F] (main_v13 : IVec S_ 1) (main_v16 : IVec S4112x8x192 1) : IVec S_ 1 :=
  let main_c_5 : IVec S_ 1 := constantI S_ 1 1#1
  let main_v17 : IVec S_ 1 := (fun x v => Host.reduce IntOp.andi x v reducesTo_S4112x8x192_S_d0_1_2 h_S_) main_v16 main_c_5
  let main_v18 : IVec S_ 1 := andi main_v13 main_v17
  main_v18

def fn {F : FTy → Type} [FloatOps F] (main_arg0 : FVec F S4112x384 .f32) (main_arg1 : FVec F S1x384 .f32) (main_arg2 : FVec F S1x384x1536 .f32) (main_arg3 : FVec F S4112x8x192 .f32) : IVec S_ 1 :=
  let main_v0 : FVec F S4112x384 .f32 := Host.absf main_arg0
  let main_cst : FVec F S_ .f32 := constant S_ .f32 0x7F800000#32
  let main_v1 : FVec F S4112x384 .f32 := broadcastInDim S4112x384 ![] bcast_S_S4112x384 main_cst
  let main_v2 : IVec S4112x384 1 := cmpf .olt main_v0 main_v1
  let main_c : IVec S_ 1 := constantI S_ 1 1#1
  let main_v3 : IVec S_ 1 := (fun x v => Host.reduce IntOp.andi x v reducesTo_S4112x384_S_d0_1 h_S_) main_v2 main_c
  let main_v4 : FVec F S1x384 .f32 := Host.absf main_arg1
  let main_cst_0 : FVec F S_ .f32 := constant S_ .f32 0x7F800000#32
  let main_v5 : FVec F S1x384 .f32 := broadcastInDim S1x384 ![] bcast_S_S1x384 main_cst_0
  let main_v6 : IVec S1x384 1 := cmpf .olt main_v4 main_v5
  let main_c_1 : IVec S_ 1 := constantI S_ 1 1#1
  let main_v7 : IVec S_ 1 := (fun x v => Host.reduce IntOp.andi x v reducesTo_S1x384_S_d0_1 h_S_) main_v6 main_c_1
  let main_v8 : IVec S_ 1 := andi main_v3 main_v7
  let main_v9 : FVec F S1x384x1536 .f32 := Host.absf main_arg2
  let main_cst_2 : FVec F S_ .f32 := constant S_ .f32 0x7F800000#32
  let main_v10 : FVec F S1x384x1536 .f32 := broadcastInDim S1x384x1536 ![] bcast_S_S1x384x1536 main_cst_2
  let main_v11 : IVec S1x384x1536 1 := cmpf .olt main_v9 main_v10
  let main_c_3 : IVec S_ 1 := constantI S_ 1 1#1
  let main_v12 : IVec S_ 1 := (fun x v => Host.reduce IntOp.andi x v reducesTo_S1x384x1536_S_d0_1_2 h_S_) main_v11 main_c_3
  let main_v13 : IVec S_ 1 := andi main_v8 main_v12
  let main_v14 : FVec F S4112x8x192 .f32 := Host.absf main_arg3
  let main_cst_4 : FVec F S_ .f32 := constant S_ .f32 0x7F800000#32
  let main_v15 : FVec F S4112x8x192 .f32 := broadcastInDim S4112x8x192 ![] bcast_S_S4112x8x192 main_cst_4
  let main_v16 : IVec S4112x8x192 1 := cmpf .olt main_v14 main_v15
  fn_part1 (F := F) main_v13 main_v16
-- ==== BIn.lean ====
abbrev S4112x1024 : Shape := ⟨2, ![4112, 1024]⟩
abbrev S1x1024 : Shape := ⟨2, ![1, 1024]⟩
abbrev S1x1024x2048 : Shape := ⟨3, ![1, 1024, 2048]⟩
abbrev S_ : Shape := ⟨0, ![]⟩
abbrev S4224x1024 : Shape := ⟨2, ![4224, 1024]⟩
abbrev S1024x2048 : Shape := ⟨2, ![1024, 2048]⟩
abbrev S384x1024 : Shape := ⟨2, ![384, 1024]⟩
abbrev S384x2048 : Shape := ⟨2, ![384, 2048]⟩
abbrev S384 : Shape := ⟨1, ![384]⟩
abbrev S384x1 : Shape := ⟨2, ![384, 1]⟩
abbrev S1024 : Shape := ⟨1, ![1024]⟩

abbrev nBuf : Space → Nat
  | .hbm => 25
  | .vmem => 15
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2048, .f32⟩
  | .hbm, ⟨3, _⟩ => ⟨S4112x1024, .f32⟩
  | .hbm, ⟨4, _⟩ => ⟨S4112x1024, .f32⟩
  | .hbm, ⟨5, _⟩ => ⟨S4112x1024, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S1024x2048, .f32⟩
  | .hbm, ⟨10, _⟩ => ⟨S1024x2048, .bf16⟩
  | .hbm, ⟨11, _⟩ => ⟨S_, .i32⟩
  | .hbm, ⟨12, _⟩ => ⟨S_, .f32⟩
  | .hbm, ⟨13, _⟩ => ⟨S4224x1024, .f32⟩
  | .hbm, ⟨14, _⟩ => ⟨S4224x1024, .bf16⟩
  | .hbm, ⟨15, _⟩ => ⟨S_, .i32⟩
  | .hbm, ⟨16, _⟩ => ⟨S_, .f32⟩
  | .hbm, ⟨17, _⟩ => ⟨S4224x1024, .f32⟩
  | .hbm, ⟨18, _⟩ => ⟨S4224x1024, .bf16⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S4224x1024, .f32⟩
  | .hbm, ⟨23, _⟩ => ⟨S1024x2048, .f32⟩
  | .hbm, ⟨24, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1024x2048, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S1024x2048, .f32⟩
  | .local _ .vmem, ⟨13, _⟩ => ⟨S1x1024, .f32⟩
  | .local _ .vmem, ⟨14, _⟩ => ⟨S384x2048, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_call3_v0 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== BInRefIdeal.lean ====
abbrev S4112x1024 : Shape := ⟨2, ![4112, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x2048 : Shape := ⟨2, ![1024, 2048]⟩
abbrev S4112x2048 : Shape := ⟨2, ![4112, 2048]⟩
abbrev S2048x1024 : Shape := ⟨2, ![2048, 1024]⟩
abbrev S4224x1024 : Shape := ⟨2, ![4224, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x2048, .f32⟩
  | .hbm, ⟨3, _⟩ => ⟨S4112x1024, .f32⟩
  | .hbm, ⟨4, _⟩ => ⟨S4112x1024, .f32⟩
  | .hbm, ⟨5, _⟩ => ⟨S4112x1024, .f32⟩
  | .hbm, ⟨6, _⟩ => ⟨S1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S1024x2048, .f32⟩
  | .hbm, ⟨28, _⟩ => ⟨S4112x2048, .f32⟩
  | .hbm, ⟨29, _⟩ => ⟨S4112x1024, .f32⟩
  | .hbm, ⟨30, _⟩ => ⟨S4112x1024, .f32⟩
  | .hbm, ⟨31, _⟩ => ⟨S4112x2048, .f32⟩
  | .hbm, ⟨32, _⟩ => ⟨S2048x1024, .f32⟩
  | .hbm, ⟨33, _⟩ => ⟨S1024x2048, .f32⟩
  | .hbm, ⟨34, _⟩ => ⟨S4112x1024, .f32⟩
  | .hbm, ⟨35, _⟩ => ⟨S1x1024x2048, .f32⟩
  | .hbm, ⟨36, _⟩ => ⟨S4112x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4112x1024, .f32⟩
  | .hbm, ⟨41, _⟩ => ⟨S4112x1024, .f32⟩
  | .hbm, ⟨42, _⟩ => ⟨S_, .f32⟩
  | .hbm, ⟨43, _⟩ => ⟨S1024, .f32⟩
  | .hbm, ⟨44, _⟩ => ⟨S4112x1024, .f32⟩
  | .hbm, ⟨45, _⟩ => ⟨S_, .f32⟩
  | .hbm, ⟨46, _⟩ => ⟨S4112, .f32⟩
  | .hbm, ⟨47, _⟩ => ⟨S4112x1, .f32⟩
  | .hbm, ⟨48, _⟩ => ⟨S4112x1024, .f32⟩
  | .hbm, ⟨49, _⟩ => ⟨S4112x1024, .f32⟩
  | .hbm, ⟨50, _⟩ => ⟨S4112x1024, .f32⟩
  | .hbm, ⟨51, _⟩ => ⟨S4112x1, .f32⟩
  | .hbm, ⟨52, _⟩ => ⟨S_, .f32⟩
  | .hbm, ⟨53, _⟩ => ⟨S4112x1, .f32⟩
  | .hbm, ⟨54, _⟩ => ⟨S4112x1, .f32⟩
  | .hbm, ⟨55, _⟩ => ⟨S_, .f32⟩
  | .hbm, ⟨56, _⟩ => ⟨S4112, .f32⟩
  | .hbm, ⟨57, _⟩ => ⟨S4112x1024, .f32⟩
  | .hbm, ⟨58, _⟩ => ⟨S4112x1024, .f32⟩
  | .hbm, ⟨59, _⟩ => ⟨S4112x1024, .f32⟩
  | .hbm, ⟨60, _⟩ => ⟨S4112x1024, .f32⟩
  | .hbm, ⟨61, _⟩ => ⟨S4112x1024, .f32⟩
  | .hbm, ⟨62, _⟩ => ⟨S1x1024, .f32⟩
  | .hbm, ⟨63, _⟩ => ⟨S_, .i32⟩
  | .hbm, ⟨64, _⟩ => ⟨S_, .f32⟩
  | .hbm, ⟨65, _⟩ => ⟨S4224x1024, .f32⟩
  | .hbm, ⟨66, _⟩ => ⟨S1024x2048, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_call0_v0 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Flash.lean ====
abbrev S4112x8x192 : Shape := ⟨3, ![4112, 8, 192]⟩
abbrev S4112x8x128 : Shape := ⟨3, ![4112, 8, 128]⟩
abbrev S4112x4112 : Shape := ⟨2, ![4112, 4112]⟩
abbrev S8x4112x4112 : Shape := ⟨3, ![8, 4112, 4112]⟩
abbrev S_ : Shape := ⟨0, ![]⟩
abbrev S1x4112x4112 : Shape := ⟨3, ![1, 4112, 4112]⟩
abbrev S8x4112 : Shape := ⟨2, ![8, 4112]⟩
abbrev S8x4112x1 : Shape := ⟨3, ![8, 4112, 1]⟩
abbrev S8x128x4112 : Shape := ⟨3, ![8, 128, 4112]⟩
abbrev S4112x8 : Shape := ⟨2, ![4112, 8]⟩
abbrev S4224x8x256 : Shape := ⟨3, ![4224, 8, 256]⟩
abbrev S4224x2048 : Shape := ⟨2, ![4224, 2048]⟩
abbrev S4112x1024 : Shape := ⟨2, ![4112, 1024]⟩
abbrev S4224x1024 : Shape := ⟨2, ![4224, 1024]⟩
abbrev S8x4224 : Shape := ⟨2, ![8, 4224]⟩
abbrev S8x11x1x384 : Shape := ⟨4, ![8, 11, 1, 384]⟩
abbrev S8x11x8x384 : Shape := ⟨4, ![8, 11, 8, 384]⟩
abbrev S4224x256 : Shape := ⟨2, ![4224, 256]⟩
abbrev S384x256 : Shape := ⟨2, ![384, 256]⟩
abbrev S384x128 : Shape := ⟨2, ![384, 128]⟩
abbrev S1x11x8x384 : Shape := ⟨4, ![1, 11, 8, 384]⟩
abbrev S4224x128 : Shape := ⟨2, ![4224, 128]⟩
abbrev S384x384 : Shape := ⟨2, ![384, 384]⟩
abbrev S1x1x8x384 : Shape := ⟨4, ![1, 1, 8, 384]⟩
abbrev S8x384 : Shape := ⟨2, ![8, 384]⟩
abbrev S1x384 : Shape := ⟨2, ![1, 384]⟩
abbrev S768x256 : Shape := ⟨2, ![768, 256]⟩
abbrev S768x128 : Shape := ⟨2, ![768, 128]⟩
abbrev S384x768 : Shape := ⟨2, ![384, 768]⟩
abbrev S1x768 : Shape := ⟨2, ![1, 768]⟩
abbrev S1536x256 : Shape := ⟨2, ![1536, 256]⟩
abbrev S1536x128 : Shape := ⟨2, ![1536, 128]⟩
abbrev S384x1536 : Shape := ⟨2, ![384, 1536]⟩
abbrev S1x1536 : Shape := ⟨2, ![1, 1536]⟩
abbrev S4112x2048 : Shape := ⟨2, ![4112, 2048]⟩

abbrev nBuf : Space → Nat
  | .hbm => 77
  | .vmem => 18
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S4112x8x128, .f32⟩
  | .hbm, ⟨4, _⟩ => ⟨S4112x4112, .i32⟩
  | .hbm, ⟨5, _⟩ => ⟨S4112x4112, .i32⟩
  | .hbm, ⟨6, _⟩ => ⟨S8x4112x4112, .f32⟩
  | .hbm, ⟨7, _⟩ => ⟨S_, .f32⟩
  | .hbm, ⟨8, _⟩ => ⟨S_, .f32⟩
  | .hbm, ⟨9, _⟩ => ⟨S8x4112x4112, .f32⟩
  | .hbm, ⟨10, _⟩ => ⟨S8x4112x4112, .f32⟩
  | .hbm, ⟨11, _⟩ => ⟨S4112x4112, .i1⟩
  | .hbm, ⟨12, _⟩ => ⟨S1x4112x4112, .i1⟩
  | .hbm, ⟨13, _⟩ => ⟨S_, .f32⟩
  | .hbm, ⟨14, _⟩ => ⟨S_, .f32⟩
  | .hbm, ⟨15, _⟩ => ⟨S8x4112x4112, .i1⟩
  | .hbm, ⟨16, _⟩ => ⟨S8x4112x4112, .f32⟩
  | .hbm, ⟨17, _⟩ => ⟨S8x4112x4112, .f32⟩
  | .hbm, ⟨18, _⟩ => ⟨S_, .f32⟩
  | .hbm, ⟨19, _⟩ => ⟨S8x4112, .f32⟩
  | .hbm, ⟨20, _⟩ => ⟨S8x4112x1, .f32⟩
  | .hbm, ⟨21, _⟩ => ⟨S8x4112x4112, .f32⟩
  | .hbm, ⟨22, _⟩ => ⟨S8x4112x4112, .f32⟩
  | .hbm, ⟨23, _⟩ => ⟨S8x4112x4112, .f32⟩
  | .hbm, ⟨24, _⟩ => ⟨S_, .f32⟩
  | .hbm, ⟨25, _⟩ => ⟨S8x4112, .f32⟩
  | .hbm, ⟨26, _⟩ => ⟨S8x4112x1, .f32⟩
  | .hbm, ⟨27, _⟩ => ⟨S8x4112x4112, .f32⟩
  | .hbm, ⟨28, _⟩ => ⟨S8x4112x4112, .f32⟩
  | .hbm, ⟨29, _⟩ => ⟨S8x128x4112, .f32⟩
  | .hbm, ⟨30, _⟩ => ⟨S4112x8x128, .f32⟩
  | .hbm, ⟨31, _⟩ => ⟨S8x4112x1, .f32⟩
  | .hbm, ⟨32, _⟩ => ⟨S8x4112x1, .f32⟩
  | .hbm, ⟨33, _⟩ => ⟨S_, .f32⟩
  | .hbm, ⟨34, _⟩ => ⟨S_, .f32⟩
  | .hbm, ⟨35, _⟩ => ⟨S8x4112x1, .f32⟩
  | .hbm, ⟨36, _⟩ => ⟨S8x4112x1, .f32⟩
  | .hbm, ⟨37, _⟩ => ⟨S4112x8x128, .f32⟩
  | .hbm, ⟨38, _⟩ => ⟨S_, .f32⟩
  | .hbm, ⟨39, _⟩ => ⟨S4112x8, .f32⟩
  | .hbm, ⟨40, _⟩ => ⟨S8x4112, .f32⟩
  | .hbm, ⟨41, _⟩ => ⟨S_, .i32⟩
  | .hbm, ⟨42, _⟩ => ⟨S_, .f32⟩
  | .hbm, ⟨43, _⟩ => ⟨S4224x8x256, .f32⟩
  | .hbm, ⟨44, _⟩ => ⟨S4224x2048, .f32⟩
  | .hbm, ⟨45, _⟩ => ⟨S4224x2048, .bf16⟩
  | .hbm, ⟨46, _⟩ => ⟨S_, .i32⟩
  | .hbm, ⟨47, _⟩ => ⟨S_, .f32⟩
  | .hbm, ⟨48, _⟩ => ⟨S4224x8x256, .f32⟩
  | .hbm, ⟨49, _⟩ => ⟨S4224x2048, .f32⟩
  | .hbm, ⟨50, _⟩ => ⟨S4224x2048, .bf16⟩
  | .hbm, ⟨51, _⟩ => ⟨S4112x1024, .f32⟩
  | .hbm, ⟨52, _⟩ => ⟨S_, .i32⟩
  | .hbm, ⟨53, _⟩ => ⟨S_, .f32⟩
  | .hbm, ⟨54, _⟩ => ⟨S4224x1024, .f32⟩
  | .hbm, ⟨55, _⟩ => ⟨S4224x1024, .bf16⟩
  | .hbm, ⟨56, _⟩ => ⟨S8x4112, .f32⟩
  | .hbm, ⟨57, _⟩ => ⟨S_, .i32⟩
  | .hbm, ⟨58, _⟩ => ⟨S_, .f32⟩
  | .hbm, ⟨59, _⟩ => ⟨S8x4224, .f32⟩
  | .hbm, ⟨60, _⟩ => ⟨S8x11x1x384, .f32⟩
  | .hbm, ⟨61, _⟩ => ⟨S8x11x8x384, .f32⟩
  | .hbm, ⟨62, _⟩ => ⟨S_, .i32⟩
  | .hbm, ⟨63, _⟩ => ⟨S_, .f32⟩
  | .hbm, ⟨64, _⟩ => ⟨S8x4224, .f32⟩
  | .hbm, ⟨65, _⟩ => ⟨S8x11x1x384, .f32⟩
  | .hbm, ⟨66, _⟩ => ⟨S8x11x8x384, .f32⟩
  | .hbm, ⟨67, _⟩ => ⟨S4112x1024, .f32⟩
  | .hbm, ⟨68, _⟩ => ⟨S_, .i32⟩
  | .hbm, ⟨69, _⟩ => ⟨S_, .f32⟩
  | .hbm, ⟨70, _⟩ => ⟨S4224x1024, .f32⟩
  | .hbm, ⟨71, _⟩ => ⟨S4224x1024, .bf16⟩
  | .hbm, ⟨72, _⟩ => ⟨S4224x2048, .f32⟩
  | .hbm, ⟨73, _⟩ => ⟨S4224x2048, .f32⟩
  | .hbm, ⟨74, _⟩ => ⟨S4224x1024, .f32⟩
  | .hbm, ⟨75, _⟩ => ⟨S4112x2048, .f32⟩
  | .hbm, ⟨76, _⟩ => ⟨S4112x1024, .f32⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x128, .bf16⟩
  | .local _ .vmem, ⟨5, _⟩ => ⟨S384x128, .bf16⟩
  | .local _ .vmem, ⟨6, _⟩ => ⟨S1x11x8x384, .f32⟩
  | .local _ .vmem, ⟨7, _⟩ => ⟨S1x11x8x384, .f32⟩
  | .local _ .vmem, ⟨8, _⟩ => ⟨S1x11x8x384, .f32⟩
  | .local _ .vmem, ⟨9, _⟩ => ⟨S1x11x8x384, .f32⟩
  | .local _ .vmem, ⟨10, _⟩ => ⟨S4224x128, .bf16⟩
  | .local _ .vmem, ⟨11, _⟩ => ⟨S4224x128, .bf16⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x128, .f32⟩
  | .local _ .vmem, ⟨17, _⟩ => ⟨S384x128, .f32⟩
  | _, _ => ⟨S4112x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_c : Ref sig .tc := ⟨.hbm, 41, rfl⟩
abbrev main_call1_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_call2_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_call3_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_call4_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_call5_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_9 : Ref sig .tc := ⟨.hbm, 68, rfl⟩
abbrev main_call6_v0 : Ref sig .tc := ⟨.hbm, 69, rfl⟩
abbrev main_v45 : Ref sig .tc := ⟨.hbm, 70, rfl⟩
abbrev main_v46 : Ref sig .tc := ⟨.hbm, 71, rfl⟩
abbrev main_v47_0 : Ref sig .tc := ⟨.hbm, 72, rfl⟩
abbrev main_v47_1 : Ref sig .tc := ⟨.hbm, 73, rfl⟩
abbrev main_v47_2 : Ref sig .tc := ⟨.hbm, 74, rfl⟩
abbrev main_v48 : Ref sig .tc := ⟨.hbm, 75, rfl⟩
abbrev main_v49 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32_14 : BitVec 32 := 0#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v22 : BitVec 32 := Scalar.subi v21 c0_i32_14
  let c1_i32_15 : BitVec 32 := 1#32
  let v24 : BitVec 32 := Scalar.divsi v22 c1_i32_15
  let v25 : BitVec 32 := Scalar.muli v24 c1_i32_15
  let v26 : BitVec 32 := Scalar.addi c0_i32_14 v25
  let c1_i32_16 : BitVec 32 := 1#32
  ⟨c0_i32_14, v26, c1_i32_16⟩
def k0_mult1 (i : grid0.Coords) : BitVec 32 :=
  let arg1 : BitVec 32 := BitVec.ofNat 32 (i 1).val
  let c384_i32 : BitVec 32 := 384#32
  let v83 : BitVec 32 := Scalar.muli arg1 c384_i32
  v83
def k0_off1 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off2 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off3 (i : grid0.Coords) : Fin 4 → Nat :=
  let c0_56 : Index := 0#32
  let arg1 : BitVec 32 := BitVec.ofNat 32 (i 1).val
  let c0_i32_55 : BitVec 32 := 0#32
  let v94 : BitVec 32 := Scalar.addi arg1 c0_i32_55
  let v95 : Index := Scalar.indexCast v94
  let c0_57 : Index := 0#32
  let c0_58 : Index := 0#32
  ![0, v95.toNat, 0, 0]
@[reducible] def k0_t2_loop (i : grid0.Coords) : Scf.Loop 32 :=
  let c0_i32_14 : BitVec 32 := 0#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v22 : BitVec 32 := Scalar.subi v21 c0_i32_14
  let c1_i32_15 : BitVec 32 := 1#32
  let v24 : BitVec 32 := Scalar.divsi v22 c1_i32_15
  let v25 : BitVec 32 := Scalar.muli v24 c1_i32_15
  let v26 : BitVec 32 := Scalar.addi c0_i32_14 v25
  let v23 : BitVec 32 := Scalar.addi c0_i32_14 v22
  let c1_i32_17 : BitVec 32 := 1#32
  ⟨v26, v23, c1_i32_17⟩
def k0_mult2 (i : grid0.Coords) : BitVec 32 :=
  let arg1 : BitVec 32 := BitVec.ofNat 32 (i 1).val
  let c384_i32 : BitVec 32 := 384#32
  let v83 : BitVec 32 := Scalar.muli arg1 c384_i32
  v83
def k0_off4 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off5 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off6 (i : grid0.Coords) : Fin 4 → Nat :=
  let c0_56 : Index := 0#32
  let arg1 : BitVec 32 := BitVec.ofNat 32 (i 1).val
  let c0_i32_55 : BitVec 32 := 0#32
  let v94 : BitVec 32 := Scalar.addi arg1 c0_i32_55
  let v95 : Index := Scalar.indexCast v94
  let c0_57 : Index := 0#32
  let c0_58 : Index := 0#32
  ![0, v95.toNat, 0, 0]
@[reducible] def k0_t3_loop (i : grid0.Coords) : Scf.Loop 32 :=
  let c0_i32_20 : BitVec 32 := 0#32
  let c1_i32_18 : BitVec 32 := 1#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v27 : BitVec 32 := Scalar.subi c1_i32_18 v21
  let v28 : BitVec 32 := Scalar.subi v27 c0_i32_20
  let c1_i32_21 : BitVec 32 := 1#32
  let v30 : BitVec 32 := Scalar.divsi v28 c1_i32_21
  let v31 : BitVec 32 := Scalar.muli v30 c1_i32_21
  let v32 : BitVec 32 := Scalar.addi c0_i32_20 v31
  let c1_i32_22 : BitVec 32 := 1#32
  ⟨c0_i32_20, v32, c1_i32_22⟩
def k0_mult3 (i : grid0.Coords) : BitVec 32 :=
  let arg1 : BitVec 32 := BitVec.ofNat 32 (i 1).val
  let c384_i32 : BitVec 32 := 384#32
  let v83 : BitVec 32 := Scalar.muli arg1 c384_i32
  v83
def k0_off7 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off8 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off9 (i : grid0.Coords) (c0_i32_55 : BitVec 32) : Fin 4 → Nat :=
  let c0_56 : Index := 0#32
  let arg1 : BitVec 32 := BitVec.ofNat 32 (i 1).val
  let v94 : BitVec 32 := Scalar.addi arg1 c0_i32_55
  let v95 : Index := Scalar.indexCast v94
  let c0_57 : Index := 0#32
  let c0_58 : Index := 0#32
  ![0, v95.toNat, 0, 0]
@[reducible] def k0_t4_loop (i : grid0.Coords) : Scf.Loop 32 :=
  let c0_i32_20 : BitVec 32 := 0#32
  let c1_i32_18 : BitVec 32 := 1#32
  let c11_i32 : BitVec 32 := 11#32
  let arg1 : BitVec 32 := BitVec.ofNat 32 (i 1).val
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v27 : BitVec 32 := Scalar.subi c1_i32_18 v21
  let v28 : BitVec 32 := Scalar.subi v27 c0_i32_20
  let c1_i32_21 : BitVec 32 := 1#32
  let v30 : BitVec 32 := Scalar.divsi v28 c1_i32_21
  let v31 : BitVec 32 := Scalar.muli v30 c1_i32_21
  let v32 : BitVec 32 := Scalar.addi c0_i32_20 v31
  let v29 : BitVec 32 := Scalar.addi c0_i32_20 v28
  let c1_i32_23 : BitVec 32 := 1#32
  ⟨v32, v29, c1_i32_23⟩
def k0_mult4 (i : grid0.Coords) : BitVec 32 :=
  let arg1 : BitVec 32 := BitVec.ofNat 32 (i 1).val
  let c384_i32 : BitVec 32 := 384#32
  let v83 : BitVec 32 := Scalar.muli arg1 c384_i32
  v83
def k0_off10 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v85 : Index := Scalar.indexCast v84
  let c0_51 : Index := 0#32
  ![v85.toNat, 0]
def k0_off11 (i : grid0.Coords) : Fin 2 → Nat :=
  let arg1 : BitVec 32 := BitVec.ofNat 32 (i 1).val
  let c384_i32 : BitVec 32 := 384#32
  let v83 : BitVec 32 := Scalar.muli arg1 c384_i32
  let v84 : BitVec 32 := v83
  let v88 : Index := Scalar.indexCast v84
  let c0_52 : Index := 0#32
  ![v88.toNat, 0]
def k0_off12 (i : grid0.Coords) (c0_i32_55 : BitVec 32) : Fin 4 → Nat :=
  let c0_56 : Index := 0#32
  let arg1 : BitVec 32 := BitVec.ofNat 32 (i 1).val
  let v94 : BitVec 32 := Scalar.addi arg1 c0_i32_55
  let v95 : Index := Scalar.indexCast v94
  let c0_57 : Index := 0#32
  let c0_58 : Index := 0#32
  ![0, v95.toNat, 0, 0]
@[reducible] def k0_t5_loop (i : grid0.Coords) : Scf.Loop 32 :=
  let c0_i32_33 : BitVec 32 := 0#32
  let c11_i32_25 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_35 : BitVec 32 := 1#32
  ⟨c0_i32_33, v57, c1_i32_35⟩
def k0_mult5 (i : grid0.Coords) (k0_t5 : Fin (k0_t5_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  v85
def k0_off13 (i : grid0.Coords) (k0_t5 : Fin (k0_t5_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off14 (i : grid0.Coords) (k0_t5 : Fin (k0_t5_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off15 (i : grid0.Coords) (k0_t5 : Fin (k0_t5_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c1_i32_35 : BitVec 32 := 1#32
  let arg11 : BitVec 32 := Scf.iv c0_i32_33 c1_i32_35 k0_t5
  let v83 : BitVec 32 := Scalar.muli c4_i32_51 arg11
  let v84 : BitVec 32 := Scalar.addi v34 v83
  let v96 : BitVec 32 := Scalar.addi v84 c0_i32_56
  let v97 : Index := Scalar.indexCast v96
  let c0_58 : Index := 0#32
  let c0_59 : Index := 0#32
  ![0, v97.toNat, 0, 0]
@[reducible] def k0_t6_loop (i : grid0.Coords) : Scf.Loop 32 :=
  let c0_i32_33 : BitVec 32 := 0#32
  let c11_i32_25 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let v54 : BitVec 32 := Scalar.addi c0_i32_33 v53
  let c1_i32_36 : BitVec 32 := 1#32
  ⟨v57, v54, c1_i32_36⟩
def k0_mult6 (i : grid0.Coords) (k0_t6 : Fin (k0_t6_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  v85
def k0_off16 (i : grid0.Coords) (k0_t6 : Fin (k0_t6_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off17 (i : grid0.Coords) (k0_t6 : Fin (k0_t6_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off18 (i : grid0.Coords) (k0_t6 : Fin (k0_t6_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_51 : BitVec 32 := 4#32
  let c0_i32_33 : BitVec 32 := 0#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v53 : BitVec 32 := Scalar.subi v52 c0_i32_33
  let c1_i32_34 : BitVec 32 := 1#32
  let v55 : BitVec 32 := Scalar.divsi v53 c1_i32_34
  let v56 : BitVec 32 := Scalar.muli v55 c1_i32_34
  let v57 : BitVec 32 := Scalar.addi c0_i32_33 v56
  let c1_i32_36 : BitVec 32 := 1#32
  let arg11 : BitVec 32 := Scf.iv v57 c1_i32_36 k0_t6
  let v83 : BitVec 32 := Scalar.muli c4_i32_51 arg11
  let v84 : BitVec 32 := Scalar.addi v34 v83
  let v96 : BitVec 32 := Scalar.addi v84 c0_i32_56
  let v97 : Index := Scalar.indexCast v96
  let c0_58 : Index := 0#32
  let c0_59 : Index := 0#32
  ![0, v97.toNat, 0, 0]
@[reducible] def k0_t7_loop (i : grid0.Coords) : Scf.Loop 32 :=
  let c0_i32_47 : BitVec 32 := 0#32
  let c11_i32_38 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_49 : BitVec 32 := 1#32
  ⟨c0_i32_47, v82, c1_i32_49⟩
def k0_mult7 (i : grid0.Coords) (k0_t7 : Fin (k0_t7_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  v85
def k0_off19 (i : grid0.Coords) (k0_t7 : Fin (k0_t7_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off20 (i : grid0.Coords) (k0_t7 : Fin (k0_t7_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off21 (i : grid0.Coords) (k0_t7 : Fin (k0_t7_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c1_i32_49 : BitVec 32 := 1#32
  let arg11 : BitVec 32 := Scf.iv c0_i32_47 c1_i32_49 k0_t7
  let v83 : BitVec 32 := Scalar.muli c2_i32_51 arg11
  let v84 : BitVec 32 := Scalar.addi v59 v83
  let v96 : BitVec 32 := Scalar.addi v84 c0_i32_56
  let v97 : Index := Scalar.indexCast v96
  let c0_58 : Index := 0#32
  let c0_59 : Index := 0#32
  ![0, v97.toNat, 0, 0]
@[reducible] def k0_t8_loop (i : grid0.Coords) : Scf.Loop 32 :=
  let c0_i32_47 : BitVec 32 := 0#32
  let c11_i32_38 : BitVec 32 := 11#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let v79 : BitVec 32 := Scalar.addi c0_i32_47 v78
  let c1_i32_50 : BitVec 32 := 1#32
  ⟨v82, v79, c1_i32_50⟩
def k0_mult8 (i : grid0.Coords) (k0_t8 : Fin (k0_t8_loop i).trips) : BitVec 32 :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  v85
def k0_off22 (i : grid0.Coords) (k0_t8 : Fin (k0_t8_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v87 : Index := Scalar.indexCast v86
  let c0_52 : Index := 0#32
  ![v87.toNat, 0]
def k0_off23 (i : grid0.Coords) (k0_t8 : Fin (k0_t8_loop i).trips) : Fin 2 → Nat :=
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let c384_i32 : BitVec 32 := 384#32
  let v85 : BitVec 32 := Scalar.muli v84 c384_i32
  let v86 : BitVec 32 := v85
  let v90 : Index := Scalar.indexCast v86
  let c0_53 : Index := 0#32
  ![v90.toNat, 0]
def k0_off24 (i : grid0.Coords) (k0_t8 : Fin (k0_t8_loop i).trips) (c0_i32_56 : BitVec 32) : Fin 4 → Nat :=
  let c0_57 : Index := 0#32
  let arg1 : BitVec 32 := BitVec.ofNat 32 (i 1).val
  let c2_i32_24 : BitVec 32 := 2#32
  let v33 : BitVec 32 := Scalar.addi arg1 c2_i32_24
  let c11_i32 : BitVec 32 := 11#32
  let v11 : BitVec 32 := Scalar.subi c11_i32 arg1
  let c2_i32 : BitVec 32 := 2#32
  let c0_i32_9 : BitVec 32 := 0#32
  let v12 : BitVec 1 := Scalar.cmpi .eq c2_i32 c0_i32_9
  let c1_i32 : BitVec 32 := 1#32
  let v13 : BitVec 32 := Scalar.select v12 c1_i32 c2_i32
  let v14 : BitVec 32 := Scalar.remsi v11 v13
  let c0_i32_11 : BitVec 32 := 0#32
  let v16 : BitVec 1 := Scalar.cmpi .slt v14 c0_i32_11
  let c0_i32_12 : BitVec 32 := 0#32
  let v17 : BitVec 1 := Scalar.cmpi .slt v13 c0_i32_12
  let v18 : BitVec 1 := Scalar.xori v16 v17
  let c0_i32_10 : BitVec 32 := 0#32
  let v15 : BitVec 1 := Scalar.cmpi .ne v14 c0_i32_10
  let v19 : BitVec 1 := Scalar.andi v18 v15
  let v20 : BitVec 32 := Scalar.addi v14 v13
  let v21 : BitVec 32 := Scalar.select v19 v20 v14
  let v34 : BitVec 32 := Scalar.subi v33 v21
  let c4_i32_37 : BitVec 32 := 4#32
  let c11_i32_25 : BitVec 32 := 11#32
  let v35 : BitVec 32 := Scalar.subi c11_i32_25 v34
  let c0_i32_26 : BitVec 32 := 0#32
  let v37 : BitVec 1 := Scalar.cmpi .sgt v35 c0_i32_26
  let v38 : BitVec 32 := Scalar.extui v37
  let c0_i32_27 : BitVec 32 := 0#32
  let v39 : BitVec 1 := Scalar.cmpi .slt v35 c0_i32_27
  let v40 : BitVec 32 := Scalar.extui v39
  let v41 : BitVec 32 := Scalar.subi v38 v40
  let c4_i32 : BitVec 32 := 4#32
  let c0_i32_28 : BitVec 32 := 0#32
  let v42 : BitVec 1 := Scalar.cmpi .sgt c4_i32 c0_i32_28
  let v43 : BitVec 32 := Scalar.extui v42
  let c0_i32_29 : BitVec 32 := 0#32
  let v44 : BitVec 1 := Scalar.cmpi .slt c4_i32 c0_i32_29
  let v45 : BitVec 32 := Scalar.extui v44
  let v46 : BitVec 32 := Scalar.subi v43 v45
  let v47 : BitVec 1 := Scalar.cmpi .ne v41 v46
  let v48 : BitVec 32 := Scalar.remsi v35 c4_i32
  let c0_i32_30 : BitVec 32 := 0#32
  let v49 : BitVec 1 := Scalar.cmpi .ne v48 c0_i32_30
  let v50 : BitVec 1 := Scalar.andi v47 v49
  let v36 : BitVec 32 := Scalar.divsi v35 c4_i32
  let c1_i32_31 : BitVec 32 := 1#32
  let v51 : BitVec 32 := Scalar.subi v36 c1_i32_31
  let v52 : BitVec 32 := Scalar.select v50 v51 v36
  let v58 : BitVec 32 := Scalar.muli c4_i32_37 v52
  let v59 : BitVec 32 := Scalar.addi v34 v58
  let c2_i32_51 : BitVec 32 := 2#32
  let c0_i32_47 : BitVec 32 := 0#32
  let c11_i32_38 : BitVec 32 := 11#32
  let v60 : BitVec 32 := Scalar.subi c11_i32_38 v59
  let c0_i32_40 : BitVec 32 := 0#32
  let v62 : BitVec 1 := Scalar.cmpi .sgt v60 c0_i32_40
  let v63 : BitVec 32 := Scalar.extui v62
  let c0_i32_41 : BitVec 32 := 0#32
  let v64 : BitVec 1 := Scalar.cmpi .slt v60 c0_i32_41
  let v65 : BitVec 32 := Scalar.extui v64
  let v66 : BitVec 32 := Scalar.subi v63 v65
  let c2_i32_39 : BitVec 32 := 2#32
  let c0_i32_42 : BitVec 32 := 0#32
  let v67 : BitVec 1 := Scalar.cmpi .sgt c2_i32_39 c0_i32_42
  let v68 : BitVec 32 := Scalar.extui v67
  let c0_i32_43 : BitVec 32 := 0#32
  let v69 : BitVec 1 := Scalar.cmpi .slt c2_i32_39 c0_i32_43
  let v70 : BitVec 32 := Scalar.extui v69
  let v71 : BitVec 32 := Scalar.subi v68 v70
  let v72 : BitVec 1 := Scalar.cmpi .ne v66 v71
  let v73 : BitVec 32 := Scalar.remsi v60 c2_i32_39
  let c0_i32_44 : BitVec 32 := 0#32
  let v74 : BitVec 1 := Scalar.cmpi .ne v73 c0_i32_44
  let v75 : BitVec 1 := Scalar.andi v72 v74
  let v61 : BitVec 32 := Scalar.divsi v60 c2_i32_39
  let c1_i32_45 : BitVec 32 := 1#32
  let v76 : BitVec 32 := Scalar.subi v61 c1_i32_45
  let v77 : BitVec 32 := Scalar.select v75 v76 v61
  let v78 : BitVec 32 := Scalar.subi v77 c0_i32_47
  let c1_i32_48 : BitVec 32 := 1#32
  let v80 : BitVec 32 := Scalar.divsi v78 c1_i32_48
  let v81 : BitVec 32 := Scalar.muli v80 c1_i32_48
  let v82 : BitVec 32 := Scalar.addi c0_i32_47 v81
  let c1_i32_50 : BitVec 32 := 1#32
  let arg11 : BitVec 32 := Scf.iv v82 c1_i32_50 k0_t8
  let v83 : BitVec 32 := Scalar.muli c2_i32_51 arg11
  let v84 : BitVec 32 := Scalar.addi v59 v83
  let v96 : BitVec 32 := Scalar.addi v84 c0_i32_56
  let v97 : Index := Scalar.indexCast v96
  let c0_58 : Index := 0#32
  let c0_59 : Index := 0#32
  ![0, v97.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x11x8x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x11x8x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4224x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FlashIdeal.lean ====
variable {F : FTy → Type} [FloatOps F] [Named F]
def κ : String → Option EReal := fun
  | "scale" => some (((Real.sqrt 192)⁻¹ : ℝ) : EReal)
  | "scale_log2e" => some (((Real.sqrt 192)⁻¹ * (Real.log 2)⁻¹ : ℝ) : EReal)
  | _ => none
-- ==== FlashRefIdeal.lean ====
abbrev S4112x8x192 : Shape := ⟨3, ![4112, 8, 192]⟩
abbrev S4112x8x128 : Shape := ⟨3, ![4112, 8, 128]⟩
abbrev S4112x4112 : Shape := ⟨2, ![4112, 4112]⟩
abbrev S8x4112x4112 : Shape := ⟨3, ![8, 4112, 4112]⟩
abbrev S_ : Shape := ⟨0, ![]⟩
abbrev S1x4112x4112 : Shape := ⟨3, ![1, 4112, 4112]⟩
abbrev S8x4112 : Shape := ⟨2, ![8, 4112]⟩
abbrev S8x4112x1 : Shape := ⟨3, ![8, 4112, 1]⟩
abbrev S8x128x4112 : Shape := ⟨3, ![8, 128, 4112]⟩
abbrev S8x4112x192 : Shape := ⟨3, ![8, 4112, 192]⟩
abbrev S4224x8x256 : Shape := ⟨3, ![4224, 8, 256]⟩
abbrev S4224x2048 : Shape := ⟨2, ![4224, 2048]⟩
abbrev S4112x2048 : Shape := ⟨2, ![4112, 2048]⟩
abbrev S4112x1024 : Shape := ⟨2, ![4112, 1024]⟩

abbrev nBuf : Space → Nat
  | .hbm => 97
  | .vmem => 0
  | .smem => 0
  | _ => 0

abbrev bufTy : (tb : Table) → Fin (tcTables nBuf tb) → BufTy
  | .hbm, ⟨0, _⟩ => ⟨S4112x8x192, .f32⟩
  | .hbm, ⟨1, _⟩ => ⟨S4112x8x192, .f32⟩
  | .hbm, ⟨2, _⟩ => ⟨S4112x8x128, .f32⟩
  | .hbm, ⟨3, _⟩ => ⟨S4112x8x128, .f32⟩
  | .hbm, ⟨4, _⟩ => ⟨S4112x4112, .i32⟩
  | .hbm, ⟨5, _⟩ => ⟨S4112x4112, .i32⟩
  | .hbm, ⟨6, _⟩ => ⟨S8x4112x4112, .f32⟩
  | .hbm, ⟨7, _⟩ => ⟨S_, .f32⟩
  | .hbm, ⟨8, _⟩ => ⟨S_, .f32⟩
  | .hbm, ⟨9, _⟩ => ⟨S8x4112x4112, .f32⟩
  | .hbm, ⟨10, _⟩ => ⟨S8x4112x4112, .f32⟩
  | .hbm, ⟨11, _⟩ => ⟨S4112x4112, .i1⟩
  | .hbm, ⟨12, _⟩ => ⟨S1x4112x4112, .i1⟩
  | .hbm, ⟨13, _⟩ => ⟨S_, .f32⟩
  | .hbm, ⟨14, _⟩ => ⟨S_, .f32⟩
  | .hbm, ⟨15, _⟩ => ⟨S8x4112x4112, .i1⟩
  | .hbm, ⟨16, _⟩ => ⟨S8x4112x4112, .f32⟩
  | .hbm, ⟨17, _⟩ => ⟨S8x4112x4112, .f32⟩
  | .hbm, ⟨18, _⟩ => ⟨S_, .f32⟩
  | .hbm, ⟨19, _⟩ => ⟨S8x4112x4112, .f32⟩
  | .hbm, ⟨20, _⟩ => ⟨S_, .f32⟩
  | .hbm, ⟨21, _⟩ => ⟨S8x4112, .f32⟩
  | .hbm, ⟨22, _⟩ => ⟨S8x4112x1, .f32⟩
  | .hbm, ⟨23, _⟩ => ⟨S8x4112x4112, .f32⟩
  | .hbm, ⟨24, _⟩ => ⟨S8x4112x4112, .i1⟩
  | .hbm, ⟨25, _⟩ => ⟨S8x4112x4112, .f32⟩
  | .hbm, ⟨26, _⟩ => ⟨S_, .f32⟩
  | .hbm, ⟨27, _⟩ => ⟨S8x4112, .f32⟩
  | .hbm, ⟨28, _⟩ => ⟨S_, .f32⟩
  | .hbm, ⟨29, _⟩ => ⟨S8x4112, .f32⟩
  | .hbm, ⟨30, _⟩ => ⟨S8x4112, .f32⟩
  | .hbm, ⟨31, _⟩ => ⟨S_, .f32⟩
  | .hbm, ⟨32, _⟩ => ⟨S8x4112, .f32⟩
  | .hbm, ⟨33, _⟩ => ⟨S8x4112, .i1⟩
  | .hbm, ⟨34, _⟩ => ⟨S_, .f32⟩
  | .hbm, ⟨35, _⟩ => ⟨S8x4112, .f32⟩
  | .hbm, ⟨36, _⟩ => ⟨S8x4112, .i1⟩
  | .hbm, ⟨37, _⟩ => ⟨S_, .f32⟩
  | .hbm, ⟨38, _⟩ => ⟨S8x4112, .f32⟩
  | .hbm, ⟨39, _⟩ => ⟨S_, .f32⟩
  | .hbm, ⟨40, _⟩ => ⟨S8x4112, .f32⟩
  | .hbm, ⟨41, _⟩ => ⟨S_, .f32⟩
  | .hbm, ⟨42, _⟩ => ⟨S8x4112, .f32⟩
  | .hbm, ⟨43, _⟩ => ⟨S8x4112, .f32⟩
  | .hbm, ⟨44, _⟩ => ⟨S8x4112, .f32⟩
  | .hbm, ⟨45, _⟩ => ⟨S8x4112x1, .f32⟩
  | .hbm, ⟨46, _⟩ => ⟨S8x4112x4112, .f32⟩
  | .hbm, ⟨47, _⟩ => ⟨S8x4112x4112, .f32⟩
  | .hbm, ⟨48, _⟩ => ⟨S8x4112x4112, .f32⟩
  | .hbm, ⟨49, _⟩ => ⟨S_, .f32⟩
  | .hbm, ⟨50, _⟩ => ⟨S8x4112, .f32⟩
  | .hbm, ⟨51, _⟩ => ⟨S8x4112x1, .f32⟩
  | .hbm, ⟨52, _⟩ => ⟨S8x4112x4112, .f32⟩
  | .hbm, ⟨53, _⟩ => ⟨S8x4112x4112, .f32⟩
  | .hbm, ⟨54, _⟩ => ⟨S8x4112x1, .f32⟩
  | .hbm, ⟨55, _⟩ => ⟨S_, .f32⟩
  | .hbm, ⟨56, _⟩ => ⟨S8x4112x1, .f32⟩
  | .hbm, ⟨57, _⟩ => ⟨S8x4112x1, .f32⟩
  | .hbm, ⟨58, _⟩ => ⟨S8x128x4112, .f32⟩
  | .hbm, ⟨59, _⟩ => ⟨S4112x8x128, .f32⟩
  | .hbm, ⟨60, _⟩ => ⟨S8x128x4112, .f32⟩
  | .hbm, ⟨61, _⟩ => ⟨S8x4112x4112, .f32⟩
  | .hbm, ⟨62, _⟩ => ⟨S8x128x4112, .f32⟩
  | .hbm, ⟨63, _⟩ => ⟨S4112x8x128, .f32⟩
  | .hbm, ⟨64, _⟩ => ⟨S8x4112x4112, .f32⟩
  | .hbm, ⟨65, _⟩ => ⟨S8x4112x4112, .f32⟩
  | .hbm, ⟨66, _⟩ => ⟨S8x4112x4112, .f32⟩
  | .hbm, ⟨67, _⟩ => ⟨S_, .f32⟩
  | .hbm, ⟨68, _⟩ => ⟨S8x4112, .f32⟩
  | .hbm, ⟨69, _⟩ => ⟨S8x4112x1, .f32⟩
  | .hbm, ⟨70, _⟩ => ⟨S8x4112x1, .f32⟩
  | .hbm, ⟨71, _⟩ => ⟨S8x4112x4112, .f32⟩
  | .hbm, ⟨72, _⟩ => ⟨S8x4112x4112, .f32⟩
  | .hbm, ⟨73, _⟩ => ⟨S_, .f32⟩
  | .hbm, ⟨74, _⟩ => ⟨S8x4112, .f32⟩
  | .hbm, ⟨75, _⟩ => ⟨S8x4112x4112, .f32⟩
  | .hbm, ⟨76, _⟩ => ⟨S8x4112x4112, .f32⟩
  | .hbm, ⟨77, _⟩ => ⟨S8x4112x4112, .f32⟩
  | .hbm, ⟨78, _⟩ => ⟨S_, .f32⟩
  | .hbm, ⟨79, _⟩ => ⟨S8x4112x4112, .f32⟩
  | .hbm, ⟨80, _⟩ => ⟨S8x4112x4112, .f32⟩
  | .hbm, ⟨81, _⟩ => ⟨S8x4112x4112, .f32⟩
  | .hbm, ⟨82, _⟩ => ⟨S8x4112x4112, .f32⟩
  | .hbm, ⟨83, _⟩ => ⟨S8x4112x192, .f32⟩
  | .hbm, ⟨84, _⟩ => ⟨S4112x8x192, .f32⟩
  | .hbm, ⟨85, _⟩ => ⟨S8x4112x192, .f32⟩
  | .hbm, ⟨86, _⟩ => ⟨S4112x8x192, .f32⟩
  | .hbm, ⟨87, _⟩ => ⟨S_, .i32⟩
  | .hbm, ⟨88, _⟩ => ⟨S_, .f32⟩
  | .hbm, ⟨89, _⟩ => ⟨S4224x8x256, .f32⟩
  | .hbm, ⟨90, _⟩ => ⟨S4224x2048, .f32⟩
  | .hbm, ⟨91, _⟩ => ⟨S_, .i32⟩
  | .hbm, ⟨92, _⟩ => ⟨S_, .f32⟩
  | .hbm, ⟨93, _⟩ => ⟨S4224x8x256, .f32⟩
  | .hbm, ⟨94, _⟩ => ⟨S4224x2048, .f32⟩
  | .hbm, ⟨95, _⟩ => ⟨S4112x2048, .f32⟩
  | .hbm, ⟨96, _⟩ => ⟨S4112x1024, .f32⟩
  | _, _ => ⟨S4112x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_call0_v0 : Ref sig .tc := ⟨.hbm, 14, rfl⟩
abbrev main_v8_1 : Ref sig .tc := ⟨.hbm, 15, rfl⟩
abbrev main_call0_v2 : Ref sig .tc := ⟨.hbm, 16, rfl⟩
abbrev main_v8_0 : Ref sig .tc := ⟨.hbm, 17, rfl⟩
abbrev main_call0_cst : Ref sig .tc := ⟨.hbm, 18, rfl⟩
abbrev main_v8_2 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_cst_8 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_10 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call1_cst : Ref sig .tc := ⟨.hbm, 78, rfl⟩
abbrev main_call1_v0 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c : Ref sig .tc := ⟨.hbm, 87, rfl⟩
abbrev main_call2_v0 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_call3_v0 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩

abbrev nD : Nat := 1
abbrev τ : Topo := Topo.v7x

variable {F : FTy → Type} [FloatOps F]
-- ==== Gated.lean ====
abbrev S4112x1024 : Shape := ⟨2, ![4112, 1024]⟩
abbrev S1x1024x1024 : Shape := ⟨3, ![1, 1024, 1024]⟩
abbrev S_ : Shape := ⟨0, ![]⟩
abbrev S4224x1024 : Shape := ⟨2, ![4224, 1024]⟩
abbrev S1024x1024 : Shape := ⟨2, ![1024, 1024]⟩
abbrev S8x11x8x384 : Shape := ⟨4, ![8, 11, 8, 384]⟩
abbrev S384x1024 : Shape := ⟨2, ![384, 1024]⟩
abbrev S8x1x8x384 : Shape := ⟨4, ![8, 1, 8, 384]⟩
abbrev S384x128 : Shape := ⟨2, ![384, 128]⟩
abbrev S384 : Shape := ⟨1, ![384]⟩
abbrev S384x1 : Shape := ⟨2, ![384, 1]⟩
abbrev S128x384 : Shape := ⟨2, ![128, 384]⟩
abbrev S8x384 : Shape := ⟨2, ![8, 384]⟩
abbrev S1x1x8x384 : Shape := ⟨4, ![1, 1, 8, 384]⟩

abbrev nBuf : Space → Nat
  | .hbm => 19
  | .vmem => 14
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x1024, .f32⟩
  | .hbm, ⟨3, _⟩ => ⟨S1x1024x1024, .f32⟩
  | .hbm, ⟨4, _⟩ => ⟨S_, .i32⟩
  | .hbm, ⟨5, _⟩ => ⟨S_, .f32⟩
  | .hbm, ⟨6, _⟩ => ⟨S4224x1024, .f32⟩
  | .hbm, ⟨7, _⟩ => ⟨S_, .i32⟩
  | .hbm, ⟨8, _⟩ => ⟨S_, .f32⟩
  | .hbm, ⟨9, _⟩ => ⟨S4224x1024, .f32⟩
  | .hbm, ⟨10, _⟩ => ⟨S_, .i32⟩
  | .hbm, ⟨11, _⟩ => ⟨S_, .f32⟩
  | .hbm, ⟨12, _⟩ => ⟨S4224x1024, .f32⟩
  | .hbm, ⟨13, _⟩ => ⟨S1024x1024, .f32⟩
  | .hbm, ⟨14, _⟩ => ⟨S1024x1024, .bf16⟩
  | .hbm, ⟨15, _⟩ => ⟨S4224x1024, .bf16⟩
  | .hbm, ⟨16, _⟩ => ⟨S4224x1024, .bf16⟩
  | .hbm, ⟨17, _⟩ => ⟨S1024x1024, .f32⟩
  | .hbm, ⟨18, _⟩ => ⟨S8x11x8x384, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1024x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | .local _ .vmem, ⟨10, _⟩ => ⟨S384x1024, .bf16⟩
  | .local _ .vmem, ⟨11, _⟩ => ⟨S1024x1024, .f32⟩
  | .local _ .vmem, ⟨12, _⟩ => ⟨S8x1x8x384, .f32⟩
  | .local _ .vmem, ⟨13, _⟩ => ⟨S8x1x8x384, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x1x8x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GatedRefIdeal.lean ====
abbrev S4112x1024 : Shape := ⟨2, ![4112, 1024]⟩
abbrev S1x1024x1024 : Shape := ⟨3, ![1, 1024, 1024]⟩
abbrev S_ : Shape := ⟨0, ![]⟩
abbrev S1024x1024 : Shape := ⟨2, ![1024, 1024]⟩
abbrev S4112x8x128 : Shape := ⟨3, ![4112, 8, 128]⟩
abbrev S4112x8 : Shape := ⟨2, ![4112, 8]⟩
abbrev S4224x1024 : Shape := ⟨2, ![4224, 1024]⟩
abbrev S8x4112 : Shape := ⟨2, ![8, 4112]⟩
abbrev S8x4224 : Shape := ⟨2, ![8, 4224]⟩
abbrev S8x11x1x384 : Shape := ⟨4, ![8, 11, 1, 384]⟩
abbrev S8x11x8x384 : Shape := ⟨4, ![8, 11, 8, 384]⟩

abbrev nBuf : Space → Nat
  | .hbm => 49
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S4112x1024, .f32⟩
  | .hbm, ⟨3, _⟩ => ⟨S1x1024x1024, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112x1024, .f32⟩
  | .hbm, ⟨8, _⟩ => ⟨S4112x1024, .f32⟩
  | .hbm, ⟨9, _⟩ => ⟨S_, .f32⟩
  | .hbm, ⟨10, _⟩ => ⟨S4112x1024, .f32⟩
  | .hbm, ⟨11, _⟩ => ⟨S4112x1024, .f32⟩
  | .hbm, ⟨12, _⟩ => ⟨S_, .f32⟩
  | .hbm, ⟨13, _⟩ => ⟨S4112x1024, .f32⟩
  | .hbm, ⟨14, _⟩ => ⟨S4112x1024, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S1024x1024, .f32⟩
  | .hbm, ⟨19, _⟩ => ⟨S4112x1024, .f32⟩
  | .hbm, ⟨20, _⟩ => ⟨S1024x1024, .f32⟩
  | .hbm, ⟨21, _⟩ => ⟨S1024x1024, .f32⟩
  | .hbm, ⟨22, _⟩ => ⟨S4112x1024, .f32⟩
  | .hbm, ⟨23, _⟩ => ⟨S1x1024x1024, .f32⟩
  | .hbm, ⟨24, _⟩ => ⟨S4112x1024, .f32⟩
  | .hbm, ⟨25, _⟩ => ⟨S4112x1024, .f32⟩
  | .hbm, ⟨26, _⟩ => ⟨S4112x1024, .f32⟩
  | .hbm, ⟨27, _⟩ => ⟨S4112x1024, .f32⟩
  | .hbm, ⟨28, _⟩ => ⟨S4112x1024, .f32⟩
  | .hbm, ⟨29, _⟩ => ⟨S4112x1024, .f32⟩
  | .hbm, ⟨30, _⟩ => ⟨S4112x1024, .f32⟩
  | .hbm, ⟨31, _⟩ => ⟨S4112x8x128, .f32⟩
  | .hbm, ⟨32, _⟩ => ⟨S_, .f32⟩
  | .hbm, ⟨33, _⟩ => ⟨S4112x8, .f32⟩
  | .hbm, ⟨34, _⟩ => ⟨S_, .i32⟩
  | .hbm, ⟨35, _⟩ => ⟨S_, .f32⟩
  | .hbm, ⟨36, _⟩ => ⟨S4224x1024, .f32⟩
  | .hbm, ⟨37, _⟩ => ⟨S4224x1024, .bf16⟩
  | .hbm, ⟨38, _⟩ => ⟨S_, .i32⟩
  | .hbm, ⟨39, _⟩ => ⟨S_, .f32⟩
  | .hbm, ⟨40, _⟩ => ⟨S4224x1024, .f32⟩
  | .hbm, ⟨41, _⟩ => ⟨S4224x1024, .bf16⟩
  | .hbm, ⟨42, _⟩ => ⟨S1024x1024, .f32⟩
  | .hbm, ⟨43, _⟩ => ⟨S8x4112, .f32⟩
  | .hbm, ⟨44, _⟩ => ⟨S_, .i32⟩
  | .hbm, ⟨45, _⟩ => ⟨S_, .f32⟩
  | .hbm, ⟨46, _⟩ => ⟨S8x4224, .f32⟩
  | .hbm, ⟨47, _⟩ => ⟨S8x11x1x384, .f32⟩
  | .hbm, ⟨48, _⟩ => ⟨S8x11x8x384, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst : Ref sig .tc := ⟨.hbm, 32, rfl⟩
abbrev main_v13 : Ref sig .tc := ⟨.hbm, 33, rfl⟩
abbrev main_c : Ref sig .tc := ⟨.hbm, 34, rfl⟩
abbrev main_call2_v0 : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_call3_v0 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_c_1 : Ref sig .tc := ⟨.hbm, 44, rfl⟩
abbrev main_call4_v0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩

abbrev nD : Nat := 1
abbrev τ : Topo := Topo.v7x

variable {F : FTy → Type} [FloatOps F]
-- ==== QProj.lean ====
abbrev S4112x384 : Shape := ⟨2, ![4112, 384]⟩
abbrev S1x384 : Shape := ⟨2, ![1, 384]⟩
abbrev S1x384x1536 : Shape := ⟨3, ![1, 384, 1536]⟩
abbrev S4112x8x192 : Shape := ⟨3, ![4112, 8, 192]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S4224x128 : Shape := ⟨2, ![4224, 128]⟩
abbrev S384x1536 : Shape := ⟨2, ![384, 1536]⟩
abbrev S384x8x192 : Shape := ⟨3, ![384, 8, 192]⟩
abbrev S384x8x256 : Shape := ⟨3, ![384, 8, 256]⟩
abbrev S384x2048 : Shape := ⟨2, ![384, 2048]⟩
abbrev S4224x384 : Shape := ⟨2, ![4224, 384]⟩
abbrev S4224x8x256 : Shape := ⟨3, ![4224, 8, 256]⟩
abbrev S4224x2048 : Shape := ⟨2, ![4224, 2048]⟩
abbrev S384x384 : Shape := ⟨2, ![384, 384]⟩
abbrev S384x128 : Shape := ⟨2, ![384, 128]⟩
abbrev S384 : Shape := ⟨1, ![384]⟩
abbrev S384x1 : Shape := ⟨2, ![384, 1]⟩

abbrev nBuf : Space → Nat
  | .hbm => 53
  | .vmem => 15
  | .smem => 0
  | _ => 0

abbrev bufTy : (tb : Table) → Fin (tcTables nBuf tb) → BufTy
  | .hbm, ⟨0, _⟩ => ⟨S4112x384, .f32⟩
  | .hbm, ⟨1, _⟩ => ⟨S1x384, .f32⟩
  | .hbm, ⟨2, _⟩ => ⟨S1x384x1536, .f32⟩
  | .hbm, ⟨3, _⟩ => ⟨S4112x8x192, .f32⟩
  | .hbm, ⟨4, _⟩ => ⟨S4224, .i32⟩
  | .hbm, ⟨5, _⟩ => ⟨S4224, .f32⟩
  | .hbm, ⟨6, _⟩ => ⟨S_, .f32⟩
  | .hbm, ⟨7, _⟩ => ⟨S4224, .f32⟩
  | .hbm, ⟨8, _⟩ => ⟨S4224, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4224x1, .f32⟩
  | .hbm, ⟨25, _⟩ => ⟨S1x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x32, .f32⟩
  | .hbm, ⟨30, _⟩ => ⟨S4224x32, .f32⟩
  | .hbm, ⟨31, _⟩ => ⟨S_, .f32⟩
  | .hbm, ⟨32, _⟩ => ⟨S4224x64, .f32⟩
  | .hbm, ⟨33, _⟩ => ⟨S4224x128, .f32⟩
  | .hbm, ⟨34, _⟩ => ⟨S4224x32, .f32⟩
  | .hbm, ⟨35, _⟩ => ⟨S4224x128, .f32⟩
  | .hbm, ⟨36, _⟩ => ⟨S384x1536, .f32⟩
  | .hbm, ⟨37, _⟩ => ⟨S384x1536, .bf16⟩
  | .hbm, ⟨38, _⟩ => ⟨S384x8x192, .bf16⟩
  | .hbm, ⟨39, _⟩ => ⟨S_, .i32⟩
  | .hbm, ⟨40, _⟩ => ⟨S_, .bf16⟩
  | .hbm, ⟨41, _⟩ => ⟨S384x8x256, .bf16⟩
  | .hbm, ⟨42, _⟩ => ⟨S384x2048, .bf16⟩
  | .hbm, ⟨43, _⟩ => ⟨S_, .i32⟩
  | .hbm, ⟨44, _⟩ => ⟨S_, .f32⟩
  | .hbm, ⟨45, _⟩ => ⟨S4224x384, .f32⟩
  | .hbm, ⟨46, _⟩ => ⟨S_, .i32⟩
  | .hbm, ⟨47, _⟩ => ⟨S_, .f32⟩
  | .hbm, ⟨48, _⟩ => ⟨S4224x8x256, .f32⟩
  | .hbm, ⟨49, _⟩ => ⟨S4224x2048, .f32⟩
  | .hbm, ⟨50, _⟩ => ⟨S4224x384, .bf16⟩
  | .hbm, ⟨51, _⟩ => ⟨S384x2048, .f32⟩
  | .hbm, ⟨52, _⟩ => ⟨S1x384, .f32⟩
  | .local _ .vmem, ⟨0, _⟩ => ⟨S384x384, .f32⟩
  | .local _ .vmem, ⟨1, _⟩ => ⟨S384x384, .f32⟩
  | .local _ .vmem, ⟨2, _⟩ => ⟨S1x384, .f32⟩
  | .local _ .vmem, ⟨3, _⟩ => ⟨S384x2048, .bf16⟩
  | .local _ .vmem, ⟨4, _⟩ => ⟨S384x2048, .f32⟩
  | .local _ .vmem, ⟨5, _⟩ => ⟨S384x2048, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x384, .bf16⟩
  | .local _ .vmem, ⟨11, _⟩ => ⟨S384x384, .bf16⟩
  | .local _ .vmem, ⟨12, _⟩ => ⟨S384x2048, .f32⟩
  | .local _ .vmem, ⟨13, _⟩ => ⟨S1x384, .f32⟩
  | .local _ .vmem, ⟨14, _⟩ => ⟨S384x2048, .bf16⟩
  | _, _ => ⟨S4112x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_call1_v0 : Ref sig .tc := ⟨.hbm, 44, rfl⟩
abbrev main_v31 : Ref sig .tc := ⟨.hbm, 45, rfl⟩
abbrev main_c_6 : Ref sig .tc := ⟨.hbm, 46, rfl⟩
abbrev main_call2_v0 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S384x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== QProjRefIdeal.lean ====
abbrev S4112x384 : Shape := ⟨2, ![4112, 384]⟩
abbrev S1x384 : Shape := ⟨2, ![1, 384]⟩
abbrev S1x384x1536 : Shape := ⟨3, ![1, 384, 1536]⟩
abbrev S4112x8x192 : Shape := ⟨3, ![4112, 8, 192]⟩
abbrev S384 : Shape := ⟨1, ![384]⟩
abbrev S_ : Shape := ⟨0, ![]⟩
abbrev S4112 : Shape := ⟨1, ![4112]⟩
abbrev S4112x1 : Shape := ⟨2, ![4112, 1]⟩
abbrev S384x1536 : Shape := ⟨2, ![384, 1536]⟩
abbrev S4112x1536 : Shape := ⟨2, ![4112, 1536]⟩
abbrev S32 : Shape := ⟨1, ![32]⟩
abbrev S1x32 : Shape := ⟨2, ![1, 32]⟩
abbrev S4112x32 : Shape := ⟨2, ![4112, 32]⟩
abbrev S4112x8x64 : Shape := ⟨3, ![4112, 8, 64]⟩
abbrev S4112x1x32 : Shape := ⟨3, ![4112, 1, 32]⟩
abbrev S4112x8x32 : Shape := ⟨3, ![4112, 8, 32]⟩
abbrev S4112x8x128 : Shape := ⟨3, ![4112, 8, 128]⟩
abbrev S1536x384 : Shape := ⟨2, ![1536, 384]⟩
abbrev S4224x384 : Shape := ⟨2, ![4224, 384]⟩
abbrev S384x8x192 : Shape := ⟨3, ![384, 8, 192]⟩
abbrev S384x8x256 : Shape := ⟨3, ![384, 8, 256]⟩
abbrev S384x2048 : Shape := ⟨2, ![384, 2048]⟩

abbrev nBuf : Space → Nat
  | .hbm => 132
  | .vmem => 0
  | .smem => 0
  | _ => 0

abbrev hbmTy0_0 (i : Nat) : BufTy := match i % 128 with
  | 0 => ⟨S4112x384, .f32⟩
  | 1 => ⟨S1x384, .f32⟩
  | 2 => ⟨S1x384x1536, .f32⟩
  | 3 => ⟨S4112x8x192, .f32⟩
  | 4 => ⟨S384, .f32⟩
  | 5 => ⟨S4112x384, .f32⟩
  | 6 => ⟨S_, .f32⟩
  | 7 => ⟨S4112, .f32⟩
  | 8 => ⟨S4112x1, .f32⟩
  | 9 => ⟨S_, .f32⟩
  | 10 => ⟨S4112x1, .f32⟩
  | 11 => ⟨S4112x1, .f32⟩
  | 12 => ⟨S_, .f32⟩
  | 13 => ⟨S4112x1, .f32⟩
  | 14 => ⟨S4112x1, .f32⟩
  | 15 => ⟨S4112x1, .f32⟩
  | 16 => ⟨S4112x1, .f32⟩
  | 17 => ⟨S_, .f32⟩
  | 18 => ⟨S4112x1, .f32⟩
  | 19 => ⟨S4112x1, .f32⟩
  | 20 => ⟨S4112x384, .f32⟩
  | 21 => ⟨S4112x384, .f32⟩
  | 22 => ⟨S1x384, .f32⟩
  | 23 => ⟨S4112x384, .f32⟩
  | 24 => ⟨S4112x384, .f32⟩
  | 25 => ⟨S384x1536, .f32⟩
  | 26 => ⟨S4112x1536, .f32⟩
  | 27 => ⟨S4112x8x192, .f32⟩
  | 28 => ⟨S4112, .i32⟩
  | 29 => ⟨S4112, .f32⟩
  | 30 => ⟨S32, .i32⟩
  | 31 => ⟨S_, .i32⟩
  | 32 => ⟨S32, .i32⟩
  | 33 => ⟨S32, .i32⟩
  | 34 => ⟨S_, .i32⟩
  | 35 => ⟨S32, .i32⟩
  | 36 => ⟨S32, .i32⟩
  | 37 => ⟨S32, .f32⟩
  | 38 => ⟨S32, .f32⟩
  | 39 => ⟨S_, .f32⟩
  | 40 => ⟨S32, .f32⟩
  | 41 => ⟨S32, .f32⟩
  | 42 => ⟨S_, .f32⟩
  | 43 => ⟨S32, .f32⟩
  | 44 => ⟨S32, .f32⟩
  | 45 => ⟨S4112x1, .f32⟩
  | 46 => ⟨S1x32, .f32⟩
  | 47 => ⟨S4112x32, .f32⟩
  | 48 => ⟨S4112x32, .f32⟩
  | 49 => ⟨S4112x32, .f32⟩
  | 50 => ⟨S4112x8x64, .f32⟩
  | 51 => ⟨S4112x32, .f32⟩
  | 52 => ⟨S4112x1x32, .f32⟩
  | 53 => ⟨S4112x32, .f32⟩
  | 54 => ⟨S4112x1x32, .f32⟩
  | 55 => ⟨S4112x8x32, .f32⟩
  | 56 => ⟨S4112x8x32, .f32⟩
  | 57 => ⟨S4112x8x32, .f32⟩
  | 58 => ⟨S4112x8x32, .f32⟩
  | 59 => ⟨S4112x8x32, .f32⟩
  | 60 => ⟨S4112x8x32, .f32⟩
  | 61 => ⟨S4112x8x32, .f32⟩
  | 62 => ⟨S4112x8x32, .f32⟩
  | 63 => ⟨S4112x8x32, .f32⟩
  | 64 => ⟨S4112x8x32, .f32⟩
  | 65 => ⟨S4112x8x32, .f32⟩
  | 66 => ⟨S4112x8x32, .f32⟩
  | 67 => ⟨S4112x8x64, .f32⟩
  | 68 => ⟨S4112x8x128, .f32⟩
  | 69 => ⟨S4112x8x192, .f32⟩
  | 70 => ⟨S4112x8x128, .f32⟩
  | 71 => ⟨S4112x8x64, .f32⟩
  | 72 => ⟨S_, .f32⟩
  | 73 => ⟨S4112x8x192, .f32⟩
  | 74 => ⟨S4112x8x32, .f32⟩
  | 75 => ⟨S4112x8x32, .f32⟩
  | 76 => ⟨S4112x8x32, .f32⟩
  | 77 => ⟨S4112x8x32, .f32⟩
  | 78 => ⟨S4112x8x32, .f32⟩
  | 79 => ⟨S4112x8x32, .f32⟩
  | 80 => ⟨S4112x8x32, .f32⟩
  | 81 => ⟨S4112x8x32, .f32⟩
  | 82 => ⟨S4112x8x32, .f32⟩
  | 83 => ⟨S4112x8x32, .f32⟩
  | 84 => ⟨S4112x8x32, .f32⟩
  | 85 => ⟨S4112x8x32, .f32⟩
  | 86 => ⟨S4112x8x32, .f32⟩
  | 87 => ⟨S4112x8x64, .f32⟩
  | 88 => ⟨S_, .f32⟩
  | 89 => ⟨S4112x8x192, .f32⟩
  | 90 => ⟨S4112x8x192, .f32⟩
  | 91 => ⟨S4112x1536, .f32⟩
  | 92 => ⟨S1536x384, .f32⟩
  | 93 => ⟨S384x1536, .f32⟩
  | 94 => ⟨S4112x384, .f32⟩
  | 95 => ⟨S1x384x1536, .f32⟩
  | 96 => ⟨S4112x384, .f32⟩
  | 97 => ⟨S_, .f32⟩
  | 98 => ⟨S384, .f32⟩
  | 99 => ⟨S1x384, .f32⟩
  | 100 => ⟨S4112x384, .f32⟩
  | 101 => ⟨S4112x384, .f32⟩
  | 102 => ⟨S_, .f32⟩
  | 103 => ⟨S384, .f32⟩
  | 104 => ⟨S4112x384, .f32⟩
  | 105 => ⟨S_, .f32⟩
  | 106 => ⟨S4112, .f32⟩
  | 107 => ⟨S4112x1, .f32⟩
  | 108 => ⟨S4112x384, .f32⟩
  | 109 => ⟨S4112x384, .f32⟩
  | 110 => ⟨S4112x1, .f32⟩
  | 111 => ⟨S_, .f32⟩
  | 112 => ⟨S4112x1, .f32⟩
  | 113 => ⟨S4112x1, .f32⟩
  | 114 => ⟨S_, .f32⟩
  | 115 => ⟨S4112, .f32⟩
  | 116 => ⟨S4112x384, .f32⟩
  | 117 => ⟨S4112x384, .f32⟩
  | 118 => ⟨S4112x384, .f32⟩
  | 119 => ⟨S4112x384, .f32⟩
  | 120 => ⟨S4112x384, .f32⟩
  | 121 => ⟨S1x384, .f32⟩
  | 122 => ⟨S_, .i32⟩
  | 123 => ⟨S_, .f32⟩
  | 124 => ⟨S4224x384, .f32⟩
  | 125 => ⟨S4224x384, .bf16⟩
  | 126 => ⟨S384x1536, .f32⟩
  | 127 => ⟨S384x8x192, .f32⟩
  | _ => ⟨S4112x384, .f32⟩

abbrev hbmTy0_1 (i : Nat) : BufTy := match i % 128 with
  | 0 => ⟨S_, .i32⟩
  | 1 => ⟨S_, .f32⟩
  | 2 => ⟨S384x8x256, .f32⟩
  | 3 => ⟨S384x2048, .f32⟩
  | _ => ⟨S4112x384, .f32⟩

abbrev hbmTy (i : Nat) : BufTy := match i / 128 with
  | 0 => hbmTy0_0 i
  | 1 => hbmTy0_1 i
  | _ => ⟨S4112x384, .f32⟩

abbrev bufTy : (tb : Table) → Fin (tcTables nBuf tb) → BufTy
  | .hbm, ⟨i, _⟩ => hbmTy i
  | _, _ => ⟨S4112x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_cst_6 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_cst_7 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_8 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_v88 : Ref sig .tc := ⟨.hbm, 104, rfl⟩
abbrev main_cst_10 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_11 : Ref sig .tc := ⟨.hbm, 111, rfl⟩
abbrev main_v94 : Ref sig .tc := ⟨.hbm, 112, rfl⟩
abbrev main_v95 : Ref sig .tc := ⟨.hbm, 113, rfl⟩
abbrev main_cst_12 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_c_13 : Ref sig .tc := ⟨.hbm, 122, rfl⟩
abbrev main_call0_v0 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_c_14 : Ref sig .tc := ⟨.hbm, 128, rfl⟩
abbrev main_call1_v0 : Ref sig .tc := ⟨.hbm, 129, rfl⟩
abbrev main_v107 : Ref sig .tc := ⟨.hbm, 130, rfl⟩
abbrev main_v108 : Ref sig .tc := ⟨.hbm, 131, rfl⟩

abbrev nD : Nat := 1
abbrev τ : Topo := Topo.v7x

variable {F : FTy → Type} [FloatOps F]
-- ==== KvProj.lean ====
abbrev S4112x256 : Shape := ⟨2, ![4112, 256]⟩
abbrev S4112x64 : Shape := ⟨2, ![4112, 64]⟩
abbrev S1x256 : Shape := ⟨2, ![1, 256]⟩
abbrev S1x256x2048 : Shape := ⟨3, ![1, 256, 2048]⟩
abbrev S4112x8x192 : Shape := ⟨3, ![4112, 8, 192]⟩
abbrev S4112x8x128 : Shape := ⟨3, ![4112, 8, 128]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S4224x128 : Shape := ⟨2, ![4224, 128]⟩
abbrev S4224x256 : Shape := ⟨2, ![4224, 256]⟩
abbrev S256x2048 : Shape := ⟨2, ![256, 2048]⟩
abbrev S4224x8x256 : Shape := ⟨3, ![4224, 8, 256]⟩
abbrev S4224x2048 : Shape := ⟨2, ![4224, 2048]⟩
abbrev S4112x1024 : Shape := ⟨2, ![4112, 1024]⟩
abbrev S4224x1024 : Shape := ⟨2, ![4224, 1024]⟩
abbrev S384x256 : Shape := ⟨2, ![384, 256]⟩
abbrev S384x2048 : Shape := ⟨2, ![384, 2048]⟩
abbrev S384x1024 : Shape := ⟨2, ![384, 1024]⟩
abbrev S384x128 : Shape := ⟨2, ![384, 128]⟩
abbrev S384 : Shape := ⟨1, ![384]⟩
abbrev S384x1 : Shape := ⟨2, ![384, 1]⟩
abbrev S256 : Shape := ⟨1, ![256]⟩

abbrev nBuf : Space → Nat
  | .hbm => 55
  | .vmem => 19
  | .smem => 0
  | _ => 0

abbrev bufTy : (tb : Table) → Fin (tcTables nBuf tb) → BufTy
  | .hbm, ⟨0, _⟩ => ⟨S4112x256, .f32⟩
  | .hbm, ⟨1, _⟩ => ⟨S4112x64, .f32⟩
  | .hbm, ⟨2, _⟩ => ⟨S1x256, .f32⟩
  | .hbm, ⟨3, _⟩ => ⟨S1x256x2048, .f32⟩
  | .hbm, ⟨4, _⟩ => ⟨S4112x8x192, .f32⟩
  | .hbm, ⟨5, _⟩ => ⟨S4112x8x128, .f32⟩
  | .hbm, ⟨6, _⟩ => ⟨S4224, .i32⟩
  | .hbm, ⟨7, _⟩ => ⟨S4224, .f32⟩
  | .hbm, ⟨8, _⟩ => ⟨S_, .f32⟩
  | .hbm, ⟨9, _⟩ => ⟨S4224, .f32⟩
  | .hbm, ⟨10, _⟩ => ⟨S4224, .f32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4224x1, .f32⟩
  | .hbm, ⟨27, _⟩ => ⟨S1x32, .f32⟩
  | .hbm, ⟨28, _⟩ => ⟨S4224x32, .f32⟩
  | .hbm, ⟨29, _⟩ => ⟨S4224x32, .f32⟩
  | .hbm, ⟨30, _⟩ => ⟨S4224x32, .f32⟩
  | .hbm, ⟨31, _⟩ => ⟨S4224x32, .f32⟩
  | .hbm, ⟨32, _⟩ => ⟨S4224x32, .f32⟩
  | .hbm, ⟨33, _⟩ => ⟨S_, .f32⟩
  | .hbm, ⟨34, _⟩ => ⟨S4224x64, .f32⟩
  | .hbm, ⟨35, _⟩ => ⟨S4224x128, .f32⟩
  | .hbm, ⟨36, _⟩ => ⟨S4224x32, .f32⟩
  | .hbm, ⟨37, _⟩ => ⟨S4224x128, .f32⟩
  | .hbm, ⟨38, _⟩ => ⟨S_, .i32⟩
  | .hbm, ⟨39, _⟩ => ⟨S_, .f32⟩
  | .hbm, ⟨40, _⟩ => ⟨S4224x256, .f32⟩
  | .hbm, ⟨41, _⟩ => ⟨S256x2048, .f32⟩
  | .hbm, ⟨42, _⟩ => ⟨S256x2048, .bf16⟩
  | .hbm, ⟨43, _⟩ => ⟨S_, .i32⟩
  | .hbm, ⟨44, _⟩ => ⟨S_, .f32⟩
  | .hbm, ⟨45, _⟩ => ⟨S4224x8x256, .f32⟩
  | .hbm, ⟨46, _⟩ => ⟨S4224x2048, .f32⟩
  | .hbm, ⟨47, _⟩ => ⟨S4112x1024, .f32⟩
  | .hbm, ⟨48, _⟩ => ⟨S_, .i32⟩
  | .hbm, ⟨49, _⟩ => ⟨S_, .f32⟩
  | .hbm, ⟨50, _⟩ => ⟨S4224x1024, .f32⟩
  | .hbm, ⟨51, _⟩ => ⟨S4224x256, .bf16⟩
  | .hbm, ⟨52, _⟩ => ⟨S256x2048, .f32⟩
  | .hbm, ⟨53, _⟩ => ⟨S1x256, .f32⟩
  | .hbm, ⟨54, _⟩ => ⟨S4224x128, .bf16⟩
  | .local _ .vmem, ⟨0, _⟩ => ⟨S384x256, .f32⟩
  | .local _ .vmem, ⟨1, _⟩ => ⟨S384x256, .f32⟩
  | .local _ .vmem, ⟨2, _⟩ => ⟨S1x256, .f32⟩
  | .local _ .vmem, ⟨3, _⟩ => ⟨S256x2048, .bf16⟩
  | .local _ .vmem, ⟨4, _⟩ => ⟨S384x2048, .f32⟩
  | .local _ .vmem, ⟨5, _⟩ => ⟨S384x2048, .f32⟩
  | .local _ .vmem, ⟨6, _⟩ => ⟨S384x1024, .f32⟩
  | .local _ .vmem, ⟨7, _⟩ => ⟨S384x1024, .f32⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S384x256, .bf16⟩
  | .local _ .vmem, ⟨13, _⟩ => ⟨S384x256, .bf16⟩
  | .local _ .vmem, ⟨14, _⟩ => ⟨S256x2048, .f32⟩
  | .local _ .vmem, ⟨15, _⟩ => ⟨S1x256, .f32⟩
  | .local _ .vmem, ⟨16, _⟩ => ⟨S384x128, .bf16⟩
  | .local _ .vmem, ⟨17, _⟩ => ⟨S384x128, .bf16⟩
  | .local _ .vmem, ⟨18, _⟩ => ⟨S384x2048, .bf16⟩
  | _, _ => ⟨S4112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_call2_v0 : Ref sig .tc := ⟨.hbm, 49, rfl⟩
abbrev main_v32 : Ref sig .tc := ⟨.hbm, 50, rfl⟩
abbrev main_v33_0 : Ref sig .tc := ⟨.hbm, 51, rfl⟩
abbrev main_v33_1 : Ref sig .tc := ⟨.hbm, 52, rfl⟩
abbrev main_v33_2 : Ref sig .tc := ⟨.hbm, 53, rfl⟩
abbrev main_v33_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S384x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvProjRefIdeal.lean ====
abbrev S4112x256 : Shape := ⟨2, ![4112, 256]⟩
abbrev S4112x64 : Shape := ⟨2, ![4112, 64]⟩
abbrev S1x256 : Shape := ⟨2, ![1, 256]⟩
abbrev S1x256x2048 : Shape := ⟨3, ![1, 256, 2048]⟩
abbrev S4112x8x192 : Shape := ⟨3, ![4112, 8, 192]⟩
abbrev S4112x8x128 : Shape := ⟨3, ![4112, 8, 128]⟩
abbrev S256 : Shape := ⟨1, ![256]⟩
abbrev S_ : Shape := ⟨0, ![]⟩
abbrev S4112 : Shape := ⟨1, ![4112]⟩
abbrev S4112x1 : Shape := ⟨2, ![4112, 1]⟩
abbrev S256x2048 : Shape := ⟨2, ![256, 2048]⟩
abbrev S4112x2048 : Shape := ⟨2, ![4112, 2048]⟩
abbrev S4112x8x256 : Shape := ⟨3, ![4112, 8, 256]⟩
abbrev S32 : Shape := ⟨1, ![32]⟩
abbrev S1x32 : Shape := ⟨2, ![1, 32]⟩
abbrev S4112x32 : Shape := ⟨2, ![4112, 32]⟩
abbrev S4112x1x64 : Shape := ⟨3, ![4112, 1, 64]⟩
abbrev S4112x8x64 : Shape := ⟨3, ![4112, 8, 64]⟩
abbrev S2048x256 : Shape := ⟨2, ![2048, 256]⟩
abbrev S4224x128 : Shape := ⟨2, ![4224, 128]⟩
abbrev S4224x256 : Shape := ⟨2, ![4224, 256]⟩

abbrev nBuf : Space → Nat
  | .hbm => 130
  | .vmem => 0
  | .smem => 0
  | _ => 0

abbrev hbmTy0_0 (i : Nat) : BufTy := match i % 128 with
  | 0 => ⟨S4112x256, .f32⟩
  | 1 => ⟨S4112x64, .f32⟩
  | 2 => ⟨S1x256, .f32⟩
  | 3 => ⟨S1x256x2048, .f32⟩
  | 4 => ⟨S4112x8x192, .f32⟩
  | 5 => ⟨S4112x8x128, .f32⟩
  | 6 => ⟨S256, .f32⟩
  | 7 => ⟨S4112x256, .f32⟩
  | 8 => ⟨S_, .f32⟩
  | 9 => ⟨S4112, .f32⟩
  | 10 => ⟨S4112x1, .f32⟩
  | 11 => ⟨S_, .f32⟩
  | 12 => ⟨S4112x1, .f32⟩
  | 13 => ⟨S4112x1, .f32⟩
  | 14 => ⟨S_, .f32⟩
  | 15 => ⟨S4112x1, .f32⟩
  | 16 => ⟨S4112x1, .f32⟩
  | 17 => ⟨S4112x1, .f32⟩
  | 18 => ⟨S4112x1, .f32⟩
  | 19 => ⟨S_, .f32⟩
  | 20 => ⟨S4112x1, .f32⟩
  | 21 => ⟨S4112x1, .f32⟩
  | 22 => ⟨S4112x256, .f32⟩
  | 23 => ⟨S4112x256, .f32⟩
  | 24 => ⟨S1x256, .f32⟩
  | 25 => ⟨S4112x256, .f32⟩
  | 26 => ⟨S4112x256, .f32⟩
  | 27 => ⟨S256x2048, .f32⟩
  | 28 => ⟨S4112x2048, .f32⟩
  | 29 => ⟨S4112x8x256, .f32⟩
  | 30 => ⟨S4112, .i32⟩
  | 31 => ⟨S4112, .f32⟩
  | 32 => ⟨S32, .i32⟩
  | 33 => ⟨S_, .i32⟩
  | 34 => ⟨S32, .i32⟩
  | 35 => ⟨S32, .i32⟩
  | 36 => ⟨S_, .i32⟩
  | 37 => ⟨S32, .i32⟩
  | 38 => ⟨S32, .i32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4112x1, .f32⟩
  | 48 => ⟨S1x32, .f32⟩
  | 49 => ⟨S4112x32, .f32⟩
  | 50 => ⟨S4112x32, .f32⟩
  | 51 => ⟨S4112x32, .f32⟩
  | 52 => ⟨S4112x32, .f32⟩
  | 53 => ⟨S4112x32, .f32⟩
  | 54 => ⟨S4112x32, .f32⟩
  | 55 => ⟨S4112x32, .f32⟩
  | 56 => ⟨S4112x32, .f32⟩
  | 57 => ⟨S4112x32, .f32⟩
  | 58 => ⟨S4112x32, .f32⟩
  | 59 => ⟨S4112x32, .f32⟩
  | 60 => ⟨S4112x32, .f32⟩
  | 61 => ⟨S4112x32, .f32⟩
  | 62 => ⟨S4112x64, .f32⟩
  | 63 => ⟨S4112x1x64, .f32⟩
  | 64 => ⟨S4112x8x64, .f32⟩
  | 65 => ⟨S4112x8x128, .f32⟩
  | 66 => ⟨S4112x8x192, .f32⟩
  | 67 => ⟨S4112x8x128, .f32⟩
  | 68 => ⟨S_, .f32⟩
  | 69 => ⟨S4112x8x256, .f32⟩
  | 70 => ⟨S4112x8x128, .f32⟩
  | 71 => ⟨S4112x8x64, .f32⟩
  | 72 => ⟨S_, .f32⟩
  | 73 => ⟨S4112x8x256, .f32⟩
  | 74 => ⟨S4112x8x256, .f32⟩
  | 75 => ⟨S_, .f32⟩
  | 76 => ⟨S4112x64, .f32⟩
  | 77 => ⟨S4112x1x64, .f32⟩
  | 78 => ⟨S_, .f32⟩
  | 79 => ⟨S4112x64, .f32⟩
  | 80 => ⟨S4112x32, .f32⟩
  | 81 => ⟨S4112x32, .f32⟩
  | 82 => ⟨S4112x32, .f32⟩
  | 83 => ⟨S4112x32, .f32⟩
  | 84 => ⟨S4112x32, .f32⟩
  | 85 => ⟨S4112x32, .f32⟩
  | 86 => ⟨S4112x32, .f32⟩
  | 87 => ⟨S4112x32, .f32⟩
  | 88 => ⟨S4112x32, .f32⟩
  | 89 => ⟨S4112x64, .f32⟩
  | 90 => ⟨S4112x2048, .f32⟩
  | 91 => ⟨S2048x256, .f32⟩
  | 92 => ⟨S256x2048, .f32⟩
  | 93 => ⟨S4112x256, .f32⟩
  | 94 => ⟨S1x256x2048, .f32⟩
  | 95 => ⟨S4112x256, .f32⟩
  | 96 => ⟨S_, .f32⟩
  | 97 => ⟨S256, .f32⟩
  | 98 => ⟨S1x256, .f32⟩
  | 99 => ⟨S4112x256, .f32⟩
  | 100 => ⟨S4112x256, .f32⟩
  | 101 => ⟨S_, .f32⟩
  | 102 => ⟨S256, .f32⟩
  | 103 => ⟨S4112x256, .f32⟩
  | 104 => ⟨S_, .f32⟩
  | 105 => ⟨S4112, .f32⟩
  | 106 => ⟨S4112x1, .f32⟩
  | 107 => ⟨S4112x256, .f32⟩
  | 108 => ⟨S4112x256, .f32⟩
  | 109 => ⟨S4112x1, .f32⟩
  | 110 => ⟨S_, .f32⟩
  | 111 => ⟨S4112x1, .f32⟩
  | 112 => ⟨S4112x1, .f32⟩
  | 113 => ⟨S_, .f32⟩
  | 114 => ⟨S4112, .f32⟩
  | 115 => ⟨S4112x256, .f32⟩
  | 116 => ⟨S4112x256, .f32⟩
  | 117 => ⟨S4112x256, .f32⟩
  | 118 => ⟨S4112x256, .f32⟩
  | 119 => ⟨S4112x256, .f32⟩
  | 120 => ⟨S1x256, .f32⟩
  | 121 => ⟨S_, .i32⟩
  | 122 => ⟨S_, .f32⟩
  | 123 => ⟨S4224x128, .f32⟩
  | 124 => ⟨S_, .i32⟩
  | 125 => ⟨S_, .f32⟩
  | 126 => ⟨S4224x256, .f32⟩
  | 127 => ⟨S4224x256, .bf16⟩
  | _ => ⟨S4112x256, .f32⟩

abbrev hbmTy0_1 (i : Nat) : BufTy := match i % 128 with
  | 0 => ⟨S256x2048, .f32⟩
  | 1 => ⟨S4224x128, .bf16⟩
  | _ => ⟨S4112x256, .f32⟩

abbrev hbmTy (i : Nat) : BufTy := match i / 128 with
  | 0 => hbmTy0_0 i
  | 1 => hbmTy0_1 i
  | _ => ⟨S4112x256, .f32⟩

abbrev bufTy : (tb : Table) → Fin (tcTables nBuf tb) → BufTy
  | .hbm, ⟨i, _⟩ => hbmTy i
  | _, _ => ⟨S4112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_c_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_7 : Ref sig .tc := ⟨.hbm, 72, rfl⟩
abbrev main_v57 : Ref sig .tc := ⟨.hbm, 73, rfl⟩
abbrev main_v58 : Ref sig .tc := ⟨.hbm, 74, rfl⟩
abbrev main_cst_8 : Ref sig .tc := ⟨.hbm, 75, rfl⟩
abbrev main_v59 : Ref sig .tc := ⟨.hbm, 76, rfl⟩
abbrev main_v60 : Ref sig .tc := ⟨.hbm, 77, rfl⟩
abbrev main_cst_9 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_10 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_11 : Ref sig .tc := ⟨.hbm, 101, rfl⟩
abbrev main_v82 : Ref sig .tc := ⟨.hbm, 102, rfl⟩
abbrev main_v83 : Ref sig .tc := ⟨.hbm, 103, rfl⟩
abbrev main_cst_12 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_13 : Ref sig .tc := ⟨.hbm, 110, rfl⟩
abbrev main_v89 : Ref sig .tc := ⟨.hbm, 111, rfl⟩
abbrev main_v90 : Ref sig .tc := ⟨.hbm, 112, rfl⟩
abbrev main_cst_14 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_c_15 : Ref sig .tc := ⟨.hbm, 121, rfl⟩
abbrev main_call0_v0 : Ref sig .tc := ⟨.hbm, 122, rfl⟩
abbrev main_v98 : Ref sig .tc := ⟨.hbm, 123, rfl⟩
abbrev main_c_16 : Ref sig .tc := ⟨.hbm, 124, rfl⟩
abbrev main_call1_v0 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩

abbrev nD : Nat := 1
abbrev τ : Topo := Topo.v7x

variable {F : FTy → Type} [FloatOps F]
-- ==== AIn.lean ====
abbrev S4112x1024 : Shape := ⟨2, ![4112, 1024]⟩
abbrev S1x1024 : Shape := ⟨2, ![1, 1024]⟩
abbrev S1x1024x1728 : Shape := ⟨3, ![1, 1024, 1728]⟩
abbrev S4112x384 : Shape := ⟨2, ![4112, 384]⟩
abbrev S4112x256 : Shape := ⟨2, ![4112, 256]⟩
abbrev S4112x64 : Shape := ⟨2, ![4112, 64]⟩
abbrev S1024x1728 : Shape := ⟨2, ![1024, 1728]⟩
abbrev S1728x1024 : Shape := ⟨2, ![1728, 1024]⟩
abbrev S704x1024 : Shape := ⟨2, ![704, 1024]⟩
abbrev S_ : Shape := ⟨0, ![]⟩
abbrev S64x1024 : Shape := ⟨2, ![64, 1024]⟩
abbrev S1024x1024 : Shape := ⟨2, ![1024, 1024]⟩
abbrev S1792x1024 : Shape := ⟨2, ![1792, 1024]⟩
abbrev S4224x128 : Shape := ⟨2, ![4224, 128]⟩
abbrev S4224x1024 : Shape := ⟨2, ![4224, 1024]⟩
abbrev S4224x384 : Shape := ⟨2, ![4224, 384]⟩
abbrev S4224x256 : Shape := ⟨2, ![4224, 256]⟩
abbrev S384x1024 : Shape := ⟨2, ![384, 1024]⟩
abbrev S384x384 : Shape := ⟨2, ![384, 384]⟩
abbrev S384x256 : Shape := ⟨2, ![384, 256]⟩
abbrev S384x128 : Shape := ⟨2, ![384, 128]⟩
abbrev S384x1792 : Shape := ⟨2, ![384, 1792]⟩
abbrev S384 : Shape := ⟨1, ![384]⟩
abbrev S384x1 : Shape := ⟨2, ![384, 1]⟩
abbrev S1024 : Shape := ⟨1, ![1024]⟩

abbrev nBuf : Space → Nat
  | .hbm => 41
  | .vmem => 19
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x1728, .f32⟩
  | .hbm, ⟨3, _⟩ => ⟨S4112x384, .f32⟩
  | .hbm, ⟨4, _⟩ => ⟨S4112x256, .f32⟩
  | .hbm, ⟨5, _⟩ => ⟨S4112x64, .f32⟩
  | .hbm, ⟨6, _⟩ => ⟨S4112x1024, .f32⟩
  | .hbm, ⟨7, _⟩ => ⟨S4112x1024, .f32⟩
  | .hbm, ⟨8, _⟩ => ⟨S1024x1728, .f32⟩
  | .hbm, ⟨9, _⟩ => ⟨S1728x1024, .f32⟩
  | .hbm, ⟨10, _⟩ => ⟨S1728x1024, .bf16⟩
  | .hbm, ⟨11, _⟩ => ⟨S704x1024, .bf16⟩
  | .hbm, ⟨12, _⟩ => ⟨S_, .bf16⟩
  | .hbm, ⟨13, _⟩ => ⟨S64x1024, .bf16⟩
  | .hbm, ⟨14, _⟩ => ⟨S1024x1024, .bf16⟩
  | .hbm, ⟨15, _⟩ => ⟨S1792x1024, .bf16⟩
  | .hbm, ⟨16, _⟩ => ⟨S_, .i32⟩
  | .hbm, ⟨17, _⟩ => ⟨S_, .f32⟩
  | .hbm, ⟨18, _⟩ => ⟨S4224x128, .f32⟩
  | .hbm, ⟨19, _⟩ => ⟨S_, .i32⟩
  | .hbm, ⟨20, _⟩ => ⟨S_, .f32⟩
  | .hbm, ⟨21, _⟩ => ⟨S4224x1024, .f32⟩
  | .hbm, ⟨22, _⟩ => ⟨S_, .i32⟩
  | .hbm, ⟨23, _⟩ => ⟨S_, .f32⟩
  | .hbm, ⟨24, _⟩ => ⟨S4224x384, .f32⟩
  | .hbm, ⟨25, _⟩ => ⟨S4224x384, .bf16⟩
  | .hbm, ⟨26, _⟩ => ⟨S_, .i32⟩
  | .hbm, ⟨27, _⟩ => ⟨S_, .f32⟩
  | .hbm, ⟨28, _⟩ => ⟨S4224x256, .f32⟩
  | .hbm, ⟨29, _⟩ => ⟨S4224x256, .bf16⟩
  | .hbm, ⟨30, _⟩ => ⟨S4224x128, .bf16⟩
  | .hbm, ⟨31, _⟩ => ⟨S_, .i32⟩
  | .hbm, ⟨32, _⟩ => ⟨S_, .f32⟩
  | .hbm, ⟨33, _⟩ => ⟨S4224x1024, .f32⟩
  | .hbm, ⟨34, _⟩ => ⟨S4224x1024, .bf16⟩
  | .hbm, ⟨35, _⟩ => ⟨S_, .i32⟩
  | .hbm, ⟨36, _⟩ => ⟨S_, .f32⟩
  | .hbm, ⟨37, _⟩ => ⟨S4224x1024, .f32⟩
  | .hbm, ⟨38, _⟩ => ⟨S4224x1024, .f32⟩
  | .hbm, ⟨39, _⟩ => ⟨S1792x1024, .f32⟩
  | .hbm, ⟨40, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S1792x1024, .bf16⟩
  | .local _ .vmem, ⟨4, _⟩ => ⟨S384x384, .bf16⟩
  | .local _ .vmem, ⟨5, _⟩ => ⟨S384x384, .bf16⟩
  | .local _ .vmem, ⟨6, _⟩ => ⟨S384x256, .bf16⟩
  | .local _ .vmem, ⟨7, _⟩ => ⟨S384x256, .bf16⟩
  | .local _ .vmem, ⟨8, _⟩ => ⟨S384x128, .bf16⟩
  | .local _ .vmem, ⟨9, _⟩ => ⟨S384x128, .bf16⟩
  | .local _ .vmem, ⟨10, _⟩ => ⟨S384x1024, .bf16⟩
  | .local _ .vmem, ⟨11, _⟩ => ⟨S384x1024, .bf16⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | .local _ .vmem, ⟨15, _⟩ => ⟨S384x1024, .f32⟩
  | .local _ .vmem, ⟨16, _⟩ => ⟨S1792x1024, .f32⟩
  | .local _ .vmem, ⟨17, _⟩ => ⟨S1x1024, .f32⟩
  | .local _ .vmem, ⟨18, _⟩ => ⟨S384x1792, .bf16⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_v7 : Ref sig .tc := ⟨.hbm, 18, rfl⟩
abbrev main_c_0 : Ref sig .tc := ⟨.hbm, 19, rfl⟩
abbrev main_call1_v0 : Ref sig .tc := ⟨.hbm, 20, rfl⟩
abbrev main_v8 : Ref sig .tc := ⟨.hbm, 21, rfl⟩
abbrev main_c_1 : Ref sig .tc := ⟨.hbm, 22, rfl⟩
abbrev main_call2_v0 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_call4_v0 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_call5_v0 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v17_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1792x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AInRefIdeal.lean ====
abbrev S4112x1024 : Shape := ⟨2, ![4112, 1024]⟩
abbrev S1x1024 : Shape := ⟨2, ![1, 1024]⟩
abbrev S1x1024x1728 : Shape := ⟨3, ![1, 1024, 1728]⟩
abbrev S4112x384 : Shape := ⟨2, ![4112, 384]⟩
abbrev S4112x256 : Shape := ⟨2, ![4112, 256]⟩
abbrev S4112x64 : Shape := ⟨2, ![4112, 64]⟩
abbrev S1024 : Shape := ⟨1, ![1024]⟩
abbrev S_ : Shape := ⟨0, ![]⟩
abbrev S4112 : Shape := ⟨1, ![4112]⟩
abbrev S4112x1 : Shape := ⟨2, ![4112, 1]⟩
abbrev S1024x1728 : Shape := ⟨2, ![1024, 1728]⟩
abbrev S4112x1728 : Shape := ⟨2, ![4112, 1728]⟩
abbrev S1728x1024 : Shape := ⟨2, ![1728, 1024]⟩
abbrev S4224x1024 : Shape := ⟨2, ![4224, 1024]⟩
abbrev S704x1024 : Shape := ⟨2, ![704, 1024]⟩
abbrev S64x1024 : Shape := ⟨2, ![64, 1024]⟩
abbrev S1024x1024 : Shape := ⟨2, ![1024, 1024]⟩
abbrev S1792x1024 : Shape := ⟨2, ![1792, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S1x1024, .f32⟩
  | .hbm, ⟨2, _⟩ => ⟨S1x1024x1728, .f32⟩
  | .hbm, ⟨3, _⟩ => ⟨S4112x384, .f32⟩
  | .hbm, ⟨4, _⟩ => ⟨S4112x256, .f32⟩
  | .hbm, ⟨5, _⟩ => ⟨S4112x64, .f32⟩
  | .hbm, ⟨6, _⟩ => ⟨S4112x1024, .f32⟩
  | .hbm, ⟨7, _⟩ => ⟨S4112x1024, .f32⟩
  | .hbm, ⟨8, _⟩ => ⟨S1024, .f32⟩
  | .hbm, ⟨9, _⟩ => ⟨S4112x1024, .f32⟩
  | .hbm, ⟨10, _⟩ => ⟨S_, .f32⟩
  | .hbm, ⟨11, _⟩ => ⟨S4112, .f32⟩
  | .hbm, ⟨12, _⟩ => ⟨S4112x1, .f32⟩
  | .hbm, ⟨13, _⟩ => ⟨S_, .f32⟩
  | .hbm, ⟨14, _⟩ => ⟨S4112x1, .f32⟩
  | .hbm, ⟨15, _⟩ => ⟨S4112x1, .f32⟩
  | .hbm, ⟨16, _⟩ => ⟨S_, .f32⟩
  | .hbm, ⟨17, _⟩ => ⟨S4112x1, .f32⟩
  | .hbm, ⟨18, _⟩ => ⟨S4112x1, .f32⟩
  | .hbm, ⟨19, _⟩ => ⟨S4112x1, .f32⟩
  | .hbm, ⟨20, _⟩ => ⟨S4112x1, .f32⟩
  | .hbm, ⟨21, _⟩ => ⟨S_, .f32⟩
  | .hbm, ⟨22, _⟩ => ⟨S4112x1, .f32⟩
  | .hbm, ⟨23, _⟩ => ⟨S4112x1, .f32⟩
  | .hbm, ⟨24, _⟩ => ⟨S4112x1024, .f32⟩
  | .hbm, ⟨25, _⟩ => ⟨S4112x1024, .f32⟩
  | .hbm, ⟨26, _⟩ => ⟨S1x1024, .f32⟩
  | .hbm, ⟨27, _⟩ => ⟨S4112x1024, .f32⟩
  | .hbm, ⟨28, _⟩ => ⟨S4112x1024, .f32⟩
  | .hbm, ⟨29, _⟩ => ⟨S1024x1728, .f32⟩
  | .hbm, ⟨30, _⟩ => ⟨S4112x1728, .f32⟩
  | .hbm, ⟨31, _⟩ => ⟨S4112x384, .f32⟩
  | .hbm, ⟨32, _⟩ => ⟨S4112x256, .f32⟩
  | .hbm, ⟨33, _⟩ => ⟨S4112x64, .f32⟩
  | .hbm, ⟨34, _⟩ => ⟨S4112x1024, .f32⟩
  | .hbm, ⟨35, _⟩ => ⟨S4112x1728, .f32⟩
  | .hbm, ⟨36, _⟩ => ⟨S1728x1024, .f32⟩
  | .hbm, ⟨37, _⟩ => ⟨S1024x1728, .f32⟩
  | .hbm, ⟨38, _⟩ => ⟨S4112x1024, .f32⟩
  | .hbm, ⟨39, _⟩ => ⟨S1x1024x1728, .f32⟩
  | .hbm, ⟨40, _⟩ => ⟨S4112x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4112x1024, .f32⟩
  | .hbm, ⟨45, _⟩ => ⟨S4112x1024, .f32⟩
  | .hbm, ⟨46, _⟩ => ⟨S_, .f32⟩
  | .hbm, ⟨47, _⟩ => ⟨S1024, .f32⟩
  | .hbm, ⟨48, _⟩ => ⟨S4112x1024, .f32⟩
  | .hbm, ⟨49, _⟩ => ⟨S_, .f32⟩
  | .hbm, ⟨50, _⟩ => ⟨S4112, .f32⟩
  | .hbm, ⟨51, _⟩ => ⟨S4112x1, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S4112x1, .f32⟩
  | .hbm, ⟨56, _⟩ => ⟨S_, .f32⟩
  | .hbm, ⟨57, _⟩ => ⟨S4112x1, .f32⟩
  | .hbm, ⟨58, _⟩ => ⟨S4112x1, .f32⟩
  | .hbm, ⟨59, _⟩ => ⟨S_, .f32⟩
  | .hbm, ⟨60, _⟩ => ⟨S4112, .f32⟩
  | .hbm, ⟨61, _⟩ => ⟨S4112x1024, .f32⟩
  | .hbm, ⟨62, _⟩ => ⟨S4112x1024, .f32⟩
  | .hbm, ⟨63, _⟩ => ⟨S4112x1024, .f32⟩
  | .hbm, ⟨64, _⟩ => ⟨S4112x1024, .f32⟩
  | .hbm, ⟨65, _⟩ => ⟨S4112x1024, .f32⟩
  | .hbm, ⟨66, _⟩ => ⟨S1x1024, .f32⟩
  | .hbm, ⟨67, _⟩ => ⟨S_, .i32⟩
  | .hbm, ⟨68, _⟩ => ⟨S_, .f32⟩
  | .hbm, ⟨69, _⟩ => ⟨S4224x1024, .f32⟩
  | .hbm, ⟨70, _⟩ => ⟨S1024x1728, .f32⟩
  | .hbm, ⟨71, _⟩ => ⟨S1728x1024, .f32⟩
  | .hbm, ⟨72, _⟩ => ⟨S704x1024, .f32⟩
  | .hbm, ⟨73, _⟩ => ⟨S_, .f32⟩
  | .hbm, ⟨74, _⟩ => ⟨S64x1024, .f32⟩
  | .hbm, ⟨75, _⟩ => ⟨S1024x1024, .f32⟩
  | .hbm, ⟨76, _⟩ => ⟨S1792x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c : Ref sig .tc := ⟨.hbm, 67, rfl⟩
abbrev main_call0_v0 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== OutLoss.lean ====
abbrev S4112x1024 : Shape := ⟨2, ![4112, 1024]⟩
abbrev S1x1024x1024 : Shape := ⟨3, ![1, 1024, 1024]⟩
abbrev S1024 : Shape := ⟨1, ![1024]⟩
abbrev S4096x1024 : Shape := ⟨2, ![4096, 1024]⟩
abbrev S_ : Shape := ⟨0, ![]⟩
abbrev S4224x1024 : Shape := ⟨2, ![4224, 1024]⟩
abbrev S1024x1024 : Shape := ⟨2, ![1024, 1024]⟩
abbrev S1x1024 : Shape := ⟨2, ![1, 1024]⟩
abbrev S8x128 : Shape := ⟨2, ![8, 128]⟩
abbrev S384x1024 : Shape := ⟨2, ![384, 1024]⟩
abbrev S128x1024 : Shape := ⟨2, ![128, 1024]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 24
  | .vmem => 23
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1x1024x1024, .f32⟩
  | .hbm, ⟨3, _⟩ => ⟨S4112x1024, .f32⟩
  | .hbm, ⟨4, _⟩ => ⟨S1024, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S_, .i32⟩
  | .hbm, ⟨10, _⟩ => ⟨S_, .f32⟩
  | .hbm, ⟨11, _⟩ => ⟨S4224x1024, .f32⟩
  | .hbm, ⟨12, _⟩ => ⟨S1024x1024, .f32⟩
  | .hbm, ⟨13, _⟩ => ⟨S1024x1024, .bf16⟩
  | .hbm, ⟨14, _⟩ => ⟨S_, .i32⟩
  | .hbm, ⟨15, _⟩ => ⟨S_, .f32⟩
  | .hbm, ⟨16, _⟩ => ⟨S4224x1024, .f32⟩
  | .hbm, ⟨17, _⟩ => ⟨S1x1024, .f32⟩
  | .hbm, ⟨18, _⟩ => ⟨S4224x1024, .f32⟩
  | .hbm, ⟨19, _⟩ => ⟨S8x128, .f32⟩
  | .hbm, ⟨20, _⟩ => ⟨S1x1024, .f32⟩
  | .hbm, ⟨21, _⟩ => ⟨S4224x1024, .f32⟩
  | .hbm, ⟨22, _⟩ => ⟨S4224x1024, .bf16⟩
  | .hbm, ⟨23, _⟩ => ⟨S1024x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S384x1024, .f32⟩
  | .local _ .vmem, ⟨15, _⟩ => ⟨S384x1024, .f32⟩
  | .local _ .vmem, ⟨16, _⟩ => ⟨S8x128, .f32⟩
  | .local _ .vmem, ⟨17, _⟩ => ⟨S1x1024, .f32⟩
  | .local _ .vmem, ⟨18, _⟩ => ⟨S384x1024, .f32⟩
  | .local _ .vmem, ⟨19, _⟩ => ⟨S384x1024, .f32⟩
  | .local _ .vmem, ⟨20, _⟩ => ⟨S384x1024, .bf16⟩
  | .local _ .vmem, ⟨21, _⟩ => ⟨S384x1024, .bf16⟩
  | .local _ .vmem, ⟨22, _⟩ => ⟨S1024x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c3_i32 : BitVec 32 := 3#32
  let v0 : BitVec 32 := Scalar.muli arg0 c3_i32
  let c0_i32 : BitVec 32 := 0#32
  let v1 : BitVec 32 := Scalar.addi v0 c0_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  let c0_i32_2 : BitVec 32 := 0#32
  ![v3.toNat, c0_i32_1.toNat]

def cc0_transform_6 (i : grid0.Coords) : Fin 2 → Nat :=
  let arg0 : BitVec 32 := BitVec.ofNat 32 (i 0).val
  let c3_i32 : BitVec 32 := 3#32
  let v0 : BitVec 32 := Scalar.muli arg0 c3_i32
  let c1_i32 : BitVec 32 := 1#32
  let v1 : BitVec 32 := Scalar.addi v0 c1_i32
  let c1_i32_0 : BitVec 32 := 1#32
  let v2 : BitVec 32 := Scalar.subi v1 c1_i32_0
  let c0_i32 : BitVec 32 := 0#32
  let v3 : BitVec 32 := Scalar.maxsi v2 c0_i32
  let c0_i32_1 : BitVec 32 := 0#32
  let c0_i32_2 : BitVec 32 := 0#32
  ![v3.toNat, c0_i32_1.toNat]

def cc0_transform_7 (i : grid0.Coords) : Fin 2 → Nat :=
  let arg0 : BitVec 32 := BitVec.ofNat 32 (i 0).val
  let c3_i32 : BitVec 32 := 3#32
  let v0 : BitVec 32 := Scalar.muli arg0 c3_i32
  let c2_i32 : BitVec 32 := 2#32
  let v1 : BitVec 32 := Scalar.addi v0 c2_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S384x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutLossRefIdeal.lean ====
abbrev S4112x1024 : Shape := ⟨2, ![4112, 1024]⟩
abbrev S1x1024x1024 : Shape := ⟨3, ![1, 1024, 1024]⟩
abbrev S1024 : Shape := ⟨1, ![1024]⟩
abbrev S4096x1024 : Shape := ⟨2, ![4096, 1024]⟩
abbrev S_ : Shape := ⟨0, ![]⟩
abbrev S1024x1024 : Shape := ⟨2, ![1024, 1024]⟩
abbrev S4112 : Shape := ⟨1, ![4112]⟩
abbrev S4112x1 : Shape := ⟨2, ![4112, 1]⟩
abbrev S1x1024 : Shape := ⟨2, ![1, 1024]⟩
abbrev S4096 : Shape := ⟨1, ![4096]⟩
abbrev S4224x1024 : Shape := ⟨2, ![4224, 1024]⟩
abbrev S8x128 : Shape := ⟨2, ![8, 128]⟩

abbrev nBuf : Space → Nat
  | .hbm => 116
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1x1024x1024, .f32⟩
  | .hbm, ⟨3, _⟩ => ⟨S4112x1024, .f32⟩
  | .hbm, ⟨4, _⟩ => ⟨S1024, .f32⟩
  | .hbm, ⟨5, _⟩ => ⟨S4096x1024, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112x1024, .f32⟩
  | .hbm, ⟨10, _⟩ => ⟨S4112x1024, .f32⟩
  | .hbm, ⟨11, _⟩ => ⟨S_, .f32⟩
  | .hbm, ⟨12, _⟩ => ⟨S4112x1024, .f32⟩
  | .hbm, ⟨13, _⟩ => ⟨S4112x1024, .f32⟩
  | .hbm, ⟨14, _⟩ => ⟨S_, .f32⟩
  | .hbm, ⟨15, _⟩ => ⟨S4112x1024, .f32⟩
  | .hbm, ⟨16, _⟩ => ⟨S4112x1024, .f32⟩
  | .hbm, ⟨17, _⟩ => ⟨S4112x1024, .f32⟩
  | .hbm, ⟨18, _⟩ => ⟨S4112x1024, .f32⟩
  | .hbm, ⟨19, _⟩ => ⟨S4112x1024, .f32⟩
  | .hbm, ⟨20, _⟩ => ⟨S1024x1024, .f32⟩
  | .hbm, ⟨21, _⟩ => ⟨S4112x1024, .f32⟩
  | .hbm, ⟨22, _⟩ => ⟨S4112x1024, .f32⟩
  | .hbm, ⟨23, _⟩ => ⟨S4112x1024, .f32⟩
  | .hbm, ⟨24, _⟩ => ⟨S_, .f32⟩
  | .hbm, ⟨25, _⟩ => ⟨S4112, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S_, .f32⟩
  | .hbm, ⟨31, _⟩ => ⟨S4112x1, .f32⟩
  | .hbm, ⟨32, _⟩ => ⟨S4112x1, .f32⟩
  | .hbm, ⟨33, _⟩ => ⟨S4112x1, .f32⟩
  | .hbm, ⟨34, _⟩ => ⟨S4112x1, .f32⟩
  | .hbm, ⟨35, _⟩ => ⟨S_, .f32⟩
  | .hbm, ⟨36, _⟩ => ⟨S4112x1, .f32⟩
  | .hbm, ⟨37, _⟩ => ⟨S4112x1, .f32⟩
  | .hbm, ⟨38, _⟩ => ⟨S4112x1024, .f32⟩
  | .hbm, ⟨39, _⟩ => ⟨S4112x1024, .f32⟩
  | .hbm, ⟨40, _⟩ => ⟨S1x1024, .f32⟩
  | .hbm, ⟨41, _⟩ => ⟨S4112x1024, .f32⟩
  | .hbm, ⟨42, _⟩ => ⟨S4112x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4112x1024, .f32⟩
  | .hbm, ⟨68, _⟩ => ⟨S4112x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4112x1024, .f32⟩
  | .hbm, ⟨73, _⟩ => ⟨S4112x1024, .f32⟩
  | .hbm, ⟨74, _⟩ => ⟨S_, .f32⟩
  | .hbm, ⟨75, _⟩ => ⟨S1024, .f32⟩
  | .hbm, ⟨76, _⟩ => ⟨S4112x1024, .f32⟩
  | .hbm, ⟨77, _⟩ => ⟨S_, .f32⟩
  | .hbm, ⟨78, _⟩ => ⟨S4112, .f32⟩
  | .hbm, ⟨79, _⟩ => ⟨S4112x1, .f32⟩
  | .hbm, ⟨80, _⟩ => ⟨S4112x1024, .f32⟩
  | .hbm, ⟨81, _⟩ => ⟨S4112x1024, .f32⟩
  | .hbm, ⟨82, _⟩ => ⟨S4112x1, .f32⟩
  | .hbm, ⟨83, _⟩ => ⟨S_, .f32⟩
  | .hbm, ⟨84, _⟩ => ⟨S4112x1, .f32⟩
  | .hbm, ⟨85, _⟩ => ⟨S4112x1, .f32⟩
  | .hbm, ⟨86, _⟩ => ⟨S_, .f32⟩
  | .hbm, ⟨87, _⟩ => ⟨S4112, .f32⟩
  | .hbm, ⟨88, _⟩ => ⟨S4112x1024, .f32⟩
  | .hbm, ⟨89, _⟩ => ⟨S4112x1024, .f32⟩
  | .hbm, ⟨90, _⟩ => ⟨S4112x1024, .f32⟩
  | .hbm, ⟨91, _⟩ => ⟨S4112x1024, .f32⟩
  | .hbm, ⟨92, _⟩ => ⟨S4112x1024, .f32⟩
  | .hbm, ⟨93, _⟩ => ⟨S1024x1024, .f32⟩
  | .hbm, ⟨94, _⟩ => ⟨S1024x1024, .f32⟩
  | .hbm, ⟨95, _⟩ => ⟨S4112x1024, .f32⟩
  | .hbm, ⟨96, _⟩ => ⟨S1x1024x1024, .f32⟩
  | .hbm, ⟨97, _⟩ => ⟨S4112x1024, .f32⟩
  | .hbm, ⟨98, _⟩ => ⟨S4112x1024, .f32⟩
  | .hbm, ⟨99, _⟩ => ⟨S4112x1024, .f32⟩
  | .hbm, ⟨100, _⟩ => ⟨S4112x1024, .f32⟩
  | .hbm, ⟨101, _⟩ => ⟨S4112x1024, .f32⟩
  | .hbm, ⟨102, _⟩ => ⟨S4112x1024, .f32⟩
  | .hbm, ⟨103, _⟩ => ⟨S_, .i32⟩
  | .hbm, ⟨104, _⟩ => ⟨S_, .f32⟩
  | .hbm, ⟨105, _⟩ => ⟨S4224x1024, .f32⟩
  | .hbm, ⟨106, _⟩ => ⟨S8x128, .f32⟩
  | .hbm, ⟨107, _⟩ => ⟨S1x1024, .f32⟩
  | .hbm, ⟨108, _⟩ => ⟨S_, .i32⟩
  | .hbm, ⟨109, _⟩ => ⟨S_, .f32⟩
  | .hbm, ⟨110, _⟩ => ⟨S4224x1024, .f32⟩
  | .hbm, ⟨111, _⟩ => ⟨S_, .i32⟩
  | .hbm, ⟨112, _⟩ => ⟨S_, .f32⟩
  | .hbm, ⟨113, _⟩ => ⟨S4224x1024, .f32⟩
  | .hbm, ⟨114, _⟩ => ⟨S4224x1024, .bf16⟩
  | .hbm, ⟨115, _⟩ => ⟨S1024x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v0_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v0_1 : Ref sig .tc := ⟨.hbm, 17, rfl⟩
abbrev main_v0_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_cst_6 : Ref sig .tc := ⟨.hbm, 53, rfl⟩
abbrev main_v28 : Ref sig .tc := ⟨.hbm, 54, rfl⟩
abbrev main_cst_7 : Ref sig .tc := ⟨.hbm, 55, rfl⟩
abbrev main_cst_8 : Ref sig .tc := ⟨.hbm, 56, rfl⟩
abbrev main_v29 : Ref sig .tc := ⟨.hbm, 57, rfl⟩
abbrev main_v30 : Ref sig .tc := ⟨.hbm, 58, rfl⟩
abbrev main_cst_9 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_10 : Ref sig .tc := ⟨.hbm, 66, rfl⟩
abbrev main_v37 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_12 : Ref sig .tc := ⟨.hbm, 74, rfl⟩
abbrev main_v43 : Ref sig .tc := ⟨.hbm, 75, rfl⟩
abbrev main_v44 : Ref sig .tc := ⟨.hbm, 76, rfl⟩
abbrev main_cst_13 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_14 : Ref sig .tc := ⟨.hbm, 83, rfl⟩
abbrev main_v50 : Ref sig .tc := ⟨.hbm, 84, rfl⟩
abbrev main_v51 : Ref sig .tc := ⟨.hbm, 85, rfl⟩
abbrev main_cst_15 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v64 : Ref sig .tc := ⟨.hbm, 102, rfl⟩
abbrev main_c : Ref sig .tc := ⟨.hbm, 103, rfl⟩
abbrev main_call2_v0 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_16 : Ref sig .tc := ⟨.hbm, 108, rfl⟩
abbrev main_call3_v0 : Ref sig .tc := ⟨.hbm, 109, rfl⟩
abbrev main_v68 : Ref sig .tc := ⟨.hbm, 110, rfl⟩
abbrev main_c_17 : Ref sig .tc := ⟨.hbm, 111, rfl⟩
abbrev main_call4_v0 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩

abbrev nD : Nat := 1
abbrev τ : Topo := Topo.v7x

variable {F : FTy → Type} [FloatOps F]
-- ==== OutIn.lean ====
abbrev S4112x1024 : Shape := ⟨2, ![4112, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩
abbrev S4224x1024 : Shape := ⟨2, ![4224, 1024]⟩
abbrev S1024x1024 : Shape := ⟨2, ![1024, 1024]⟩
abbrev S1024x2048 : Shape := ⟨2, ![1024, 2048]⟩
abbrev S384x1024 : Shape := ⟨2, ![384, 1024]⟩
abbrev S384 : Shape := ⟨1, ![384]⟩
abbrev S384x1 : Shape := ⟨2, ![384, 1]⟩
abbrev S384x2048 : Shape := ⟨2, ![384, 2048]⟩

abbrev nBuf : Space → Nat
  | .hbm => 22
  | .vmem => 15
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1x1024x1024, .f32⟩
  | .hbm, ⟨3, _⟩ => ⟨S4112x1024, .f32⟩
  | .hbm, ⟨4, _⟩ => ⟨S1x1024, .f32⟩
  | .hbm, ⟨5, _⟩ => ⟨S1x1024x2048, .f32⟩
  | .hbm, ⟨6, _⟩ => ⟨S_, .i32⟩
  | .hbm, ⟨7, _⟩ => ⟨S_, .f32⟩
  | .hbm, ⟨8, _⟩ => ⟨S4224x1024, .f32⟩
  | .hbm, ⟨9, _⟩ => ⟨S_, .i32⟩
  | .hbm, ⟨10, _⟩ => ⟨S_, .f32⟩
  | .hbm, ⟨11, _⟩ => ⟨S4224x1024, .f32⟩
  | .hbm, ⟨12, _⟩ => ⟨S1024x1024, .f32⟩
  | .hbm, ⟨13, _⟩ => ⟨S1024x1024, .bf16⟩
  | .hbm, ⟨14, _⟩ => ⟨S_, .i32⟩
  | .hbm, ⟨15, _⟩ => ⟨S_, .f32⟩
  | .hbm, ⟨16, _⟩ => ⟨S4224x1024, .f32⟩
  | .hbm, ⟨17, _⟩ => ⟨S1024x2048, .f32⟩
  | .hbm, ⟨18, _⟩ => ⟨S1024x2048, .bf16⟩
  | .hbm, ⟨19, _⟩ => ⟨S4224x1024, .f32⟩
  | .hbm, ⟨20, _⟩ => ⟨S4224x1024, .f32⟩
  | .hbm, ⟨21, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1024x1024, .bf16⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | .local _ .vmem, ⟨8, _⟩ => ⟨S1024x2048, .bf16⟩
  | .local _ .vmem, ⟨9, _⟩ => ⟨S384x1024, .f32⟩
  | .local _ .vmem, ⟨10, _⟩ => ⟨S384x1024, .f32⟩
  | .local _ .vmem, ⟨11, _⟩ => ⟨S384x1024, .f32⟩
  | .local _ .vmem, ⟨12, _⟩ => ⟨S384x1024, .f32⟩
  | .local _ .vmem, ⟨13, _⟩ => ⟨S384x1024, .f32⟩
  | .local _ .vmem, ⟨14, _⟩ => ⟨S384x1024, .f32⟩
  | _, _ => ⟨S4112x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutInRefIdeal.lean ====
abbrev S4112x1024 : Shape := ⟨2, ![4112, 1024]⟩
abbrev S1x1024x1024 : Shape := ⟨3, ![1, 1024, 1024]⟩
abbrev S1x1024 : Shape := ⟨2, ![1, 1024]⟩
abbrev S1x1024x2048 : Shape := ⟨3, ![1, 1024, 2048]⟩
abbrev S_ : Shape := ⟨0, ![]⟩
abbrev S1024x1024 : Shape := ⟨2, ![1024, 1024]⟩
abbrev S1024 : Shape := ⟨1, ![1024]⟩
abbrev S4112 : Shape := ⟨1, ![4112]⟩
abbrev S4112x1 : Shape := ⟨2, ![4112, 1]⟩
abbrev S1024x2048 : Shape := ⟨2, ![1024, 2048]⟩
abbrev S4112x2048 : Shape := ⟨2, ![4112, 2048]⟩
abbrev S4224x1024 : Shape := ⟨2, ![4224, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4112x1024, .f32⟩
  | .hbm, ⟨1, _⟩ => ⟨S4112x1024, .f32⟩
  | .hbm, ⟨2, _⟩ => ⟨S1x1024x1024, .f32⟩
  | .hbm, ⟨3, _⟩ => ⟨S4112x1024, .f32⟩
  | .hbm, ⟨4, _⟩ => ⟨S1x1024, .f32⟩
  | .hbm, ⟨5, _⟩ => ⟨S1x1024x2048, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112x1024, .f32⟩
  | .hbm, ⟨10, _⟩ => ⟨S4112x1024, .f32⟩
  | .hbm, ⟨11, _⟩ => ⟨S_, .f32⟩
  | .hbm, ⟨12, _⟩ => ⟨S4112x1024, .f32⟩
  | .hbm, ⟨13, _⟩ => ⟨S4112x1024, .f32⟩
  | .hbm, ⟨14, _⟩ => ⟨S4112x1024, .f32⟩
  | .hbm, ⟨15, _⟩ => ⟨S4112x1024, .f32⟩
  | .hbm, ⟨16, _⟩ => ⟨S1024x1024, .f32⟩
  | .hbm, ⟨17, _⟩ => ⟨S4112x1024, .f32⟩
  | .hbm, ⟨18, _⟩ => ⟨S4112x1024, .f32⟩
  | .hbm, ⟨19, _⟩ => ⟨S1024, .f32⟩
  | .hbm, ⟨20, _⟩ => ⟨S4112x1024, .f32⟩
  | .hbm, ⟨21, _⟩ => ⟨S_, .f32⟩
  | .hbm, ⟨22, _⟩ => ⟨S4112, .f32⟩
  | .hbm, ⟨23, _⟩ => ⟨S4112x1, .f32⟩
  | .hbm, ⟨24, _⟩ => ⟨S_, .f32⟩
  | .hbm, ⟨25, _⟩ => ⟨S4112x1, .f32⟩
  | .hbm, ⟨26, _⟩ => ⟨S4112x1, .f32⟩
  | .hbm, ⟨27, _⟩ => ⟨S_, .f32⟩
  | .hbm, ⟨28, _⟩ => ⟨S4112x1, .f32⟩
  | .hbm, ⟨29, _⟩ => ⟨S4112x1, .f32⟩
  | .hbm, ⟨30, _⟩ => ⟨S4112x1, .f32⟩
  | .hbm, ⟨31, _⟩ => ⟨S4112x1024, .f32⟩
  | .hbm, ⟨32, _⟩ => ⟨S4112x1024, .f32⟩
  | .hbm, ⟨33, _⟩ => ⟨S1x1024, .f32⟩
  | .hbm, ⟨34, _⟩ => ⟨S4112x1024, .f32⟩
  | .hbm, ⟨35, _⟩ => ⟨S4112x1024, .f32⟩
  | .hbm, ⟨36, _⟩ => ⟨S1024x2048, .f32⟩
  | .hbm, ⟨37, _⟩ => ⟨S4112x2048, .f32⟩
  | .hbm, ⟨38, _⟩ => ⟨S4112x1024, .f32⟩
  | .hbm, ⟨39, _⟩ => ⟨S4112x1024, .f32⟩
  | .hbm, ⟨40, _⟩ => ⟨S_, .i32⟩
  | .hbm, ⟨41, _⟩ => ⟨S_, .f32⟩
  | .hbm, ⟨42, _⟩ => ⟨S4224x1024, .f32⟩
  | .hbm, ⟨43, _⟩ => ⟨S_, .i32⟩
  | .hbm, ⟨44, _⟩ => ⟨S_, .f32⟩
  | .hbm, ⟨45, _⟩ => ⟨S4224x1024, .f32⟩
  | .hbm, ⟨46, _⟩ => ⟨S_, .i32⟩
  | .hbm, ⟨47, _⟩ => ⟨S_, .f32⟩
  | .hbm, ⟨48, _⟩ => ⟨S4224x1024, .f32⟩
  | _, _ => ⟨S4112x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call1_v0 : Ref sig .tc := ⟨.hbm, 41, rfl⟩
abbrev main_v23 : Ref sig .tc := ⟨.hbm, 42, rfl⟩
abbrev main_c_2 : Ref sig .tc := ⟨.hbm, 43, rfl⟩
abbrev main_call2_v0 : Ref sig .tc := ⟨.hbm, 44, rfl⟩
abbrev main_v24 : Ref sig .tc := ⟨.hbm, 45, rfl⟩
abbrev main_c_3 : Ref sig .tc := ⟨.hbm, 46, rfl⟩
abbrev main_call3_v0 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== QFwd.lean ====
abbrev S4112x384 : Shape := ⟨2, ![4112, 384]⟩
abbrev S1x384 : Shape := ⟨2, ![1, 384]⟩
abbrev S1x384x1536 : Shape := ⟨3, ![1, 384, 1536]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S4224x128 : Shape := ⟨2, ![4224, 128]⟩
abbrev S384x1536 : Shape := ⟨2, ![384, 1536]⟩
abbrev S384x8x192 : Shape := ⟨3, ![384, 8, 192]⟩
abbrev S384x8x256 : Shape := ⟨3, ![384, 8, 256]⟩
abbrev S384x2048 : Shape := ⟨2, ![384, 2048]⟩
abbrev S4224x384 : Shape := ⟨2, ![4224, 384]⟩
abbrev S4224x2048 : Shape := ⟨2, ![4224, 2048]⟩
abbrev S384x384 : Shape := ⟨2, ![384, 384]⟩
abbrev S384x128 : Shape := ⟨2, ![384, 128]⟩
abbrev S384 : Shape := ⟨1, ![384]⟩
abbrev S384x1 : Shape := ⟨2, ![384, 1]⟩

abbrev nBuf : Space → Nat
  | .hbm => 46
  | .vmem => 10
  | .smem => 0
  | _ => 0

abbrev bufTy : (tb : Table) → Fin (tcTables nBuf tb) → BufTy
  | .hbm, ⟨0, _⟩ => ⟨S4112x384, .f32⟩
  | .hbm, ⟨1, _⟩ => ⟨S1x384, .f32⟩
  | .hbm, ⟨2, _⟩ => ⟨S1x384x1536, .f32⟩
  | .hbm, ⟨3, _⟩ => ⟨S4224, .i32⟩
  | .hbm, ⟨4, _⟩ => ⟨S4224, .f32⟩
  | .hbm, ⟨5, _⟩ => ⟨S_, .f32⟩
  | .hbm, ⟨6, _⟩ => ⟨S4224, .f32⟩
  | .hbm, ⟨7, _⟩ => ⟨S4224, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S4224x1, .f32⟩
  | .hbm, ⟨24, _⟩ => ⟨S1x32, .f32⟩
  | .hbm, ⟨25, _⟩ => ⟨S4224x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x32, .f32⟩
  | .hbm, ⟨30, _⟩ => ⟨S_, .f32⟩
  | .hbm, ⟨31, _⟩ => ⟨S4224x64, .f32⟩
  | .hbm, ⟨32, _⟩ => ⟨S4224x128, .f32⟩
  | .hbm, ⟨33, _⟩ => ⟨S4224x32, .f32⟩
  | .hbm, ⟨34, _⟩ => ⟨S4224x128, .f32⟩
  | .hbm, ⟨35, _⟩ => ⟨S384x1536, .f32⟩
  | .hbm, ⟨36, _⟩ => ⟨S384x1536, .bf16⟩
  | .hbm, ⟨37, _⟩ => ⟨S384x8x192, .bf16⟩
  | .hbm, ⟨38, _⟩ => ⟨S_, .i32⟩
  | .hbm, ⟨39, _⟩ => ⟨S_, .bf16⟩
  | .hbm, ⟨40, _⟩ => ⟨S384x8x256, .bf16⟩
  | .hbm, ⟨41, _⟩ => ⟨S384x2048, .bf16⟩
  | .hbm, ⟨42, _⟩ => ⟨S_, .i32⟩
  | .hbm, ⟨43, _⟩ => ⟨S_, .f32⟩
  | .hbm, ⟨44, _⟩ => ⟨S4224x384, .f32⟩
  | .hbm, ⟨45, _⟩ => ⟨S4224x2048, .bf16⟩
  | .local _ .vmem, ⟨0, _⟩ => ⟨S384x384, .f32⟩
  | .local _ .vmem, ⟨1, _⟩ => ⟨S384x384, .f32⟩
  | .local _ .vmem, ⟨2, _⟩ => ⟨S1x384, .f32⟩
  | .local _ .vmem, ⟨3, _⟩ => ⟨S384x2048, .bf16⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x2048, .bf16⟩
  | .local _ .vmem, ⟨9, _⟩ => ⟨S384x2048, .bf16⟩
  | _, _ => ⟨S4112x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_4 : Ref sig .tc := ⟨.hbm, 38, rfl⟩
abbrev main_call0_v0 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QFwdRefIdeal.lean ====
abbrev S4112x384 : Shape := ⟨2, ![4112, 384]⟩
abbrev S1x384 : Shape := ⟨2, ![1, 384]⟩
abbrev S1x384x1536 : Shape := ⟨3, ![1, 384, 1536]⟩
abbrev S384 : Shape := ⟨1, ![384]⟩
abbrev S_ : Shape := ⟨0, ![]⟩
abbrev S4112 : Shape := ⟨1, ![4112]⟩
abbrev S4112x1 : Shape := ⟨2, ![4112, 1]⟩
abbrev S384x1536 : Shape := ⟨2, ![384, 1536]⟩
abbrev S4112x1536 : Shape := ⟨2, ![4112, 1536]⟩
abbrev S4112x8x192 : Shape := ⟨3, ![4112, 8, 192]⟩
abbrev S32 : Shape := ⟨1, ![32]⟩
abbrev S1x32 : Shape := ⟨2, ![1, 32]⟩
abbrev S4112x32 : Shape := ⟨2, ![4112, 32]⟩
abbrev S4112x8x64 : Shape := ⟨3, ![4112, 8, 64]⟩
abbrev S4112x1x32 : Shape := ⟨3, ![4112, 1, 32]⟩
abbrev S4112x8x32 : Shape := ⟨3, ![4112, 8, 32]⟩
abbrev S4112x8x128 : Shape := ⟨3, ![4112, 8, 128]⟩
abbrev S4112x8x256 : Shape := ⟨3, ![4112, 8, 256]⟩
abbrev S4112x2048 : Shape := ⟨2, ![4112, 2048]⟩
abbrev S4224x2048 : Shape := ⟨2, ![4224, 2048]⟩

abbrev nBuf : Space → Nat
  | .hbm => 73
  | .vmem => 0
  | .smem => 0
  | _ => 0

abbrev bufTy : (tb : Table) → Fin (tcTables nBuf tb) → BufTy
  | .hbm, ⟨0, _⟩ => ⟨S4112x384, .f32⟩
  | .hbm, ⟨1, _⟩ => ⟨S1x384, .f32⟩
  | .hbm, ⟨2, _⟩ => ⟨S1x384x1536, .f32⟩
  | .hbm, ⟨3, _⟩ => ⟨S384, .f32⟩
  | .hbm, ⟨4, _⟩ => ⟨S4112x384, .f32⟩
  | .hbm, ⟨5, _⟩ => ⟨S_, .f32⟩
  | .hbm, ⟨6, _⟩ => ⟨S4112, .f32⟩
  | .hbm, ⟨7, _⟩ => ⟨S4112x1, .f32⟩
  | .hbm, ⟨8, _⟩ => ⟨S_, .f32⟩
  | .hbm, ⟨9, _⟩ => ⟨S4112x1, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S4112x1, .f32⟩
  | .hbm, ⟨15, _⟩ => ⟨S4112x384, .f32⟩
  | .hbm, ⟨16, _⟩ => ⟨S4112x384, .f32⟩
  | .hbm, ⟨17, _⟩ => ⟨S1x384, .f32⟩
  | .hbm, ⟨18, _⟩ => ⟨S4112x384, .f32⟩
  | .hbm, ⟨19, _⟩ => ⟨S4112x384, .f32⟩
  | .hbm, ⟨20, _⟩ => ⟨S384x1536, .f32⟩
  | .hbm, ⟨21, _⟩ => ⟨S4112x1536, .f32⟩
  | .hbm, ⟨22, _⟩ => ⟨S4112x8x192, .f32⟩
  | .hbm, ⟨23, _⟩ => ⟨S4112, .i32⟩
  | .hbm, ⟨24, _⟩ => ⟨S4112, .f32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S4112x1, .f32⟩
  | .hbm, ⟨41, _⟩ => ⟨S1x32, .f32⟩
  | .hbm, ⟨42, _⟩ => ⟨S4112x32, .f32⟩
  | .hbm, ⟨43, _⟩ => ⟨S4112x32, .f32⟩
  | .hbm, ⟨44, _⟩ => ⟨S4112x32, .f32⟩
  | .hbm, ⟨45, _⟩ => ⟨S4112x8x64, .f32⟩
  | .hbm, ⟨46, _⟩ => ⟨S4112x32, .f32⟩
  | .hbm, ⟨47, _⟩ => ⟨S4112x1x32, .f32⟩
  | .hbm, ⟨48, _⟩ => ⟨S4112x32, .f32⟩
  | .hbm, ⟨49, _⟩ => ⟨S4112x1x32, .f32⟩
  | .hbm, ⟨50, _⟩ => ⟨S4112x8x32, .f32⟩
  | .hbm, ⟨51, _⟩ => ⟨S4112x8x32, .f32⟩
  | .hbm, ⟨52, _⟩ => ⟨S4112x8x32, .f32⟩
  | .hbm, ⟨53, _⟩ => ⟨S4112x8x32, .f32⟩
  | .hbm, ⟨54, _⟩ => ⟨S4112x8x32, .f32⟩
  | .hbm, ⟨55, _⟩ => ⟨S4112x8x32, .f32⟩
  | .hbm, ⟨56, _⟩ => ⟨S4112x8x32, .f32⟩
  | .hbm, ⟨57, _⟩ => ⟨S4112x8x32, .f32⟩
  | .hbm, ⟨58, _⟩ => ⟨S4112x8x32, .f32⟩
  | .hbm, ⟨59, _⟩ => ⟨S4112x8x32, .f32⟩
  | .hbm, ⟨60, _⟩ => ⟨S4112x8x32, .f32⟩
  | .hbm, ⟨61, _⟩ => ⟨S4112x8x32, .f32⟩
  | .hbm, ⟨62, _⟩ => ⟨S4112x8x64, .f32⟩
  | .hbm, ⟨63, _⟩ => ⟨S4112x8x128, .f32⟩
  | .hbm, ⟨64, _⟩ => ⟨S4112x8x192, .f32⟩
  | .hbm, ⟨65, _⟩ => ⟨S_, .i32⟩
  | .hbm, ⟨66, _⟩ => ⟨S_, .f32⟩
  | .hbm, ⟨67, _⟩ => ⟨S4112x8x256, .f32⟩
  | .hbm, ⟨68, _⟩ => ⟨S4112x2048, .f32⟩
  | .hbm, ⟨69, _⟩ => ⟨S_, .i32⟩
  | .hbm, ⟨70, _⟩ => ⟨S_, .f32⟩
  | .hbm, ⟨71, _⟩ => ⟨S4224x2048, .f32⟩
  | .hbm, ⟨72, _⟩ => ⟨S4224x2048, .bf16⟩
  | _, _ => ⟨S4112x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_c_5 : Ref sig .tc := ⟨.hbm, 65, rfl⟩
abbrev main_call0_v0 : Ref sig .tc := ⟨.hbm, 66, rfl⟩
abbrev main_v55 : Ref sig .tc := ⟨.hbm, 67, rfl⟩
abbrev main_v56 : Ref sig .tc := ⟨.hbm, 68, rfl⟩
abbrev main_c_6 : Ref sig .tc := ⟨.hbm, 69, rfl⟩
abbrev main_call1_v0 : Ref sig .tc := ⟨.hbm, 70, rfl⟩
abbrev main_v57 : Ref sig .tc := ⟨.hbm, 71, rfl⟩
abbrev main_v58 : Ref sig .tc := ⟨.hbm, 72, rfl⟩

abbrev nD : Nat := 1
abbrev τ : Topo := Topo.v7x

variable {F : FTy → Type} [FloatOps F]
-- ==== KvFwd.lean ====
abbrev S4112x256 : Shape := ⟨2, ![4112, 256]⟩
abbrev S4112x64 : Shape := ⟨2, ![4112, 64]⟩
abbrev S1x256 : Shape := ⟨2, ![1, 256]⟩
abbrev S1x256x2048 : Shape := ⟨3, ![1, 256, 2048]⟩
abbrev S4224 : Shape := ⟨1, ![4224]⟩
abbrev S_ : Shape := ⟨0, ![]⟩
abbrev S32 : Shape := ⟨1, ![32]⟩
abbrev S4224x1 : Shape := ⟨2, ![4224, 1]⟩
abbrev S1x32 : Shape := ⟨2, ![1, 32]⟩
abbrev S4224x32 : Shape := ⟨2, ![4224, 32]⟩
abbrev S4224x64 : Shape := ⟨2, ![4224, 64]⟩
abbrev S4224x128 : Shape := ⟨2, ![4224, 128]⟩
abbrev S4224x256 : Shape := ⟨2, ![4224, 256]⟩
abbrev S256x2048 : Shape := ⟨2, ![256, 2048]⟩
abbrev S4224x2048 : Shape := ⟨2, ![4224, 2048]⟩
abbrev S4224x1024 : Shape := ⟨2, ![4224, 1024]⟩
abbrev S384x256 : Shape := ⟨2, ![384, 256]⟩
abbrev S384x128 : Shape := ⟨2, ![384, 128]⟩
abbrev S384x2048 : Shape := ⟨2, ![384, 2048]⟩
abbrev S384x1024 : Shape := ⟨2, ![384, 1024]⟩
abbrev S384 : Shape := ⟨1, ![384]⟩
abbrev S384x1 : Shape := ⟨2, ![384, 1]⟩

abbrev nBuf : Space → Nat
  | .hbm => 46
  | .vmem => 14
  | .smem => 0
  | _ => 0

abbrev bufTy : (tb : Table) → Fin (tcTables nBuf tb) → BufTy
  | .hbm, ⟨0, _⟩ => ⟨S4112x256, .f32⟩
  | .hbm, ⟨1, _⟩ => ⟨S4112x64, .f32⟩
  | .hbm, ⟨2, _⟩ => ⟨S1x256, .f32⟩
  | .hbm, ⟨3, _⟩ => ⟨S1x256x2048, .f32⟩
  | .hbm, ⟨4, _⟩ => ⟨S4224, .i32⟩
  | .hbm, ⟨5, _⟩ => ⟨S4224, .f32⟩
  | .hbm, ⟨6, _⟩ => ⟨S_, .f32⟩
  | .hbm, ⟨7, _⟩ => ⟨S4224, .f32⟩
  | .hbm, ⟨8, _⟩ => ⟨S4224, .f32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S4224x1, .f32⟩
  | .hbm, ⟨25, _⟩ => ⟨S1x32, .f32⟩
  | .hbm, ⟨26, _⟩ => ⟨S4224x32, .f32⟩
  | .hbm, ⟨27, _⟩ => ⟨S4224x32, .f32⟩
  | .hbm, ⟨28, _⟩ => ⟨S4224x32, .f32⟩
  | .hbm, ⟨29, _⟩ => ⟨S4224x32, .f32⟩
  | .hbm, ⟨30, _⟩ => ⟨S4224x32, .f32⟩
  | .hbm, ⟨31, _⟩ => ⟨S_, .f32⟩
  | .hbm, ⟨32, _⟩ => ⟨S4224x64, .f32⟩
  | .hbm, ⟨33, _⟩ => ⟨S4224x128, .f32⟩
  | .hbm, ⟨34, _⟩ => ⟨S4224x32, .f32⟩
  | .hbm, ⟨35, _⟩ => ⟨S4224x128, .f32⟩
  | .hbm, ⟨36, _⟩ => ⟨S_, .i32⟩
  | .hbm, ⟨37, _⟩ => ⟨S_, .f32⟩
  | .hbm, ⟨38, _⟩ => ⟨S4224x128, .f32⟩
  | .hbm, ⟨39, _⟩ => ⟨S_, .i32⟩
  | .hbm, ⟨40, _⟩ => ⟨S_, .f32⟩
  | .hbm, ⟨41, _⟩ => ⟨S4224x256, .f32⟩
  | .hbm, ⟨42, _⟩ => ⟨S256x2048, .f32⟩
  | .hbm, ⟨43, _⟩ => ⟨S256x2048, .bf16⟩
  | .hbm, ⟨44, _⟩ => ⟨S4224x2048, .bf16⟩
  | .hbm, ⟨45, _⟩ => ⟨S4224x1024, .bf16⟩
  | .local _ .vmem, ⟨0, _⟩ => ⟨S384x256, .f32⟩
  | .local _ .vmem, ⟨1, _⟩ => ⟨S384x256, .f32⟩
  | .local _ .vmem, ⟨2, _⟩ => ⟨S1x256, .f32⟩
  | .local _ .vmem, ⟨3, _⟩ => ⟨S256x2048, .bf16⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | .local _ .vmem, ⟨8, _⟩ => ⟨S384x128, .f32⟩
  | .local _ .vmem, ⟨9, _⟩ => ⟨S384x128, .f32⟩
  | .local _ .vmem, ⟨10, _⟩ => ⟨S384x2048, .bf16⟩
  | .local _ .vmem, ⟨11, _⟩ => ⟨S384x2048, .bf16⟩
  | .local _ .vmem, ⟨12, _⟩ => ⟨S384x1024, .bf16⟩
  | .local _ .vmem, ⟨13, _⟩ => ⟨S384x1024, .bf16⟩
  | _, _ => ⟨S4112x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_call0_v0 : Ref sig .tc := ⟨.hbm, 37, rfl⟩
abbrev main_v26 : Ref sig .tc := ⟨.hbm, 38, rfl⟩
abbrev main_c_5 : Ref sig .tc := ⟨.hbm, 39, rfl⟩
abbrev main_call1_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30_0 : Ref sig .tc := ⟨.hbm, 44, rfl⟩
abbrev main_v30_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvFwdRefIdeal.lean ====
abbrev S4112x256 : Shape := ⟨2, ![4112, 256]⟩
abbrev S4112x64 : Shape := ⟨2, ![4112, 64]⟩
abbrev S1x256 : Shape := ⟨2, ![1, 256]⟩
abbrev S1x256x2048 : Shape := ⟨3, ![1, 256, 2048]⟩
abbrev S256 : Shape := ⟨1, ![256]⟩
abbrev S_ : Shape := ⟨0, ![]⟩
abbrev S4112 : Shape := ⟨1, ![4112]⟩
abbrev S4112x1 : Shape := ⟨2, ![4112, 1]⟩
abbrev S256x2048 : Shape := ⟨2, ![256, 2048]⟩
abbrev S4112x2048 : Shape := ⟨2, ![4112, 2048]⟩
abbrev S4112x8x256 : Shape := ⟨3, ![4112, 8, 256]⟩
abbrev S32 : Shape := ⟨1, ![32]⟩
abbrev S1x32 : Shape := ⟨2, ![1, 32]⟩
abbrev S4112x32 : Shape := ⟨2, ![4112, 32]⟩
abbrev S4112x1x64 : Shape := ⟨3, ![4112, 1, 64]⟩
abbrev S4112x8x64 : Shape := ⟨3, ![4112, 8, 64]⟩
abbrev S4112x8x128 : Shape := ⟨3, ![4112, 8, 128]⟩
abbrev S4112x8x192 : Shape := ⟨3, ![4112, 8, 192]⟩
abbrev S4224x2048 : Shape := ⟨2, ![4224, 2048]⟩
abbrev S4112x1024 : Shape := ⟨2, ![4112, 1024]⟩
abbrev S4224x1024 : Shape := ⟨2, ![4224, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4112x256, .f32⟩
  | .hbm, ⟨1, _⟩ => ⟨S4112x64, .f32⟩
  | .hbm, ⟨2, _⟩ => ⟨S1x256, .f32⟩
  | .hbm, ⟨3, _⟩ => ⟨S1x256x2048, .f32⟩
  | .hbm, ⟨4, _⟩ => ⟨S256, .f32⟩
  | .hbm, ⟨5, _⟩ => ⟨S4112x256, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x256, .f32⟩
  | .hbm, ⟨17, _⟩ => ⟨S4112x256, .f32⟩
  | .hbm, ⟨18, _⟩ => ⟨S1x256, .f32⟩
  | .hbm, ⟨19, _⟩ => ⟨S4112x256, .f32⟩
  | .hbm, ⟨20, _⟩ => ⟨S4112x256, .f32⟩
  | .hbm, ⟨21, _⟩ => ⟨S256x2048, .f32⟩
  | .hbm, ⟨22, _⟩ => ⟨S4112x2048, .f32⟩
  | .hbm, ⟨23, _⟩ => ⟨S4112x8x256, .f32⟩
  | .hbm, ⟨24, _⟩ => ⟨S4112, .i32⟩
  | .hbm, ⟨25, _⟩ => ⟨S4112, .f32⟩
  | .hbm, ⟨26, _⟩ => ⟨S32, .i32⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .f32⟩
  | .hbm, ⟨34, _⟩ => ⟨S32, .f32⟩
  | .hbm, ⟨35, _⟩ => ⟨S_, .f32⟩
  | .hbm, ⟨36, _⟩ => ⟨S32, .f32⟩
  | .hbm, ⟨37, _⟩ => ⟨S32, .f32⟩
  | .hbm, ⟨38, _⟩ => ⟨S_, .f32⟩
  | .hbm, ⟨39, _⟩ => ⟨S32, .f32⟩
  | .hbm, ⟨40, _⟩ => ⟨S32, .f32⟩
  | .hbm, ⟨41, _⟩ => ⟨S4112x1, .f32⟩
  | .hbm, ⟨42, _⟩ => ⟨S1x32, .f32⟩
  | .hbm, ⟨43, _⟩ => ⟨S4112x32, .f32⟩
  | .hbm, ⟨44, _⟩ => ⟨S4112x32, .f32⟩
  | .hbm, ⟨45, _⟩ => ⟨S4112x32, .f32⟩
  | .hbm, ⟨46, _⟩ => ⟨S4112x32, .f32⟩
  | .hbm, ⟨47, _⟩ => ⟨S4112x32, .f32⟩
  | .hbm, ⟨48, _⟩ => ⟨S4112x32, .f32⟩
  | .hbm, ⟨49, _⟩ => ⟨S4112x32, .f32⟩
  | .hbm, ⟨50, _⟩ => ⟨S4112x32, .f32⟩
  | .hbm, ⟨51, _⟩ => ⟨S4112x32, .f32⟩
  | .hbm, ⟨52, _⟩ => ⟨S4112x32, .f32⟩
  | .hbm, ⟨53, _⟩ => ⟨S4112x32, .f32⟩
  | .hbm, ⟨54, _⟩ => ⟨S4112x32, .f32⟩
  | .hbm, ⟨55, _⟩ => ⟨S4112x32, .f32⟩
  | .hbm, ⟨56, _⟩ => ⟨S4112x64, .f32⟩
  | .hbm, ⟨57, _⟩ => ⟨S4112x1x64, .f32⟩
  | .hbm, ⟨58, _⟩ => ⟨S4112x8x64, .f32⟩
  | .hbm, ⟨59, _⟩ => ⟨S4112x8x128, .f32⟩
  | .hbm, ⟨60, _⟩ => ⟨S4112x8x192, .f32⟩
  | .hbm, ⟨61, _⟩ => ⟨S4112x8x128, .f32⟩
  | .hbm, ⟨62, _⟩ => ⟨S_, .i32⟩
  | .hbm, ⟨63, _⟩ => ⟨S_, .f32⟩
  | .hbm, ⟨64, _⟩ => ⟨S4112x8x256, .f32⟩
  | .hbm, ⟨65, _⟩ => ⟨S4112x2048, .f32⟩
  | .hbm, ⟨66, _⟩ => ⟨S_, .i32⟩
  | .hbm, ⟨67, _⟩ => ⟨S_, .f32⟩
  | .hbm, ⟨68, _⟩ => ⟨S4224x2048, .f32⟩
  | .hbm, ⟨69, _⟩ => ⟨S4224x2048, .bf16⟩
  | .hbm, ⟨70, _⟩ => ⟨S4112x1024, .f32⟩
  | .hbm, ⟨71, _⟩ => ⟨S_, .i32⟩
  | .hbm, ⟨72, _⟩ => ⟨S_, .f32⟩
  | .hbm, ⟨73, _⟩ => ⟨S4224x1024, .f32⟩
  | .hbm, ⟨74, _⟩ => ⟨S4224x1024, .bf16⟩
  | _, _ => ⟨S4112x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_call0_v0 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_call1_v0 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_7 : Ref sig .tc := ⟨.hbm, 71, rfl⟩
abbrev main_call2_v0 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== Proof.Rows.lean ====
/- Equations between rows of extended reals that the norm gradients share: what a kernel computes for one row, what the
   derivative of the norm is for one row, and that on finite rows the two are equal. -/
module

public import Idealize.ShloMosaic.Lib.Pointwise

@[expose] public section

set_option maxRecDepth 16384

noncomputable section

open Idealize.ShloMosaic
open scoped BigOperators

namespace Cert.Rows

/-- A finite extended real is (the image of) a real number. -/
theorem exists_real {x : EReal} (h : max x (-x) < ⊤) : ∃ r : ℝ, x = (r : EReal) := by
  induction x with
  | bot => simp at h
  | coe r => exact ⟨r, rfl⟩
  | top => simp at h

/-- A finite row is (the image of) a row of real numbers. -/
theorem exists_real_fun {ι : Type*} {x : ι → EReal} (h : ∀ i, ∃ r : ℝ, x i = (r : EReal)) : ∃ r : ι → ℝ, x = fun i => (r i : EReal) :=
  ⟨fun i => (h i).choose, funext fun i => (h i).choose_spec⟩

/-- The image of a sum of real numbers is the sum of the images. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An array of `T` rows under `p` rows of zeros. -/
def pad (p : ℕ) {T K N : ℕ} (hN : p + T = N) (a : Fin T → Fin K → EReal) (i : Fin N) (k : Fin K) : EReal :=
  if h : p ≤ i.val then a ⟨i.val - p, by omega⟩ k else 0

/-- `pad` as a host program's padding with a zero converted from an integer states it. -/
theorem pad_eq (p : ℕ) {T K N : ℕ} (hN : p + T = N) (a : Fin T → Fin K → EReal) (i : Fin N) (k : Fin K) :
    (if h : p ≤ i.val ∧ i.val - p < T then a ⟨i.val - p, h.2⟩ k else FloatOps.sitofp (F := Ideal) FTy.f32 0#32) = pad p hN a i k := by
  have hi := i.isLt
  unfold pad
  split_ifs with h1 h2 h2
  · rfl
  · omega
  · omega
  · show (((0#32 : BitVec 32).toInt : ℝ) : EReal) = 0
    simp

/-- The reciprocal root of a row's mean square (over `n` entries, `e` added). -/
def rinv {K : ℕ} (n e : EReal) (x : Fin K → EReal) : EReal := Ideal.rsqrt (Ideal.div (∑ k, x k * x k) n + e)

/-- The norm's input gradient of one row as the kernels compute it: from the row `x`, the gain `g` and the gradient `d` of
    the norm's result. -/
def kdx {K : ℕ} (n e : EReal) (x g d : Fin K → EReal) (j : Fin K) : EReal :=
  rinv n e x * (d j * g j - x j * rinv n e x * Ideal.div (∑ k, d k * g k * (x k * rinv n e x)) n)

/-- The same gradient's part through the mean square, as the derivative of the norm has it (`h` is minus one half). -/
def rs {K : ℕ} (n e h : EReal) (x g d : Fin K → EReal) : EReal :=
  Ideal.div ((∑ k, x k * (d k * g k)) * (h * Ideal.div (rinv n e x) (Ideal.div (∑ k, x k * x k) n + e))) n

/-- The real number a finite row's reciprocal root is. -/
def rr {K : ℕ} (n e : ℝ) (x : Fin K → ℝ) : ℝ := (Real.sqrt ((∑ k, x k * x k) * (1 / n) + e))⁻¹

section
variable {K : ℕ} {n e : ℝ} (hn : 0 < n) (he : 0 < e) (x : Fin K → ℝ)
include hn he

theorem ms_pos : 0 < (∑ k, x k * x k) * (1 / n) + e := by
  have : 0 ≤ ∑ k, x k * x k := Finset.sum_nonneg fun k _ => mul_self_nonneg _
  positivity

theorem ms_coe : Ideal.div (∑ k, (x k : EReal) * (x k : EReal)) (n : EReal) + (e : EReal)
    = (((∑ k, x k * x k) * (1 / n) + e : ℝ) : EReal) := by
  rw [Ideal.div_coe hn.ne']
  simp only [← EReal.coe_mul, coe_sum, ← EReal.coe_add]

theorem rinv_coe : rinv (n : EReal) (e : EReal) (fun k => (x k : EReal)) = (rr n e x : EReal) := by
  have h := ms_pos hn he x
  rw [rinv, ms_coe hn he, Ideal.rsqrt_coe, if_neg (not_lt.mpr h.le), if_neg h.ne', rr]

/-- On finite rows the kernels' gradient is the real one. -/
theorem kdx_coe (g d : Fin K → ℝ) (j : Fin K) :
    kdx (n : EReal) (e : EReal) (fun k => (x k : EReal)) (fun k => (g k : EReal)) (fun k => (d k : EReal)) j
      = ((rr n e x * (d j * g j - x j * rr n e x * ((∑ k, d k * g k * (x k * rr n e x)) * (1 / n))) : ℝ) : EReal) := by
  rw [kdx, rinv_coe hn he, Ideal.div_coe hn.ne']
  simp only [← EReal.coe_mul, coe_sum, ← EReal.coe_sub]

/-- On finite rows the derivative's part through the mean square is the real one. -/
theorem rs_coe {h : ℝ} (g d : Fin K → ℝ) :
    rs (n : EReal) (e : EReal) (h : EReal) (fun k => (x k : EReal)) (fun k => (g k : EReal)) (fun k => (d k : EReal))
      = (((∑ k, x k * (d k * g k)) * (h * (rr n e x * (1 / ((∑ k, x k * x k) * (1 / n) + e)))) * (1 / n) : ℝ) : EReal) := by
  rw [rs, rinv_coe hn he, ms_coe hn he, Ideal.div_coe (ms_pos hn he x).ne', Ideal.div_coe hn.ne']
  simp only [← EReal.coe_mul, coe_sum]

/-- **The norm's input gradient**: what the kernels compute is the derivative of the norm, on finite rows. -/
theorem kdx_eq (g d : Fin K → ℝ) (j : Fin K) :
    kdx (n : EReal) (e : EReal) (fun k => (x k : EReal)) (fun k => (g k : EReal)) (fun k => (d k : EReal)) j
      = (d j : EReal) * (g j : EReal) * rinv (n : EReal) (e : EReal) (fun k => (x k : EReal))
        + (x j : EReal) * rs (n : EReal) (e : EReal) ((-(1 / 2) : ℝ) : EReal) (fun k => (x k : EReal)) (fun k => (g k : EReal)) (fun k => (d k : EReal))
        + rs (n : EReal) (e : EReal) ((-(1 / 2) : ℝ) : EReal) (fun k => (x k : EReal)) (fun k => (g k : EReal)) (fun k => (d k : EReal)) * (x j : EReal) := by
  rw [kdx_coe hn he, rs_coe hn he, rinv_coe hn he]
  simp only [← EReal.coe_mul, ← EReal.coe_add]
  congr 1
  have hp := ms_pos hn he x
  have h2 : 1 / ((∑ k, x k * x k) * (1 / n) + e) = rr n e x * rr n e x := by
    rw [rr, ← mul_inv, Real.mul_self_sqrt hp.le, one_div]
  have h3 : ∑ k, d k * g k * (x k * rr n e x) = rr n e x * ∑ k, x k * (d k * g k) := by
    rw [Finset.mul_sum]; exact Finset.sum_congr rfl fun k _ => by ring
  rw [h2, h3]; ring

end

/-! ## Rows of zeros put above

What a kernel over the padded rows computes against the same over the rows alone. -/

section
variable {p T N K L : ℕ} (hN : p + T = N)
include hN

theorem pad_lo {a : Fin T → Fin K → EReal} {i : Fin N} (h : i.val < p) (k : Fin K) : pad p hN a i k = 0 :=
  dif_neg (by omega)

theorem pad_hi (a : Fin T → Fin K → EReal) (i : Fin T) (h : p + i.val < N) (k : Fin K) : pad p hN a ⟨p + i.val, h⟩ k = a i k := by
  unfold pad
  rw [dif_pos (by show p ≤ p + i.val; omega)]
  exact congrArg (a · k) (Fin.ext (by show p + i.val - p = i.val; omega))

/-- An array's row is either one of the zero rows or one of the array's own. -/
theorem row_cases (i : Fin N) : i.val < p ∨ ∃ (t : Fin T) (h : p + t.val < N), i = ⟨p + t.val, h⟩ := by
  by_cases h : i.val < p
  · exact .inl h
  · exact .inr ⟨⟨i.val - p, by omega⟩, by show p + (i.val - p) < N; omega, Fin.ext (by show i.val = p + (i.val - p); omega)⟩

/-- A sum whose terms over the zero rows are zero is the sum over the other rows. -/
theorem sum_pad (f : Fin N → EReal) (g : Fin T → EReal) (h0 : ∀ i, i.val < p → f i = 0)
    (h1 : ∀ (i : Fin T) (h : p + i.val < N), f ⟨p + i.val, h⟩ = g i) : ∑ i, f i = ∑ i, g i := by
  subst hN
  rw [Fin.sum_univ_add, Finset.sum_eq_zero fun i _ => h0 _ (by simp), zero_add]
  exact Finset.sum_congr rfl fun i _ => h1 i (by omega)

/-- A product of the padded rows with a matrix is the padded product. -/
theorem sum_mul_pad (d : Fin T → Fin L → EReal) (w : Fin K → Fin L → EReal) (i : Fin N) (k : Fin K) :
    ∑ n, pad p hN d i n * w k n = pad p hN (fun t k => ∑ n, d t n * w k n) i k := by
  rcases row_cases hN i with h | ⟨t, h, rfl⟩
  · rw [pad_lo hN h, Finset.sum_eq_zero fun n _ => by rw [pad_lo hN h, zero_mul]]
  · simp only [pad_hi]

/-- The gain's gradient. -/
theorem dg_eq (n e : EReal) (x d : Fin T → Fin K → EReal) (k : Fin K) :
    ∑ i, pad p hN d i k * (pad p hN x i k * rinv n e (pad p hN x i)) = ∑ t, x t k * rinv n e (x t) * d t k :=
  sum_pad hN _ _ (fun i h => by rw [pad_lo hN h, zero_mul]) fun t h => by
    simp only [rinv, pad_hi]; exact mul_comm _ _

/-- The weight's gradient. -/
theorem dw_eq (n e : EReal) (x : Fin T → Fin K → EReal) (g : Fin K → EReal) (d : Fin T → Fin L → EReal) (k : Fin K) (l : Fin L) :
    ∑ i, pad p hN x i k * rinv n e (pad p hN x i) * g k * pad p hN d i l = ∑ t, d t l * (x t k * rinv n e (x t) * g k) :=
  sum_pad hN _ _ (fun i h => by rw [pad_lo hN h (a := d), mul_zero]) fun t h => by
    simp only [rinv, pad_hi]; exact mul_comm _ _

/-- The input's gradient added to another one: on rows of zeros both are zero. -/
theorem dx_eq {n e : ℝ} (hn : 0 < n) (he : 0 < e) (x d h : Fin T → Fin K → EReal) (g : Fin K → EReal)
    (hx : ∀ t k, ∃ r : ℝ, x t k = (r : EReal)) (hd : ∀ t k, ∃ r : ℝ, d t k = (r : EReal)) (hg : ∀ k, ∃ r : ℝ, g k = (r : EReal))
    (i : Fin N) (j : Fin K) :
    kdx (n : EReal) (e : EReal) (pad p hN x i) g (pad p hN d i) j + pad p hN h i j
      = pad p hN (fun t j => h t j + d t j * g j * rinv (n : EReal) (e : EReal) (x t)
          + x t j * rs (n : EReal) (e : EReal) ((-(1 / 2) : ℝ) : EReal) (x t) g (d t)
          + rs (n : EReal) (e : EReal) ((-(1 / 2) : ℝ) : EReal) (x t) g (d t) * x t j) i j := by
  obtain ⟨g', rfl⟩ := exists_real_fun hg
  rcases row_cases hN i with hi | ⟨t, hi, rfl⟩
  · rw [pad_lo hN hi, pad_lo hN hi]
    have z : ∀ a : Fin T → Fin K → EReal, pad p hN a i = fun _ => ((0 : ℝ) : EReal) := fun a => funext fun k => pad_lo hN hi k
    rw [z x, z d, kdx_coe hn he]
    simp
  · have z : ∀ a : Fin T → Fin K → EReal, pad p hN a ⟨p + t.val, hi⟩ = a t := fun a => funext fun k => pad_hi hN a t hi k
    obtain ⟨x', hx'⟩ := exists_real_fun (hx t)
    obtain ⟨d', hd'⟩ := exists_real_fun (hd t)
    simp only [pad_hi, z]
    rw [hx', hd', kdx_eq hn he]
    rw [add_comm _ (h t j), ← add_assoc, ← add_assoc]

end

/-- A sum of products of real numbers is a real number. -/
theorem real_sum_mul {ι : Type*} [Fintype ι] {a b : ι → EReal} (ha : ∀ i, ∃ r : ℝ, a i = (r : EReal)) (hb : ∀ i, ∃ r : ℝ, b i = (r : EReal)) :
    ∃ r : ℝ, ∑ i, a i * b i = (r : EReal) := by
  obtain ⟨a', rfl⟩ := exists_real_fun ha
  obtain ⟨b', rfl⟩ := exists_real_fun hb
  exact ⟨∑ i, a' i * b' i, by simp only [← EReal.coe_mul, coe_sum]⟩

end Cert.Rows

end
-- ==== Proof.Cols.lean ====
/- A rank-two buffer written in column pieces and read back whole: the newest piece that holds the column gives the value. -/
module

public import Idealize.ShloMosaic.Lib.Pipeline.ValueKit

@[expose] public section

set_option maxRecDepth 16384

noncomputable section

open Idealize.ShloMosaic Idealize.SL.Sem

namespace Cert.Cols

variable {R N A : ℕ} {Val : EltTy → Type} [∀ e, Nonempty (Val e)] {e : EltTy}

/-- Under a newest piece of `A` columns from column `o` the contents are the piece's; elsewhere the older pieces'. -/
theorem canon_cons_cols (o : ℕ) (inb : ∀ a, (![0, o] : Fin 2 → ℕ) a + (![R, A] : Fin 2 → ℕ) a ≤ (⟨2, ![R, N]⟩ : Shape).size a)
    (w : (⟨2, ![R, A]⟩ : Shape).Idx → Val e) (L : List (View.Piece Val (⟨2, ![R, N]⟩ : Shape) e)) (i : Fin R) (k : Fin N) :
    View.canon ((⟨Rect.unit (s := (⟨2, ![R, N]⟩ : Shape)) ![0, o] ![R, A] inb, w⟩ : View.Piece Val (⟨2, ![R, N]⟩ : Shape) e) :: L) (ix2 i k)
      = if h : o ≤ k.val ∧ k.val < o + A then w (ix2 i ⟨k.val - o, by omega⟩) else View.canon L (ix2 i k) := by
  split_ifs with h
  · have he : (Rect.unit (s := (⟨2, ![R, N]⟩ : Shape)) ![0, o] ![R, A] inb).emb (ix2 i (⟨k.val - o, by omega⟩ : Fin A)) = ix2 i k := by
      funext a; apply Fin.ext
      fin_cases a
      · show 0 + 1 * i.val = i.val; omega
      · show o + 1 * (k.val - o) = k.val; omega
    rw [← he]
    exact View.canon_cons_emb (Rect.unit (s := (⟨2, ![R, N]⟩ : Shape)) ![0, o] ![R, A] inb) w L _
  · refine View.canon_cons_of_not_mem _ _ fun hm => h ?_
    obtain ⟨j, hj, e1⟩ := (LoadRect.mem_set _).mp hm 1
    have e2 : k.val = o + 1 * j := e1
    have e3 : j < A := hj
    omega

/-- A load of the whole buffer reads the pieces' contents. -/
theorem readCov_whole {sig : RefSig} {κ : Kind} {sp : Space} (v : View sig κ sp (⟨2, ![R, N]⟩ : Shape) e)
    (L : List (View.Piece Val (⟨2, ![R, N]⟩ : Shape) e))
    (inb : ∀ a, (![0, 0] : Fin 2 → ℕ) a + (![R, N] : Fin 2 → ℕ) a ≤ (⟨2, ![R, N]⟩ : Shape).size a) :
    v.readCov L (Rect.unit (s := (⟨2, ![R, N]⟩ : Shape)) ![0, 0] ![R, N] inb).toLoadRect = View.canon L := by
  rw [View.readCov_eq_canon']
  funext j
  refine congrArg _ ?_
  funext a; apply Fin.ext
  fin_cases a
  · show 0 + 1 * (j 0).val = (j 0).val; omega
  · show 0 + 1 * (j 1).val = (j 1).val; omega

/-- Two blocks of columns side by side, the first of `A` columns. -/
def beside {B : ℕ} (hN : A + B = N) (a : (⟨2, ![R, A]⟩ : Shape).Idx → Val e) (b : (⟨2, ![R, B]⟩ : Shape).Idx → Val e) :
    (⟨2, ![R, N]⟩ : Shape).Idx → Val e :=
  fun y => if h : (y 1).val < A then a (ix2 (y 0) ⟨(y 1).val, h⟩)
    else b (ix2 (y 0) ⟨(y 1).val - A, by have : (y 1).val < N := (y 1).isLt; omega⟩)

/-- A buffer written in two column pieces, the left one first, reads back as the two side by side. -/
theorem readCov_two {B : ℕ} (hN : A + B = N) {sig : RefSig} {κ : Kind} {sp : Space} (v : View sig κ sp (⟨2, ![R, N]⟩ : Shape) e)
    (inb : ∀ a, (![0, 0] : Fin 2 → ℕ) a + (![R, N] : Fin 2 → ℕ) a ≤ (⟨2, ![R, N]⟩ : Shape).size a)
    (inbA : ∀ a, (![0, 0] : Fin 2 → ℕ) a + (![R, A] : Fin 2 → ℕ) a ≤ (⟨2, ![R, N]⟩ : Shape).size a)
    (inbB : ∀ a, (![0, A] : Fin 2 → ℕ) a + (![R, B] : Fin 2 → ℕ) a ≤ (⟨2, ![R, N]⟩ : Shape).size a)
    (a : (⟨2, ![R, A]⟩ : Shape).Idx → Val e) (b : (⟨2, ![R, B]⟩ : Shape).Idx → Val e) :
    v.readCov [(⟨Rect.unit (s := (⟨2, ![R, N]⟩ : Shape)) ![0, A] ![R, B] inbB, b⟩ : View.Piece Val (⟨2, ![R, N]⟩ : Shape) e),
        ⟨Rect.unit (s := (⟨2, ![R, N]⟩ : Shape)) ![0, 0] ![R, A] inbA, a⟩]
        (Rect.unit (s := (⟨2, ![R, N]⟩ : Shape)) ![0, 0] ![R, N] inb).toLoadRect = beside hN a b := by
  rw [readCov_whole]
  funext y
  have hk : (y 1).val < N := (y 1).isLt
  obtain ⟨i, k, rfl⟩ : ∃ (i : Fin R) (k : Fin N), y = ix2 i k := ⟨y 0, y 1, by funext a; fin_cases a <;> rfl⟩
  rw [canon_cons_cols, canon_cons_cols]
  have hk : k.val < N := k.isLt
  show _ = if h : k.val < A then a (ix2 i ⟨k.val, h⟩) else b (ix2 i ⟨k.val - A, by omega⟩)
  split_ifs with h1 h2 h2 <;> first | rfl | omega

end Cert.Cols

end
-- ==== Proof.BInKernel.lean ====
/- What the `b_in_proj_bwd` call's three output arrays end holding, index by index, as functions of the arguments. -/
module

public import proofs.«01_k».proof.Proof.Rows
public import proofs.«01_k».proof.Proof.Cols
public import proofs.«01_k».proof.Proof.Gen.BInIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.BInIdeal.Value

open Cert.BInIdeal Cert.BInIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- The gradient of the norm's product a point sees: the two gradients' blocks side by side. -/
abbrev dyBlk (a b : FVec Ideal S384x1024 .bf16) : Vec Ideal S384x2048 .bf16 :=
  Cert.Cols.beside (R := 384) (N := 2048) (A := 1024) (B := 1024) (Val := Elt Ideal) (e := .bf16) rfl (k0_pay6 (F := Ideal) a) (k0_pay7 (F := Ideal) b)

theorem dyBlk_apply (a b : FVec Ideal S384x1024 .bf16) (i : Fin 384) (k : Fin 2048) :
    dyBlk a b (ix2 i k) = if h : k.val < 1024 then a (ix2 i ⟨k.val, h⟩) else b (ix2 i ⟨k.val - 1024, by omega⟩) := by
  pointwise [dyBlk, Cert.Cols.beside, k0_pay6, k0_pay7]

/-- The entries of the norm's mean and the number added to the mean square. -/
abbrev nn : EReal := Ideal.ofBits .f32 0x44800000#32
abbrev ee : EReal := Ideal.ofBits .f32 0x358637BD#32

/-- One block of the input gradient. -/
theorem dx_blk (x : FVec Ideal S384x1024 .f32) (g : Vec Ideal S1x1024 .f32) (w : Vec Ideal S1024x2048 .bf16) (dy : Vec Ideal S384x2048 .bf16)
    (h : FVec Ideal S384x1024 .f32) (i : Fin 384) (j : Fin 1024) :
    k0_pay3 g (k0_pay9 x) (k0_pay10 x) (k0_pay12 dy w) h (ix2 i j)
      = Cert.Rows.kdx nn ee (fun k => x (ix2 i k)) (fun k => g (ix2 0 k)) (fun k => ∑ n, dy (ix2 i n) * w (ix2 k n)) j + h (ix2 i j) := by
  pointwise [k0_pay3, k0_pay9, k0_pay8, k0_pay10, k0_pay12, Cert.Rows.kdx, Cert.Rows.rinv]

/-- One block's part of the weight gradient, over what the points before left. -/
theorem dw_blk (x : FVec Ideal S384x1024 .f32) (g : Vec Ideal S1x1024 .f32) (dy : Vec Ideal S384x2048 .bf16) (v : Vec Ideal S1024x2048 .f32)
    (a : Fin 1024) (b : Fin 2048) :
    k0_pay1 dy (k0_pay11 x g) v (ix2 a b)
      = v (ix2 a b) + ∑ i, x (ix2 i a) * Cert.Rows.rinv nn ee (fun k => x (ix2 i k)) * g (ix2 0 a) * dy (ix2 i b) := by
  pointwise [k0_pay1, k0_pay11, k0_pay10, k0_pay9, k0_pay8, Cert.Rows.rinv]

/-- One block's part of the gain gradient, over what the points before left. -/
theorem dg_blk (x : FVec Ideal S384x1024 .f32) (w : Vec Ideal S1024x2048 .bf16) (dy : Vec Ideal S384x2048 .bf16) (v : Vec Ideal S1x1024 .f32)
    (z : Fin 1) (a : Fin 1024) :
    k0_pay2 (k0_pay10 x) (k0_pay12 dy w) v (ix2 z a)
      = v (ix2 z a) + ∑ i, (∑ n, dy (ix2 i n) * w (ix2 a n)) * (x (ix2 i a) * Cert.Rows.rinv nn ee (fun k => x (ix2 i k))) := by
  pointwise [k0_pay2, k0_pay10, k0_pay12, k0_pay9, k0_pay8, Cert.Rows.rinv]

theorem zero7 (a : Fin 1024) (b : Fin 2048) : k0_pay4 (F := Ideal) (ix2 a b) = 0 := by
  pointwise [k0_pay4]

theorem zero8 (z : Fin 1) (a : Fin 1024) : k0_pay5 (F := Ideal) (ix2 z a) = 0 := by
  pointwise [k0_pay5]

/-! ## The operands the host lines prepare -/

/-- The arguments as the body reads them: rows under the 112 rows of padding, the gain and the weights. -/
def X (c : Dev nD) (i : Fin 4224) (k : Fin 1024) : EReal :=
  Cert.Rows.pad 112 (by rfl : 112 + 4112 = 4224) (fun a b => m (c.tc.loc main_arg0) (ix2 a b)) i k
def G (c : Dev nD) (k : Fin 1024) : EReal := m (c.tc.loc main_arg1) (ix2 0 k)
def W (c : Dev nD) (k : Fin 1024) (n : Fin 2048) : EReal := m (c.tc.loc main_arg2) (ix3 0 k n)
def DU (c : Dev nD) (i : Fin 4224) (k : Fin 1024) : EReal :=
  Cert.Rows.pad 112 (by rfl : 112 + 4112 = 4224) (fun a b => m (c.tc.loc main_arg3) (ix2 a b)) i k
def DG (c : Dev nD) (i : Fin 4224) (k : Fin 1024) : EReal :=
  Cert.Rows.pad 112 (by rfl : 112 + 4112 = 4224) (fun a b => m (c.tc.loc main_arg4) (ix2 a b)) i k
def H (c : Dev nD) (i : Fin 4224) (k : Fin 1024) : EReal :=
  Cert.Rows.pad 112 (by rfl : 112 + 4112 = 4224) (fun a b => m (c.tc.loc main_arg5) (ix2 a b)) i k
def DY (c : Dev nD) (i : Fin 4224) (n : Fin 2048) : EReal :=
  if h : n.val < 1024 then DU m c i ⟨n.val, h⟩ else DG m c i ⟨n.val - 1024, by omega⟩
def DN (c : Dev nD) (i : Fin 4224) (k : Fin 1024) : EReal := ∑ n, DY m c i n * W m c k n

theorem V_v0 (c : Dev nD) (i : Fin 4224) (k : Fin 1024) : V m c main_v0 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg0) (ix2 a b)) i k

theorem V_v4 (c : Dev nD) (i : Fin 4224) (k : Fin 1024) : V m c main_v4 (ix2 i k) = DU m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg3) (ix2 a b)) i k

theorem V_v6 (c : Dev nD) (i : Fin 4224) (k : Fin 1024) : V m c main_v6 (ix2 i k) = DG m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg4) (ix2 a b)) i k

theorem V_v7 (c : Dev nD) (i : Fin 4224) (k : Fin 1024) : V m c main_v7 (ix2 i k) = H m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg5) (ix2 a b)) i k

theorem V_v2 (c : Dev nD) (i : Fin 1024) (k : Fin 2048) : V m c main_v2 (ix2 i k) = W m c i k := by
  simp only [V, List.flatten_cons, List.flatten_nil, List.cons_append, List.nil_append, List.append_nil]
  entry_read
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 1024) : iblk m c 0 t (ix2 i k) = X m c (rowAt t i) k := by
  rw [← V_v0]
  blk_simp [iblk, idx_val t]
  blk_ext [idx_val t]

theorem in3 (c : Dev nD) (t : Fin cfg0.N) (i : Fin 384) (k : Fin 1024) : iblk m c 3 t (ix2 i k) = DU m c (rowAt t i) k := by
  rw [← V_v4]
  blk_simp [iblk, idx_val t]
  blk_ext [idx_val t]

theorem in4 (c : Dev nD) (t : Fin cfg0.N) (i : Fin 384) (k : Fin 1024) : iblk m c 4 t (ix2 i k) = DG m c (rowAt t i) k := by
  rw [← V_v6]
  blk_simp [iblk, idx_val t]
  blk_ext [idx_val t]

theorem in5 (c : Dev nD) (t : Fin cfg0.N) (i : Fin 384) (k : Fin 1024) : iblk m c 5 t (ix2 i k) = H m c (rowAt t i) k := by
  rw [← V_v7]
  blk_simp [iblk, idx_val t]
  blk_ext [idx_val t]

theorem in1 (c : Dev nD) (t : Fin cfg0.N) (k : Fin 1024) : iblk m c 1 t (ix2 0 k) = G m c k := by
  unfold G
  rw [← V_main_arg1 m c]
  blk_simp [iblk, idx_val t]
  blk_ext [idx_val t]

theorem in2 (c : Dev nD) (t : Fin cfg0.N) (i : Fin 1024) (k : Fin 2048) : iblk m c 2 t (ix2 i k) = W m c i k := by
  rw [← V_v2]
  blk_simp [iblk, idx_val t]
  blk_ext [idx_val t]

theorem inDy (c : Dev nD) (t : Fin cfg0.N) (i : Fin 384) (n : Fin 2048) :
    dyBlk (iblk m c 3 t) (iblk m c 4 t) (ix2 i n) = DY m c (rowAt t i) n := by
  rw [dyBlk_apply]
  simp only [in3, in4, DY]

/-! ## What a point leaves -/

theorem left6 (c : Dev nD) (t : Fin cfg0.N) : (outsAt0 m c t.val t.isLt).1
    = k0_pay3 (iblk m c 1 t) (k0_pay9 (iblk m c 0 t)) (k0_pay10 (iblk m c 0 t))
        (k0_pay12 (dyBlk (iblk m c 3 t) (iblk m c 4 t)) (iblk m c 2 t)) (iblk m c 5 t) := by
  by_cases h : t.val % 11 = 0
  · rw [outsAt0_A m c t h]
    dsimp only
    frame_out
    refine congrArg (fun d => k0_pay3 _ _ _ (k0_pay12 d _) _) ?_
    exact Cert.Cols.readCov_two (R := 384) (N := 2048) (A := 1024) (B := 1024) (Val := Elt Ideal) (e := .bf16) rfl _ _ _ _ _ _
  · rw [outsAt0_B m c t h]
    dsimp only
    frame_out
    refine congrArg (fun d => k0_pay3 _ _ _ (k0_pay12 d _) _) ?_
    exact Cert.Cols.readCov_two (R := 384) (N := 2048) (A := 1024) (B := 1024) (Val := Elt Ideal) (e := .bf16) rfl _ _ _ _ _ _

theorem left7_A (c : Dev nD) (t : Fin cfg0.N) (h : t.val % 11 = 0) : (outsAt0 m c t.val t.isLt).2.1
    = k0_pay1 (dyBlk (iblk m c 3 t) (iblk m c 4 t)) (k0_pay11 (iblk m c 0 t) (iblk m c 1 t)) (k0_pay4 (F := Ideal)) := by
  rw [outsAt0_A m c t h]
  dsimp only
  frame_out
  refine congrArg (fun d => k0_pay1 d _ _) ?_
  exact Cert.Cols.readCov_two (R := 384) (N := 2048) (A := 1024) (B := 1024) (Val := Elt Ideal) (e := .bf16) rfl _ _ _ _ _ _

theorem left7_B (c : Dev nD) (t : Fin cfg0.N) (h : ¬t.val % 11 = 0) : (outsAt0 m c t.val t.isLt).2.1
    = k0_pay1 (dyBlk (iblk m c 3 t) (iblk m c 4 t)) (k0_pay11 (iblk m c 0 t) (iblk m c 1 t))
        (outsAt0 m c (t.val - 1) (Nat.lt_of_le_of_lt (Nat.sub_le _ _) t.isLt)).2.1 := by
  rw [outsAt0_B m c t h]
  dsimp only
  frame_out
  refine congrArg (fun d => k0_pay1 d _ _) ?_
  exact Cert.Cols.readCov_two (R := 384) (N := 2048) (A := 1024) (B := 1024) (Val := Elt Ideal) (e := .bf16) rfl _ _ _ _ _ _

theorem left8_A (c : Dev nD) (t : Fin cfg0.N) (h : t.val % 11 = 0) : (outsAt0 m c t.val t.isLt).2.2
    = k0_pay2 (k0_pay10 (iblk m c 0 t)) (k0_pay12 (dyBlk (iblk m c 3 t) (iblk m c 4 t)) (iblk m c 2 t)) (k0_pay5 (F := Ideal)) := by
  rw [outsAt0_A m c t h]
  dsimp only
  frame_out
  refine congrArg (fun d => k0_pay2 _ (k0_pay12 d _) _) ?_
  exact Cert.Cols.readCov_two (R := 384) (N := 2048) (A := 1024) (B := 1024) (Val := Elt Ideal) (e := .bf16) rfl _ _ _ _ _ _

theorem left8_B (c : Dev nD) (t : Fin cfg0.N) (h : ¬t.val % 11 = 0) : (outsAt0 m c t.val t.isLt).2.2
    = k0_pay2 (k0_pay10 (iblk m c 0 t)) (k0_pay12 (dyBlk (iblk m c 3 t) (iblk m c 4 t)) (iblk m c 2 t))
        (outsAt0 m c (t.val - 1) (Nat.lt_of_le_of_lt (Nat.sub_le _ _) t.isLt)).2.2 := by
  rw [outsAt0_B m c t h]
  dsimp only
  frame_out
  refine congrArg (fun d => k0_pay2 _ (k0_pay12 d _) _) ?_
  exact Cert.Cols.readCov_two (R := 384) (N := 2048) (A := 1024) (B := 1024) (Val := Elt Ideal) (e := .bf16) rfl _ _ _ _ _ _

/-! ## The arrays -/

/-- The input gradient's array. -/
def res6 (c : Dev nD) : FVec Ideal S4224x1024 .f32 :=
  fun y => Cert.Rows.kdx nn ee (X m c (y 0)) (G m c) (DN m c (y 0)) (y 1) + H m c (y 0) (y 1)
/-- The weight gradient's array. -/
def res7 (c : Dev nD) : FVec Ideal S1024x2048 .f32 :=
  fun y => ∑ i, X m c i (y 0) * Cert.Rows.rinv nn ee (X m c i) * G m c (y 0) * DY m c i (y 1)
/-- The gain gradient's array. -/
def res8 (c : Dev nD) : FVec Ideal S1x1024 .f32 :=
  fun y => ∑ i, DN m c i (y 1) * (X m c i (y 1) * Cert.Rows.rinv nn ee (X m c i))

theorem final_6 (c : Dev nD) : (dats m 0 c).arrAt 6 (cfgs 0).N = res6 m c := by
  refine (dats m 0 c).arrAt_eq_of_covers 6 _ (by decide +kernel) fun t hf y => ?_
  blk_simp; rw [after0_6, left6]
  idx_vars y
  rw [dx_blk]
  simp only [in0, in1, in2, inDy, in5]
  refine Eq.trans ?_ (congrArg (res6 m c) (?_ : ix2 (rowAt t y0) y1 = _))
  · rfl
  · blk_ext [idx_val t]

theorem final_7 (c : Dev nD) : (dats m 0 c).arrAt 7 (cfgs 0).N = res7 m c := by
  refine (dats m 0 c).arrAt_eq_of_after_last 7 t0_10 (by decide +kernel) _ fun j => ?_
  blk_simp
  rw [after0_7, Pipeline.eq_sum_fin_of_reset_step_apply_last (fun n h => (outsAt0 m c n h).2.1) 11 (fun _ => 0)
    (fun t j => ∑ i, X m c (rowAt t i) (j 0) * Cert.Rows.rinv nn ee (X m c (rowAt t i)) * G m c (j 0) * DY m c (rowAt t i) (j 1))
    (fun t h j => by
      idx_vars j
      rw [left7_A m c t h, dw_blk, zero7]
      simp only [in0, in1, inDy])
    (fun t h j => by
      idx_vars j
      rw [left7_B m c t h, dw_blk]
      simp only [in0, in1, inDy])
    (le_of_eq N_0) t0_10 rfl j, zero_add]
  exact Fin.sum_mul_add_congr (fun s k hl => rfl)

theorem final_8 (c : Dev nD) : (dats m 0 c).arrAt 8 (cfgs 0).N = res8 m c := by
  refine (dats m 0 c).arrAt_eq_of_after_last 8 t0_10 (by decide +kernel) _ fun j => ?_
  blk_simp
  rw [after0_8, Pipeline.eq_sum_fin_of_reset_step_apply_last (fun n h => (outsAt0 m c n h).2.2) 11 (fun _ => 0)
    (fun t j => ∑ i, DN m c (rowAt t i) (j 1) * (X m c (rowAt t i) (j 1) * Cert.Rows.rinv nn ee (X m c (rowAt t i))))
    (fun t h j => by
      idx_vars j
      rw [left8_A m c t h, dg_blk, zero8]
      simp only [in0, in2, inDy]
      rfl)
    (fun t h j => by
      idx_vars j
      rw [left8_B m c t h, dg_blk]
      simp only [in0, in2, inDy]
      rfl)
    (le_of_eq N_0) t0_10 rfl j, zero_add]
  exact Fin.sum_mul_add_congr (fun s k hl => rfl)

end Cert.BInIdeal.Value

end
-- ==== Proof.BInRef.lean ====
/- What the reference's three results are, index by index, as functions of the arguments. -/
module

public import proofs.«01_k».proof.Proof.Rows
public import proofs.«01_k».proof.Proof.Gen.BInRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.BInRefIdeal.Value

open Cert.BInRefIdeal Cert.BInRefIdeal.Gen

variable (m : (ℓ : Loc nD τ sig) → Buf (Elt Ideal) ℓ)

/-- The constants the norm uses. -/
abbrev nn : EReal := Ideal.ofBits .f32 0x44800000#32
abbrev ee : EReal := Ideal.ofBits .f32 0x358637BD#32
abbrev hh : EReal := Ideal.ofBits .f32 0xBF000000#32

/-- The product with the weights' transpose, over the two cotangents side by side. -/
def dnVec (a b : FVec Ideal S4112x1024 .f32) (w : FVec Ideal S1x1024x2048 .f32) : FVec Ideal S4112x1024 .f32 :=
  fun y => ∑ k : Fin 1024, a (ix2 (y 0) k) * w (ix3 0 (y 1) ⟨k.val, by omega⟩)
    + ∑ k : Fin 1024, b (ix2 (y 0) k) * w (ix3 0 (y 1) ⟨1024 + k.val, by omega⟩)

theorem dn_eq (a b : FVec Ideal S4112x1024 .f32) (w : FVec Ideal S1x1024x2048 .f32) :
    Host.dotGeneral (F := Ideal) (φ₁ := .f32) (φ₂ := .f32) dot_S4112x2048_S1024x2048_S4112x1024_1_1_0_0_n_n none (concatenate S4112x2048 1 [⟨S4112x1024, a⟩, ⟨S4112x1024, b⟩] concatenates_S4112x1024_S4112x1024_S4112x2048_d1) (shapeCast _ w shapeCasts_S1x1024x2048_S1024x2048)
    = dnVec a b w := by
  funext y
  idx_vars y
  pointwise [dnVec]

/-- One over the root of the mean square plus the small number, one per row. -/
def msVec (x : FVec Ideal S4112x1024 .f32) : FVec Ideal S4112x1 .f32 :=
  fun y => Ideal.div (∑ k, x (ix2 (y 0) k) * x (ix2 (y 0) k)) nn + ee

theorem ms_eq (x : FVec Ideal S4112x1024 .f32) : addf (φ := .f32) (Host.divf (broadcastInDim S4112x1 ![0] bcast_S4112_S4112x1_0 (Host.reduceAdd (mulf x x) (constant S_ .f32 0x00000000#32) reducesTo_S4112x1024_S4112_d1 h_S_)) (broadcastInDim S4112x1 ![] bcast_S_S4112x1 (constant S_ .f32 0x44800000#32))) (broadcastInDim S4112x1 ![] bcast_S_S4112x1 (constant S_ .f32 0x358637BD#32))
    = msVec x := by
  funext y
  idx_vars y
  pointwise [msVec]

/-- The arguments' entries. -/
def X (c : Dev nD) (i : Fin 4112) (k : Fin 1024) : EReal := m (c.tc.loc main_arg0) (ix2 i k)
def G (c : Dev nD) (k : Fin 1024) : EReal := m (c.tc.loc main_arg1) (ix2 0 k)
def DY (c : Dev nD) (i : Fin 4112) (n : Fin 2048) : EReal :=
  if h : n.val < 1024 then m (c.tc.loc main_arg3) (ix2 i ⟨n.val, h⟩) else m (c.tc.loc main_arg4) (ix2 i ⟨n.val - 1024, by omega⟩)
def H (c : Dev nD) (i : Fin 4112) (k : Fin 1024) : EReal := m (c.tc.loc main_arg5) (ix2 i k)
def DN (c : Dev nD) (i : Fin 4112) (k : Fin 1024) : EReal :=
  dnVec (m (c.tc.loc main_arg3)) (m (c.tc.loc main_arg4)) (m (c.tc.loc main_arg2)) (ix2 i k)

/-- The input gradient without the padding. -/
def dx (c : Dev nD) (i : Fin 4112) (j : Fin 1024) : EReal :=
  H m c i j + DN m c i j * G m c j * Cert.Rows.rinv nn ee (X m c i) + X m c i j * Cert.Rows.rs nn ee hh (X m c i) (G m c) (DN m c i)
    + Cert.Rows.rs nn ee hh (X m c i) (G m c) (DN m c i) * X m c i j

/-- The three results. -/
def res0 (c : Dev nD) : FVec Ideal S4224x1024 .f32 := fun y => Cert.Rows.pad 112 (by rfl : 112 + 4112 = 4224) (dx m c) (y 0) (y 1)
def res1 (c : Dev nD) : FVec Ideal S1024x2048 .f32 :=
  fun y => ∑ i, DY m c i (y 1) * (X m c i (y 0) * Cert.Rows.rinv nn ee (X m c i) * G m c (y 0))
def res2 (c : Dev nD) : FVec Ideal S1x1024 .f32 :=
  fun y => ∑ i, X m c i (y 1) * Cert.Rows.rinv nn ee (X m c i) * DN m c i (y 1)

theorem res0_eq (c : Dev nD) : res_main_v48 m c = res0 m c := by
  unfold res_main_v48
  rw [dn_eq, ms_eq]
  funext y
  idx_vars y
  refine Eq.trans (congrFun (congrArg (fun v : FVec Ideal S4112x1024 .f32 => pad S4224x1024 ![112, 0] ![0, 0] ![0, 0] v (sitofp FTy.f32 (constantI S_ 32 0#32)) pads_S4112x1024_S4224x1024_11200_000 h_S_) (?_ : _ = (fun z => dx m c (z 0) (z 1) : FVec Ideal S4112x1024 .f32))) (ix2 y0 y1)) ?_
  · funext z
    idx_vars z
    pointwise [dx, Cert.Rows.rs, Cert.Rows.rinv, msVec, X, G, H, DN]
    simp only [Fin.sum_univ_one]
  · refine Eq.trans ?_ (Cert.Rows.pad_eq 112 _ (dx m c) y0 y1)
    pointwise

theorem run_res (ρ : Dev nD → PrngReg) :
    θ_run defs (onTc (τ := τ) (main (F := Ideal))) ⟨m, fun _ => 0, ρ⟩ fun r => ∀ c : Dev nD,
      r.2.mem ((c.tc : Thread nD τ).loc main_v48) = res0 m c
      ∧ r.2.mem ((c.tc : Thread nD τ).loc main_v49) = res1 m c
      ∧ r.2.mem ((c.tc : Thread nD τ).loc main_v47) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (res0_eq m c), (h c).2.1.trans ?_, (h c).2.2.1.trans ?_, (h c).2.2.2⟩) (run m ρ)
  · funext y
    idx_vars y
    pointwise [res1, Cert.Rows.rinv, X, G, DY]
  · rw [dn_eq, ms_eq]
    funext y
    idx_vars y
    pointwise [res2, Cert.Rows.rinv, msVec, X, DN]
    simp only [Fin.sum_univ_one]

end Cert.BInRefIdeal.Value

end
-- ==== Proof.Finite.lean ====
/- The precondition «every entry is finite» read back: what its printed form says of an array's entries, and the
   constants of the norms as real numbers. -/
module

public import proofs.«01_k».proof.Proof.Rows
public import Idealize.ShloMosaic.Lib.ReduceAll
public import Idealize.ShloMosaic.Lib.StableHlo

@[expose] public section

set_option maxRecDepth 16384

noncomputable section

open Idealize.ShloMosaic
open scoped BigOperators

namespace Cert.Finite

/-- The pattern of the infinity. -/
theorem inf : Ideal.ofBits .f32 0x7F800000#32 = ⊤ := by simp [Ideal.ofBits, Ideal.ieee]

/-- An array all of whose entries compare below the infinity in absolute value has real entries. -/
theorem of_all {s t u : Shape} {axes : List (Fin s.rank)} [Subsingleton t.Idx] (x : FVec Ideal s .f32) (hb : (⟨0, ![]⟩ : Shape).BroadcastsInDim s ![])
    (hr : s.ReducesTo axes t) (hu : 0 < u.numel) (j : t.Idx)
    (e : Host.reduce IntOp.andi (cmpf .olt (Host.absf x) (broadcastInDim s ![] hb (constant (F := Ideal) ⟨0, ![]⟩ .f32 0x7F800000#32)))
      (constantI u 1 1#1) hr hu j = 1#1) (i : s.Idx) : ∃ r : ℝ, x i = (r : EReal) := by
  have h := Host.reduce_andi_all _ _ hr hu j e i
  refine Cert.Rows.exists_real ?_
  have h2 : Ideal.cmp .olt (max (x i) (-(x i))) (Ideal.ofBits .f32 0x7F800000#32) = 1#1 := h
  rw [inf] at h2
  by_contra hn
  simp [Ideal.cmp, hn] at h2

/-- The row length 1024, the small number of the norms, and minus one half. -/
theorem n1024 : Ideal.ofBits .f32 0x44800000#32 = ((1024 : ℝ) : EReal) := by
  simp [Ideal.ofBits, Ideal.ieee, -EReal.coe_mul]; norm_num

theorem eps : ∃ e : ℝ, 0 < e ∧ Ideal.ofBits .f32 0x358637BD#32 = (e : EReal) := by
  refine ⟨_, ?_, by simp [Ideal.ofBits, Ideal.ieee, -EReal.coe_mul]; rfl⟩
  positivity

theorem half : Ideal.ofBits .f32 0xBF000000#32 = ((-(1 / 2) : ℝ) : EReal) := by
  simp [Ideal.ofBits, Ideal.ieee, -EReal.coe_mul]; norm_num

end Cert.Finite

end
-- ==== Proof.BInEq.lean ====
/- The backward call of the recurrent block's input projection: the kernel's three results are the reference's, where the
   arguments the precondition names are finite. -/
module

public import proofs.«01_k».proof.Proof.BInKernel
public import proofs.«01_k».proof.Proof.BInRef
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.BInEq

/-- The precondition's shape relations. -/
theorem pre_facts : Cert.Pre_finite_args.Facts where
  bcast_S_S4112x1024 := by decide
  reducesTo_S4112x1024_S_d0_1 := by decide
  h_S_ := by decide
  bcast_S_S1x1024 := by decide
  reducesTo_S1x1024_S_d0_1 := by decide
  bcast_S_S1x1024x2048 := by decide
  reducesTo_S1x1024x2048_S_d0_1_2 := by decide

open Cert.Pre_finite_args in
/-- What the precondition says. -/
theorem finite [Facts] (a0 : FVec Ideal S4112x1024 .f32) (a1 : FVec Ideal S1x1024 .f32) (a2 : FVec Ideal S1x1024x2048 .f32)
    (a3 a4 a5 : FVec Ideal S4112x1024 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ ∀ i, ∃ r : ℝ, a4 i = (r : EReal) := by
  have e := congrFun h ValueIdx.ix0
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e2,
    Cert.Finite.of_all _ _ _ _ _ e3, Cert.Finite.of_all _ _ _ _ _ e4⟩

variable (m : (ℓ : Loc Cert.BInIdeal.nD Cert.BInIdeal.τ Cert.BInIdeal.sig) → Buf (Elt Ideal) ℓ)
  (m' : (ℓ : Loc Cert.BInRefIdeal.nD Cert.BInRefIdeal.τ Cert.BInRefIdeal.sig) → Buf (Elt Ideal) ℓ)
  (c : Dev Cert.BInIdeal.nD)

/-- The two memories hold the same arguments. -/
def Same : Prop :=
  m' (c.tc.loc Cert.BInRefIdeal.main_arg0) = m (c.tc.loc Cert.BInIdeal.main_arg0)
  ∧ m' (c.tc.loc Cert.BInRefIdeal.main_arg1) = m (c.tc.loc Cert.BInIdeal.main_arg1)
  ∧ m' (c.tc.loc Cert.BInRefIdeal.main_arg2) = m (c.tc.loc Cert.BInIdeal.main_arg2)
  ∧ m' (c.tc.loc Cert.BInRefIdeal.main_arg3) = m (c.tc.loc Cert.BInIdeal.main_arg3)
  ∧ m' (c.tc.loc Cert.BInRefIdeal.main_arg4) = m (c.tc.loc Cert.BInIdeal.main_arg4)
  ∧ m' (c.tc.loc Cert.BInRefIdeal.main_arg5) = m (c.tc.loc Cert.BInIdeal.main_arg5)

variable (hs : Same m m' c)
include hs

theorem X_eq (i : Fin 4224) : BInIdeal.Value.X m c i = Cert.Rows.pad 112 (by rfl : 112 + 4112 = 4224) (BInRefIdeal.Value.X m' c) i := by
  unfold BInRefIdeal.Value.X; rw [hs.1]; rfl

theorem G_eq : BInIdeal.Value.G m c = BInRefIdeal.Value.G m' c := by
  unfold BInRefIdeal.Value.G; rw [hs.2.1]; rfl

theorem H_eq (i : Fin 4224) : BInIdeal.Value.H m c i = Cert.Rows.pad 112 (by rfl : 112 + 4112 = 4224) (BInRefIdeal.Value.H m' c) i := by
  unfold BInRefIdeal.Value.H; rw [hs.2.2.2.2.2]; rfl

theorem DY_eq (i : Fin 4224) (n : Fin 2048) :
    BInIdeal.Value.DY m c i n = Cert.Rows.pad 112 (by rfl : 112 + 4112 = 4224) (BInRefIdeal.Value.DY m' c) i n := by
  unfold BInRefIdeal.Value.DY; rw [hs.2.2.2.1, hs.2.2.2.2.1]
  unfold BInIdeal.Value.DY BInIdeal.Value.DU BInIdeal.Value.DG Cert.Rows.pad
  by_cases h : 112 ≤ i.val
  · simp only [dif_pos h]
  · simp only [dif_neg h, dite_eq_ite, ite_self]

theorem DN_eq (i : Fin 4224) (k : Fin 1024) :
    BInIdeal.Value.DN m c i k = Cert.Rows.pad 112 (by rfl : 112 + 4112 = 4224) (BInRefIdeal.Value.DN m' c) i k := by
  unfold BInIdeal.Value.DN
  simp only [DY_eq m m' c hs]
  rw [Cert.Rows.sum_mul_pad]
  congr 1
  funext t k
  unfold BInRefIdeal.Value.DN BInRefIdeal.Value.dnVec
  rw [hs.2.2.1]
  rw [show (∑ n : Fin 2048, BInRefIdeal.Value.DY m' c t n * BInIdeal.Value.W m c k n)
    = ∑ n : Fin (1024 + 1024), BInRefIdeal.Value.DY m' c t n * BInIdeal.Value.W m c k n from rfl, Fin.sum_univ_add]
  rfl

theorem res1_eq : BInIdeal.Value.res7 m c = BInRefIdeal.Value.res1 m' c := by
  funext y
  have h : ∀ (a : Fin 1024) (b : Fin 2048), (∑ i, BInIdeal.Value.X m c i a * Cert.Rows.rinv BInIdeal.Value.nn BInIdeal.Value.ee (BInIdeal.Value.X m c i)
      * BInIdeal.Value.G m c a * BInIdeal.Value.DY m c i b) = ∑ i, BInRefIdeal.Value.DY m' c i b * (BInRefIdeal.Value.X m' c i a
      * Cert.Rows.rinv BInRefIdeal.Value.nn BInRefIdeal.Value.ee (BInRefIdeal.Value.X m' c i) * BInRefIdeal.Value.G m' c a) := fun a b => by
    simp only [X_eq m m' c hs, G_eq m m' c hs, DY_eq m m' c hs]
    exact Cert.Rows.dw_eq _ _ _ _ _ _ _ _
  exact h (y 0) (y 1)

theorem res2_eq : BInIdeal.Value.res8 m c = BInRefIdeal.Value.res2 m' c := by
  funext y
  have h : ∀ b : Fin 1024, (∑ i, BInIdeal.Value.DN m c i b * (BInIdeal.Value.X m c i b
      * Cert.Rows.rinv BInIdeal.Value.nn BInIdeal.Value.ee (BInIdeal.Value.X m c i))) = ∑ i, BInRefIdeal.Value.X m' c i b
      * Cert.Rows.rinv BInRefIdeal.Value.nn BInRefIdeal.Value.ee (BInRefIdeal.Value.X m' c i) * BInRefIdeal.Value.DN m' c i b := fun b => by
    simp only [X_eq m m' c hs, DN_eq m m' c hs]
    exact Cert.Rows.dg_eq _ _ _ _ _ _
  exact h (y 1)

theorem dx_eq [Cert.Pre_finite_args.Facts] (hp : Cert.Pre_BInIdeal_finite_args m) (i : Fin 4224) (j : Fin 1024) :
    Cert.Rows.kdx BInIdeal.Value.nn BInIdeal.Value.ee (BInIdeal.Value.X m c i) (BInIdeal.Value.G m c) (BInIdeal.Value.DN m c i) j
      + BInIdeal.Value.H m c i j = Cert.Rows.pad 112 (by rfl : 112 + 4112 = 4224) (BInRefIdeal.Value.dx m' c) i j := by
  obtain ⟨h0, h1, h2, h3, h4⟩ := finite _ _ _ _ _ _ (hp c)
  rw [show BInIdeal.Value.DN m c i = _ from funext (DN_eq m m' c hs i), X_eq m m' c hs, G_eq m m' c hs, H_eq m m' c hs]
  obtain ⟨e, he, hee⟩ := Cert.Finite.eps
  unfold BInRefIdeal.Value.dx BInRefIdeal.Value.nn BInRefIdeal.Value.ee BInRefIdeal.Value.hh BInIdeal.Value.nn BInIdeal.Value.ee
  rw [Cert.Finite.n1024, Cert.Finite.half, hee]
  refine Cert.Rows.dx_eq _ (by norm_num) he _ _ _ _ ?_ ?_ ?_ _ _
  · intro t k; unfold BInRefIdeal.Value.X; rw [hs.1]; exact h0 _
  · intro t k
    unfold BInRefIdeal.Value.DN BInRefIdeal.Value.dnVec
    rw [hs.2.2.1, hs.2.2.2.1, hs.2.2.2.2.1]
    obtain ⟨r, hr⟩ := Cert.Rows.real_sum_mul (fun n : Fin 1024 => h3 (ValueIdx.ix2 t n)) (fun n : Fin 1024 => h2 (ValueIdx.ix3 0 k ⟨n.val, by omega⟩))
    obtain ⟨q, hq⟩ := Cert.Rows.real_sum_mul (fun n : Fin 1024 => h4 (ValueIdx.ix2 t n)) (fun n : Fin 1024 => h2 (ValueIdx.ix3 0 k ⟨1024 + n.val, by omega⟩))
    exact ⟨r + q, (congrArg₂ (· + ·) hr hq).trans (EReal.coe_add r q).symm⟩
  · intro k; unfold BInRefIdeal.Value.G; rw [hs.2.1]; exact h1 _

theorem res0_eq [Cert.Pre_finite_args.Facts] (hp : Cert.Pre_BInIdeal_finite_args m) : BInIdeal.Value.res6 m c = BInRefIdeal.Value.res0 m' c :=
  funext fun y => dx_eq m m' c hs hp (y 0) (y 1)

end Cert.BInEq

end
-- ==== Proof.Attn.lean ====
/- Causal attention of one head over the real numbers, its gradients, and the equations that read the extended reals of the
   two programs as these: a score that is not below the diagonal is `⊥`, its exponential zero, and a row's greatest score
   is a real number that cancels out of the probabilities. -/
module

public import proofs.«01_k».proof.Proof.Rows

@[expose] public section

set_option maxRecDepth 16384

noncomputable section

open Idealize.ShloMosaic
open scoped BigOperators

namespace Cert.Attn

/-- The scale of the scores, as the host programs compute it. -/
def rs : EReal := Ideal.rsqrt (Ideal.ofBits .f32 0x43400000#32)

/-- The scale of the scores. -/
def κs : ℝ := (Real.sqrt 192)⁻¹

theorem rs_eq : rs = ((κs : ℝ) : EReal) := by
  have h : Ideal.ofBits .f32 0x43400000#32 = ((192 : ℝ) : EReal) := by
    simp [Ideal.ofBits, Ideal.ieee, -EReal.coe_mul]; norm_num
  unfold rs κs
  rw [h, Ideal.rsqrt_coe, if_neg (by norm_num), if_neg (by norm_num)]

theorem neg_inf : Ideal.ofBits .f32 0xFF800000#32 = ⊥ := by
  simp [Ideal.ofBits, Ideal.ieee]

/-- The greatest of finitely many scores, one of which is a real number and none of which is `⊤`, is a real number. -/
theorem fold_max_real {n : ℕ} (f : Fin n → EReal) (hf : ∀ i, f i = ⊥ ∨ ∃ r : ℝ, f i = (r : EReal)) (i0 : Fin n) (r0 : ℝ)
    (h0 : f i0 = (r0 : EReal)) : ∃ r : ℝ, (Finset.univ : Finset (Fin n)).fold max ⊥ f = (r : EReal) := by
  have hs : (Finset.univ : Finset (Fin n)).fold max ⊥ f = Finset.univ.sup f := rfl
  obtain ⟨i, -, hi⟩ := Finset.exists_mem_eq_sup (Finset.univ : Finset (Fin n)) ⟨i0, Finset.mem_univ _⟩ f
  rcases hf i with h | ⟨r, h⟩
  · have hle : f i0 ≤ ⊥ := by
      rw [← h, ← hi]; exact Finset.le_sup (Finset.mem_univ i0)
    rw [h0] at hle
    exact absurd (le_bot_iff.1 hle) (EReal.coe_ne_bot _)
  · exact ⟨r, by rw [hs, hi, h]⟩

section Real
variable {n K L : ℕ} (q k : Fin n → Fin K → ℝ) (v d : Fin n → Fin L → ℝ) (m : Fin n → ℝ)

/-- The scaled product of query `a` and key `b`. -/
def sc (a b : Fin n) : ℝ := (∑ c, q a c * k b c) * κs

/-- The exponential of a score below the row's constant `m`; zero above the diagonal. -/
def e (a b : Fin n) : ℝ := if b.val ≤ a.val then Real.exp (sc q k a b - m a) else 0

/-- A row's sum of exponentials. -/
def l (a : Fin n) : ℝ := ∑ b, e q k m a b

/-- The probability of key `b` for query `a`. -/
def p (a b : Fin n) : ℝ := e q k m a b * (1 / l q k m a)

/-- The gradient of a probability. -/
def dp (a b : Fin n) : ℝ := ∑ c, d a c * v b c

/-- The gradient of a score, the scale included. -/
def ds (a b : Fin n) : ℝ := p q k m a b * (dp v d a b - ∑ b', p q k m a b' * dp v d a b') * κs

theorem e_nonneg (a b : Fin n) : 0 ≤ e q k m a b := by
  unfold e; split_ifs
  · exact (Real.exp_pos _).le
  · exact le_rfl

theorem l_pos (a : Fin n) : 0 < l q k m a := by
  unfold l
  refine Finset.sum_pos' (fun b _ => e_nonneg q k m a b) ⟨a, Finset.mem_univ _, ?_⟩
  unfold e; rw [if_pos le_rfl]; exact Real.exp_pos _

theorem p_above {a b : Fin n} (h : ¬ b.val ≤ a.val) : p q k m a b = 0 := by
  unfold p e; rw [if_neg h, zero_mul]

theorem ds_above {a b : Fin n} (h : ¬ b.val ≤ a.val) : ds q k v d m a b = 0 := by
  unfold ds; rw [p_above q k m h, zero_mul, zero_mul]

/-- A probability from the row's log-sum in base two. -/
theorem p_exp2 {a b : Fin n} (h : b.val ≤ a.val) :
    Real.rpow 2 ((∑ c, q a c * k b c) * (κs * (Real.log 2)⁻¹) - (m a + Real.log (l q k m a)) * (1 / Real.log 2)) = p q k m a b := by
  have h2 : Real.log 2 ≠ 0 := (Real.log_pos (by norm_num)).ne'
  show (2 : ℝ) ^ ((∑ c, q a c * k b c) * (κs * (Real.log 2)⁻¹) - (m a + Real.log (l q k m a)) * (1 / Real.log 2)) = p q k m a b
  rw [Real.rpow_def_of_pos (by norm_num)]
  have hx : Real.log 2 * ((∑ c, q a c * k b c) * (κs * (Real.log 2)⁻¹) - (m a + Real.log (l q k m a)) * (1 / Real.log 2))
      = (sc q k a b - m a) - Real.log (l q k m a) := by
    unfold sc; field_simp; ring
  rw [hx, Real.exp_sub, Real.exp_log (l_pos q k m a)]
  unfold p e
  rw [if_pos h]; ring

/-- The row sum of output times cotangent is the row sum of probability times its gradient. -/
theorem delta_eq (a : Fin n) :
    ∑ c, d a c * ∑ b, p q k m a b * v b c = ∑ b, p q k m a b * dp v d a b := by
  unfold dp
  simp only [Finset.mul_sum]
  rw [Finset.sum_comm]
  exact Finset.sum_congr rfl fun b _ => Finset.sum_congr rfl fun c _ => by ring

/-- The gradient of a score as the derivative of a quotient of exponentials states it. -/
theorem ds_quot (a b : Fin n) :
    (if b.val ≤ a.val then (dp v d a b * (1 / l q k m a)
        + ∑ _u : Fin 1, -(∑ b', dp v d a b' * (1 / (l q k m a * l q k m a)) * e q k m a b')) * e q k m a b else 0) * κs
      = ds q k v d m a b := by
  split_ifs with h
  · unfold ds p
    rw [Fin.sum_univ_one]
    have : ∑ b', dp v d a b' * (1 / (l q k m a * l q k m a)) * e q k m a b'
        = (1 / l q k m a) * ∑ b', e q k m a b' * (1 / l q k m a) * dp v d a b' := by
      rw [Finset.mul_sum]
      exact Finset.sum_congr rfl fun b' _ => by
        have := (l_pos q k m a).ne'
        field_simp
    rw [this]; ring
  · rw [ds_above q k v d m h, zero_mul]

end Real

section Ext
variable {n K L : ℕ}

/-- The scores of the programs: scaled products, `⊥` above the diagonal. -/
def S (q k : Fin n → Fin K → EReal) (a b : Fin n) : EReal := if b.val ≤ a.val then (∑ c, q a c * k b c) * rs else ⊥

/-- A row's greatest score. -/
def mx (s : Fin n → EReal) : EReal := (Finset.univ : Finset (Fin n)).fold max ⊥ s

/-- The greatest entry of a row, as a host program computes it: the reduction's result against `⊥` once more. -/
theorem max_rows {s t u : Shape} {a : Fin s.rank} (hN : s.size a = n) (x : s.Idx → EReal) (init : u.Idx → EReal) (h' : s.ReducesTo [a] t)
    (h : s.Reduces [a] t) (hu : 0 < u.numel) (hi : init (Shape.Idx.first hu) = ⊥) (j : t.Idx) (r : Fin n → EReal)
    (hr : ∀ b, x (h.lift j (Fin.cast hN.symm b)) = r b) :
    Host.reduce (FloatOps.maximumf (F := Ideal) (φ := .f32)) x init h' hu j = mx r := by
  subst hN
  rw [Host.reduce_eq_fold_single (FloatOps.maximumf (F := Ideal) (φ := .f32)) x init h' h hu j, hi]
  have hx : x ∘ h.lift j = r := funext hr
  rw [hx]
  rfl

/-- A row's exponentials. -/
def E (q k : Fin n → Fin K → EReal) (a b : Fin n) : EReal := Ideal.exp (S q k a b - mx (S q k a))

/-- A row's sum of exponentials. -/
def Ls (q k : Fin n → Fin K → EReal) (a : Fin n) : EReal := ∑ b, E q k a b

variable (q k : Fin n → Fin K → ℝ) (v d : Fin n → Fin L → ℝ)

theorem sum_coe (a b : Fin n) : ∑ c, (q a c : EReal) * (k b c : EReal) = ((∑ c, q a c * k b c : ℝ) : EReal) := by
  rw [← Rows.coe_sum]; exact Finset.sum_congr rfl fun c _ => (EReal.coe_mul _ _).symm

theorem S_coe (a b : Fin n) :
    S (fun a c => (q a c : EReal)) (fun b c => (k b c : EReal)) a b = if b.val ≤ a.val then ((sc q k a b : ℝ) : EReal) else ⊥ := by
  unfold S sc
  split_ifs
  · rw [sum_coe, rs_eq, ← EReal.coe_mul]
  · rfl

/-- The greatest score of a row of finite operands is a real number. -/
theorem mx_real (a : Fin n) : ∃ r : ℝ, mx (S (fun a c => (q a c : EReal)) (fun b c => (k b c : EReal)) a) = (r : EReal) := by
  refine fold_max_real _ (fun i => ?_) a (sc q k a a) ?_
  · rw [S_coe]; split_ifs
    · exact Or.inr ⟨_, rfl⟩
    · exact Or.inl rfl
  · rw [S_coe, if_pos le_rfl]

/-- A row's greatest score, as a real number. -/
def mr (a : Fin n) : ℝ := (mx_real q k a).choose

theorem mx_coe (a : Fin n) : mx (S (fun a c => (q a c : EReal)) (fun b c => (k b c : EReal)) a) = ((mr q k a : ℝ) : EReal) :=
  (mx_real q k a).choose_spec

theorem E_coe (a b : Fin n) :
    E (fun a c => (q a c : EReal)) (fun b c => (k b c : EReal)) a b = ((e q k (mr q k) a b : ℝ) : EReal) := by
  unfold E e
  rw [mx_coe, S_coe]
  split_ifs
  · rw [← EReal.coe_sub, Ideal.exp_coe]
  · show Ideal.exp (⊥ + -((mr q k a : ℝ) : EReal)) = _
    rw [EReal.bot_add, Ideal.exp_bot]; rfl

theorem Ls_coe (a : Fin n) :
    Ls (fun a c => (q a c : EReal)) (fun b c => (k b c : EReal)) a = ((l q k (mr q k) a : ℝ) : EReal) := by
  unfold Ls l
  rw [← Rows.coe_sum]; exact Finset.sum_congr rfl fun b _ => E_coe q k a b

/-- A probability as a quotient. -/
theorem P_coe (a b : Fin n) :
    Ideal.div (E (fun a c => (q a c : EReal)) (fun b c => (k b c : EReal)) a b) (Ls (fun a c => (q a c : EReal)) (fun b c => (k b c : EReal)) a)
      = ((p q k (mr q k) a b : ℝ) : EReal) := by
  rw [E_coe, Ls_coe, Ideal.div_coe (l_pos q k _ a).ne', ← EReal.coe_mul]; rfl

end Ext

end Cert.Attn
-- ==== Proof.FlashStep.lean ====
/- What one step of the attention gradient's loops computes at an index: the probabilities of a block of keys for a run of
   queries, the scores' gradients, and the three products that are added to the accumulators. -/
module

public import proofs.«01_k».proof.Proof.Attn
public import proofs.«01_k».proof.Proof.Gen.FlashIdeal.Frame
public import Idealize.ShloMosaic.Lib.Pipeline.ValueKit
public import Idealize.ShloMosaic.Lib.WordCmp
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

/-- The two scales the kernel multiplies by, by their names. -/
def κ2 : EReal := Named.named (F := Ideal) κ "scale_log2e" (φ := .f32) 0x3DD53B95#32
def κ1 : EReal := Named.named (F := Ideal) κ "scale" (φ := .f32) 0x3D93CD3A#32

/-- The probability of key `t` of a block for query row `n`, before the mask. -/
def raw (K : FVec Ideal S384x256 .bf16) (Q : ℕ → Fin 256 → EReal) (L : ℕ → EReal) (n : ℕ) (t : Fin 384) : EReal :=
  Ideal.exp2 ((∑ c, K (ix2 t c) * Q n c) * κ2 - L n)

/-- The same with the mask of key block `j`, which only its own rows of queries need. -/
def pm (j : ℕ) (K : FVec Ideal S384x256 .bf16) (Q : ℕ → Fin 256 → EReal) (L : ℕ → EReal) (n : ℕ) (t : Fin 384) : EReal :=
  if n < 384 * j + 384 then (if 384 * j + t.val ≤ n ∧ 112 ≤ 384 * j + t.val then raw K Q L n t else 0) else raw K Q L n t

/-- The gradient of the score of key `t` and query row `n` for the probability `p`. -/
def dsv (V : FVec Ideal S384x128 .bf16) (O : ℕ → Fin 128 → EReal) (D : ℕ → EReal) (n : ℕ) (t : Fin 384) (p : EReal) : EReal :=
  p * ((∑ c, V (ix2 t c) * O n c) - D n) * κ1

/-- The kernel's mask, a bit of two index words' comparisons. -/
theorem mask_word (j t x : ℕ) (hj : j < 11) (ht : t < 384) (hx : x < 384) (z : EReal) :
    Scalar.select (IntOp.andi
        (IntOp.cmpi CmpIPredicate.sle (IntOp.addi (Scalar.muli (BitVec.ofNat 32 j) 384#32) (BitVec.ofNat 32 t))
          (IntOp.addi (Scalar.muli (BitVec.ofNat 32 j) 384#32) (BitVec.ofNat 32 x)))
        (IntOp.cmpi CmpIPredicate.sge (IntOp.addi (Scalar.muli (BitVec.ofNat 32 j) 384#32) (BitVec.ofNat 32 t)) 112#32)) z 0
      = if 384 * j + t ≤ 384 * j + x ∧ 112 ≤ 384 * j + t then z else 0 := by
  rw [show Scalar.muli (BitVec.ofNat 32 j) 384#32 = BitVec.ofNat 32 (j * 384) from WordCmp.muli_ofNat j 384, WordCmp.addi_ofNat, WordCmp.addi_ofNat]
  simp (disch := omega) only [hlo_ix]
  simp only [ge_iff_le, mul_comm j 384]

variable (K : FVec Ideal S384x256 .bf16) (V : FVec Ideal S384x128 .bf16) (Q : ℕ → Fin 256 → EReal) (L : ℕ → EReal)
  (O : ℕ → Fin 128 → EReal) (D : ℕ → EReal) (lo j : ℕ)

/-- A run of rows read out of blocks of 384, block by block. -/
theorem rows_two (f : ℕ → EReal) (lo x : ℕ) : (if _h : x < 384 then f (lo + x) else f (lo + 384 + (x - 384))) = f (lo + x) := by
  split_ifs with h
  · rfl
  · exact congrArg f (by omega)

theorem rows_four (f : ℕ → EReal) (lo x : ℕ) : (if _h : x < 384 then f (lo + x) else if _h : x - 384 < 384 then f (lo + 384 + (x - 384))
    else if _h : x - 384 - 384 < 384 then f (lo + 768 + (x - 384 - 384)) else f (lo + 1152 + (x - 384 - 384 - 384))) = f (lo + x) := by
  split_ifs
  · rfl
  all_goals exact congrArg f (by omega)

section One
variable (q : Vec Ideal S384x256 .bf16) (o : Vec Ideal S384x128 .bf16) (l d : Vec Ideal S1x1x8x384 .f32)
  (hq : ∀ x c, q (ix2 x c) = Q (lo + x.val) c) (ho : ∀ x c, o (ix2 x c) = O (lo + x.val) c)
  (hl : ∀ x, l (ix4 0 0 0 x) = L (lo + x.val)) (hd : ∀ x, d (ix4 0 0 0 x) = D (lo + x.val))

include hq hl in
theorem pay9_eq (hj : j < 11) (hlo : lo = 384 * j) (t x : Fin 384) :
    k0_pay9 (F := Ideal) (BitVec.ofNat 32 j) (k0_pay50 K) q l (ix2 t x) = pm j K Q L (lo + x.val) t := by
  have ht := t.isLt
  have hx := x.isLt
  pointwise [k0_pay9, k0_pay7, k0_pay50, hq, hl]
  rw [mask_word j t.val x.val hj ht hx]
  unfold pm
  rw [hlo, if_pos (show 384 * j + x.val < 384 * j + 384 by omega)]
  rfl

include hq hl ho in
theorem pay10_eq (hj : j < 11) (hlo : lo = 384 * j) (A : Vec Ideal S384x128 .f32) (t : Fin 384) (c : Fin 128) :
    k0_pay10 (F := Ideal) (BitVec.ofNat 32 j) (k0_pay50 K) q o l A (ix2 t c) = A (ix2 t c) + ∑ x : Fin 384, pm j K Q L (lo + x.val) t * O (lo + x.val) c := by
  pointwise [k0_pay10, k0_pay8, ho]
  simp only [pay9_eq K Q L lo j q l hq hl hj hlo]

include ho hd in
theorem pay54_eq (P : FVec Ideal S384x384 .f32) (t x : Fin 384) :
    k0_pay54 (F := Ideal) V (k0_pay8 o) P (constant S384x384 .f32 0x00000000#32) d (ix2 t x) = dsv V O D (lo + x.val) t (P (ix2 t x)) := by
  pointwise [k0_pay54, k0_pay51, k0_pay8, ho, hd, dsv, κ1]

include hq ho hd in
theorem pay55_eq (P : FVec Ideal S384x384 .f32) (A : Vec Ideal S384x256 .f32) (t : Fin 384) (c : Fin 256) :
    k0_pay55 (F := Ideal) V (k0_pay7 q) (k0_pay8 o) P (constant S384x384 .f32 0x00000000#32) d A (ix2 t c)
      = A (ix2 t c) + ∑ x : Fin 384, dsv V O D (lo + x.val) t (P (ix2 t x)) * Q (lo + x.val) c := by
  pointwise [k0_pay55, k0_pay7, hq]
  simp only [pay54_eq V O D lo o d ho hd]

include ho hd in
theorem pay56_eq (P : FVec Ideal S384x384 .f32) (A : Vec Ideal S384x256 .f32) (x : Fin 384) (c : Fin 256) :
    k0_pay56 (F := Ideal) K V (k0_pay8 o) P (constant S384x384 .f32 0x00000000#32) d A (ix2 x c)
      = A (ix2 x c) + ∑ t : Fin 384, dsv V O D (lo + x.val) t (P (ix2 t x)) * K (ix2 t c) := by
  pointwise [k0_pay56, k0_pay50]
  simp only [pay54_eq V O D lo o d ho hd]

end One

section Two
variable (q : Vec Ideal S768x256 .bf16) (o : Vec Ideal S768x128 .bf16) (l0 l1 d0 d1 : Vec Ideal S1x1x8x384 .f32)
  (hq : ∀ x c, q (ix2 x c) = Q (lo + x.val) c) (ho : ∀ x c, o (ix2 x c) = O (lo + x.val) c)
  (hl0 : ∀ x, l0 (ix4 0 0 0 x) = L (lo + x.val)) (hl1 : ∀ x, l1 (ix4 0 0 0 x) = L (lo + 384 + x.val))
  (hd0 : ∀ x, d0 (ix4 0 0 0 x) = D (lo + x.val)) (hd1 : ∀ x, d1 (ix4 0 0 0 x) = D (lo + 384 + x.val))

include hq hl0 hl1 in
theorem pay17_eq (hj : j < 11) (hlo : lo = 384 * j) (t : Fin 384) (x : Fin 768) :
    k0_pay17 (F := Ideal) (BitVec.ofNat 32 j) K q l0 l1 (ix2 t x) = pm j K Q L (lo + x.val) t := by
  have ht := t.isLt
  pointwise [k0_pay17, k0_pay15, hq, hl0, hl1]
  unfold pm
  by_cases hx : x.val < 384
  · rw [dif_pos hx, dif_pos hx, mask_word j t.val x.val hj ht hx, hlo, if_pos (show 384 * j + x.val < 384 * j + 384 by omega)]
    rfl
  · rw [dif_neg hx, hlo, if_neg (show ¬ 384 * j + x.val < 384 * j + 384 by omega)]
    have h1 : 384 * j + (384 + (x.val - 384)) = 384 * j + x.val := by omega
    have h2 : 384 * j + 384 + (x.val - 384) = 384 * j + x.val := by omega
    simp only [h1, h2]
    rfl

theorem pay18_eq (P : FVec Ideal S384x768 .f32) (A : Vec Ideal S384x128 .f32) (t : Fin 384) (c : Fin 128) :
    k0_pay18 (F := Ideal) (k0_pay16 o) P A (ix2 t c) = A (ix2 t c) + ∑ x : Fin 768, P (ix2 t x) * o (ix2 x c) := by
  pointwise [k0_pay18, k0_pay16]

include ho hd0 hd1 in
theorem pay19_eq (P : FVec Ideal S384x768 .f32) (t : Fin 384) (x : Fin 768) :
    k0_pay19 (F := Ideal) V (k0_pay16 o) P d0 d1 (ix2 t x) = dsv V O D (lo + x.val) t (P (ix2 t x)) := by
  pointwise [k0_pay19, k0_pay16, ho, hd0, hd1, dsv, κ1]
  rw [rows_two]

include hq ho hd0 hd1 in
theorem pay20_eq (P : FVec Ideal S384x768 .f32) (A : Vec Ideal S384x256 .f32) (t : Fin 384) (c : Fin 256) :
    k0_pay20 (F := Ideal) V (k0_pay15 q) (k0_pay16 o) P d0 d1 A (ix2 t c)
      = A (ix2 t c) + ∑ x : Fin 768, dsv V O D (lo + x.val) t (P (ix2 t x)) * Q (lo + x.val) c := by
  pointwise [k0_pay20, k0_pay15, hq]
  simp only [pay19_eq V O D lo o d0 d1 ho hd0 hd1]

include ho hd0 hd1 in
theorem pay21_eq (P : FVec Ideal S384x768 .f32) (A : Vec Ideal S768x256 .f32) (x : Fin 768) (c : Fin 256) :
    k0_pay21 (F := Ideal) K V (k0_pay16 o) P d0 d1 A (ix2 x c)
      = A (ix2 x c) + ∑ t : Fin 384, dsv V O D (lo + x.val) t (P (ix2 t x)) * K (ix2 t c) := by
  pointwise [k0_pay21]
  simp only [pay19_eq V O D lo o d0 d1 ho hd0 hd1]

include hq hl0 hl1 in
theorem pay41_eq (t : Fin 384) (x : Fin 768) : k0_pay41 (F := Ideal) K q l0 l1 (ix2 t x) = raw K Q L (lo + x.val) t := by
  pointwise [k0_pay41, k0_pay39, hq, hl0, hl1]
  rw [rows_two]
  rfl

include hq hl0 hl1 ho in
theorem pay42_eq (A : Vec Ideal S384x128 .f32) (t : Fin 384) (c : Fin 128) :
    k0_pay42 (F := Ideal) K q o l0 l1 A (ix2 t c) = A (ix2 t c) + ∑ x : Fin 768, raw K Q L (lo + x.val) t * O (lo + x.val) c := by
  pointwise [k0_pay42, k0_pay40, ho]
  simp only [pay41_eq K Q L lo q l0 l1 hq hl0 hl1]

include ho hd0 hd1 in
theorem pay1_eq (P : FVec Ideal S384x768 .f32) (t : Fin 384) (x : Fin 768) :
    k0_pay1 (F := Ideal) P (k0_pay43 V o) d0 d1 (ix2 t x) = dsv V O D (lo + x.val) t (P (ix2 t x)) := by
  pointwise [k0_pay1, k0_pay43, k0_pay40, ho, hd0, hd1, dsv, κ1]
  rw [rows_two]

include hq ho hd0 hd1 in
theorem pay2_eq (P : FVec Ideal S384x768 .f32) (A : Vec Ideal S384x256 .f32) (t : Fin 384) (c : Fin 256) :
    k0_pay2 (F := Ideal) (k0_pay39 q) P (k0_pay43 V o) d0 d1 A (ix2 t c)
      = A (ix2 t c) + ∑ x : Fin 768, dsv V O D (lo + x.val) t (P (ix2 t x)) * Q (lo + x.val) c := by
  pointwise [k0_pay2, k0_pay39, hq]
  simp only [pay1_eq V O D lo o d0 d1 ho hd0 hd1]

include ho hd0 hd1 in
theorem pay3_eq (P : FVec Ideal S384x768 .f32) (A : Vec Ideal S768x256 .f32) (x : Fin 768) (c : Fin 256) :
    k0_pay3 (F := Ideal) K P (k0_pay43 V o) d0 d1 A (ix2 x c)
      = A (ix2 x c) + ∑ t : Fin 384, dsv V O D (lo + x.val) t (P (ix2 t x)) * K (ix2 t c) := by
  pointwise [k0_pay3]
  simp only [pay1_eq V O D lo o d0 d1 ho hd0 hd1]

end Two

section Four
variable (q : Vec Ideal S1536x256 .bf16) (o : Vec Ideal S1536x128 .bf16) (l0 l1 l2 l3 d0 d1 d2 d3 : Vec Ideal S1x1x8x384 .f32)
  (hq : ∀ x c, q (ix2 x c) = Q (lo + x.val) c) (ho : ∀ x c, o (ix2 x c) = O (lo + x.val) c)
  (hl0 : ∀ x, l0 (ix4 0 0 0 x) = L (lo + x.val)) (hl1 : ∀ x, l1 (ix4 0 0 0 x) = L (lo + 384 + x.val))
  (hl2 : ∀ x, l2 (ix4 0 0 0 x) = L (lo + 768 + x.val)) (hl3 : ∀ x, l3 (ix4 0 0 0 x) = L (lo + 1152 + x.val))
  (hd0 : ∀ x, d0 (ix4 0 0 0 x) = D (lo + x.val)) (hd1 : ∀ x, d1 (ix4 0 0 0 x) = D (lo + 384 + x.val))
  (hd2 : ∀ x, d2 (ix4 0 0 0 x) = D (lo + 768 + x.val)) (hd3 : ∀ x, d3 (ix4 0 0 0 x) = D (lo + 1152 + x.val))

include hq hl0 hl1 hl2 hl3 in
theorem pay31_eq (t : Fin 384) (x : Fin 1536) :
    k0_pay31 (F := Ideal) K q l0 l1 l2 l3 (ix2 t x) = raw K Q L (lo + x.val) t := by
  pointwise [k0_pay31, k0_pay29, hq, hl0, hl1, hl2, hl3]
  rw [rows_four]
  rfl

theorem pay32_eq (P : FVec Ideal S384x1536 .f32) (A : Vec Ideal S384x128 .f32) (t : Fin 384) (c : Fin 128) :
    k0_pay32 (F := Ideal) (k0_pay30 o) P A (ix2 t c) = A (ix2 t c) + ∑ x : Fin 1536, P (ix2 t x) * o (ix2 x c) := by
  pointwise [k0_pay32, k0_pay30]

include ho hd0 hd1 hd2 hd3 in
theorem pay33_eq (P : FVec Ideal S384x1536 .f32) (t : Fin 384) (x : Fin 1536) :
    k0_pay33 (F := Ideal) V (k0_pay30 o) P d0 d1 d2 d3 (ix2 t x) = dsv V O D (lo + x.val) t (P (ix2 t x)) := by
  pointwise [k0_pay33, k0_pay30, ho, hd0, hd1, hd2, hd3, dsv, κ1]
  rw [rows_four]

include hq in
theorem pay60_eq (S : FVec Ideal S384x1536 .bf16) (A : Vec Ideal S384x256 .f32) (t : Fin 384) (c : Fin 256) :
    k0_pay60 (F := Ideal) (k0_pay29 q) S A (ix2 t c) = A (ix2 t c) + ∑ x : Fin 1536, S (ix2 t x) * Q (lo + x.val) c := by
  pointwise [k0_pay60, k0_pay29, hq]

theorem pay61_eq (S : FVec Ideal S384x1536 .bf16) (A : Vec Ideal S1536x256 .f32) (x : Fin 1536) (c : Fin 256) :
    k0_pay61 (F := Ideal) K S A (ix2 x c) = A (ix2 x c) + ∑ t : Fin 384, S (ix2 t x) * K (ix2 t c) := by
  pointwise [k0_pay61, k0_pay50]

end Four

end Cert.FlashIdeal.Value

end
-- ==== Proof.FlashMem.lean ====
/- How the attention gradient reads rows out of its blocks, adds rows into its accumulators, and what the accumulators hold
   after any number of rows of queries. -/
module

public import proofs.«01_k».proof.Proof.FlashStep
public import Idealize.ShloMosaic.Lib.WritesUnit

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

section Mem

variable {R C N lo : ℕ} {e : EltTy}

/-- A load of the rows from `lo` on. -/
theorem load_rows (v : View sig .tc .vmem ⟨2, ![R, C]⟩ e) (f : v.ty.Contents (Elt Ideal)) (Q : ℕ → Fin C → Elt Ideal e)
    (hQ : ∀ (n : Fin R) c, v.read (Elt Ideal) f (ix2 n c) = Q n.val c) {off : Fin 2 → ℕ} {inb : ∀ a, off a + ![N, C] a ≤ ![R, C] a}
    (h : off = ![lo, 0]) (x : Fin N) (c : Fin C) :
    v.readAt (Elt Ideal) (Rect.unit (s := ⟨2, ![R, C]⟩) off ![N, C] inb).toLoadRect f (ix2 x c) = Q (lo + x.val) c := by
  subst h
  have hx : lo + N ≤ R := inb 0
  rw [View.readAt_apply]
  refine Eq.trans (congrArg _ ?_) (hQ ⟨lo + x.val, by omega⟩ c)
  funext a
  fin_cases a <;> exact Fin.ext (by simp [ix2])

/-- A load of a whole block. -/
theorem load_whole (v : View sig .tc .vmem ⟨2, ![R, C]⟩ e) (f : v.ty.Contents (Elt Ideal)) {inb : ∀ a, (![0, 0] : Fin 2 → ℕ) a + ![R, C] a ≤ ![R, C] a} :
    v.readAt (Elt Ideal) (Rect.unit (s := ⟨2, ![R, C]⟩) ![0, 0] ![R, C] inb).toLoadRect f = v.read (Elt Ideal) f := by
  funext y
  rw [View.readAt_apply]
  refine congrArg _ ?_
  funext a
  fin_cases a <;> exact Fin.ext (by simp)

/-- A load of one block of the row numbers' tables. -/
theorem load_blk (v : View sig .tc .vmem S1x11x8x384 .f32) (f : v.ty.Contents (Elt Ideal)) (L : ℕ → EReal)
    (hL : ∀ (b : Fin 11) (x : Fin 384), v.read (Elt Ideal) f (ix4 0 b 0 x) = L (384 * b.val + x.val))
    {off : Fin 4 → ℕ} {inb : ∀ a, off a + ![1, 1, 8, 384] a ≤ ![1, 11, 8, 384] a} {b : ℕ} (h : off = ![0, b, 0, 0]) {base : ℕ} (hb : 384 * b = base) (x : Fin 384) :
    v.readAt (Elt Ideal) (Rect.unit (s := S1x11x8x384) off ![1, 1, 8, 384] inb).toLoadRect f (ix4 0 0 0 x) = L (base + x.val) := by
  subst h hb
  have hx : b + 1 ≤ 11 := inb 1
  rw [View.readAt_apply]
  refine Eq.trans (congrArg _ ?_) (hL ⟨b, by omega⟩ x)
  funext a
  fin_cases a <;> exact Fin.ext (by simp [ix4])

/-- Rows loaded, added to and stored back. -/
theorem store_rows (v : View sig .tc .vmem ⟨2, ![R, C]⟩ .f32) (f : v.ty.Contents (Elt Ideal)) {off : Fin 2 → ℕ} {inb : ∀ a, off a + ![N, C] a ≤ ![R, C] a}
    (w : (⟨2, ![N, C]⟩ : Shape).Idx → EReal) (Z : ℕ → Fin C → EReal) (h : off = ![lo, 0])
    (hw : ∀ x c, w (ix2 x c) = v.readAt (Elt Ideal) (Rect.unit (s := ⟨2, ![R, C]⟩) off ![N, C] inb).toLoadRect f (ix2 x c) + Z (lo + x.val) c)
    (n : Fin R) (c : Fin C) :
    v.read (Elt Ideal) (v.writes (Elt Ideal) f [⟨Rect.unit (s := ⟨2, ![R, C]⟩) off ![N, C] inb, w⟩]) (ix2 n c)
      = v.read (Elt Ideal) f (ix2 n c) + if lo ≤ n.val ∧ n.val < lo + N then Z n.val c else 0 := by
  by_cases hn : lo ≤ n.val ∧ n.val < lo + N
  · rw [if_pos hn, View.read_writes_cons_unit_of_mem v f inb w [] (ix2 n c) (ix2 ⟨n.val - lo, by omega⟩ c) h
      (by intro a; fin_cases a <;> simp [ix2]; omega), hw]
    subst h
    rw [View.readAt_apply]
    have e : lo + (n.val - lo) = n.val := by omega
    refine congrArg₂ (· + ·) (congrArg _ ?_) (by simp only [e])
    funext a
    fin_cases a <;> exact Fin.ext (by simp [ix2, e])
  · rw [if_neg hn, add_zero, View.read_writes_cons_unit_of_not_mem v f inb w [] (ix2 n c) h 0 (by
      show n.val < lo ∨ lo + N ≤ n.val
      omega)]
    rfl

/-- A whole block loaded, added to and stored back. -/
theorem store_whole (v : View sig .tc .vmem ⟨2, ![R, C]⟩ .f32) (f : v.ty.Contents (Elt Ideal)) {inb : ∀ a, (![0, 0] : Fin 2 → ℕ) a + ![R, C] a ≤ ![R, C] a}
    (w : (⟨2, ![R, C]⟩ : Shape).Idx → EReal) (Z : Fin R → Fin C → EReal)
    (hw : ∀ x c, w (ix2 x c) = v.readAt (Elt Ideal) (Rect.unit (s := ⟨2, ![R, C]⟩) ![0, 0] ![R, C] inb).toLoadRect f (ix2 x c) + Z x c)
    (n : Fin R) (c : Fin C) :
    v.read (Elt Ideal) (v.writes (Elt Ideal) f [⟨Rect.unit (s := ⟨2, ![R, C]⟩) ![0, 0] ![R, C] inb, w⟩]) (ix2 n c)
      = v.read (Elt Ideal) f (ix2 n c) + Z n c := by
  rw [View.read_writes_cons_unit_of_mem v f inb w [] (ix2 n c) (ix2 n c) rfl (by intro a; fin_cases a <;> simp [ix2]), hw, View.readAt_apply]
  refine congrArg (· + Z n c) (congrArg _ ?_)
  funext a
  fin_cases a <;> exact Fin.ext (by simp [ix2])

/-- A whole block stored. -/
theorem store_all (v : View sig .tc .vmem ⟨2, ![R, C]⟩ .f32) (f : v.ty.Contents (Elt Ideal)) {inb : ∀ a, (![0, 0] : Fin 2 → ℕ) a + ![R, C] a ≤ ![R, C] a}
    (w : (⟨2, ![R, C]⟩ : Shape).Idx → EReal) (n : Fin R) (c : Fin C) :
    v.read (Elt Ideal) (v.writes (Elt Ideal) f [⟨Rect.unit (s := ⟨2, ![R, C]⟩) ![0, 0] ![R, C] inb, w⟩]) (ix2 n c) = w (ix2 n c) :=
  View.read_writes_cons_unit_of_mem v f inb w [] (ix2 n c) (ix2 n c) rfl (by intro a; fin_cases a <;> simp [ix2])

end Mem

section Inv

variable (K : FVec Ideal S384x256 .bf16) (V : FVec Ideal S384x128 .bf16) (Q : ℕ → Fin 256 → EReal) (L : ℕ → EReal)
  (O : ℕ → Fin 128 → EReal) (D : ℕ → EReal) (j : ℕ) (B : Fin 4224 → Fin 256 → EReal)

theorem pm_raw (n : ℕ) (t : Fin 384) (h : 384 * j + 384 ≤ n) : pm j K Q L n t = raw K Q L n t := by
  unfold pm
  rw [if_neg (by omega)]

/-- What query row `n` adds to its own row of the queries' gradient, and to the keys' and the values' gradients. -/
def dqRow (n : ℕ) (c : Fin 256) : EReal := ∑ t : Fin 384, dsv V O D n t (pm j K Q L n t) * K (ix2 t c)
def dkRow (t : Fin 384) (c : Fin 256) (n : ℕ) : EReal := dsv V O D n t (pm j K Q L n t) * Q n c
def dvRow (t : Fin 384) (c : Fin 128) (n : ℕ) : EReal := pm j K Q L n t * O n c

/-- The three accumulators once the query rows up to `hi` are in, the first having held `B`. -/
structure Inv (hi : ℕ) (g8 : Fin 4224 → Fin 256 → EReal) (g9 : Fin 384 → Fin 256 → EReal) (g10 : Fin 384 → Fin 128 → EReal) : Prop where
  le : 384 * j ≤ hi
  dq : ∀ n c, g8 n c = B n c + if 384 * j ≤ n.val ∧ n.val < hi then dqRow K V Q L O D j n.val c else 0
  dk : ∀ t c, g9 t c = ∑ n ∈ Finset.Ico (384 * j) hi, dkRow K V Q L O D j t c n
  dv : ∀ t c, g10 t c = ∑ n ∈ Finset.Ico (384 * j) hi, dvRow K Q L O j t c n

theorem sum_rows (f : ℕ → EReal) {a lo : ℕ} (N : ℕ) (h : a ≤ lo) :
    (∑ n ∈ Finset.Ico a lo, f n) + (∑ x : Fin N, f (lo + x.val)) = ∑ n ∈ Finset.Ico a (lo + N), f n := by
  rw [← Finset.sum_Ico_consecutive f h (Nat.le_add_right lo N), Fin.sum_univ_eq_sum_range (fun x => f (lo + x)), Finset.sum_Ico_eq_sum_range (f := f) (m := lo)]
  simp

variable {K V Q L O D j B}

/-- One more run of query rows. -/
theorem Inv.step {lo : ℕ} {g8 g9 g10 g8' g9' g10'} (I : Inv K V Q L O D j B lo g8 g9 g10) (N : ℕ)
    (h8 : ∀ n c, g8' n c = g8 n c + if lo ≤ n.val ∧ n.val < lo + N then dqRow K V Q L O D j n.val c else 0)
    (h9 : ∀ t c, g9' t c = g9 t c + ∑ x : Fin N, dkRow K V Q L O D j t c (lo + x.val))
    (h10 : ∀ t c, g10' t c = g10 t c + ∑ x : Fin N, dvRow K Q L O j t c (lo + x.val)) :
    Inv K V Q L O D j B (lo + N) g8' g9' g10' where
  le := I.le.trans (Nat.le_add_right _ _)
  dq n c := by
    have hl := I.le
    rw [h8, I.dq]
    by_cases h1 : lo ≤ n.val
    · have h3 : ¬ n.val < lo := by omega
      have h4 : 384 * j ≤ n.val := by omega
      simp only [h1, h3, h4, true_and, if_false, add_zero]
    · have h3 : n.val < lo := by omega
      have h4 : n.val < lo + N := by omega
      simp only [h1, h3, h4, false_and, and_true, if_false, add_zero]
  dk t c := by rw [h9, I.dk, sum_rows _ N I.le]
  dv t c := by rw [h10, I.dv, sum_rows _ N I.le]

/-- The accumulators before the first row. -/
theorem Inv.init {g8 g9 g10} (h8 : ∀ n c, g8 n c = B n c) (h9 : ∀ t c, g9 t c = 0) (h10 : ∀ t c, g10 t c = 0) :
    Inv K V Q L O D j B (384 * j) g8 g9 g10 where
  le := le_refl _
  dq n c := by rw [h8, if_neg (by omega), add_zero]
  dk t c := by rw [h9]; simp
  dv t c := by rw [h10]; simp

end Inv

end Cert.FlashIdeal.Value

end
-- ==== Proof.FlashHead.lean ====
/- One head of the `flash_bwd` call over the real numbers: with real arguments, the sums its arrays hold are the attention's gradients.
   Rows below 112 are padding: a padded query's probabilities are masked, a padded key's row is zero. -/
module

public import proofs.«01_k».proof.Proof.FlashMem
public import proofs.«01_k».proof.Proof.Attn

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

/-! ## Sums -/

/-- A sum whose first terms are zero. -/
theorem sum_under {p T : ℕ} (g : ℕ → EReal) (f : Fin T → EReal) (h0 : ∀ n, n < p → g n = 0) (h1 : ∀ a : Fin T, g (p + a.val) = f a) :
    ∑ n ∈ Finset.range (p + T), g n = ∑ a, f a := by
  rw [Finset.sum_range_add, Finset.sum_eq_zero (fun n hn => h0 n (Finset.mem_range.1 hn)), zero_add, ← Fin.sum_univ_eq_sum_range (fun x => g (p + x))]
  exact Finset.sum_congr rfl fun a _ => h1 a

theorem sum_from {lo N : ℕ} (F g : ℕ → EReal) (hN : lo ≤ N) (h : ∀ n, lo ≤ n → F n = g n) (h0 : ∀ n, n < lo → g n = 0) :
    ∑ n ∈ Finset.Ico lo N, F n = ∑ n ∈ Finset.range N, g n := by
  rw [Finset.range_eq_Ico, ← Finset.sum_Ico_consecutive g (Nat.zero_le lo) hN,
    Finset.sum_eq_zero (s := Finset.Ico 0 lo) (fun n hn => h0 n (Finset.mem_Ico.1 hn).2), zero_add]
  exact Finset.sum_congr rfl fun n hn => h n (Finset.mem_Ico.1 hn).1

theorem sum_blocks (g : ℕ → EReal) (J W : ℕ) : ∑ j : Fin J, ∑ t : Fin W, g (W * j.val + t.val) = ∑ n ∈ Finset.range (W * J), g n := by
  rw [Fin.sum_univ_eq_sum_range (fun j => ∑ t : Fin W, g (W * j + t.val))]
  induction J with
  | zero => simp
  | succ J ih =>
    rw [Finset.sum_range_succ, ih, Nat.mul_succ, Finset.sum_range_add, Fin.sum_univ_eq_sum_range (fun t => g (W * J + t))]

theorem sum_lt {K R : ℕ} (f : Fin K → EReal) : ∑ x : Fin (K + R), (if g : x.val < K then f ⟨x.val, g⟩ else 0) = ∑ x, f x := by
  rw [Fin.sum_univ_add, Finset.sum_eq_zero (s := (Finset.univ : Finset (Fin R))) (fun x _ => dif_neg (by show ¬ (K + x.val < K); omega)), add_zero]
  exact Finset.sum_congr rfl fun x _ => dif_pos x.isLt

/-! ## Padded arrays -/

/-- An array of 4112 rows under 112 rows of zeros, its columns filled up with zeros. -/
def padded {K W : ℕ} (f : Fin 4112 → Fin K → ℝ) (n : ℕ) (x : Fin W) : EReal :=
  if g : (112 ≤ n ∧ n < 4224) ∧ x.val < K then ((f ⟨n - 112, by omega⟩ ⟨x.val, g.2⟩ : ℝ) : EReal) else 0

theorem padded_lo {K W : ℕ} (f : Fin 4112 → Fin K → ℝ) {n : ℕ} (h : n < 112) (x : Fin W) : padded f n x = 0 := dif_neg (by omega)

theorem padded_out {K W : ℕ} (f : Fin 4112 → Fin K → ℝ) (n : ℕ) (x : Fin W) (h : ¬ x.val < K) : padded f n x = 0 := dif_neg (by omega)

theorem padded_hi {K W : ℕ} (f : Fin 4112 → Fin K → ℝ) (a : Fin 4112) (x : Fin W) :
    padded f (112 + a.val) x = if g : x.val < K then ((f a ⟨x.val, g⟩ : ℝ) : EReal) else 0 := by
  have e : ∀ h, (⟨112 + a.val - 112, h⟩ : Fin 4112) = a := fun h => Fin.ext (by show 112 + a.val - 112 = a.val; omega)
  unfold padded
  by_cases g : x.val < K
  · rw [dif_pos ⟨by omega, g⟩, dif_pos g, e]
  · rw [dif_neg (fun h => g h.2), dif_neg g]

theorem padded_dot {K W R : ℕ} (hW : K + R = W) (f f' : Fin 4112 → Fin K → ℝ) (a b : Fin 4112) :
    ∑ x : Fin W, padded f (112 + b.val) x * padded f' (112 + a.val) x = ((∑ x, f' a x * f b x : ℝ) : EReal) := by
  subst hW
  rw [← Rows.coe_sum, ← sum_lt (R := R) (fun x : Fin K => ((f' a x * f b x : ℝ) : EReal))]
  refine Finset.sum_congr rfl fun x _ => ?_
  rw [padded_hi, padded_hi]
  by_cases g : x.val < K
  · rw [dif_pos g, dif_pos g, dif_pos g, ← EReal.coe_mul, mul_comm]
  · rw [dif_neg g, dif_neg g, dif_neg g, zero_mul]

/-! ## One head -/

theorem κ2_eq : κ2 = ((Attn.κs * (Real.log 2)⁻¹ : ℝ) : EReal) := IdealRules.named_const.ideal_named_scalar _ _ _ _ rfl
theorem κ1_eq : κ1 = ((Attn.κs : ℝ) : EReal) := IdealRules.named_const.ideal_named_scalar _ _ _ _ rfl

variable (q k : Fin 4112 → Fin 192 → ℝ) (v o : Fin 4112 → Fin 128 → ℝ)
  (Q : ℕ → Fin 256 → EReal) (L : ℕ → EReal) (O : ℕ → Fin 128 → EReal) (D : ℕ → EReal)

/-- The operands of one head are the padded arguments, their rows' log-sums and the rows' sums of output times gradient. -/
structure Head : Prop where
  hq : ∀ n x, Q n x = padded q n x
  ho : ∀ n x, O n x = padded o n x
  hl : ∀ a : Fin 4112, L (112 + a.val) = (((Attn.mr q k a + Real.log (Attn.l q k (Attn.mr q k) a)) * (1 / Real.log 2) : ℝ) : EReal)
  hd : ∀ a : Fin 4112, D (112 + a.val) = ((∑ b, Attn.p q k (Attn.mr q k) a b * Attn.dp v o a b : ℝ) : EReal)

/-- A block of keys and of values. -/
structure Keys (j : ℕ) (K : FVec Ideal S384x256 .bf16) (V : FVec Ideal S384x128 .bf16) : Prop where
  hk : ∀ t x, K (ix2 t x) = padded k (384 * j + t.val) x
  hv : ∀ t x, V (ix2 t x) = padded v (384 * j + t.val) x

variable {q k v o Q L O D} {j : ℕ} {K : FVec Ideal S384x256 .bf16} {V : FVec Ideal S384x128 .bf16}
  (H : Head q k v o Q L O D) (B : Keys k v j K V)
include H B

theorem raw_real (a b : Fin 4112) (t : Fin 384) (hb : 384 * j + t.val = 112 + b.val) (h : b.val ≤ a.val) :
    raw K Q L (112 + a.val) t = ((Attn.p q k (Attn.mr q k) a b : ℝ) : EReal) := by
  unfold raw
  simp only [B.hk, H.hq, hb]
  rw [padded_dot (R := 64) rfl, κ2_eq, H.hl, ← EReal.coe_mul, ← EReal.coe_sub, Ideal.exp2_coe, Attn.p_exp2 _ _ _ h]

theorem pm_real (a b : Fin 4112) (t : Fin 384) (hb : 384 * j + t.val = 112 + b.val) :
    pm j K Q L (112 + a.val) t = ((Attn.p q k (Attn.mr q k) a b : ℝ) : EReal) := by
  unfold pm
  by_cases h : b.val ≤ a.val
  · rw [raw_real H B a b t hb h, if_pos (show 384 * j + t.val ≤ 112 + a.val ∧ 112 ≤ 384 * j + t.val by omega), ite_self]
  · rw [if_pos (by omega), if_neg (by omega), Attn.p_above _ _ _ h, EReal.coe_zero]

theorem dsv_real (a b : Fin 4112) (t : Fin 384) (hb : 384 * j + t.val = 112 + b.val) :
    dsv V O D (112 + a.val) t (pm j K Q L (112 + a.val) t) = ((Attn.ds q k v o (Attn.mr q k) a b : ℝ) : EReal) := by
  rw [pm_real H B a b t hb]
  unfold dsv Attn.ds
  simp only [B.hv, H.ho, hb]
  rw [padded_dot (R := 0) rfl, κ1_eq, H.hd, ← EReal.coe_sub, ← EReal.coe_mul, ← EReal.coe_mul]
  rfl

omit H B in
theorem pm_low {n : ℕ} (t : Fin 384) (h : n < 112) : pm j K Q L n t = 0 := by
  unfold pm
  by_cases h0 : n < 384 * j + 384
  · rw [if_pos h0, if_neg (by omega)]
  · omega

omit H B in
theorem dsv_zero (n : ℕ) (t : Fin 384) : dsv V O D n t 0 = 0 := by
  unfold dsv; rw [zero_mul, zero_mul]

/-- The key gradient's column sum. -/
theorem dk_real (b : Fin 4112) (t : Fin 384) (x : Fin 256) (hb : 384 * j + t.val = 112 + b.val) :
    ∑ n ∈ Finset.Ico (384 * j) 4224, dkRow K V Q L O D j t x n
      = if g : x.val < 192 then ((∑ a, Attn.ds q k v o (Attn.mr q k) a b * q a ⟨x.val, g⟩ : ℝ) : EReal) else 0 := by
  have low : ∀ n, n < 112 → dkRow K V Q L O D j t x n = 0 := fun n hn => by
    unfold dkRow; rw [pm_low t hn, dsv_zero, zero_mul]
  have high : ∀ a : Fin 4112, dkRow K V Q L O D j t x (112 + a.val) = ((Attn.ds q k v o (Attn.mr q k) a b : ℝ) : EReal) * padded q (112 + a.val) x := fun a => by
    unfold dkRow; rw [dsv_real H B a b t hb, H.hq]
  rw [sum_from _ (fun n => if n < 384 * j then 0 else dkRow K V Q L O D j t x n) (by omega) (fun n hn => by rw [if_neg (by omega)]) (fun n hn => if_pos hn),
    show 4224 = 112 + 4112 from rfl,
    sum_under _ (fun a => ((Attn.ds q k v o (Attn.mr q k) a b : ℝ) : EReal) * padded q (112 + a.val) x) (fun n hn => by
      rw [low n hn, ite_self]) (fun a => by
      by_cases h : 112 + a.val < 384 * j
      · rw [if_pos h, Attn.ds_above _ _ _ _ _ (show ¬ b.val ≤ a.val by omega), EReal.coe_zero, zero_mul]
      · rw [if_neg h, high])]
  by_cases g : x.val < 192
  · rw [dif_pos g, ← Rows.coe_sum]
    refine Finset.sum_congr rfl fun a _ => ?_
    rw [padded_hi, dif_pos g, EReal.coe_mul]
  · rw [dif_neg g]
    exact Finset.sum_eq_zero fun a _ => by rw [padded_out _ _ _ g, mul_zero]

/-- The value gradient's column sum. -/
theorem dv_real (b : Fin 4112) (t : Fin 384) (x : Fin 128) (hb : 384 * j + t.val = 112 + b.val) :
    ∑ n ∈ Finset.Ico (384 * j) 4224, dvRow K Q L O j t x n = ((∑ a, o a x * Attn.p q k (Attn.mr q k) a b : ℝ) : EReal) := by
  have low : ∀ n, n < 112 → dvRow K Q L O j t x n = 0 := fun n hn => by
    unfold dvRow; rw [pm_low t hn, zero_mul]
  have high : ∀ a : Fin 4112, dvRow K Q L O j t x (112 + a.val) = ((o a x : ℝ) : EReal) * ((Attn.p q k (Attn.mr q k) a b : ℝ) : EReal) := fun a => by
    unfold dvRow; rw [pm_real H B a b t hb, H.ho, padded_hi, dif_pos x.isLt, mul_comm]
  rw [sum_from _ (fun n => if n < 384 * j then 0 else dvRow K Q L O j t x n) (by omega) (fun n hn => by rw [if_neg (by omega)]) (fun n hn => if_pos hn),
    show 4224 = 112 + 4112 from rfl,
    sum_under _ (fun a => ((o a x : ℝ) : EReal) * ((Attn.p q k (Attn.mr q k) a b : ℝ) : EReal)) (fun n hn => by
      rw [low n hn, ite_self]) (fun a => by
      by_cases h : 112 + a.val < 384 * j
      · rw [if_pos h, Attn.p_above _ _ _ (show ¬ b.val ≤ a.val by omega), EReal.coe_zero, mul_zero]
      · rw [if_neg h, high]), ← Rows.coe_sum]
  exact Finset.sum_congr rfl fun a _ => (EReal.coe_mul _ _).symm

omit B in
/-- The query gradient, the key blocks' parts put together. -/
theorem dq_real (Kb : Fin 11 → FVec Ideal S384x256 .bf16) (Vb : Fin 11 → FVec Ideal S384x128 .bf16) (hB : ∀ j, Keys k v j.val (Kb j) (Vb j))
    (n : ℕ) (hn : n < 4224) (x : Fin 256) :
    ∑ j : Fin 11, (if 384 * j.val ≤ n ∧ n < 4224 then dqRow (Kb j) (Vb j) Q L O D j.val n x else 0)
      = if g : 112 ≤ n ∧ x.val < 192 then ((∑ b, Attn.ds q k v o (Attn.mr q k) ⟨n - 112, by omega⟩ b * k b ⟨x.val, g.2⟩ : ℝ) : EReal) else 0 := by
  by_cases h : 112 ≤ n
  swap
  · rw [dif_neg (fun g => h g.1)]
    refine Finset.sum_eq_zero fun j _ => ?_
    split_ifs
    · unfold dqRow
      exact Finset.sum_eq_zero fun t _ => by rw [pm_low t (by omega), dsv_zero, zero_mul]
    · rfl
  obtain ⟨a, rfl⟩ : ∃ a : Fin 4112, n = 112 + a.val := ⟨⟨n - 112, by omega⟩, by show n = 112 + (n - 112); omega⟩
  have e : ∀ h, (⟨112 + a.val - 112, h⟩ : Fin 4112) = a := fun h => Fin.ext (by show 112 + a.val - 112 = a.val; omega)
  have term : ∀ (j : Fin 11) (t : Fin 384), (if 384 * j.val ≤ 112 + a.val ∧ 112 + a.val < 4224 then
        dsv (Vb j) O D (112 + a.val) t (pm j.val (Kb j) Q L (112 + a.val) t) * Kb j (ix2 t x) else 0)
      = (fun n => if g : 112 ≤ n ∧ n < 4224 then ((Attn.ds q k v o (Attn.mr q k) a ⟨n - 112, by omega⟩ : ℝ) : EReal) * padded k n x else 0) (384 * j.val + t.val) := by
    intro j t
    have hj := j.isLt
    dsimp only
    rw [(hB j).hk]
    by_cases hb : 112 ≤ 384 * j.val + t.val
    · rw [dif_pos ⟨hb, by omega⟩]
      have hb' : 384 * j.val + t.val = 112 + (⟨384 * j.val + t.val - 112, by omega⟩ : Fin 4112).val := by
        show 384 * j.val + t.val = 112 + (384 * j.val + t.val - 112); omega
      split_ifs with h1
      · rw [dsv_real H (hB j) a _ t hb']
      · rw [Attn.ds_above _ _ _ _ _ (by show ¬ (384 * j.val + t.val - 112 ≤ a.val); omega), EReal.coe_zero, zero_mul]
    · rw [dif_neg (fun g => hb g.1), padded_lo _ (by omega), mul_zero, ite_self]
  have outer : ∀ j : Fin 11, (if 384 * j.val ≤ 112 + a.val ∧ 112 + a.val < 4224 then dqRow (Kb j) (Vb j) Q L O D j.val (112 + a.val) x else 0)
      = ∑ t : Fin 384, (fun n => if g : 112 ≤ n ∧ n < 4224 then ((Attn.ds q k v o (Attn.mr q k) a ⟨n - 112, by omega⟩ : ℝ) : EReal) * padded k n x else 0) (384 * j.val + t.val) := fun j => by
    rw [← Finset.sum_congr rfl fun t _ => term j t]
    split_ifs
    · rfl
    · rw [Finset.sum_const_zero]
  rw [Finset.sum_congr rfl fun j _ => outer j, sum_blocks (fun n => if g : 112 ≤ n ∧ n < 4224 then ((Attn.ds q k v o (Attn.mr q k) a ⟨n - 112, by omega⟩ : ℝ) : EReal) * padded k n x else 0), show 384 * 11 = 112 + 4112 from rfl,
    sum_under _ (fun b => ((Attn.ds q k v o (Attn.mr q k) a b : ℝ) : EReal) * padded k (112 + b.val) x) (fun n hn => dif_neg (by omega)) (fun b => by
      rw [dif_pos ⟨by omega, by omega⟩]
      refine congrArg (fun b' => ((Attn.ds q k v o (Attn.mr q k) a b' : ℝ) : EReal) * padded k (112 + b.val) x) (Fin.ext ?_)
      show 112 + b.val - 112 = b.val; omega)]
  by_cases g : x.val < 192
  · rw [dif_pos ⟨h, g⟩, e, ← Rows.coe_sum]
    refine Finset.sum_congr rfl fun b _ => ?_
    rw [padded_hi, dif_pos g, EReal.coe_mul]
  · rw [dif_neg (fun h => g h.2)]
    exact Finset.sum_eq_zero fun b _ => by rw [padded_out _ _ _ g, mul_zero]

end Cert.FlashIdeal.Value

end
-- ==== Proof.FlashLoops.lean ====
/- How often the attention gradient's loops run at a grid point and which rows their steps take, decided over the grid. -/
module

public import proofs.«01_k».proof.Proof.Gen.FlashIdeal

@[expose] public section

set_option maxRecDepth 16384
set_option maxHeartbeats 1000000

open Idealize.ShloMosaic Idealize.ShloMosaic.TcCoe Idealize.SL.Sem

namespace Cert.FlashIdeal.Value

open Cert.FlashIdeal Cert.FlashIdeal.Gen

/-- The first block of queries past the masked step of key block `j`. -/
def start (j : ℕ) : ℕ := j + 2 - (11 - j) % 2
/-- How many steps of four blocks follow it. -/
def fours (j : ℕ) : ℕ := (11 - start j) / 4

theorem trips1 : ∀ i : grid0.Coords, (k0_t1_loop i).trips = (11 - (i 1).val) % 2 := by decide +kernel
theorem trips2 : ∀ i : grid0.Coords, (k0_t2_loop i).trips = 0 := by decide +kernel
theorem trips3 : ∀ i : grid0.Coords, (k0_t3_loop i).trips = 1 - (11 - (i 1).val) % 2 := by decide +kernel
theorem trips4 : ∀ i : grid0.Coords, (k0_t4_loop i).trips = 0 := by decide +kernel
theorem trips5 : ∀ i : grid0.Coords, (k0_t5_loop i).trips = fours (i 1).val := by decide +kernel
theorem trips6 : ∀ i : grid0.Coords, (k0_t6_loop i).trips = 0 := by decide +kernel
theorem trips7 : ∀ i : grid0.Coords, (k0_t7_loop i).trips = (11 - (start (i 1).val + 4 * fours (i 1).val)) / 2 := by decide +kernel
theorem trips8 : ∀ i : grid0.Coords, (k0_t8_loop i).trips = 0 := by decide +kernel

theorem end7 : ∀ i : grid0.Coords, start (i 1).val + 4 * fours (i 1).val + 2 * (k0_t7_loop i).trips = 11 := by decide +kernel

theorem off1 : ∀ i : grid0.Coords, k0_off1 i = ![384 * (i 1).val, 0] := by decide +kernel
theorem off2 : ∀ i : grid0.Coords, k0_off2 i = ![384 * (i 1).val, 0] := by decide +kernel
theorem off3 : ∀ i : grid0.Coords, k0_off3 i = ![0, (i 1).val, 0, 0] := by decide +kernel
theorem off7 : ∀ i : grid0.Coords, k0_off7 i = ![384 * (i 1).val, 0] := by decide +kernel
theorem off8 : ∀ i : grid0.Coords, k0_off8 i = ![384 * (i 1).val, 0] := by decide +kernel
theorem off9 : ∀ (i : grid0.Coords) (b : Fin 2), k0_off9 i (BitVec.ofNat 32 b.val) = ![0, (i 1).val + b.val, 0, 0] := by decide +kernel
theorem off13 : ∀ (i : grid0.Coords) (k : Fin (k0_t5_loop i).trips), k0_off13 i k = ![384 * (start (i 1).val + 4 * k.val), 0] := by decide +kernel
theorem off14 : ∀ (i : grid0.Coords) (k : Fin (k0_t5_loop i).trips), k0_off14 i k = ![384 * (start (i 1).val + 4 * k.val), 0] := by decide +kernel
theorem off15 : ∀ (i : grid0.Coords) (k : Fin (k0_t5_loop i).trips) (b : Fin 4),
    k0_off15 i k (BitVec.ofNat 32 b.val) = ![0, start (i 1).val + 4 * k.val + b.val, 0, 0] := by decide +kernel
theorem off19 : ∀ (i : grid0.Coords) (k : Fin (k0_t7_loop i).trips), k0_off19 i k = ![384 * (start (i 1).val + 4 * fours (i 1).val + 2 * k.val), 0] := by decide +kernel
theorem off20 : ∀ (i : grid0.Coords) (k : Fin (k0_t7_loop i).trips), k0_off20 i k = ![384 * (start (i 1).val + 4 * fours (i 1).val + 2 * k.val), 0] := by decide +kernel
theorem off21 : ∀ (i : grid0.Coords) (k : Fin (k0_t7_loop i).trips) (b : Fin 2),
    k0_off21 i k (BitVec.ofNat 32 b.val) = ![0, start (i 1).val + 4 * fours (i 1).val + 2 * k.val + b.val, 0, 0] := by decide +kernel

end Cert.FlashIdeal.Value
-- ==== Proof.FlashTrip.lean ====
/- One trip of each of the attention gradient's loops takes the accumulators from one run of query rows to the next; so
   does the whole loop. -/
module

public import proofs.«01_k».proof.Proof.FlashMem
public import proofs.«01_k».proof.Proof.FlashLoops

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

/-- The elements of a block's contents. -/
abbrev rd {R C : ℕ} (v : View sig .tc .vmem ⟨2, ![R, C]⟩ .f32) (f : v.ty.Contents (Elt Ideal)) (n : Fin R) (c : Fin C) : EReal :=
  v.read (Elt Ideal) f (ix2 n c)

variable (𝒱 : Variants) (c : Dev nD) (bd : Option 𝒱.V) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S1x11x8x384 .f32) (harg5 : arg5.IsWhole) (arg6 : Memref sig .tc .vmem S1x11x8x384 .f32) (harg6 : arg6.IsWhole) (arg7 : Memref sig .tc .vmem S4224x128 .bf16) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .f32) (harg10 : arg10.IsWhole)
  (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty)
  (f8 : BufTy.Contents (Elt Ideal) arg8.view.ty) (f9 : BufTy.Contents (Elt Ideal) arg9.view.ty) (f10 : BufTy.Contents (Elt Ideal) arg10.view.ty)
  {K : FVec Ideal S384x256 .bf16} {V : FVec Ideal S384x128 .bf16} {Q : ℕ → Fin 256 → EReal} {L : ℕ → EReal}
  {O : ℕ → Fin 128 → EReal} {D : ℕ → EReal} {B : Fin 4224 → Fin 256 → EReal}
  (hQ : ∀ (n : Fin 4224) x, arg2.view.read (Elt Ideal) X_arg2 (ix2 n x) = Q n.val x)
  (hO : ∀ (n : Fin 4224) x, arg7.view.read (Elt Ideal) X_arg7 (ix2 n x) = O n.val x)
  (hL : ∀ (b : Fin 11) (x : Fin 384), arg5.view.read (Elt Ideal) X_arg5 (ix4 0 b 0 x) = L (384 * b.val + x.val))
  (hD : ∀ (b : Fin 11) (x : Fin 384), arg6.view.read (Elt Ideal) X_arg6 (ix4 0 b 0 x) = D (384 * b.val + x.val))

include hQ hO hL hD

/-- The step over a key block's own query rows. -/
theorem step1 (k : Fin (k0_t1_loop i).trips)
    (I : Inv K V Q L O D (i 1).val B (384 * (i 1).val) (rd arg8.view f8) (rd arg9.view f9) (rd arg10.view f10)) :
    Inv K V Q L O D (i 1).val B (384 * (i 1).val + 384)
      (rd arg8.view (arg8.view.writes (Elt Ideal) f8 (tripL_k0_t1 (F := Ideal) 𝒱 c bd i arg2 harg2 arg3 harg3 arg4 harg4 arg5 harg5 arg6 harg6 arg7 harg7 arg8 harg8 arg9 harg9 arg10 harg10 (BitVec.ofNat 32 (i 1).val) K V X_arg2 X_arg5 X_arg6 X_arg7 k f8 f9 f10).1))
      (rd arg9.view (arg9.view.writes (Elt Ideal) f9 (tripL_k0_t1 (F := Ideal) 𝒱 c bd i arg2 harg2 arg3 harg3 arg4 harg4 arg5 harg5 arg6 harg6 arg7 harg7 arg8 harg8 arg9 harg9 arg10 harg10 (BitVec.ofNat 32 (i 1).val) K V X_arg2 X_arg5 X_arg6 X_arg7 k f8 f9 f10).2.1))
      (rd arg10.view (arg10.view.writes (Elt Ideal) f10 (tripL_k0_t1 (F := Ideal) 𝒱 c bd i arg2 harg2 arg3 harg3 arg4 harg4 arg5 harg5 arg6 harg6 arg7 harg7 arg8 harg8 arg9 harg9 arg10 harg10 (BitVec.ofNat 32 (i 1).val) K V X_arg2 X_arg5 X_arg6 X_arg7 k f8 f9 f10).2.2)) := by
  have hj : (i 1).val < 11 := (i 1).isLt
  have hp := fun (t x : Fin 384) => pay9_eq K Q L (384 * (i 1).val) (i 1).val _ _ (load_rows arg2.view X_arg2 Q hQ (inb := k0_off1_inb i) (off1 i))
    (load_blk arg5.view X_arg5 L hL (inb := k0_off3_inb i) (off3 i) rfl) hj rfl t x
  unfold tripL_k0_t1 trip_k0_t1
  dsimp only
  unfold trip_k0_t1.sl.r trip_k0_t1.sl.r_1 trip_k0_t1.sl.r_2 trip_k0_t1.sl.cst_67
  refine I.step 384 (fun n x => store_rows arg8.view f8 _ (dqRow K V Q L O D (i 1).val) (off1 i) (fun x y => ?_) n x)
    (fun t x => store_whole arg9.view f9 _ (fun t x => ∑ n : Fin 384, dkRow K V Q L O D (i 1).val t x (384 * (i 1).val + n.val)) (fun x y => ?_) t x)
    (fun t x => store_whole arg10.view f10 _ (fun t x => ∑ n : Fin 384, dvRow K Q L O (i 1).val t x (384 * (i 1).val + n.val)) (fun x y => ?_) t x)
  · refine (pay56_eq K V O D (384 * (i 1).val) _ _ (load_rows arg7.view X_arg7 O hO (off2 i)) (load_blk arg6.view X_arg6 D hD (off3 i) rfl) _ _ x y).trans ?_
    simp only [hp]
    rfl
  · refine (pay55_eq V Q O D (384 * (i 1).val) _ _ _ (load_rows arg2.view X_arg2 Q hQ (off1 i)) (load_rows arg7.view X_arg7 O hO (off2 i))
      (load_blk arg6.view X_arg6 D hD (off3 i) rfl) _ _ x y).trans ?_
    simp only [hp]
    rfl
  · exact pay10_eq K Q L O (384 * (i 1).val) (i 1).val _ _ _ (load_rows arg2.view X_arg2 Q hQ (off1 i)) (load_rows arg7.view X_arg7 O hO (off2 i))
      (load_blk arg5.view X_arg5 L hL (off3 i) rfl) hj rfl _ x y

/-- The masked step over a key block's own query rows and the block after them. -/
theorem step3 (v21 v27 : BitVec 32) (k : Fin (k0_t3_loop i).trips)
    (I : Inv K V Q L O D (i 1).val B (384 * (i 1).val) (rd arg8.view f8) (rd arg9.view f9) (rd arg10.view f10)) :
    Inv K V Q L O D (i 1).val B (384 * (i 1).val + 768)
      (rd arg8.view (arg8.view.writes (Elt Ideal) f8 (tripL_k0_t3 (F := Ideal) 𝒱 c bd i arg2 harg2 arg3 harg3 arg4 harg4 arg5 harg5 arg6 harg6 arg7 harg7 arg8 harg8 arg9 harg9 arg10 harg10 (BitVec.ofNat 32 (i 1).val) K V v21 v27 X_arg2 X_arg5 X_arg6 X_arg7 k f8 f9 f10).1))
      (rd arg9.view (arg9.view.writes (Elt Ideal) f9 (tripL_k0_t3 (F := Ideal) 𝒱 c bd i arg2 harg2 arg3 harg3 arg4 harg4 arg5 harg5 arg6 harg6 arg7 harg7 arg8 harg8 arg9 harg9 arg10 harg10 (BitVec.ofNat 32 (i 1).val) K V v21 v27 X_arg2 X_arg5 X_arg6 X_arg7 k f8 f9 f10).2.1))
      (rd arg10.view (arg10.view.writes (Elt Ideal) f10 (tripL_k0_t3 (F := Ideal) 𝒱 c bd i arg2 harg2 arg3 harg3 arg4 harg4 arg5 harg5 arg6 harg6 arg7 harg7 arg8 harg8 arg9 harg9 arg10 harg10 (BitVec.ofNat 32 (i 1).val) K V v21 v27 X_arg2 X_arg5 X_arg6 X_arg7 k f8 f9 f10).2.2)) := by
  have hj : (i 1).val < 11 := (i 1).isLt
  have hp := fun (t : Fin 384) (x : Fin 768) => pay17_eq K Q L (384 * (i 1).val) (i 1).val _ _ _ (load_rows arg2.view X_arg2 Q hQ (inb := k0_off7_inb i k) (off7 i))
    (load_blk arg5.view X_arg5 L hL (inb := k0_off9_inb i k 0) (off9 i 0) (base := 384 * (i 1).val) (by simp only [Fin.val_zero, Fin.val_one, Fin.val_two, show ((3 : Fin 4) : ℕ) = 3 from rfl]; omega)) (load_blk arg5.view X_arg5 L hL (inb := k0_off9_inb i k 1) (off9 i 1) (base := 384 * (i 1).val + 384) (by simp only [Fin.val_zero, Fin.val_one, Fin.val_two, show ((3 : Fin 4) : ℕ) = 3 from rfl]; omega)) hj rfl t x
  unfold tripL_k0_t3 trip_k0_t3
  dsimp only
  unfold trip_k0_t3.sl.r trip_k0_t3.sl.r_1 trip_k0_t3.sl.r_2 trip_k0_t3.sl.r_3
  refine I.step 768 (fun n x => store_rows arg8.view f8 _ (dqRow K V Q L O D (i 1).val) (off7 i) (fun x y => ?_) n x)
    (fun t x => store_whole arg9.view f9 _ (fun t x => ∑ n : Fin 768, dkRow K V Q L O D (i 1).val t x (384 * (i 1).val + n.val)) (fun x y => ?_) t x)
    (fun t x => store_whole arg10.view f10 _ (fun t x => ∑ n : Fin 768, dvRow K Q L O (i 1).val t x (384 * (i 1).val + n.val)) (fun x y => ?_) t x)
  · exact (pay21_eq K V O D (384 * (i 1).val) _ _ _ (load_rows arg7.view X_arg7 O hO (off8 i)) (load_blk arg6.view X_arg6 D hD (off9 i 0) (base := 384 * (i 1).val) (by simp only [Fin.val_zero, Fin.val_one, Fin.val_two, show ((3 : Fin 4) : ℕ) = 3 from rfl]; omega)) (load_blk arg6.view X_arg6 D hD (off9 i 1) (base := 384 * (i 1).val + 384) (by simp only [Fin.val_zero, Fin.val_one, Fin.val_two, show ((3 : Fin 4) : ℕ) = 3 from rfl]; omega)) _ _ x y).trans (congrArg (_ + ·) (Finset.sum_congr rfl fun t _ => congrArg (· * K (ix2 t y)) (congrArg (dsv V O D _ t) (hp t x))))
  · exact (pay20_eq V Q O D (384 * (i 1).val) _ _ _ _ (load_rows arg2.view X_arg2 Q hQ (off7 i)) (load_rows arg7.view X_arg7 O hO (off8 i)) (load_blk arg6.view X_arg6 D hD (off9 i 0) (base := 384 * (i 1).val) (by simp only [Fin.val_zero, Fin.val_one, Fin.val_two, show ((3 : Fin 4) : ℕ) = 3 from rfl]; omega)) (load_blk arg6.view X_arg6 D hD (off9 i 1) (base := 384 * (i 1).val + 384) (by simp only [Fin.val_zero, Fin.val_one, Fin.val_two, show ((3 : Fin 4) : ℕ) = 3 from rfl]; omega)) _ _ x y).trans (congrArg (_ + ·) (Finset.sum_congr rfl fun n _ => congrArg (· * Q _ y) (congrArg (dsv V O D _ x) (hp x n))))
  · exact (pay18_eq _ _ _ x y).trans (congrArg (_ + ·) (Finset.sum_congr rfl fun n _ => congrArg₂ (· * ·) (hp x n) (load_rows arg7.view X_arg7 O hO (off8 i) n y)))

/-- A step over four blocks of query rows past the mask. -/
theorem step5 (arg1 v21 v27 v34 : BitVec 32) (k : Fin (k0_t5_loop i).trips)
    (I : Inv K V Q L O D (i 1).val B (384 * (start (i 1).val + 4 * k.val)) (rd arg8.view f8) (rd arg9.view f9) (rd arg10.view f10)) :
    Inv K V Q L O D (i 1).val B (384 * (start (i 1).val + 4 * k.val) + 1536)
      (rd arg8.view (arg8.view.writes (Elt Ideal) f8 (tripL_k0_t5 (F := Ideal) 𝒱 c bd i arg2 harg2 arg3 harg3 arg4 harg4 arg5 harg5 arg6 harg6 arg7 harg7 arg8 harg8 arg9 harg9 arg10 harg10 arg1 K V v21 v27 v34 X_arg2 X_arg5 X_arg6 X_arg7 k f8 f9 f10).1))
      (rd arg9.view (arg9.view.writes (Elt Ideal) f9 (tripL_k0_t5 (F := Ideal) 𝒱 c bd i arg2 harg2 arg3 harg3 arg4 harg4 arg5 harg5 arg6 harg6 arg7 harg7 arg8 harg8 arg9 harg9 arg10 harg10 arg1 K V v21 v27 v34 X_arg2 X_arg5 X_arg6 X_arg7 k f8 f9 f10).2.1))
      (rd arg10.view (arg10.view.writes (Elt Ideal) f10 (tripL_k0_t5 (F := Ideal) 𝒱 c bd i arg2 harg2 arg3 harg3 arg4 harg4 arg5 harg5 arg6 harg6 arg7 harg7 arg8 harg8 arg9 harg9 arg10 harg10 arg1 K V v21 v27 v34 X_arg2 X_arg5 X_arg6 X_arg7 k f8 f9 f10).2.2)) := by
  have hj : (i 1).val < 11 := (i 1).isLt
  have hr := fun (t : Fin 384) (x : Fin 1536) => pm_raw K Q L (i 1).val (384 * (start (i 1).val + 4 * k.val) + x.val) t (by unfold start; omega)
  have hp := fun (t : Fin 384) (x : Fin 1536) => (pay31_eq K Q L (384 * (start (i 1).val + 4 * k.val)) _ _ _ _ _ (load_rows arg2.view X_arg2 Q hQ (inb := k0_off13_inb i k) (off13 i k))
    (load_blk arg5.view X_arg5 L hL (inb := k0_off15_inb i k 0) (off15 i k 0) (base := 384 * (start (i 1).val + 4 * k.val)) (by simp only [Fin.val_zero, Fin.val_one, Fin.val_two, show ((3 : Fin 4) : ℕ) = 3 from rfl]; omega)) (load_blk arg5.view X_arg5 L hL (inb := k0_off15_inb i k 1) (off15 i k 1) (base := 384 * (start (i 1).val + 4 * k.val) + 384) (by simp only [Fin.val_zero, Fin.val_one, Fin.val_two, show ((3 : Fin 4) : ℕ) = 3 from rfl]; omega)) (load_blk arg5.view X_arg5 L hL (inb := k0_off15_inb i k 2) (off15 i k 2) (base := 384 * (start (i 1).val + 4 * k.val) + 768) (by simp only [Fin.val_zero, Fin.val_one, Fin.val_two, show ((3 : Fin 4) : ℕ) = 3 from rfl]; omega)) (load_blk arg5.view X_arg5 L hL (inb := k0_off15_inb i k 3) (off15 i k 3) (base := 384 * (start (i 1).val + 4 * k.val) + 1152) (by simp only [Fin.val_zero, Fin.val_one, Fin.val_two, show ((3 : Fin 4) : ℕ) = 3 from rfl]; omega)) t x).trans (hr t x).symm
  have hs := fun P (t : Fin 384) (x : Fin 1536) => pay33_eq V O D (384 * (start (i 1).val + 4 * k.val)) _ _ _ _ _ (load_rows arg7.view X_arg7 O hO (inb := k0_off14_inb i k) (off14 i k))
    (load_blk arg6.view X_arg6 D hD (inb := k0_off15_inb i k 0) (off15 i k 0) (base := 384 * (start (i 1).val + 4 * k.val)) (by simp only [Fin.val_zero, Fin.val_one, Fin.val_two, show ((3 : Fin 4) : ℕ) = 3 from rfl]; omega)) (load_blk arg6.view X_arg6 D hD (inb := k0_off15_inb i k 1) (off15 i k 1) (base := 384 * (start (i 1).val + 4 * k.val) + 384) (by simp only [Fin.val_zero, Fin.val_one, Fin.val_two, show ((3 : Fin 4) : ℕ) = 3 from rfl]; omega)) (load_blk arg6.view X_arg6 D hD (inb := k0_off15_inb i k 2) (off15 i k 2) (base := 384 * (start (i 1).val + 4 * k.val) + 768) (by simp only [Fin.val_zero, Fin.val_one, Fin.val_two, show ((3 : Fin 4) : ℕ) = 3 from rfl]; omega)) (load_blk arg6.view X_arg6 D hD (inb := k0_off15_inb i k 3) (off15 i k 3) (base := 384 * (start (i 1).val + 4 * k.val) + 1152) (by simp only [Fin.val_zero, Fin.val_one, Fin.val_two, show ((3 : Fin 4) : ℕ) = 3 from rfl]; omega)) P t x
  unfold tripL_k0_t5 trip_k0_t5
  dsimp only
  unfold trip_k0_t5.sl.r trip_k0_t5.sl.r_1 trip_k0_t5.sl.r_2 trip_k0_t5.sl.r_3
  refine I.step 1536 (fun n x => store_rows arg8.view f8 _ (dqRow K V Q L O D (i 1).val) (off13 i k) (fun x y => ?_) n x)
    (fun t x => store_whole arg9.view f9 _ (fun t x => ∑ n : Fin 1536, dkRow K V Q L O D (i 1).val t x (384 * (start (i 1).val + 4 * k.val) + n.val)) (fun x y => ?_) t x)
    (fun t x => store_whole arg10.view f10 _ (fun t x => ∑ n : Fin 1536, dvRow K Q L O (i 1).val t x (384 * (start (i 1).val + 4 * k.val) + n.val)) (fun x y => ?_) t x)
  · exact (pay61_eq K _ _ x y).trans (congrArg (_ + ·) (Finset.sum_congr rfl fun t _ => congrArg (· * K (ix2 t y)) ((hs _ t x).trans (congrArg (dsv V O D _ t) (hp t x)))))
  · exact (pay60_eq Q (384 * (start (i 1).val + 4 * k.val)) _ (load_rows arg2.view X_arg2 Q hQ (off13 i k)) _ _ x y).trans (congrArg (_ + ·) (Finset.sum_congr rfl fun n _ => congrArg (· * Q _ y) ((hs _ x n).trans (congrArg (dsv V O D _ x) (hp x n)))))
  · exact (pay32_eq _ _ _ x y).trans (congrArg (_ + ·) (Finset.sum_congr rfl fun n _ => congrArg₂ (· * ·) (hp x n) (load_rows arg7.view X_arg7 O hO (off14 i k) n y)))

/-- A step over the last two blocks of query rows. -/
theorem step7 (v59 : BitVec 32) (k : Fin (k0_t7_loop i).trips)
    (I : Inv K V Q L O D (i 1).val B (384 * (start (i 1).val + 4 * fours (i 1).val + 2 * k.val)) (rd arg8.view f8) (rd arg9.view f9) (rd arg10.view f10)) :
    Inv K V Q L O D (i 1).val B (384 * (start (i 1).val + 4 * fours (i 1).val + 2 * k.val) + 768)
      (rd arg8.view (arg8.view.writes (Elt Ideal) f8 (tripL_k0_t7 (F := Ideal) 𝒱 c bd i arg2 harg2 arg3 harg3 arg4 harg4 arg5 harg5 arg6 harg6 arg7 harg7 arg8 harg8 arg9 harg9 arg10 harg10 K V v59 X_arg2 X_arg5 X_arg6 X_arg7 k f8 f9 f10).1))
      (rd arg9.view (arg9.view.writes (Elt Ideal) f9 (tripL_k0_t7 (F := Ideal) 𝒱 c bd i arg2 harg2 arg3 harg3 arg4 harg4 arg5 harg5 arg6 harg6 arg7 harg7 arg8 harg8 arg9 harg9 arg10 harg10 K V v59 X_arg2 X_arg5 X_arg6 X_arg7 k f8 f9 f10).2.1))
      (rd arg10.view (arg10.view.writes (Elt Ideal) f10 (tripL_k0_t7 (F := Ideal) 𝒱 c bd i arg2 harg2 arg3 harg3 arg4 harg4 arg5 harg5 arg6 harg6 arg7 harg7 arg8 harg8 arg9 harg9 arg10 harg10 K V v59 X_arg2 X_arg5 X_arg6 X_arg7 k f8 f9 f10).2.2)) := by
  have hj : (i 1).val < 11 := (i 1).isLt
  have hr := fun (t : Fin 384) (x : Fin 768) => pm_raw K Q L (i 1).val (384 * (start (i 1).val + 4 * fours (i 1).val + 2 * k.val) + x.val) t (by unfold start; omega)
  have hp := fun (t : Fin 384) (x : Fin 768) => (pay41_eq K Q L (384 * (start (i 1).val + 4 * fours (i 1).val + 2 * k.val)) _ _ _ (load_rows arg2.view X_arg2 Q hQ (inb := k0_off19_inb i k) (off19 i k))
    (load_blk arg5.view X_arg5 L hL (inb := k0_off21_inb i k 0) (off21 i k 0) (base := 384 * (start (i 1).val + 4 * fours (i 1).val + 2 * k.val)) (by simp only [Fin.val_zero, Fin.val_one, Fin.val_two, show ((3 : Fin 4) : ℕ) = 3 from rfl]; omega)) (load_blk arg5.view X_arg5 L hL (inb := k0_off21_inb i k 1) (off21 i k 1) (base := 384 * (start (i 1).val + 4 * fours (i 1).val + 2 * k.val) + 384) (by simp only [Fin.val_zero, Fin.val_one, Fin.val_two, show ((3 : Fin 4) : ℕ) = 3 from rfl]; omega)) t x).trans (hr t x).symm
  unfold tripL_k0_t7 trip_k0_t7
  dsimp only
  unfold trip_k0_t7.sl.r trip_k0_t7.sl.r_1 trip_k0_t7.sl.r_2
  refine I.step 768 (fun n x => store_rows arg8.view f8 _ (dqRow K V Q L O D (i 1).val) (off19 i k) (fun x y => ?_) n x)
    (fun t x => store_whole arg9.view f9 _ (fun t x => ∑ n : Fin 768, dkRow K V Q L O D (i 1).val t x (384 * (start (i 1).val + 4 * fours (i 1).val + 2 * k.val) + n.val)) (fun x y => ?_) t x)
    (fun t x => store_whole arg10.view f10 _ (fun t x => ∑ n : Fin 768, dvRow K Q L O (i 1).val t x (384 * (start (i 1).val + 4 * fours (i 1).val + 2 * k.val) + n.val)) (fun x y => ?_) t x)
  · exact (pay3_eq K V O D (384 * (start (i 1).val + 4 * fours (i 1).val + 2 * k.val)) _ _ _ (load_rows arg7.view X_arg7 O hO (off20 i k)) (load_blk arg6.view X_arg6 D hD (off21 i k 0) (base := 384 * (start (i 1).val + 4 * fours (i 1).val + 2 * k.val)) (by simp only [Fin.val_zero, Fin.val_one, Fin.val_two, show ((3 : Fin 4) : ℕ) = 3 from rfl]; omega)) (load_blk arg6.view X_arg6 D hD (off21 i k 1) (base := 384 * (start (i 1).val + 4 * fours (i 1).val + 2 * k.val) + 384) (by simp only [Fin.val_zero, Fin.val_one, Fin.val_two, show ((3 : Fin 4) : ℕ) = 3 from rfl]; omega)) _ _ x y).trans (congrArg (_ + ·) (Finset.sum_congr rfl fun t _ => congrArg (· * K (ix2 t y)) (congrArg (dsv V O D _ t) (hp t x))))
  · exact (pay2_eq V Q O D (384 * (start (i 1).val + 4 * fours (i 1).val + 2 * k.val)) _ _ _ _ (load_rows arg2.view X_arg2 Q hQ (off19 i k)) (load_rows arg7.view X_arg7 O hO (off20 i k)) (load_blk arg6.view X_arg6 D hD (off21 i k 0) (base := 384 * (start (i 1).val + 4 * fours (i 1).val + 2 * k.val)) (by simp only [Fin.val_zero, Fin.val_one, Fin.val_two, show ((3 : Fin 4) : ℕ) = 3 from rfl]; omega)) (load_blk arg6.view X_arg6 D hD (off21 i k 1) (base := 384 * (start (i 1).val + 4 * fours (i 1).val + 2 * k.val) + 384) (by simp only [Fin.val_zero, Fin.val_one, Fin.val_two, show ((3 : Fin 4) : ℕ) = 3 from rfl]; omega)) _ _ x y).trans (congrArg (_ + ·) (Finset.sum_congr rfl fun n _ => congrArg (· * Q _ y) (congrArg (dsv V O D _ x) (hp x n))))
  · exact (pay42_eq K Q L O (384 * (start (i 1).val + 4 * fours (i 1).val + 2 * k.val)) _ _ _ _ (load_rows arg2.view X_arg2 Q hQ (off19 i k)) (load_rows arg7.view X_arg7 O hO (off20 i k)) (load_blk arg5.view X_arg5 L hL (off21 i k 0) (base := 384 * (start (i 1).val + 4 * fours (i 1).val + 2 * k.val)) (by simp only [Fin.val_zero, Fin.val_one, Fin.val_two, show ((3 : Fin 4) : ℕ) = 3 from rfl]; omega)) (load_blk arg5.view X_arg5 L hL (off21 i k 1) (base := 384 * (start (i 1).val + 4 * fours (i 1).val + 2 * k.val) + 384) (by simp only [Fin.val_zero, Fin.val_one, Fin.val_two, show ((3 : Fin 4) : ℕ) = 3 from rfl]; omega)) _ x y).trans (congrArg (_ + ·) (Finset.sum_congr rfl fun n _ => congrArg (· * O _ y) (hr x n).symm))

end Cert.FlashIdeal.Value

end
-- ==== Proof.FlashChain.lean ====
/- Each of the attention gradient's loops as a whole takes the accumulators over the query rows of all its trips. -/
module

public import proofs.«01_k».proof.Proof.FlashTrip

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

/-- The accumulators' elements after some stores. -/
abbrev aft {R C : ℕ} (v : View sig .tc .vmem ⟨2, ![R, C]⟩ .f32) (F : v.ty.Contents (Elt Ideal)) (P : List (View.Piece (Elt Ideal) ⟨2, ![R, C]⟩ .f32)) :
    Fin R → Fin C → EReal := rd v (v.writes (Elt Ideal) F P)

variable (𝒱 : Variants) (c : Dev nD) (bd : Option 𝒱.V) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S1x11x8x384 .f32) (harg5 : arg5.IsWhole) (arg6 : Memref sig .tc .vmem S1x11x8x384 .f32) (harg6 : arg6.IsWhole) (arg7 : Memref sig .tc .vmem S4224x128 .bf16) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .f32) (harg10 : arg10.IsWhole)
  (X_arg2 : BufTy.Contents (Elt Ideal) arg2.view.ty) (X_arg5 : BufTy.Contents (Elt Ideal) arg5.view.ty) (X_arg6 : BufTy.Contents (Elt Ideal) arg6.view.ty) (X_arg7 : BufTy.Contents (Elt Ideal) arg7.view.ty)
  (F8 : BufTy.Contents (Elt Ideal) arg8.view.ty) (F9 : BufTy.Contents (Elt Ideal) arg9.view.ty) (F10 : BufTy.Contents (Elt Ideal) arg10.view.ty)
  (L8 : List (View.Piece (Elt Ideal) S4224x256 .f32)) (L9 : List (View.Piece (Elt Ideal) S384x256 .f32)) (L10 : List (View.Piece (Elt Ideal) S384x128 .f32))
  {K : FVec Ideal S384x256 .bf16} {V : FVec Ideal S384x128 .bf16} {Q : ℕ → Fin 256 → EReal} {L : ℕ → EReal}
  {O : ℕ → Fin 128 → EReal} {D : ℕ → EReal} {B : Fin 4224 → Fin 256 → EReal}
  (hQ : ∀ (n : Fin 4224) x, arg2.view.read (Elt Ideal) X_arg2 (ix2 n x) = Q n.val x)
  (hO : ∀ (n : Fin 4224) x, arg7.view.read (Elt Ideal) X_arg7 (ix2 n x) = O n.val x)
  (hL : ∀ (b : Fin 11) (x : Fin 384), arg5.view.read (Elt Ideal) X_arg5 (ix4 0 b 0 x) = L (384 * b.val + x.val))
  (hD : ∀ (b : Fin 11) (x : Fin 384), arg6.view.read (Elt Ideal) X_arg6 (ix4 0 b 0 x) = D (384 * b.val + x.val))

include hQ hO hL hD

/-- The masked loop of one block of query rows. -/
theorem loop1 (arg1 : BitVec 32) (v3 : Vec Ideal S384x256 .bf16) (v5 : Vec Ideal S384x128 .bf16) (ha : BitVec.ofNat 32 (i 1).val = arg1) (hv3 : K = v3) (hv5 : V = v5) (n : ℕ) (hn : n ≤ (k0_t1_loop i).trips)
    {lo hi : ℕ} (hlo : lo = 384 * (i 1).val + 384 * 0) (hhi : hi = 384 * (i 1).val + 384 * n)
    (I : Inv K V Q L O D (i 1).val B lo (aft arg8.view F8 L8) (aft arg9.view F9 L9) (aft arg10.view F10 L10)) :
    Inv K V Q L O D (i 1).val B hi
      (aft arg8.view F8 ((pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 (arg8.view.writes (Elt Ideal) F8 L8) (arg9.view.writes (Elt Ideal) F9 L9) (arg10.view.writes (Elt Ideal) F10 L10) n).2.2 ++ L10)) := by
  subst hlo hhi ha hv3 hv5
  induction n with
  | zero => exact I
  | succ n ih =>
    have h := ih (by omega)
    unfold aft at h ⊢
    rw [View.writes_append, View.writes_append, View.writes_append] at h
    have h0 : n = 0 := by have := trips1 i; omega
    subst h0
    have h' := step1 𝒱 c bd i arg2 harg2 arg3 harg3 arg4 harg4 arg5 harg5 arg6 harg6 arg7 harg7 arg8 harg8 arg9 harg9 arg10 harg10 X_arg2 X_arg5 X_arg6 X_arg7 _ _ _ hQ hO hL hD ⟨0, hn⟩ h
    have e := pb_k0_t1_succ (F := Ideal) 𝒱 c bd i arg2 harg2 arg3 harg3 arg4 harg4 arg5 harg5 arg6 harg6 arg7 harg7 arg8 harg8 arg9 harg9 arg10 harg10 (BitVec.ofNat 32 (i 1).val) K V X_arg2 X_arg5 X_arg6 X_arg7 (arg8.view.writes (Elt Ideal) F8 L8) (arg9.view.writes (Elt Ideal) F9 L9) (arg10.view.writes (Elt Ideal) F10 L10) ⟨0, hn⟩
    dsimp only at e
    rw [e]
    simp only [View.writes_append]
    exact h'

/-- The same where nothing was stored into the first accumulator before. -/
theorem loop1_fresh (arg1 : BitVec 32) (v3 : Vec Ideal S384x256 .bf16) (v5 : Vec Ideal S384x128 .bf16) (ha : BitVec.ofNat 32 (i 1).val = arg1) (hv3 : K = v3) (hv5 : V = v5) (n : ℕ) (hn : n ≤ (k0_t1_loop i).trips)
    {lo hi : ℕ} (hlo : lo = 384 * (i 1).val + 384 * 0) (hhi : hi = 384 * (i 1).val + 384 * n)
    (I : Inv K V Q L O D (i 1).val B lo (rd arg8.view F8) (aft arg9.view F9 L9) (aft arg10.view F10 L10)) :
    Inv K V Q L O D (i 1).val B hi
      (aft arg8.view F8 (pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 F8 (arg9.view.writes (Elt Ideal) F9 L9) (arg10.view.writes (Elt Ideal) F10 L10) n).1)
      (aft arg9.view F9 ((pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 F8 (arg9.view.writes (Elt Ideal) F9 L9) (arg10.view.writes (Elt Ideal) F10 L10) n).2.1 ++ L9))
      (aft arg10.view F10 ((pb_k0_t1 (F := Ideal) 𝒱 c bd i arg2 harg2 arg3 harg3 arg4 harg4 arg5 harg5 arg6 harg6 arg7 harg7 arg8 harg8 arg9 harg9 arg10 harg10 arg1 v3 v5 X_arg2 X_arg5 X_arg6 X_arg7 F8 (arg9.view.writes (Elt Ideal) F9 L9) (arg10.view.writes (Elt Ideal) F10 L10) n).2.2 ++ L10)) := by
  have h := loop1 𝒱 c bd i arg2 harg2 arg3 harg3 arg4 harg4 arg5 harg5 arg6 harg6 arg7 harg7 arg8 harg8 arg9 harg9 arg10 harg10 X_arg2 X_arg5 X_arg6 X_arg7 F8 F9 F10 [] L9 L10 hQ hO hL hD arg1 v3 v5 ha hv3 hv5 n hn hlo hhi I
  rw [List.append_nil] at h
  exact h

/-- A loop that runs no trip. -/
theorem loop2 (arg1 : BitVec 32) (v3 : Vec Ideal S384x256 .bf16) (v5 : Vec Ideal S384x128 .bf16) (v26 : BitVec 32) {lo : ℕ} (n : ℕ) (hn : n = (k0_t2_loop i).trips) (I : Inv K V Q L O D (i 1).val B lo (aft arg8.view F8 L8) (aft arg9.view F9 L9) (aft arg10.view F10 L10)) :
    Inv K V Q L O D (i 1).val B lo
      (aft arg8.view F8 ((pb_k0_t2 (F := Ideal) 𝒱 c bd i arg2 harg2 arg3 harg3 arg4 harg4 arg5 harg5 arg6 harg6 arg7 harg7 arg8 harg8 arg9 harg9 arg10 harg10 arg1 v3 v5 v26 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t2 (F := Ideal) 𝒱 c bd i arg2 harg2 arg3 harg3 arg4 harg4 arg5 harg5 arg6 harg6 arg7 harg7 arg8 harg8 arg9 harg9 arg10 harg10 arg1 v3 v5 v26 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t2 (F := Ideal) 𝒱 c bd i arg2 harg2 arg3 harg3 arg4 harg4 arg5 harg5 arg6 harg6 arg7 harg7 arg8 harg8 arg9 harg9 arg10 harg10 arg1 v3 v5 v26 X_arg2 X_arg5 X_arg6 X_arg7 (arg8.view.writes (Elt Ideal) F8 L8) (arg9.view.writes (Elt Ideal) F9 L9) (arg10.view.writes (Elt Ideal) F10 L10) n).2.2 ++ L10)) := by
  rw [hn, trips2 i]
  exact I

/-- The masked loop of two blocks of query rows. -/
theorem loop3 (arg1 : BitVec 32) (v4 : FVec Ideal S384x256 .bf16) (v6 : FVec Ideal S384x128 .bf16) (v21 : BitVec 32) (v27 : BitVec 32) (ha : BitVec.ofNat 32 (i 1).val = arg1) (hv4 : K = v4) (hv6 : V = v6) (n : ℕ) (hn : n ≤ (k0_t3_loop i).trips)
    {lo hi : ℕ} (hlo : lo = 384 * (i 1).val + 768 * 0) (hhi : hi = 384 * (i 1).val + 768 * n)
    (I : Inv K V Q L O D (i 1).val B lo (aft arg8.view F8 L8) (aft arg9.view F9 L9) (aft arg10.view F10 L10)) :
    Inv K V Q L O D (i 1).val B hi
      (aft arg8.view F8 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).2.2 ++ L10)) := by
  subst hlo hhi ha hv4 hv6
  induction n with
  | zero => exact I
  | succ n ih =>
    have h := ih (by omega)
    unfold aft at h ⊢
    rw [View.writes_append, View.writes_append, View.writes_append] at h
    have h0 : n = 0 := by have := trips3 i; omega
    subst h0
    have h' := step3 𝒱 c bd i arg2 harg2 arg3 harg3 arg4 harg4 arg5 harg5 arg6 harg6 arg7 harg7 arg8 harg8 arg9 harg9 arg10 harg10 X_arg2 X_arg5 X_arg6 X_arg7 _ _ _ hQ hO hL hD v21 v27 ⟨0, hn⟩ h
    have e := pb_k0_t3_succ (F := Ideal) 𝒱 c bd i arg2 harg2 arg3 harg3 arg4 harg4 arg5 harg5 arg6 harg6 arg7 harg7 arg8 harg8 arg9 harg9 arg10 harg10 (BitVec.ofNat 32 (i 1).val) K V v21 v27 X_arg2 X_arg5 X_arg6 X_arg7 (arg8.view.writes (Elt Ideal) F8 L8) (arg9.view.writes (Elt Ideal) F9 L9) (arg10.view.writes (Elt Ideal) F10 L10) ⟨0, hn⟩
    dsimp only at e
    rw [e]
    simp only [View.writes_append]
    exact h'

/-- A loop that runs no trip. -/
theorem loop4 (arg1 : BitVec 32) (v4 : FVec Ideal S384x256 .bf16) (v6 : FVec Ideal S384x128 .bf16) (v21 : BitVec 32) (v27 : BitVec 32) (v32 : BitVec 32) {lo : ℕ} (n : ℕ) (hn : n = (k0_t4_loop i).trips) (I : Inv K V Q L O D (i 1).val B lo (aft arg8.view F8 L8) (aft arg9.view F9 L9) (aft arg10.view F10 L10)) :
    Inv K V Q L O D (i 1).val B lo
      (aft arg8.view F8 ((pb_k0_t4 (F := Ideal) 𝒱 c bd i arg2 harg2 arg3 harg3 arg4 harg4 arg5 harg5 arg6 harg6 arg7 harg7 arg8 harg8 arg9 harg9 arg10 harg10 arg1 v4 v6 v21 v27 v32 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t4 (F := Ideal) 𝒱 c bd i arg2 harg2 arg3 harg3 arg4 harg4 arg5 harg5 arg6 harg6 arg7 harg7 arg8 harg8 arg9 harg9 arg10 harg10 arg1 v4 v6 v21 v27 v32 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t4 (F := Ideal) 𝒱 c bd i arg2 harg2 arg3 harg3 arg4 harg4 arg5 harg5 arg6 harg6 arg7 harg7 arg8 harg8 arg9 harg9 arg10 harg10 arg1 v4 v6 v21 v27 v32 X_arg2 X_arg5 X_arg6 X_arg7 (arg8.view.writes (Elt Ideal) F8 L8) (arg9.view.writes (Elt Ideal) F9 L9) (arg10.view.writes (Elt Ideal) F10 L10) n).2.2 ++ L10)) := by
  rw [hn, trips4 i]
  exact I

/-- The loop of four blocks of query rows. -/
theorem loop5 (arg1 : BitVec 32) (v4 : FVec Ideal S384x256 .bf16) (v6 : FVec Ideal S384x128 .bf16) (v21 : BitVec 32) (v27 : BitVec 32) (v34 : BitVec 32) (hv4 : K = v4) (hv6 : V = v6) (n : ℕ) (hn : n ≤ (k0_t5_loop i).trips)
    {lo hi : ℕ} (hlo : lo = 384 * (start (i 1).val + 4 * 0)) (hhi : hi = 384 * (start (i 1).val + 4 * n))
    (I : Inv K V Q L O D (i 1).val B lo (aft arg8.view F8 L8) (aft arg9.view F9 L9) (aft arg10.view F10 L10)) :
    Inv K V Q L O D (i 1).val B hi
      (aft arg8.view F8 ((pb_k0_t5 (F := Ideal) 𝒱 c bd i arg2 harg2 arg3 harg3 arg4 harg4 arg5 harg5 arg6 harg6 arg7 harg7 arg8 harg8 arg9 harg9 arg10 harg10 arg1 v4 v6 v21 v27 v34 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t5 (F := Ideal) 𝒱 c bd i arg2 harg2 arg3 harg3 arg4 harg4 arg5 harg5 arg6 harg6 arg7 harg7 arg8 harg8 arg9 harg9 arg10 harg10 arg1 v4 v6 v21 v27 v34 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t5 (F := Ideal) 𝒱 c bd i arg2 harg2 arg3 harg3 arg4 harg4 arg5 harg5 arg6 harg6 arg7 harg7 arg8 harg8 arg9 harg9 arg10 harg10 arg1 v4 v6 v21 v27 v34 X_arg2 X_arg5 X_arg6 X_arg7 (arg8.view.writes (Elt Ideal) F8 L8) (arg9.view.writes (Elt Ideal) F9 L9) (arg10.view.writes (Elt Ideal) F10 L10) n).2.2 ++ L10)) := by
  subst hlo hhi hv4 hv6
  induction n with
  | zero => exact I
  | succ n ih =>
    have h := ih (by omega)
    unfold aft at h ⊢
    rw [View.writes_append, View.writes_append, View.writes_append] at h
    have h' := step5 𝒱 c bd i arg2 harg2 arg3 harg3 arg4 harg4 arg5 harg5 arg6 harg6 arg7 harg7 arg8 harg8 arg9 harg9 arg10 harg10 X_arg2 X_arg5 X_arg6 X_arg7 _ _ _ hQ hO hL hD arg1 v21 v27 v34 ⟨n, hn⟩ h
    have e := pb_k0_t5_succ (F := Ideal) 𝒱 c bd i arg2 harg2 arg3 harg3 arg4 harg4 arg5 harg5 arg6 harg6 arg7 harg7 arg8 harg8 arg9 harg9 arg10 harg10 arg1 K V v21 v27 v34 X_arg2 X_arg5 X_arg6 X_arg7 (arg8.view.writes (Elt Ideal) F8 L8) (arg9.view.writes (Elt Ideal) F9 L9) (arg10.view.writes (Elt Ideal) F10 L10) ⟨n, hn⟩
    dsimp only at e
    rw [e]
    simp only [View.writes_append]
    exact h'

/-- A loop that runs no trip. -/
theorem loop6 (arg1 : BitVec 32) (v4 : FVec Ideal S384x256 .bf16) (v6 : FVec Ideal S384x128 .bf16) (v21 : BitVec 32) (v27 : BitVec 32) (v34 : BitVec 32) (v57 : BitVec 32) {lo : ℕ} (n : ℕ) (hn : n = (k0_t6_loop i).trips) (I : Inv K V Q L O D (i 1).val B lo (aft arg8.view F8 L8) (aft arg9.view F9 L9) (aft arg10.view F10 L10)) :
    Inv K V Q L O D (i 1).val B lo
      (aft arg8.view F8 ((pb_k0_t6 (F := Ideal) 𝒱 c bd i arg2 harg2 arg3 harg3 arg4 harg4 arg5 harg5 arg6 harg6 arg7 harg7 arg8 harg8 arg9 harg9 arg10 harg10 arg1 v4 v6 v21 v27 v34 v57 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t6 (F := Ideal) 𝒱 c bd i arg2 harg2 arg3 harg3 arg4 harg4 arg5 harg5 arg6 harg6 arg7 harg7 arg8 harg8 arg9 harg9 arg10 harg10 arg1 v4 v6 v21 v27 v34 v57 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t6 (F := Ideal) 𝒱 c bd i arg2 harg2 arg3 harg3 arg4 harg4 arg5 harg5 arg6 harg6 arg7 harg7 arg8 harg8 arg9 harg9 arg10 harg10 arg1 v4 v6 v21 v27 v34 v57 X_arg2 X_arg5 X_arg6 X_arg7 (arg8.view.writes (Elt Ideal) F8 L8) (arg9.view.writes (Elt Ideal) F9 L9) (arg10.view.writes (Elt Ideal) F10 L10) n).2.2 ++ L10)) := by
  rw [hn, trips6 i]
  exact I

/-- The loop of the blocks left over. -/
theorem loop7 (v4 : FVec Ideal S384x256 .bf16) (v6 : FVec Ideal S384x128 .bf16) (v59 : BitVec 32) (hv4 : K = v4) (hv6 : V = v6) (n : ℕ) (hn : n ≤ (k0_t7_loop i).trips)
    {lo hi : ℕ} (hlo : lo = 384 * (start (i 1).val + 4 * fours (i 1).val + 2 * 0)) (hhi : hi = 384 * (start (i 1).val + 4 * fours (i 1).val + 2 * n))
    (I : Inv K V Q L O D (i 1).val B lo (aft arg8.view F8 L8) (aft arg9.view F9 L9) (aft arg10.view F10 L10)) :
    Inv K V Q L O D (i 1).val B hi
      (aft arg8.view F8 ((pb_k0_t7 (F := Ideal) 𝒱 c bd i arg2 harg2 arg3 harg3 arg4 harg4 arg5 harg5 arg6 harg6 arg7 harg7 arg8 harg8 arg9 harg9 arg10 harg10 v4 v6 v59 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t7 (F := Ideal) 𝒱 c bd i arg2 harg2 arg3 harg3 arg4 harg4 arg5 harg5 arg6 harg6 arg7 harg7 arg8 harg8 arg9 harg9 arg10 harg10 v4 v6 v59 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t7 (F := Ideal) 𝒱 c bd i arg2 harg2 arg3 harg3 arg4 harg4 arg5 harg5 arg6 harg6 arg7 harg7 arg8 harg8 arg9 harg9 arg10 harg10 v4 v6 v59 X_arg2 X_arg5 X_arg6 X_arg7 (arg8.view.writes (Elt Ideal) F8 L8) (arg9.view.writes (Elt Ideal) F9 L9) (arg10.view.writes (Elt Ideal) F10 L10) n).2.2 ++ L10)) := by
  subst hlo hhi hv4 hv6
  induction n with
  | zero => exact I
  | succ n ih =>
    have h := ih (by omega)
    unfold aft at h ⊢
    rw [View.writes_append, View.writes_append, View.writes_append] at h
    have h' := step7 𝒱 c bd i arg2 harg2 arg3 harg3 arg4 harg4 arg5 harg5 arg6 harg6 arg7 harg7 arg8 harg8 arg9 harg9 arg10 harg10 X_arg2 X_arg5 X_arg6 X_arg7 _ _ _ hQ hO hL hD v59 ⟨n, hn⟩ h
    have e := pb_k0_t7_succ (F := Ideal) 𝒱 c bd i arg2 harg2 arg3 harg3 arg4 harg4 arg5 harg5 arg6 harg6 arg7 harg7 arg8 harg8 arg9 harg9 arg10 harg10 K V v59 X_arg2 X_arg5 X_arg6 X_arg7 (arg8.view.writes (Elt Ideal) F8 L8) (arg9.view.writes (Elt Ideal) F9 L9) (arg10.view.writes (Elt Ideal) F10 L10) ⟨n, hn⟩
    dsimp only at e
    rw [e]
    simp only [View.writes_append]
    exact h'

/-- A loop that runs no trip. -/
theorem loop8 (v4 : FVec Ideal S384x256 .bf16) (v6 : FVec Ideal S384x128 .bf16) (v59 : BitVec 32) (v82 : BitVec 32) {lo : ℕ} (n : ℕ) (hn : n = (k0_t8_loop i).trips) (I : Inv K V Q L O D (i 1).val B lo (aft arg8.view F8 L8) (aft arg9.view F9 L9) (aft arg10.view F10 L10)) :
    Inv K V Q L O D (i 1).val B lo
      (aft arg8.view F8 ((pb_k0_t8 (F := Ideal) 𝒱 c bd i arg2 harg2 arg3 harg3 arg4 harg4 arg5 harg5 arg6 harg6 arg7 harg7 arg8 harg8 arg9 harg9 arg10 harg10 v4 v6 v59 v82 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t8 (F := Ideal) 𝒱 c bd i arg2 harg2 arg3 harg3 arg4 harg4 arg5 harg5 arg6 harg6 arg7 harg7 arg8 harg8 arg9 harg9 arg10 harg10 v4 v6 v59 v82 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t8 (F := Ideal) 𝒱 c bd i arg2 harg2 arg3 harg3 arg4 harg4 arg5 harg5 arg6 harg6 arg7 harg7 arg8 harg8 arg9 harg9 arg10 harg10 v4 v6 v59 v82 X_arg2 X_arg5 X_arg6 X_arg7 (arg8.view.writes (Elt Ideal) F8 L8) (arg9.view.writes (Elt Ideal) F9 L9) (arg10.view.writes (Elt Ideal) F10 L10) n).2.2 ++ L10)) := by
  rw [hn, trips8 i]
  exact I

/-- The two masked loops, of which one runs one trip, end where the steps past the mask start. -/
theorem masked (arg1 : BitVec 32) (v4 : FVec Ideal S384x256 .bf16) (v6 : FVec Ideal S384x128 .bf16) (v21 : BitVec 32) (v27 : BitVec 32) (ha : BitVec.ofNat 32 (i 1).val = arg1) (hv4 : K = v4) (hv6 : V = v6) {lo : ℕ} (n : ℕ) (hn : n = (k0_t3_loop i).trips) (hlo : lo = 384 * (i 1).val + 384 * (k0_t1_loop i).trips)
    (I : Inv K V Q L O D (i 1).val B lo (aft arg8.view F8 L8) (aft arg9.view F9 L9) (aft arg10.view F10 L10)) :
    Inv K V Q L O D (i 1).val B (384 * start (i 1).val)
      (aft arg8.view F8 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).1 ++ L8))
      (aft arg9.view F9 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).2.1 ++ L9))
      (aft arg10.view F10 ((pb_k0_t3 (F := Ideal) 𝒱 c bd i arg2 harg2 arg3 harg3 arg4 harg4 arg5 harg5 arg6 harg6 arg7 harg7 arg8 harg8 arg9 harg9 arg10 harg10 arg1 v4 v6 v21 v27 X_arg2 X_arg5 X_arg6 X_arg7 (arg8.view.writes (Elt Ideal) F8 L8) (arg9.view.writes (Elt Ideal) F9 L9) (arg10.view.writes (Elt Ideal) F10 L10) n).2.2 ++ L10)) := by
  have h1 := trips1 i
  have h3 := trips3 i
  subst hlo hn
  rcases Nat.mod_two_eq_zero_or_one (11 - (i 1).val) with h | h
  · have e : 384 * start (i 1).val = 384 * (i 1).val + 768 * (k0_t3_loop i).trips := by unfold start; omega
    rw [e]
    refine loop3 𝒱 c bd i arg2 harg2 arg3 harg3 arg4 harg4 arg5 harg5 arg6 harg6 arg7 harg7 arg8 harg8 arg9 harg9 arg10 harg10 X_arg2 X_arg5 X_arg6 X_arg7 F8 F9 F10 L8 L9 L10 hQ hO hL hD arg1 v4 v6 v21 v27 ha hv4 hv6 _ le_rfl rfl rfl ?_
    rw [h1, h] at I
    exact I
  · have e : 384 * start (i 1).val = 384 * (i 1).val + 384 * (k0_t1_loop i).trips := by unfold start; omega
    rw [e, h3, h]
    exact I

end Cert.FlashIdeal.Value

end
-- ==== Proof.FlashPoint.lean ====
/- What one grid point of the attention gradient leaves in its three accumulators. -/
module

public import proofs.«01_k».proof.Proof.FlashChain

@[expose] public section

set_option maxRecDepth 16384
set_option maxHeartbeats 1000000

noncomputable section

open Idealize.ShloMosaic Idealize.ShloMosaic.TcCoe Idealize.SL.Sem
open scoped BigOperators

namespace Cert.FlashIdeal.Value

open Cert.FlashIdeal Cert.FlashIdeal.Gen

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S1x11x8x384 .f32) (harg5 : arg5.IsWhole) (arg6 : Memref sig .tc .vmem S1x11x8x384 .f32) (harg6 : arg6.IsWhole) (arg7 : Memref sig .tc .vmem S4224x128 .bf16) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .f32) (harg10 : arg10.IsWhole)
  {Q : ℕ → Fin 256 → EReal} {L : ℕ → EReal} {O : ℕ → Fin 128 → EReal} {D : ℕ → EReal}
  (x0 : Vec Ideal S4224x256 .bf16) (x1 : Vec Ideal S384x256 .bf16) (x2 : Vec Ideal S384x128 .bf16) (x3 x4 : Vec Ideal S1x11x8x384 .f32) (x5 : Vec Ideal S4224x128 .bf16)
  (hQ : ∀ (n : Fin 4224) x, x0 (ix2 n x) = Q n.val x) (hO : ∀ (n : Fin 4224) x, x5 (ix2 n x) = O n.val x)
  (hL : ∀ (b : Fin 11) (x : Fin 384), x3 (ix4 0 b 0 x) = L (384 * b.val + x.val))
  (hD : ∀ (b : Fin 11) (x : Fin 384), x4 (ix4 0 b 0 x) = D (384 * b.val + x.val))

include hQ hO hL hD

/-- The first point of a head, which starts the queries' gradient from zero. -/
theorem pointA (hc : cond0_0 i) :
    Inv x1 x2 Q L O D (i 1).val (fun _ _ => 0) 4224 (fun n x => out0_A_6 c i arg2 harg2 arg3 harg3 arg4 harg4 arg5 harg5 arg6 harg6 arg7 harg7 arg8 harg8 arg9 harg9 arg10 harg10 hc x0 x1 x2 x3 x4 x5 (ix2 n x))
      (fun n x => out0_A_7 c i arg2 harg2 arg3 harg3 arg4 harg4 arg5 harg5 arg6 harg6 arg7 harg7 arg8 harg8 arg9 harg9 arg10 harg10 hc x0 x1 x2 x3 x4 x5 (ix2 n x)) (fun n x => out0_A_8 c i arg2 harg2 arg3 harg3 arg4 harg4 arg5 harg5 arg6 harg6 arg7 harg7 arg8 harg8 arg9 harg9 arg10 harg10 hc x0 x1 x2 x3 x4 x5 (ix2 n x)) := by
  have e6 : out0_A_6 c i arg2 harg2 arg3 harg3 arg4 harg4 arg5 harg5 arg6 harg6 arg7 harg7 arg8 harg8 arg9 harg9 arg10 harg10 hc x0 x1 x2 x3 x4 x5 = arg8.view.read (Elt Ideal) (arg8.view.writes (Elt Ideal) arg8.view.junk (kernelRun0_A c i arg2 harg2 arg3 harg3 arg4 harg4 arg5 harg5 arg6 harg6 arg7 harg7 arg8 harg8 arg9 harg9 arg10 harg10 hc x0 x1 x2 x3 x4 x5).1) :=
    View.read_writes_of_cover _ _ _ _ _ (cover0_A_6 c i arg2 harg2 arg3 harg3 arg4 harg4 arg5 harg5 arg6 harg6 arg7 harg7 arg8 harg8 arg9 harg9 arg10 harg10 hc x0 x1 x2 x3 x4 x5)
  have e7 : out0_A_7 c i arg2 harg2 arg3 harg3 arg4 harg4 arg5 harg5 arg6 harg6 arg7 harg7 arg8 harg8 arg9 harg9 arg10 harg10 hc x0 x1 x2 x3 x4 x5 = arg9.view.read (Elt Ideal) (arg9.view.writes (Elt Ideal) arg9.view.junk (kernelRun0_A c i arg2 harg2 arg3 harg3 arg4 harg4 arg5 harg5 arg6 harg6 arg7 harg7 arg8 harg8 arg9 harg9 arg10 harg10 hc x0 x1 x2 x3 x4 x5).2.1) :=
    View.read_writes_of_cover _ _ _ _ _ (cover0_A_7 c i arg2 harg2 arg3 harg3 arg4 harg4 arg5 harg5 arg6 harg6 arg7 harg7 arg8 harg8 arg9 harg9 arg10 harg10 hc x0 x1 x2 x3 x4 x5)
  have e8 : out0_A_8 c i arg2 harg2 arg3 harg3 arg4 harg4 arg5 harg5 arg6 harg6 arg7 harg7 arg8 harg8 arg9 harg9 arg10 harg10 hc x0 x1 x2 x3 x4 x5 = arg10.view.read (Elt Ideal) (arg10.view.writes (Elt Ideal) arg10.view.junk (kernelRun0_A c i arg2 harg2 arg3 harg3 arg4 harg4 arg5 harg5 arg6 harg6 arg7 harg7 arg8 harg8 arg9 harg9 arg10 harg10 hc x0 x1 x2 x3 x4 x5).2.2.1) :=
    View.read_writes_of_cover _ _ _ _ _ (cover0_A_8 c i arg2 harg2 arg3 harg3 arg4 harg4 arg5 harg5 arg6 harg6 arg7 harg7 arg8 harg8 arg9 harg9 arg10 harg10 hc x0 x1 x2 x3 x4 x5)
  have key : Inv x1 x2 Q L O D (i 1).val (fun _ _ => 0) 4224 (aft arg8.view arg8.view.junk (kernelRun0_A (F := Ideal) c i arg2 harg2 arg3 harg3 arg4 harg4 arg5 harg5 arg6 harg6 arg7 harg7 arg8 harg8 arg9 harg9 arg10 harg10 hc x0 x1 x2 x3 x4 x5).1)
      (aft arg9.view arg9.view.junk (kernelRun0_A (F := Ideal) c i arg2 harg2 arg3 harg3 arg4 harg4 arg5 harg5 arg6 harg6 arg7 harg7 arg8 harg8 arg9 harg9 arg10 harg10 hc x0 x1 x2 x3 x4 x5).2.1) (aft arg10.view arg10.view.junk (kernelRun0_A (F := Ideal) c i arg2 harg2 arg3 harg3 arg4 harg4 arg5 harg5 arg6 harg6 arg7 harg7 arg8 harg8 arg9 harg9 arg10 harg10 hc x0 x1 x2 x3 x4 x5).2.2.1) := by
    unfold kernelRun0_A
    dsimp only
    have hq : ∀ (n : Fin 4224) x, arg2.view.read (Elt Ideal) (harg2.unread x0) (ix2 n x) = Q n.val x := fun n x => by rw [harg2.read_unread, hQ]
    have ho : ∀ (n : Fin 4224) x, arg7.view.read (Elt Ideal) (harg7.unread x5) (ix2 n x) = O n.val x := fun n x => by rw [harg7.read_unread, hO]
    have hl : ∀ (b : Fin 11) (x : Fin 384), arg5.view.read (Elt Ideal) (harg5.unread x3) (ix4 0 b 0 x) = L (384 * b.val + x.val) := fun b x => by rw [harg5.read_unread, hL]
    have hd : ∀ (b : Fin 11) (x : Fin 384), arg6.view.read (Elt Ideal) (harg6.unread x4) (ix4 0 b 0 x) = D (384 * b.val + x.val) := fun b x => by rw [harg6.read_unread, hD]
    have hk1 : x1 = arg3.view.readAt (Elt Ideal) (Rect.unit (s := S384x256) ![0, 0] ![384, 256] inb_S384x256_S384x256_0_0).toLoadRect (harg3.unread x1) :=
      ((load_whole arg3.view _).trans (harg3.read_unread x1)).symm
    have hv1 : x2 = arg4.view.readAt (Elt Ideal) (Rect.unit (s := S384x128) ![0, 0] ![384, 128] inb_S384x128_S384x128_0_0).toLoadRect (harg4.unread x2) :=
      ((load_whole arg4.view _).trans (harg4.read_unread x2)).symm
    have hk : x1 = kernelRun0_A.sl.r (F := Ideal) c arg3 harg3 x1 := by
      refine Eq.trans ?_ (congrArg (k0_pay50 (F := Ideal)) hk1)
      funext y
      pointwise [k0_pay50]
    have hv : x2 = kernelRun0_A.sl.r_1 (F := Ideal) c arg4 harg4 x2 := by
      refine Eq.trans ?_ (congrArg (k0_pay51 (F := Ideal)) hv1)
      funext y
      pointwise [k0_pay51]
    refine loop8 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ rfl ?_
    refine loop7 (lo := 384 * (start (i 1).val + 4 * fours (i 1).val)) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ hk hv _ le_rfl rfl (by rw [end7 i]) ?_
    refine loop6 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ _ _ _ rfl ?_
    refine loop5 (lo := 384 * start (i 1).val) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ _ hk hv _ le_rfl rfl (by rw [trips5 i]) ?_
    refine loop4 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ _ _ rfl ?_
    refine masked (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ rfl hk hv _ rfl rfl ?_
    refine loop2 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ _ _ rfl ?_
    refine loop1 (lo := 384 * (i 1).val) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) arg8.view.junk arg9.view.junk arg10.view.junk _ _ _ hq ho hl hd _ _ _ rfl hk1 hv1 _ le_rfl rfl rfl ?_
    refine Inv.init (fun n x => ?_) (fun t x => ?_) (fun t x => ?_)
    · refine (store_all arg8.view _ _ n x).trans ?_
      pointwise [k0_pay49]
    · refine (store_all arg9.view _ _ t x).trans ?_
      pointwise [k0_pay52]
    · refine (store_all arg10.view _ _ t x).trans ?_
      pointwise [k0_pay53]
  rw [e6, e7, e8]
  exact key

/-- A later point of a head, which goes on from what the point before it left. -/
theorem pointB (hc : ¬cond0_0 i) (xo6 : Vec Ideal S4224x256 .f32) :
    Inv x1 x2 Q L O D (i 1).val (fun n x => xo6 (ix2 n x)) 4224 (fun n x => out0_B_6 c i arg2 harg2 arg3 harg3 arg4 harg4 arg5 harg5 arg6 harg6 arg7 harg7 arg8 harg8 arg9 harg9 arg10 harg10 hc x0 x1 x2 x3 x4 x5 xo6 (ix2 n x))
      (fun n x => out0_B_7 c i arg2 harg2 arg3 harg3 arg4 harg4 arg5 harg5 arg6 harg6 arg7 harg7 arg8 harg8 arg9 harg9 arg10 harg10 hc x0 x1 x2 x3 x4 x5 xo6 (ix2 n x)) (fun n x => out0_B_8 c i arg2 harg2 arg3 harg3 arg4 harg4 arg5 harg5 arg6 harg6 arg7 harg7 arg8 harg8 arg9 harg9 arg10 harg10 hc x0 x1 x2 x3 x4 x5 xo6 (ix2 n x)) := by
  have e7 : out0_B_7 c i arg2 harg2 arg3 harg3 arg4 harg4 arg5 harg5 arg6 harg6 arg7 harg7 arg8 harg8 arg9 harg9 arg10 harg10 hc x0 x1 x2 x3 x4 x5 xo6 = arg9.view.read (Elt Ideal) (arg9.view.writes (Elt Ideal) arg9.view.junk (kernelRun0_B c i arg2 harg2 arg3 harg3 arg4 harg4 arg5 harg5 arg6 harg6 arg7 harg7 arg8 harg8 arg9 harg9 arg10 harg10 hc x0 x1 x2 x3 x4 x5 xo6).2.1) :=
    View.read_writes_of_cover _ _ _ _ _ (cover0_B_7 c i arg2 harg2 arg3 harg3 arg4 harg4 arg5 harg5 arg6 harg6 arg7 harg7 arg8 harg8 arg9 harg9 arg10 harg10 hc x0 x1 x2 x3 x4 x5 xo6)
  have e8 : out0_B_8 c i arg2 harg2 arg3 harg3 arg4 harg4 arg5 harg5 arg6 harg6 arg7 harg7 arg8 harg8 arg9 harg9 arg10 harg10 hc x0 x1 x2 x3 x4 x5 xo6 = arg10.view.read (Elt Ideal) (arg10.view.writes (Elt Ideal) arg10.view.junk (kernelRun0_B c i arg2 harg2 arg3 harg3 arg4 harg4 arg5 harg5 arg6 harg6 arg7 harg7 arg8 harg8 arg9 harg9 arg10 harg10 hc x0 x1 x2 x3 x4 x5 xo6).2.2.1) :=
    View.read_writes_of_cover _ _ _ _ _ (cover0_B_8 c i arg2 harg2 arg3 harg3 arg4 harg4 arg5 harg5 arg6 harg6 arg7 harg7 arg8 harg8 arg9 harg9 arg10 harg10 hc x0 x1 x2 x3 x4 x5 xo6)
  have key : Inv x1 x2 Q L O D (i 1).val (fun n x => xo6 (ix2 n x)) 4224 (aft arg8.view (harg8.unread xo6) (kernelRun0_B (F := Ideal) c i arg2 harg2 arg3 harg3 arg4 harg4 arg5 harg5 arg6 harg6 arg7 harg7 arg8 harg8 arg9 harg9 arg10 harg10 hc x0 x1 x2 x3 x4 x5 xo6).1)
      (aft arg9.view arg9.view.junk (kernelRun0_B (F := Ideal) c i arg2 harg2 arg3 harg3 arg4 harg4 arg5 harg5 arg6 harg6 arg7 harg7 arg8 harg8 arg9 harg9 arg10 harg10 hc x0 x1 x2 x3 x4 x5 xo6).2.1) (aft arg10.view arg10.view.junk (kernelRun0_B (F := Ideal) c i arg2 harg2 arg3 harg3 arg4 harg4 arg5 harg5 arg6 harg6 arg7 harg7 arg8 harg8 arg9 harg9 arg10 harg10 hc x0 x1 x2 x3 x4 x5 xo6).2.2.1) := by
    unfold kernelRun0_B
    dsimp only
    have hq : ∀ (n : Fin 4224) x, arg2.view.read (Elt Ideal) (harg2.unread x0) (ix2 n x) = Q n.val x := fun n x => by rw [harg2.read_unread, hQ]
    have ho : ∀ (n : Fin 4224) x, arg7.view.read (Elt Ideal) (harg7.unread x5) (ix2 n x) = O n.val x := fun n x => by rw [harg7.read_unread, hO]
    have hl : ∀ (b : Fin 11) (x : Fin 384), arg5.view.read (Elt Ideal) (harg5.unread x3) (ix4 0 b 0 x) = L (384 * b.val + x.val) := fun b x => by rw [harg5.read_unread, hL]
    have hd : ∀ (b : Fin 11) (x : Fin 384), arg6.view.read (Elt Ideal) (harg6.unread x4) (ix4 0 b 0 x) = D (384 * b.val + x.val) := fun b x => by rw [harg6.read_unread, hD]
    have hk1 : x1 = arg3.view.readAt (Elt Ideal) (Rect.unit (s := S384x256) ![0, 0] ![384, 256] inb_S384x256_S384x256_0_0).toLoadRect (harg3.unread x1) :=
      ((load_whole arg3.view _).trans (harg3.read_unread x1)).symm
    have hv1 : x2 = arg4.view.readAt (Elt Ideal) (Rect.unit (s := S384x128) ![0, 0] ![384, 128] inb_S384x128_S384x128_0_0).toLoadRect (harg4.unread x2) :=
      ((load_whole arg4.view _).trans (harg4.read_unread x2)).symm
    have hk : x1 = kernelRun0_B.sl.r (F := Ideal) c arg3 harg3 x1 := by
      refine Eq.trans ?_ (congrArg (k0_pay50 (F := Ideal)) hk1)
      funext y
      pointwise [k0_pay50]
    have hv : x2 = kernelRun0_B.sl.r_1 (F := Ideal) c arg4 harg4 x2 := by
      refine Eq.trans ?_ (congrArg (k0_pay51 (F := Ideal)) hv1)
      funext y
      pointwise [k0_pay51]
    refine loop8 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ rfl ?_
    refine loop7 (lo := 384 * (start (i 1).val + 4 * fours (i 1).val)) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ hk hv _ le_rfl rfl (by rw [end7 i]) ?_
    refine loop6 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ _ _ _ rfl ?_
    refine loop5 (lo := 384 * start (i 1).val) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ _ hk hv _ le_rfl rfl (by rw [trips5 i]) ?_
    refine loop4 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ _ _ rfl ?_
    refine masked (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ rfl hk hv _ rfl rfl ?_
    refine loop2 (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ _ hq ho hl hd _ _ _ _ _ rfl ?_
    refine loop1_fresh (lo := 384 * (i 1).val) (Q := Q) (L := L) (O := O) (D := D) Variants.none c none i arg2 harg2 arg3 harg3 arg4 harg4 arg5 harg5 arg6 harg6 arg7 harg7 arg8 harg8 arg9 harg9 arg10 harg10 (harg2.unread x0) (harg5.unread x3) (harg6.unread x4) (harg7.unread x5) (harg8.unread xo6) arg9.view.junk arg10.view.junk _ _ hq ho hl hd _ _ _ rfl hk1 hv1 _ le_rfl rfl rfl ?_
    refine Inv.init (fun n x => ?_) (fun t x => ?_) (fun t x => ?_)
    · exact congrFun (harg8.read_unread xo6) _
    · refine (store_all arg9.view _ _ t x).trans ?_
      pointwise [k0_pay52]
    · refine (store_all arg10.view _ _ t x).trans ?_
      pointwise [k0_pay53]
  rw [e7, e8]
  exact key

end Cert.FlashIdeal.Value

end
-- ==== Proof.FlashArr.lean ====
/- What the `flash_bwd` call's three output arrays end holding, as sums over the query rows or the key blocks of each head. -/
module

public import proofs.«01_k».proof.Proof.FlashPoint
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.FlashIdeal.Value

open Cert.FlashIdeal Cert.FlashIdeal.Gen

variable (m : (ℓ : Loc nD τ sig) → Buf (Elt Ideal) ℓ)

theorem idx_val : ∀ t : Fin cfg0.N, win0_0.index t = ![0, t.val / 11]
    ∧ win0_1.index t = ![t.val % 11, t.val / 11]
    ∧ win0_2.index t = ![t.val % 11, t.val / 11]
    ∧ win0_3.index t = ![t.val / 11, 0, 0, 0]
    ∧ win0_4.index t = ![t.val / 11, 0, 0, 0]
    ∧ win0_5.index t = ![0, t.val / 11]
    ∧ win0_6.index t = ![0, t.val / 11]
    ∧ win0_7.index t = ![t.val % 11, t.val / 11]
    ∧ win0_8.index t = ![t.val % 11, t.val / 11] :=
  (by decide +kernel : ∀ t : Fin grid0.N, _)

theorem coord1 : ∀ t : Fin cfg0.N, (grid0.coords t 1).val = t.val % 11 :=
  (by decide +kernel : ∀ t : Fin grid0.N, _)

/-- A point's head and its key block. -/
def hdOf (t : Fin cfg0.N) : Fin 8 := ⟨t.val / 11, by have := lt_of_lt_of_eq t.isLt N_0; omega⟩
def keyOf (t : Fin cfg0.N) : Fin 11 := ⟨t.val % 11, by omega⟩

/-- One head's queries, output gradients, log-sums and row sums, by row. -/
def Qh (c : Dev nD) (h : Fin 8) (n : ℕ) (x : Fin 256) : EReal :=
  if hn : n < 4224 then V m c main_v30 (ix2 ⟨n, hn⟩ ⟨h.val * 256 + x.val, by omega⟩) else 0
def Oh (c : Dev nD) (h : Fin 8) (n : ℕ) (x : Fin 128) : EReal :=
  if hn : n < 4224 then V m c main_v46 (ix2 ⟨n, hn⟩ ⟨h.val * 128 + x.val, by omega⟩) else 0
def Lh (c : Dev nD) (h : Fin 8) (n : ℕ) : EReal :=
  if hn : n < 4224 then V m c main_v40 (ix4 h ⟨n / 384, by omega⟩ 0 ⟨n % 384, by omega⟩) else 0
def Dh (c : Dev nD) (h : Fin 8) (n : ℕ) : EReal :=
  if hn : n < 4224 then V m c main_v43 (ix4 h ⟨n / 384, by omega⟩ 0 ⟨n % 384, by omega⟩) else 0

/-- One block of keys, and of values, of a head. -/
def Kb (c : Dev nD) (h : Fin 8) (j : Fin 11) : FVec Ideal S384x256 .bf16 := fun y =>
  V m c main_v33 (ix2 (⟨j.val * 384 + (y 0).val, by have : (y 0).val < 384 := (y 0).isLt; omega⟩ : Fin 4224) (⟨h.val * 256 + (y 1).val, by have : (y 1).val < 256 := (y 1).isLt; omega⟩ : Fin 2048))
def Vb (c : Dev nD) (h : Fin 8) (j : Fin 11) : FVec Ideal S384x128 .bf16 := fun y =>
  V m c main_v36 (ix2 (⟨j.val * 384 + (y 0).val, by have : (y 0).val < 384 := (y 0).isLt; omega⟩ : Fin 4224) (⟨h.val * 128 + (y 1).val, by have : (y 1).val < 128 := (y 1).isLt; omega⟩ : Fin 1024))

theorem in0 (c : Dev nD) (t : Fin cfg0.N) (n : Fin 4224) (x : Fin 256) : iblk m c 0 t (ix2 n x) = Qh m c (hdOf t) n.val x := by
  unfold Qh hdOf
  rw [dif_pos n.isLt]
  blk_simp [iblk, idx_val t]
  blk_ext [idx_val t]

theorem in5 (c : Dev nD) (t : Fin cfg0.N) (n : Fin 4224) (x : Fin 128) : iblk m c 5 t (ix2 n x) = Oh m c (hdOf t) n.val x := by
  unfold Oh hdOf
  rw [dif_pos n.isLt]
  blk_simp [iblk, idx_val t]
  blk_ext [idx_val t]

theorem in3 (c : Dev nD) (t : Fin cfg0.N) (b : Fin 11) (x : Fin 384) : iblk m c 3 t (ix4 0 b 0 x) = Lh m c (hdOf t) (384 * b.val + x.val) := by
  unfold Lh hdOf
  rw [dif_pos (by omega)]
  blk_simp [iblk, idx_val t]
  blk_ext [idx_val t]

theorem in4 (c : Dev nD) (t : Fin cfg0.N) (b : Fin 11) (x : Fin 384) : iblk m c 4 t (ix4 0 b 0 x) = Dh m c (hdOf t) (384 * b.val + x.val) := by
  unfold Dh hdOf
  rw [dif_pos (by omega)]
  blk_simp [iblk, idx_val t]
  blk_ext [idx_val t]

theorem in1 (c : Dev nD) (t : Fin cfg0.N) : iblk m c 1 t = Kb m c (hdOf t) (keyOf t) := by
  funext y
  idx_vars y
  unfold Kb hdOf keyOf
  blk_simp [iblk, idx_val t]
  blk_ext [idx_val t]

theorem in2 (c : Dev nD) (t : Fin cfg0.N) : iblk m c 2 t = Vb m c (hdOf t) (keyOf t) := by
  funext y
  idx_vars y
  unfold Vb hdOf keyOf
  blk_simp [iblk, idx_val t]
  blk_ext [idx_val t]

/-! ## What a point leaves -/

theorem inv_A (c : Dev nD) (t : Fin cfg0.N) (h : t.val % 11 = 0) :
    Inv (Kb m c (hdOf t) (keyOf t)) (Vb m c (hdOf t) (keyOf t)) (Qh m c (hdOf t)) (Lh m c (hdOf t)) (Oh m c (hdOf t)) (Dh m c (hdOf t)) (keyOf t).val
      (fun _ _ => 0) 4224 (fun n x => (outsAt0 m c t.val t.isLt).1 (ix2 n x)) (fun n x => (outsAt0 m c t.val t.isLt).2.1 (ix2 n x))
      (fun n x => (outsAt0 m c t.val t.isLt).2.2 (ix2 n x)) := by
  rw [outsAt0_A m c t h, ← in1, ← in2]
  dsimp only
  have e := pointA c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (iblk m c 0 t) (iblk m c 1 t) (iblk m c 2 t)
    (iblk m c 3 t) (iblk m c 4 t) (iblk m c 5 t) (in0 m c t) (in5 m c t) (in3 m c t) (in4 m c t) ((hcond0_0 t).mpr h)
  rw [coord1 t] at e
  exact e

theorem inv_B (c : Dev nD) (t : Fin cfg0.N) (h : ¬t.val % 11 = 0) :
    Inv (Kb m c (hdOf t) (keyOf t)) (Vb m c (hdOf t) (keyOf t)) (Qh m c (hdOf t)) (Lh m c (hdOf t)) (Oh m c (hdOf t)) (Dh m c (hdOf t)) (keyOf t).val
      (fun n x => (outsAt0 m c (t.val - 1) (Nat.lt_of_le_of_lt (Nat.sub_le _ _) t.isLt)).1 (ix2 n x)) 4224
      (fun n x => (outsAt0 m c t.val t.isLt).1 (ix2 n x)) (fun n x => (outsAt0 m c t.val t.isLt).2.1 (ix2 n x))
      (fun n x => (outsAt0 m c t.val t.isLt).2.2 (ix2 n x)) := by
  rw [outsAt0_B m c t h, ← in1, ← in2]
  dsimp only
  have e := pointB c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (iblk m c 0 t) (iblk m c 1 t) (iblk m c 2 t)
    (iblk m c 3 t) (iblk m c 4 t) (iblk m c 5 t) (in0 m c t) (in5 m c t) (in3 m c t) (in4 m c t) (fun h' => h ((hcond0_0 t).mp h'))
    (outsAt0 m c (t.val - 1) (Nat.lt_of_le_of_lt (Nat.sub_le _ _) t.isLt)).1
  rw [coord1 t] at e
  exact e

theorem left_keys (c : Dev nD) (t : Fin cfg0.N) : ∃ B,
    Inv (Kb m c (hdOf t) (keyOf t)) (Vb m c (hdOf t) (keyOf t)) (Qh m c (hdOf t)) (Lh m c (hdOf t)) (Oh m c (hdOf t)) (Dh m c (hdOf t)) (keyOf t).val
      B 4224 (fun n x => (outsAt0 m c t.val t.isLt).1 (ix2 n x)) (fun n x => (outsAt0 m c t.val t.isLt).2.1 (ix2 n x))
      (fun n x => (outsAt0 m c t.val t.isLt).2.2 (ix2 n x)) := by
  by_cases h : t.val % 11 = 0
  · exact ⟨_, inv_A m c t h⟩
  · exact ⟨_, inv_B m c t h⟩

/-! ## The arrays -/

/-- What key block `j` gives to the query gradient of head `h`. -/
def dqPart (c : Dev nD) (h : Fin 8) (j : Fin 11) (n : ℕ) (x : Fin 256) : EReal :=
  if 384 * j.val ≤ n ∧ n < 4224 then
    dqRow (Kb m c h j) (Vb m c h j) (Qh m c h) (Lh m c h) (Oh m c h) (Dh m c h) j.val n x
  else 0

/-- The query gradient's array, the key gradient's and the value gradient's. -/
def res6 (c : Dev nD) (n : Fin 4224) (z : Fin 2048) : EReal :=
  ∑ j : Fin 11, dqPart m c ⟨z.val / 256, by omega⟩ j n.val ⟨z.val % 256, by omega⟩
def res7 (c : Dev nD) (k : Fin 4224) (z : Fin 2048) : EReal :=
  ∑ n ∈ Finset.Ico (384 * (k.val / 384)) 4224,
    dkRow (Kb m c ⟨z.val / 256, by omega⟩ ⟨k.val / 384, by omega⟩) (Vb m c ⟨z.val / 256, by omega⟩ ⟨k.val / 384, by omega⟩) (Qh m c ⟨z.val / 256, by omega⟩)
      (Lh m c ⟨z.val / 256, by omega⟩) (Oh m c ⟨z.val / 256, by omega⟩) (Dh m c ⟨z.val / 256, by omega⟩) (k.val / 384)
      ⟨k.val % 384, by omega⟩ ⟨z.val % 256, by omega⟩ n
def res8 (c : Dev nD) (k : Fin 4224) (z : Fin 1024) : EReal :=
  ∑ n ∈ Finset.Ico (384 * (k.val / 384)) 4224,
    dvRow (Kb m c ⟨z.val / 128, by omega⟩ ⟨k.val / 384, by omega⟩) (Qh m c ⟨z.val / 128, by omega⟩)
      (Lh m c ⟨z.val / 128, by omega⟩) (Oh m c ⟨z.val / 128, by omega⟩) (k.val / 384)
      ⟨k.val % 384, by omega⟩ ⟨z.val % 128, by omega⟩ n

/-- The array's row and column that an element of point `t`'s block is. -/
abbrev rowAt (t : Fin cfg0.N) (i : Fin 384) : Fin 4224 := ⟨t.val % 11 * 384 + i.val, by omega⟩
abbrev colAt (t : Fin cfg0.N) (i : Fin 256) : Fin 2048 := ⟨t.val / 11 * 256 + i.val, by have := lt_of_lt_of_eq t.isLt N_0; omega⟩
abbrev vcolAt (t : Fin cfg0.N) (i : Fin 128) : Fin 1024 := ⟨t.val / 11 * 128 + i.val, by have := lt_of_lt_of_eq t.isLt N_0; omega⟩

theorem res7_at (c : Dev nD) (t : Fin cfg0.N) (i : Fin 384) (x : Fin 256) : res7 m c (rowAt t i) (colAt t x)
    = ∑ n ∈ Finset.Ico (384 * (keyOf t).val) 4224, dkRow (Kb m c (hdOf t) (keyOf t)) (Vb m c (hdOf t) (keyOf t)) (Qh m c (hdOf t)) (Lh m c (hdOf t)) (Oh m c (hdOf t)) (Dh m c (hdOf t)) (keyOf t).val i x n := by
  have e1 : (⟨(colAt t x).val / 256, by omega⟩ : Fin 8) = hdOf t := Fin.ext (by show (t.val / 11 * 256 + x.val) / 256 = t.val / 11; omega)
  have e2 : (⟨(rowAt t i).val / 384, by omega⟩ : Fin 11) = keyOf t := Fin.ext (by show (t.val % 11 * 384 + i.val) / 384 = t.val % 11; omega)
  have e3 : (⟨(rowAt t i).val % 384, by omega⟩ : Fin 384) = i := Fin.ext (by show (t.val % 11 * 384 + i.val) % 384 = i.val; omega)
  have e4 : (⟨(colAt t x).val % 256, by omega⟩ : Fin 256) = x := Fin.ext (by show (t.val / 11 * 256 + x.val) % 256 = x.val; omega)
  have e5 : (rowAt t i).val / 384 = (keyOf t).val := congrArg Fin.val e2
  unfold res7
  rw [e1, e2, e3, e4, e5]

theorem res8_at (c : Dev nD) (t : Fin cfg0.N) (i : Fin 384) (x : Fin 128) : res8 m c (rowAt t i) (vcolAt t x)
    = ∑ n ∈ Finset.Ico (384 * (keyOf t).val) 4224, dvRow (Kb m c (hdOf t) (keyOf t)) (Qh m c (hdOf t)) (Lh m c (hdOf t)) (Oh m c (hdOf t)) (keyOf t).val i x n := by
  have e1 : (⟨(vcolAt t x).val / 128, by omega⟩ : Fin 8) = hdOf t := Fin.ext (by show (t.val / 11 * 128 + x.val) / 128 = t.val / 11; omega)
  have e2 : (⟨(rowAt t i).val / 384, by omega⟩ : Fin 11) = keyOf t := Fin.ext (by show (t.val % 11 * 384 + i.val) / 384 = t.val % 11; omega)
  have e3 : (⟨(rowAt t i).val % 384, by omega⟩ : Fin 384) = i := Fin.ext (by show (t.val % 11 * 384 + i.val) % 384 = i.val; omega)
  have e4 : (⟨(vcolAt t x).val % 128, by omega⟩ : Fin 128) = x := Fin.ext (by show (t.val / 11 * 128 + x.val) % 128 = x.val; omega)
  have e5 : (rowAt t i).val / 384 = (keyOf t).val := congrArg Fin.val e2
  unfold res8
  rw [e1, e2, e3, e4, e5]

theorem final_7 (c : Dev nD) : (dats m 0 c).arrAt 7 (cfgs 0).N = (fun y => res7 m c (y 0) (y 1) : FVec Ideal S4224x2048 .f32) := by
  refine (dats m 0 c).arrAt_eq_of_covers 7 _ (by decide +kernel) fun t hf y => ?_
  blk_simp; rw [after0_7]
  idx_vars y
  obtain ⟨B, I⟩ := left_keys m c t
  refine Eq.trans (I.dk y0 y1) ?_
  refine Eq.trans ?_ (congrArg (fun y => res7 m c (y 0) (y 1) : FVec Ideal S4224x2048 .f32) (?_ : ix2 (rowAt t y0) (colAt t y1) = _))
  · exact (res7_at m c t y0 y1).symm
  · blk_ext [idx_val t]

theorem final_8 (c : Dev nD) : (dats m 0 c).arrAt 8 (cfgs 0).N = (fun y => res8 m c (y 0) (y 1) : FVec Ideal S4224x1024 .f32) := by
  refine (dats m 0 c).arrAt_eq_of_covers 8 _ (by decide +kernel) fun t hf y => ?_
  blk_simp; rw [after0_8]
  idx_vars y
  obtain ⟨B, I⟩ := left_keys m c t
  refine Eq.trans (I.dv y0 y1) ?_
  refine Eq.trans ?_ (congrArg (fun y => res8 m c (y 0) (y 1) : FVec Ideal S4224x1024 .f32) (?_ : ix2 (rowAt t y0) (vcolAt t y1) = _))
  · exact (res8_at m c t y0 y1).symm
  · blk_ext [idx_val t]

theorem res6_at (c : Dev nD) (t : Fin cfg0.N) (ht : t.val % 11 = 10) (i : Fin 4224) (x : Fin 256) :
    res6 m c i (colAt t x) = ∑ s : Fin 11, dqPart m c (hdOf ⟨11 * (t.val / 11) + s.val, by have := t.isLt; omega⟩) (keyOf ⟨11 * (t.val / 11) + s.val, by have := t.isLt; omega⟩) i.val x := by
  have e1 : (⟨(colAt t x).val / 256, by omega⟩ : Fin 8) = hdOf t := Fin.ext (by show (t.val / 11 * 256 + x.val) / 256 = t.val / 11; omega)
  have e4 : (⟨(colAt t x).val % 256, by omega⟩ : Fin 256) = x := Fin.ext (by show (t.val / 11 * 256 + x.val) % 256 = x.val; omega)
  unfold res6
  rw [e1, e4]
  refine Finset.sum_congr rfl fun s _ => ?_
  have f1 : hdOf t = hdOf ⟨11 * (t.val / 11) + s.val, by have := t.isLt; omega⟩ := Fin.ext (by show t.val / 11 = (11 * (t.val / 11) + s.val) / 11; omega)
  have f2 : s = keyOf ⟨11 * (t.val / 11) + s.val, by have := t.isLt; omega⟩ := Fin.ext (by show s.val = (11 * (t.val / 11) + s.val) % 11; omega)
  rw [← f1, ← f2]

theorem final_6 (c : Dev nD) : (dats m 0 c).arrAt 6 (cfgs 0).N = (fun y => res6 m c (y 0) (y 1) : FVec Ideal S4224x2048 .f32) := by
  refine (dats m 0 c).arrAt_eq_of_covers 6 _ (by decide +kernel) fun t hf y => ?_
  blk_simp
  rw [after0_6, Pipeline.eq_sum_fin_of_reset_step_apply_of_flush (fun n h => (outsAt0 m c n h).1) 11 (fun _ => 0)
    (fun t j => dqPart m c (hdOf t) (keyOf t) (j 0).val (j 1))
    (fun t h j => by
      idx_vars j
      exact (inv_A m c t h).dq j0 j1)
    (fun t h j => by
      idx_vars j
      exact (inv_B m c t h).dq j0 j1)
    t ((flush0_6 t).mp hf) _, zero_add]
  idx_vars y
  refine Eq.trans (res6_at m c t ((flush0_6 t).mp hf) y0 y1).symm ?_
  refine Eq.trans ?_ (congrArg (fun y => res6 m c (y 0) (y 1) : FVec Ideal S4224x2048 .f32) (?_ : ix2 y0 (colAt t y1) = _))
  · rfl
  · blk_ext [idx_val t]

end Cert.FlashIdeal.Value

end
-- ==== Proof.FlashRef.lean ====
/- What the attention reference's three results are, index by index, as functions of the arguments. -/
module

public import proofs.«01_k».proof.Proof.Attn
public import proofs.«01_k».proof.Proof.Gen.FlashRefIdeal.Run
public import Idealize.ShloMosaic.Lib.Pipeline.ValueKit
public import Idealize.ShloMosaic.Lib.WordCmp
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.FlashRefIdeal.Value

open Cert.FlashRefIdeal Cert.FlashRefIdeal.Gen

variable (m : (ℓ : Loc nD τ sig) → Buf (Elt Ideal) ℓ)

/-- One head's rows of an array with a head axis in the middle. -/
def hd (q : FVec Ideal S4112x8x192 .f32) (h : Fin 8) (a : Fin 4112) (c : Fin 192) : EReal := q (ix3 a h c)
def hv (v : FVec Ideal S4112x8x128 .f32) (h : Fin 8) (a : Fin 4112) (c : Fin 128) : EReal := v (ix3 a h c)

/-- Which keys a query sees. -/
def maskVec : IVec S8x4112x4112 1 := fun y => BitVec.ofBool (decide ((y 2).val ≤ (y 1).val))

theorem mask_eq : broadcastInDim S8x4112x4112 ![0, 1, 2] bcast_S1x4112x4112_S8x4112x4112_0_1_2 (broadcastInDim S1x4112x4112 ![1, 2] bcast_S4112x4112_S1x4112x4112_1_2 (cmpi .sle (iotaInDim S4112x4112 32 1) (iotaInDim S4112x4112 32 0)))
    = maskVec := by
  funext y
  idx_vars y
  pointwise [maskVec]
  simp (disch := omega) only [hlo_ix]
  exact congrArg _ (decide_eq_decide.2 Iff.rfl)

/-- The scores. -/
def sVec (q k : FVec Ideal S4112x8x192 .f32) : FVec Ideal S8x4112x4112 .f32 := fun y => Attn.S (hd q (y 0)) (hd k (y 0)) (y 1) (y 2)

theorem s_eq (q k : FVec Ideal S4112x8x192 .f32) : select maskVec (mulf (Host.dotGeneral (F := Ideal) (φ₁ := .f32) (φ₂ := .f32) dot_S4112x8x192_S4112x8x192_S8x4112x4112_2_2_0_0_1_1 none q k) (broadcastInDim S8x4112x4112 ![] bcast_S_S8x4112x4112 (Host.rsqrt (constant S_ .f32 0x43400000#32)))) (broadcastInDim S8x4112x4112 ![] bcast_S_S8x4112x4112 (id (constant S_ .f32 0xFF800000#32)))
    = sVec q k := by
  funext y
  idx_vars y
  pointwise [sVec, maskVec, Attn.S, hd, Attn.rs, id, hlo_ix, Attn.neg_inf]

theorem reduces_rows : S8x4112x4112.Reduces [2] S8x4112 := by decide

theorem lift_rows (y0 : Fin 8) (y1 b : Fin 4112) : reduces_rows.lift (ix2 y0 y1) b = ix3 y0 y1 b := by
  funext a; apply Fin.ext
  fin_cases a <;> rfl

/-- A row's greatest entry. -/
def mVec (s : FVec Ideal S8x4112x4112 .f32) : FVec Ideal S8x4112 .f32 := fun y => Attn.mx fun b => s (ix3 (y 0) (y 1) b)

theorem m_eq (s : FVec Ideal S8x4112x4112 .f32) : maximumf (F := Ideal) (φ := .f32) (broadcastInDim S8x4112 ![] bcast_S_S8x4112 (constant S_ .f32 0xFF800000#32)) (Host.reduce FloatOps.maximumf s (constant S_ .f32 0xFF800000#32) reducesTo_S8x4112x4112_S8x4112_d2 h_S_)
    = mVec s := by
  funext y
  idx_vars y
  have h := Attn.max_rows (n := 4112) (a := 2) rfl s (constant (F := Ideal) S_ .f32 0xFF800000#32) reducesTo_S8x4112x4112_S8x4112_d2 reduces_rows h_S_
    Attn.neg_inf (ix2 y0 y1) (fun b => s (ix3 y0 y1 b)) (fun b => congrArg s (lift_rows y0 y1 b))
  rw [maximumf_apply, h]
  pointwise [mVec, Attn.neg_inf]
  exact max_eq_right bot_le

/-- The exponentials. -/
def eVec (q k : FVec Ideal S4112x8x192 .f32) : FVec Ideal S8x4112x4112 .f32 := fun y => Attn.E (hd q (y 0)) (hd k (y 0)) (y 1) (y 2)

theorem e_eq (q k : FVec Ideal S4112x8x192 .f32) : Host.exp (F := Ideal) (φ := .f32) (subf (sVec q k) (broadcastInDim S8x4112x4112 ![0, 1, 2] bcast_S8x4112x1_S8x4112x4112_0_1_2 (broadcastInDim S8x4112x1 ![0, 1] bcast_S8x4112_S8x4112x1_0_1 (mVec (sVec q k)))))
    = eVec q k := by
  funext y
  idx_vars y
  pointwise [eVec, sVec, mVec, Attn.E]

/-- The rows' sums of exponentials. -/
def lVec (q k : FVec Ideal S4112x8x192 .f32) : FVec Ideal S8x4112 .f32 := fun y => Attn.Ls (hd q (y 0)) (hd k (y 0)) (y 1)

theorem l_eq (q k : FVec Ideal S4112x8x192 .f32) : Host.reduceAdd (eVec q k) (constant S_ .f32 0x00000000#32) reducesTo_S8x4112x4112_S8x4112_d2 h_S_
    = lVec q k := by
  funext y
  idx_vars y
  pointwise [eVec, lVec, Attn.Ls]

/-- The probabilities' gradients. -/
def dpVec (d v : FVec Ideal S4112x8x128 .f32) : FVec Ideal S8x4112x4112 .f32 := fun y => ∑ c : Fin 128, hv d (y 0) (y 1) c * hv v (y 0) (y 2) c

theorem dp_eq (d v : FVec Ideal S4112x8x128 .f32) : Host.dotGeneral (F := Ideal) (φ₁ := .f32) (φ₂ := .f32) dot_S8x128x4112_S4112x8x128_S8x4112x4112_1_2_2_0_0_1 none (transpose S8x128x4112 [1, 2, 0] d transposes_S4112x8x128_S8x128x4112_1_2_0) v
    = dpVec d v := by
  funext y
  idx_vars y
  pointwise [dpVec, hv]

/-- The scores' gradients, of the probabilities' gradients `P`, the exponentials `E` and their sums `L`. -/
def dsVec (P E : FVec Ideal S8x4112x4112 .f32) (L : FVec Ideal S8x4112 .f32) : FVec Ideal S8x4112x4112 .f32 := fun y =>
  (if (y 2).val ≤ (y 1).val then (Ideal.div (P y) (L (ix2 (y 0) (y 1)))
    + ∑ _u : Fin 1, -(∑ b : Fin 4112, P (ix3 (y 0) (y 1) b) * Ideal.div (Ideal.ofBits .f32 0x3F800000#32) (L (ix2 (y 0) (y 1)) * L (ix2 (y 0) (y 1))) * E (ix3 (y 0) (y 1) b))) * E y
   else 0) * Attn.rs

theorem ds_eq (P E : FVec Ideal S8x4112x4112 .f32) (L : FVec Ideal S8x4112 .f32) : mulf (F := Ideal) (φ := .f32) (select maskVec (mulf (addf (Host.divf P (broadcastInDim S8x4112x4112 ![0, 1, 2] bcast_S8x4112x1_S8x4112x4112_0_1_2 (broadcastInDim S8x4112x1 ![0, 1] bcast_S8x4112_S8x4112x1_0_1 L))) (broadcastInDim S8x4112x4112 ![0, 1] bcast_S8x4112_S8x4112x4112_0_1 (Host.reduceAdd (Host.negf (shapeCast _ (Host.reduceAdd (mulf (mulf P (broadcastInDim S8x4112x4112 ![0, 1, 2] bcast_S8x4112x1_S8x4112x4112_0_1_2 (Host.divf (broadcastInDim S8x4112x1 ![] bcast_S_S8x4112x1 (constant S_ .f32 0x3F800000#32)) (mulf (broadcastInDim S8x4112x1 ![0, 1] bcast_S8x4112_S8x4112x1_0_1 L) (broadcastInDim S8x4112x1 ![0, 1] bcast_S8x4112_S8x4112x1_0_1 L))))) E) (constant S_ .f32 0x00000000#32) reducesTo_S8x4112x4112_S8x4112_d2 h_S_) shapeCasts_S8x4112_S8x4112x1)) (constant S_ .f32 0x00000000#32) reducesTo_S8x4112x1_S8x4112_d2 h_S_))) E) (broadcastInDim S8x4112x4112 ![] bcast_S_S8x4112x4112 (constant S_ .f32 0x00000000#32))) (broadcastInDim S8x4112x4112 ![] bcast_S_S8x4112x4112 (Host.rsqrt (constant S_ .f32 0x43400000#32)))
    = dsVec P E L := by
  funext y
  idx_vars y
  pointwise [dsVec, maskVec, Attn.rs, hlo_ix]

/-- The arguments. -/
def Qm (c : Dev nD) : FVec Ideal S4112x8x192 .f32 := m (c.tc.loc main_arg0)
def Km (c : Dev nD) : FVec Ideal S4112x8x192 .f32 := m (c.tc.loc main_arg1)
def Vm (c : Dev nD) : FVec Ideal S4112x8x128 .f32 := m (c.tc.loc main_arg2)
def Dm (c : Dev nD) : FVec Ideal S4112x8x128 .f32 := m (c.tc.loc main_arg3)

/-- The scores' gradients of the arguments. -/
def DS (c : Dev nD) : FVec Ideal S8x4112x4112 .f32 := dsVec (dpVec (Dm m c) (Vm m c)) (eVec (Qm m c) (Km m c)) (lVec (Qm m c) (Km m c))

/-- The query's gradient, one row of 256 columns per head, 192 of them used, under 112 rows of zeros. -/
def dq (c : Dev nD) (n : Fin 4224) (z : Fin 2048) : EReal :=
  if h : 112 ≤ n.val ∧ z.val % 256 < 192 then
    ∑ b : Fin 4112, DS m c (ix3 ⟨z.val / 256, by omega⟩ ⟨n.val - 112, by omega⟩ b) * Km m c (ix3 b ⟨z.val / 256, by omega⟩ ⟨z.val % 256, h.2⟩)
  else 0

/-- The key's gradient, one row of 256 columns per head, 192 of them used. -/
def dk (c : Dev nD) (n : Fin 4112) (z : Fin 2048) : EReal :=
  if h : z.val % 256 < 192 then
    ∑ a : Fin 4112, DS m c (ix3 ⟨z.val / 256, by omega⟩ a n) * Qm m c (ix3 a ⟨z.val / 256, by omega⟩ ⟨z.val % 256, h⟩)
  else 0

/-- The value's gradient, one row of 128 columns per head. -/
def dv (c : Dev nD) (n : Fin 4112) (z : Fin 1024) : EReal :=
  ∑ a : Fin 4112, Dm m c (ix3 a ⟨z.val / 128, by omega⟩ ⟨z.val % 128, by omega⟩)
    * Ideal.div (eVec (Qm m c) (Km m c) (ix3 ⟨z.val / 128, by omega⟩ a n)) (lVec (Qm m c) (Km m c) (ix2 ⟨z.val / 128, by omega⟩ a))

theorem fill_zero : FloatOps.sitofp (F := Ideal) FTy.f32 0#32 = 0 := by
  show (((0#32 : BitVec 32).toInt : ℝ) : EReal) = 0
  simp

theorem out0_eq (c : Dev nD) : res_out0 m c = (fun z => dq m c (z 0) (z 1) : FVec Ideal S4224x2048 .f32) := by
  unfold res_out0 res_main_v63
  rw [mask_eq, s_eq, m_eq, e_eq, l_eq, dp_eq, ds_eq]
  funext y
  idx_vars y
  pointwise [dq, DS, Qm, Km, Vm, Dm]
  have h1 := y0.isLt
  have h2 := y1.isLt
  split_ifs <;> first | rfl | omega | exact fill_zero

theorem out1_eq (c : Dev nD) : res_out1 m c = (fun z => dk m c (z 0) (z 1) : FVec Ideal S4112x2048 .f32) := by
  unfold res_out1 res_main_v66
  rw [mask_eq, s_eq, m_eq, e_eq, l_eq, dp_eq, ds_eq]
  funext y
  idx_vars y
  pointwise [dk, DS, Qm, Km, Vm, Dm]
  have h1 := y0.isLt
  have h2 := y1.isLt
  split_ifs <;> first | rfl | omega | exact fill_zero

/-- The three results as arrays. -/
def out0 (c : Dev nD) : FVec Ideal S4224x2048 .f32 := fun z => dq m c (z 0) (z 1)
def out1 (c : Dev nD) : FVec Ideal S4112x2048 .f32 := fun z => dk m c (z 0) (z 1)
def out2 (c : Dev nD) : FVec Ideal S4112x1024 .f32 := fun z => dv m c (z 0) (z 1)

theorem run_res (ρ : Dev nD → PrngReg) :
    θ_run defs (onTc (τ := τ) (main (F := Ideal))) ⟨m, fun _ => 0, ρ⟩ fun r => ∀ c : Dev nD,
      r.2.mem ((c.tc : Thread nD τ).loc main_v63) = out0 m c
      ∧ r.2.mem ((c.tc : Thread nD τ).loc main_v66) = out1 m c
      ∧ r.2.mem ((c.tc : Thread nD τ).loc main_v67) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans (out0_eq m c), (h c).2.1.trans (out1_eq m c), (h c).2.2.1.trans ?_, (h c).2.2.2⟩) (run m ρ)
  rw [mask_eq, s_eq, m_eq, e_eq, l_eq]
  funext y
  idx_vars y
  pointwise [out2, dv, Qm, Km, Vm, Dm]

end Cert.FlashRefIdeal.Value

end
-- ==== Proof.FlashHost.lean ====
/- What the operands of the `flash_bwd` call hold, which the host lines before it prepare from the arguments. -/
module

public import proofs.«01_k».proof.Proof.FlashArr
public import proofs.«01_k».proof.Proof.FlashRef

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.FlashIdeal.Value

open Cert.FlashIdeal Cert.FlashIdeal.Gen

variable (m : (ℓ : Loc nD τ sig) → Buf (Elt Ideal) ℓ)

/-- The arguments. -/
def Qm (c : Dev nD) : FVec Ideal S4112x8x192 .f32 := m (c.tc.loc main_arg0)
def Km (c : Dev nD) : FVec Ideal S4112x8x192 .f32 := m (c.tc.loc main_arg1)
def Vm (c : Dev nD) : FVec Ideal S4112x8x128 .f32 := m (c.tc.loc main_arg2)
def Dm (c : Dev nD) : FVec Ideal S4112x8x128 .f32 := m (c.tc.loc main_arg3)

/-- One head's rows of the arguments. -/
def qh (c : Dev nD) (h : Fin 8) (a : Fin 4112) (x : Fin 192) : EReal := Qm m c (ix3 a h x)
def kh (c : Dev nD) (h : Fin 8) (a : Fin 4112) (x : Fin 192) : EReal := Km m c (ix3 a h x)
def vh (c : Dev nD) (h : Fin 8) (a : Fin 4112) (x : Fin 128) : EReal := Vm m c (ix3 a h x)
def oh (c : Dev nD) (h : Fin 8) (a : Fin 4112) (x : Fin 128) : EReal := Dm m c (ix3 a h x)

theorem V_v30 (c : Dev nD) (n : Fin 4224) (h : Fin 8) (x : Fin 256) :
    V m c main_v30 (ix2 n (⟨h.val * 256 + x.val, by omega⟩ : Fin 2048)) = if g : 112 ≤ n.val ∧ x.val < 192 then qh m c h ⟨n.val - 112, by omega⟩ ⟨x.val, g.2⟩ else 0 := by
  have e1 : (h.val * 256 + x.val) / 256 = h.val := by omega
  have e2 : (h.val * 256 + x.val) % 256 = x.val := by omega
  simp only [V, V0, List.flatten_cons, List.flatten_nil, List.cons_append, List.nil_append, List.append_nil]
  entry_read
  simp only [StableHlo.TRef.toBuf, StableHlo.TRef.ofBuf, StableHlo.TRef.of, cast_eq]
  pointwise
  simp only [e1, e2]
  split_ifs <;> first | rfl | omega | exact Cert.FlashRefIdeal.Value.fill_zero

theorem V_v33 (c : Dev nD) (n : Fin 4224) (h : Fin 8) (x : Fin 256) :
    V m c main_v33 (ix2 n (⟨h.val * 256 + x.val, by omega⟩ : Fin 2048)) = if g : 112 ≤ n.val ∧ x.val < 192 then kh m c h ⟨n.val - 112, by omega⟩ ⟨x.val, g.2⟩ else 0 := by
  have e1 : (h.val * 256 + x.val) / 256 = h.val := by omega
  have e2 : (h.val * 256 + x.val) % 256 = x.val := by omega
  simp only [V, V0, List.flatten_cons, List.flatten_nil, List.cons_append, List.nil_append, List.append_nil]
  entry_read
  simp only [StableHlo.TRef.toBuf, StableHlo.TRef.ofBuf, StableHlo.TRef.of, cast_eq]
  pointwise
  simp only [e1, e2]
  split_ifs <;> first | rfl | omega | exact Cert.FlashRefIdeal.Value.fill_zero

theorem V_v36 (c : Dev nD) (n : Fin 4224) (h : Fin 8) (x : Fin 128) :
    V m c main_v36 (ix2 n (⟨h.val * 128 + x.val, by omega⟩ : Fin 1024)) = if g : 112 ≤ n.val then vh m c h ⟨n.val - 112, by omega⟩ x else 0 := by
  have e1 : (h.val * 128 + x.val) / 128 = h.val := by omega
  have e2 : (h.val * 128 + x.val) % 128 = x.val := by omega
  simp only [V, V0, List.flatten_cons, List.flatten_nil, List.cons_append, List.nil_append, List.append_nil]
  entry_read
  simp only [StableHlo.TRef.toBuf, StableHlo.TRef.ofBuf, StableHlo.TRef.of, cast_eq]
  pointwise
  simp only [e1, e2]
  split_ifs <;> first | rfl | omega | exact Cert.FlashRefIdeal.Value.fill_zero

theorem V_v46 (c : Dev nD) (n : Fin 4224) (h : Fin 8) (x : Fin 128) :
    V m c main_v46 (ix2 n (⟨h.val * 128 + x.val, by omega⟩ : Fin 1024)) = if g : 112 ≤ n.val then oh m c h ⟨n.val - 112, by omega⟩ x else 0 := by
  have e1 : (h.val * 128 + x.val) / 128 = h.val := by omega
  have e2 : (h.val * 128 + x.val) % 128 = x.val := by omega
  simp only [V, V0, List.flatten_cons, List.flatten_nil, List.cons_append, List.nil_append, List.append_nil]
  entry_read
  simp only [StableHlo.TRef.toBuf, StableHlo.TRef.ofBuf, StableHlo.TRef.of, cast_eq]
  pointwise
  simp only [e1, e2]
  split_ifs <;> first | rfl | omega | exact Cert.FlashRefIdeal.Value.fill_zero

/-! ## The log-sums and the row sums -/

open Cert.FlashRefIdeal.Value (maskVec sVec mVec eVec lVec hd hv)

theorem mask_eq : broadcastInDim S8x4112x4112 ![0, 1, 2] bcast_S1x4112x4112_S8x4112x4112_0_1_2 (broadcastInDim S1x4112x4112 ![1, 2] bcast_S4112x4112_S1x4112x4112_1_2 (cmpi .sle (iotaInDim S4112x4112 32 1) (iotaInDim S4112x4112 32 0)))
    = maskVec := Cert.FlashRefIdeal.Value.mask_eq

theorem s_eq (q k : FVec Ideal S4112x8x192 .f32) : select maskVec (mulf (Host.dotGeneral (F := Ideal) (φ₁ := .f32) (φ₂ := .f32) dot_S4112x8x192_S4112x8x192_S8x4112x4112_2_2_0_0_1_1 none q k) (broadcastInDim S8x4112x4112 ![] bcast_S_S8x4112x4112 (Host.rsqrt (constant S_ .f32 0x43400000#32)))) (broadcastInDim S8x4112x4112 ![] bcast_S_S8x4112x4112 (constant S_ .f32 0xFF800000#32))
    = sVec q k := Cert.FlashRefIdeal.Value.s_eq q k

theorem m_eq (s : FVec Ideal S8x4112x4112 .f32) : Host.reduce (FloatOps.maximumf (F := Ideal) (φ := .f32)) s (constant S_ .f32 0xFF800000#32) reducesTo_S8x4112x4112_S8x4112_d2 h_S_
    = mVec s := by
  funext y
  idx_vars y
  exact Attn.max_rows (n := 4112) (a := 2) rfl s (constant (F := Ideal) S_ .f32 0xFF800000#32) reducesTo_S8x4112x4112_S8x4112_d2 Cert.FlashRefIdeal.Value.reduces_rows h_S_
    Attn.neg_inf (ix2 y0 y1) (fun b => s (ix3 y0 y1 b)) (fun b => congrArg s (Cert.FlashRefIdeal.Value.lift_rows y0 y1 b))

theorem e_eq (q k : FVec Ideal S4112x8x192 .f32) : Host.exp (F := Ideal) (φ := .f32) (subf (sVec q k) (broadcastInDim S8x4112x4112 ![0, 1, 2] bcast_S8x4112x1_S8x4112x4112_0_1_2 (broadcastInDim S8x4112x1 ![0, 1] bcast_S8x4112_S8x4112x1_0_1 (mVec (sVec q k)))))
    = eVec q k := Cert.FlashRefIdeal.Value.e_eq q k

theorem l_eq (q k : FVec Ideal S4112x8x192 .f32) : Host.reduceAdd (eVec q k) (constant S_ .f32 0x00000000#32) reducesTo_S8x4112x4112_S8x4112_d2 h_S_
    = lVec q k := Cert.FlashRefIdeal.Value.l_eq q k

/-- A row's log-sum in base two, and the row's sum of the output times its gradient. -/
def lse (c : Dev nD) (h : Fin 8) (a : Fin 4112) : EReal :=
  Ideal.div (Attn.mx (Attn.S (qh m c h) (kh m c h) a) + Ideal.log (Attn.Ls (qh m c h) (kh m c h) a)) (Ideal.log (Ideal.ofBits .f32 0x40000000#32))
def delta (c : Dev nD) (h : Fin 8) (a : Fin 4112) : EReal :=
  ∑ x : Fin 128, oh m c h a x * ∑ b : Fin 4112, vh m c h b x * Ideal.div (Attn.E (qh m c h) (kh m c h) a b) (Attn.Ls (qh m c h) (kh m c h) a)

theorem V_v40 (c : Dev nD) (h : Fin 8) (b : Fin 11) (x : Fin 384) :
    V m c main_v40 (ix4 h b 0 x) = if g : 112 ≤ b.val * 384 + x.val then lse m c h ⟨b.val * 384 + x.val - 112, by omega⟩ else 0 := by
  simp only [V, V0, List.flatten_cons, List.flatten_nil, List.cons_append, List.nil_append, List.append_nil]
  entry_read
  simp only [StableHlo.TRef.toBuf, StableHlo.TRef.ofBuf, StableHlo.TRef.of, cast_eq]
  rw [mask_eq, s_eq, m_eq, e_eq, l_eq]
  pointwise [lse, sVec, mVec, lVec, hd, qh, kh, Qm, Km]
  by_cases g : 112 ≤ b.val * 384 + x.val
  · rw [dif_pos ⟨g, by omega⟩, dif_pos g]; rfl
  · rw [dif_neg (fun h => g h.1), dif_neg g]; exact Cert.FlashRefIdeal.Value.fill_zero

theorem V_v43 (c : Dev nD) (h : Fin 8) (b : Fin 11) (x : Fin 384) :
    V m c main_v43 (ix4 h b 0 x) = if g : 112 ≤ b.val * 384 + x.val then delta m c h ⟨b.val * 384 + x.val - 112, by omega⟩ else 0 := by
  simp only [V, V0, List.flatten_cons, List.flatten_nil, List.cons_append, List.nil_append, List.append_nil]
  entry_read
  simp only [StableHlo.TRef.toBuf, StableHlo.TRef.ofBuf, StableHlo.TRef.of, cast_eq]
  rw [mask_eq, s_eq, m_eq, e_eq, l_eq]
  pointwise [eVec, lVec]
  by_cases g : 112 ≤ b.val * 384 + x.val
  · refine (dif_pos ⟨g, by omega⟩).trans (Eq.trans ?_ (dif_pos g).symm)
    unfold delta
    exact Finset.sum_congr (M := EReal) rfl fun _ _ => congrArg _ (Finset.sum_congr rfl fun _ _ => rfl)
  · rw [dif_neg (fun h => g h.1), dif_neg g]; exact Cert.FlashRefIdeal.Value.fill_zero

end Cert.FlashIdeal.Value

end
-- ==== Proof.FlashTail.lean ====
/- What the `flash_bwd` program's three results are at its end: one array of the region, and the rows past the padding of the two others. -/
module

public import proofs.«01_k».proof.Proof.FlashArr

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.FlashIdeal.Value

open Cert.FlashIdeal Cert.FlashIdeal.Gen

variable (m : (ℓ : Loc nD τ sig) → Buf (Elt Ideal) ℓ) (ρ : Dev nD → PrngReg)

/-- The three results. -/
def out0 (c : Dev nD) : FVec Ideal S4224x2048 .f32 := fun y => res6 m c (y 0) (y 1)
def out1 (c : Dev nD) : FVec Ideal S4112x2048 .f32 := fun y => res7 m c ⟨112 + (y 0).val, by have : (y 0).val < 4112 := (y 0).isLt; omega⟩ (y 1)
def out2 (c : Dev nD) : FVec Ideal S4112x1024 .f32 := fun y => res8 m c ⟨112 + (y 0).val, by have : (y 0).val < 4112 := (y 0).isLt; omega⟩ (y 1)

/-- A window's array after the region, in the valuation the lines after it start from. -/
theorem arr_at (c : Dev nD) (w : Fin 9) :
    Pipeline.withArrays (Val := Elt Ideal) (cfgs 0).spec c (V0 m c) (fun w => (dats m 0 c).arrAt w (cfgs 0).N) (Proc.devRef .tc (Pipeline.arrRef (cfgs 0).spec w)) = (dats m 0 c).arrAt w (cfgs 0).N :=
  Pipeline.withArrays_arr (cfgs 0).spec (by decide) c (V0 m c) (fun w => (dats m 0 c).arrAt w (cfgs 0).N) w

theorem W_v48 (c : Dev nD) : Pipeline.afterTail₀ cfgs (dats m) 0 (V0 m) [hostOps1] c main_v48 = out1 m c := by
  unfold Pipeline.afterTail₀
  simp only [hostOps1, List.flatten_cons, List.flatten_nil, List.cons_append, List.nil_append, List.append_nil]
  entry_read
  refine (congrArg (fun f : FVec Ideal S4224x2048 .f32 => extractStridedSlice S4112x2048 ![112, 0] f slices_S4224x2048_S4112x2048_112_0)
    ((arr_at m c 7).trans (final_7 m c))).trans ?_
  funext y
  idx_vars y
  pointwise [out1]

theorem W_v49 (c : Dev nD) : Pipeline.afterTail₀ cfgs (dats m) 0 (V0 m) [hostOps1] c main_v49 = out2 m c := by
  unfold Pipeline.afterTail₀
  simp only [hostOps1, List.flatten_cons, List.flatten_nil, List.cons_append, List.nil_append, List.append_nil]
  entry_read
  refine (congrArg (fun f : FVec Ideal S4224x1024 .f32 => extractStridedSlice S4112x1024 ![112, 0] f slices_S4224x1024_S4112x1024_112_0)
    ((arr_at m c 8).trans (final_8 m c))).trans ?_
  funext y
  idx_vars y
  pointwise [out2]

theorem run_res : θ_run defs (onTc (τ := τ) (main (F := Ideal))) ⟨m, fun _ => 0, ρ⟩ fun r => ∀ c : Dev nD,
      r.2.mem ((c.tc : Thread nD τ).loc main_v47_0) = out0 m c
      ∧ r.2.mem ((c.tc : Thread nD τ).loc main_v48) = out1 m c
      ∧ r.2.mem ((c.tc : Thread nD τ).loc main_v49) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, ?_, ?_, h.2 c⟩) (θ_run_and (run_main m ρ) (unchanged m ρ))
  · exact ((h.1 c).1 6).trans (final_6 m c)
  · exact ((h.1 c).2 main_v48 (Pipeline.mem_restRefs_of main_v48 (by decide) (by decide))).trans (W_v48 m c)
  · exact ((h.1 c).2 main_v49 (Pipeline.mem_restRefs_of main_v49 (by decide) (by decide))).trans (W_v49 m c)

end Cert.FlashIdeal.Value

end
-- ==== Proof.FlashEq.lean ====
/- The attention's backward call: the kernel's three results are the reference's, where the arguments are finite. -/
module

public import proofs.«01_k».proof.Proof.FlashHead
public import proofs.«01_k».proof.Proof.FlashHost
public import proofs.«01_k».proof.Proof.FlashTail
public import proofs.«01_k».proof.Proof.FlashRef
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.FlashEq

/-- The precondition's shape relations. -/
theorem pre_facts : Cert.Pre_finite_flash.Facts where
  bcast_S_S4112x8x192 := by decide
  reducesTo_S4112x8x192_S_d0_1_2 := by decide
  h_S_ := by decide
  bcast_S_S4112x8x128 := by decide
  reducesTo_S4112x8x128_S_d0_1_2 := by decide

open Cert.Pre_finite_flash in
/-- What the precondition says. -/
theorem finite [Facts] (a0 a1 : FVec Ideal S4112x8x192 .f32) (a2 a3 : FVec Ideal S4112x8x128 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ ∀ i, ∃ r : ℝ, a3 i = (r : EReal) := by
  have e := congrFun h ValueIdx.ix0
  obtain ⟨e, e3⟩ := IntOp.andi_eq_one.1 e
  obtain ⟨e, e2⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e2, Cert.Finite.of_all _ _ _ _ _ e3⟩

theorem one : Ideal.ofBits .f32 0x3F800000#32 = ((1 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

section Ref
open Cert.FlashRefIdeal Cert.FlashRefIdeal.Value

variable (Qa Ka : FVec Ideal S4112x8x192 .f32) (Va Da : FVec Ideal S4112x8x128 .f32) (h : Fin 8)
  (q k : Fin 4112 → Fin 192 → ℝ) (v o : Fin 4112 → Fin 128 → ℝ)
  (hq : hd Qa h = fun a x => ((q a x : ℝ) : EReal)) (hk : hd Ka h = fun a x => ((k a x : ℝ) : EReal))
  (hv' : hv Va h = fun a x => ((v a x : ℝ) : EReal)) (ho : hv Da h = fun a x => ((o a x : ℝ) : EReal))
include hq hk

theorem ref_e (a b : Fin 4112) : eVec Qa Ka (ix3 h a b) = ((Attn.e q k (Attn.mr q k) a b : ℝ) : EReal) := by
  show Attn.E (hd Qa h) (hd Ka h) a b = _
  rw [hq, hk]; exact Attn.E_coe q k a b

theorem ref_l (a : Fin 4112) : lVec Qa Ka (ix2 h a) = ((Attn.l q k (Attn.mr q k) a : ℝ) : EReal) := by
  show Attn.Ls (hd Qa h) (hd Ka h) a = _
  rw [hq, hk]; exact Attn.Ls_coe q k a

theorem ref_p (a b : Fin 4112) : Ideal.div (eVec Qa Ka (ix3 h a b)) (lVec Qa Ka (ix2 h a)) = ((Attn.p q k (Attn.mr q k) a b : ℝ) : EReal) := by
  show Ideal.div (Attn.E (hd Qa h) (hd Ka h) a b) (Attn.Ls (hd Qa h) (hd Ka h) a) = _
  rw [hq, hk]; exact Attn.P_coe q k a b

include hv' ho in
/-- The reference's gradient of a score, the scale included. -/
theorem ref_ds (a b : Fin 4112) : dsVec (dpVec Da Va) (eVec Qa Ka) (lVec Qa Ka) (ix3 h a b) = ((Attn.ds q k v o (Attn.mr q k) a b : ℝ) : EReal) := by
  have hdp : ∀ b, dpVec Da Va (ix3 h a b) = ((Attn.dp v o a b : ℝ) : EReal) := fun b => by
    show ∑ x, hv Da h a x * hv Va h b x = _
    rw [hv', ho]; exact Attn.sum_coe o v a b
  show (if b.val ≤ a.val then (Ideal.div (dpVec Da Va (ix3 h a b)) (lVec Qa Ka (ix2 h a))
    + ∑ _u : Fin 1, -(∑ b' : Fin 4112, dpVec Da Va (ix3 h a b') * Ideal.div (Ideal.ofBits .f32 0x3F800000#32) (lVec Qa Ka (ix2 h a) * lVec Qa Ka (ix2 h a)) * eVec Qa Ka (ix3 h a b'))) * eVec Qa Ka (ix3 h a b)
   else 0) * Attn.rs = _
  have hl := (Attn.l_pos q k (Attn.mr q k) a).ne'
  have hs : ∑ b' : Fin 4112, dpVec Da Va (ix3 h a b') * Ideal.div (Ideal.ofBits .f32 0x3F800000#32) (lVec Qa Ka (ix2 h a) * lVec Qa Ka (ix2 h a)) * eVec Qa Ka (ix3 h a b')
      = ((∑ b', Attn.dp v o a b' * (1 / (Attn.l q k (Attn.mr q k) a * Attn.l q k (Attn.mr q k) a)) * Attn.e q k (Attn.mr q k) a b' : ℝ) : EReal) := by
    rw [← Rows.coe_sum]
    refine Finset.sum_congr rfl fun b' _ => ?_
    rw [hdp, ref_l Qa Ka h q k hq hk, ref_e Qa Ka h q k hq hk, ← EReal.coe_mul, Ideal.div_coe (mul_ne_zero hl hl), one, ← EReal.coe_mul, one_mul, ← EReal.coe_mul, ← EReal.coe_mul]
  rw [hs, hdp, ref_l Qa Ka h q k hq hk, ref_e Qa Ka h q k hq hk, Ideal.div_coe hl, Attn.rs_eq, ← Attn.ds_quot, ← EReal.coe_neg, Rows.coe_sum, ← EReal.coe_mul, ← EReal.coe_add, ← EReal.coe_mul,
    EReal.coe_mul _ Attn.κs]
  split_ifs
  · rfl
  · rw [EReal.coe_zero]

end Ref

section Kernel
open Cert.FlashIdeal Cert.FlashIdeal.Value

variable (m : (ℓ : Loc nD τ sig) → Buf (Elt Ideal) ℓ) (c : Dev nD) (h : Fin 8)
  (q k : Fin 4112 → Fin 192 → ℝ) (v o : Fin 4112 → Fin 128 → ℝ)
  (hq : qh m c h = fun a x => ((q a x : ℝ) : EReal)) (hk : kh m c h = fun a x => ((k a x : ℝ) : EReal))
  (hv' : vh m c h = fun a x => ((v a x : ℝ) : EReal)) (ho : oh m c h = fun a x => ((o a x : ℝ) : EReal))
include hq hk

theorem lse_real (a : Fin 4112) : lse m c h a = (((Attn.mr q k a + Real.log (Attn.l q k (Attn.mr q k) a)) * (1 / Real.log 2) : ℝ) : EReal) := by
  have h2 : Real.log 2 ≠ 0 := (Real.log_pos (by norm_num)).ne'
  unfold lse
  rw [hq, hk, Attn.mx_coe, Attn.Ls_coe, two, Ideal.log_coe, Ideal.log_coe, if_neg (not_le.2 (Attn.l_pos q k _ a)), if_neg (by norm_num), Ideal.div_coe h2, ← EReal.coe_add, ← EReal.coe_mul]

include hv' ho in
theorem delta_real (a : Fin 4112) : delta m c h a = ((∑ b, Attn.p q k (Attn.mr q k) a b * Attn.dp v o a b : ℝ) : EReal) := by
  unfold delta
  rw [← Attn.delta_eq, hq, hk, hv', ho, ← Rows.coe_sum]
  refine Finset.sum_congr rfl fun x _ => ?_
  rw [EReal.coe_mul, ← Rows.coe_sum]
  refine congrArg _ (Finset.sum_congr rfl fun b _ => ?_)
  rw [Attn.P_coe, ← EReal.coe_mul, mul_comm]

include hv' ho in
theorem head : Head q k v o (Qh m c h) (Lh m c h) (Oh m c h) (Dh m c h) where
  hq n x := by
    unfold Qh padded
    by_cases hn : n < 4224
    · rw [dif_pos hn, V_v30, hq]
      by_cases g : 112 ≤ n ∧ x.val < 192
      · rw [dif_pos g, dif_pos ⟨⟨g.1, hn⟩, g.2⟩]
      · rw [dif_neg g, dif_neg (fun h => g ⟨h.1.1, h.2⟩)]
    · rw [dif_neg hn, dif_neg (fun h => hn h.1.2)]
  ho n x := by
    unfold Oh padded
    by_cases hn : n < 4224
    · rw [dif_pos hn, V_v46, ho]
      by_cases g : 112 ≤ n
      · rw [dif_pos g, dif_pos ⟨⟨g, hn⟩, x.isLt⟩]
      · rw [dif_neg g, dif_neg (fun h => g h.1.1)]
    · rw [dif_neg hn, dif_neg (fun h => hn h.1.2)]
  hl a := by
    unfold Lh
    rw [dif_pos (by omega), V_v40, ← lse_real m c h q k hq hk a, dif_pos (by show 112 ≤ (112 + a.val) / 384 * 384 + (112 + a.val) % 384; omega)]
    refine congrArg _ (Fin.ext ?_)
    show (112 + a.val) / 384 * 384 + (112 + a.val) % 384 - 112 = a.val
    omega
  hd a := by
    unfold Dh
    rw [dif_pos (by omega), V_v43, ← delta_real m c h q k v o hq hk hv' ho a, dif_pos (by show 112 ≤ (112 + a.val) / 384 * 384 + (112 + a.val) % 384; omega)]
    refine congrArg _ (Fin.ext ?_)
    show (112 + a.val) / 384 * 384 + (112 + a.val) % 384 - 112 = a.val
    omega

omit hq in
include hv' in
theorem keys (j : Fin 11) : Keys k v j.val (Kb m c h j) (Vb m c h j) where
  hk t x := by
    have hn : 384 * j.val + t.val < 4224 := by omega
    have e : j.val * 384 + t.val = 384 * j.val + t.val := by omega
    refine (V_v33 m c ⟨j.val * 384 + t.val, by omega⟩ h x).trans ?_
    unfold padded
    rw [hk]
    by_cases g : 112 ≤ j.val * 384 + t.val ∧ x.val < 192
    · rw [dif_pos g, dif_pos ⟨⟨by omega, hn⟩, g.2⟩]
      simp only [e]
    · rw [dif_neg g, dif_neg (fun h => g ⟨by omega, h.2⟩)]
  hv t x := by
    have hn : 384 * j.val + t.val < 4224 := by omega
    have e : j.val * 384 + t.val = 384 * j.val + t.val := by omega
    refine (V_v36 m c ⟨j.val * 384 + t.val, by omega⟩ h x).trans ?_
    unfold padded
    rw [hv']
    by_cases g : 112 ≤ j.val * 384 + t.val
    · rw [dif_pos g, dif_pos ⟨⟨by omega, hn⟩, x.isLt⟩]
      simp only [e]
    · rw [dif_neg g, dif_neg (fun h => g (by omega))]

end Kernel

variable (m : (ℓ : Loc Cert.FlashIdeal.nD Cert.FlashIdeal.τ Cert.FlashIdeal.sig) → Buf (Elt Ideal) ℓ)
  (m' : (ℓ : Loc Cert.FlashRefIdeal.nD Cert.FlashRefIdeal.τ Cert.FlashRefIdeal.sig) → Buf (Elt Ideal) ℓ)
  (c : Dev Cert.FlashIdeal.nD)

/-- The two memories hold the same arguments. -/
def Same : Prop :=
  m' (c.tc.loc Cert.FlashRefIdeal.main_arg0) = m (c.tc.loc Cert.FlashIdeal.main_arg0)
  ∧ m' (c.tc.loc Cert.FlashRefIdeal.main_arg1) = m (c.tc.loc Cert.FlashIdeal.main_arg1)
  ∧ m' (c.tc.loc Cert.FlashRefIdeal.main_arg2) = m (c.tc.loc Cert.FlashIdeal.main_arg2)
  ∧ m' (c.tc.loc Cert.FlashRefIdeal.main_arg3) = m (c.tc.loc Cert.FlashIdeal.main_arg3)

/-- One head's arguments as real numbers, on both sides. -/
structure Reals (h : Fin 8) (q k : Fin 4112 → Fin 192 → ℝ) (v o : Fin 4112 → Fin 128 → ℝ) : Prop where
  hq : FlashIdeal.Value.qh m c h = fun a x => ((q a x : ℝ) : EReal)
  hk : FlashIdeal.Value.kh m c h = fun a x => ((k a x : ℝ) : EReal)
  hv : FlashIdeal.Value.vh m c h = fun a x => ((v a x : ℝ) : EReal)
  ho : FlashIdeal.Value.oh m c h = fun a x => ((o a x : ℝ) : EReal)
  hq' : FlashRefIdeal.Value.hd (FlashRefIdeal.Value.Qm m' c) h = fun a x => ((q a x : ℝ) : EReal)
  hk' : FlashRefIdeal.Value.hd (FlashRefIdeal.Value.Km m' c) h = fun a x => ((k a x : ℝ) : EReal)
  hv' : FlashRefIdeal.Value.hv (FlashRefIdeal.Value.Vm m' c) h = fun a x => ((v a x : ℝ) : EReal)
  ho' : FlashRefIdeal.Value.hv (FlashRefIdeal.Value.Dm m' c) h = fun a x => ((o a x : ℝ) : EReal)

variable (hs : Same m m' c)
include hs

theorem reals [Cert.Pre_finite_flash.Facts] (hp : Cert.Pre_FlashIdeal_finite_flash m) (h : Fin 8) : ∃ q k v o, Reals m m' c h q k v o := by
  obtain ⟨h0, h1, h2, h3⟩ := finite _ _ _ _ (hp c)
  have e0 : FlashIdeal.Value.qh m c h = _ := funext fun a => funext fun x => (h0 (ValueIdx.ix3 a h x)).choose_spec
  have e1 : FlashIdeal.Value.kh m c h = _ := funext fun a => funext fun x => (h1 (ValueIdx.ix3 a h x)).choose_spec
  have e2 : FlashIdeal.Value.vh m c h = _ := funext fun a => funext fun x => (h2 (ValueIdx.ix3 a h x)).choose_spec
  have e3 : FlashIdeal.Value.oh m c h = _ := funext fun a => funext fun x => (h3 (ValueIdx.ix3 a h x)).choose_spec
  refine ⟨_, _, _, _, e0, e1, e2, e3, ?_, ?_, ?_, ?_⟩
  · unfold FlashRefIdeal.Value.Qm; rw [hs.1]; exact e0
  · unfold FlashRefIdeal.Value.Km; rw [hs.2.1]; exact e1
  · unfold FlashRefIdeal.Value.Vm; rw [hs.2.2.1]; exact e2
  · unfold FlashRefIdeal.Value.Dm; rw [hs.2.2.2]; exact e3

omit hs in
theorem Reals.ds {h q k v o} (r : Reals m m' c h q k v o) (a b : Fin 4112) : FlashRefIdeal.Value.DS m' c (ValueIdx.ix3 h a b) = ((Attn.ds q k v o (Attn.mr q k) a b : ℝ) : EReal) :=
  ref_ds _ _ _ _ h q k v o r.hq' r.hk' r.hv' r.ho' a b

theorem out0_eq [Cert.Pre_finite_flash.Facts] (hp : Cert.Pre_FlashIdeal_finite_flash m) : FlashIdeal.Value.out0 m c = FlashRefIdeal.Value.out0 m' c := by
  have key : ∀ (n : Fin 4224) (z : Fin 2048), FlashIdeal.Value.res6 m c n z = FlashRefIdeal.Value.dq m' c n z := fun n z => by
    obtain ⟨q, k, v, o, r⟩ := reals m m' c hs hp ⟨z.val / 256, by omega⟩
    refine (FlashIdeal.Value.dq_real (head m c _ q k v o r.hq r.hk r.hv r.ho) _ _ (keys m c _ k v r.hk r.hv) n.val n.isLt ⟨z.val % 256, by omega⟩).trans ?_
    unfold FlashRefIdeal.Value.dq
    by_cases g : 112 ≤ n.val ∧ z.val % 256 < 192
    · rw [dif_pos g, dif_pos g, ← Rows.coe_sum]
      refine Finset.sum_congr rfl fun b _ => ?_
      exact (EReal.coe_mul _ _).trans (congrArg₂ (· * ·) (r.ds m m' c _ b) (congrFun (congrFun r.hk' b) ⟨z.val % 256, g.2⟩)).symm
    · rw [dif_neg g, dif_neg g]
  exact funext fun y => key (y 0) (y 1)

theorem out1_eq [Cert.Pre_finite_flash.Facts] (hp : Cert.Pre_FlashIdeal_finite_flash m) : FlashIdeal.Value.out1 m c = FlashRefIdeal.Value.out1 m' c := by
  have key : ∀ (b : Fin 4112) (z : Fin 2048), FlashIdeal.Value.res7 m c ⟨112 + b.val, by omega⟩ z = FlashRefIdeal.Value.dk m' c b z := fun b z => by
    obtain ⟨q, k, v, o, r⟩ := reals m m' c hs hp ⟨z.val / 256, by omega⟩
    refine (FlashIdeal.Value.dk_real (head m c _ q k v o r.hq r.hk r.hv r.ho) (keys m c _ k v r.hk r.hv ⟨(112 + b.val) / 384, by omega⟩) b
      ⟨(112 + b.val) % 384, by omega⟩ ⟨z.val % 256, by omega⟩ (by show 384 * ((112 + b.val) / 384) + (112 + b.val) % 384 = 112 + b.val; omega)).trans ?_
    unfold FlashRefIdeal.Value.dk
    by_cases g : z.val % 256 < 192
    · rw [dif_pos g, dif_pos g, ← Rows.coe_sum]
      refine Finset.sum_congr rfl fun a _ => ?_
      exact (EReal.coe_mul _ _).trans (congrArg₂ (· * ·) (r.ds m m' c a b) (congrFun (congrFun r.hq' a) ⟨z.val % 256, g⟩)).symm
    · rw [dif_neg g, dif_neg g]
  exact funext fun y => key (y 0) (y 1)

theorem out2_eq [Cert.Pre_finite_flash.Facts] (hp : Cert.Pre_FlashIdeal_finite_flash m) : FlashIdeal.Value.out2 m c = FlashRefIdeal.Value.out2 m' c := by
  have key : ∀ (b : Fin 4112) (z : Fin 1024), FlashIdeal.Value.res8 m c ⟨112 + b.val, by omega⟩ z = FlashRefIdeal.Value.dv m' c b z := fun b z => by
    obtain ⟨q, k, v, o, r⟩ := reals m m' c hs hp ⟨z.val / 128, by omega⟩
    refine (FlashIdeal.Value.dv_real (head m c _ q k v o r.hq r.hk r.hv r.ho) (keys m c _ k v r.hk r.hv ⟨(112 + b.val) / 384, by omega⟩) b
      ⟨(112 + b.val) % 384, by omega⟩ ⟨z.val % 128, by omega⟩ (by show 384 * ((112 + b.val) / 384) + (112 + b.val) % 384 = 112 + b.val; omega)).trans ?_
    unfold FlashRefIdeal.Value.dv
    rw [← Rows.coe_sum]
    refine Finset.sum_congr rfl fun a _ => ?_
    rw [ref_p _ _ _ q k r.hq' r.hk', EReal.coe_mul]
    exact congrArg (· * _) (congrFun (congrFun r.ho' a) ⟨z.val % 128, by omega⟩).symm
  exact funext fun y => key (y 0) (y 1)

end Cert.FlashEq

end
-- ==== Proof.GatedKernel.lean ====
/- What the `a_out_proj_bwd` call's four output arrays end holding, index by index, as functions of the arguments. -/
module

public import proofs.«01_k».proof.Proof.Rows
public import proofs.«01_k».proof.Proof.Gen.GatedIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.GatedIdeal.Value

open Cert.GatedIdeal Cert.GatedIdeal.Gen

variable (m : (ℓ : Loc nD τ sig) → Buf (Elt Ideal) ℓ)

theorem idx_val : ∀ t : Fin cfg0.N, win0_0.index t = ![t.val, 0]
    ∧ win0_1.index t = ![t.val, 0]
    ∧ win0_2.index t = ![t.val, 0]
    ∧ win0_3.index t = ![0, 0]
    ∧ win0_4.index t = ![t.val, 0]
    ∧ win0_5.index t = ![t.val, 0]
    ∧ win0_6.index t = ![0, 0]
    ∧ win0_7.index t = ![0, t.val, 0, 0] :=
  (by decide +kernel : ∀ t : Fin grid0.N, _)

/-! ## What the body computes of one block: `g` the gate, `a` the attention, `d` the cotangent, `w` the weight -/

/-- One entry of the attention's gradient, of the gate's, of the gated attention. -/
abbrev kda (dy g : EReal) : EReal := dy * (g * Ideal.logistic g)
abbrev kdg (dy g a : EReal) : EReal := dy * a * (Ideal.logistic g * (1 + g * (1 - Ideal.logistic g)))
abbrev kga (g a : EReal) : EReal := a * (g * Ideal.logistic g)

/-- The gate's sigmoid. -/
theorem sg_blk (g : Vec Ideal S384x1024 .f32) (i : Fin 384) (k : Fin 1024) :
    k0_pay6 (F := Ideal) g (ix2 i k) = Ideal.logistic (g (ix2 i k)) := by
  pointwise [k0_pay6, k0_pay4]
  rw [zero_sub]
  rfl

theorem da_blk (g d : Vec Ideal S384x1024 .f32) (w : Vec Ideal S1024x1024 .bf16) (i : Fin 384) (k : Fin 1024) :
    k0_pay10 g d w (ix2 i k) = kda (∑ n, d (ix2 i n) * w (ix2 k n)) (g (ix2 i k)) := by
  pointwise [k0_pay10, k0_pay9, k0_pay8, k0_pay7, k0_pay4, sg_blk]

theorem dab_blk (g d : Vec Ideal S384x1024 .f32) (w : Vec Ideal S1024x1024 .bf16) (i : Fin 384) (k : Fin 1024) :
    k0_pay11 g d w (ix2 i k) = kda (∑ n, d (ix2 i n) * w (ix2 k n)) (g (ix2 i k)) := by
  pointwise [k0_pay11, da_blk]

theorem dg_blk (g a d : Vec Ideal S384x1024 .f32) (w : Vec Ideal S1024x1024 .bf16) (i : Fin 384) (k : Fin 1024) :
    k0_pay12 g a d w (ix2 i k) = kdg (∑ n, d (ix2 i n) * w (ix2 k n)) (g (ix2 i k)) (a (ix2 i k)) := by
  pointwise [k0_pay12, k0_pay9, k0_pay8, k0_pay5, k0_pay4, sg_blk]

theorem dw_blk (g a d : Vec Ideal S384x1024 .f32) (v : Vec Ideal S1024x1024 .f32) (p q : Fin 1024) :
    k0_pay13 (k0_pay5 a) (k0_pay7 g) (k0_pay8 d) v (ix2 p q)
      = v (ix2 p q) + ∑ i, kga (g (ix2 i p)) (a (ix2 i p)) * d (ix2 i q) := by
  pointwise [k0_pay13, k0_pay8, k0_pay7, k0_pay5, k0_pay4, sg_blk]

theorem zero6 (a b : Fin 1024) : k0_pay3 (F := Ideal) (ix2 a b) = 0 := by
  pointwise [k0_pay3]

/-- A head's row sums of the products of two blocks. -/
def rows (u v : Fin 384 → Fin 1024 → EReal) (h : Fin 8) (i : Fin 384) : EReal :=
  ∑ x : Fin 128, u i ⟨h.val * 128 + x.val, by omega⟩ * v i ⟨h.val * 128 + x.val, by omega⟩

theorem tile0 (u v : FVec Ideal S384x1024 .f32) (a b : Fin 1) (r : Fin 8) (i : Fin 384) :
    k0_pay14 v u (ix4 a b r i) = rows (fun i k => u (ix2 i k)) (fun i k => v (ix2 i k)) 0 i := by
  pointwise [k0_pay14, rows]
theorem tile1 (u v : FVec Ideal S384x1024 .f32) (a b : Fin 1) (r : Fin 8) (i : Fin 384) :
    k0_pay15 v u (ix4 a b r i) = rows (fun i k => u (ix2 i k)) (fun i k => v (ix2 i k)) 1 i := by
  pointwise [k0_pay15, rows]
theorem tile2 (u v : FVec Ideal S384x1024 .f32) (a b : Fin 1) (r : Fin 8) (i : Fin 384) :
    k0_pay17 (k0_pay16 v u) (ix4 a b r i) = rows (fun i k => u (ix2 i k)) (fun i k => v (ix2 i k)) 2 i := by
  pointwise [k0_pay17, k0_pay16, rows]
theorem tile3 (u v : FVec Ideal S384x1024 .f32) (a b : Fin 1) (r : Fin 8) (i : Fin 384) :
    k0_pay18 v u (ix4 a b r i) = rows (fun i k => u (ix2 i k)) (fun i k => v (ix2 i k)) 3 i := by
  pointwise [k0_pay18, rows]
theorem tile4 (u v : FVec Ideal S384x1024 .f32) (a b : Fin 1) (r : Fin 8) (i : Fin 384) :
    k0_pay19 v u (ix4 a b r i) = rows (fun i k => u (ix2 i k)) (fun i k => v (ix2 i k)) 4 i := by
  pointwise [k0_pay19, rows]
theorem tile5 (u v : FVec Ideal S384x1024 .f32) (a b : Fin 1) (r : Fin 8) (i : Fin 384) :
    k0_pay20 v u (ix4 a b r i) = rows (fun i k => u (ix2 i k)) (fun i k => v (ix2 i k)) 5 i := by
  pointwise [k0_pay20, rows]
theorem tile6 (u v : FVec Ideal S384x1024 .f32) (a b : Fin 1) (r : Fin 8) (i : Fin 384) :
    k0_pay1 v (k0_pay21 u) (ix4 a b r i) = rows (fun i k => u (ix2 i k)) (fun i k => v (ix2 i k)) 6 i := by
  pointwise [k0_pay1, k0_pay21, rows]
theorem tile7 (u v : FVec Ideal S384x1024 .f32) (a b : Fin 1) (r : Fin 8) (i : Fin 384) :
    k0_pay2 v u (ix4 a b r i) = rows (fun i k => u (ix2 i k)) (fun i k => v (ix2 i k)) 7 i := by
  pointwise [k0_pay2, rows]

/-- The block of row sums, every head's in eight equal lines. -/
def delBlk (u v : FVec Ideal S384x1024 .f32) : FVec Ideal S8x1x8x384 .f32 :=
  fun y => rows (fun i k => u (ix2 i k)) (fun i k => v (ix2 i k)) (y 0) (y 3)

/-- A tile of one head's row sums is that head's part of the block. -/
theorem del_of (u v : FVec Ideal S384x1024 .f32) (q : FVec Ideal S1x1x8x384 .f32) (h : Fin 8)
    (hq : ∀ a b r i, q (ix4 a b r i) = rows (fun i k => u (ix2 i k)) (fun i k => v (ix2 i k)) h i)
    (y : S8x1x8x384.Idx) (x : S1x1x8x384.Idx) (e0 : (y 0).val = h.val) (e3 : (y 3).val = (x 3).val) : q x = delBlk u v y := by
  have e0' : y 0 = h := Fin.ext e0
  have e3' : y 3 = x 3 := Fin.ext e3
  unfold delBlk
  rw [e0', e3']
  idx_vars x
  exact hq _ _ _ _

/-! ## The operands the host lines prepare -/

/-- The arguments as the body reads them: rows under the 112 rows of padding, and the weight. -/
def D (c : Dev nD) (i : Fin 4224) (k : Fin 1024) : EReal :=
  Cert.Rows.pad 112 (by rfl : 112 + 4112 = 4224) (fun a b => m (c.tc.loc main_arg0) (ix2 a b)) i k
def A (c : Dev nD) (i : Fin 4224) (k : Fin 1024) : EReal :=
  Cert.Rows.pad 112 (by rfl : 112 + 4112 = 4224) (fun a b => m (c.tc.loc main_arg1) (ix2 a b)) i k
def G (c : Dev nD) (i : Fin 4224) (k : Fin 1024) : EReal :=
  Cert.Rows.pad 112 (by rfl : 112 + 4112 = 4224) (fun a b => m (c.tc.loc main_arg2) (ix2 a b)) i k
def W (c : Dev nD) (k n : Fin 1024) : EReal := m (c.tc.loc main_arg3) (ix3 0 k n)
def DY (c : Dev nD) (i : Fin 4224) (k : Fin 1024) : EReal := ∑ n, D m c i n * W m c k n

theorem V_v0 (c : Dev nD) (i : Fin 4224) (k : Fin 1024) : V m c main_v0 (ix2 i k) = D m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg0) (ix2 a b)) i k

theorem V_v1 (c : Dev nD) (i : Fin 4224) (k : Fin 1024) : V m c main_v1 (ix2 i k) = A m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg1) (ix2 a b)) i k

theorem V_v2 (c : Dev nD) (i : Fin 4224) (k : Fin 1024) : V m c main_v2 (ix2 i k) = G m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg2) (ix2 a b)) i k

theorem V_v4 (c : Dev nD) (i k : Fin 1024) : V m c main_v4 (ix2 i k) = W m c i k := by
  simp only [V, List.flatten_cons, List.flatten_nil, List.cons_append, List.nil_append, List.append_nil]
  entry_read
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 1024) : iblk m c 0 t (ix2 i k) = D m c (rowAt t i) k := by
  rw [← V_v0]
  blk_simp [iblk, idx_val t]
  blk_ext [idx_val t]

theorem in1 (c : Dev nD) (t : Fin cfg0.N) (i : Fin 384) (k : Fin 1024) : iblk m c 1 t (ix2 i k) = A m c (rowAt t i) k := by
  rw [← V_v1]
  blk_simp [iblk, idx_val t]
  blk_ext [idx_val t]

theorem in2 (c : Dev nD) (t : Fin cfg0.N) (i : Fin 384) (k : Fin 1024) : iblk m c 2 t (ix2 i k) = G m c (rowAt t i) k := by
  rw [← V_v2]
  blk_simp [iblk, idx_val t]
  blk_ext [idx_val t]

theorem in3 (c : Dev nD) (t : Fin cfg0.N) (i k : Fin 1024) : iblk m c 3 t (ix2 i k) = W m c i k := by
  rw [← V_v4]
  blk_simp [iblk, idx_val t]
  blk_ext [idx_val t]

/-! ## What a point leaves -/

theorem left4 (c : Dev nD) (t : Fin cfg0.N) : (outsAt0 m c t.val t.isLt).1
    = k0_pay11 (iblk m c 2 t) (iblk m c 0 t) (iblk m c 3 t) := by
  by_cases hc : t.val % 11 = 0
  · rw [outsAt0_A m c t hc]
    dsimp only
    frame_out
  · rw [outsAt0_B m c t hc]
    dsimp only
    frame_out

theorem left5 (c : Dev nD) (t : Fin cfg0.N) : (outsAt0 m c t.val t.isLt).2.1
    = k0_pay12 (iblk m c 2 t) (iblk m c 1 t) (iblk m c 0 t) (iblk m c 3 t) := by
  by_cases hc : t.val % 11 = 0
  · rw [outsAt0_A m c t hc]
    dsimp only
    frame_out
  · rw [outsAt0_B m c t hc]
    dsimp only
    frame_out

theorem left6_A (c : Dev nD) (t : Fin cfg0.N) (h : t.val % 11 = 0) : (outsAt0 m c t.val t.isLt).2.2.1
    = k0_pay13 (k0_pay5 (iblk m c 1 t)) (k0_pay7 (iblk m c 2 t)) (k0_pay8 (iblk m c 0 t)) (k0_pay3 (F := Ideal)) := by
  rw [outsAt0_A m c t h]
  dsimp only
  frame_out

theorem left6_B (c : Dev nD) (t : Fin cfg0.N) (h : ¬t.val % 11 = 0) : (outsAt0 m c t.val t.isLt).2.2.1
    = k0_pay13 (k0_pay5 (iblk m c 1 t)) (k0_pay7 (iblk m c 2 t)) (k0_pay8 (iblk m c 0 t))
        (outsAt0 m c (t.val - 1) (Nat.lt_of_le_of_lt (Nat.sub_le _ _) t.isLt)).2.2.1 := by
  rw [outsAt0_B m c t h]
  dsimp only
  frame_out

theorem left7 (c : Dev nD) (t : Fin cfg0.N) : (outsAt0 m c t.val t.isLt).2.2.2
    = delBlk (k0_pay10 (iblk m c 2 t) (iblk m c 0 t) (iblk m c 3 t)) (k0_pay5 (iblk m c 1 t)) := by
  by_cases hc : t.val % 11 = 0
  · rw [outsAt0_A m c t hc]
    dsimp only
    frame_out
    funext y
    canon_tiles x h
    · exact del_of _ _ _ 7 (tile7 _ _) y x (by show (y 0).val = 7; omega) h3
    · exact del_of _ _ _ 6 (tile6 _ _) y x (by show (y 0).val = 6; omega) h3
    · exact del_of _ _ _ 5 (tile5 _ _) y x (by show (y 0).val = 5; omega) h3
    · exact del_of _ _ _ 4 (tile4 _ _) y x (by show (y 0).val = 4; omega) h3
    · exact del_of _ _ _ 3 (tile3 _ _) y x (by show (y 0).val = 3; omega) h3
    · exact del_of _ _ _ 2 (tile2 _ _) y x (by show (y 0).val = 2; omega) h3
    · exact del_of _ _ _ 1 (tile1 _ _) y x (by show (y 0).val = 1; omega) h3
    · exact del_of _ _ _ 0 (tile0 _ _) y x (by show (y 0).val = 0; omega) h3
  · rw [outsAt0_B m c t hc]
    dsimp only
    frame_out
    funext y
    canon_tiles x h
    · exact del_of _ _ _ 7 (tile7 _ _) y x (by show (y 0).val = 7; omega) h3
    · exact del_of _ _ _ 6 (tile6 _ _) y x (by show (y 0).val = 6; omega) h3
    · exact del_of _ _ _ 5 (tile5 _ _) y x (by show (y 0).val = 5; omega) h3
    · exact del_of _ _ _ 4 (tile4 _ _) y x (by show (y 0).val = 4; omega) h3
    · exact del_of _ _ _ 3 (tile3 _ _) y x (by show (y 0).val = 3; omega) h3
    · exact del_of _ _ _ 2 (tile2 _ _) y x (by show (y 0).val = 2; omega) h3
    · exact del_of _ _ _ 1 (tile1 _ _) y x (by show (y 0).val = 1; omega) h3
    · exact del_of _ _ _ 0 (tile0 _ _) y x (by show (y 0).val = 0; omega) h3

/-! ## The arrays -/

/-- The four arrays. -/
def res4 (c : Dev nD) : FVec Ideal S4224x1024 .bf16 := fun y => kda (DY m c (y 0) (y 1)) (G m c (y 0) (y 1))
def res5 (c : Dev nD) : FVec Ideal S4224x1024 .bf16 := fun y => kdg (DY m c (y 0) (y 1)) (G m c (y 0) (y 1)) (A m c (y 0) (y 1))
def res6 (c : Dev nD) : FVec Ideal S1024x1024 .f32 := fun y => ∑ i, kga (G m c i (y 0)) (A m c i (y 0)) * D m c i (y 1)
/-- The row sums of head `h` at row `x` of block `b`. -/
def dl (c : Dev nD) (h : Fin 8) (b : Fin 11) (x : Fin 384) : EReal :=
  rows (fun i k => kda (DY m c ⟨b.val * 384 + i.val, by omega⟩ k) (G m c ⟨b.val * 384 + i.val, by omega⟩ k))
    (fun i k => A m c ⟨b.val * 384 + i.val, by omega⟩ k) h x
def res7 (c : Dev nD) : FVec Ideal S8x11x8x384 .f32 := fun y => dl m c (y 0) (y 1) (y 3)

theorem final_4 (c : Dev nD) : (dats m 0 c).arrAt 4 (cfgs 0).N = res4 m c := by
  refine (dats m 0 c).arrAt_eq_of_covers 4 _ (by decide +kernel) fun t hf y => ?_
  blk_simp; rw [after0_4, left4]
  idx_vars y
  rw [dab_blk]
  simp only [in0, in2, in3]
  refine Eq.trans ?_ (congrArg (res4 m c) (?_ : ix2 (rowAt t y0) y1 = _))
  · rfl
  · blk_ext [idx_val t]

theorem final_5 (c : Dev nD) : (dats m 0 c).arrAt 5 (cfgs 0).N = res5 m c := by
  refine (dats m 0 c).arrAt_eq_of_covers 5 _ (by decide +kernel) fun t hf y => ?_
  blk_simp; rw [after0_5, left5]
  idx_vars y
  rw [dg_blk]
  simp only [in0, in1, in2, in3]
  refine Eq.trans ?_ (congrArg (res5 m c) (?_ : ix2 (rowAt t y0) y1 = _))
  · rfl
  · blk_ext [idx_val t]

theorem final_6 (c : Dev nD) : (dats m 0 c).arrAt 6 (cfgs 0).N = res6 m c := by
  refine (dats m 0 c).arrAt_eq_of_after_last 6 t0_10 (by decide +kernel) _ fun j => ?_
  blk_simp
  rw [after0_6, Pipeline.eq_sum_fin_of_reset_step_apply_last (fun n h => (outsAt0 m c n h).2.2.1) 11 (fun _ => 0)
    (fun t j => ∑ i, kga (G m c (rowAt t i) (j 0)) (A m c (rowAt t i) (j 0)) * D m c (rowAt t i) (j 1))
    (fun t h j => by
      idx_vars j
      rw [left6_A m c t h, dw_blk, zero6]
      simp only [in0, in1, in2])
    (fun t h j => by
      idx_vars j
      rw [left6_B m c t h, dw_blk]
      simp only [in0, in1, in2])
    (le_of_eq N_0) t0_10 rfl j, zero_add]
  exact Fin.sum_mul_add_congr (fun s k hl => rfl)

theorem k5 (a : Vec Ideal S384x1024 .f32) (i : Fin 384) (k : Fin 1024) : k0_pay5 (F := Ideal) a (ix2 i k) = a (ix2 i k) := by
  pointwise [k0_pay5]

theorem final_7 (c : Dev nD) : (dats m 0 c).arrAt 7 (cfgs 0).N = res7 m c := by
  refine (dats m 0 c).arrAt_eq_of_covers 7 _ (by decide +kernel) fun t hf y => ?_
  blk_simp; rw [after0_7, left7]
  idx_vars y
  unfold delBlk
  simp only [da_blk, k5, in0, in1, in2, in3]
  refine Eq.trans ?_ (congrArg (res7 m c) (?_ : ix4 y0 (t : Fin 11) y2 y3 = _))
  · rfl
  · blk_ext [idx_val t]

end Cert.GatedIdeal.Value

end
-- ==== Proof.Gate.lean ====
/- The gate `x * logistic x` and its derivative, on extended reals. -/
module

public import proofs.«01_k».proof.Proof.Rows

@[expose] public section

set_option maxRecDepth 16384

noncomputable section

open Idealize.ShloMosaic
open scoped BigOperators

namespace Cert.Gate

/-- The sigmoid as the kernels write it. -/
def sg (one x : EReal) : EReal := Ideal.div one (one + Ideal.exp (-x))

theorem one_bits : Ideal.ofBits .f32 0x3F800000#32 = 1 := by
  have : Ideal.ofBits .f32 0x3F800000#32 = ((1 : ℝ) : EReal) := by
    simp [Ideal.ofBits, Ideal.ieee, -EReal.coe_mul]; norm_num
  rw [this, EReal.coe_one]

/-- The gate's derivative: the kernels' form against the product rule's, where the cotangent is a real number. -/
theorem dgate_eq (t : ℝ) (x : EReal) :
    (t : EReal) * (Ideal.logistic x * (1 + x * (1 - Ideal.logistic x)))
      = (t : EReal) * Ideal.logistic x + (t : EReal) * x * (Ideal.logistic x * (1 - Ideal.logistic x)) := by
  induction x with
  | bot => simp
  | top =>
    rw [Ideal.logistic_top, show (1 : EReal) - 1 = 0 from by rw [← EReal.coe_one, ← EReal.coe_sub]; simp]
    simp
  | coe x =>
    rw [Ideal.logistic_coe, ← EReal.coe_one]
    simp only [← EReal.coe_mul, ← EReal.coe_sub, ← EReal.coe_add]
    congr 1; ring

end Cert.Gate

end
-- ==== Proof.GatedRef.lean ====
/- What the reference of the attention's gate and output projection, backward, computes, index by index. -/
module

public import proofs.«01_k».proof.Proof.Rows
public import proofs.«01_k».proof.Proof.Gate
public import proofs.«01_k».proof.Proof.Gen.GatedRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.GatedRefIdeal.Value

open Cert.GatedRefIdeal Cert.GatedRefIdeal.Gen

variable (m : (ℓ : Loc nD τ sig) → Buf (Elt Ideal) ℓ)

/-- The sigmoid of every entry. -/
def sgVec (g : FVec Ideal S4112x1024 .f32) : FVec Ideal S4112x1024 .f32 := fun y => Ideal.logistic (g y)

theorem sg_eq (g : FVec Ideal S4112x1024 .f32) : Host.divf (broadcastInDim S4112x1024 ![] bcast_S_S4112x1024 (constant (F := Ideal) S_ .f32 0x3F800000#32)) (addf (φ := .f32) (broadcastInDim S4112x1024 ![] bcast_S_S4112x1024 (constant S_ .f32 0x3F800000#32)) (Host.exp (Host.negf g)))
    = sgVec g := by
  funext y
  idx_vars y
  pointwise [sgVec]
  rfl

/-- The output's cotangent through the projection. -/
def dyVec (d : FVec Ideal S4112x1024 .f32) (w : FVec Ideal S1x1024x1024 .f32) : FVec Ideal S4112x1024 .f32 :=
  fun y => ∑ n : Fin 1024, d (ix2 (y 0) n) * w (ix3 0 (y 1) n)

theorem dy_eq (d : FVec Ideal S4112x1024 .f32) (w : FVec Ideal S1x1024x1024 .f32) :
    Host.dotGeneral (F := Ideal) (φ₁ := .f32) (φ₂ := .f32) dot_S4112x1024_S1024x1024_S4112x1024_1_1_0_0_n_n none d (shapeCast _ w shapeCasts_S1x1024x1024_S1024x1024)
    = dyVec d w := by
  funext y
  idx_vars y
  pointwise [dyVec]

/-- The arguments' entries, and the cotangent through the projection. -/
def D (c : Dev nD) (i : Fin 4112) (k : Fin 1024) : EReal := m (c.tc.loc main_arg0) (ix2 i k)
def A (c : Dev nD) (i : Fin 4112) (k : Fin 1024) : EReal := m (c.tc.loc main_arg1) (ix2 i k)
def G (c : Dev nD) (i : Fin 4112) (k : Fin 1024) : EReal := m (c.tc.loc main_arg2) (ix2 i k)
def DY (c : Dev nD) (i : Fin 4112) (k : Fin 1024) : EReal := dyVec (m (c.tc.loc main_arg0)) (m (c.tc.loc main_arg3)) (ix2 i k)

/-- The two gradients without the padding. -/
def da (c : Dev nD) (i : Fin 4112) (k : Fin 1024) : EReal := DY m c i k * (G m c i k * Ideal.logistic (G m c i k))
def dg (c : Dev nD) (i : Fin 4112) (k : Fin 1024) : EReal :=
  A m c i k * DY m c i k * Ideal.logistic (G m c i k) + G m c i k * (A m c i k * DY m c i k) * (Ideal.logistic (G m c i k) * (1 - Ideal.logistic (G m c i k)))

/-- The row sums of the output times its gradient, head by head. -/
def delta (c : Dev nD) (i : Fin 4112) (h : Fin 8) : EReal := ∑ x : Fin 128, da m c i ⟨h.val * 128 + x.val, by omega⟩ * A m c i ⟨h.val * 128 + x.val, by omega⟩

/-- The four results. -/
def res0 (c : Dev nD) : FVec Ideal S4224x1024 .bf16 := fun y => Cert.Rows.pad 112 (by rfl : 112 + 4112 = 4224) (da m c) (y 0) (y 1)
def res1 (c : Dev nD) : FVec Ideal S4224x1024 .bf16 := fun y => Cert.Rows.pad 112 (by rfl : 112 + 4112 = 4224) (dg m c) (y 0) (y 1)
def res2 (c : Dev nD) : FVec Ideal S1024x1024 .f32 :=
  fun y => ∑ i, D m c i (y 1) * (A m c i (y 0) * (G m c i (y 0) * Ideal.logistic (G m c i (y 0))))
/-- Row `b * 384 + x` of the padded rows, of every one of a head's eight equal lines. -/
def dl (c : Dev nD) (h : Fin 8) (b : Fin 11) (x : Fin 384) : EReal :=
  Cert.Rows.pad 112 (by rfl : 112 + 4112 = 4224) (delta m c) ⟨b.val * 384 + x.val, by omega⟩ h
def res3 (c : Dev nD) : FVec Ideal S8x11x8x384 .f32 := fun y => dl m c (y 0) (y 1) (y 3)

theorem padded (v : FVec Ideal S4112x1024 .f32) (f : Fin 4112 → Fin 1024 → EReal) (h : ∀ i k, v (ix2 i k) = f i k) :
    (truncf .bf16 (pad S4224x1024 ![112, 0] ![0, 0] ![0, 0] v (sitofp (F := Ideal) FTy.f32 (constantI S_ 32 0#32)) pads_S4112x1024_S4224x1024_11200_000 h_S_) bitsLt_bf16_f32 : FVec Ideal S4224x1024 .bf16)
      = fun y => Cert.Rows.pad 112 (by rfl : 112 + 4112 = 4224) f (y 0) (y 1) := by
  funext y
  idx_vars y
  refine Eq.trans ?_ (Cert.Rows.pad_eq 112 (by rfl : 112 + 4112 = 4224) f y0 y1)
  pointwise
  simp only [h]

theorem run_res (ρ : Dev nD → PrngReg) :
    θ_run defs (onTc (τ := τ) (main (F := Ideal))) ⟨m, fun _ => 0, ρ⟩ fun r => ∀ c : Dev nD,
      r.2.mem ((c.tc : Thread nD τ).loc main_v15) = res0 m c
      ∧ r.2.mem ((c.tc : Thread nD τ).loc main_v17) = res1 m c
      ∧ r.2.mem ((c.tc : Thread nD τ).loc main_v18) = res2 m c
      ∧ r.2.mem ((c.tc : Thread nD τ).loc main_v22) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2.1.trans ?_, (h c).2.2.1.trans ?_, (h c).2.2.2.1.trans ?_, (h c).2.2.2.2⟩) (run m ρ)
  · rw [sg_eq, dy_eq]
    refine padded _ _ fun i k => ?_
    pointwise [da, DY, G, sgVec]
  · rw [sg_eq, dy_eq]
    refine padded _ _ fun i k => ?_
    pointwise [dg, DY, G, A, sgVec, Cert.Gate.one_bits]
  · rw [sg_eq]
    funext y
    idx_vars y
    pointwise [res2, D, G, A, sgVec]
  · rw [sg_eq, dy_eq]
    funext y
    idx_vars y
    refine Eq.trans ?_ (Cert.Rows.pad_eq 112 (by rfl : 112 + 4112 = 4224) (delta m c) ⟨y1.val * 384 + y3.val, by omega⟩ y0)
    pointwise [delta, da, DY, G, A, sgVec]

end Cert.GatedRefIdeal.Value

end
-- ==== Proof.GatedEq.lean ====
/- The backward call of the attention's gate and output projection: the kernel's four results are the reference's, the
   gate's gradient where the arguments the precondition names are finite. -/
module

public import proofs.«01_k».proof.Proof.GatedKernel
public import proofs.«01_k».proof.Proof.GatedRef
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.GatedEq

/-- The precondition's shape relations. -/
theorem pre_facts : Cert.Pre_finite_gated.Facts where
  bcast_S_S4112x1024 := by decide
  reducesTo_S4112x1024_S_d0_1 := by decide
  h_S_ := by decide
  bcast_S_S1x1024x1024 := by decide
  reducesTo_S1x1024x1024_S_d0_1_2 := by decide

open Cert.Pre_finite_gated in
/-- What the precondition says. -/
theorem finite [Facts] (a0 a1 a2 : FVec Ideal S4112x1024 .f32) (a3 : FVec Ideal S1x1024x1024 .f32)
    (h : fn (F := Ideal) a0 a1 a2 a3 = fun _ => 1#1) :
    (∀ i, ∃ r : ℝ, a0 i = (r : EReal)) ∧ (∀ i, ∃ r : ℝ, a1 i = (r : EReal)) ∧ ∀ i, ∃ r : ℝ, a3 i = (r : EReal) := by
  have e := congrFun h ValueIdx.ix0
  obtain ⟨e, e3⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e3⟩

open Cert.GatedIdeal.Value (kda kdg kga rows)

variable (m : (ℓ : Loc Cert.GatedIdeal.nD Cert.GatedIdeal.τ Cert.GatedIdeal.sig) → Buf (Elt Ideal) ℓ)
  (m' : (ℓ : Loc Cert.GatedRefIdeal.nD Cert.GatedRefIdeal.τ Cert.GatedRefIdeal.sig) → Buf (Elt Ideal) ℓ)
  (c : Dev Cert.GatedIdeal.nD)

/-- The two memories hold the same arguments. -/
def Same : Prop :=
  m' (c.tc.loc Cert.GatedRefIdeal.main_arg0) = m (c.tc.loc Cert.GatedIdeal.main_arg0)
  ∧ m' (c.tc.loc Cert.GatedRefIdeal.main_arg1) = m (c.tc.loc Cert.GatedIdeal.main_arg1)
  ∧ m' (c.tc.loc Cert.GatedRefIdeal.main_arg2) = m (c.tc.loc Cert.GatedIdeal.main_arg2)
  ∧ m' (c.tc.loc Cert.GatedRefIdeal.main_arg3) = m (c.tc.loc Cert.GatedIdeal.main_arg3)

variable (hs : Same m m' c)
include hs

theorem D_eq (i : Fin 4224) (k : Fin 1024) :
    GatedIdeal.Value.D m c i k = Cert.Rows.pad 112 (by rfl : 112 + 4112 = 4224) (GatedRefIdeal.Value.D m' c) i k := by
  unfold GatedRefIdeal.Value.D; rw [hs.1]; rfl

theorem A_eq (i : Fin 4224) (k : Fin 1024) :
    GatedIdeal.Value.A m c i k = Cert.Rows.pad 112 (by rfl : 112 + 4112 = 4224) (GatedRefIdeal.Value.A m' c) i k := by
  unfold GatedRefIdeal.Value.A; rw [hs.2.1]; rfl

theorem G_eq (i : Fin 4224) (k : Fin 1024) :
    GatedIdeal.Value.G m c i k = Cert.Rows.pad 112 (by rfl : 112 + 4112 = 4224) (GatedRefIdeal.Value.G m' c) i k := by
  unfold GatedRefIdeal.Value.G; rw [hs.2.2.1]; rfl

theorem DY_eq (i : Fin 4224) (k : Fin 1024) :
    GatedIdeal.Value.DY m c i k = Cert.Rows.pad 112 (by rfl : 112 + 4112 = 4224) (GatedRefIdeal.Value.DY m' c) i k := by
  unfold GatedIdeal.Value.DY
  simp only [D_eq m m' c hs]
  rw [Cert.Rows.sum_mul_pad]
  congr 1
  funext t k
  unfold GatedRefIdeal.Value.DY GatedRefIdeal.Value.dyVec
  rw [hs.2.2.2]
  rfl

theorem da_eq (i : Fin 4224) (k : Fin 1024) : kda (GatedIdeal.Value.DY m c i k) (GatedIdeal.Value.G m c i k)
    = Cert.Rows.pad 112 (by rfl : 112 + 4112 = 4224) (GatedRefIdeal.Value.da m' c) i k := by
  rw [DY_eq m m' c hs, G_eq m m' c hs]
  rcases Cert.Rows.row_cases (by rfl : 112 + 4112 = 4224) i with h | ⟨t, h, rfl⟩
  · rw [Cert.Rows.pad_lo _ h, Cert.Rows.pad_lo (a := GatedRefIdeal.Value.da m' c) _ h]
    exact zero_mul _
  · simp only [Cert.Rows.pad_hi]
    rfl

theorem res4_eq : GatedIdeal.Value.res4 m c = GatedRefIdeal.Value.res0 m' c :=
  funext fun y => da_eq m m' c hs (y 0) (y 1)

theorem dw_eq (a b : Fin 1024) :
    (∑ i, kga (GatedIdeal.Value.G m c i a) (GatedIdeal.Value.A m c i a) * GatedIdeal.Value.D m c i b)
      = ∑ i, GatedRefIdeal.Value.D m' c i b * (GatedRefIdeal.Value.A m' c i a
          * (GatedRefIdeal.Value.G m' c i a * Ideal.logistic (GatedRefIdeal.Value.G m' c i a))) := by
  simp only [D_eq m m' c hs, A_eq m m' c hs, G_eq m m' c hs]
  refine Cert.Rows.sum_pad (p := 112) (T := 4112) (by rfl) _ _ (fun i h => ?_) fun t h => ?_
  · rw [Cert.Rows.pad_lo (a := GatedRefIdeal.Value.D m' c) _ h, mul_zero]
  · simp only [Cert.Rows.pad_hi]
    exact mul_comm _ _

theorem res6_eq : GatedIdeal.Value.res6 m c = GatedRefIdeal.Value.res2 m' c :=
  funext fun y => dw_eq m m' c hs (y 0) (y 1)

theorem dl_eq (h : Fin 8) (b : Fin 11) (x : Fin 384) : GatedIdeal.Value.dl m c h b x = GatedRefIdeal.Value.dl m' c h b x := by
  unfold GatedIdeal.Value.dl GatedRefIdeal.Value.dl GatedIdeal.Value.rows
  simp only [da_eq m m' c hs, A_eq m m' c hs]
  generalize (⟨b.val * 384 + x.val, _⟩ : Fin 4224) = i
  rcases Cert.Rows.row_cases (by rfl : 112 + 4112 = 4224) i with h | ⟨t, h, rfl⟩
  · rw [Cert.Rows.pad_lo (a := GatedRefIdeal.Value.delta m' c) _ h, Finset.sum_eq_zero fun n _ => by rw [Cert.Rows.pad_lo _ h, zero_mul]]
  · simp only [Cert.Rows.pad_hi]
    rfl

theorem res7_eq : GatedIdeal.Value.res7 m c = GatedRefIdeal.Value.res3 m' c :=
  funext fun y => dl_eq m m' c hs (y 0) (y 1) (y 3)

theorem dg_eq [Cert.Pre_finite_gated.Facts] (hp : Cert.Pre_GatedIdeal_finite_gated m) (i : Fin 4224) (k : Fin 1024) :
    kdg (GatedIdeal.Value.DY m c i k) (GatedIdeal.Value.G m c i k) (GatedIdeal.Value.A m c i k)
      = Cert.Rows.pad 112 (by rfl : 112 + 4112 = 4224) (GatedRefIdeal.Value.dg m' c) i k := by
  obtain ⟨h0, h1, h3⟩ := finite _ _ _ _ (hp c)
  rw [DY_eq m m' c hs, G_eq m m' c hs, A_eq m m' c hs]
  rcases Cert.Rows.row_cases (by rfl : 112 + 4112 = 4224) i with h | ⟨t, h, rfl⟩
  · rw [Cert.Rows.pad_lo (a := GatedRefIdeal.Value.DY m' c) _ h, Cert.Rows.pad_lo (a := GatedRefIdeal.Value.dg m' c) _ h]
    show 0 * _ * _ = (0 : EReal)
    rw [zero_mul, zero_mul]
  · simp only [Cert.Rows.pad_hi]
    obtain ⟨a, ha⟩ : ∃ r : ℝ, GatedRefIdeal.Value.A m' c t k = (r : EReal) := by
      unfold GatedRefIdeal.Value.A; rw [hs.2.1]; exact h1 _
    obtain ⟨d, hd⟩ : ∃ r : ℝ, GatedRefIdeal.Value.DY m' c t k = (r : EReal) := by
      unfold GatedRefIdeal.Value.DY GatedRefIdeal.Value.dyVec
      rw [hs.1, hs.2.2.2]
      exact Cert.Rows.real_sum_mul (fun n : Fin 1024 => h0 (ValueIdx.ix2 t n)) (fun n : Fin 1024 => h3 (ValueIdx.ix3 0 k n))
    unfold kdg GatedRefIdeal.Value.dg
    rw [ha, hd, mul_comm (d : EReal), mul_comm (GatedRefIdeal.Value.G m' c t k) (_ * _), ← EReal.coe_mul]
    exact Cert.Gate.dgate_eq _ _

theorem res5_eq [Cert.Pre_finite_gated.Facts] (hp : Cert.Pre_GatedIdeal_finite_gated m) :
    GatedIdeal.Value.res5 m c = GatedRefIdeal.Value.res1 m' c :=
  funext fun y => dg_eq m m' c hs hp (y 0) (y 1)

end Cert.GatedEq

end
-- ==== Proof.Wide.lean ====
/- The attention input projection's 1728 columns, as the reference has them and as the kernel has them: with the 64 columns
   of the shared rotary key widened to 128 by columns of zeros. -/
module

public import proofs.«01_k».proof.Proof.Rows

@[expose] public section

set_option maxRecDepth 16384

noncomputable section

open Idealize.ShloMosaic
open scoped BigOperators

namespace Cert.Wide

/-- Entries at equal places are equal. -/
theorem at_eq {α : Type*} {N : ℕ} (f : Fin N → α) {a b : ℕ} {ha : a < N} {hb : b < N} (e : a = b) : f ⟨a, ha⟩ = f ⟨b, hb⟩ := by
  subst e; rfl

/-- Four runs of columns side by side. -/
def cat (a : Fin 384 → EReal) (b : Fin 256 → EReal) (r : Fin 64 → EReal) (g : Fin 1024 → EReal) (n : Fin 1728) : EReal :=
  if h : n.val < 384 then a ⟨n.val, h⟩ else if h : n.val < 640 then b ⟨n.val - 384, by omega⟩
    else if h : n.val < 704 then r ⟨n.val - 640, by omega⟩ else g ⟨n.val - 704, by omega⟩

/-- The columns with 64 zeros behind the first 704. -/
def wide (f : Fin 1728 → EReal) (n : Fin 1792) : EReal :=
  if h : n.val < 704 then f ⟨n.val, by omega⟩ else if h : n.val < 768 then 0 else f ⟨n.val - 64, by omega⟩

/-- `cat` as the operation that puts arrays side by side states it. -/
theorem cat_sub (a : Fin 384 → EReal) (b : Fin 256 → EReal) (r : Fin 64 → EReal) (g : Fin 1024 → EReal) (n : Fin 1728) :
    (if h : n.val < 384 then a ⟨n.val, h⟩ else if h : n.val - 384 < 256 then b ⟨n.val - 384, h⟩
      else if h : n.val - 384 - 256 < 64 then r ⟨n.val - 384 - 256, h⟩ else g ⟨n.val - 384 - 256 - 64, by omega⟩) = cat a b r g n := by
  unfold cat
  split_ifs <;> first
    | rfl
    | omega
    | exact at_eq _ (by omega)

/-- `wide` as the operation that puts arrays side by side states it. -/
theorem wide_sub (f : Fin 1728 → EReal) (n : Fin 1792) :
    (if h : n.val < 704 then f ⟨n.val, by omega⟩ else if _h : n.val - 704 < 64 then 0 else f ⟨704 + (n.val - 704 - 64), by omega⟩) = wide f n := by
  unfold wide
  split_ifs <;> first
    | rfl
    | omega
    | exact at_eq _ (by omega)

/-- Rows under 112 rows of zeros with columns of zeros behind, as a host program's padding with a zero converted from an
    integer states it. -/
theorem pad_cols (f : Fin 4112 → Fin 64 → EReal) (i : Fin 4224) (k : Fin 128) :
    (if h : (112 ≤ i.val ∧ i.val - 112 < 4112) ∧ k.val < 64 then f ⟨i.val - 112, h.1.2⟩ ⟨k.val, h.2⟩ else FloatOps.sitofp (F := Ideal) FTy.f32 0#32)
      = Cert.Rows.pad 112 (by rfl : 112 + 4112 = 4224) (fun a (b : Fin 128) => if h : b.val < 64 then f a ⟨b.val, h⟩ else 0) i k := by
  have z : FloatOps.sitofp (F := Ideal) FTy.f32 0#32 = (0 : EReal) := by
    show (((0#32 : BitVec 32).toInt : ℝ) : EReal) = 0
    simp
  have hi := i.isLt
  unfold Cert.Rows.pad
  rw [z]
  dsimp only
  split_ifs <;> first
    | rfl
    | omega

/-- A sum over the widened columns is the sum over the columns. -/
theorem sum_wide (f g : Fin 1728 → EReal) : ∑ n, wide f n * wide g n = ∑ n, f n * g n := by
  have e1 : ∑ n : Fin 1792, wide f n * wide g n = ∑ n : Fin ((704 + 64) + 1024), wide f n * wide g n := rfl
  have e2 : ∑ n : Fin 1728, f n * g n = ∑ n : Fin (704 + 1024), f n * g n := rfl
  rw [e1, e2, Fin.sum_univ_add, Fin.sum_univ_add, Fin.sum_univ_add, Finset.sum_eq_zero (f := fun i : Fin 64 => _) fun i _ => ?_, add_zero]
  · refine congrArg₂ (· + ·) (Finset.sum_congr rfl fun i _ => ?_) (Finset.sum_congr rfl fun i _ => ?_)
    · have h : i.val < 704 := i.isLt
      have w : ∀ f : Fin 1728 → EReal, wide f (Fin.castAdd 1024 (Fin.castAdd 64 i)) = f (Fin.castAdd 1024 i) := fun f => dif_pos h
      rw [w, w]
    · have w : ∀ f : Fin 1728 → EReal, wide f (Fin.natAdd (704 + 64) i) = f (Fin.natAdd 704 i) := fun f => by
        refine (dif_neg (by show ¬(704 + 64 + i.val < 704); omega)).trans ((dif_neg (by show ¬(704 + 64 + i.val < 768); omega)).trans ?_)
        exact congrArg f (Fin.ext (by show 704 + 64 + i.val - 64 = 704 + i.val; omega))
      rw [w, w]
  · have w : wide f (Fin.castAdd 1024 (Fin.natAdd 704 i)) = 0 :=
      (dif_neg (by show ¬(704 + i.val < 704); omega)).trans (dif_pos (by show 704 + i.val < 768; omega))
    rw [w, zero_mul]

end Cert.Wide

end
-- ==== Proof.Rope.lean ====
/- The rotary embedding's gradient: the kernels turn a head's last 128 lanes back by rotating them against a table of sines
   with signs, the derivative pairs the two halves of the 64 rotary columns. Both as functions of one row, and that they agree.
   Then the eight heads' columns, 192 as the reference has them and 256 as the kernels have them. -/
module

public import proofs.«01_k».proof.Proof.Wide
public import Idealize.ShloMosaic.Lib.Pipeline.ValueKit

@[expose] public section

set_option maxRecDepth 16384

noncomputable section

open Idealize.ShloMosaic
open scoped BigOperators

namespace Cert.Rope

/-- The frequency of pair `k`, the angle at position `t`, and the angle at padded row `i` (112 rows of padding). -/
def freq (k : Fin 32) : EReal :=
  Ideal.pow (Ideal.ofBits .f32 0x461C4000#32)
    (Ideal.div (-FloatOps.sitofp (F := Ideal) FTy.f32 (IntOp.addi (0#32) (IntOp.muli (2#32) (BitVec.ofNat 32 k.val)))) (Ideal.ofBits .f32 0x42800000#32))
def ang (t : ℕ) (k : Fin 32) : EReal := FloatOps.sitofp (F := Ideal) FTy.f32 (BitVec.ofNat 32 t) * freq k
def angPad (i : ℕ) (k : Fin 32) : EReal :=
  (FloatOps.sitofp (F := Ideal) FTy.f32 (BitVec.ofNat 32 i) - Ideal.ofBits .f32 0x42E00000#32) * freq k

theorem sitofp_nat {n : ℕ} (h : n < 4224) : FloatOps.sitofp (F := Ideal) FTy.f32 (BitVec.ofNat 32 n) = ((n : ℝ) : EReal) := by
  have e : (BitVec.ofNat 32 n).toInt = (n : ℤ) := by
    simp only [BitVec.toInt, BitVec.toNat_ofNat]
    rw [Nat.mod_eq_of_lt (by omega), if_pos (by omega)]
  show (((BitVec.ofNat 32 n).toInt : ℝ) : EReal) = _
  rw [e]; norm_num

theorem n112 : Ideal.ofBits .f32 0x42E00000#32 = ((112 : ℝ) : EReal) := by
  simp [Ideal.ofBits, Ideal.ieee, -EReal.coe_mul]; norm_num

/-- Behind the padding the two angles agree. -/
theorem angPad_eq {i : ℕ} (h : 112 ≤ i) (hi : i < 4224) (k : Fin 32) : angPad i k = ang (i - 112) k := by
  unfold angPad ang
  rw [sitofp_nat hi, sitofp_nat (by omega : i - 112 < 4224), n112, ← EReal.coe_sub]
  congr 2
  push_cast [Nat.cast_sub h]
  ring

/-- An angle is a real number, and so are its cosine and its sine. -/
theorem ang_real (t : ℕ) (k : Fin 32) : ∃ r : ℝ, ang t k = (r : EReal) := by
  obtain ⟨f, hf⟩ : ∃ r : ℝ, freq k = (r : EReal) := by
    have h1 : ∃ r : ℝ, Ideal.ofBits .f32 0x461C4000#32 = (r : EReal) := ⟨_, by simp [Ideal.ofBits, Ideal.ieee, -EReal.coe_mul]; rfl⟩
    have h2 : Ideal.ofBits .f32 0x42800000#32 = ((64 : ℝ) : EReal) := by simp [Ideal.ofBits, Ideal.ieee, -EReal.coe_mul]; norm_num
    obtain ⟨b, hb⟩ := h1
    unfold freq
    rw [hb, h2, Ideal.div_coe (by norm_num)]
    generalize IntOp.addi (0#32) (IntOp.muli (2#32) (BitVec.ofNat 32 k.val)) = v
    have hv : FloatOps.sitofp (F := Ideal) FTy.f32 v = (((v.toInt : ℝ)) : EReal) := rfl
    rw [hv, ← EReal.coe_neg, ← EReal.coe_mul]
    exact ⟨_, rfl⟩
  unfold ang
  have hv : FloatOps.sitofp (F := Ideal) FTy.f32 (BitVec.ofNat 32 t) = ((((BitVec.ofNat 32 t).toInt : ℝ)) : EReal) := rfl
  rw [hf, hv, ← EReal.coe_mul]
  exact ⟨_, rfl⟩

theorem cos_real (t : ℕ) (k : Fin 32) : ∃ r : ℝ, Ideal.cos (ang t k) = (r : EReal) := by
  obtain ⟨r, h⟩ := ang_real t k
  rw [h]; exact ⟨_, rfl⟩

theorem sin_real (t : ℕ) (k : Fin 32) : ∃ r : ℝ, Ideal.sin (ang t k) = (r : EReal) := by
  obtain ⟨r, h⟩ := ang_real t k
  rw [h]; exact ⟨_, rfl⟩

/-- The tables' rows: the cosines twice and zeros; the sines negated, the sines, and zeros. -/
def cosTab (i : ℕ) (l : Fin 128) : EReal :=
  if h : l.val < 32 then Ideal.cos (angPad i ⟨l.val, h⟩) else if h : l.val - 32 < 32 then Ideal.cos (angPad i ⟨l.val - 32, h⟩) else 0
def sinTab (i : ℕ) (l : Fin 128) : EReal :=
  if h : l.val < 32 then -Ideal.sin (angPad i ⟨l.val, h⟩) else if h : l.val - 32 < 32 then Ideal.sin (angPad i ⟨l.val - 32, h⟩) else 0

/-- The kernels' way of one row of 128 lanes: the products with the sines turned by 32 lanes either way. -/
def unr (d cs sn : Fin 128 → EReal) (l : Fin 128) : EReal :=
  if l.val < 64 then d l * cs l
    + (if l.val < 32 then d ⟨(l.val + 128 - 96) % 128, Nat.mod_lt _ (by omega)⟩ * sn ⟨(l.val + 128 - 96) % 128, Nat.mod_lt _ (by omega)⟩
      else d ⟨(l.val + 128 - 32) % 128, Nat.mod_lt _ (by omega)⟩ * sn ⟨(l.val + 128 - 32) % 128, Nat.mod_lt _ (by omega)⟩) else 0

theorem lt64 : ∀ l : Fin 128, IntOp.cmpi CmpIPredicate.slt (BitVec.ofNat 32 l.val) 64#32 = if l.val < 64 then 1#1 else 0#1 := by decide +kernel
theorem lt32 : ∀ l : Fin 128, IntOp.cmpi CmpIPredicate.slt (BitVec.ofNat 32 l.val) 32#32 = if l.val < 32 then 1#1 else 0#1 := by decide +kernel

/-- `unr` as the kernels state it, by selections. -/
theorem unr_eq (d cs sn : Fin 128 → EReal) (l : Fin 128) :
    Scalar.select (IntOp.cmpi CmpIPredicate.slt (BitVec.ofNat 32 l.val) 64#32)
      (d l * cs l + Scalar.select (IntOp.cmpi CmpIPredicate.slt (BitVec.ofNat 32 l.val) 32#32)
          (d ⟨(l.val + 128 - 96) % 128, Nat.mod_lt _ (by omega)⟩ * sn ⟨(l.val + 128 - 96) % 128, Nat.mod_lt _ (by omega)⟩)
          (d ⟨(l.val + 128 - 32) % 128, Nat.mod_lt _ (by omega)⟩ * sn ⟨(l.val + 128 - 32) % 128, Nat.mod_lt _ (by omega)⟩)) 0 = unr d cs sn l := by
  rw [lt64, lt32]
  unfold unr
  split_ifs <;> rfl

/-- The derivative's way: the gradient of a head's 192 columns before the rotation, from the gradient after it. -/
def back (q : Fin 192 → EReal) (t : ℕ) (l : Fin 192) : EReal :=
  if h : l.val < 128 then q l
    else if h2 : l.val < 160 then q ⟨l.val + 32, by omega⟩ * Ideal.sin (ang t ⟨l.val - 128, by omega⟩) + q l * Ideal.cos (ang t ⟨l.val - 128, by omega⟩)
      else q l * Ideal.cos (ang t ⟨l.val - 160, by omega⟩) + -q ⟨l.val - 32, by omega⟩ * Ideal.sin (ang t ⟨l.val - 160, by omega⟩)

/-- Behind the padding the kernels' way gives the derivative's, on the rotary columns widened by zeros. -/
theorem unr_back (q : Fin 192 → EReal) {i : ℕ} (h : 112 ≤ i) (hi : i < 4224) (l : Fin 128) :
    unr (fun k => if h : k.val < 64 then q ⟨128 + k.val, by omega⟩ else 0) (cosTab i) (sinTab i) l
      = if h : l.val < 64 then back q (i - 112) ⟨128 + l.val, by omega⟩ else 0 := by
  have hd : ∀ k : Fin 128, ∀ hk : k.val < 64, (fun k : Fin 128 => if h : k.val < 64 then q ⟨128 + k.val, by omega⟩ else 0) k = q ⟨128 + k.val, by omega⟩ :=
    fun k hk => dif_pos hk
  have lo : ∀ (f g : Fin 32 → EReal) (z : EReal) (k : Fin 128) (hk : k.val < 32),
      (if h : k.val < 32 then f ⟨k.val, h⟩ else if h : k.val - 32 < 32 then g ⟨k.val - 32, h⟩ else z) = f ⟨k.val, hk⟩ := fun f g z k hk => dif_pos hk
  have hi' : ∀ (f g : Fin 32 → EReal) (z : EReal) (k : Fin 128) (hk : ¬k.val < 32) (hk2 : k.val - 32 < 32),
      (if h : k.val < 32 then f ⟨k.val, h⟩ else if h : k.val - 32 < 32 then g ⟨k.val - 32, h⟩ else z) = g ⟨k.val - 32, hk2⟩ :=
    fun f g z k hk hk2 => (dif_neg hk).trans (dif_pos hk2)
  by_cases h1 : l.val < 64
  · refine (if_pos h1).trans (Eq.trans ?_ (dif_pos h1).symm)
    rw [hd l h1]
    by_cases h2 : l.val < 32
    · rw [if_pos h2, hd _ (by show (l.val + 128 - 96) % 128 < 64; omega)]
      unfold back
      rw [dif_neg (by show ¬(128 + l.val < 128); omega), dif_pos (by show 128 + l.val < 160; omega)]
      unfold cosTab sinTab
      rw [lo (fun k => Ideal.cos (angPad i k)) (fun k => Ideal.cos (angPad i k)) 0 l h2,
        hi' (fun k => -Ideal.sin (angPad i k)) (fun k => Ideal.sin (angPad i k)) 0 _ (by show ¬((l.val + 128 - 96) % 128 < 32); omega)
          (by show (l.val + 128 - 96) % 128 - 32 < 32; omega), angPad_eq h hi, angPad_eq h hi, add_comm]
      have e1 : (⟨(l.val + 128 - 96) % 128 - 32, by omega⟩ : Fin 32) = ⟨l.val, h2⟩ := Fin.ext (by show (l.val + 128 - 96) % 128 - 32 = l.val; omega)
      have e2 : (⟨128 + l.val - 128, by omega⟩ : Fin 32) = ⟨l.val, h2⟩ := Fin.ext (by show 128 + l.val - 128 = l.val; omega)
      have e3 : (⟨128 + (l.val + 128 - 96) % 128, by omega⟩ : Fin 192) = ⟨128 + l.val + 32, by omega⟩ := Fin.ext (by show 128 + (l.val + 128 - 96) % 128 = 128 + l.val + 32; omega)
      simp only [e1, e2, e3]
    · rw [if_neg h2, hd _ (by show (l.val + 128 - 32) % 128 < 64; omega)]
      unfold back
      rw [dif_neg (by show ¬(128 + l.val < 128); omega), dif_neg (by show ¬(128 + l.val < 160); omega)]
      unfold cosTab sinTab
      rw [hi' (fun k => Ideal.cos (angPad i k)) (fun k => Ideal.cos (angPad i k)) 0 l h2 (by omega),
        lo (fun k => -Ideal.sin (angPad i k)) (fun k => Ideal.sin (angPad i k)) 0 _ (by show (l.val + 128 - 32) % 128 < 32; omega),
        angPad_eq h hi, angPad_eq h hi, mul_neg, ← neg_mul]
      have e1 : (⟨(l.val + 128 - 32) % 128, by omega⟩ : Fin 32) = ⟨l.val - 32, by omega⟩ := Fin.ext (by show (l.val + 128 - 32) % 128 = l.val - 32; omega)
      have e2 : (⟨128 + l.val - 160, by omega⟩ : Fin 32) = ⟨l.val - 32, by omega⟩ := Fin.ext (by show 128 + l.val - 160 = l.val - 32; omega)
      have e3 : (⟨128 + (l.val + 128 - 32) % 128, by omega⟩ : Fin 192) = ⟨128 + l.val - 32, by omega⟩ := Fin.ext (by show 128 + (l.val + 128 - 32) % 128 = 128 + l.val - 32; omega)
      simp only [e1, e2, e3]
  · unfold unr
    rw [if_neg h1, dif_neg h1]

theorem unr_zero (cs sn : Fin 128 → EReal) (l : Fin 128) : unr (fun _ => 0) cs sn l = 0 := by
  unfold unr
  simp

theorem back_real {q : Fin 192 → EReal} (hq : ∀ l, ∃ r : ℝ, q l = (r : EReal)) (t : ℕ) (l : Fin 192) : ∃ r : ℝ, back q t l = (r : EReal) := by
  obtain ⟨q', rfl⟩ := Cert.Rows.exists_real_fun hq
  unfold back
  split_ifs with h1 h2
  · exact ⟨_, rfl⟩
  · obtain ⟨a, ha⟩ := sin_real t ⟨l.val - 128, by omega⟩
    obtain ⟨b, hb⟩ := cos_real t ⟨l.val - 128, by omega⟩
    rw [ha, hb]
    exact ⟨_, by rw [← EReal.coe_mul, ← EReal.coe_mul, ← EReal.coe_add]⟩
  · obtain ⟨a, ha⟩ := sin_real t ⟨l.val - 160, by omega⟩
    obtain ⟨b, hb⟩ := cos_real t ⟨l.val - 160, by omega⟩
    rw [ha, hb]
    exact ⟨_, by rw [← EReal.coe_neg, ← EReal.coe_mul, ← EReal.coe_mul, ← EReal.coe_add]⟩

/-! ## The heads' columns -/

/-- A column's entry of eight heads of 192 columns, and the columns with 64 zeros behind each head's. -/
def heads (f : Fin 8 → Fin 192 → EReal) (n : Fin 1536) : EReal := f ⟨n.val / 192, by omega⟩ ⟨n.val % 192, by omega⟩
def wide (f : Fin 1536 → EReal) (n : Fin 2048) : EReal := if h : n.val % 256 < 192 then f ⟨n.val / 256 * 192 + n.val % 256, by omega⟩ else 0

theorem wide_heads (f : Fin 8 → Fin 192 → EReal) (n : Fin 2048) :
    wide (heads f) n = if h : n.val % 256 < 192 then f ⟨n.val / 256, by omega⟩ ⟨n.val % 256, h⟩ else 0 := by
  unfold wide heads
  split_ifs with h
  · exact congrArg₂ f (Fin.ext (by show (n.val / 256 * 192 + n.val % 256) / 192 = n.val / 256; omega))
      (Fin.ext (by show (n.val / 256 * 192 + n.val % 256) % 192 = n.val % 256; omega))
  · rfl

/-- `wide` as a host program's padding with a zero converted from an integer states it. -/
theorem wide_pad (z : EReal) (hz : z = 0) (f : Fin 1536 → EReal) (n : Fin 2048) :
    (if h : n.val / 256 < 8 ∧ n.val % 256 < 192 then f ⟨n.val / 256 * 192 + n.val % 256, by omega⟩ else z) = wide f n := by
  unfold wide
  split_ifs <;> first
    | rfl
    | omega
    | exact hz

theorem zero_f32 : FloatOps.sitofp (F := Ideal) FTy.f32 0#32 = (0 : EReal) := by
  show (((0#32 : BitVec 32).toInt : ℝ) : EReal) = 0
  simp
theorem zero_bf16 : FloatOps.sitofp (F := Ideal) FTy.bf16 0#32 = (0 : EReal) := by
  show (((0#32 : BitVec 32).toInt : ℝ) : EReal) = 0
  simp

/-- The derivative's way as a host program states it: the columns before the rotary ones and the two halves of those, each padded. -/
theorem heads_back (q : Fin 8 → Fin 192 → EReal) (t : ℕ) (n : Fin 1536) :
    (if h : n.val / 192 < 8 ∧ n.val % 192 < 128 then q ⟨n.val / 192, h.1⟩ ⟨n.val % 192, by omega⟩ else 0)
      + (if h : n.val / 192 < 8 ∧ 128 ≤ n.val % 192 ∧ n.val % 192 - 128 < 64 then
          (if h1 : n.val % 192 - 128 < 32 then
            q ⟨n.val / 192, h.1⟩ ⟨128 + (32 + (n.val % 192 - 128)), by omega⟩ * Ideal.sin (ang t ⟨n.val % 192 - 128, h1⟩)
              + q ⟨n.val / 192, h.1⟩ ⟨128 + (n.val % 192 - 128), by omega⟩ * Ideal.cos (ang t ⟨n.val % 192 - 128, h1⟩)
          else q ⟨n.val / 192, h.1⟩ ⟨128 + (32 + (n.val % 192 - 128 - 32)), by omega⟩ * Ideal.cos (ang t ⟨n.val % 192 - 128 - 32, by omega⟩)
              + -q ⟨n.val / 192, h.1⟩ ⟨128 + (n.val % 192 - 128 - 32), by omega⟩ * Ideal.sin (ang t ⟨n.val % 192 - 128 - 32, by omega⟩)) else 0)
      = heads (fun h => back (q h) t) n := by
  have hn := n.isLt
  have h8 : n.val / 192 < 8 := by omega
  unfold heads back
  dsimp only
  by_cases h1 : n.val % 192 < 128
  · rw [dif_pos ⟨h8, h1⟩, dif_neg (by omega), dif_pos h1, add_zero]
  · rw [dif_neg (by omega), dif_pos ⟨h8, by omega, by omega⟩, dif_neg h1, zero_add]
    by_cases h2 : n.val % 192 < 160
    · rw [dif_pos (by omega), dif_pos h2]
      have e1 : (⟨128 + (32 + (n.val % 192 - 128)), by omega⟩ : Fin 192) = ⟨n.val % 192 + 32, by omega⟩ := Fin.ext (by show 128 + (32 + (n.val % 192 - 128)) = n.val % 192 + 32; omega)
      have e2 : (⟨128 + (n.val % 192 - 128), by omega⟩ : Fin 192) = ⟨n.val % 192, by omega⟩ := Fin.ext (by show 128 + (n.val % 192 - 128) = n.val % 192; omega)
      rw [e1, e2]
    · rw [dif_neg (by omega), dif_neg h2]
      have e1 : (⟨128 + (32 + (n.val % 192 - 128 - 32)), by omega⟩ : Fin 192) = ⟨n.val % 192, by omega⟩ := Fin.ext (by show 128 + (32 + (n.val % 192 - 128 - 32)) = n.val % 192; omega)
      have e2 : (⟨128 + (n.val % 192 - 128 - 32), by omega⟩ : Fin 192) = ⟨n.val % 192 - 32, by omega⟩ := Fin.ext (by show 128 + (n.val % 192 - 128 - 32) = n.val % 192 - 32; omega)
      have e3 : (⟨n.val % 192 - 128 - 32, by omega⟩ : Fin 32) = ⟨n.val % 192 - 160, by omega⟩ := Fin.ext (by show n.val % 192 - 128 - 32 = n.val % 192 - 160; omega)
      rw [e1, e2, e3]

/-- Rows under 112 rows of zeros of widened heads' columns, as a host program's padding states them. -/
theorem pad_heads (f : Fin 4112 → Fin 8 → Fin 192 → EReal) (i : Fin 4224) (k : Fin 2048) :
    (if h : (112 ≤ i.val ∧ i.val - 112 < 4112) ∧ k.val / 256 < 8 ∧ k.val % 256 < 192 then f ⟨i.val - 112, h.1.2⟩ ⟨k.val / 256, h.2.1⟩ ⟨k.val % 256, h.2.2⟩
      else FloatOps.sitofp (F := Ideal) FTy.f32 0#32) = Cert.Rows.pad 112 (by rfl : 112 + 4112 = 4224) (fun t => wide (heads (f t))) i k := by
  have hi := i.isLt
  have hk := k.isLt
  unfold Cert.Rows.pad
  simp only [wide_heads, zero_f32]
  split_ifs <;> first
    | rfl
    | omega

/-- The gradient a row of the kernels' scratch holds: the columns before the rotary ones as they come, the rotary ones turned back. -/
theorem turned (f : Fin 4112 → Fin 8 → Fin 192 → EReal) (i : Fin 4224) (n : Fin 2048) :
    (if n.val / 128 % 2 = 0 then Cert.Rows.pad 112 (by rfl : 112 + 4112 = 4224) (fun t => wide (heads (f t))) i n
      else unr (fun k => Cert.Rows.pad 112 (by rfl : 112 + 4112 = 4224) (fun t => wide (heads (f t))) i ⟨128 * (n.val / 128) + k.val, by omega⟩)
        (cosTab i.val) (sinTab i.val) ⟨n.val % 128, Nat.mod_lt _ (by omega)⟩)
      = wide (Cert.Rows.pad 112 (by rfl : 112 + 4112 = 4224) (fun t => heads fun h => back (f t h) t.val) i) n := by
  have hn := n.isLt
  rcases Cert.Rows.row_cases (by rfl : 112 + 4112 = 4224) i with h | ⟨t, h, rfl⟩
  · have e : ∀ (K : ℕ) (a : Fin 4112 → Fin K → EReal), Cert.Rows.pad 112 (by rfl : 112 + 4112 = 4224) a i = fun _ => 0 := fun K a =>
      funext fun k => Cert.Rows.pad_lo _ h k
    simp only [e, unr_zero, ite_self]
    unfold wide
    simp
  · have e : ∀ (K : ℕ) (a : Fin 4112 → Fin K → EReal), Cert.Rows.pad 112 (by rfl : 112 + 4112 = 4224) a ⟨112 + t.val, h⟩ = a t := fun K a =>
      funext fun k => Cert.Rows.pad_hi _ a t h k
    simp only [e]
    rw [wide_heads]
    by_cases h2 : n.val / 128 % 2 = 0
    · rw [if_pos h2, wide_heads, dif_pos (by omega : n.val % 256 < 192), dif_pos (by omega : n.val % 256 < 192)]
      unfold back
      rw [dif_pos (by show n.val % 256 < 128; omega)]
    · rw [if_neg h2]
      have e1 : (fun k : Fin 128 => wide (heads (f t)) ⟨128 * (n.val / 128) + k.val, by omega⟩)
          = fun k => if h : k.val < 64 then f t ⟨n.val / 256, by omega⟩ ⟨128 + k.val, by omega⟩ else 0 := by
        funext k
        have hk := k.isLt
        rw [wide_heads]
        by_cases h3 : k.val < 64
        · rw [dif_pos h3, dif_pos (by show (128 * (n.val / 128) + k.val) % 256 < 192; omega)]
          exact congrArg₂ (f t) (Fin.ext (by show (128 * (n.val / 128) + k.val) / 256 = n.val / 256; omega))
            (Fin.ext (by show (128 * (n.val / 128) + k.val) % 256 = 128 + k.val; omega))
        · rw [dif_neg h3, dif_neg (by show ¬((128 * (n.val / 128) + k.val) % 256 < 192); omega)]
      rw [e1, unr_back (f t ⟨n.val / 256, by omega⟩) (by show 112 ≤ 112 + t.val; omega) h]
      by_cases h3 : n.val % 128 < 64
      · rw [dif_pos h3, wide_heads, dif_pos (by omega : n.val % 256 < 192)]
        have e2 : 112 + t.val - 112 = t.val := by omega
        have e3 : (⟨128 + n.val % 128, by omega⟩ : Fin 192) = ⟨n.val % 256, by omega⟩ := Fin.ext (by show 128 + n.val % 128 = n.val % 256; omega)
        rw [e2, e3]
      · rw [dif_neg h3, wide_heads, dif_neg (by omega : ¬n.val % 256 < 192)]

/-- A sum over the widened columns is the sum over the columns. -/
theorem sum_wide (f g : Fin 1536 → EReal) : ∑ n, wide f n * wide g n = ∑ n, f n * g n := by
  have e1 : ∑ n : Fin 2048, wide f n * wide g n = ∑ a : Fin 8, ∑ l : Fin 256, wide f ⟨a.val * 256 + l.val, by omega⟩ * wide g ⟨a.val * 256 + l.val, by omega⟩ :=
    (Fin.sum_mul_add_fin 8 256 (fun n : Fin 2048 => wide f n * wide g n) (by rfl)).symm
  have e2 : ∑ n : Fin 1536, f n * g n = ∑ a : Fin 8, ∑ l : Fin 192, f ⟨a.val * 192 + l.val, by omega⟩ * g ⟨a.val * 192 + l.val, by omega⟩ :=
    (Fin.sum_mul_add_fin 8 192 (fun n : Fin 1536 => f n * g n) (by rfl)).symm
  rw [e1, e2]
  refine Finset.sum_congr rfl fun a _ => ?_
  refine (show _ = ∑ l : Fin (192 + 64), wide f ⟨a.val * 256 + l.val, by omega⟩ * wide g ⟨a.val * 256 + l.val, by omega⟩ from rfl).trans ?_
  rw [Fin.sum_univ_add, Finset.sum_eq_zero (f := fun i : Fin 64 => _) fun i _ => ?_, add_zero]
  · refine Finset.sum_congr rfl fun i _ => ?_
    have w : ∀ f : Fin 1536 → EReal, wide f ⟨a.val * 256 + (Fin.castAdd 64 i).val, by omega⟩ = f ⟨a.val * 192 + i.val, by omega⟩ := fun f => by
      have hi : i.val < 192 := i.isLt
      have hc : (Fin.castAdd 64 i).val = i.val := rfl
      unfold wide
      rw [dif_pos (by show (a.val * 256 + (Fin.castAdd 64 i).val) % 256 < 192; omega)]
      exact Cert.Wide.at_eq f (by show (a.val * 256 + (Fin.castAdd 64 i).val) / 256 * 192 + (a.val * 256 + (Fin.castAdd 64 i).val) % 256 = a.val * 192 + i.val; omega)
    rw [w, w]
  · have hc : (Fin.natAdd 192 i).val = 192 + i.val := rfl
    have w : wide f ⟨a.val * 256 + (Fin.natAdd 192 i).val, by omega⟩ = 0 :=
      dif_neg (by show ¬((a.val * 256 + (Fin.natAdd 192 i).val) % 256 < 192); omega)
    rw [w, zero_mul]

end Cert.Rope

end
-- ==== Proof.Pieces.lean ====
/- A buffer of 384 rows of 2048 columns written in sixteen pieces of 128 columns, and a load of such columns, index by index. -/
module

public import proofs.«01_k».proof.Proof.Cols

@[expose] public section

set_option maxRecDepth 16384

noncomputable section

open Idealize.ShloMosaic

namespace Cert.Pieces

variable {Val : EltTy → Type} [∀ e, Nonempty (Val e)] {e : EltTy}

theorem inb (p : ℕ) (h : p < 16) : ∀ a, (![0, 128 * p] : Fin 2 → ℕ) a + (![384, 128] : Fin 2 → ℕ) a ≤ (⟨2, ![384, 2048]⟩ : Shape).size a := by
  intro a
  fin_cases a
  · show 0 + 384 ≤ 384; omega
  · show 128 * p + 128 ≤ 2048; omega

/-- The first `P` pieces, the newest in front. -/
def cols (f : Fin 16 → (⟨2, ![384, 128]⟩ : Shape).Idx → Val e) : (P : ℕ) → P ≤ 16 → List (View.Piece Val (⟨2, ![384, 2048]⟩ : Shape) e)
  | 0, _ => []
  | P + 1, h => ⟨Rect.unit (s := (⟨2, ![384, 2048]⟩ : Shape)) ![0, 128 * P] ![384, 128] (inb P h), f ⟨P, h⟩⟩ :: cols f P (Nat.le_of_succ_le h)

theorem canon_cols (f : Fin 16 → (⟨2, ![384, 128]⟩ : Shape).Idx → Val e) (i : Fin 384) (k : Fin 2048) :
    ∀ (P : ℕ) (h : P ≤ 16), k.val < 128 * P →
      View.canon (cols f P h) (ix2 i k) = f ⟨k.val / 128, by omega⟩ (ix2 i ⟨k.val % 128, Nat.mod_lt _ (by omega)⟩)
  | 0, _, h0 => absurd h0 (by omega)
  | P + 1, h, h1 => by
    refine (Cert.Cols.canon_cons_cols (R := 384) (N := 2048) (A := 128) (Val := Val) (e := e) (128 * P) (inb P h) (f ⟨P, h⟩) _ i k).trans ?_
    by_cases hk : 128 * P ≤ k.val
    · rw [dif_pos ⟨hk, by omega⟩]
      have e1 : (⟨P, h⟩ : Fin 16) = ⟨k.val / 128, by omega⟩ := Fin.ext (by show P = k.val / 128; omega)
      have e2 : (⟨k.val - 128 * P, by omega⟩ : Fin 128) = ⟨k.val % 128, Nat.mod_lt _ (by omega)⟩ := Fin.ext (by show k.val - 128 * P = k.val % 128; omega)
      rw [e1, e2]
    · rw [dif_neg fun hh => hk hh.1]
      exact canon_cols f i k P _ (by omega)

/-- The buffer's contents after the sixteen pieces. -/
def all (f : Fin 16 → (⟨2, ![384, 128]⟩ : Shape).Idx → Val e) : (⟨2, ![384, 2048]⟩ : Shape).Idx → Val e :=
  fun y => f ⟨(y 1).val / 128, by have : (y 1).val < 2048 := (y 1).isLt; omega⟩ (ix2 (y 0) ⟨(y 1).val % 128, Nat.mod_lt _ (by omega)⟩)

theorem readCov_cols {sig : RefSig} {κ : Kind} {sp : Space} (v : View sig κ sp (⟨2, ![384, 2048]⟩ : Shape) e)
    (inb0 : ∀ a, (![0, 0] : Fin 2 → ℕ) a + (![384, 2048] : Fin 2 → ℕ) a ≤ (⟨2, ![384, 2048]⟩ : Shape).size a)
    (f : Fin 16 → (⟨2, ![384, 128]⟩ : Shape).Idx → Val e) :
    v.readCov (cols f 16 le_rfl) (Rect.unit (s := (⟨2, ![384, 2048]⟩ : Shape)) ![0, 0] ![384, 2048] inb0).toLoadRect = all f := by
  refine (Cert.Cols.readCov_whole (R := 384) (N := 2048) (Val := Val) (e := e) v _ inb0).trans ?_
  funext y
  obtain ⟨i, k, rfl⟩ : ∃ (i : Fin 384) (k : Fin 2048), y = ix2 i k := ⟨y 0, y 1, by funext a; fin_cases a <;> rfl⟩
  exact canon_cols f i k 16 le_rfl (by have := k.isLt; omega)

/-- A load of 128 columns from column `o`. -/
theorem ld_cols {N : ℕ} (o : ℕ) (b : (⟨2, ![384, N]⟩ : Shape).Idx → Val e)
    (h : ∀ a, (![0, o] : Fin 2 → ℕ) a + (![384, 128] : Fin 2 → ℕ) a ≤ (⟨2, ![384, N]⟩ : Shape).size a) (i : Fin 384) (l : Fin 128) (ho : o + l.val < N) :
    View.ld b (Rect.unit (s := (⟨2, ![384, N]⟩ : Shape)) ![0, o] ![384, 128] h) (ix2 i l) = b (ix2 i ⟨o + l.val, ho⟩) := by
  show b ((Rect.unit (s := (⟨2, ![384, N]⟩ : Shape)) ![0, o] ![384, 128] h).emb (ix2 i l)) = _
  refine congrArg b ?_
  funext a; apply Fin.ext
  fin_cases a
  · show 0 + 1 * i.val = i.val; omega
  · show o + 1 * l.val = o + l.val; omega

end Cert.Pieces

end
-- ==== Proof.QProjKernel.lean ====
/- What the `a_q_proj_bwd` call's three output arrays end holding, index by index, as functions of the arguments. -/
module

public import proofs.«01_k».proof.Proof.Rows
public import proofs.«01_k».proof.Proof.Rope
public import proofs.«01_k».proof.Proof.Pieces
public import proofs.«01_k».proof.Proof.Gen.QProjIdeal.Value
public import Idealize.ShloMosaic.Lib.Pipeline.ValueKit
public import Idealize.ShloMosaic.Lib.Claim
public import Idealize.ShloMosaic.Lib.StableHlo.Run

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.QProjIdeal.Value

open Cert.QProjIdeal Cert.QProjIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-! ## The rotary lanes turned back -/

/-- 128 lanes of every row turned back by the tables. -/
def unrVec (c s v : FVec Ideal S384x128 .f32) : FVec Ideal S384x128 .f32 :=
  fun y => Cert.Rope.unr (fun l => v (ix2 (y 0) l)) (fun l => c (ix2 (y 0) l)) (fun l => s (ix2 (y 0) l)) (y 1)

/-- Every other piece of the scratch holds the gradient as it comes. -/
theorem nope_pays (v : FVec Ideal S384x128 .f32) : k0_pay5 (F := Ideal) v = v ∧ k0_pay8 (F := Ideal) (k0_pay7 v) = v ∧ k0_pay10 (F := Ideal) v = v
    ∧ k0_pay16 (F := Ideal) v = v ∧ k0_pay18 (F := Ideal) v = v ∧ k0_pay20 (F := Ideal) v = v ∧ k0_pay25 (F := Ideal) v = v ∧ k0_pay28 (F := Ideal) v = v := by
  refine ⟨?_, ?_, ?_, ?_, ?_, ?_, ?_, ?_⟩ <;> (funext y; idx_vars y; pointwise [k0_pay5, k0_pay7, k0_pay8, k0_pay10, k0_pay16, k0_pay18, k0_pay20, k0_pay25, k0_pay28])

/-- The pieces between hold it turned back. -/
theorem rope_pays (c s v : FVec Ideal S384x128 .f32) : k0_pay6 (F := Ideal) c s v = unrVec c s v
    ∧ k0_pay9 (F := Ideal) (k0_pay3 c) (k0_pay4 s) v = unrVec c s v
    ∧ k0_pay15 (F := Ideal) k0_pay12 (k0_pay13 (k0_pay3 c) v) (k0_pay14 (k0_pay4 s) v) (iota Kind.tc S384x128 32 [1] iota_S384x128_d1_w32) 32#32 = unrVec c s v
    ∧ k0_pay17 (F := Ideal) (k0_pay3 c) (k0_pay4 s) v = unrVec c s v
    ∧ k0_pay19 (F := Ideal) (k0_pay3 c) (k0_pay4 s) v = unrVec c s v
    ∧ k0_pay24 (F := Ideal) (k0_pay4 s) (k0_pay21 v) k0_pay22 (k0_pay23 (k0_pay3 c) v) = unrVec c s v
    ∧ k0_pay27 (F := Ideal) (k0_pay26 (k0_pay3 c) (k0_pay4 s) v) = unrVec c s v
    ∧ k0_pay29 (F := Ideal) (k0_pay3 c) (k0_pay4 s) v = unrVec c s v := by
  refine ⟨?_, ?_, ?_, ?_, ?_, ?_, ?_, ?_⟩ <;>
    (funext y; idx_vars y
     pointwise [k0_pay3, k0_pay4, k0_pay6, k0_pay9, k0_pay11, k0_pay12, k0_pay13, k0_pay14, k0_pay15, k0_pay17, k0_pay19, k0_pay21, k0_pay22, k0_pay23, k0_pay24, k0_pay26,
       k0_pay27, k0_pay29]
     exact Cert.Rope.unr_eq (fun l => v (ix2 y0 l)) (fun l => c (ix2 y0 l)) (fun l => s (ix2 y0 l)) y1)

/-- Piece `p` of the scratch. -/
def piece (d : FVec Ideal S384x2048 .f32) (c s : FVec Ideal S384x128 .f32) (p : Fin 16) : FVec Ideal S384x128 .bf16 :=
  if p.val % 2 = 0 then View.ld (Val := Elt Ideal) (e' := .f32) d (Rect.unit (s := S384x2048) ![0, 128 * p.val] ![384, 128] (Cert.Pieces.inb p.val p.isLt))
    else unrVec c s (View.ld (Val := Elt Ideal) (e' := .f32) d (Rect.unit (s := S384x2048) ![0, 128 * p.val] ![384, 128] (Cert.Pieces.inb p.val p.isLt)))

/-- The gradient of the product a point sees. -/
def dyBlk (d : FVec Ideal S384x2048 .f32) (c s : FVec Ideal S384x128 .f32) : Vec Ideal S384x2048 .bf16 :=
  Cert.Pieces.all (Val := Elt Ideal) (e := .bf16) (piece d c s)

theorem dyBlk_apply (d : FVec Ideal S384x2048 .f32) (c s : FVec Ideal S384x128 .f32) (i : Fin 384) (n : Fin 2048) :
    dyBlk d c s (ix2 i n) = if n.val / 128 % 2 = 0 then d (ix2 i n)
      else Cert.Rope.unr (fun k => d (ix2 i ⟨128 * (n.val / 128) + k.val, by omega⟩)) (fun l => c (ix2 i l)) (fun l => s (ix2 i l))
        ⟨n.val % 128, Nat.mod_lt _ (by omega)⟩ := by
  have hn := n.isLt
  show piece d c s ⟨n.val / 128, by omega⟩ (ix2 i ⟨n.val % 128, Nat.mod_lt _ (by omega)⟩) = _
  unfold piece
  by_cases h : n.val / 128 % 2 = 0
  · rw [if_pos h, if_pos h]
    refine (Cert.Pieces.ld_cols (Val := Elt Ideal) (e := .f32) (N := 2048) (128 * (n.val / 128)) d _ i ⟨n.val % 128, Nat.mod_lt _ (by omega)⟩ (by show 128 * (n.val / 128) + n.val % 128 < 2048; omega)).trans ?_
    exact congrArg (fun k => d (ix2 i k)) (Fin.ext (by show 128 * (n.val / 128) + n.val % 128 = n.val; omega))
  · rw [if_neg h, if_neg h]
    unfold unrVec
    refine congrArg (fun f => Cert.Rope.unr f (fun l => c (ix2 i l)) (fun l => s (ix2 i l)) ⟨n.val % 128, Nat.mod_lt _ (by omega)⟩) ?_
    funext k
    exact Cert.Pieces.ld_cols (Val := Elt Ideal) (e := .f32) (N := 2048) (128 * (n.val / 128)) d _ i k (by show 128 * (n.val / 128) + k.val < 2048; omega)

/-! ## One point's arithmetic -/

/-- The entries of the norm's mean and the number added to the mean square. -/
abbrev nn : EReal := Ideal.ofBits .f32 0x43C00000#32
abbrev ee : EReal := Ideal.ofBits .f32 0x358637BD#32

/-- What one point adds to the weight's gradient, what it adds to the gain's, and the input's gradient it writes. -/
abbrev dwPart (x : Vec Ideal S384x384 .f32) (g : Vec Ideal S1x384 .f32) (dy : Vec Ideal S384x2048 .bf16) (v : Vec Ideal S384x2048 .f32) :
    FVec Ideal S384x2048 .f32 := k0_pay35 (k0_pay30 x) g (k0_pay31 x) dy v
abbrev dgPart (x : Vec Ideal S384x384 .f32) (w : Vec Ideal S384x2048 .bf16) (dy : Vec Ideal S384x2048 .bf16) (v : Vec Ideal S1x384 .f32) :
    FVec Ideal S1x384 .f32 := k0_pay36 (k0_pay30 x) (k0_pay31 x) dy w v
abbrev dxPart (x : Vec Ideal S384x384 .f32) (g : Vec Ideal S1x384 .f32) (w : Vec Ideal S384x2048 .bf16) (dy : Vec Ideal S384x2048 .bf16) :
    FVec Ideal S384x384 .bf16 := k0_pay37 (k0_pay30 x) g (k0_pay31 x) dy w

theorem dx_blk (x : Vec Ideal S384x384 .f32) (g : Vec Ideal S1x384 .f32) (w : Vec Ideal S384x2048 .bf16) (dy : Vec Ideal S384x2048 .bf16)
    (i : Fin 384) (j : Fin 384) :
    dxPart x g w dy (ix2 i j)
      = Cert.Rows.kdx nn ee (fun k => x (ix2 i k)) (fun k => g (ix2 0 k)) (fun k => ∑ n, dy (ix2 i n) * w (ix2 k n)) j := by
  pointwise [dxPart, k0_pay37, k0_pay34, k0_pay33, k0_pay32, k0_pay31, k0_pay30, Cert.Rows.kdx, Cert.Rows.rinv]

theorem dw_blk (x : Vec Ideal S384x384 .f32) (g : Vec Ideal S1x384 .f32) (dy : Vec Ideal S384x2048 .bf16) (v : Vec Ideal S384x2048 .f32)
    (a : Fin 384) (b : Fin 2048) :
    dwPart x g dy v (ix2 a b)
      = v (ix2 a b) + ∑ i, (x (ix2 i a) * Cert.Rows.rinv nn ee (fun k => x (ix2 i k)) * g (ix2 0 a)) * dy (ix2 i b) := by
  pointwise [dwPart, k0_pay35, k0_pay33, k0_pay32, k0_pay31, k0_pay30, Cert.Rows.rinv]

theorem dg_blk (x : Vec Ideal S384x384 .f32) (w : Vec Ideal S384x2048 .bf16) (dy : Vec Ideal S384x2048 .bf16) (v : Vec Ideal S1x384 .f32)
    (z : Fin 1) (a : Fin 384) :
    dgPart x w dy v (ix2 z a)
      = v (ix2 z a) + ∑ i, (∑ n, dy (ix2 i n) * w (ix2 a n)) * (x (ix2 i a) * Cert.Rows.rinv nn ee (fun k => x (ix2 i k))) := by
  pointwise [dgPart, k0_pay36, k0_pay34, k0_pay33, k0_pay32, k0_pay31, k0_pay30, Cert.Rows.rinv]

theorem zero7 (a : Fin 384) (b : Fin 2048) : k0_pay1 (F := Ideal) (ix2 a b) = 0 := by
  pointwise [k0_pay1]

theorem zero8 (z : Fin 1) (a : Fin 384) : k0_pay2 (F := Ideal) (ix2 z a) = 0 := by
  pointwise [k0_pay2]

/-! ## The operands the host lines prepare -/

/-- The arguments as the body reads them: rows under the 112 rows of padding, the gain, the weights and the cotangents with every
    head's columns widened to 256. -/
def X (c : Dev nD) (i : Fin 4224) (k : Fin 384) : EReal :=
  Cert.Rows.pad 112 (by rfl : 112 + 4112 = 4224) (fun a b => m (c.tc.loc main_arg0) (ix2 a b)) i k
def G (c : Dev nD) (k : Fin 384) : EReal := m (c.tc.loc main_arg1) (ix2 0 k)
def W (c : Dev nD) (k : Fin 384) (n : Fin 2048) : EReal := Cert.Rope.wide (fun n => m (c.tc.loc main_arg2) (ix3 0 k n)) n
/-- The cotangent's entries. -/
def Q (c : Dev nD) (t : Fin 4112) (h : Fin 8) (l : Fin 192) : EReal := m (c.tc.loc main_arg3) (ix3 t h l)
def DQ (c : Dev nD) (i : Fin 4224) (n : Fin 2048) : EReal :=
  Cert.Rows.pad 112 (by rfl : 112 + 4112 = 4224) (fun t => Cert.Rope.wide (Cert.Rope.heads (Q m c t))) i n
/-- The cotangent turned back, and its product with the weights. -/
def cot (c : Dev nD) (t : Fin 4112) (n : Fin 1536) : EReal := Cert.Rope.heads (fun h => Cert.Rope.back (Q m c t h) t.val) n
def DY (c : Dev nD) (i : Fin 4224) (n : Fin 2048) : EReal :=
  Cert.Rope.wide (Cert.Rows.pad 112 (by rfl : 112 + 4112 = 4224) (cot m c) i) n
def DN (c : Dev nD) (i : Fin 4224) (k : Fin 384) : EReal := ∑ n, DY m c i n * W m c k n

theorem V_v31 (c : Dev nD) (i : Fin 4224) (k : Fin 384) : V m c main_v31 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg0) (ix2 a b)) i k

theorem V_v33 (c : Dev nD) (i : Fin 4224) (k : Fin 2048) : V m c main_v33 (ix2 i k) = DQ m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rope.pad_heads (fun t h l => m (c.tc.loc main_arg3) (ix3 t h l)) i k

theorem V_v30 (c : Dev nD) (k : Fin 384) (n : Fin 2048) : V m c main_v30 (ix2 k n) = W m c k n := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rope.wide_pad _ Cert.Rope.zero_bf16 (fun n => m (c.tc.loc main_arg2) (ix3 0 k n)) n

theorem V_v23 (c : Dev nD) (i : Fin 4224) (l : Fin 128) : V m c main_v23 (ix2 i l) = Cert.Rope.cosTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

theorem V_v25 (c : Dev nD) (i : Fin 4224) (l : Fin 128) : V m c main_v25 (ix2 i l) = Cert.Rope.sinTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 384) : iblk m c 0 t (ix2 i k) = X m c (rowAt t i) k := by
  rw [← V_v31]
  blk_simp [iblk, idx_val t]
  blk_ext [idx_val t]

theorem in1 (c : Dev nD) (t : Fin cfg0.N) (k : Fin 384) : iblk m c 1 t (ix2 0 k) = G m c k := by
  unfold G
  rw [← V_main_arg1 m c]
  blk_simp [iblk, idx_val t]
  blk_ext [idx_val t]

theorem in2 (c : Dev nD) (t : Fin cfg0.N) (i : Fin 384) (k : Fin 2048) : iblk m c 2 t (ix2 i k) = W m c i k := by
  rw [← V_v30]
  blk_simp [iblk, idx_val t]
  blk_ext [idx_val t]

theorem in3 (c : Dev nD) (t : Fin cfg0.N) (i : Fin 384) (k : Fin 2048) : iblk m c 3 t (ix2 i k) = DQ m c (rowAt t i) k := by
  rw [← V_v33]
  blk_simp [iblk, idx_val t]
  blk_ext [idx_val t]

theorem in4 (c : Dev nD) (t : Fin cfg0.N) (i : Fin 384) (k : Fin 128) : iblk m c 4 t (ix2 i k) = Cert.Rope.cosTab (rowAt t i).val k := by
  rw [← V_v23 m c]
  blk_simp [iblk, idx_val t]
  blk_ext [idx_val t]

theorem in5 (c : Dev nD) (t : Fin cfg0.N) (i : Fin 384) (k : Fin 128) : iblk m c 5 t (ix2 i k) = Cert.Rope.sinTab (rowAt t i).val k := by
  rw [← V_v25 m c]
  blk_simp [iblk, idx_val t]
  blk_ext [idx_val t]

abbrev dyAt (c : Dev nD) (t : Fin cfg0.N) : Vec Ideal S384x2048 .bf16 := dyBlk (iblk m c 3 t) (iblk m c 4 t) (iblk m c 5 t)

theorem inDy (c : Dev nD) (t : Fin cfg0.N) (i : Fin 384) (n : Fin 2048) : dyAt m c t (ix2 i n) = DY m c (rowAt t i) n := by
  refine (dyBlk_apply _ _ _ i n).trans (Eq.trans ?_ (Cert.Rope.turned (Q m c) (rowAt t i) n))
  simp only [in3, in4, in5]
  rfl

/-! ## What a point leaves -/

/-- The columns of piece `p`. -/
abbrev L (d : FVec Ideal S384x2048 .f32) (p : ℕ) (h : p < 16) : FVec Ideal S384x128 .f32 :=
  View.ld (Val := Elt Ideal) (e' := .f32) d (Rect.unit (s := S384x2048) ![0, 128 * p] ![384, 128] (Cert.Pieces.inb p h))

/-- The scratch the sixteen pieces are written to reads back as `dyBlk`. -/
theorem readCov_dy {sig : RefSig} {κ : Kind} {sp : Space} (v : View sig κ sp S384x2048 .bf16)
    (inb : ∀ a, (![0, 0] : Fin 2 → ℕ) a + (![384, 2048] : Fin 2 → ℕ) a ≤ S384x2048.size a)
    (d : FVec Ideal S384x2048 .f32) (c s : FVec Ideal S384x128 .f32) :
    v.readCov [
        (⟨Rect.unit (s := S384x2048) ![0, 1920] ![384, 128] (Cert.Pieces.inb 15 (by omega)), k0_pay29 (F := Ideal) (k0_pay3 c) (k0_pay4 s) (L d 15 (by omega))⟩ : View.Piece (Elt Ideal) S384x2048 .bf16),
        ⟨Rect.unit (s := S384x2048) ![0, 1792] ![384, 128] (Cert.Pieces.inb 14 (by omega)), k0_pay28 (F := Ideal) (L d 14 (by omega))⟩,
        ⟨Rect.unit (s := S384x2048) ![0, 1664] ![384, 128] (Cert.Pieces.inb 13 (by omega)), k0_pay27 (F := Ideal) (k0_pay26 (k0_pay3 c) (k0_pay4 s) (L d 13 (by omega)))⟩,
        ⟨Rect.unit (s := S384x2048) ![0, 1536] ![384, 128] (Cert.Pieces.inb 12 (by omega)), k0_pay25 (F := Ideal) (L d 12 (by omega))⟩,
        ⟨Rect.unit (s := S384x2048) ![0, 1408] ![384, 128] (Cert.Pieces.inb 11 (by omega)), k0_pay24 (F := Ideal) (k0_pay4 s) (k0_pay21 (L d 11 (by omega))) k0_pay22 (k0_pay23 (k0_pay3 c) (L d 11 (by omega)))⟩,
        ⟨Rect.unit (s := S384x2048) ![0, 1280] ![384, 128] (Cert.Pieces.inb 10 (by omega)), k0_pay20 (F := Ideal) (L d 10 (by omega))⟩,
        ⟨Rect.unit (s := S384x2048) ![0, 1152] ![384, 128] (Cert.Pieces.inb 9 (by omega)), k0_pay19 (F := Ideal) (k0_pay3 c) (k0_pay4 s) (L d 9 (by omega))⟩,
        ⟨Rect.unit (s := S384x2048) ![0, 1024] ![384, 128] (Cert.Pieces.inb 8 (by omega)), k0_pay18 (F := Ideal) (L d 8 (by omega))⟩,
        ⟨Rect.unit (s := S384x2048) ![0, 896] ![384, 128] (Cert.Pieces.inb 7 (by omega)), k0_pay17 (F := Ideal) (k0_pay3 c) (k0_pay4 s) (L d 7 (by omega))⟩,
        ⟨Rect.unit (s := S384x2048) ![0, 768] ![384, 128] (Cert.Pieces.inb 6 (by omega)), k0_pay16 (F := Ideal) (L d 6 (by omega))⟩,
        ⟨Rect.unit (s := S384x2048) ![0, 640] ![384, 128] (Cert.Pieces.inb 5 (by omega)), k0_pay15 (F := Ideal) k0_pay12 (k0_pay13 (k0_pay3 c) (L d 5 (by omega))) (k0_pay14 (k0_pay4 s) (L d 5 (by omega))) (iota Kind.tc S384x128 32 [1] iota_S384x128_d1_w32) 32#32⟩,
        ⟨Rect.unit (s := S384x2048) ![0, 512] ![384, 128] (Cert.Pieces.inb 4 (by omega)), k0_pay10 (F := Ideal) (L d 4 (by omega))⟩,
        ⟨Rect.unit (s := S384x2048) ![0, 384] ![384, 128] (Cert.Pieces.inb 3 (by omega)), k0_pay9 (F := Ideal) (k0_pay3 c) (k0_pay4 s) (L d 3 (by omega))⟩,
        ⟨Rect.unit (s := S384x2048) ![0, 256] ![384, 128] (Cert.Pieces.inb 2 (by omega)), k0_pay8 (F := Ideal) (k0_pay7 (L d 2 (by omega)))⟩,
        ⟨Rect.unit (s := S384x2048) ![0, 128] ![384, 128] (Cert.Pieces.inb 1 (by omega)), k0_pay6 (F := Ideal) c s (L d 1 (by omega))⟩,
        ⟨Rect.unit (s := S384x2048) ![0, 0] ![384, 128] (Cert.Pieces.inb 0 (by omega)), k0_pay5 (F := Ideal) (L d 0 (by omega))⟩]
        (Rect.unit (s := S384x2048) ![0, 0] ![384, 2048] inb).toLoadRect = dyBlk d c s := by
  refine Eq.trans ?_ (Cert.Pieces.readCov_cols (Val := Elt Ideal) (e := .bf16) v inb (piece d c s))
  simp only [(nope_pays _).1, (nope_pays _).2.1, (nope_pays _).2.2.1, (nope_pays _).2.2.2.1, (nope_pays _).2.2.2.2.1, (nope_pays _).2.2.2.2.2.1,
    (nope_pays _).2.2.2.2.2.2.1, (nope_pays _).2.2.2.2.2.2.2, (rope_pays _ _ _).1, (rope_pays _ _ _).2.1, (rope_pays _ _ _).2.2.1, (rope_pays _ _ _).2.2.2.1,
    (rope_pays _ _ _).2.2.2.2.1, (rope_pays _ _ _).2.2.2.2.2.1, (rope_pays _ _ _).2.2.2.2.2.2.1, (rope_pays _ _ _).2.2.2.2.2.2.2]
  rfl

theorem left6 (c : Dev nD) (t : Fin cfg0.N) : (outsAt0 m c t.val t.isLt).1
    = dxPart (iblk m c 0 t) (iblk m c 1 t) (iblk m c 2 t) (dyAt m c t) := by
  by_cases h : t.val % 11 = 0
  · rw [outsAt0_A m c t h]
    dsimp only
    frame_out
    exact congrArg (fun d => dxPart _ _ _ d) (readCov_dy _ _ _ _ _)
  · rw [outsAt0_B m c t h]
    dsimp only
    frame_out
    exact congrArg (fun d => dxPart _ _ _ d) (readCov_dy _ _ _ _ _)

theorem left7_A (c : Dev nD) (t : Fin cfg0.N) (h : t.val % 11 = 0) : (outsAt0 m c t.val t.isLt).2.1
    = dwPart (iblk m c 0 t) (iblk m c 1 t) (dyAt m c t) (k0_pay1 (F := Ideal)) := by
  rw [outsAt0_A m c t h]
  dsimp only
  frame_out
  exact congrArg (fun d => dwPart _ _ d _) (readCov_dy _ _ _ _ _)

theorem left7_B (c : Dev nD) (t : Fin cfg0.N) (h : ¬t.val % 11 = 0) : (outsAt0 m c t.val t.isLt).2.1
    = dwPart (iblk m c 0 t) (iblk m c 1 t) (dyAt m c t) (outsAt0 m c (t.val - 1) (Nat.lt_of_le_of_lt (Nat.sub_le _ _) t.isLt)).2.1 := by
  rw [outsAt0_B m c t h]
  dsimp only
  frame_out
  exact congrArg (fun d => dwPart _ _ d _) (readCov_dy _ _ _ _ _)

theorem left8_A (c : Dev nD) (t : Fin cfg0.N) (h : t.val % 11 = 0) : (outsAt0 m c t.val t.isLt).2.2
    = dgPart (iblk m c 0 t) (iblk m c 2 t) (dyAt m c t) (k0_pay2 (F := Ideal)) := by
  rw [outsAt0_A m c t h]
  dsimp only
  frame_out
  exact congrArg (fun d => dgPart _ _ d _) (readCov_dy _ _ _ _ _)

theorem left8_B (c : Dev nD) (t : Fin cfg0.N) (h : ¬t.val % 11 = 0) : (outsAt0 m c t.val t.isLt).2.2
    = dgPart (iblk m c 0 t) (iblk m c 2 t) (dyAt m c t) (outsAt0 m c (t.val - 1) (Nat.lt_of_le_of_lt (Nat.sub_le _ _) t.isLt)).2.2 := by
  rw [outsAt0_B m c t h]
  dsimp only
  frame_out
  exact congrArg (fun d => dgPart _ _ d _) (readCov_dy _ _ _ _ _)

/-! ## The arrays -/

/-- The input gradient's array. -/
def res6 (c : Dev nD) : FVec Ideal S4224x384 .bf16 := fun y => Cert.Rows.kdx nn ee (X m c (y 0)) (G m c) (DN m c (y 0)) (y 1)
/-- The weight gradient's array. -/
def res7 (c : Dev nD) : FVec Ideal S384x2048 .f32 :=
  fun y => ∑ i, (X m c i (y 0) * Cert.Rows.rinv nn ee (X m c i) * G m c (y 0)) * DY m c i (y 1)
/-- The gain gradient's array. -/
def res8 (c : Dev nD) : FVec Ideal S1x384 .f32 :=
  fun y => ∑ i, DN m c i (y 1) * (X m c i (y 1) * Cert.Rows.rinv nn ee (X m c i))

theorem final_6 (c : Dev nD) : (dats m 0 c).arrAt 6 (cfgs 0).N = res6 m c := by
  refine (dats m 0 c).arrAt_eq_of_covers 6 _ (by decide +kernel) fun t hf y => ?_
  blk_simp; rw [after0_6, left6]
  idx_vars y
  rw [dx_blk]
  simp only [in0, in1, in2, inDy]
  refine Eq.trans ?_ (congrArg (res6 m c) (?_ : ix2 (rowAt t y0) y1 = _))
  · rfl
  · blk_ext [idx_val t]

theorem final_7 (c : Dev nD) : (dats m 0 c).arrAt 7 (cfgs 0).N = res7 m c := by
  refine (dats m 0 c).arrAt_eq_of_after_last 7 t0_10 (by decide +kernel) _ fun j => ?_
  blk_simp
  rw [after0_7, Pipeline.eq_sum_fin_of_reset_step_apply_last (fun n h => (outsAt0 m c n h).2.1) 11 (fun _ => 0)
    (fun t j => ∑ i, (X m c (rowAt t i) (j 0) * Cert.Rows.rinv nn ee (X m c (rowAt t i)) * G m c (j 0)) * DY m c (rowAt t i) (j 1))
    (fun t h j => by
      idx_vars j
      rw [left7_A m c t h, dw_blk, zero7]
      simp only [in0, in1, inDy])
    (fun t h j => by
      idx_vars j
      rw [left7_B m c t h, dw_blk]
      simp only [in0, in1, inDy])
    (le_of_eq N_0) t0_10 rfl j, zero_add]
  exact Fin.sum_mul_add_congr (fun s k hl => rfl)

theorem final_8 (c : Dev nD) : (dats m 0 c).arrAt 8 (cfgs 0).N = res8 m c := by
  refine (dats m 0 c).arrAt_eq_of_after_last 8 t0_10 (by decide +kernel) _ fun j => ?_
  blk_simp
  rw [after0_8, Pipeline.eq_sum_fin_of_reset_step_apply_last (fun n h => (outsAt0 m c n h).2.2) 11 (fun _ => 0)
    (fun t j => ∑ i, DN m c (rowAt t i) (j 1) * (X m c (rowAt t i) (j 1) * Cert.Rows.rinv nn ee (X m c (rowAt t i))))
    (fun t h j => by
      idx_vars j
      rw [left8_A m c t h, dg_blk, zero8]
      simp only [in0, in2, inDy]
      rfl)
    (fun t h j => by
      idx_vars j
      rw [left8_B m c t h, dg_blk]
      simp only [in0, in2, inDy]
      rfl)
    (le_of_eq N_0) t0_10 rfl j, zero_add]
  exact Fin.sum_mul_add_congr (fun s k hl => rfl)

end Cert.QProjIdeal.Value

end
-- ==== Proof.QProjRef.lean ====
/- What the three results of the reference of the queries' projection, backward, are, index by index, as functions of the arguments. -/
module

public import proofs.«01_k».proof.Proof.Rope
public import proofs.«01_k».proof.Proof.Gen.QProjRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.QProjRefIdeal.Value

open Cert.QProjRefIdeal Cert.QProjRefIdeal.Gen

variable (m : (ℓ : Loc nD τ sig) → Buf (Elt Ideal) ℓ)

/-- The entries of the norm's mean, the number added to the mean square, and the derivative's half. -/
abbrev nn : EReal := Ideal.ofBits .f32 0x43C00000#32
abbrev ee : EReal := Ideal.ofBits .f32 0x358637BD#32
abbrev hh : EReal := Ideal.ofBits .f32 0xBF000000#32

/-- The mean square of a row and the small number added to it. -/
def msVec (x : FVec Ideal S4112x384 .f32) : FVec Ideal S4112x1 .f32 :=
  fun y => Ideal.div (∑ k, x (ix2 (y 0) k) * x (ix2 (y 0) k)) nn + ee

theorem ms_eq (x : FVec Ideal S4112x384 .f32) : addf (φ := .f32) (Host.divf (broadcastInDim S4112x1 ![0] bcast_S4112_S4112x1_0 (Host.reduceAdd (mulf x x) (constant S_ .f32 0x00000000#32) reducesTo_S4112x384_S4112_d1 h_S_)) (broadcastInDim S4112x1 ![] bcast_S_S4112x1 (constant S_ .f32 0x43C00000#32))) (broadcastInDim S4112x1 ![] bcast_S_S4112x1 (constant S_ .f32 0x358637BD#32))
    = msVec x := by
  funext y
  idx_vars y
  pointwise [msVec]

/-- The angles of every position. -/
def angVec : FVec Ideal S4112x32 .f32 := fun y => Cert.Rope.ang (y 0).val (y 1)

theorem ang_eq : mulf (broadcastInDim S4112x32 ![0, 1] bcast_S4112x1_S4112x32_0_1 (broadcastInDim S4112x1 ![0] bcast_S4112_S4112x1_0 (sitofp .f32 (iotaInDim S4112 32 0)))) (broadcastInDim S4112x32 ![0, 1] bcast_S1x32_S4112x32_0_1 (broadcastInDim S1x32 ![1] bcast_S32_S1x32_1 (Host.powf (broadcastInDim S32 ![] bcast_S_S32 (constant S_ .f32 0x461C4000#32)) (Host.divf (Host.negf (sitofp .f32 (addi (broadcastInDim S32 ![] bcast_S_S32 (constantI S_ 32 0#32)) (muli (broadcastInDim S32 ![] bcast_S_S32 (constantI S_ 32 2#32)) (iotaInDim S32 32 0))))) (broadcastInDim S32 ![] bcast_S_S32 (constant S_ .f32 0x42800000#32)))))) = angVec := by
  funext y
  idx_vars y
  pointwise [angVec]
  rfl

/-- The gradient before the rotation, every head's 192 columns side by side. -/
def dyVec (d : FVec Ideal S4112x8x192 .f32) : FVec Ideal S4112x1536 .f32 :=
  fun y => Cert.Rope.heads (fun h => Cert.Rope.back (fun l => d (ix3 (y 0) h l)) (y 0).val) (y 1)

theorem dy_eq (d : FVec Ideal S4112x8x192 .f32) : shapeCast _ (addf (pad S4112x8x192 ![0, 0, 0] ![0, 0, 64] ![0, 0, 0] (extractStridedSlice S4112x8x128 ![0, 0, 0] d slices_S4112x8x192_S4112x8x128_0_0_0) (constant S_ .f32 0x00000000#32) pads_S4112x8x128_S4112x8x192_000_000_0640 h_S_) (pad S4112x8x192 ![0, 0, 128] ![0, 0, 0] ![0, 0, 0] (concatenate S4112x8x64 2 [⟨S4112x8x32, (addf (mulf (extractStridedSlice S4112x8x32 ![0, 0, 32] (extractStridedSlice S4112x8x64 ![0, 0, 128] d slices_S4112x8x192_S4112x8x64_0_0_128) slices_S4112x8x64_S4112x8x32_0_0_32) (broadcastInDim S4112x8x32 ![0, 1, 2] bcast_S4112x1x32_S4112x8x32_0_1_2 (broadcastInDim S4112x1x32 ![0, 2] bcast_S4112x32_S4112x1x32_0_2 (Host.sin angVec)))) (mulf (extractStridedSlice S4112x8x32 ![0, 0, 0] (extractStridedSlice S4112x8x64 ![0, 0, 128] d slices_S4112x8x192_S4112x8x64_0_0_128) slices_S4112x8x64_S4112x8x32_0_0_0) (broadcastInDim S4112x8x32 ![0, 1, 2] bcast_S4112x1x32_S4112x8x32_0_1_2 (broadcastInDim S4112x1x32 ![0, 2] bcast_S4112x32_S4112x1x32_0_2 (Host.cos angVec)))))⟩, ⟨S4112x8x32, (addf (mulf (extractStridedSlice S4112x8x32 ![0, 0, 32] (extractStridedSlice S4112x8x64 ![0, 0, 128] d slices_S4112x8x192_S4112x8x64_0_0_128) slices_S4112x8x64_S4112x8x32_0_0_32) (broadcastInDim S4112x8x32 ![0, 1, 2] bcast_S4112x1x32_S4112x8x32_0_1_2 (broadcastInDim S4112x1x32 ![0, 2] bcast_S4112x32_S4112x1x32_0_2 (Host.cos angVec)))) (mulf (Host.negf (extractStridedSlice S4112x8x32 ![0, 0, 0] (extractStridedSlice S4112x8x64 ![0, 0, 128] d slices_S4112x8x192_S4112x8x64_0_0_128) slices_S4112x8x64_S4112x8x32_0_0_0)) (broadcastInDim S4112x8x32 ![0, 1, 2] bcast_S4112x1x32_S4112x8x32_0_1_2 (broadcastInDim S4112x1x32 ![0, 2] bcast_S4112x32_S4112x1x32_0_2 (Host.sin angVec)))))⟩] concatenates_S4112x8x32_S4112x8x32_S4112x8x64_d2) (constant S_ .f32 0x00000000#32) pads_S4112x8x64_S4112x8x192_000_000_12800 h_S_)) shapeCasts_S4112x8x192_S4112x1536
    = dyVec d := by
  funext y
  idx_vars y
  pointwise [dyVec]
  exact Cert.Rope.heads_back (fun h l => d (ix3 y0 h l)) y0.val y1

/-- The product with the weights' transpose. -/
def dnVec (d : FVec Ideal S4112x1536 .f32) (w : FVec Ideal S1x384x1536 .f32) : FVec Ideal S4112x384 .f32 :=
  fun y => ∑ n : Fin 1536, d (ix2 (y 0) n) * w (ix3 0 (y 1) n)

theorem dn_eq (d : FVec Ideal S4112x1536 .f32) (w : FVec Ideal S1x384x1536 .f32) :
    Host.dotGeneral (F := Ideal) (φ₁ := .f32) (φ₂ := .f32) dot_S4112x1536_S384x1536_S4112x384_1_1_0_0_n_n none d (shapeCast _ w shapeCasts_S1x384x1536_S384x1536)
      = dnVec d w := by
  funext y
  idx_vars y
  pointwise [dnVec]

/-- The arguments' entries. -/
def X (c : Dev nD) (i : Fin 4112) (k : Fin 384) : EReal := m (c.tc.loc main_arg0) (ix2 i k)
def G (c : Dev nD) (k : Fin 384) : EReal := m (c.tc.loc main_arg1) (ix2 0 k)
def W (c : Dev nD) (k : Fin 384) (n : Fin 1536) : EReal := m (c.tc.loc main_arg2) (ix3 0 k n)
def DY (c : Dev nD) (i : Fin 4112) (n : Fin 1536) : EReal := dyVec (m (c.tc.loc main_arg3)) (ix2 i n)
def DN (c : Dev nD) (i : Fin 4112) (k : Fin 384) : EReal := ∑ n, DY m c i n * W m c k n

/-- The input gradient without the padding. -/
def dx (c : Dev nD) (i : Fin 4112) (j : Fin 384) : EReal :=
  DN m c i j * G m c j * Cert.Rows.rinv nn ee (X m c i) + X m c i j * Cert.Rows.rs nn ee hh (X m c i) (G m c) (DN m c i)
    + Cert.Rows.rs nn ee hh (X m c i) (G m c) (DN m c i) * X m c i j

/-- The weight gradient, before its heads are widened. -/
def dw (c : Dev nD) (k : Fin 384) (n : Fin 1536) : EReal :=
  ∑ i, DY m c i n * (X m c i k * Cert.Rows.rinv nn ee (X m c i) * G m c k)

/-- The three results. -/
def res0 (c : Dev nD) : FVec Ideal S4224x384 .bf16 := fun y => Cert.Rows.pad 112 (by rfl : 112 + 4112 = 4224) (dx m c) (y 0) (y 1)
def res1 (c : Dev nD) : FVec Ideal S384x2048 .f32 := fun y => Cert.Rope.wide (dw m c (y 0)) (y 1)
def res2 (c : Dev nD) : FVec Ideal S1x384 .f32 :=
  fun y => ∑ i, X m c i (y 1) * Cert.Rows.rinv nn ee (X m c i) * DN m c i (y 1)

theorem res0_eq (c : Dev nD) : res_main_v104 m c = res0 m c := by
  unfold res_main_v104
  rw [ang_eq, dy_eq, dn_eq, ms_eq]
  funext y
  idx_vars y
  refine Eq.trans (congrFun (congrArg (fun v : FVec Ideal S4112x384 .f32 => truncf .bf16 (pad S4224x384 ![112, 0] ![0, 0] ![0, 0] v (sitofp FTy.f32 (constantI S_ 32 0#32)) pads_S4112x384_S4224x384_11200_000 h_S_)) (?_ : _ = (fun z => dx m c (z 0) (z 1) : FVec Ideal S4112x384 .f32))) (ix2 y0 y1)) ?_
  · funext z
    idx_vars z
    pointwise [dx, Cert.Rows.rs, Cert.Rows.rinv, msVec, X, G, DN, DY, W, dnVec]
    simp only [Fin.sum_univ_one]
  · refine Eq.trans ?_ (Cert.Rows.pad_eq 112 (by rfl : 112 + 4112 = 4224) (dx m c) y0 y1)
    pointwise

theorem res1_eq (c : Dev nD) : res_main_v108 m c = res1 m c := by
  unfold res_main_v108
  rw [ang_eq, dy_eq]
  funext y
  idx_vars y
  refine Eq.trans ?_ (Cert.Rope.wide_pad _ Cert.Rope.zero_f32 (dw m c y0) y1)
  pointwise [dw, Cert.Rows.rinv, X, G, DY]

theorem res2_eq (c : Dev nD) : res_main_v102 m c = res2 m c := by
  unfold res_main_v102
  rw [ang_eq, dy_eq, dn_eq, ms_eq]
  funext y
  idx_vars y
  pointwise [res2, Cert.Rows.rinv, msVec, X, DN, DY, W, dnVec]
  simp only [Fin.sum_univ_one]

theorem run_res (ρ : Dev nD → PrngReg) :
    θ_run defs (onTc (τ := τ) (main (F := Ideal))) ⟨m, fun _ => 0, ρ⟩ fun r => ∀ c : Dev nD,
      r.2.mem ((c.tc : Thread nD τ).loc main_v104) = res0 m c
      ∧ r.2.mem ((c.tc : Thread nD τ).loc main_v108) = res1 m c
      ∧ r.2.mem ((c.tc : Thread nD τ).loc main_v102) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res0_eq m c), (h c).2.1.trans (res1_eq m c), (h c).2.2.1.trans (res2_eq m c), (h c).2.2.2⟩) (run m ρ)

end Cert.QProjRefIdeal.Value

end
-- ==== Proof.NormRows.lean ====
/- The norm's gradient of a row to which nothing is added, and the lengths of the latents' rows as numbers. -/
module

public import proofs.«01_k».proof.Proof.Rows

@[expose] public section

set_option maxRecDepth 16384

noncomputable section

open Idealize.ShloMosaic
open scoped BigOperators

namespace Cert.NormRows

theorem n384 : Ideal.ofBits .f32 0x43C00000#32 = ((384 : ℝ) : EReal) := by
  simp [Ideal.ofBits, Ideal.ieee, -EReal.coe_mul]; norm_num

theorem n256 : Ideal.ofBits .f32 0x43800000#32 = ((256 : ℝ) : EReal) := by
  simp [Ideal.ofBits, Ideal.ieee, -EReal.coe_mul]; norm_num

/-- The input's gradient with nothing added. -/
theorem dx_eq {T K N p : ℕ} (hN : p + T = N) {n e : ℝ} (hn : 0 < n) (he : 0 < e) (x d : Fin T → Fin K → EReal) (g : Fin K → EReal)
    (hx : ∀ t k, ∃ r : ℝ, x t k = (r : EReal)) (hd : ∀ t k, ∃ r : ℝ, d t k = (r : EReal)) (hg : ∀ k, ∃ r : ℝ, g k = (r : EReal))
    (i : Fin N) (j : Fin K) :
    Cert.Rows.kdx (n : EReal) (e : EReal) (Cert.Rows.pad p hN x i) g (Cert.Rows.pad p hN d i) j
      = Cert.Rows.pad p hN (fun t j => d t j * g j * Cert.Rows.rinv (n : EReal) (e : EReal) (x t)
          + x t j * Cert.Rows.rs (n : EReal) (e : EReal) ((-(1 / 2) : ℝ) : EReal) (x t) g (d t)
          + Cert.Rows.rs (n : EReal) (e : EReal) ((-(1 / 2) : ℝ) : EReal) (x t) g (d t) * x t j) i j := by
  have z : Cert.Rows.pad p hN (fun (_ : Fin T) (_ : Fin K) => (0 : EReal)) i j = 0 := by
    unfold Cert.Rows.pad
    split_ifs <;> rfl
  have h := Cert.Rows.dx_eq hN hn he x d (fun _ _ => 0) g hx hd hg i j
  simp only [zero_add] at h
  rw [z, add_zero] at h
  exact h

end Cert.NormRows

end
-- ==== Proof.QProjEq.lean ====
/- The backward call of the queries' projection: the kernel's three results are the reference's, where the arguments are finite. -/
module

public import proofs.«01_k».proof.Proof.QProjKernel
public import proofs.«01_k».proof.Proof.QProjRef
public import proofs.«01_k».proof.Proof.NormRows
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.QProjEq

/-- The precondition's shape relations. -/
theorem pre_facts : Cert.Pre_finite_q.Facts where
  bcast_S_S4112x384 := by decide
  reducesTo_S4112x384_S_d0_1 := by decide
  h_S_ := by decide
  bcast_S_S1x384 := by decide
  reducesTo_S1x384_S_d0_1 := by decide
  bcast_S_S1x384x1536 := by decide
  reducesTo_S1x384x1536_S_d0_1_2 := by decide
  bcast_S_S4112x8x192 := by decide
  reducesTo_S4112x8x192_S_d0_1_2 := by decide

open Cert.Pre_finite_q in
/-- What the precondition says. -/
theorem finite [Facts] (a0 : FVec Ideal S4112x384 .f32) (a1 : FVec Ideal S1x384 .f32) (a2 : FVec Ideal S1x384x1536 .f32)
    (a3 : FVec Ideal S4112x8x192 .f32) (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ ∀ i, ∃ r : ℝ, a3 i = (r : EReal) := by
  have e := congrFun h ValueIdx.ix0
  obtain ⟨e, e3⟩ := IntOp.andi_eq_one.1 e
  obtain ⟨e, e2⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e2, Cert.Finite.of_all _ _ _ _ _ e3⟩

variable (m : (ℓ : Loc Cert.QProjIdeal.nD Cert.QProjIdeal.τ Cert.QProjIdeal.sig) → Buf (Elt Ideal) ℓ)
  (m' : (ℓ : Loc Cert.QProjRefIdeal.nD Cert.QProjRefIdeal.τ Cert.QProjRefIdeal.sig) → Buf (Elt Ideal) ℓ)
  (c : Dev Cert.QProjIdeal.nD)

/-- The two memories hold the same arguments. -/
def Same : Prop :=
  m' (c.tc.loc Cert.QProjRefIdeal.main_arg0) = m (c.tc.loc Cert.QProjIdeal.main_arg0)
  ∧ m' (c.tc.loc Cert.QProjRefIdeal.main_arg1) = m (c.tc.loc Cert.QProjIdeal.main_arg1)
  ∧ m' (c.tc.loc Cert.QProjRefIdeal.main_arg2) = m (c.tc.loc Cert.QProjIdeal.main_arg2)
  ∧ m' (c.tc.loc Cert.QProjRefIdeal.main_arg3) = m (c.tc.loc Cert.QProjIdeal.main_arg3)

variable (hs : Same m m' c)
include hs

theorem X_eq (i : Fin 4224) : QProjIdeal.Value.X m c i = Cert.Rows.pad 112 (by rfl : 112 + 4112 = 4224) (QProjRefIdeal.Value.X m' c) i := by
  unfold QProjRefIdeal.Value.X; rw [hs.1]; rfl

theorem G_eq : QProjIdeal.Value.G m c = QProjRefIdeal.Value.G m' c := by
  unfold QProjRefIdeal.Value.G; rw [hs.2.1]; rfl

theorem cot_eq : QProjIdeal.Value.cot m c = QProjRefIdeal.Value.DY m' c := by
  funext i n
  unfold QProjRefIdeal.Value.DY QProjRefIdeal.Value.dyVec
  rw [hs.2.2.2]
  rfl

theorem DN_eq (i : Fin 4224) (k : Fin 384) :
    QProjIdeal.Value.DN m c i k = Cert.Rows.pad 112 (by rfl : 112 + 4112 = 4224) (QProjRefIdeal.Value.DN m' c) i k := by
  unfold QProjIdeal.Value.DN QProjIdeal.Value.DY QProjIdeal.Value.W
  rw [Cert.Rope.sum_wide, cot_eq m m' c hs]
  refine (Cert.Rows.sum_mul_pad (by rfl : 112 + 4112 = 4224) (QProjRefIdeal.Value.DY m' c) (fun k n => m (c.tc.loc Cert.QProjIdeal.main_arg2) (ValueIdx.ix3 0 k n)) i k).trans ?_
  congr 1
  funext t k
  unfold QProjRefIdeal.Value.DN QProjRefIdeal.Value.W
  rw [hs.2.2.1]
  rfl

theorem dw_eq (a : Fin 384) (n : Fin 2048) : (∑ i, (QProjIdeal.Value.X m c i a
    * Cert.Rows.rinv QProjIdeal.Value.nn QProjIdeal.Value.ee (QProjIdeal.Value.X m c i) * QProjIdeal.Value.G m c a) * QProjIdeal.Value.DY m c i n)
      = Cert.Rope.wide (QProjRefIdeal.Value.dw m' c a) n := by
  unfold QProjIdeal.Value.DY
  simp only [X_eq m m' c hs, G_eq m m' c hs, cot_eq m m' c hs]
  unfold Cert.Rope.wide
  split_ifs with h1
  · exact Cert.Rows.dw_eq _ _ _ _ _ _ _ _
  · exact Finset.sum_eq_zero fun i _ => mul_zero _

theorem res1_eq : QProjIdeal.Value.res7 m c = QProjRefIdeal.Value.res1 m' c :=
  funext fun y => dw_eq m m' c hs (y 0) (y 1)

theorem dg_eq (b : Fin 384) : (∑ i, QProjIdeal.Value.DN m c i b * (QProjIdeal.Value.X m c i b
    * Cert.Rows.rinv QProjIdeal.Value.nn QProjIdeal.Value.ee (QProjIdeal.Value.X m c i)))
      = ∑ i, QProjRefIdeal.Value.X m' c i b * Cert.Rows.rinv QProjRefIdeal.Value.nn QProjRefIdeal.Value.ee (QProjRefIdeal.Value.X m' c i)
        * QProjRefIdeal.Value.DN m' c i b := by
  simp only [X_eq m m' c hs, DN_eq m m' c hs]
  exact Cert.Rows.dg_eq _ _ _ _ _ _

theorem res2_eq : QProjIdeal.Value.res8 m c = QProjRefIdeal.Value.res2 m' c :=
  funext fun y => dg_eq m m' c hs (y 1)

/-- The cotangents turned back are finite where the cotangents are. -/
theorem dy_real [Cert.Pre_finite_q.Facts] (hp : Cert.Pre_QProjIdeal_finite_q m) (t : Fin 4112) (n : Fin 1536) :
    ∃ r : ℝ, QProjRefIdeal.Value.DY m' c t n = (r : EReal) := by
  obtain ⟨_, _, _, h3⟩ := finite _ _ _ _ (hp c)
  rw [← cot_eq m m' c hs]
  exact Cert.Rope.back_real (fun l => h3 _) _ _

theorem dx_eq [Cert.Pre_finite_q.Facts] (hp : Cert.Pre_QProjIdeal_finite_q m) (i : Fin 4224) (j : Fin 384) :
    Cert.Rows.kdx QProjIdeal.Value.nn QProjIdeal.Value.ee (QProjIdeal.Value.X m c i) (QProjIdeal.Value.G m c) (QProjIdeal.Value.DN m c i) j
      = Cert.Rows.pad 112 (by rfl : 112 + 4112 = 4224) (QProjRefIdeal.Value.dx m' c) i j := by
  obtain ⟨h0, h1, h2, _⟩ := finite _ _ _ _ (hp c)
  rw [show QProjIdeal.Value.DN m c i = _ from funext (DN_eq m m' c hs i), X_eq m m' c hs, G_eq m m' c hs]
  obtain ⟨e, he, hee⟩ := Cert.Finite.eps
  unfold QProjRefIdeal.Value.dx QProjRefIdeal.Value.nn QProjRefIdeal.Value.ee QProjRefIdeal.Value.hh QProjIdeal.Value.nn QProjIdeal.Value.ee
  rw [Cert.NormRows.n384, Cert.Finite.half, hee]
  refine Cert.NormRows.dx_eq _ (by norm_num) he _ _ _ ?_ ?_ ?_ _ _
  · intro t k; unfold QProjRefIdeal.Value.X; rw [hs.1]; exact h0 _
  · intro t k
    unfold QProjRefIdeal.Value.DN QProjRefIdeal.Value.W
    rw [hs.2.2.1]
    exact Cert.Rows.real_sum_mul (dy_real m m' c hs hp t) (fun n : Fin 1536 => h2 (ValueIdx.ix3 0 k n))
  · intro k; unfold QProjRefIdeal.Value.G; rw [hs.2.1]; exact h1 _

theorem res0_eq [Cert.Pre_finite_q.Facts] (hp : Cert.Pre_QProjIdeal_finite_q m) : QProjIdeal.Value.res6 m c = QProjRefIdeal.Value.res0 m' c :=
  funext fun y => dx_eq m m' c hs hp (y 0) (y 1)

end Cert.QProjEq

end
-- ==== Proof.KvCols.lean ====
/- The columns of the keys' and values' projection, and the rotary key's gradient added up over the heads. -/
module

public import proofs.«01_k».proof.Proof.Rope
public import proofs.«01_k».proof.Proof.Rows

@[expose] public section

set_option maxRecDepth 16384

noncomputable section

open Idealize.ShloMosaic
open scoped BigOperators

namespace Cert.KvCols

/-- Every head's 128 columns of keys, then its 128 columns of values. -/
def both (dk : Fin 8 → Fin 192 → EReal) (dv : Fin 8 → Fin 128 → EReal) (n : Fin 2048) : EReal :=
  if h : n.val % 256 < 128 then dk ⟨n.val / 256, by omega⟩ ⟨n.val % 256, by omega⟩ else dv ⟨n.val / 256, by omega⟩ ⟨n.val % 256 - 128, by omega⟩

theorem both_pads (dk : Fin 8 → Fin 192 → EReal) (dv : Fin 8 → Fin 128 → EReal) (n : Fin 2048) :
    (if h : n.val / 256 < 8 ∧ 128 ≤ n.val % 256 ∧ n.val % 256 - 128 < 128 then dv ⟨n.val / 256, h.1⟩ ⟨n.val % 256 - 128, h.2.2⟩ else 0)
      + (if h : n.val / 256 < 8 ∧ n.val % 256 < 128 then dk ⟨n.val / 256, h.1⟩ ⟨n.val % 256, by omega⟩ else 0) = both dk dv n := by
  have hn := n.isLt
  unfold both
  by_cases h : n.val % 256 < 128
  · rw [dif_neg (by omega), dif_pos ⟨by omega, h⟩, dif_pos h, zero_add]
  · rw [dif_pos ⟨by omega, by omega, by omega⟩, dif_neg (by omega), dif_neg h, add_zero]

/-- Rows under 112 rows of zeros of every head's columns, as a host program's padding states them. -/
theorem pad_vals (f : Fin 4112 → Fin 8 → Fin 128 → EReal) (i : Fin 4224) (k : Fin 1024) :
    (if h : 112 ≤ i.val ∧ i.val - 112 < 4112 then f ⟨i.val - 112, h.2⟩ ⟨k.val / 128, by omega⟩ ⟨k.val % 128, by omega⟩
      else FloatOps.sitofp (F := Ideal) FTy.f32 0#32)
      = Cert.Rows.pad 112 (by rfl : 112 + 4112 = 4224) (fun t k => f t ⟨k.val / 128, by omega⟩ ⟨k.val % 128, by omega⟩) i k := by
  have hi := i.isLt
  unfold Cert.Rows.pad
  simp only [Cert.Rope.zero_f32]
  split_ifs <;> first
    | rfl
    | omega

/-- The columns a row of the kernel's scratch is put together from: those of the widened keys and those of the values. -/
theorem joined (f : Fin 4112 → Fin 8 → Fin 192 → EReal) (g : Fin 4112 → Fin 8 → Fin 128 → EReal) (i : Fin 4224) (n : Fin 2048) :
    (if n.val / 128 % 2 = 0 then Cert.Rows.pad 112 (by rfl : 112 + 4112 = 4224) (fun t => Cert.Rope.wide (Cert.Rope.heads (f t))) i n
      else Cert.Rows.pad 112 (by rfl : 112 + 4112 = 4224) (fun t (k : Fin 1024) => g t ⟨k.val / 128, by omega⟩ ⟨k.val % 128, by omega⟩) i
        ⟨n.val / 256 * 128 + n.val % 128, by omega⟩)
      = Cert.Rows.pad 112 (by rfl : 112 + 4112 = 4224) (fun t => both (f t) (g t)) i n := by
  have hn := n.isLt
  rcases Cert.Rows.row_cases (by rfl : 112 + 4112 = 4224) i with h | ⟨t, h, rfl⟩
  · simp only [Cert.Rows.pad_lo _ h, ite_self]
  · simp only [Cert.Rows.pad_hi _ _ t h]
    unfold both
    by_cases h2 : n.val / 128 % 2 = 0
    · rw [if_pos h2, Cert.Rope.wide_heads, dif_pos (by omega : n.val % 256 < 192), dif_pos (by omega : n.val % 256 < 128)]
    · rw [if_neg h2, dif_neg (by omega : ¬n.val % 256 < 128)]
      exact congrArg₂ (g t) (Fin.ext (by show (n.val / 256 * 128 + n.val % 128) / 128 = n.val / 256; omega))
        (Fin.ext (by show (n.val / 256 * 128 + n.val % 128) % 128 = n.val % 256 - 128; omega))

/-- The rotary key's gradient at position `t`: the heads' rotary lanes added up and turned back. -/
def keys (dk : Fin 8 → Fin 192 → EReal) (t : ℕ) (l : Fin 128) : EReal :=
  if h : l.val < 64 then Cert.Rope.back (fun l => ∑ h, dk h l) t ⟨128 + l.val, by omega⟩ else 0

/-- A row's 64 lanes turned back by the derivative's lines, under 112 rows of zeros. -/
theorem turned_pads (q : Fin 4112 → Fin 192 → EReal) (i : Fin 4224) (l : Fin 128) :
    (if h : (112 ≤ i.val ∧ i.val - 112 < 4112) ∧ l.val < 64 then
      if h1 : l.val < 32 then
        q ⟨i.val - 112, h.1.2⟩ ⟨128 + (32 + l.val), by omega⟩ * Ideal.sin (Cert.Rope.ang (i.val - 112) ⟨l.val, h1⟩)
          + q ⟨i.val - 112, h.1.2⟩ ⟨128 + l.val, by omega⟩ * Ideal.cos (Cert.Rope.ang (i.val - 112) ⟨l.val, h1⟩)
      else q ⟨i.val - 112, h.1.2⟩ ⟨128 + (32 + (l.val - 32)), by omega⟩ * Ideal.cos (Cert.Rope.ang (i.val - 112) ⟨l.val - 32, by omega⟩)
          + -q ⟨i.val - 112, h.1.2⟩ ⟨128 + (l.val - 32), by omega⟩ * Ideal.sin (Cert.Rope.ang (i.val - 112) ⟨l.val - 32, by omega⟩)
    else FloatOps.sitofp (F := Ideal) FTy.f32 0#32)
      = Cert.Rows.pad 112 (by rfl : 112 + 4112 = 4224)
          (fun t (l : Fin 128) => if h : l.val < 64 then Cert.Rope.back (q t) t.val ⟨128 + l.val, by omega⟩ else 0) i l := by
  have hi := i.isLt
  rw [Cert.Rope.zero_f32]
  rcases Cert.Rows.row_cases (by rfl : 112 + 4112 = 4224) i with h | ⟨t, h, rfl⟩
  · rw [dif_neg (by omega), Cert.Rows.pad_lo _ h]
  · rw [Cert.Rows.pad_hi _ _ t h]
    have et : (⟨112 + t.val - 112, by omega⟩ : Fin 4112) = t := Fin.ext (by show 112 + t.val - 112 = t.val; omega)
    have ev : 112 + t.val - 112 = t.val := by omega
    by_cases h1 : l.val < 64
    · rw [dif_pos ⟨⟨by show 112 ≤ 112 + t.val; omega, by show 112 + t.val - 112 < 4112; omega⟩, h1⟩, dif_pos h1]
      by_cases h2 : l.val < 32
      · rw [dif_pos h2]
        unfold Cert.Rope.back
        rw [dif_neg (by show ¬(128 + l.val < 128); omega), dif_pos (by show 128 + l.val < 160; omega)]
        have e1 : (⟨128 + (32 + l.val), by omega⟩ : Fin 192) = ⟨128 + l.val + 32, by omega⟩ := Fin.ext (by show 128 + (32 + l.val) = 128 + l.val + 32; omega)
        have e2 : (⟨128 + l.val - 128, by omega⟩ : Fin 32) = ⟨l.val, h2⟩ := Fin.ext (by show 128 + l.val - 128 = l.val; omega)
        simp only [et, ev, e1, e2]
      · rw [dif_neg h2]
        unfold Cert.Rope.back
        rw [dif_neg (by show ¬(128 + l.val < 128); omega), dif_neg (by show ¬(128 + l.val < 160); omega)]
        have e1 : (⟨128 + (32 + (l.val - 32)), by omega⟩ : Fin 192) = ⟨128 + l.val, by omega⟩ := Fin.ext (by show 128 + (32 + (l.val - 32)) = 128 + l.val; omega)
        have e2 : (⟨128 + l.val - 160, by omega⟩ : Fin 32) = ⟨l.val - 32, by omega⟩ := Fin.ext (by show 128 + l.val - 160 = l.val - 32; omega)
        have e3 : (⟨128 + (l.val - 32), by omega⟩ : Fin 192) = ⟨128 + l.val - 32, by omega⟩ := Fin.ext (by show 128 + (l.val - 32) = 128 + l.val - 32; omega)
        simp only [et, ev, e1, e2, e3]
    · rw [dif_neg (by omega), dif_neg h1]

/-- The kernel's way: the heads' widened rotary lanes added up, then turned back by the tables. -/
theorem turned_sum (f : Fin 4112 → Fin 8 → Fin 192 → EReal) (i : Fin 4224) (l : Fin 128) :
    Cert.Rope.unr (fun k => ∑ h : Fin 8, Cert.Rows.pad 112 (by rfl : 112 + 4112 = 4224) (fun t => Cert.Rope.wide (Cert.Rope.heads (f t))) i
        ⟨256 * h.val + 128 + k.val, by omega⟩) (Cert.Rope.cosTab i.val) (Cert.Rope.sinTab i.val) l
      = Cert.Rows.pad 112 (by rfl : 112 + 4112 = 4224) (fun t => keys (f t) t.val) i l := by
  rcases Cert.Rows.row_cases (by rfl : 112 + 4112 = 4224) i with h | ⟨t, h, rfl⟩
  · simp only [Cert.Rows.pad_lo _ h, Finset.sum_const_zero, Cert.Rope.unr_zero]
  · simp only [Cert.Rows.pad_hi _ _ t h]
    have e1 : (fun k : Fin 128 => ∑ h : Fin 8, Cert.Rope.wide (Cert.Rope.heads (f t)) ⟨256 * h.val + 128 + k.val, by omega⟩)
        = fun k => if h : k.val < 64 then (fun l => ∑ h, f t h l) ⟨128 + k.val, by omega⟩ else 0 := by
      funext k
      have hk := k.isLt
      by_cases h3 : k.val < 64
      · rw [dif_pos h3]
        refine Finset.sum_congr rfl fun a _ => ?_
        have ha := a.isLt
        rw [Cert.Rope.wide_heads, dif_pos (by show (256 * a.val + 128 + k.val) % 256 < 192; omega)]
        exact congrArg₂ (f t) (Fin.ext (by show (256 * a.val + 128 + k.val) / 256 = a.val; omega))
          (Fin.ext (by show (256 * a.val + 128 + k.val) % 256 = 128 + k.val; omega))
      · rw [dif_neg h3]
        refine Finset.sum_eq_zero fun a _ => ?_
        have ha := a.isLt
        rw [Cert.Rope.wide_heads, dif_neg (by show ¬((256 * a.val + 128 + k.val) % 256 < 192); omega)]
    rw [e1]
    refine (Cert.Rope.unr_back (fun l => ∑ h, f t h l) (by show 112 ≤ 112 + t.val; omega) h l).trans ?_
    unfold keys
    have ev : 112 + t.val - 112 = t.val := by omega
    simp only [ev]

end Cert.KvCols

end
-- ==== Proof.KvProjKernel.lean ====
/- What the `a_kv_proj_bwd` call's four output arrays end holding, index by index, as functions of the arguments. -/
module

public import proofs.«01_k».proof.Proof.Rows
public import proofs.«01_k».proof.Proof.KvCols
public import proofs.«01_k».proof.Proof.Pieces
public import proofs.«01_k».proof.Proof.Gen.KvProjIdeal.Value
public import Idealize.ShloMosaic.Lib.Pipeline.ValueKit
public import Idealize.ShloMosaic.Lib.Claim
public import Idealize.ShloMosaic.Lib.StableHlo.Run

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.KvProjIdeal.Value

open Cert.KvProjIdeal Cert.KvProjIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![t.val, 0] :=
  (by decide +kernel : ∀ t : Fin grid0.N, _)

/-! ## The pieces a point's scratch is put together from -/

/-- The pieces hold the gradients as they come. -/
theorem copies (v : FVec Ideal S384x128 .f32) : k0_pay12 (F := Ideal) (k0_pay11 v) = v ∧ k0_pay7 (F := Ideal) v = v ∧ k0_pay8 (F := Ideal) v = v ∧ k0_pay10 (F := Ideal) v = v ∧ k0_pay13 (F := Ideal) v = v ∧ k0_pay14 (F := Ideal) v = v ∧ k0_pay16 (F := Ideal) v = v ∧ k0_pay17 (F := Ideal) v = v ∧ k0_pay18 (F := Ideal) v = v ∧ k0_pay19 (F := Ideal) v = v ∧ k0_pay20 (F := Ideal) v = v ∧ k0_pay21 (F := Ideal) v = v ∧ k0_pay23 (F := Ideal) v = v ∧ k0_pay24 (F := Ideal) v = v ∧ k0_pay25 (F := Ideal) v = v ∧ k0_pay26 (F := Ideal) v = v := by
  refine ⟨?_, ?_, ?_, ?_, ?_, ?_, ?_, ?_, ?_, ?_, ?_, ?_, ?_, ?_, ?_, ?_⟩ <;> (funext y; idx_vars y; pointwise [k0_pay11, k0_pay12, k0_pay7, k0_pay8, k0_pay10, k0_pay13, k0_pay14, k0_pay16, k0_pay17, k0_pay18, k0_pay19, k0_pay20, k0_pay21, k0_pay23, k0_pay24, k0_pay25, k0_pay26])

theorem inb_k (h : ℕ) (hh : h < 8) : ∀ a, (![0, 256 * h] : Fin 2 → ℕ) a + (![384, 128] : Fin 2 → ℕ) a ≤ S384x2048.size a := by
  intro a
  fin_cases a
  · show 0 + 384 ≤ 384; omega
  · show 256 * h + 128 ≤ 2048; omega

theorem inb_r (h : ℕ) (hh : h < 8) : ∀ a, (![0, 256 * h + 128] : Fin 2 → ℕ) a + (![384, 128] : Fin 2 → ℕ) a ≤ S384x2048.size a := by
  intro a
  fin_cases a
  · show 0 + 384 ≤ 384; omega
  · show 256 * h + 128 + 128 ≤ 2048; omega

theorem inb_v (h : ℕ) (hh : h < 8) : ∀ a, (![0, 128 * h] : Fin 2 → ℕ) a + (![384, 128] : Fin 2 → ℕ) a ≤ S384x1024.size a := by
  intro a
  fin_cases a
  · show 0 + 384 ≤ 384; omega
  · show 128 * h + 128 ≤ 1024; omega

/-- Head `h`'s columns of the keys' gradient, of its rotary lanes, and of the values' gradient. -/
abbrev K (d : FVec Ideal S384x2048 .f32) (h : ℕ) (hh : h < 8) : FVec Ideal S384x128 .f32 :=
  View.ld (Val := Elt Ideal) (e' := .f32) d (Rect.unit (s := S384x2048) ![0, 256 * h] ![384, 128] (inb_k h hh))
abbrev R (d : FVec Ideal S384x2048 .f32) (h : ℕ) (hh : h < 8) : FVec Ideal S384x128 .f32 :=
  View.ld (Val := Elt Ideal) (e' := .f32) d (Rect.unit (s := S384x2048) ![0, 256 * h + 128] ![384, 128] (inb_r h hh))
abbrev U (v : FVec Ideal S384x1024 .f32) (h : ℕ) (hh : h < 8) : FVec Ideal S384x128 .f32 :=
  View.ld (Val := Elt Ideal) (e' := .f32) v (Rect.unit (s := S384x1024) ![0, 128 * h] ![384, 128] (inb_v h hh))

/-- Piece `p` of the scratch: the keys' columns of a head, or its values'. -/
def piece (d : FVec Ideal S384x2048 .f32) (v : FVec Ideal S384x1024 .f32) (p : Fin 16) : FVec Ideal S384x128 .bf16 :=
  if p.val % 2 = 0 then K d (p.val / 2) (by omega) else U v (p.val / 2) (by omega)

/-- The gradient of the product a point sees. -/
def dyBlk (d : FVec Ideal S384x2048 .f32) (v : FVec Ideal S384x1024 .f32) : Vec Ideal S384x2048 .bf16 :=
  Cert.Pieces.all (Val := Elt Ideal) (e := .bf16) (piece d v)

theorem dyBlk_apply (d : FVec Ideal S384x2048 .f32) (v : FVec Ideal S384x1024 .f32) (i : Fin 384) (n : Fin 2048) :
    dyBlk d v (ix2 i n) = if n.val / 128 % 2 = 0 then d (ix2 i n) else v (ix2 i ⟨n.val / 256 * 128 + n.val % 128, by omega⟩) := by
  have hn := n.isLt
  show piece d v ⟨n.val / 128, by omega⟩ (ix2 i ⟨n.val % 128, Nat.mod_lt _ (by omega)⟩) = _
  unfold piece
  by_cases h : n.val / 128 % 2 = 0
  · rw [if_pos h, if_pos h]
    refine (Cert.Pieces.ld_cols (Val := Elt Ideal) (e := .f32) (N := 2048) (256 * (n.val / 128 / 2)) d _ i ⟨n.val % 128, Nat.mod_lt _ (by omega)⟩ (by show 256 * (n.val / 128 / 2) + n.val % 128 < 2048; omega)).trans ?_
    exact congrArg (fun k => d (ix2 i k)) (Fin.ext (by show 256 * (n.val / 128 / 2) + n.val % 128 = n.val; omega))
  · rw [if_neg h, if_neg h]
    refine (Cert.Pieces.ld_cols (Val := Elt Ideal) (e := .f32) (N := 1024) (128 * (n.val / 128 / 2)) v _ i ⟨n.val % 128, Nat.mod_lt _ (by omega)⟩ (by show 128 * (n.val / 128 / 2) + n.val % 128 < 1024; omega)).trans ?_
    exact congrArg (fun k => v (ix2 i k)) (Fin.ext (by show 128 * (n.val / 128 / 2) + n.val % 128 = n.val / 256 * 128 + n.val % 128; omega))

/-- The scratch the sixteen pieces are written to reads back as `dyBlk`. -/
theorem readCov_dy {sig : RefSig} {κ : Kind} {sp : Space} (w : View sig κ sp S384x2048 .bf16)
    (inb : ∀ a, (![0, 0] : Fin 2 → ℕ) a + (![384, 2048] : Fin 2 → ℕ) a ≤ S384x2048.size a)
    (d : FVec Ideal S384x2048 .f32) (v : FVec Ideal S384x1024 .f32) :
    w.readCov [
        (⟨Rect.unit (s := S384x2048) ![0, 1920] ![384, 128] (Cert.Pieces.inb 15 (by omega)), k0_pay26 (F := Ideal) (U v 7 (by omega))⟩ : View.Piece (Elt Ideal) S384x2048 .bf16),
        ⟨Rect.unit (s := S384x2048) ![0, 1792] ![384, 128] (Cert.Pieces.inb 14 (by omega)), k0_pay25 (F := Ideal) (K d 7 (by omega))⟩,
        ⟨Rect.unit (s := S384x2048) ![0, 1664] ![384, 128] (Cert.Pieces.inb 13 (by omega)), k0_pay24 (F := Ideal) (U v 6 (by omega))⟩,
        ⟨Rect.unit (s := S384x2048) ![0, 1536] ![384, 128] (Cert.Pieces.inb 12 (by omega)), k0_pay23 (F := Ideal) (K d 6 (by omega))⟩,
        ⟨Rect.unit (s := S384x2048) ![0, 1408] ![384, 128] (Cert.Pieces.inb 11 (by omega)), k0_pay21 (F := Ideal) (U v 5 (by omega))⟩,
        ⟨Rect.unit (s := S384x2048) ![0, 1280] ![384, 128] (Cert.Pieces.inb 10 (by omega)), k0_pay20 (F := Ideal) (K d 5 (by omega))⟩,
        ⟨Rect.unit (s := S384x2048) ![0, 1152] ![384, 128] (Cert.Pieces.inb 9 (by omega)), k0_pay19 (F := Ideal) (U v 4 (by omega))⟩,
        ⟨Rect.unit (s := S384x2048) ![0, 1024] ![384, 128] (Cert.Pieces.inb 8 (by omega)), k0_pay18 (F := Ideal) (K d 4 (by omega))⟩,
        ⟨Rect.unit (s := S384x2048) ![0, 896] ![384, 128] (Cert.Pieces.inb 7 (by omega)), k0_pay17 (F := Ideal) (U v 3 (by omega))⟩,
        ⟨Rect.unit (s := S384x2048) ![0, 768] ![384, 128] (Cert.Pieces.inb 6 (by omega)), k0_pay16 (F := Ideal) (K d 3 (by omega))⟩,
        ⟨Rect.unit (s := S384x2048) ![0, 640] ![384, 128] (Cert.Pieces.inb 5 (by omega)), k0_pay14 (F := Ideal) (U v 2 (by omega))⟩,
        ⟨Rect.unit (s := S384x2048) ![0, 512] ![384, 128] (Cert.Pieces.inb 4 (by omega)), k0_pay13 (F := Ideal) (K d 2 (by omega))⟩,
        ⟨Rect.unit (s := S384x2048) ![0, 384] ![384, 128] (Cert.Pieces.inb 3 (by omega)), k0_pay12 (F := Ideal) (k0_pay11 (U v 1 (by omega)))⟩,
        ⟨Rect.unit (s := S384x2048) ![0, 256] ![384, 128] (Cert.Pieces.inb 2 (by omega)), k0_pay10 (F := Ideal) (K d 1 (by omega))⟩,
        ⟨Rect.unit (s := S384x2048) ![0, 128] ![384, 128] (Cert.Pieces.inb 1 (by omega)), k0_pay8 (F := Ideal) (U v 0 (by omega))⟩,
        ⟨Rect.unit (s := S384x2048) ![0, 0] ![384, 128] (Cert.Pieces.inb 0 (by omega)), k0_pay7 (F := Ideal) (K d 0 (by omega))⟩]
        (Rect.unit (s := S384x2048) ![0, 0] ![384, 2048] inb).toLoadRect = dyBlk d v := by
  refine Eq.trans ?_ (Cert.Pieces.readCov_cols (Val := Elt Ideal) (e := .bf16) w inb (piece d v))
  simp only [(copies _).1, (copies _).2.1, (copies _).2.2.1, (copies _).2.2.2.1, (copies _).2.2.2.2.1, (copies _).2.2.2.2.2.1, (copies _).2.2.2.2.2.2.1, (copies _).2.2.2.2.2.2.2.1, (copies _).2.2.2.2.2.2.2.2.1, (copies _).2.2.2.2.2.2.2.2.2.1, (copies _).2.2.2.2.2.2.2.2.2.2.1, (copies _).2.2.2.2.2.2.2.2.2.2.2.1, (copies _).2.2.2.2.2.2.2.2.2.2.2.2.1, (copies _).2.2.2.2.2.2.2.2.2.2.2.2.2.1, (copies _).2.2.2.2.2.2.2.2.2.2.2.2.2.2.1, (copies _).2.2.2.2.2.2.2.2.2.2.2.2.2.2.2]
  rfl

/-! ## The rotary key's gradient -/

/-- 128 lanes of every row turned back by the tables. -/
def unrVec (c s v : FVec Ideal S384x128 .f32) : FVec Ideal S384x128 .f32 :=
  fun y => Cert.Rope.unr (fun l => v (ix2 (y 0) l)) (fun l => c (ix2 (y 0) l)) (fun l => s (ix2 (y 0) l)) (y 1)

/-- The heads' rotary lanes added up. -/
def sumBlk (d : FVec Ideal S384x2048 .f32) : FVec Ideal S384x128 .f32 :=
  fun y => ∑ h : Fin 8, d (ix2 (y 0) ⟨256 * h.val + 128 + (y 1).val, by have : (y 1).val < 128 := (y 1).isLt; omega⟩)

theorem R_apply (d : FVec Ideal S384x2048 .f32) (h : ℕ) (hh : h < 8) (i : Fin 384) (l : Fin 128) :
    R d h hh (ix2 i l) = d (ix2 i ⟨256 * h + 128 + l.val, by omega⟩) :=
  Cert.Pieces.ld_cols (Val := Elt Ideal) (e := .f32) (N := 2048) (256 * h + 128) d (inb_r h hh) i l (by omega)

abbrev heads8 (d : FVec Ideal S384x2048 .f32) : FVec Ideal S384x128 .f32 :=
  k0_pay22 (F := Ideal) (k0_pay15 (k0_pay9 (R d 0 (by omega))) (R d 1 (by omega)) (R d 2 (by omega))) (R d 3 (by omega)) (R d 4 (by omega)) (R d 5 (by omega))

theorem sumBlk_apply (d : FVec Ideal S384x2048 .f32) (i : Fin 384) (l : Fin 128) :
    sumBlk d (ix2 i l) = R d 0 (by omega) (ix2 i l) + R d 1 (by omega) (ix2 i l) + R d 2 (by omega) (ix2 i l) + R d 3 (by omega) (ix2 i l)
      + R d 4 (by omega) (ix2 i l) + R d 5 (by omega) (ix2 i l) + R d 6 (by omega) (ix2 i l) + R d 7 (by omega) (ix2 i l) := by
  have e : ∀ h : Fin 8, R d h.val h.isLt (ix2 i l) = d (ix2 i ⟨256 * h.val + 128 + l.val, by omega⟩) := fun h => R_apply d h.val h.isLt i l
  refine Eq.trans ?_ (Fin.sum_univ_eight fun h : Fin 8 => R d h.val h.isLt (ix2 i l))
  exact Finset.sum_congr rfl fun h _ => (e h).symm

theorem sum_pay (d : FVec Ideal S384x2048 .f32) : k0_pay27 (F := Ideal) (heads8 d) (R d 6 (by omega)) (R d 7 (by omega)) = sumBlk d := by
  funext y
  idx_vars y
  rw [sumBlk_apply]
  pointwise [k0_pay27, k0_pay22, k0_pay15, k0_pay9, heads8]

theorem key_pay (c s a b e : FVec Ideal S384x128 .f32) :
    k0_pay31 (F := Ideal) k0_pay28 (k0_pay29 (k0_pay5 c) a b e) (k0_pay30 (k0_pay6 s) a b e) (iota Kind.tc S384x128 32 [1] iota_S384x128_d1_w32)
      = unrVec c s (k0_pay27 a b e) := by
  funext y
  idx_vars y
  pointwise [k0_pay5, k0_pay6, k0_pay28, k0_pay29, k0_pay30, k0_pay31]
  exact Cert.Rope.unr_eq (fun l => k0_pay27 a b e (ix2 y0 l)) (fun l => c (ix2 y0 l)) (fun l => s (ix2 y0 l)) y1

theorem key_sum (c s : FVec Ideal S384x128 .f32) (d : FVec Ideal S384x2048 .f32) :
    k0_pay31 (F := Ideal) k0_pay28 (k0_pay29 (k0_pay5 c) (heads8 d) (R d 6 (by omega)) (R d 7 (by omega)))
        (k0_pay30 (k0_pay6 s) (heads8 d) (R d 6 (by omega)) (R d 7 (by omega))) (iota Kind.tc S384x128 32 [1] iota_S384x128_d1_w32)
      = unrVec c s (sumBlk d) := by
  rw [key_pay, sum_pay]

/-! ## One point's arithmetic -/

/-- The entries of the norm's mean and the number added to the mean square. -/
abbrev nn : EReal := Ideal.ofBits .f32 0x43800000#32
abbrev ee : EReal := Ideal.ofBits .f32 0x358637BD#32

/-- What one point adds to the weight's gradient, what it adds to the gain's, and the input's gradient it writes. -/
abbrev dwPart (x : Vec Ideal S384x256 .f32) (g : Vec Ideal S1x256 .f32) (dy : Vec Ideal S384x2048 .bf16) (v : Vec Ideal S256x2048 .f32) :
    FVec Ideal S256x2048 .f32 := k0_pay36 x g dy v
abbrev dgPart (x : Vec Ideal S384x256 .f32) (w : Vec Ideal S256x2048 .bf16) (dy : Vec Ideal S384x2048 .bf16) (v : Vec Ideal S1x256 .f32) :
    FVec Ideal S1x256 .f32 := k0_pay1 (k0_pay34 x) (k0_pay35 dy w) v
abbrev dxPart (x : Vec Ideal S384x256 .f32) (g : Vec Ideal S1x256 .f32) (w : Vec Ideal S256x2048 .bf16) (dy : Vec Ideal S384x2048 .bf16) :
    FVec Ideal S384x256 .bf16 := k0_pay2 g (k0_pay33 x) (k0_pay34 x) (k0_pay35 dy w)

theorem dx_blk (x : Vec Ideal S384x256 .f32) (g : Vec Ideal S1x256 .f32) (w : Vec Ideal S256x2048 .bf16) (dy : Vec Ideal S384x2048 .bf16)
    (i : Fin 384) (j : Fin 256) :
    dxPart x g w dy (ix2 i j)
      = Cert.Rows.kdx nn ee (fun k => x (ix2 i k)) (fun k => g (ix2 0 k)) (fun k => ∑ n, dy (ix2 i n) * w (ix2 k n)) j := by
  pointwise [dxPart, k0_pay2, k0_pay35, k0_pay34, k0_pay33, k0_pay32, Cert.Rows.kdx, Cert.Rows.rinv]

theorem dw_blk (x : Vec Ideal S384x256 .f32) (g : Vec Ideal S1x256 .f32) (dy : Vec Ideal S384x2048 .bf16) (v : Vec Ideal S256x2048 .f32)
    (a : Fin 256) (b : Fin 2048) :
    dwPart x g dy v (ix2 a b)
      = v (ix2 a b) + ∑ i, (x (ix2 i a) * Cert.Rows.rinv nn ee (fun k => x (ix2 i k)) * g (ix2 0 a)) * dy (ix2 i b) := by
  pointwise [dwPart, k0_pay36, k0_pay34, k0_pay33, k0_pay32, Cert.Rows.rinv]

theorem dg_blk (x : Vec Ideal S384x256 .f32) (w : Vec Ideal S256x2048 .bf16) (dy : Vec Ideal S384x2048 .bf16) (v : Vec Ideal S1x256 .f32)
    (z : Fin 1) (a : Fin 256) :
    dgPart x w dy v (ix2 z a)
      = v (ix2 z a) + ∑ i, (∑ n, dy (ix2 i n) * w (ix2 a n)) * (x (ix2 i a) * Cert.Rows.rinv nn ee (fun k => x (ix2 i k))) := by
  pointwise [dgPart, k0_pay1, k0_pay35, k0_pay34, k0_pay33, k0_pay32, Cert.Rows.rinv]

theorem zero8 (a : Fin 256) (b : Fin 2048) : k0_pay3 (F := Ideal) (ix2 a b) = 0 := by
  pointwise [k0_pay3]

theorem zero9 (z : Fin 1) (a : Fin 256) : k0_pay4 (F := Ideal) (ix2 z a) = 0 := by
  pointwise [k0_pay4]

/-! ## The operands the host lines prepare -/

/-- The arguments as the body reads them: rows under the 112 rows of padding, the gain, the weights, the keys' cotangent with every
    head's columns widened to 256, and the values'. -/
def X (c : Dev nD) (i : Fin 4224) (k : Fin 256) : EReal :=
  Cert.Rows.pad 112 (by rfl : 112 + 4112 = 4224) (fun a b => m (c.tc.loc main_arg0) (ix2 a b)) i k
def G (c : Dev nD) (k : Fin 256) : EReal := m (c.tc.loc main_arg2) (ix2 0 k)
def W (c : Dev nD) (k : Fin 256) (n : Fin 2048) : EReal := m (c.tc.loc main_arg3) (ix3 0 k n)
/-- The cotangents' entries. -/
def Q (c : Dev nD) (t : Fin 4112) (h : Fin 8) (l : Fin 192) : EReal := m (c.tc.loc main_arg4) (ix3 t h l)
def P (c : Dev nD) (t : Fin 4112) (h : Fin 8) (l : Fin 128) : EReal := m (c.tc.loc main_arg5) (ix3 t h l)
def DQ (c : Dev nD) (i : Fin 4224) (n : Fin 2048) : EReal :=
  Cert.Rows.pad 112 (by rfl : 112 + 4112 = 4224) (fun t => Cert.Rope.wide (Cert.Rope.heads (Q m c t))) i n
def DV (c : Dev nD) (i : Fin 4224) (n : Fin 1024) : EReal :=
  Cert.Rows.pad 112 (by rfl : 112 + 4112 = 4224) (fun t (k : Fin 1024) => P m c t ⟨k.val / 128, by omega⟩ ⟨k.val % 128, by omega⟩) i n
/-- The cotangent of the product, and its product with the weights. -/
def cot (c : Dev nD) (t : Fin 4112) (n : Fin 2048) : EReal := Cert.KvCols.both (Q m c t) (P m c t) n
def DY (c : Dev nD) (i : Fin 4224) (n : Fin 2048) : EReal := Cert.Rows.pad 112 (by rfl : 112 + 4112 = 4224) (cot m c) i n
def DN (c : Dev nD) (i : Fin 4224) (k : Fin 256) : EReal := ∑ n, DY m c i n * W m c k n

theorem V_v26 (c : Dev nD) (i : Fin 4224) (k : Fin 256) : V m c main_v26 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg0) (ix2 a b)) i k

theorem V_v30 (c : Dev nD) (i : Fin 4224) (k : Fin 2048) : V m c main_v30 (ix2 i k) = DQ m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rope.pad_heads (fun t h l => m (c.tc.loc main_arg4) (ix3 t h l)) i k

theorem V_v32 (c : Dev nD) (i : Fin 4224) (k : Fin 1024) : V m c main_v32 (ix2 i k) = DV m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.KvCols.pad_vals (fun t h l => m (c.tc.loc main_arg5) (ix3 t h l)) i k

theorem V_v28 (c : Dev nD) (k : Fin 256) (n : Fin 2048) : V m c main_v28 (ix2 k n) = W m c k n := by
  simp only [V, List.flatten_cons, List.flatten_nil, List.cons_append, List.nil_append, List.append_nil]
  entry_read
  pointwise
  rfl

theorem V_v23 (c : Dev nD) (i : Fin 4224) (l : Fin 128) : V m c main_v23 (ix2 i l) = Cert.Rope.cosTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

theorem V_v25 (c : Dev nD) (i : Fin 4224) (l : Fin 128) : V m c main_v25 (ix2 i l) = Cert.Rope.sinTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 256) : iblk m c 0 t (ix2 i k) = X m c (rowAt t i) k := by
  rw [← V_v26 m c]
  blk_simp [iblk, idx_val t]
  blk_ext [idx_val t]

theorem in1 (c : Dev nD) (t : Fin cfg0.N) (k : Fin 256) : iblk m c 1 t (ix2 0 k) = G m c k := by
  unfold G
  rw [← V_main_arg2 m c]
  blk_simp [iblk, idx_val t]
  blk_ext [idx_val t]

theorem in2 (c : Dev nD) (t : Fin cfg0.N) (i : Fin 256) (k : Fin 2048) : iblk m c 2 t (ix2 i k) = W m c i k := by
  rw [← V_v28 m c]
  blk_simp [iblk, idx_val t]
  blk_ext [idx_val t]

theorem in3 (c : Dev nD) (t : Fin cfg0.N) (i : Fin 384) (k : Fin 2048) : iblk m c 3 t (ix2 i k) = DQ m c (rowAt t i) k := by
  rw [← V_v30 m c]
  blk_simp [iblk, idx_val t]
  blk_ext [idx_val t]

theorem in4 (c : Dev nD) (t : Fin cfg0.N) (i : Fin 384) (k : Fin 1024) : iblk m c 4 t (ix2 i k) = DV m c (rowAt t i) k := by
  rw [← V_v32 m c]
  blk_simp [iblk, idx_val t]
  blk_ext [idx_val t]

theorem in5 (c : Dev nD) (t : Fin cfg0.N) (i : Fin 384) (k : Fin 128) : iblk m c 5 t (ix2 i k) = Cert.Rope.cosTab (rowAt t i).val k := by
  rw [← V_v23 m c]
  blk_simp [iblk, idx_val t]
  blk_ext [idx_val t]

theorem in6 (c : Dev nD) (t : Fin cfg0.N) (i : Fin 384) (k : Fin 128) : iblk m c 6 t (ix2 i k) = Cert.Rope.sinTab (rowAt t i).val k := by
  rw [← V_v25 m c]
  blk_simp [iblk, idx_val t]
  blk_ext [idx_val t]

abbrev dyAt (c : Dev nD) (t : Fin cfg0.N) : Vec Ideal S384x2048 .bf16 := dyBlk (iblk m c 3 t) (iblk m c 4 t)

theorem inDy (c : Dev nD) (t : Fin cfg0.N) (i : Fin 384) (n : Fin 2048) : dyAt m c t (ix2 i n) = DY m c (rowAt t i) n := by
  refine (dyBlk_apply _ _ i n).trans (Eq.trans ?_ (Cert.KvCols.joined (Q m c) (P m c) (rowAt t i) n))
  simp only [in3, in4]
  rfl

theorem inKey (c : Dev nD) (t : Fin cfg0.N) (i : Fin 384) (l : Fin 128) :
    unrVec (iblk m c 5 t) (iblk m c 6 t) (sumBlk (iblk m c 3 t)) (ix2 i l)
      = Cert.Rows.pad 112 (by rfl : 112 + 4112 = 4224) (fun t => Cert.KvCols.keys (Q m c t) t.val) (rowAt t i) l := by
  refine Eq.trans ?_ (Cert.KvCols.turned_sum (Q m c) (rowAt t i) l)
  show Cert.Rope.unr (fun k => ∑ h : Fin 8, iblk m c 3 t (ix2 i ⟨256 * h.val + 128 + k.val, by omega⟩)) (fun l => iblk m c 5 t (ix2 i l))
    (fun l => iblk m c 6 t (ix2 i l)) l = _
  simp only [in3, in5, in6, DQ]

/-! ## What a point leaves -/

theorem left7 (c : Dev nD) (t : Fin cfg0.N) : (outsAt0 m c t.val t.isLt).1
    = dxPart (iblk m c 0 t) (iblk m c 1 t) (iblk m c 2 t) (dyAt m c t) := by
  by_cases h : t.val % 11 = 0
  · rw [outsAt0_A m c t h]
    dsimp only
    frame_out
    exact congrArg (fun d => dxPart _ _ _ d) (readCov_dy _ _ _ _)
  · rw [outsAt0_B m c t h]
    dsimp only
    frame_out
    exact congrArg (fun d => dxPart _ _ _ d) (readCov_dy _ _ _ _)

theorem left10 (c : Dev nD) (t : Fin cfg0.N) : (outsAt0 m c t.val t.isLt).2.2.2
    = unrVec (iblk m c 5 t) (iblk m c 6 t) (sumBlk (iblk m c 3 t)) := by
  by_cases h : t.val % 11 = 0
  · rw [outsAt0_A m c t h]
    dsimp only
    frame_out
    exact key_sum _ _ _
  · rw [outsAt0_B m c t h]
    dsimp only
    frame_out
    exact key_sum _ _ _

theorem left8_A (c : Dev nD) (t : Fin cfg0.N) (h : t.val % 11 = 0) : (outsAt0 m c t.val t.isLt).2.1
    = dwPart (iblk m c 0 t) (iblk m c 1 t) (dyAt m c t) (k0_pay3 (F := Ideal)) := by
  rw [outsAt0_A m c t h]
  dsimp only
  frame_out
  exact congrArg (fun d => dwPart _ _ d _) (readCov_dy _ _ _ _)

theorem left8_B (c : Dev nD) (t : Fin cfg0.N) (h : ¬t.val % 11 = 0) : (outsAt0 m c t.val t.isLt).2.1
    = dwPart (iblk m c 0 t) (iblk m c 1 t) (dyAt m c t) (outsAt0 m c (t.val - 1) (Nat.lt_of_le_of_lt (Nat.sub_le _ _) t.isLt)).2.1 := by
  rw [outsAt0_B m c t h]
  dsimp only
  frame_out
  exact congrArg (fun d => dwPart _ _ d _) (readCov_dy _ _ _ _)

theorem left9_A (c : Dev nD) (t : Fin cfg0.N) (h : t.val % 11 = 0) : (outsAt0 m c t.val t.isLt).2.2.1
    = dgPart (iblk m c 0 t) (iblk m c 2 t) (dyAt m c t) (k0_pay4 (F := Ideal)) := by
  rw [outsAt0_A m c t h]
  dsimp only
  frame_out
  exact congrArg (fun d => dgPart _ _ d _) (readCov_dy _ _ _ _)

theorem left9_B (c : Dev nD) (t : Fin cfg0.N) (h : ¬t.val % 11 = 0) : (outsAt0 m c t.val t.isLt).2.2.1
    = dgPart (iblk m c 0 t) (iblk m c 2 t) (dyAt m c t) (outsAt0 m c (t.val - 1) (Nat.lt_of_le_of_lt (Nat.sub_le _ _) t.isLt)).2.2.1 := by
  rw [outsAt0_B m c t h]
  dsimp only
  frame_out
  exact congrArg (fun d => dgPart _ _ d _) (readCov_dy _ _ _ _)

/-! ## The arrays -/

/-- The input gradient's array. -/
def res7 (c : Dev nD) : FVec Ideal S4224x256 .bf16 := fun y => Cert.Rows.kdx nn ee (X m c (y 0)) (G m c) (DN m c (y 0)) (y 1)
/-- The weight gradient's array. -/
def res8 (c : Dev nD) : FVec Ideal S256x2048 .f32 :=
  fun y => ∑ i, (X m c i (y 0) * Cert.Rows.rinv nn ee (X m c i) * G m c (y 0)) * DY m c i (y 1)
/-- The gain gradient's array. -/
def res9 (c : Dev nD) : FVec Ideal S1x256 .f32 :=
  fun y => ∑ i, DN m c i (y 1) * (X m c i (y 1) * Cert.Rows.rinv nn ee (X m c i))

theorem final_7 (c : Dev nD) : (dats m 0 c).arrAt 7 (cfgs 0).N = res7 m c := by
  refine (dats m 0 c).arrAt_eq_of_covers 7 _ (by decide +kernel) fun t hf y => ?_
  blk_simp; rw [after0_7, left7]
  idx_vars y
  rw [dx_blk]
  simp only [in0, in1, in2, inDy]
  refine Eq.trans ?_ (congrArg (res7 m c) (?_ : ix2 (rowAt t y0) y1 = _))
  · rfl
  · blk_ext [idx_val t]

theorem final_8 (c : Dev nD) : (dats m 0 c).arrAt 8 (cfgs 0).N = res8 m c := by
  refine (dats m 0 c).arrAt_eq_of_after_last 8 t0_10 (by decide +kernel) _ fun j => ?_
  blk_simp
  rw [after0_8, Pipeline.eq_sum_fin_of_reset_step_apply_last (fun n h => (outsAt0 m c n h).2.1) 11 (fun _ => 0)
    (fun t j => ∑ i, (X m c (rowAt t i) (j 0) * Cert.Rows.rinv nn ee (X m c (rowAt t i)) * G m c (j 0)) * DY m c (rowAt t i) (j 1))
    (fun t h j => by
      idx_vars j
      rw [left8_A m c t h, dw_blk, zero8]
      simp only [in0, in1, inDy])
    (fun t h j => by
      idx_vars j
      rw [left8_B m c t h, dw_blk]
      simp only [in0, in1, inDy])
    (le_of_eq N_0) t0_10 rfl j, zero_add]
  exact Fin.sum_mul_add_congr (fun s k hl => rfl)

theorem final_9 (c : Dev nD) : (dats m 0 c).arrAt 9 (cfgs 0).N = res9 m c := by
  refine (dats m 0 c).arrAt_eq_of_after_last 9 t0_10 (by decide +kernel) _ fun j => ?_
  blk_simp
  rw [after0_9, Pipeline.eq_sum_fin_of_reset_step_apply_last (fun n h => (outsAt0 m c n h).2.2.1) 11 (fun _ => 0)
    (fun t j => ∑ i, DN m c (rowAt t i) (j 1) * (X m c (rowAt t i) (j 1) * Cert.Rows.rinv nn ee (X m c (rowAt t i))))
    (fun t h j => by
      idx_vars j
      rw [left9_A m c t h, dg_blk, zero9]
      simp only [in0, in2, inDy]
      rfl)
    (fun t h j => by
      idx_vars j
      rw [left9_B m c t h, dg_blk]
      simp only [in0, in2, inDy]
      rfl)
    (le_of_eq N_0) t0_10 rfl j, zero_add]
  exact Fin.sum_mul_add_congr (fun s k hl => rfl)

/-- The rotary key's gradient. -/
def res10 (c : Dev nD) : FVec Ideal S4224x128 .bf16 :=
  fun y => Cert.Rows.pad 112 (by rfl : 112 + 4112 = 4224) (fun t => Cert.KvCols.keys (Q m c t) t.val) (y 0) (y 1)

theorem final_10 (c : Dev nD) : (dats m 0 c).arrAt 10 (cfgs 0).N = res10 m c := by
  refine (dats m 0 c).arrAt_eq_of_covers 10 _ (by decide +kernel) fun t hf y => ?_
  blk_simp; rw [after0_10, left10]
  idx_vars y
  rw [inKey]
  refine Eq.trans ?_ (congrArg (res10 m c) (?_ : ix2 (rowAt t y0) y1 = _))
  · rfl
  · blk_ext [idx_val t]

end Cert.KvProjIdeal.Value

end
-- ==== Proof.KvProjRef.lean ====
/- What the four results of the reference of the keys' and values' projection, backward, are, index by index, as functions of the
   arguments. -/
module

public import proofs.«01_k».proof.Proof.KvCols
public import proofs.«01_k».proof.Proof.Gen.KvProjRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.KvProjRefIdeal.Value

open Cert.KvProjRefIdeal Cert.KvProjRefIdeal.Gen

variable (m : (ℓ : Loc nD τ sig) → Buf (Elt Ideal) ℓ)

/-- The entries of the norm's mean, the number added to the mean square, and the derivative's half. -/
abbrev nn : EReal := Ideal.ofBits .f32 0x43800000#32
abbrev ee : EReal := Ideal.ofBits .f32 0x358637BD#32
abbrev hh : EReal := Ideal.ofBits .f32 0xBF000000#32

/-- The mean square of a row and the small number added to it. -/
def msVec (x : FVec Ideal S4112x256 .f32) : FVec Ideal S4112x1 .f32 :=
  fun y => Ideal.div (∑ k, x (ix2 (y 0) k) * x (ix2 (y 0) k)) nn + ee

theorem ms_eq (x : FVec Ideal S4112x256 .f32) : addf (φ := .f32) (Host.divf (broadcastInDim S4112x1 ![0] bcast_S4112_S4112x1_0 (Host.reduceAdd (mulf x x) (constant S_ .f32 0x00000000#32) reducesTo_S4112x256_S4112_d1 h_S_)) (broadcastInDim S4112x1 ![] bcast_S_S4112x1 (constant S_ .f32 0x43800000#32))) (broadcastInDim S4112x1 ![] bcast_S_S4112x1 (constant S_ .f32 0x358637BD#32))
    = msVec x := by
  funext y
  idx_vars y
  pointwise [msVec]

/-- The angles of every position. -/
def angVec : FVec Ideal S4112x32 .f32 := fun y => Cert.Rope.ang (y 0).val (y 1)

theorem ang_eq : mulf (broadcastInDim S4112x32 ![0, 1] bcast_S4112x1_S4112x32_0_1 (broadcastInDim S4112x1 ![0] bcast_S4112_S4112x1_0 (sitofp .f32 (iotaInDim S4112 32 0)))) (broadcastInDim S4112x32 ![0, 1] bcast_S1x32_S4112x32_0_1 (broadcastInDim S1x32 ![1] bcast_S32_S1x32_1 (Host.powf (broadcastInDim S32 ![] bcast_S_S32 (constant S_ .f32 0x461C4000#32)) (Host.divf (Host.negf (sitofp .f32 (addi (broadcastInDim S32 ![] bcast_S_S32 (constantI S_ 32 0#32)) (muli (broadcastInDim S32 ![] bcast_S_S32 (constantI S_ 32 2#32)) (iotaInDim S32 32 0))))) (broadcastInDim S32 ![] bcast_S_S32 (constant S_ .f32 0x42800000#32)))))) = angVec := by
  funext y
  idx_vars y
  pointwise [angVec]
  rfl

/-- The gradient of the projection's columns: every head's keys, then its values. -/
def dyVec (dk : FVec Ideal S4112x8x192 .f32) (dv : FVec Ideal S4112x8x128 .f32) : FVec Ideal S4112x2048 .f32 :=
  fun y => Cert.KvCols.both (fun h l => dk (ix3 (y 0) h l)) (fun h l => dv (ix3 (y 0) h l)) (y 1)

theorem dy_eq (dk : FVec Ideal S4112x8x192 .f32) (dv : FVec Ideal S4112x8x128 .f32) : shapeCast _ (addf (pad S4112x8x256 ![0, 0, 128] ![0, 0, 0] ![0, 0, 0] dv (constant S_ .f32 0x00000000#32) pads_S4112x8x128_S4112x8x256_000_000_12800 h_S_) (pad S4112x8x256 ![0, 0, 0] ![0, 0, 128] ![0, 0, 0] (extractStridedSlice S4112x8x128 ![0, 0, 0] dk slices_S4112x8x192_S4112x8x128_0_0_0) (constant S_ .f32 0x00000000#32) pads_S4112x8x128_S4112x8x256_000_000_01280 h_S_)) shapeCasts_S4112x8x256_S4112x2048
    = dyVec dk dv := by
  funext y
  idx_vars y
  pointwise [dyVec]
  exact Cert.KvCols.both_pads (fun h l => dk (ix3 y0 h l)) (fun h l => dv (ix3 y0 h l)) y1

/-- The product with the weights' transpose. -/
def dnVec (d : FVec Ideal S4112x2048 .f32) (w : FVec Ideal S1x256x2048 .f32) : FVec Ideal S4112x256 .f32 :=
  fun y => ∑ n : Fin 2048, d (ix2 (y 0) n) * w (ix3 0 (y 1) n)

theorem dn_eq (d : FVec Ideal S4112x2048 .f32) (w : FVec Ideal S1x256x2048 .f32) :
    Host.dotGeneral (F := Ideal) (φ₁ := .f32) (φ₂ := .f32) dot_S4112x2048_S256x2048_S4112x256_1_1_0_0_n_n none d (shapeCast _ w shapeCasts_S1x256x2048_S256x2048)
      = dnVec d w := by
  funext y
  idx_vars y
  pointwise [dnVec]

/-- The heads' rotary lanes added up. -/
def sumVec (dk : FVec Ideal S4112x8x192 .f32) : FVec Ideal S4112x64 .f32 :=
  fun y => ∑ h : Fin 8, dk (ix3 (y 0) h ⟨128 + (y 1).val, by have : (y 1).val < 64 := (y 1).isLt; omega⟩)

theorem sum_eq (dk : FVec Ideal S4112x8x192 .f32) : Host.reduceAdd (broadcastInDim S4112x1x64 ![0, 2] bcast_S4112x64_S4112x1x64_0_2 (Host.reduceAdd (extractStridedSlice S4112x8x64 ![0, 0, 128] dk slices_S4112x8x192_S4112x8x64_0_0_128) (constant S_ .f32 0x00000000#32) reducesTo_S4112x8x64_S4112x64_d1 h_S_)) (constant S_ .f32 0x00000000#32) reducesTo_S4112x1x64_S4112x64_d1 h_S_
    = sumVec dk := by
  funext y
  idx_vars y
  pointwise [sumVec]
  simp only [Fin.sum_univ_one]

/-- The arguments' entries. -/
def X (c : Dev nD) (i : Fin 4112) (k : Fin 256) : EReal := m (c.tc.loc main_arg0) (ix2 i k)
def G (c : Dev nD) (k : Fin 256) : EReal := m (c.tc.loc main_arg2) (ix2 0 k)
def W (c : Dev nD) (k : Fin 256) (n : Fin 2048) : EReal := m (c.tc.loc main_arg3) (ix3 0 k n)
def DY (c : Dev nD) (i : Fin 4112) (n : Fin 2048) : EReal := dyVec (m (c.tc.loc main_arg4)) (m (c.tc.loc main_arg5)) (ix2 i n)
def DN (c : Dev nD) (i : Fin 4112) (k : Fin 256) : EReal := ∑ n, DY m c i n * W m c k n

/-- The input gradient without the padding. -/
def dx (c : Dev nD) (i : Fin 4112) (j : Fin 256) : EReal :=
  DN m c i j * G m c j * Cert.Rows.rinv nn ee (X m c i) + X m c i j * Cert.Rows.rs nn ee hh (X m c i) (G m c) (DN m c i)
    + Cert.Rows.rs nn ee hh (X m c i) (G m c) (DN m c i) * X m c i j

/-- The rotary key's gradient without the padding. -/
def dkr (c : Dev nD) (i : Fin 4112) (l : Fin 128) : EReal := Cert.KvCols.keys (fun h l => m (c.tc.loc main_arg4) (ix3 i h l)) i.val l

/-- The four results. -/
def res0 (c : Dev nD) : FVec Ideal S4224x256 .bf16 := fun y => Cert.Rows.pad 112 (by rfl : 112 + 4112 = 4224) (dx m c) (y 0) (y 1)
def res1 (c : Dev nD) : FVec Ideal S256x2048 .f32 :=
  fun y => ∑ i, DY m c i (y 1) * (X m c i (y 0) * Cert.Rows.rinv nn ee (X m c i) * G m c (y 0))
def res2 (c : Dev nD) : FVec Ideal S1x256 .f32 :=
  fun y => ∑ i, X m c i (y 1) * Cert.Rows.rinv nn ee (X m c i) * DN m c i (y 1)
def res3 (c : Dev nD) : FVec Ideal S4224x128 .bf16 := fun y => Cert.Rows.pad 112 (by rfl : 112 + 4112 = 4224) (dkr m c) (y 0) (y 1)

theorem res0_eq (c : Dev nD) : res_main_v100 m c = res0 m c := by
  unfold res_main_v100
  rw [dy_eq, dn_eq, ms_eq]
  funext y
  idx_vars y
  refine Eq.trans (congrFun (congrArg (fun v : FVec Ideal S4112x256 .f32 => truncf .bf16 (pad S4224x256 ![112, 0] ![0, 0] ![0, 0] v (sitofp FTy.f32 (constantI S_ 32 0#32)) pads_S4112x256_S4224x256_11200_000 h_S_)) (?_ : _ = (fun z => dx m c (z 0) (z 1) : FVec Ideal S4112x256 .f32))) (ix2 y0 y1)) ?_
  · funext z
    idx_vars z
    pointwise [dx, Cert.Rows.rs, Cert.Rows.rinv, msVec, X, G, DN, DY, W, dnVec]
    simp only [Fin.sum_univ_one]
  · refine Eq.trans ?_ (Cert.Rows.pad_eq 112 (by rfl : 112 + 4112 = 4224) (dx m c) y0 y1)
    pointwise

theorem res1_eq (c : Dev nD) : shapeCast _ (broadcastInDim S1x256x2048 ![1, 2] bcast_S256x2048_S1x256x2048_1_2 (transpose S256x2048 [1, 0] (Host.dotGeneral dot_S4112x2048_S4112x256_S2048x256_0_0_1_1_n_n none (shapeCast _ (addf (pad S4112x8x256 ![0, 0, 128] ![0, 0, 0] ![0, 0, 0] (m ((c.tc : Thread nD τ).loc main_arg5)) (constant S_ .f32 0x00000000#32) pads_S4112x8x128_S4112x8x256_000_000_12800 h_S_) (pad S4112x8x256 ![0, 0, 0] ![0, 0, 128] ![0, 0, 0] (extractStridedSlice S4112x8x128 ![0, 0, 0] (m ((c.tc : Thread nD τ).loc main_arg4)) slices_S4112x8x192_S4112x8x128_0_0_0) (constant S_ .f32 0x00000000#32) pads_S4112x8x128_S4112x8x256_000_000_01280 h_S_)) shapeCasts_S4112x8x256_S4112x2048) (mulf (mulf (m ((c.tc : Thread nD τ).loc main_arg0)) (broadcastInDim S4112x256 ![0, 1] bcast_S4112x1_S4112x256_0_1 (Host.rsqrt (addf (Host.divf (broadcastInDim S4112x1 ![0] bcast_S4112_S4112x1_0 (Host.reduceAdd (mulf (m ((c.tc : Thread nD τ).loc main_arg0)) (m ((c.tc : Thread nD τ).loc main_arg0))) (constant S_ .f32 0x00000000#32) reducesTo_S4112x256_S4112_d1 h_S_)) (broadcastInDim S4112x1 ![] bcast_S_S4112x1 (constant S_ .f32 0x43800000#32))) (broadcastInDim S4112x1 ![] bcast_S_S4112x1 (constant S_ .f32 0x358637BD#32)))))) (broadcastInDim S4112x256 ![0, 1] bcast_S1x256_S4112x256_0_1 (broadcastInDim S1x256 ![1] bcast_S256_S1x256_1 (shapeCast _ (m ((c.tc : Thread nD τ).loc main_arg2)) shapeCasts_S1x256_S256))))) transposes_S2048x256_S256x2048_1_0)) shapeCasts_S1x256x2048_S256x2048
    = res1 m c := by
  rw [dy_eq, ms_eq]
  funext y
  idx_vars y
  pointwise [res1, Cert.Rows.rinv, msVec, X, G, DY]

theorem res2_eq (c : Dev nD) : broadcastInDim S1x256 ![1] bcast_S256_S1x256_1 (Host.reduceAdd (shapeCast _ (Host.reduceAdd (mulf (mulf (m ((c.tc : Thread nD τ).loc main_arg0)) (broadcastInDim S4112x256 ![0, 1] bcast_S4112x1_S4112x256_0_1 (Host.rsqrt (addf (Host.divf (broadcastInDim S4112x1 ![0] bcast_S4112_S4112x1_0 (Host.reduceAdd (mulf (m ((c.tc : Thread nD τ).loc main_arg0)) (m ((c.tc : Thread nD τ).loc main_arg0))) (constant S_ .f32 0x00000000#32) reducesTo_S4112x256_S4112_d1 h_S_)) (broadcastInDim S4112x1 ![] bcast_S_S4112x1 (constant S_ .f32 0x43800000#32))) (broadcastInDim S4112x1 ![] bcast_S_S4112x1 (constant S_ .f32 0x358637BD#32)))))) (Host.dotGeneral (F := Ideal) (φ₁ := .f32) (φ₂ := .f32) dot_S4112x2048_S256x2048_S4112x256_1_1_0_0_n_n none (shapeCast _ (addf (pad S4112x8x256 ![0, 0, 128] ![0, 0, 0] ![0, 0, 0] (m ((c.tc : Thread nD τ).loc main_arg5)) (constant S_ .f32 0x00000000#32) pads_S4112x8x128_S4112x8x256_000_000_12800 h_S_) (pad S4112x8x256 ![0, 0, 0] ![0, 0, 128] ![0, 0, 0] (extractStridedSlice S4112x8x128 ![0, 0, 0] (m ((c.tc : Thread nD τ).loc main_arg4)) slices_S4112x8x192_S4112x8x128_0_0_0) (constant S_ .f32 0x00000000#32) pads_S4112x8x128_S4112x8x256_000_000_01280 h_S_)) shapeCasts_S4112x8x256_S4112x2048) (shapeCast _ (m ((c.tc : Thread nD τ).loc main_arg3)) shapeCasts_S1x256x2048_S256x2048))) (constant S_ .f32 0x00000000#32) reducesTo_S4112x256_S256_d0 h_S_) shapeCasts_S256_S1x256) (constant S_ .f32 0x00000000#32) reducesTo_S1x256_S256_d0 h_S_)
    = res2 m c := by
  rw [dy_eq, dn_eq, ms_eq]
  funext y
  idx_vars y
  pointwise [res2, Cert.Rows.rinv, msVec, X, DN, DY, W, dnVec]
  simp only [Fin.sum_univ_one]

theorem res3_eq (c : Dev nD) : res_main_v102 m c = res3 m c := by
  unfold res_main_v102
  rw [ang_eq, sum_eq]
  funext y
  idx_vars y
  pointwise
  exact Cert.KvCols.turned_pads (fun t l => ∑ h : Fin 8, m (c.tc.loc main_arg4) (ix3 t h l)) y0 y1

theorem run_res (ρ : Dev nD → PrngReg) :
    θ_run defs (onTc (τ := τ) (main (F := Ideal))) ⟨m, fun _ => 0, ρ⟩ fun r => ∀ c : Dev nD,
      r.2.mem ((c.tc : Thread nD τ).loc main_v100) = res0 m c
      ∧ r.2.mem ((c.tc : Thread nD τ).loc main_v101) = res1 m c
      ∧ r.2.mem ((c.tc : Thread nD τ).loc main_v97) = res2 m c
      ∧ r.2.mem ((c.tc : Thread nD τ).loc main_v102) = res3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res0_eq m c), (h c).2.1.trans (res1_eq m c), (h c).2.2.1.trans (res2_eq m c),
    (h c).2.2.2.1.trans (res3_eq m c), (h c).2.2.2.2⟩) (run m ρ)

end Cert.KvProjRefIdeal.Value

end
-- ==== Proof.KvProjEq.lean ====
/- The backward call of the keys' and values' projection: the kernel's four results are the reference's, where the arguments are finite. -/
module

public import proofs.«01_k».proof.Proof.KvProjKernel
public import proofs.«01_k».proof.Proof.KvProjRef
public import proofs.«01_k».proof.Proof.NormRows
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.KvProjEq

/-- The precondition's shape relations. -/
theorem pre_facts : Cert.Pre_finite_kv.Facts where
  bcast_S_S4112x256 := by decide
  reducesTo_S4112x256_S_d0_1 := by decide
  h_S_ := by decide
  bcast_S_S1x256 := by decide
  reducesTo_S1x256_S_d0_1 := by decide
  bcast_S_S1x256x2048 := by decide
  reducesTo_S1x256x2048_S_d0_1_2 := by decide
  bcast_S_S4112x8x192 := by decide
  reducesTo_S4112x8x192_S_d0_1_2 := by decide
  bcast_S_S4112x8x128 := by decide
  reducesTo_S4112x8x128_S_d0_1_2 := by decide

open Cert.Pre_finite_kv in
/-- What the precondition says. -/
theorem finite [Facts] (a0 : FVec Ideal S4112x256 .f32) (a1 : FVec Ideal S4112x64 .f32) (a2 : FVec Ideal S1x256 .f32)
    (a3 : FVec Ideal S1x256x2048 .f32) (a4 : FVec Ideal S4112x8x192 .f32) (a5 : FVec Ideal S4112x8x128 .f32)
    (h : fn (F := Ideal) a0 a1 a2 a3 a4 a5 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ ∀ i, ∃ r : ℝ, a5 i = (r : EReal) := by
  have e := congrFun h ValueIdx.ix0
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨Cert.Finite.of_all _ _ _ _ _ e0, Cert.Finite.of_all _ _ _ _ _ e2, Cert.Finite.of_all _ _ _ _ _ e3, Cert.Finite.of_all _ _ _ _ _ e4,
    Cert.Finite.of_all _ _ _ _ _ e5⟩

variable (m : (ℓ : Loc Cert.KvProjIdeal.nD Cert.KvProjIdeal.τ Cert.KvProjIdeal.sig) → Buf (Elt Ideal) ℓ)
  (m' : (ℓ : Loc Cert.KvProjRefIdeal.nD Cert.KvProjRefIdeal.τ Cert.KvProjRefIdeal.sig) → Buf (Elt Ideal) ℓ)
  (c : Dev Cert.KvProjIdeal.nD)

/-- The two memories hold the same arguments. -/
def Same : Prop :=
  m' (c.tc.loc Cert.KvProjRefIdeal.main_arg0) = m (c.tc.loc Cert.KvProjIdeal.main_arg0)
  ∧ m' (c.tc.loc Cert.KvProjRefIdeal.main_arg1) = m (c.tc.loc Cert.KvProjIdeal.main_arg1)
  ∧ m' (c.tc.loc Cert.KvProjRefIdeal.main_arg2) = m (c.tc.loc Cert.KvProjIdeal.main_arg2)
  ∧ m' (c.tc.loc Cert.KvProjRefIdeal.main_arg3) = m (c.tc.loc Cert.KvProjIdeal.main_arg3)
  ∧ m' (c.tc.loc Cert.KvProjRefIdeal.main_arg4) = m (c.tc.loc Cert.KvProjIdeal.main_arg4)
  ∧ m' (c.tc.loc Cert.KvProjRefIdeal.main_arg5) = m (c.tc.loc Cert.KvProjIdeal.main_arg5)

variable (hs : Same m m' c)
include hs

theorem X_eq (i : Fin 4224) : KvProjIdeal.Value.X m c i = Cert.Rows.pad 112 (by rfl : 112 + 4112 = 4224) (KvProjRefIdeal.Value.X m' c) i := by
  unfold KvProjRefIdeal.Value.X; rw [hs.1]; rfl

theorem G_eq : KvProjIdeal.Value.G m c = KvProjRefIdeal.Value.G m' c := by
  unfold KvProjRefIdeal.Value.G; rw [hs.2.2.1]; rfl

theorem W_eq : KvProjIdeal.Value.W m c = KvProjRefIdeal.Value.W m' c := by
  funext k n; unfold KvProjRefIdeal.Value.W; rw [hs.2.2.2.1]; rfl

theorem cot_eq : KvProjIdeal.Value.cot m c = KvProjRefIdeal.Value.DY m' c := by
  funext i n
  unfold KvProjRefIdeal.Value.DY KvProjRefIdeal.Value.dyVec
  rw [hs.2.2.2.2.1, hs.2.2.2.2.2]
  rfl

theorem DN_eq (i : Fin 4224) (k : Fin 256) :
    KvProjIdeal.Value.DN m c i k = Cert.Rows.pad 112 (by rfl : 112 + 4112 = 4224) (KvProjRefIdeal.Value.DN m' c) i k := by
  unfold KvProjIdeal.Value.DN KvProjIdeal.Value.DY
  rw [cot_eq m m' c hs, W_eq m m' c hs]
  exact Cert.Rows.sum_mul_pad (by rfl : 112 + 4112 = 4224) (KvProjRefIdeal.Value.DY m' c) (KvProjRefIdeal.Value.W m' c) i k

theorem dw_eq (a : Fin 256) (n : Fin 2048) : (∑ i, (KvProjIdeal.Value.X m c i a
    * Cert.Rows.rinv KvProjIdeal.Value.nn KvProjIdeal.Value.ee (KvProjIdeal.Value.X m c i) * KvProjIdeal.Value.G m c a) * KvProjIdeal.Value.DY m c i n)
      = ∑ i, KvProjRefIdeal.Value.DY m' c i n * (KvProjRefIdeal.Value.X m' c i a
        * Cert.Rows.rinv KvProjRefIdeal.Value.nn KvProjRefIdeal.Value.ee (KvProjRefIdeal.Value.X m' c i) * KvProjRefIdeal.Value.G m' c a) := by
  unfold KvProjIdeal.Value.DY
  simp only [X_eq m m' c hs, G_eq m m' c hs, cot_eq m m' c hs]
  exact Cert.Rows.dw_eq _ _ _ _ _ _ _ _

theorem res1_eq : KvProjIdeal.Value.res8 m c = KvProjRefIdeal.Value.res1 m' c :=
  funext fun y => dw_eq m m' c hs (y 0) (y 1)

theorem dg_eq (b : Fin 256) : (∑ i, KvProjIdeal.Value.DN m c i b * (KvProjIdeal.Value.X m c i b
    * Cert.Rows.rinv KvProjIdeal.Value.nn KvProjIdeal.Value.ee (KvProjIdeal.Value.X m c i)))
      = ∑ i, KvProjRefIdeal.Value.X m' c i b * Cert.Rows.rinv KvProjRefIdeal.Value.nn KvProjRefIdeal.Value.ee (KvProjRefIdeal.Value.X m' c i)
        * KvProjRefIdeal.Value.DN m' c i b := by
  simp only [X_eq m m' c hs, DN_eq m m' c hs]
  exact Cert.Rows.dg_eq _ _ _ _ _ _

theorem res2_eq : KvProjIdeal.Value.res9 m c = KvProjRefIdeal.Value.res2 m' c :=
  funext fun y => dg_eq m m' c hs (y 1)

/-- The product's cotangents are finite where the keys' and the values' are. -/
theorem dy_real [Cert.Pre_finite_kv.Facts] (hp : Cert.Pre_KvProjIdeal_finite_kv m) (t : Fin 4112) (n : Fin 2048) :
    ∃ r : ℝ, KvProjRefIdeal.Value.DY m' c t n = (r : EReal) := by
  obtain ⟨_, _, _, h4, h5⟩ := finite _ _ _ _ _ _ (hp c)
  rw [← cot_eq m m' c hs]
  unfold KvProjIdeal.Value.cot Cert.KvCols.both
  split_ifs
  · exact h4 _
  · exact h5 _

theorem dx_eq [Cert.Pre_finite_kv.Facts] (hp : Cert.Pre_KvProjIdeal_finite_kv m) (i : Fin 4224) (j : Fin 256) :
    Cert.Rows.kdx KvProjIdeal.Value.nn KvProjIdeal.Value.ee (KvProjIdeal.Value.X m c i) (KvProjIdeal.Value.G m c) (KvProjIdeal.Value.DN m c i) j
      = Cert.Rows.pad 112 (by rfl : 112 + 4112 = 4224) (KvProjRefIdeal.Value.dx m' c) i j := by
  obtain ⟨h0, h1, h2, _, _⟩ := finite _ _ _ _ _ _ (hp c)
  rw [show KvProjIdeal.Value.DN m c i = _ from funext (DN_eq m m' c hs i), X_eq m m' c hs, G_eq m m' c hs]
  obtain ⟨e, he, hee⟩ := Cert.Finite.eps
  unfold KvProjRefIdeal.Value.dx KvProjRefIdeal.Value.nn KvProjRefIdeal.Value.ee KvProjRefIdeal.Value.hh KvProjIdeal.Value.nn KvProjIdeal.Value.ee
  rw [Cert.NormRows.n256, Cert.Finite.half, hee]
  refine Cert.NormRows.dx_eq _ (by norm_num) he _ _ _ ?_ ?_ ?_ _ _
  · intro t k; unfold KvProjRefIdeal.Value.X; rw [hs.1]; exact h0 _
  · intro t k
    unfold KvProjRefIdeal.Value.DN
    rw [← W_eq m m' c hs]
    exact Cert.Rows.real_sum_mul (dy_real m m' c hs hp t) (fun n : Fin 2048 => h2 (ValueIdx.ix3 0 k n))
  · intro k; unfold KvProjRefIdeal.Value.G; rw [hs.2.2.1]; exact h1 _

theorem res0_eq [Cert.Pre_finite_kv.Facts] (hp : Cert.Pre_KvProjIdeal_finite_kv m) : KvProjIdeal.Value.res7 m c = KvProjRefIdeal.Value.res0 m' c :=
  funext fun y => dx_eq m m' c hs hp (y 0) (y 1)

theorem res3_eq : KvProjIdeal.Value.res10 m c = KvProjRefIdeal.Value.res3 m' c := by
  unfold KvProjRefIdeal.Value.res3 KvProjRefIdeal.Value.dkr
  rw [hs.2.2.2.2.1]
  rfl

end Cert.KvProjEq

end
-- ==== Proof.AInKernel.lean ====
/- What the `a_in_proj_bwd` call's three output arrays end holding, index by index, as functions of the arguments. -/
module

public import proofs.«01_k».proof.Proof.Rows
public import proofs.«01_k».proof.Proof.Wide
public import proofs.«01_k».proof.Proof.Cols
public import proofs.«01_k».proof.Proof.Gen.AInIdeal.Value
public import Idealize.ShloMosaic.Lib.Pipeline.ValueKit
public import Idealize.ShloMosaic.Lib.Claim
public import Idealize.ShloMosaic.Lib.StableHlo.Run

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.AInIdeal.Value

open Cert.AInIdeal Cert.AInIdeal.Gen

variable (m : (ℓ : Loc nD τ sig) → Buf (Elt Ideal) ℓ)

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0]
    ∧ win0_8.index t = ![t.val, 0]
    ∧ win0_9.index t = ![0, 0]
    ∧ win0_10.index t = ![0, 0] :=
  (by decide +kernel : ∀ t : Fin grid0.N, _)

/-- The gradient of the norm's product a point sees: the four gradients' blocks side by side. -/
def dyBlk (a : FVec Ideal S384x384 .bf16) (b : FVec Ideal S384x256 .bf16) (r : FVec Ideal S384x128 .bf16) (g : FVec Ideal S384x1024 .bf16) :
    Vec Ideal S384x1792 .bf16 :=
  fun y => if h : (y 1).val < 384 then a (ix2 (y 0) ⟨(y 1).val, h⟩) else if h : (y 1).val < 640 then b (ix2 (y 0) ⟨(y 1).val - 384, by omega⟩)
    else if h : (y 1).val < 768 then r (ix2 (y 0) ⟨(y 1).val - 640, by omega⟩)
    else g (ix2 (y 0) ⟨(y 1).val - 768, by have : (y 1).val < 1792 := (y 1).isLt; omega⟩)

/-- The scratch the four blocks are written to reads back as the four side by side. -/
theorem readCov_dy {sig : RefSig} {κ : Kind} {sp : Space} (v : View sig κ sp S384x1792 .bf16)
    (inb : ∀ a, (![0, 0] : Fin 2 → ℕ) a + (![384, 1792] : Fin 2 → ℕ) a ≤ S384x1792.size a)
    (i0 : ∀ a, (![0, 0] : Fin 2 → ℕ) a + (![384, 384] : Fin 2 → ℕ) a ≤ S384x1792.size a)
    (i1 : ∀ a, (![0, 384] : Fin 2 → ℕ) a + (![384, 256] : Fin 2 → ℕ) a ≤ S384x1792.size a)
    (i2 : ∀ a, (![0, 640] : Fin 2 → ℕ) a + (![384, 128] : Fin 2 → ℕ) a ≤ S384x1792.size a)
    (i3 : ∀ a, (![0, 768] : Fin 2 → ℕ) a + (![384, 1024] : Fin 2 → ℕ) a ≤ S384x1792.size a)
    (a : FVec Ideal S384x384 .bf16) (b : FVec Ideal S384x256 .bf16) (r : FVec Ideal S384x128 .bf16) (g : FVec Ideal S384x1024 .bf16) :
    v.readCov [(⟨Rect.unit (s := S384x1792) ![0, 768] ![384, 1024] i3, k0_pay7 (F := Ideal) g⟩ : View.Piece (Elt Ideal) S384x1792 .bf16),
        ⟨Rect.unit (s := S384x1792) ![0, 640] ![384, 128] i2, k0_pay6 (F := Ideal) r⟩, ⟨Rect.unit (s := S384x1792) ![0, 384] ![384, 256] i1, k0_pay5 (F := Ideal) b⟩,
        ⟨Rect.unit (s := S384x1792) ![0, 0] ![384, 384] i0, k0_pay4 (F := Ideal) a⟩]
        (Rect.unit (s := S384x1792) ![0, 0] ![384, 1792] inb).toLoadRect = dyBlk a b r g := by
  refine (Cert.Cols.readCov_whole (R := 384) (N := 1792) (Val := Elt Ideal) (e := .bf16) v _ inb).trans ?_
  have e4 : k0_pay4 (F := Ideal) a = a := by funext y; idx_vars y; pointwise [k0_pay4]
  have e5 : k0_pay5 (F := Ideal) b = b := by funext y; idx_vars y; pointwise [k0_pay5]
  have e6 : k0_pay6 (F := Ideal) r = r := by funext y; idx_vars y; pointwise [k0_pay6]
  have e7 : k0_pay7 (F := Ideal) g = g := by funext y; idx_vars y; pointwise [k0_pay7]
  rw [e4, e5, e6, e7]
  funext y
  obtain ⟨i, k, rfl⟩ : ∃ (i : Fin 384) (k : Fin 1792), y = ix2 i k := ⟨y 0, y 1, by funext a; fin_cases a <;> rfl⟩
  refine (Cert.Cols.canon_cons_cols (R := 384) (N := 1792) (A := 1024) (Val := Elt Ideal) (e := .bf16) 768 i3 _ _ i k).trans ?_
  rw [Cert.Cols.canon_cons_cols (R := 384) (N := 1792) (A := 128) (Val := Elt Ideal) (e := .bf16) 640 i2,
    Cert.Cols.canon_cons_cols (R := 384) (N := 1792) (A := 256) (Val := Elt Ideal) (e := .bf16) 384 i1,
    Cert.Cols.canon_cons_cols (R := 384) (N := 1792) (A := 384) (Val := Elt Ideal) (e := .bf16) 0 i0]
  have hk : k.val < 1792 := k.isLt
  show _ = if h : k.val < 384 then a (ix2 i ⟨k.val, h⟩) else if h : k.val < 640 then b (ix2 i ⟨k.val - 384, by omega⟩)
    else if h : k.val < 768 then r (ix2 i ⟨k.val - 640, by omega⟩) else g (ix2 i ⟨k.val - 768, by omega⟩)
  split_ifs <;> first | rfl | omega

/-- The entries of the norm's mean and the number added to the mean square. -/
abbrev nn : EReal := Ideal.ofBits .f32 0x44800000#32
abbrev ee : EReal := Ideal.ofBits .f32 0x358637BD#32

/-- What one point adds to the weight's gradient, what it adds to the gain's, and the input's gradient it writes. -/
abbrev dwPart (x : Vec Ideal S384x1024 .f32) (g : Vec Ideal S1x1024 .f32) (dy : Vec Ideal S384x1792 .bf16) (v : Vec Ideal S1792x1024 .f32) :
    FVec Ideal S1792x1024 .f32 := k0_pay14 (k0_pay8 x) g (k0_pay9 x) k0_pay10 dy v
abbrev dgPart (x : Vec Ideal S384x1024 .f32) (w : Vec Ideal S1792x1024 .bf16) (dy : Vec Ideal S384x1792 .bf16) (v : Vec Ideal S1x1024 .f32) :
    FVec Ideal S1x1024 .f32 := k0_pay15 (k0_pay8 x) (k0_pay9 x) k0_pay10 dy w v
abbrev dxPart (x : Vec Ideal S384x1024 .f32) (g : Vec Ideal S1x1024 .f32) (w : Vec Ideal S1792x1024 .bf16) (dy : Vec Ideal S384x1792 .bf16)
    (h : Vec Ideal S384x1024 .f32) : FVec Ideal S384x1024 .f32 := k0_pay1 (k0_pay16 (k0_pay8 x) g (k0_pay9 x) k0_pay10 dy w) h

theorem dx_blk (x : Vec Ideal S384x1024 .f32) (g : Vec Ideal S1x1024 .f32) (w : Vec Ideal S1792x1024 .bf16) (dy : Vec Ideal S384x1792 .bf16)
    (h : Vec Ideal S384x1024 .f32) (i : Fin 384) (j : Fin 1024) :
    dxPart x g w dy h (ix2 i j)
      = Cert.Rows.kdx nn ee (fun k => x (ix2 i k)) (fun k => g (ix2 0 k)) (fun k => ∑ n, dy (ix2 i n) * w (ix2 n k)) j + h (ix2 i j) := by
  pointwise [dxPart, k0_pay1, k0_pay16, k0_pay13, k0_pay12, k0_pay11, k0_pay10, k0_pay9, k0_pay8, Cert.Rows.kdx, Cert.Rows.rinv]

theorem dw_blk (x : Vec Ideal S384x1024 .f32) (g : Vec Ideal S1x1024 .f32) (dy : Vec Ideal S384x1792 .bf16) (v : Vec Ideal S1792x1024 .f32)
    (b : Fin 1792) (a : Fin 1024) :
    dwPart x g dy v (ix2 b a)
      = v (ix2 b a) + ∑ i, dy (ix2 i b) * (x (ix2 i a) * Cert.Rows.rinv nn ee (fun k => x (ix2 i k)) * g (ix2 0 a)) := by
  pointwise [dwPart, k0_pay14, k0_pay12, k0_pay11, k0_pay10, k0_pay9, k0_pay8, Cert.Rows.rinv]

theorem dg_blk (x : Vec Ideal S384x1024 .f32) (w : Vec Ideal S1792x1024 .bf16) (dy : Vec Ideal S384x1792 .bf16) (v : Vec Ideal S1x1024 .f32)
    (z : Fin 1) (a : Fin 1024) :
    dgPart x w dy v (ix2 z a)
      = v (ix2 z a) + ∑ i, (∑ n, dy (ix2 i n) * w (ix2 n a)) * (x (ix2 i a) * Cert.Rows.rinv nn ee (fun k => x (ix2 i k))) := by
  pointwise [dgPart, k0_pay15, k0_pay13, k0_pay12, k0_pay11, k0_pay10, k0_pay9, k0_pay8, Cert.Rows.rinv]

theorem zero9 (a : Fin 1792) (b : Fin 1024) : k0_pay2 (F := Ideal) (ix2 a b) = 0 := by
  pointwise [k0_pay2]

theorem zero10 (z : Fin 1) (a : Fin 1024) : k0_pay3 (F := Ideal) (ix2 z a) = 0 := by
  pointwise [k0_pay3]

/-! ## The operands the host lines prepare -/

/-- The arguments as the body reads them: rows under the 112 rows of padding, the gain, and the transposed weights with
    the rotary columns widened. -/
def X (c : Dev nD) (i : Fin 4224) (k : Fin 1024) : EReal :=
  Cert.Rows.pad 112 (by rfl : 112 + 4112 = 4224) (fun a b => m (c.tc.loc main_arg0) (ix2 a b)) i k
def G (c : Dev nD) (k : Fin 1024) : EReal := m (c.tc.loc main_arg1) (ix2 0 k)
def W (c : Dev nD) (n : Fin 1792) (k : Fin 1024) : EReal := Cert.Wide.wide (fun n => m (c.tc.loc main_arg2) (ix3 0 k n)) n
def DQ (c : Dev nD) (i : Fin 4224) (k : Fin 384) : EReal :=
  Cert.Rows.pad 112 (by rfl : 112 + 4112 = 4224) (fun a b => m (c.tc.loc main_arg3) (ix2 a b)) i k
def DK (c : Dev nD) (i : Fin 4224) (k : Fin 256) : EReal :=
  Cert.Rows.pad 112 (by rfl : 112 + 4112 = 4224) (fun a b => m (c.tc.loc main_arg4) (ix2 a b)) i k
def DR (c : Dev nD) (i : Fin 4224) (k : Fin 128) : EReal :=
  Cert.Rows.pad 112 (by rfl : 112 + 4112 = 4224) (fun a (b : Fin 128) => if h : b.val < 64 then m (c.tc.loc main_arg5) (ix2 a ⟨b.val, h⟩) else 0) i k
def DG (c : Dev nD) (i : Fin 4224) (k : Fin 1024) : EReal :=
  Cert.Rows.pad 112 (by rfl : 112 + 4112 = 4224) (fun a b => m (c.tc.loc main_arg6) (ix2 a b)) i k
def H (c : Dev nD) (i : Fin 4224) (k : Fin 1024) : EReal :=
  Cert.Rows.pad 112 (by rfl : 112 + 4112 = 4224) (fun a b => m (c.tc.loc main_arg7) (ix2 a b)) i k
/-- The four cotangents side by side, the rotary part widened. -/
def cot (c : Dev nD) (a : Fin 4112) (n : Fin 1728) : EReal :=
  Cert.Wide.cat (fun n => m (c.tc.loc main_arg3) (ix2 a n)) (fun n => m (c.tc.loc main_arg4) (ix2 a n))
    (fun n => m (c.tc.loc main_arg5) (ix2 a n)) (fun n => m (c.tc.loc main_arg6) (ix2 a n)) n
def DY (c : Dev nD) (i : Fin 4224) (n : Fin 1792) : EReal :=
  Cert.Wide.wide (Cert.Rows.pad 112 (by rfl : 112 + 4112 = 4224) (cot m c) i) n
def DN (c : Dev nD) (i : Fin 4224) (k : Fin 1024) : EReal := ∑ n, DY m c i n * W m c n k

theorem V_v8 (c : Dev nD) (i : Fin 4224) (k : Fin 1024) : V m c main_v8 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg0) (ix2 a b)) i k

theorem V_v10 (c : Dev nD) (i : Fin 4224) (k : Fin 384) : V m c main_v10 (ix2 i k) = DQ m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg3) (ix2 a b)) i k

theorem V_v12 (c : Dev nD) (i : Fin 4224) (k : Fin 256) : V m c main_v12 (ix2 i k) = DK m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg4) (ix2 a b)) i k

theorem V_v15 (c : Dev nD) (i : Fin 4224) (k : Fin 1024) : V m c main_v15 (ix2 i k) = DG m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg6) (ix2 a b)) i k

theorem V_v16 (c : Dev nD) (i : Fin 4224) (k : Fin 1024) : V m c main_v16 (ix2 i k) = H m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg7) (ix2 a b)) i k

theorem V_v13 (c : Dev nD) (i : Fin 4224) (k : Fin 128) : V m c main_v13 (ix2 i k) = DR m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Wide.pad_cols (fun a b => m (c.tc.loc main_arg5) (ix2 a b)) i k

theorem V_v6 (c : Dev nD) (n : Fin 1792) (k : Fin 1024) : V m c main_v6 (ix2 n k) = W m c n k := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  exact Cert.Wide.wide_sub (fun n => m (c.tc.loc main_arg2) (ix3 0 k n)) n

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 1024) : iblk m c 0 t (ix2 i k) = X m c (rowAt t i) k := by
  rw [← V_v8]
  blk_simp [iblk, idx_val t]
  blk_ext [idx_val t]

theorem in3 (c : Dev nD) (t : Fin cfg0.N) (i : Fin 384) (k : Fin 384) : iblk m c 3 t (ix2 i k) = DQ m c (rowAt t i) k := by
  rw [← V_v10]
  blk_simp [iblk, idx_val t]
  blk_ext [idx_val t]

theorem in4 (c : Dev nD) (t : Fin cfg0.N) (i : Fin 384) (k : Fin 256) : iblk m c 4 t (ix2 i k) = DK m c (rowAt t i) k := by
  rw [← V_v12]
  blk_simp [iblk, idx_val t]
  blk_ext [idx_val t]

theorem in5 (c : Dev nD) (t : Fin cfg0.N) (i : Fin 384) (k : Fin 128) : iblk m c 5 t (ix2 i k) = DR m c (rowAt t i) k := by
  rw [← V_v13]
  blk_simp [iblk, idx_val t]
  blk_ext [idx_val t]

theorem in6 (c : Dev nD) (t : Fin cfg0.N) (i : Fin 384) (k : Fin 1024) : iblk m c 6 t (ix2 i k) = DG m c (rowAt t i) k := by
  rw [← V_v15]
  blk_simp [iblk, idx_val t]
  blk_ext [idx_val t]

theorem in7 (c : Dev nD) (t : Fin cfg0.N) (i : Fin 384) (k : Fin 1024) : iblk m c 7 t (ix2 i k) = H m c (rowAt t i) k := by
  rw [← V_v16]
  blk_simp [iblk, idx_val t]
  blk_ext [idx_val t]

theorem in1 (c : Dev nD) (t : Fin cfg0.N) (k : Fin 1024) : iblk m c 1 t (ix2 0 k) = G m c k := by
  unfold G
  rw [← V_main_arg1 m c]
  blk_simp [iblk, idx_val t]
  blk_ext [idx_val t]

theorem in2 (c : Dev nD) (t : Fin cfg0.N) (i : Fin 1792) (k : Fin 1024) : iblk m c 2 t (ix2 i k) = W m c i k := by
  rw [← V_v6]
  blk_simp [iblk, idx_val t]
  blk_ext [idx_val t]

abbrev dyAt (c : Dev nD) (t : Fin cfg0.N) : Vec Ideal S384x1792 .bf16 := dyBlk (iblk m c 3 t) (iblk m c 4 t) (iblk m c 5 t) (iblk m c 6 t)

theorem inDy (c : Dev nD) (t : Fin cfg0.N) (i : Fin 384) (n : Fin 1792) : dyAt m c t (ix2 i n) = DY m c (rowAt t i) n := by
  show (if h : n.val < 384 then iblk m c 3 t (ix2 i ⟨n.val, h⟩) else if h : n.val < 640 then iblk m c 4 t (ix2 i ⟨n.val - 384, by omega⟩)
    else if h : n.val < 768 then iblk m c 5 t (ix2 i ⟨n.val - 640, by omega⟩) else iblk m c 6 t (ix2 i ⟨n.val - 768, by omega⟩) : EReal) = _
  simp only [in3, in4, in5, in6]
  unfold DY DQ DK DR DG Cert.Wide.wide Cert.Rows.pad cot Cert.Wide.cat
  have hn : n.val < 1792 := n.isLt
  dsimp only
  split_ifs <;> first | rfl | omega

/-! ## What a point leaves -/

theorem left8 (c : Dev nD) (t : Fin cfg0.N) : (outsAt0 m c t.val t.isLt).1
    = dxPart (iblk m c 0 t) (iblk m c 1 t) (iblk m c 2 t) (dyAt m c t) (iblk m c 7 t) := by
  by_cases h : t.val % 11 = 0
  · rw [outsAt0_A m c t h]
    dsimp only
    frame_out
    exact congrArg (fun d => dxPart _ _ _ d _) (readCov_dy _ _ _ _ _ _ _ _ _ _)
  · rw [outsAt0_B m c t h]
    dsimp only
    frame_out
    exact congrArg (fun d => dxPart _ _ _ d _) (readCov_dy _ _ _ _ _ _ _ _ _ _)

theorem left9_A (c : Dev nD) (t : Fin cfg0.N) (h : t.val % 11 = 0) : (outsAt0 m c t.val t.isLt).2.1
    = dwPart (iblk m c 0 t) (iblk m c 1 t) (dyAt m c t) (k0_pay2 (F := Ideal)) := by
  rw [outsAt0_A m c t h]
  dsimp only
  frame_out
  exact congrArg (fun d => dwPart _ _ d _) (readCov_dy _ _ _ _ _ _ _ _ _ _)

theorem left9_B (c : Dev nD) (t : Fin cfg0.N) (h : ¬t.val % 11 = 0) : (outsAt0 m c t.val t.isLt).2.1
    = dwPart (iblk m c 0 t) (iblk m c 1 t) (dyAt m c t) (outsAt0 m c (t.val - 1) (Nat.lt_of_le_of_lt (Nat.sub_le _ _) t.isLt)).2.1 := by
  rw [outsAt0_B m c t h]
  dsimp only
  frame_out
  exact congrArg (fun d => dwPart _ _ d _) (readCov_dy _ _ _ _ _ _ _ _ _ _)

theorem left10_A (c : Dev nD) (t : Fin cfg0.N) (h : t.val % 11 = 0) : (outsAt0 m c t.val t.isLt).2.2
    = dgPart (iblk m c 0 t) (iblk m c 2 t) (dyAt m c t) (k0_pay3 (F := Ideal)) := by
  rw [outsAt0_A m c t h]
  dsimp only
  frame_out
  exact congrArg (fun d => dgPart _ _ d _) (readCov_dy _ _ _ _ _ _ _ _ _ _)

theorem left10_B (c : Dev nD) (t : Fin cfg0.N) (h : ¬t.val % 11 = 0) : (outsAt0 m c t.val t.isLt).2.2
    = dgPart (iblk m c 0 t) (iblk m c 2 t) (dyAt m c t) (outsAt0 m c (t.val - 1) (Nat.lt_of_le_of_lt (Nat.sub_le _ _) t.isLt)).2.2 := by
  rw [outsAt0_B m c t h]
  dsimp only
  frame_out
  exact congrArg (fun d => dgPart _ _ d _) (readCov_dy _ _ _ _ _ _ _ _ _ _)

/-! ## The arrays -/

/-- The input gradient's array. -/
def res8 (c : Dev nD) : FVec Ideal S4224x1024 .f32 :=
  fun y => Cert.Rows.kdx nn ee (X m c (y 0)) (G m c) (DN m c (y 0)) (y 1) + H m c (y 0) (y 1)
/-- The weight gradient's array. -/
def res9 (c : Dev nD) : FVec Ideal S1792x1024 .f32 :=
  fun y => ∑ i, DY m c i (y 0) * (X m c i (y 1) * Cert.Rows.rinv nn ee (X m c i) * G m c (y 1))
/-- The gain gradient's array. -/
def res10 (c : Dev nD) : FVec Ideal S1x1024 .f32 :=
  fun y => ∑ i, DN m c i (y 1) * (X m c i (y 1) * Cert.Rows.rinv nn ee (X m c i))

theorem final_8 (c : Dev nD) : (dats m 0 c).arrAt 8 (cfgs 0).N = res8 m c := by
  refine (dats m 0 c).arrAt_eq_of_covers 8 _ (by decide +kernel) fun t hf y => ?_
  blk_simp; rw [after0_8, left8]
  idx_vars y
  rw [dx_blk]
  simp only [in0, in1, in2, inDy, in7]
  refine Eq.trans ?_ (congrArg (res8 m c) (?_ : ix2 (rowAt t y0) y1 = _))
  · rfl
  · blk_ext [idx_val t]

theorem final_9 (c : Dev nD) : (dats m 0 c).arrAt 9 (cfgs 0).N = res9 m c := by
  refine (dats m 0 c).arrAt_eq_of_after_last 9 t0_10 (by decide +kernel) _ fun j => ?_
  blk_simp
  rw [after0_9, Pipeline.eq_sum_fin_of_reset_step_apply_last (fun n h => (outsAt0 m c n h).2.1) 11 (fun _ => 0)
    (fun t j => ∑ i, DY m c (rowAt t i) (j 0) * (X m c (rowAt t i) (j 1) * Cert.Rows.rinv nn ee (X m c (rowAt t i)) * G m c (j 1)))
    (fun t h j => by
      idx_vars j
      rw [left9_A m c t h, dw_blk, zero9]
      simp only [in0, in1, inDy])
    (fun t h j => by
      idx_vars j
      rw [left9_B m c t h, dw_blk]
      simp only [in0, in1, inDy])
    (le_of_eq N_0) t0_10 rfl j, zero_add]
  exact Fin.sum_mul_add_congr (fun s k hl => rfl)

theorem final_10 (c : Dev nD) : (dats m 0 c).arrAt 10 (cfgs 0).N = res10 m c := by
  refine (dats m 0 c).arrAt_eq_of_after_last 10 t0_10 (by decide +kernel) _ fun j => ?_
  blk_simp
  rw [after0_10, Pipeline.eq_sum_fin_of_reset_step_apply_last (fun n h => (outsAt0 m c n h).2.2) 11 (fun _ => 0)
    (fun t j => ∑ i, DN m c (rowAt t i) (j 1) * (X m c (rowAt t i) (j 1) * Cert.Rows.rinv nn ee (X m c (rowAt t i))))
    (fun t h j => by
      idx_vars j
      rw [left10_A m c t h, dg_blk, zero10]
      simp only [in0, in2, inDy]
      rfl)
    (fun t h j => by
      idx_vars j
      rw [left10_B m c t h, dg_blk]
      simp only [in0, in2, inDy]
      rfl)
    (le_of_eq N_0) t0_10 rfl j, zero_add]
  exact Fin.sum_mul_add_congr (fun s k hl => rfl)

end Cert.AInIdeal.Value

end
-- ==== Proof.AInRef.lean ====
/- What the three results of the reference of the attention's input projection, backward, are, index by index, as functions of the arguments. -/
module

public import proofs.«01_k».proof.Proof.Wide
public import proofs.«01_k».proof.Proof.BInRef
public import proofs.«01_k».proof.Proof.Gen.AInRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.AInRefIdeal.Value

open Cert.AInRefIdeal Cert.AInRefIdeal.Gen
open Cert.BInRefIdeal.Value (nn ee hh msVec)

variable (m : (ℓ : Loc nD τ sig) → Buf (Elt Ideal) ℓ)

/-- The four cotangents side by side. -/
def catVec (a : FVec Ideal S4112x384 .f32) (b : FVec Ideal S4112x256 .f32) (r : FVec Ideal S4112x64 .f32) (g : FVec Ideal S4112x1024 .f32) :
    FVec Ideal S4112x1728 .f32 :=
  fun y => Cert.Wide.cat (fun n => a (ix2 (y 0) n)) (fun n => b (ix2 (y 0) n)) (fun n => r (ix2 (y 0) n)) (fun n => g (ix2 (y 0) n)) (y 1)

theorem cat_eq (a : FVec Ideal S4112x384 .f32) (b : FVec Ideal S4112x256 .f32) (r : FVec Ideal S4112x64 .f32) (g : FVec Ideal S4112x1024 .f32) :
    concatenate S4112x1728 1 [⟨S4112x384, a⟩, ⟨S4112x256, b⟩, ⟨S4112x64, r⟩, ⟨S4112x1024, g⟩] concatenates_S4112x384_S4112x256_S4112x64_S4112x1024_S4112x1728_d1
      = catVec a b r g := by
  funext y
  idx_vars y
  pointwise [catVec]
  exact Cert.Wide.cat_sub (fun n => a (ix2 y0 n)) (fun n => b (ix2 y0 n)) (fun n => r (ix2 y0 n)) (fun n => g (ix2 y0 n)) y1

/-- The product with the weights' transpose. -/
def dnVec (d : FVec Ideal S4112x1728 .f32) (w : FVec Ideal S1x1024x1728 .f32) : FVec Ideal S4112x1024 .f32 :=
  fun y => ∑ n : Fin 1728, d (ix2 (y 0) n) * w (ix3 0 (y 1) n)

theorem dn_eq (d : FVec Ideal S4112x1728 .f32) (w : FVec Ideal S1x1024x1728 .f32) :
    Host.dotGeneral (F := Ideal) (φ₁ := .f32) (φ₂ := .f32) dot_S4112x1728_S1024x1728_S4112x1024_1_1_0_0_n_n none d (shapeCast _ w shapeCasts_S1x1024x1728_S1024x1728)
      = dnVec d w := by
  funext y
  idx_vars y
  pointwise [dnVec]

/-- The arguments' entries. -/
def X (c : Dev nD) (i : Fin 4112) (k : Fin 1024) : EReal := m (c.tc.loc main_arg0) (ix2 i k)
def G (c : Dev nD) (k : Fin 1024) : EReal := m (c.tc.loc main_arg1) (ix2 0 k)
def W (c : Dev nD) (k : Fin 1024) (n : Fin 1728) : EReal := m (c.tc.loc main_arg2) (ix3 0 k n)
def dyVec (c : Dev nD) : FVec Ideal S4112x1728 .f32 :=
  catVec (m (c.tc.loc main_arg3)) (m (c.tc.loc main_arg4)) (m (c.tc.loc main_arg5)) (m (c.tc.loc main_arg6))
def DY (c : Dev nD) (i : Fin 4112) (n : Fin 1728) : EReal := dyVec m c (ix2 i n)
def H (c : Dev nD) (i : Fin 4112) (k : Fin 1024) : EReal := m (c.tc.loc main_arg7) (ix2 i k)
def DN (c : Dev nD) (i : Fin 4112) (k : Fin 1024) : EReal := ∑ n, DY m c i n * W m c k n

/-- The input gradient without the padding. -/
def dx (c : Dev nD) (i : Fin 4112) (j : Fin 1024) : EReal :=
  H m c i j + DN m c i j * G m c j * Cert.Rows.rinv nn ee (X m c i) + X m c i j * Cert.Rows.rs nn ee hh (X m c i) (G m c) (DN m c i)
    + Cert.Rows.rs nn ee hh (X m c i) (G m c) (DN m c i) * X m c i j

/-- The weight gradient, before its rows are widened. -/
def dw (c : Dev nD) (k : Fin 1024) (n : Fin 1728) : EReal :=
  ∑ i, DY m c i n * (X m c i k * Cert.Rows.rinv nn ee (X m c i) * G m c k)

/-- The three results. -/
def res0 (c : Dev nD) : FVec Ideal S4224x1024 .f32 := fun y => Cert.Rows.pad 112 (by rfl : 112 + 4112 = 4224) (dx m c) (y 0) (y 1)
def res1 (c : Dev nD) : FVec Ideal S1792x1024 .f32 := fun y => Cert.Wide.wide (dw m c (y 1)) (y 0)
def res2 (c : Dev nD) : FVec Ideal S1x1024 .f32 :=
  fun y => ∑ i, X m c i (y 1) * Cert.Rows.rinv nn ee (X m c i) * DN m c i (y 1)

theorem res0_eq (c : Dev nD) : res_main_v50 m c = res0 m c := by
  unfold res_main_v50
  rw [cat_eq, dn_eq, Cert.BInRefIdeal.Value.ms_eq]
  funext y
  idx_vars y
  refine Eq.trans (congrFun (congrArg (fun v : FVec Ideal S4112x1024 .f32 => pad S4224x1024 ![112, 0] ![0, 0] ![0, 0] v (sitofp FTy.f32 (constantI S_ 32 0#32)) pads_S4112x1024_S4224x1024_11200_000 h_S_) (?_ : _ = (fun z => dx m c (z 0) (z 1) : FVec Ideal S4112x1024 .f32))) (ix2 y0 y1)) ?_
  · funext z
    idx_vars z
    pointwise [dx, Cert.Rows.rs, Cert.Rows.rinv, msVec, X, G, H, DN, DY, W, dyVec, dnVec]
    simp only [Fin.sum_univ_one]
  · refine Eq.trans ?_ (Cert.Rows.pad_eq 112 (by rfl : 112 + 4112 = 4224) (dx m c) y0 y1)
    pointwise

theorem run_res (ρ : Dev nD → PrngReg) :
    θ_run defs (onTc (τ := τ) (main (F := Ideal))) ⟨m, fun _ => 0, ρ⟩ fun r => ∀ c : Dev nD,
      r.2.mem ((c.tc : Thread nD τ).loc main_v50) = res0 m c
      ∧ r.2.mem ((c.tc : Thread nD τ).loc main_v56) = res1 m c
      ∧ r.2.mem ((c.tc : Thread nD τ).loc main_v49) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun _ h c => ⟨(h c).1.trans (res0_eq m c), (h c).2.1.trans ?_, (h c).2.2.1.trans ?_, (h c).2.2.2⟩) (run m ρ)
  · rw [cat_eq]
    funext y
    idx_vars y
    refine Eq.trans ?_ (Cert.Wide.wide_sub (dw m c y1) y0)
    pointwise [dw, Cert.Rows.rinv, X, G, DY, dyVec]
  · rw [cat_eq, dn_eq, Cert.BInRefIdeal.Value.ms_eq]
    funext y
    idx_vars y
    pointwise [res2, Cert.Rows.rinv, msVec, X, DN, DY, W, dyVec, dnVec]
    simp only [Fin.sum_univ_one]

end Cert.AInRefIdeal.Value

end
-- ==== Proof.AInEq.lean ====
/- The backward call of the attention's input projection: the kernel's three results are the reference's, where the
   arguments the precondition names are finite. -/
module

public import proofs.«01_k».proof.Proof.AInKernel
public import proofs.«01_k».proof.Proof.AInRef
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.AInEq

/-- The precondition's shape relations. -/
theorem pre_facts : Cert.Pre_finite_a_in.Facts where
  bcast_S_S4112x1024 := by decide
  reducesTo_S4112x1024_S_d0_1 := by decide
  h_S_ := by decide
  bcast_S_S1x1024 := by decide
  reducesTo_S1x1024_S_d0_1 := by decide
  bcast_S_S1x1024x1728 := by decide
  reducesTo_S1x1024x1728_S_d0_1_2 := by decide
  bcast_S_S4112x384 := by decide
  reducesTo_S4112x384_S_d0_1 := by decide
  bcast_S_S4112x256 := by decide
  reducesTo_S4112x256_S_d0_1 := by decide
  bcast_S_S4112x64 := by decide
  reducesTo_S4112x64_S_d0_1 := by decide

open Cert.Pre_finite_a_in in
/-- What the precondition says. -/
theorem finite [Facts] (a0 : FVec Ideal S4112x1024 .f32) (a1 : FVec Ideal S1x1024 .f32) (a2 : FVec Ideal S1x1024x1728 .f32)
    (a3 : FVec Ideal S4112x384 .f32) (a4 : FVec Ideal S4112x256 .f32) (a5 : FVec Ideal S4112x64 .f32) (a6 a7 : FVec Ideal S4112x1024 .f32)
    (h : fn (F := Ideal) a0 a1 a2 a3 a4 a5 a6 a7 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ ∀ i, ∃ r : ℝ, a6 i = (r : EReal) := by
  have e := congrFun h ValueIdx.ix0
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e2,
    Cert.Finite.of_all _ _ _ _ _ e3, Cert.Finite.of_all _ _ _ _ _ e4, Cert.Finite.of_all _ _ _ _ _ e5, Cert.Finite.of_all _ _ _ _ _ e6⟩

variable (m : (ℓ : Loc Cert.AInIdeal.nD Cert.AInIdeal.τ Cert.AInIdeal.sig) → Buf (Elt Ideal) ℓ)
  (m' : (ℓ : Loc Cert.AInRefIdeal.nD Cert.AInRefIdeal.τ Cert.AInRefIdeal.sig) → Buf (Elt Ideal) ℓ)
  (c : Dev Cert.AInIdeal.nD)

/-- The two memories hold the same arguments. -/
def Same : Prop :=
  m' (c.tc.loc Cert.AInRefIdeal.main_arg0) = m (c.tc.loc Cert.AInIdeal.main_arg0)
  ∧ m' (c.tc.loc Cert.AInRefIdeal.main_arg1) = m (c.tc.loc Cert.AInIdeal.main_arg1)
  ∧ m' (c.tc.loc Cert.AInRefIdeal.main_arg2) = m (c.tc.loc Cert.AInIdeal.main_arg2)
  ∧ m' (c.tc.loc Cert.AInRefIdeal.main_arg3) = m (c.tc.loc Cert.AInIdeal.main_arg3)
  ∧ m' (c.tc.loc Cert.AInRefIdeal.main_arg4) = m (c.tc.loc Cert.AInIdeal.main_arg4)
  ∧ m' (c.tc.loc Cert.AInRefIdeal.main_arg5) = m (c.tc.loc Cert.AInIdeal.main_arg5)
  ∧ m' (c.tc.loc Cert.AInRefIdeal.main_arg6) = m (c.tc.loc Cert.AInIdeal.main_arg6)
  ∧ m' (c.tc.loc Cert.AInRefIdeal.main_arg7) = m (c.tc.loc Cert.AInIdeal.main_arg7)

variable (hs : Same m m' c)
include hs

theorem X_eq (i : Fin 4224) : AInIdeal.Value.X m c i = Cert.Rows.pad 112 (by rfl : 112 + 4112 = 4224) (AInRefIdeal.Value.X m' c) i := by
  unfold AInRefIdeal.Value.X; rw [hs.1]; rfl

theorem G_eq : AInIdeal.Value.G m c = AInRefIdeal.Value.G m' c := by
  unfold AInRefIdeal.Value.G; rw [hs.2.1]; rfl

theorem H_eq (i : Fin 4224) : AInIdeal.Value.H m c i = Cert.Rows.pad 112 (by rfl : 112 + 4112 = 4224) (AInRefIdeal.Value.H m' c) i := by
  unfold AInRefIdeal.Value.H; rw [hs.2.2.2.2.2.2.2]; rfl

theorem cot_eq : AInIdeal.Value.cot m c = AInRefIdeal.Value.DY m' c := by
  funext i n
  unfold AInRefIdeal.Value.DY AInRefIdeal.Value.dyVec AInRefIdeal.Value.catVec
  rw [hs.2.2.2.1, hs.2.2.2.2.1, hs.2.2.2.2.2.1, hs.2.2.2.2.2.2.1]
  rfl

theorem DN_eq (i : Fin 4224) (k : Fin 1024) :
    AInIdeal.Value.DN m c i k = Cert.Rows.pad 112 (by rfl : 112 + 4112 = 4224) (AInRefIdeal.Value.DN m' c) i k := by
  unfold AInIdeal.Value.DN AInIdeal.Value.DY AInIdeal.Value.W
  rw [Cert.Wide.sum_wide, cot_eq m m' c hs]
  refine (Cert.Rows.sum_mul_pad (by rfl : 112 + 4112 = 4224) (AInRefIdeal.Value.DY m' c) (fun k n => m (c.tc.loc Cert.AInIdeal.main_arg2) (ValueIdx.ix3 0 k n)) i k).trans ?_
  congr 1
  funext t k
  unfold AInRefIdeal.Value.DN AInRefIdeal.Value.W
  rw [hs.2.2.1]
  rfl

theorem dw_eq (n : Fin 1792) (a : Fin 1024) : (∑ i, AInIdeal.Value.DY m c i n * (AInIdeal.Value.X m c i a
    * Cert.Rows.rinv AInIdeal.Value.nn AInIdeal.Value.ee (AInIdeal.Value.X m c i) * AInIdeal.Value.G m c a))
      = Cert.Wide.wide (AInRefIdeal.Value.dw m' c a) n := by
  unfold AInIdeal.Value.DY
  simp only [X_eq m m' c hs, G_eq m m' c hs, cot_eq m m' c hs]
  have key : ∀ l : Fin 1728, (∑ i : Fin 4224, Cert.Rows.pad 112 (by rfl : 112 + 4112 = 4224) (AInRefIdeal.Value.DY m' c) i l
      * (Cert.Rows.pad 112 (by rfl : 112 + 4112 = 4224) (AInRefIdeal.Value.X m' c) i a
        * Cert.Rows.rinv AInIdeal.Value.nn AInIdeal.Value.ee (Cert.Rows.pad 112 (by rfl : 112 + 4112 = 4224) (AInRefIdeal.Value.X m' c) i)
        * AInRefIdeal.Value.G m' c a)) = AInRefIdeal.Value.dw m' c a l := fun l =>
    (Finset.sum_congr rfl fun i _ => mul_comm _ _).trans (Cert.Rows.dw_eq _ _ _ _ _ _ _ _)
  unfold Cert.Wide.wide
  split_ifs with h1 h2
  · exact key _
  · exact Finset.sum_eq_zero fun i _ => zero_mul _
  · exact key _

theorem res1_eq : AInIdeal.Value.res9 m c = AInRefIdeal.Value.res1 m' c :=
  funext fun y => dw_eq m m' c hs (y 0) (y 1)

theorem dg_eq (b : Fin 1024) : (∑ i, AInIdeal.Value.DN m c i b * (AInIdeal.Value.X m c i b
    * Cert.Rows.rinv AInIdeal.Value.nn AInIdeal.Value.ee (AInIdeal.Value.X m c i)))
      = ∑ i, AInRefIdeal.Value.X m' c i b * Cert.Rows.rinv BInRefIdeal.Value.nn BInRefIdeal.Value.ee (AInRefIdeal.Value.X m' c i)
        * AInRefIdeal.Value.DN m' c i b := by
  simp only [X_eq m m' c hs, DN_eq m m' c hs]
  exact Cert.Rows.dg_eq _ _ _ _ _ _

theorem res2_eq : AInIdeal.Value.res10 m c = AInRefIdeal.Value.res2 m' c :=
  funext fun y => dg_eq m m' c hs (y 1)

/-- The cotangents are finite where their four parts are. -/
theorem dy_real [Cert.Pre_finite_a_in.Facts] (hp : Cert.Pre_AInIdeal_finite_a_in m) (t : Fin 4112) (n : Fin 1728) :
    ∃ r : ℝ, AInRefIdeal.Value.DY m' c t n = (r : EReal) := by
  obtain ⟨h0, h1, h2, h3, h4, h5, h6⟩ := finite _ _ _ _ _ _ _ _ (hp c)
  rw [← cot_eq m m' c hs]
  unfold AInIdeal.Value.cot Cert.Wide.cat
  split_ifs
  · exact h3 _
  · exact h4 _
  · exact h5 _
  · exact h6 _

theorem dx_eq [Cert.Pre_finite_a_in.Facts] (hp : Cert.Pre_AInIdeal_finite_a_in m) (i : Fin 4224) (j : Fin 1024) :
    Cert.Rows.kdx AInIdeal.Value.nn AInIdeal.Value.ee (AInIdeal.Value.X m c i) (AInIdeal.Value.G m c) (AInIdeal.Value.DN m c i) j
      + AInIdeal.Value.H m c i j = Cert.Rows.pad 112 (by rfl : 112 + 4112 = 4224) (AInRefIdeal.Value.dx m' c) i j := by
  obtain ⟨h0, h1, h2, _⟩ := finite _ _ _ _ _ _ _ _ (hp c)
  rw [show AInIdeal.Value.DN m c i = _ from funext (DN_eq m m' c hs i), X_eq m m' c hs, G_eq m m' c hs, H_eq m m' c hs]
  obtain ⟨e, he, hee⟩ := Cert.Finite.eps
  unfold AInRefIdeal.Value.dx BInRefIdeal.Value.nn BInRefIdeal.Value.ee BInRefIdeal.Value.hh AInIdeal.Value.nn AInIdeal.Value.ee
  rw [Cert.Finite.n1024, Cert.Finite.half, hee]
  refine Cert.Rows.dx_eq _ (by norm_num) he _ _ _ _ ?_ ?_ ?_ _ _
  · intro t k; unfold AInRefIdeal.Value.X; rw [hs.1]; exact h0 _
  · intro t k
    unfold AInRefIdeal.Value.DN AInRefIdeal.Value.W
    rw [hs.2.2.1]
    exact Cert.Rows.real_sum_mul (dy_real m m' c hs hp t) (fun n : Fin 1728 => h2 (ValueIdx.ix3 0 k n))
  · intro k; unfold AInRefIdeal.Value.G; rw [hs.2.1]; exact h1 _

theorem res0_eq [Cert.Pre_finite_a_in.Facts] (hp : Cert.Pre_AInIdeal_finite_a_in m) : AInIdeal.Value.res8 m c = AInRefIdeal.Value.res0 m' c :=
  funext fun y => dx_eq m m' c hs hp (y 0) (y 1)

end Cert.AInEq

end
-- ==== Proof.OutLossBlock.lean ====
/- What one point of the `b_out_proj_loss` call computes, index by index, as functions of the arguments. -/
module

public import proofs.«01_k».proof.Proof.Rows
public import proofs.«01_k».proof.Proof.Cols
public import proofs.«01_k».proof.Proof.Gen.OutLossIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.OutLossIdeal.Value

open Cert.OutLossIdeal Cert.OutLossIdeal.Gen

variable (m : (ℓ : Loc nD τ sig) → Buf (Elt Ideal) ℓ)

/-- The blocks a point sees; a target's block is the one 128 rows above, or the first. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![3 * t.val - 1, 0]
    ∧ win0_6.index t = ![3 * t.val, 0]
    ∧ win0_7.index t = ![3 * t.val + 1, 0]
    ∧ win0_8.index t = ![t.val, 0]
    ∧ win0_9.index t = ![0, 0]
    ∧ win0_10.index t = ![0, 0]
    ∧ win0_11.index t = ![t.val, 0]
    ∧ win0_12.index t = ![t.val, 0]
    ∧ win0_13.index t = ![0, 0] :=
  (by decide +kernel : ∀ t : Fin grid0.N, _)

/-- Whether block `b` of point `t` carries targets, as the body computes it. -/
abbrev has (t : Fin cfg0.N) (b : BitVec 32) : BitVec 1 :=
  Scalar.cmpi .sge (Scalar.addi (Scalar.muli (BitVec.ofNat 32 (grid0.coords t 0).val) 3#32) b) 1#32

theorem has_val : ∀ t : Fin cfg0.N, (has t 0#32 = 1#1 ↔ 1 ≤ t.val) ∧ has t 1#32 = 1#1 ∧ has t 2#32 = 1#1 :=
  (by decide +kernel : ∀ t : Fin grid0.N, _)

/-! ## What the body computes of a block -/

/-- The entries of the norm's mean, the number added to the mean square, and the loss's half. -/
abbrev nn : EReal := Ideal.ofBits .f32 0x44800000#32
abbrev ee : EReal := Ideal.ofBits .f32 0x358637BD#32
abbrev half : EReal := Ideal.ofBits .f32 0x3F000000#32

/-- The gate's sigmoid. -/
theorem sg_blk (g : Vec Ideal S384x1024 .f32) (i : Fin 384) (k : Fin 1024) :
    k0_pay11 (F := Ideal) g (ix2 i k) = Ideal.logistic (g (ix2 i k)) := by
  pointwise [k0_pay11, k0_pay9]
  rw [zero_sub]
  rfl

/-- The gated rows through the projection, added to the residual. -/
theorem h_blk (g a r : Vec Ideal S384x1024 .f32) (w : Vec Ideal S1024x1024 .bf16) (i : Fin 384) (k : Fin 1024) :
    k0_pay14 g a r w (ix2 i k) = r (ix2 i k) + ∑ n, (a (ix2 i n) * (g (ix2 i n) * Ideal.logistic (g (ix2 i n)))) * w (ix2 n k) := by
  pointwise [k0_pay14, k0_pay13, k0_pay12, k0_pay10, k0_pay9, sg_blk]

/-- Row `i` of the block at row `o`. -/
abbrev row (o : ℕ) (h : FVec Ideal S384x1024 .f32) (i : Fin 128) (ho : o + 128 ≤ 384) : Fin 1024 → EReal :=
  fun k => h (ix2 ⟨o + i.val, by omega⟩ k)

/-- A row's differences from its targets, zero where there are none. -/
def err (b : BitVec 1) (x g t : Fin 1024 → EReal) (k : Fin 1024) : EReal :=
  Scalar.select b (x k * Cert.Rows.rinv nn ee x * g k - t k) 0

theorem err0 (G A R : Vec Ideal S384x1024 .f32) (W : Vec Ideal S1024x1024 .bf16) (g : Vec Ideal S1x1024 .f32) (v : BitVec 32) (t : Vec Ideal S128x1024 .f32)
    (i : Fin 128) (k : Fin 1024) : k0_pay19 (k0_pay15 g) (k0_pay18 G A R W) v 0#32 t (ix2 i k)
      = err (Scalar.cmpi .sge (Scalar.addi v 0#32) 1#32) (row 0 (k0_pay14 G A R W) i (by omega)) (fun k => g (ix2 0 k)) (fun k => t (ix2 i k)) k := by
  pointwise [k0_pay19, k0_pay18, k0_pay17, k0_pay16, k0_pay15, err, row, Cert.Rows.rinv]

theorem err1 (h : FVec Ideal S384x1024 .f32) (g : Vec Ideal S1x1024 .f32) (v : BitVec 32) (t : Vec Ideal S128x1024 .f32)
    (i : Fin 128) (k : Fin 1024) : k0_pay30 v h (k0_pay15 g) t (ix2 i k)
      = err (Scalar.cmpi .sge (Scalar.addi (Scalar.muli v 3#32) 1#32) 1#32) (row 128 h i (by omega)) (fun k => g (ix2 0 k)) (fun k => t (ix2 i k)) k := by
  pointwise [k0_pay30, k0_pay29, k0_pay28, k0_pay27, k0_pay15, err, row, Cert.Rows.rinv]

theorem err2 (h : FVec Ideal S384x1024 .f32) (g : Vec Ideal S1x1024 .f32) (b : BitVec 1) (t : Vec Ideal S128x1024 .f32)
    (i : Fin 128) (k : Fin 1024) : k0_pay39 b (k0_pay38 h (k0_pay15 g)) t (ix2 i k)
      = err b (row 256 h i (by omega)) (fun k => g (ix2 0 k)) (fun k => t (ix2 i k)) k := by
  pointwise [k0_pay39, k0_pay38, k0_pay37, k0_pay36, k0_pay35, k0_pay15, err, row, Cert.Rows.rinv]

/-- The norm's gradient of the three blocks' rows. -/
theorem dh0 (G A R : Vec Ideal S384x1024 .f32) (W : Vec Ideal S1024x1024 .bf16) (g : Vec Ideal S1x1024 .f32) (v : BitVec 32) (t : Vec Ideal S128x1024 .f32)
    (i : Fin 128) (k : Fin 1024) : k0_pay26 (k0_pay17 G A R W) (k0_pay18 G A R W) (k0_pay23 (k0_pay15 g) (k0_pay18 G A R W) v 0#32 t)
        (k0_pay24 (k0_pay15 g) (k0_pay18 G A R W) v 0#32 t) k0_pay25 (ix2 i k)
      = Cert.Rows.kdx nn ee (row 0 (k0_pay14 G A R W) i (by omega)) (fun k => g (ix2 0 k))
          (fun k => Ideal.div (k0_pay19 (k0_pay15 g) (k0_pay18 G A R W) v 0#32 t (ix2 i k)) nn) k := by
  pointwise [k0_pay26, k0_pay25, k0_pay24, k0_pay23, k0_pay21, k0_pay18, k0_pay17, k0_pay16, k0_pay15, row, Cert.Rows.kdx, Cert.Rows.rinv]

theorem dh1 (h : FVec Ideal S384x1024 .f32) (g : Vec Ideal S1x1024 .f32) (e : FVec Ideal S128x1024 .f32)
    (i : Fin 128) (k : Fin 1024) : k0_pay34 (k0_pay15 g) (k0_pay28 h) (k0_pay29 h) e (ix2 i k)
      = Cert.Rows.kdx nn ee (row 128 h i (by omega)) (fun k => g (ix2 0 k)) (fun k => Ideal.div (e (ix2 i k)) nn) k := by
  pointwise [k0_pay34, k0_pay32, k0_pay29, k0_pay28, k0_pay27, k0_pay15, row, Cert.Rows.kdx, Cert.Rows.rinv]

theorem dh2 (h : FVec Ideal S384x1024 .f32) (g : Vec Ideal S1x1024 .f32) (b : BitVec 1) (u : FVec Ideal S128x1024 .f32) (t : Vec Ideal S128x1024 .f32)
    (i : Fin 128) (k : Fin 1024) : k0_pay43 (k0_pay15 g) (k0_pay36 h) (k0_pay37 h) b u t (ix2 i k)
      = Cert.Rows.kdx nn ee (row 256 h i (by omega)) (fun k => g (ix2 0 k)) (fun k => Ideal.div (k0_pay39 b u t (ix2 i k)) nn) k := by
  pointwise [k0_pay43, k0_pay41, k0_pay37, k0_pay36, k0_pay35, k0_pay15, row, Cert.Rows.kdx, Cert.Rows.rinv]

/-- What a block of differences adds to the loss. -/
abbrev lossOf (e : FVec Ideal S128x1024 .f32) : EReal := half * ∑ i : Fin 128, Ideal.div (∑ k : Fin 1024, e (ix2 i k) * e (ix2 i k)) nn

theorem loss0 (g : FVec Ideal S1x1024 .f32) (x : FVec Ideal S128x1024 .f32) (v z : BitVec 32) (t : Vec Ideal S128x1024 .f32) (l : Vec Ideal S8x128 .f32)
    (p : Fin 8) (q : Fin 128) : k0_pay20 g x v z t l (ix2 p q) = l (ix2 p q) + lossOf (k0_pay19 g x v z t) := by
  pointwise [k0_pay20]
  simp only [Fin.sum_univ_one]

theorem loss1 (h : FVec Ideal S384x1024 .f32) (g : FVec Ideal S1x1024 .f32) (v : BitVec 32) (t : Vec Ideal S128x1024 .f32) (l : Vec Ideal S8x128 .f32)
    (p : Fin 8) (q : Fin 128) : k0_pay31 v h g t l (ix2 p q) = l (ix2 p q) + lossOf (k0_pay30 v h g t) := by
  pointwise [k0_pay31]
  simp only [Fin.sum_univ_one]

theorem loss2 (b : BitVec 1) (u : FVec Ideal S128x1024 .f32) (t : Vec Ideal S128x1024 .f32) (l : Vec Ideal S8x128 .f32)
    (p : Fin 8) (q : Fin 128) : k0_pay40 b u t l (ix2 p q) = l (ix2 p q) + lossOf (k0_pay39 b u t) := by
  pointwise [k0_pay40]
  simp only [Fin.sum_univ_one]

/-- What a block of differences and rows adds to the gain's gradient. -/
abbrev gainOf (e x : FVec Ideal S128x1024 .f32) (k : Fin 1024) : EReal := ∑ i : Fin 128, Ideal.div (e (ix2 i k)) nn * x (ix2 i k)

theorem gain0 (g : FVec Ideal S1x1024 .f32) (x : FVec Ideal S128x1024 .f32) (v z : BitVec 32) (t : Vec Ideal S128x1024 .f32) (l : Vec Ideal S1x1024 .f32)
    (p : Fin 1) (k : Fin 1024) : k0_pay22 g x v z t l (ix2 p k) = l (ix2 p k) + gainOf (k0_pay19 g x v z t) x k := by
  pointwise [k0_pay22, k0_pay21]

theorem gain1 (x e : FVec Ideal S128x1024 .f32) (l : Vec Ideal S1x1024 .f32)
    (p : Fin 1) (k : Fin 1024) : k0_pay33 x e l (ix2 p k) = l (ix2 p k) + gainOf e x k := by
  pointwise [k0_pay33, k0_pay32]

theorem gain2 (x : FVec Ideal S128x1024 .f32) (b : BitVec 1) (u : FVec Ideal S128x1024 .f32) (t : Vec Ideal S128x1024 .f32) (l : Vec Ideal S1x1024 .f32)
    (p : Fin 1) (k : Fin 1024) : k0_pay42 x b u t l (ix2 p k) = l (ix2 p k) + gainOf (k0_pay39 b u t) x k := by
  pointwise [k0_pay42, k0_pay41]

/-- The normed rows of the three blocks. -/
theorem xh0 (G A R : Vec Ideal S384x1024 .f32) (W : Vec Ideal S1024x1024 .bf16) (i : Fin 128) (k : Fin 1024) :
    k0_pay18 G A R W (ix2 i k) = row 0 (k0_pay14 G A R W) i (by omega) k * Cert.Rows.rinv nn ee (row 0 (k0_pay14 G A R W) i (by omega)) := by
  pointwise [k0_pay18, k0_pay17, k0_pay16, row, Cert.Rows.rinv]

theorem xh1 (h : FVec Ideal S384x1024 .f32) (i : Fin 128) (k : Fin 1024) :
    k0_pay29 h (ix2 i k) = row 128 h i (by omega) k * Cert.Rows.rinv nn ee (row 128 h i (by omega)) := by
  pointwise [k0_pay29, k0_pay28, k0_pay27, row, Cert.Rows.rinv]

theorem xh2 (h : FVec Ideal S384x1024 .f32) (i : Fin 128) (k : Fin 1024) :
    k0_pay37 h (ix2 i k) = row 256 h i (by omega) k * Cert.Rows.rinv nn ee (row 256 h i (by omega)) := by
  pointwise [k0_pay37, k0_pay36, k0_pay35, row, Cert.Rows.rinv]

/-- One entry of the two gradients behind the projection. -/
abbrev kda (dy g : EReal) : EReal := dy * (g * Ideal.logistic g)
abbrev kdg (dy g a : EReal) : EReal := dy * a * (Ideal.logistic g * (1 + g * (1 - Ideal.logistic g)))
abbrev kga (g a : EReal) : EReal := a * (g * Ideal.logistic g)

theorem da_blk (g d : Vec Ideal S384x1024 .f32) (w : Vec Ideal S1024x1024 .bf16) (i : Fin 384) (k : Fin 1024) :
    k0_pay3 (k0_pay12 g) d w (ix2 i k) = kda (∑ n, d (ix2 i n) * w (ix2 k n)) (g (ix2 i k)) := by
  pointwise [k0_pay3, k0_pay2, k0_pay1, k0_pay12, k0_pay9, sg_blk]

theorem dgate_blk (g a d : Vec Ideal S384x1024 .f32) (w : Vec Ideal S1024x1024 .bf16) (i : Fin 384) (k : Fin 1024) :
    k0_pay4 (k0_pay9 g) (k0_pay10 a) (k0_pay11 g) d w (ix2 i k) = kdg (∑ n, d (ix2 i n) * w (ix2 k n)) (g (ix2 i k)) (a (ix2 i k)) := by
  pointwise [k0_pay4, k0_pay2, k0_pay1, k0_pay10, k0_pay9, sg_blk]

theorem dw_blk (g a d : Vec Ideal S384x1024 .f32) (v : Vec Ideal S1024x1024 .f32) (p q : Fin 1024) :
    k0_pay5 (k0_pay13 g a) d v (ix2 p q) = v (ix2 p q) + ∑ i, kga (g (ix2 i p)) (a (ix2 i p)) * d (ix2 i q) := by
  pointwise [k0_pay5, k0_pay1, k0_pay13, k0_pay12, k0_pay10, k0_pay9, sg_blk]

theorem zero9 (a : Fin 8) (b : Fin 128) : k0_pay6 (F := Ideal) (ix2 a b) = 0 := by
  pointwise [k0_pay6]

theorem zero10 (a : Fin 1) (b : Fin 1024) : k0_pay7 (F := Ideal) (ix2 a b) = 0 := by
  pointwise [k0_pay7]

theorem zero13 (a b : Fin 1024) : k0_pay8 (F := Ideal) (ix2 a b) = 0 := by
  pointwise [k0_pay8]

/-! ## The operands the host lines prepare -/

/-- The arguments as the body reads them: rows under the 112 rows of padding, the weight, the gain and the targets. -/
def A (c : Dev nD) (i : Fin 4224) (k : Fin 1024) : EReal :=
  Cert.Rows.pad 112 (by rfl : 112 + 4112 = 4224) (fun a b => m (c.tc.loc main_arg0) (ix2 a b)) i k
def B (c : Dev nD) (i : Fin 4224) (k : Fin 1024) : EReal :=
  Cert.Rows.pad 112 (by rfl : 112 + 4112 = 4224) (fun a b => m (c.tc.loc main_arg1) (ix2 a b)) i k
def W (c : Dev nD) (k n : Fin 1024) : EReal := m (c.tc.loc main_arg2) (ix3 0 k n)
def D (c : Dev nD) (i : Fin 4224) (k : Fin 1024) : EReal :=
  Cert.Rows.pad 112 (by rfl : 112 + 4112 = 4224) (fun a b => m (c.tc.loc main_arg3) (ix2 a b)) i k
def G (c : Dev nD) (k : Fin 1024) : EReal := m (c.tc.loc main_arg4) (ix1 k)
def T (c : Dev nD) (i : Fin 4096) (k : Fin 1024) : EReal := m (c.tc.loc main_arg5) (ix2 i k)

/-- The arrays between: the norm's rows, the differences, their gradient, the norm's gradient, its product with the weight. -/
def H (c : Dev nD) (i : Fin 4224) (k : Fin 1024) : EReal := D m c i k + ∑ n, kga (B m c i n) (A m c i n) * W m c n k
def ER (c : Dev nD) (i : Fin 4224) (k : Fin 1024) : EReal :=
  Cert.Rows.pad 128 (by rfl : 128 + 4096 = 4224)
    (fun t k => H m c ⟨128 + t.val, by omega⟩ k * Cert.Rows.rinv nn ee (H m c ⟨128 + t.val, by omega⟩) * G m c k - T m c t k) i k
def DY (c : Dev nD) (i : Fin 4224) (k : Fin 1024) : EReal := Ideal.div (ER m c i k) nn
def DH (c : Dev nD) (i : Fin 4224) (k : Fin 1024) : EReal := Cert.Rows.kdx nn ee (H m c i) (G m c) (DY m c i) k
def DV (c : Dev nD) (i : Fin 4224) (k : Fin 1024) : EReal := ∑ n, DH m c i n * W m c k n
/-- A row's part of the loss. -/
def LS (c : Dev nD) (i : Fin 4224) : EReal := Ideal.div (∑ k, ER m c i k * ER m c i k) nn

theorem V_v0 (c : Dev nD) (i : Fin 4224) (k : Fin 1024) : V m c main_v0 (ix2 i k) = A m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg0) (ix2 a b)) i k

theorem V_v1 (c : Dev nD) (i : Fin 4224) (k : Fin 1024) : V m c main_v1 (ix2 i k) = B m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg1) (ix2 a b)) i k

theorem V_v4 (c : Dev nD) (i : Fin 4224) (k : Fin 1024) : V m c main_v4 (ix2 i k) = D m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg3) (ix2 a b)) i k

theorem V_v3 (c : Dev nD) (i k : Fin 1024) : V m c main_v3 (ix2 i k) = W m c i k := by
  simp only [V, List.flatten_cons, List.flatten_nil, List.cons_append, List.nil_append, List.append_nil]
  entry_read
  pointwise
  rfl

theorem V_v5 (c : Dev nD) (z : Fin 1) (k : Fin 1024) : V m c main_v5 (ix2 z k) = G m c k := by
  simp only [V, List.flatten_cons, List.flatten_nil, List.cons_append, List.nil_append, List.append_nil]
  entry_read
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 1024) : iblk m c 0 t (ix2 i k) = A m c (rowAt t i) k := by
  rw [← V_v0]
  blk_simp [iblk, idx_val t]
  blk_ext [idx_val t]

theorem in1 (c : Dev nD) (t : Fin cfg0.N) (i : Fin 384) (k : Fin 1024) : iblk m c 1 t (ix2 i k) = B m c (rowAt t i) k := by
  rw [← V_v1]
  blk_simp [iblk, idx_val t]
  blk_ext [idx_val t]

theorem in2 (c : Dev nD) (t : Fin cfg0.N) (i k : Fin 1024) : iblk m c 2 t (ix2 i k) = W m c i k := by
  rw [← V_v3]
  blk_simp [iblk, idx_val t]
  blk_ext [idx_val t]

theorem in3 (c : Dev nD) (t : Fin cfg0.N) (i : Fin 384) (k : Fin 1024) : iblk m c 3 t (ix2 i k) = D m c (rowAt t i) k := by
  rw [← V_v4]
  blk_simp [iblk, idx_val t]
  blk_ext [idx_val t]

theorem in4 (c : Dev nD) (t : Fin cfg0.N) (k : Fin 1024) : iblk m c 4 t (ix2 0 k) = G m c k := by
  rw [← V_v5 m c 0]
  blk_simp [iblk, idx_val t]
  blk_ext [idx_val t]

theorem in5 (c : Dev nD) (t : Fin cfg0.N) (i : Fin 128) (k : Fin 1024) : iblk m c 5 t (ix2 i k)
    = T m c ⟨(3 * t.val - 1) * 128 + i.val, by have := lt_of_lt_of_eq t.isLt N_0; omega⟩ k := by
  unfold T
  rw [← V_main_arg5 m c]
  blk_simp [iblk, idx_val t]
  blk_ext [idx_val t]

theorem in6 (c : Dev nD) (t : Fin cfg0.N) (i : Fin 128) (k : Fin 1024) : iblk m c 6 t (ix2 i k)
    = T m c ⟨3 * t.val * 128 + i.val, by have := lt_of_lt_of_eq t.isLt N_0; omega⟩ k := by
  unfold T
  rw [← V_main_arg5 m c]
  blk_simp [iblk, idx_val t]
  blk_ext [idx_val t]

theorem in7 (c : Dev nD) (t : Fin cfg0.N) (i : Fin 128) (k : Fin 1024) : iblk m c 7 t (ix2 i k)
    = T m c ⟨(3 * t.val + 1) * 128 + i.val, by have := lt_of_lt_of_eq t.isLt N_0; omega⟩ k := by
  unfold T
  rw [← V_main_arg5 m c]
  blk_simp [iblk, idx_val t]
  blk_ext [idx_val t]

/-- The norm's rows of a point. -/
abbrev hAt (c : Dev nD) (t : Fin cfg0.N) : FVec Ideal S384x1024 .f32 := k0_pay14 (iblk m c 1 t) (iblk m c 0 t) (iblk m c 3 t) (iblk m c 2 t)

theorem hAt_apply (c : Dev nD) (t : Fin cfg0.N) (i : Fin 384) (k : Fin 1024) : hAt m c t (ix2 i k) = H m c (rowAt t i) k := by
  refine (h_blk _ _ _ _ i k).trans ?_
  simp only [in0, in1, in2, in3]
  rfl

/-- The differences of a row, from the condition the body tests and the target it reads. -/
theorem err_at (c : Dev nD) (r : Fin 4224) (b : BitVec 1) (t : Fin 1024 → EReal) (k : Fin 1024) (hb : b = 1#1 ↔ 128 ≤ r.val)
    (ht : ∀ h : 128 ≤ r.val, t k = T m c ⟨r.val - 128, by omega⟩ k) : err b (H m c r) (G m c) t k = ER m c r k := by
  show (if b = 1#1 then H m c r k * Cert.Rows.rinv nn ee (H m c r) * G m c k - t k else 0) = _
  rcases Cert.Rows.row_cases (by rfl : 128 + 4096 = 4224) r with h | ⟨s, h, rfl⟩
  · rw [if_neg fun e => absurd (hb.1 e) (by omega)]
    exact (Cert.Rows.pad_lo _ h k).symm
  · have h1 : 128 ≤ (⟨128 + s.val, h⟩ : Fin 4224).val := by show 128 ≤ 128 + s.val; omega
    rw [if_pos (hb.2 h1), ht h1]
    unfold ER
    rw [Cert.Rows.pad_hi]
    have e : (⟨(⟨128 + s.val, h⟩ : Fin 4224).val - 128, by omega⟩ : Fin 4096) = s := Fin.ext (by show 128 + s.val - 128 = s.val; omega)
    rw [e]

/-- The three blocks of differences of a point. -/
abbrev e0At (c : Dev nD) (t : Fin cfg0.N) : FVec Ideal S128x1024 .f32 :=
  k0_pay19 (k0_pay15 (iblk m c 4 t)) (k0_pay18 (iblk m c 1 t) (iblk m c 0 t) (iblk m c 3 t) (iblk m c 2 t))
    (Scalar.muli (BitVec.ofNat 32 (grid0.coords t 0).val) 3#32) 0#32 (iblk m c 5 t)
abbrev e1At (c : Dev nD) (t : Fin cfg0.N) : FVec Ideal S128x1024 .f32 :=
  k0_pay30 (BitVec.ofNat 32 (grid0.coords t 0).val) (hAt m c t) (k0_pay15 (iblk m c 4 t)) (iblk m c 6 t)
abbrev e2At (c : Dev nD) (t : Fin cfg0.N) : FVec Ideal S128x1024 .f32 :=
  k0_pay39 (has t 2#32) (k0_pay38 (hAt m c t) (k0_pay15 (iblk m c 4 t))) (iblk m c 7 t)

/-- Row `i` of the block at row `o` of point `t`, in the array. -/
abbrev at3 (t : Fin cfg0.N) (o : ℕ) (ho : o + 128 ≤ 384) (i : Fin 128) : Fin 4224 := rowAt t ⟨o + i.val, by omega⟩

theorem row_at (c : Dev nD) (t : Fin cfg0.N) (o : ℕ) (ho : o + 128 ≤ 384) (i : Fin 128) : row o (hAt m c t) i ho = H m c (at3 t o ho i) :=
  funext fun k => hAt_apply m c t _ k

theorem gain_at (c : Dev nD) (t : Fin cfg0.N) : (fun k : Fin 1024 => iblk m c 4 t (ix2 0 k)) = G m c := funext fun k => in4 m c t k

theorem e0_at (c : Dev nD) (t : Fin cfg0.N) (i : Fin 128) (k : Fin 1024) : e0At m c t (ix2 i k) = ER m c (at3 t 0 (by omega) i) k := by
  refine (err0 _ _ _ _ _ _ _ i k).trans ?_
  rw [row_at m c t 0, gain_at]
  refine err_at m c _ _ _ k ((has_val t).1.trans ?_) fun h => (in5 m c t i k).trans ?_
  · show 1 ≤ t.val ↔ 128 ≤ t.val * 384 + (0 + i.val)
    omega
  · have h : 128 ≤ t.val * 384 + (0 + i.val) := h
    exact congrArg (T m c · k) (Fin.ext (by show (3 * t.val - 1) * 128 + i.val = t.val * 384 + (0 + i.val) - 128; omega))

theorem e1_at (c : Dev nD) (t : Fin cfg0.N) (i : Fin 128) (k : Fin 1024) : e1At m c t (ix2 i k) = ER m c (at3 t 128 (by omega) i) k := by
  refine (err1 _ _ _ _ i k).trans ?_
  rw [row_at m c t 128, gain_at]
  refine err_at m c _ _ _ k ((iff_true_intro (has_val t).2.1).trans ?_) fun h => (in6 m c t i k).trans ?_
  · show True ↔ 128 ≤ t.val * 384 + (128 + i.val)
    exact (iff_true_intro (by omega)).symm
  · exact congrArg (T m c · k) (Fin.ext (by show 3 * t.val * 128 + i.val = t.val * 384 + (128 + i.val) - 128; omega))

theorem e2_at (c : Dev nD) (t : Fin cfg0.N) (i : Fin 128) (k : Fin 1024) : e2At m c t (ix2 i k) = ER m c (at3 t 256 (by omega) i) k := by
  refine (err2 _ _ _ _ i k).trans ?_
  rw [row_at m c t 256, gain_at]
  refine err_at m c _ _ _ k ((iff_true_intro (has_val t).2.2).trans ?_) fun h => (in7 m c t i k).trans ?_
  · show True ↔ 128 ≤ t.val * 384 + (256 + i.val)
    exact (iff_true_intro (by omega)).symm
  · exact congrArg (T m c · k) (Fin.ext (by show (3 * t.val + 1) * 128 + i.val = t.val * 384 + (256 + i.val) - 128; omega))

/-! ## The norm's gradient of a point, read back -/

/-- The three pieces. -/
abbrev p0At (c : Dev nD) (t : Fin cfg0.N) : FVec Ideal S128x1024 .f32 :=
  k0_pay26 (k0_pay17 (iblk m c 1 t) (iblk m c 0 t) (iblk m c 3 t) (iblk m c 2 t)) (k0_pay18 (iblk m c 1 t) (iblk m c 0 t) (iblk m c 3 t) (iblk m c 2 t))
    (k0_pay23 (k0_pay15 (iblk m c 4 t)) (k0_pay18 (iblk m c 1 t) (iblk m c 0 t) (iblk m c 3 t) (iblk m c 2 t))
      (Scalar.muli (BitVec.ofNat 32 (grid0.coords t 0).val) 3#32) 0#32 (iblk m c 5 t))
    (k0_pay24 (k0_pay15 (iblk m c 4 t)) (k0_pay18 (iblk m c 1 t) (iblk m c 0 t) (iblk m c 3 t) (iblk m c 2 t))
      (Scalar.muli (BitVec.ofNat 32 (grid0.coords t 0).val) 3#32) 0#32 (iblk m c 5 t)) k0_pay25
abbrev p1At (c : Dev nD) (t : Fin cfg0.N) : FVec Ideal S128x1024 .f32 :=
  k0_pay34 (k0_pay15 (iblk m c 4 t)) (k0_pay28 (hAt m c t)) (k0_pay29 (hAt m c t)) (e1At m c t)
abbrev p2At (c : Dev nD) (t : Fin cfg0.N) : FVec Ideal S128x1024 .f32 :=
  k0_pay43 (k0_pay15 (iblk m c 4 t)) (k0_pay36 (hAt m c t)) (k0_pay37 (hAt m c t)) (has t 2#32) (k0_pay38 (hAt m c t) (k0_pay15 (iblk m c 4 t))) (iblk m c 7 t)

theorem p0_at (c : Dev nD) (t : Fin cfg0.N) (i : Fin 128) (k : Fin 1024) : p0At m c t (ix2 i k) = DH m c (at3 t 0 (by omega) i) k := by
  refine (dh0 _ _ _ _ _ _ _ i k).trans ?_
  rw [row_at m c t 0, gain_at, show (fun k => Ideal.div (e0At m c t (ix2 i k)) nn) = DY m c (at3 t 0 (by omega) i) from
    funext fun k => congrArg (Ideal.div · nn) (e0_at m c t i k)]
  rfl

theorem p1_at (c : Dev nD) (t : Fin cfg0.N) (i : Fin 128) (k : Fin 1024) : p1At m c t (ix2 i k) = DH m c (at3 t 128 (by omega) i) k := by
  refine (dh1 _ _ _ i k).trans ?_
  rw [row_at m c t 128, gain_at, show (fun k => Ideal.div (e1At m c t (ix2 i k)) nn) = DY m c (at3 t 128 (by omega) i) from
    funext fun k => congrArg (Ideal.div · nn) (e1_at m c t i k)]
  rfl

theorem p2_at (c : Dev nD) (t : Fin cfg0.N) (i : Fin 128) (k : Fin 1024) : p2At m c t (ix2 i k) = DH m c (at3 t 256 (by omega) i) k := by
  refine (dh2 _ _ _ _ _ i k).trans ?_
  rw [row_at m c t 256, gain_at, show (fun k => Ideal.div (e2At m c t (ix2 i k)) nn) = DY m c (at3 t 256 (by omega) i) from
    funext fun k => congrArg (Ideal.div · nn) (e2_at m c t i k)]
  rfl

/-- The whole block. -/
def dhAt (c : Dev nD) (t : Fin cfg0.N) : FVec Ideal S384x1024 .f32 := fun y => DH m c (rowAt t (y 0)) (y 1)

theorem dhAt_of (c : Dev nD) (t : Fin cfg0.N) (o : ℕ) (ho : o + 128 ≤ 384) (q : FVec Ideal S128x1024 .f32)
    (hq : ∀ i k, q (ix2 i k) = DH m c (at3 t o ho i) k) (y : S384x1024.Idx) (x : S128x1024.Idx)
    (h0 : (y 0).val = o + (x 0).val) (h1 : (y 1).val = (x 1).val) : q x = dhAt m c t y := by
  have e0 : y 0 = (⟨o + (x 0).val, h0 ▸ (y 0).isLt⟩ : Fin 384) := Fin.ext h0
  have e1 : y 1 = x 1 := Fin.ext h1
  unfold dhAt
  rw [e0, e1]
  idx_vars x
  exact hq _ _

theorem canon_dh (c : Dev nD) (t : Fin cfg0.N) : View.canon [
      (⟨Rect.unit (s := S384x1024) ![256, 0] ![128, 1024] inb_S384x1024_S128x1024_256_0, p2At m c t⟩ : View.Piece (Elt Ideal) S384x1024 .f32),
      ⟨Rect.unit (s := S384x1024) ![128, 0] ![128, 1024] inb_S384x1024_S128x1024_128_0, p1At m c t⟩,
      ⟨Rect.unit (s := S384x1024) ![0, 0] ![128, 1024] inb_S384x1024_S128x1024_0_0, p0At m c t⟩] = dhAt m c t := by
  funext y
  canon_tiles x h
  · exact dhAt_of m c t 256 (by omega) _ (p2_at m c t) y x h0 h1
  · exact dhAt_of m c t 128 (by omega) _ (p1_at m c t) y x h0 h1
  · exact dhAt_of m c t 0 (by omega) _ (p0_at m c t) y x (by omega) h1

theorem readCov_dh {sig : RefSig} {κ : Kind} {sp : Space} (v : View sig κ sp S384x1024 .f32) (c : Dev nD) (t : Fin cfg0.N) :
    v.readCov [
      (⟨Rect.unit (s := S384x1024) ![256, 0] ![128, 1024] inb_S384x1024_S128x1024_256_0, p2At m c t⟩ : View.Piece (Elt Ideal) S384x1024 .f32),
      ⟨Rect.unit (s := S384x1024) ![128, 0] ![128, 1024] inb_S384x1024_S128x1024_128_0, p1At m c t⟩,
      ⟨Rect.unit (s := S384x1024) ![0, 0] ![128, 1024] inb_S384x1024_S128x1024_0_0, p0At m c t⟩]
      (Rect.unit (s := S384x1024) ![0, 0] ![384, 1024] inb_S384x1024_S384x1024_0_0).toLoadRect = dhAt m c t :=
  (Cert.Cols.readCov_whole (R := 384) (N := 1024) (Val := Elt Ideal) (e := .f32) v _ _).trans (canon_dh m c t)

end Cert.OutLossIdeal.Value

end
-- ==== Proof.OutLossKernel.lean ====
/- What the `b_out_proj_loss` call's six output arrays end holding, from what its points leave. -/
module

public import proofs.«01_k».proof.Proof.OutLossBlock
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.OutLossIdeal.Value

open Cert.OutLossIdeal Cert.OutLossIdeal.Gen

variable (m : (ℓ : Loc nD τ sig) → Buf (Elt Ideal) ℓ)

/-! ## What a point leaves -/

theorem left8 (c : Dev nD) (t : Fin cfg0.N) : (outsAt0 m c t.val t.isLt).1 = dhAt m c t := by
  by_cases hc : t.val % 11 = 0
  · rw [outsAt0_A m c t hc]
    dsimp only
    frame_out
    exact canon_dh m c t
  · rw [outsAt0_B m c t hc]
    dsimp only
    frame_out
    exact canon_dh m c t

theorem left11 (c : Dev nD) (t : Fin cfg0.N) : (outsAt0 m c t.val t.isLt).2.2.2.1
    = k0_pay3 (k0_pay12 (iblk m c 1 t)) (dhAt m c t) (iblk m c 2 t) := by
  by_cases hc : t.val % 11 = 0
  · rw [outsAt0_A m c t hc]
    dsimp only
    frame_out
    exact congrArg (fun d => k0_pay3 (k0_pay12 (iblk m c 1 t)) d (iblk m c 2 t)) (readCov_dh m (ms0_8 t).view c t)
  · rw [outsAt0_B m c t hc]
    dsimp only
    frame_out
    exact congrArg (fun d => k0_pay3 (k0_pay12 (iblk m c 1 t)) d (iblk m c 2 t)) (readCov_dh m (ms0_8 t).view c t)

theorem left12 (c : Dev nD) (t : Fin cfg0.N) : (outsAt0 m c t.val t.isLt).2.2.2.2.1
    = k0_pay4 (k0_pay9 (iblk m c 1 t)) (k0_pay10 (iblk m c 0 t)) (k0_pay11 (iblk m c 1 t)) (dhAt m c t) (iblk m c 2 t) := by
  by_cases hc : t.val % 11 = 0
  · rw [outsAt0_A m c t hc]
    dsimp only
    frame_out
    exact congrArg (fun d => k0_pay4 (k0_pay9 (iblk m c 1 t)) (k0_pay10 (iblk m c 0 t)) (k0_pay11 (iblk m c 1 t)) d (iblk m c 2 t)) (readCov_dh m (ms0_8 t).view c t)
  · rw [outsAt0_B m c t hc]
    dsimp only
    frame_out
    exact congrArg (fun d => k0_pay4 (k0_pay9 (iblk m c 1 t)) (k0_pay10 (iblk m c 0 t)) (k0_pay11 (iblk m c 1 t)) d (iblk m c 2 t)) (readCov_dh m (ms0_8 t).view c t)

theorem left13_A (c : Dev nD) (t : Fin cfg0.N) (h : t.val % 11 = 0) : (outsAt0 m c t.val t.isLt).2.2.2.2.2
    = k0_pay5 (k0_pay13 (iblk m c 1 t) (iblk m c 0 t)) (dhAt m c t) (k0_pay8 (F := Ideal)) := by
  rw [outsAt0_A m c t h]
  dsimp only
  frame_out
  exact congrArg (fun d => k0_pay5 (k0_pay13 (iblk m c 1 t) (iblk m c 0 t)) d (k0_pay8 (F := Ideal))) (readCov_dh m (ms0_8 t).view c t)

/-- What the point before left. -/
abbrev before (c : Dev nD) (t : Fin cfg0.N) := outsAt0 m c (t.val - 1) (Nat.lt_of_le_of_lt (Nat.sub_le _ _) t.isLt)

theorem left13_B (c : Dev nD) (t : Fin cfg0.N) (h : ¬t.val % 11 = 0) : (outsAt0 m c t.val t.isLt).2.2.2.2.2
    = k0_pay5 (k0_pay13 (iblk m c 1 t) (iblk m c 0 t)) (dhAt m c t) (before m c t).2.2.2.2.2 := by
  rw [outsAt0_B m c t h]
  dsimp only
  frame_out
  exact congrArg (fun d => k0_pay5 (k0_pay13 (iblk m c 1 t) (iblk m c 0 t)) d (before m c t).2.2.2.2.2) (readCov_dh m (ms0_8 t).view c t)

/-- The loss after a point, and the gain's gradient, over what was there. -/
abbrev lossAt (c : Dev nD) (t : Fin cfg0.N) (l : Vec Ideal S8x128 .f32) : FVec Ideal S8x128 .f32 :=
  k0_pay40 (has t 2#32) (k0_pay38 (hAt m c t) (k0_pay15 (iblk m c 4 t))) (iblk m c 7 t)
    (k0_pay31 (BitVec.ofNat 32 (grid0.coords t 0).val) (hAt m c t) (k0_pay15 (iblk m c 4 t)) (iblk m c 6 t)
      (k0_pay20 (k0_pay15 (iblk m c 4 t)) (k0_pay18 (iblk m c 1 t) (iblk m c 0 t) (iblk m c 3 t) (iblk m c 2 t))
        (Scalar.muli (BitVec.ofNat 32 (grid0.coords t 0).val) 3#32) 0#32 (iblk m c 5 t) l))
abbrev gainAt (c : Dev nD) (t : Fin cfg0.N) (l : Vec Ideal S1x1024 .f32) : FVec Ideal S1x1024 .f32 :=
  k0_pay42 (k0_pay37 (hAt m c t)) (has t 2#32) (k0_pay38 (hAt m c t) (k0_pay15 (iblk m c 4 t))) (iblk m c 7 t)
    (k0_pay33 (k0_pay29 (hAt m c t)) (e1At m c t)
      (k0_pay22 (k0_pay15 (iblk m c 4 t)) (k0_pay18 (iblk m c 1 t) (iblk m c 0 t) (iblk m c 3 t) (iblk m c 2 t))
        (Scalar.muli (BitVec.ofNat 32 (grid0.coords t 0).val) 3#32) 0#32 (iblk m c 5 t) l))

theorem left9_A (c : Dev nD) (t : Fin cfg0.N) (h : t.val % 11 = 0) : (outsAt0 m c t.val t.isLt).2.1 = lossAt m c t (k0_pay6 (F := Ideal)) := by
  rw [outsAt0_A m c t h]
  dsimp only
  frame_out

theorem left9_B (c : Dev nD) (t : Fin cfg0.N) (h : ¬t.val % 11 = 0) : (outsAt0 m c t.val t.isLt).2.1 = lossAt m c t (before m c t).2.1 := by
  rw [outsAt0_B m c t h]
  dsimp only
  frame_out

theorem left10_A (c : Dev nD) (t : Fin cfg0.N) (h : t.val % 11 = 0) : (outsAt0 m c t.val t.isLt).2.2.1 = gainAt m c t (k0_pay7 (F := Ideal)) := by
  rw [outsAt0_A m c t h]
  dsimp only
  frame_out

theorem left10_B (c : Dev nD) (t : Fin cfg0.N) (h : ¬t.val % 11 = 0) : (outsAt0 m c t.val t.isLt).2.2.1 = gainAt m c t (before m c t).2.2.1 := by
  rw [outsAt0_B m c t h]
  dsimp only
  frame_out

/-- What a point adds to the loss: three blocks' parts. -/
def lossPart (c : Dev nD) (t : Fin cfg0.N) : EReal :=
  half * ∑ i, LS m c (at3 t 0 (by omega) i) + half * ∑ i, LS m c (at3 t 128 (by omega) i) + half * ∑ i, LS m c (at3 t 256 (by omega) i)

theorem lossAt_apply (c : Dev nD) (t : Fin cfg0.N) (l : Vec Ideal S8x128 .f32) (p : Fin 8) (q : Fin 128) :
    lossAt m c t l (ix2 p q) = l (ix2 p q) + lossPart m c t := by
  refine (loss2 _ _ _ _ p q).trans ?_
  rw [loss1, loss0, add_assoc, add_assoc, ← add_assoc (lossOf _)]
  refine congrArg (l (ix2 p q) + ·) ?_
  refine congrArg₂ (· + ·) (congrArg₂ (· + ·) ?_ ?_) ?_
  · show lossOf (e0At m c t) = _
    unfold lossOf
    simp only [e0_at]
    rfl
  · show lossOf (e1At m c t) = _
    unfold lossOf
    simp only [e1_at]
    rfl
  · show lossOf (e2At m c t) = _
    unfold lossOf
    simp only [e2_at]
    rfl

/-- Three blocks of 128 rows are 384 rows. -/
theorem sum3 (f : Fin 384 → EReal) : ∑ i : Fin 128, f ⟨0 + i.val, by omega⟩ + ∑ i : Fin 128, f ⟨128 + i.val, by omega⟩ + ∑ i : Fin 128, f ⟨256 + i.val, by omega⟩ = ∑ i, f i := by
  refine Eq.symm ((Fin.sum_univ_add (a := 256) (b := 128) f).trans ?_)
  refine congrArg₂ (· + ·) ((Fin.sum_univ_add (a := 128) (b := 128) fun i => f (Fin.castAdd 128 i)).trans ?_) rfl
  refine congrArg₂ (· + ·) (Finset.sum_congr rfl fun i _ => congrArg f (Fin.ext ?_)) rfl
  show i.val = 0 + i.val
  omega

theorem gainAt_apply (c : Dev nD) (t : Fin cfg0.N) (l : Vec Ideal S1x1024 .f32) (p : Fin 1) (k : Fin 1024) :
    gainAt m c t l (ix2 p k) = l (ix2 p k) + ∑ i, DY m c (rowAt t i) k * (H m c (rowAt t i) k * Cert.Rows.rinv nn ee (H m c (rowAt t i))) := by
  refine (gain2 _ _ _ _ _ p k).trans ?_
  rw [gain1, gain0, add_assoc, add_assoc, ← add_assoc (gainOf _ _ _)]
  refine congrArg (l (ix2 p k) + ·) (Eq.trans ?_ (sum3 fun i => DY m c (rowAt t i) k * (H m c (rowAt t i) k * Cert.Rows.rinv nn ee (H m c (rowAt t i)))))
  refine congrArg₂ (· + ·) (congrArg₂ (· + ·) (Finset.sum_congr rfl fun i _ => ?_) (Finset.sum_congr rfl fun i _ => ?_)) (Finset.sum_congr rfl fun i _ => ?_)
  · rw [xh0]
    show Ideal.div (e0At m c t (ix2 i k)) nn * (row 0 (hAt m c t) i (by omega) k * Cert.Rows.rinv nn ee (row 0 (hAt m c t) i (by omega))) = _
    rw [row_at m c t 0, e0_at]
    rfl
  · rw [xh1]
    show Ideal.div (e1At m c t (ix2 i k)) nn * _ = _
    rw [row_at m c t 128, e1_at]
    rfl
  · rw [xh2]
    show Ideal.div (e2At m c t (ix2 i k)) nn * _ = _
    rw [row_at m c t 256, e2_at]
    rfl

/-! ## The arrays -/

/-- The six arrays. -/
def res8 (c : Dev nD) : FVec Ideal S4224x1024 .f32 := fun y => DH m c (y 0) (y 1)
def res9 (c : Dev nD) : FVec Ideal S8x128 .f32 := fun _ => ∑ t : Fin 11, lossPart m c t
def res10 (c : Dev nD) : FVec Ideal S1x1024 .f32 := fun y => ∑ i, DY m c i (y 1) * (H m c i (y 1) * Cert.Rows.rinv nn ee (H m c i))
def res11 (c : Dev nD) : FVec Ideal S4224x1024 .f32 := fun y => kda (DV m c (y 0) (y 1)) (B m c (y 0) (y 1))
def res12 (c : Dev nD) : FVec Ideal S4224x1024 .bf16 := fun y => kdg (DV m c (y 0) (y 1)) (B m c (y 0) (y 1)) (A m c (y 0) (y 1))
def res13 (c : Dev nD) : FVec Ideal S1024x1024 .f32 := fun y => ∑ i, kga (B m c i (y 0)) (A m c i (y 0)) * DH m c i (y 1)

theorem dhAt_apply (c : Dev nD) (t : Fin cfg0.N) (i : Fin 384) (k : Fin 1024) : dhAt m c t (ix2 i k) = DH m c (rowAt t i) k := rfl

theorem final_8 (c : Dev nD) : (dats m 0 c).arrAt 8 (cfgs 0).N = res8 m c := by
  refine (dats m 0 c).arrAt_eq_of_covers 8 _ (by decide +kernel) fun t hf y => ?_
  blk_simp; rw [after0_8, left8]
  idx_vars y
  rw [dhAt_apply]
  refine Eq.trans ?_ (congrArg (res8 m c) (?_ : ix2 (rowAt t y0) y1 = _))
  · rfl
  · blk_ext [idx_val t]

theorem final_9 (c : Dev nD) : (dats m 0 c).arrAt 9 (cfgs 0).N = res9 m c := by
  refine (dats m 0 c).arrAt_eq_of_after_last 9 t0_10 (by decide +kernel) _ fun j => ?_
  blk_simp
  rw [after0_9, Pipeline.eq_sum_fin_of_reset_step_apply_last (fun n h => (outsAt0 m c n h).2.1) 11 (fun _ => 0)
    (fun t _ => lossPart m c t)
    (fun t h j => by
      idx_vars j
      rw [left9_A m c t h, lossAt_apply, zero9])
    (fun t h j => by
      idx_vars j
      rw [left9_B m c t h, lossAt_apply])
    (le_of_eq N_0) t0_10 rfl j, zero_add]
  rfl

theorem final_10 (c : Dev nD) : (dats m 0 c).arrAt 10 (cfgs 0).N = res10 m c := by
  refine (dats m 0 c).arrAt_eq_of_after_last 10 t0_10 (by decide +kernel) _ fun j => ?_
  blk_simp
  rw [after0_10, Pipeline.eq_sum_fin_of_reset_step_apply_last (fun n h => (outsAt0 m c n h).2.2.1) 11 (fun _ => 0)
    (fun t j => ∑ i, DY m c (rowAt t i) (j 1) * (H m c (rowAt t i) (j 1) * Cert.Rows.rinv nn ee (H m c (rowAt t i))))
    (fun t h j => by
      idx_vars j
      rw [left10_A m c t h, gainAt_apply, zero10])
    (fun t h j => by
      idx_vars j
      rw [left10_B m c t h, gainAt_apply])
    (le_of_eq N_0) t0_10 rfl j, zero_add]
  exact Fin.sum_mul_add_congr (fun s k hl => rfl)

theorem final_11 (c : Dev nD) : (dats m 0 c).arrAt 11 (cfgs 0).N = res11 m c := by
  refine (dats m 0 c).arrAt_eq_of_covers 11 _ (by decide +kernel) fun t hf y => ?_
  blk_simp; rw [after0_11, left11]
  idx_vars y
  rw [da_blk]
  simp only [in1, in2, dhAt_apply]
  refine Eq.trans ?_ (congrArg (res11 m c) (?_ : ix2 (rowAt t y0) y1 = _))
  · rfl
  · blk_ext [idx_val t]

theorem final_12 (c : Dev nD) : (dats m 0 c).arrAt 12 (cfgs 0).N = res12 m c := by
  refine (dats m 0 c).arrAt_eq_of_covers 12 _ (by decide +kernel) fun t hf y => ?_
  blk_simp; rw [after0_12, left12]
  idx_vars y
  rw [dgate_blk]
  simp only [in0, in1, in2, dhAt_apply]
  refine Eq.trans ?_ (congrArg (res12 m c) (?_ : ix2 (rowAt t y0) y1 = _))
  · rfl
  · blk_ext [idx_val t]

theorem final_13 (c : Dev nD) : (dats m 0 c).arrAt 13 (cfgs 0).N = res13 m c := by
  refine (dats m 0 c).arrAt_eq_of_after_last 13 t0_10 (by decide +kernel) _ fun j => ?_
  blk_simp
  rw [after0_13, Pipeline.eq_sum_fin_of_reset_step_apply_last (fun n h => (outsAt0 m c n h).2.2.2.2.2) 11 (fun _ => 0)
    (fun t j => ∑ i, kga (B m c (rowAt t i) (j 0)) (A m c (rowAt t i) (j 0)) * DH m c (rowAt t i) (j 1))
    (fun t h j => by
      idx_vars j
      rw [left13_A m c t h, dw_blk, zero13]
      simp only [in0, in1, dhAt_apply])
    (fun t h j => by
      idx_vars j
      rw [left13_B m c t h, dw_blk]
      simp only [in0, in1, dhAt_apply])
    (le_of_eq N_0) t0_10 rfl j, zero_add]
  exact Fin.sum_mul_add_congr (fun s k hl => rfl)

end Cert.OutLossIdeal.Value

end
-- ==== Proof.OutLossRef.lean ====
/- What the six results of the reference of the recurrent layer's output projection with the loss, backward, are, index by index,
   as functions of the arguments. -/
module

public import proofs.«01_k».proof.Proof.Rows
public import proofs.«01_k».proof.Proof.Gate
public import proofs.«01_k».proof.Proof.Gen.OutLossRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.OutLossRefIdeal.Value

open Cert.OutLossRefIdeal Cert.OutLossRefIdeal.Gen

variable (m : (ℓ : Loc nD τ sig) → Buf (Elt Ideal) ℓ)

/-- The entries of the norm's mean, the number added to the mean square, the derivative's half, the loss's half and its factor. -/
abbrev nn : EReal := Ideal.ofBits .f32 0x44800000#32
abbrev ee : EReal := Ideal.ofBits .f32 0x358637BD#32
abbrev hh : EReal := Ideal.ofBits .f32 0xBF000000#32
abbrev half : EReal := Ideal.ofBits .f32 0x3F000000#32
abbrev cc : EReal := Ideal.div half nn

/-- The sigmoid of every entry. -/
def sgVec (g : FVec Ideal S4112x1024 .f32) : FVec Ideal S4112x1024 .f32 := fun y => Ideal.logistic (g y)

theorem sg_eq (g : FVec Ideal S4112x1024 .f32) : Host.divf (broadcastInDim S4112x1024 ![] bcast_S_S4112x1024 (constant (F := Ideal) S_ .f32 0x3F800000#32)) (addf (φ := .f32) (broadcastInDim S4112x1024 ![] bcast_S_S4112x1024 (constant (F := Ideal) S_ .f32 0x3F800000#32)) (Host.exp (Host.negf g))) = sgVec g := by
  funext y
  idx_vars y
  pointwise [sgVec]
  rfl

/-- The rows the norm reads: the gated rows through the projection, added to the residual. -/
def hVec (a g : FVec Ideal S4112x1024 .f32) (w : FVec Ideal S1x1024x1024 .f32) (r : FVec Ideal S4112x1024 .f32) : FVec Ideal S4112x1024 .f32 :=
  fun y => r y + ∑ n : Fin 1024, (a (ix2 (y 0) n) * (g (ix2 (y 0) n) * Ideal.logistic (g (ix2 (y 0) n)))) * w (ix3 0 n (y 1))

theorem h_eq (a g : FVec Ideal S4112x1024 .f32) (w : FVec Ideal S1x1024x1024 .f32) (r : FVec Ideal S4112x1024 .f32) : addf r (Host.dotGeneral (F := Ideal) (φ₁ := .f32) (φ₂ := .f32) dot_S4112x1024_S1024x1024_S4112x1024_1_0_0_1_n_n none (mulf a (mulf g (sgVec g))) (shapeCast _ w shapeCasts_S1x1024x1024_S1024x1024))
    = hVec a g w r := by
  funext y
  idx_vars y
  pointwise [hVec, sgVec]

/-- The mean square of a row and the small number added to it. -/
def msVec (x : FVec Ideal S4112x1024 .f32) : FVec Ideal S4112x1 .f32 :=
  fun y => Ideal.div (∑ k, x (ix2 (y 0) k) * x (ix2 (y 0) k)) nn + ee

theorem ms_eq (h : FVec Ideal S4112x1024 .f32) : addf (φ := .f32) (Host.divf (broadcastInDim S4112x1 ![0] bcast_S4112_S4112x1_0 (Host.reduceAdd (mulf h h) (constant (F := Ideal) S_ .f32 0x00000000#32) reducesTo_S4112x1024_S4112_d1 h_S_)) (broadcastInDim S4112x1 ![] bcast_S_S4112x1 (constant (F := Ideal) S_ .f32 0x44800000#32))) (broadcastInDim S4112x1 ![] bcast_S_S4112x1 (constant (F := Ideal) S_ .f32 0x358637BD#32))
    = msVec h := by
  funext y
  idx_vars y
  pointwise [msVec]

/-- The normed rows. -/
def xhVec (h : FVec Ideal S4112x1024 .f32) : FVec Ideal S4112x1024 .f32 :=
  fun y => h y * Cert.Rows.rinv nn ee (fun k => h (ix2 (y 0) k))

theorem xh_eq (h : FVec Ideal S4112x1024 .f32) : mulf h (broadcastInDim S4112x1024 ![0, 1] bcast_S4112x1_S4112x1024_0_1 (Host.rsqrt (msVec h))) = xhVec h := by
  funext y
  idx_vars y
  pointwise [xhVec, msVec, Cert.Rows.rinv]

/-- The differences from the targets. -/
def erVec (x : FVec Ideal S4112x1024 .f32) (e : FVec Ideal S1024 .f32) (f : FVec Ideal S4096x1024 .f32) : FVec Ideal S4096x1024 .f32 :=
  fun y => x (ix2 ⟨16 + (y 0).val, by have : (y 0).val < 4096 := (y 0).isLt; omega⟩ (y 1)) * e (ix1 (y 1)) - f y

theorem er_eq (x : FVec Ideal S4112x1024 .f32) (e : FVec Ideal S1024 .f32) (f : FVec Ideal S4096x1024 .f32) : subf (φ := .f32) (extractStridedSlice S4096x1024 ![16, 0] (mulf x (broadcastInDim S4112x1024 ![0, 1] bcast_S1x1024_S4112x1024_0_1 (broadcastInDim S1x1024 ![1] bcast_S1024_S1x1024_1 e))) slices_S4112x1024_S4096x1024_16_0) f
    = erVec x e f := by
  funext y
  idx_vars y
  pointwise [erVec]

/-- The loss's gradient at the norm's result: zero on the 16 leading rows. -/
def dyVec (q : FVec Ideal S4096x1024 .f32) : FVec Ideal S4112x1024 .f32 :=
  fun y => Cert.Rows.pad 16 (by rfl : 16 + 4096 = 4112) (fun t k => q (ix2 t k) * cc + cc * q (ix2 t k)) (y 0) (y 1)

theorem dy_eq (q : FVec Ideal S4096x1024 .f32) : pad S4112x1024 ![16, 0] ![0, 0] ![0, 0] (addf (φ := .f32) (mulf q (broadcastInDim S4096x1024 ![0] bcast_S4096_S4096x1024_0 (Host.divf (broadcastInDim S4096 ![] bcast_S_S4096 (mulf (φ := .f32) (constant (F := Ideal) S_ .f32 0x3F000000#32) (constant (F := Ideal) S_ .f32 0x3F800000#32))) (broadcastInDim S4096 ![] bcast_S_S4096 (constant (F := Ideal) S_ .f32 0x44800000#32))))) (mulf (φ := .f32) (broadcastInDim S4096x1024 ![0] bcast_S4096_S4096x1024_0 (Host.divf (broadcastInDim S4096 ![] bcast_S_S4096 (mulf (φ := .f32) (constant (F := Ideal) S_ .f32 0x3F000000#32) (constant (F := Ideal) S_ .f32 0x3F800000#32))) (broadcastInDim S4096 ![] bcast_S_S4096 (constant (F := Ideal) S_ .f32 0x44800000#32)))) q)) (constant (F := Ideal) S_ .f32 0x00000000#32) pads_S4096x1024_S4112x1024_1600_000 h_S_
    = dyVec q := by
  funext y
  idx_vars y
  refine Eq.trans ?_ (Cert.Rows.pad_eq 16 (by rfl : 16 + 4096 = 4112) (fun t k => q (ix2 t k) * cc + cc * q (ix2 t k)) y0 y1)
  pointwise
  exact dite_congr rfl (fun _ => rfl) fun _ => by
    show (0 : EReal) = (((0#32 : BitVec 32).toInt : ℝ) : EReal)
    simp

/-- The norm's gradient. -/
def dhVec (h d : FVec Ideal S4112x1024 .f32) (e : FVec Ideal S1024 .f32) : FVec Ideal S4112x1024 .f32 := fun y =>
  d y * e (ix1 (y 1)) * Cert.Rows.rinv nn ee (fun k => h (ix2 (y 0) k))
    + h y * Cert.Rows.rs nn ee hh (fun k => h (ix2 (y 0) k)) (fun k => e (ix1 k)) (fun k => d (ix2 (y 0) k))
    + Cert.Rows.rs nn ee hh (fun k => h (ix2 (y 0) k)) (fun k => e (ix1 k)) (fun k => d (ix2 (y 0) k)) * h y

theorem dh_eq (h d : FVec Ideal S4112x1024 .f32) (e : FVec Ideal S1024 .f32) : addf (φ := .f32) (addf (φ := .f32) (mulf (φ := .f32) (mulf d (broadcastInDim S4112x1024 ![0, 1] bcast_S1x1024_S4112x1024_0_1 (broadcastInDim S1x1024 ![1] bcast_S1024_S1x1024_1 e))) (broadcastInDim S4112x1024 ![0, 1] bcast_S4112x1_S4112x1024_0_1 (Host.rsqrt (msVec h)))) (mulf h (broadcastInDim S4112x1024 ![0] bcast_S4112_S4112x1024_0 (Host.reduceAdd (Host.divf (mulf (φ := .f32) (shapeCast _ (Host.reduceAdd (mulf h (mulf d (broadcastInDim S4112x1024 ![0, 1] bcast_S1x1024_S4112x1024_0_1 (broadcastInDim S1x1024 ![1] bcast_S1024_S1x1024_1 e)))) (constant (F := Ideal) S_ .f32 0x00000000#32) reducesTo_S4112x1024_S4112_d1 h_S_) shapeCasts_S4112_S4112x1) (mulf (φ := .f32) (broadcastInDim S4112x1 ![] bcast_S_S4112x1 (constant (F := Ideal) S_ .f32 0xBF000000#32)) (Host.divf (Host.rsqrt (msVec h)) (msVec h)))) (broadcastInDim S4112x1 ![] bcast_S_S4112x1 (constant (F := Ideal) S_ .f32 0x44800000#32))) (constant (F := Ideal) S_ .f32 0x00000000#32) reducesTo_S4112x1_S4112_d1 h_S_)))) (mulf (φ := .f32) (broadcastInDim S4112x1024 ![0] bcast_S4112_S4112x1024_0 (Host.reduceAdd (Host.divf (mulf (φ := .f32) (shapeCast _ (Host.reduceAdd (mulf h (mulf d (broadcastInDim S4112x1024 ![0, 1] bcast_S1x1024_S4112x1024_0_1 (broadcastInDim S1x1024 ![1] bcast_S1024_S1x1024_1 e)))) (constant (F := Ideal) S_ .f32 0x00000000#32) reducesTo_S4112x1024_S4112_d1 h_S_) shapeCasts_S4112_S4112x1) (mulf (φ := .f32) (broadcastInDim S4112x1 ![] bcast_S_S4112x1 (constant (F := Ideal) S_ .f32 0xBF000000#32)) (Host.divf (Host.rsqrt (msVec h)) (msVec h)))) (broadcastInDim S4112x1 ![] bcast_S_S4112x1 (constant (F := Ideal) S_ .f32 0x44800000#32))) (constant (F := Ideal) S_ .f32 0x00000000#32) reducesTo_S4112x1_S4112_d1 h_S_)) h)
    = dhVec h d e := by
  funext y
  idx_vars y
  pointwise [dhVec, msVec, Cert.Rows.rs, Cert.Rows.rinv]
  simp only [Fin.sum_univ_one]

/-- Its product with the weights' transpose. -/
def dvVec (d : FVec Ideal S4112x1024 .f32) (w : FVec Ideal S1x1024x1024 .f32) : FVec Ideal S4112x1024 .f32 :=
  fun y => ∑ n : Fin 1024, d (ix2 (y 0) n) * w (ix3 0 (y 1) n)

theorem dv_eq (d : FVec Ideal S4112x1024 .f32) (w : FVec Ideal S1x1024x1024 .f32) : Host.dotGeneral (F := Ideal) (φ₁ := .f32) (φ₂ := .f32) dot_S4112x1024_S1024x1024_S4112x1024_1_1_0_0_n_n none d (shapeCast _ w shapeCasts_S1x1024x1024_S1024x1024)
    = dvVec d w := by
  funext y
  idx_vars y
  pointwise [dvVec]

/-- The arguments' entries, and the arrays between. -/
def A (c : Dev nD) (i : Fin 4112) (k : Fin 1024) : EReal := m (c.tc.loc main_arg0) (ix2 i k)
def B (c : Dev nD) (i : Fin 4112) (k : Fin 1024) : EReal := m (c.tc.loc main_arg1) (ix2 i k)
def W (c : Dev nD) (k n : Fin 1024) : EReal := m (c.tc.loc main_arg2) (ix3 0 k n)
def D (c : Dev nD) (i : Fin 4112) (k : Fin 1024) : EReal := m (c.tc.loc main_arg3) (ix2 i k)
def G (c : Dev nD) (k : Fin 1024) : EReal := m (c.tc.loc main_arg4) (ix1 k)
def T (c : Dev nD) (i : Fin 4096) (k : Fin 1024) : EReal := m (c.tc.loc main_arg5) (ix2 i k)
def H (c : Dev nD) (i : Fin 4112) (k : Fin 1024) : EReal :=
  D m c i k + ∑ n, (A m c i n * (B m c i n * Ideal.logistic (B m c i n))) * W m c n k
def ER (c : Dev nD) (i : Fin 4096) (k : Fin 1024) : EReal :=
  H m c ⟨16 + i.val, by omega⟩ k * Cert.Rows.rinv nn ee (H m c ⟨16 + i.val, by omega⟩) * G m c k - T m c i k
def DY (c : Dev nD) (i : Fin 4112) (k : Fin 1024) : EReal :=
  Cert.Rows.pad 16 (by rfl : 16 + 4096 = 4112) (fun t k => ER m c t k * cc + cc * ER m c t k) i k
def DH (c : Dev nD) (i : Fin 4112) (k : Fin 1024) : EReal :=
  DY m c i k * G m c k * Cert.Rows.rinv nn ee (H m c i) + H m c i k * Cert.Rows.rs nn ee hh (H m c i) (G m c) (DY m c i)
    + Cert.Rows.rs nn ee hh (H m c i) (G m c) (DY m c i) * H m c i k
def DV (c : Dev nD) (i : Fin 4112) (k : Fin 1024) : EReal := ∑ n, DH m c i n * W m c k n

/-- The gradients without the padding. -/
def da (c : Dev nD) (i : Fin 4112) (k : Fin 1024) : EReal := DV m c i k * (B m c i k * Ideal.logistic (B m c i k))
def dgate (c : Dev nD) (i : Fin 4112) (k : Fin 1024) : EReal :=
  A m c i k * DV m c i k * Ideal.logistic (B m c i k) + B m c i k * (A m c i k * DV m c i k) * (Ideal.logistic (B m c i k) * (1 - Ideal.logistic (B m c i k)))

/-- The six results. -/
def res0 (c : Dev nD) : FVec Ideal S4224x1024 .f32 := fun y => Cert.Rows.pad 112 (by rfl : 112 + 4112 = 4224) (DH m c) (y 0) (y 1)
def res1 (c : Dev nD) : FVec Ideal S8x128 .f32 := fun _ => half * ∑ t, Ideal.div (∑ k, ER m c t k * ER m c t k) nn
def res2 (c : Dev nD) : FVec Ideal S1x1024 .f32 :=
  fun y => ∑ i, H m c i (y 1) * Cert.Rows.rinv nn ee (H m c i) * DY m c i (y 1)
def res3 (c : Dev nD) : FVec Ideal S4224x1024 .f32 := fun y => Cert.Rows.pad 112 (by rfl : 112 + 4112 = 4224) (da m c) (y 0) (y 1)
def res4 (c : Dev nD) : FVec Ideal S4224x1024 .bf16 := fun y => Cert.Rows.pad 112 (by rfl : 112 + 4112 = 4224) (dgate m c) (y 0) (y 1)
def res5 (c : Dev nD) : FVec Ideal S1024x1024 .f32 :=
  fun y => ∑ i, DH m c i (y 1) * (A m c i (y 0) * (B m c i (y 0) * Ideal.logistic (B m c i (y 0))))

/-- The arrays between as the vectors above state them. -/
abbrev hV (c : Dev nD) : FVec Ideal S4112x1024 .f32 :=
  hVec (m (c.tc.loc main_arg0)) (m (c.tc.loc main_arg1)) (m (c.tc.loc main_arg2)) (m (c.tc.loc main_arg3))
abbrev erV (c : Dev nD) : FVec Ideal S4096x1024 .f32 := erVec (xhVec (hV m c)) (m (c.tc.loc main_arg4)) (m (c.tc.loc main_arg5))
abbrev dhV (c : Dev nD) : FVec Ideal S4112x1024 .f32 := dhVec (hV m c) (dyVec (erV m c)) (m (c.tc.loc main_arg4))
abbrev dvV (c : Dev nD) : FVec Ideal S4112x1024 .f32 := dvVec (dhV m c) (m (c.tc.loc main_arg2))

theorem hV_apply (c : Dev nD) (i : Fin 4112) (k : Fin 1024) : hV m c (ix2 i k) = H m c i k := rfl
theorem erV_apply (c : Dev nD) (i : Fin 4096) (k : Fin 1024) : erV m c (ix2 i k) = ER m c i k := rfl
theorem dyV_apply (c : Dev nD) (i : Fin 4112) (k : Fin 1024) : dyVec (erV m c) (ix2 i k) = DY m c i k := rfl
theorem dhV_apply (c : Dev nD) (i : Fin 4112) (k : Fin 1024) : dhV m c (ix2 i k) = DH m c i k := rfl
theorem dvV_apply (c : Dev nD) (i : Fin 4112) (k : Fin 1024) : dvV m c (ix2 i k) = DV m c i k := rfl

theorem padded (v : FVec Ideal S4112x1024 .f32) (f : Fin 4112 → Fin 1024 → EReal) (h : ∀ i k, v (ix2 i k) = f i k) :
    (pad S4224x1024 ![112, 0] ![0, 0] ![0, 0] v (sitofp (F := Ideal) FTy.f32 (constantI S_ 32 0#32)) pads_S4112x1024_S4224x1024_11200_000 h_S_ : FVec Ideal S4224x1024 .f32)
      = fun y => Cert.Rows.pad 112 (by rfl : 112 + 4112 = 4224) f (y 0) (y 1) := by
  funext y
  idx_vars y
  refine Eq.trans ?_ (Cert.Rows.pad_eq 112 (by rfl : 112 + 4112 = 4224) f y0 y1)
  pointwise
  simp only [h]

theorem res0_eq (c : Dev nD) : res_main_v65 m c = res0 m c := by
  unfold res_main_v65
  rw [sg_eq, h_eq, ms_eq, xh_eq, er_eq, dy_eq, dh_eq]
  exact padded _ _ (dhV_apply m c)

theorem res1_eq (c : Dev nD) : res_main_v66 m c = res1 m c := by
  unfold res_main_v66
  rw [sg_eq, h_eq, ms_eq, xh_eq, er_eq]
  funext y
  idx_vars y
  pointwise [res1]
  rfl

theorem res2_eq (c : Dev nD) : res_main_v67 m c = res2 m c := by
  unfold res_main_v67
  rw [sg_eq, h_eq, ms_eq, xh_eq, er_eq, dy_eq]
  funext y
  idx_vars y
  pointwise [res2]
  simp only [Fin.sum_univ_one]
  rfl

theorem res3_eq (c : Dev nD) : res_main_v68 m c = res3 m c := by
  unfold res_main_v68
  rw [sg_eq, h_eq, ms_eq, xh_eq, er_eq, dy_eq, dh_eq, dv_eq]
  refine padded _ _ fun i k => ?_
  pointwise [sgVec]
  rfl

theorem res4_eq (c : Dev nD) : res_main_v70 m c = res4 m c := by
  unfold res_main_v70
  rw [sg_eq, h_eq, ms_eq, xh_eq, er_eq, dy_eq, dh_eq, dv_eq]
  refine Eq.trans (congrArg (fun v : FVec Ideal S4224x1024 .f32 => (truncf .bf16 v bitsLt_bf16_f32 : FVec Ideal S4224x1024 .bf16))
    (padded _ (dgate m c) fun i k => ?_)) ?_
  · pointwise [sgVec, dgate, Cert.Gate.one_bits]
    rfl
  · funext y
    idx_vars y
    pointwise [res4]

theorem res5_eq (c : Dev nD) : res_main_v71 m c = res5 m c := by
  unfold res_main_v71
  rw [sg_eq, h_eq, ms_eq, xh_eq, er_eq, dy_eq, dh_eq]
  funext y
  idx_vars y
  pointwise [res5, sgVec]
  rfl

theorem run_res (ρ : Dev nD → PrngReg) :
    θ_run defs (onTc (τ := τ) (main (F := Ideal))) ⟨m, fun _ => 0, ρ⟩ fun r => ∀ c : Dev nD,
      r.2.mem ((c.tc : Thread nD τ).loc main_v65) = res0 m c
      ∧ r.2.mem ((c.tc : Thread nD τ).loc main_v66) = res1 m c
      ∧ r.2.mem ((c.tc : Thread nD τ).loc main_v67) = res2 m c
      ∧ r.2.mem ((c.tc : Thread nD τ).loc main_v68) = res3 m c
      ∧ r.2.mem ((c.tc : Thread nD τ).loc main_v70) = res4 m c
      ∧ r.2.mem ((c.tc : Thread nD τ).loc main_v71) = res5 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (res0_eq m c), (h c).2.1.trans (res1_eq m c), (h c).2.2.1.trans (res2_eq m c),
    (h c).2.2.2.1.trans (res3_eq m c), (h c).2.2.2.2.1.trans (res4_eq m c), (h c).2.2.2.2.2.1.trans (res5_eq m c), (h c).2.2.2.2.2.2⟩) (run m ρ)

end Cert.OutLossRefIdeal.Value

end
-- ==== Proof.OutLossEq.lean ====
/- The backward call of the output projection with the loss: the kernel's six results are the reference's, where the arguments are finite. -/
module

public import proofs.«01_k».proof.Proof.OutLossKernel
public import proofs.«01_k».proof.Proof.OutLossRef
public import proofs.«01_k».proof.Proof.NormRows
public import proofs.«01_k».proof.Proof.Gate
public import proofs.«01_k».proof.Proof.Finite
public import proofs.«01_k».proof.Defs

@[expose] public section

set_option maxRecDepth 16384
set_option maxHeartbeats 1000000

noncomputable section

open Idealize.ShloMosaic Idealize.ShloMosaic.TcCoe Idealize.SL.Sem
open scoped BigOperators

namespace Cert.OutLossEq

/-- The precondition's shape relations. -/
theorem pre_facts : Cert.Pre_finite_out_loss.Facts where
  bcast_S_S4112x1024 := by decide
  reducesTo_S4112x1024_S_d0_1 := by decide
  h_S_ := by decide
  bcast_S_S1x1024x1024 := by decide
  reducesTo_S1x1024x1024_S_d0_1_2 := by decide
  bcast_S_S1024 := by decide
  reducesTo_S1024_S_d0 := by decide
  bcast_S_S4096x1024 := by decide
  reducesTo_S4096x1024_S_d0_1 := by decide

open Cert.Pre_finite_out_loss in
/-- What the precondition says. -/
theorem finite [Facts] (a0 a1 : FVec Ideal S4112x1024 .f32) (a2 : FVec Ideal S1x1024x1024 .f32)
    (a3 : FVec Ideal S4112x1024 .f32) (a4 : FVec Ideal S1024 .f32) (a5 : FVec Ideal S4096x1024 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ ∀ i, ∃ r : ℝ, a5 i = (r : EReal) := by
  have e := congrFun h ValueIdx.ix0
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Cert.Finite.of_all _ _ _ _ _ e0, Cert.Finite.of_all _ _ _ _ _ e1, Cert.Finite.of_all _ _ _ _ _ e2,
    Cert.Finite.of_all _ _ _ _ _ e3, Cert.Finite.of_all _ _ _ _ _ e4, Cert.Finite.of_all _ _ _ _ _ e5⟩

/-! ## Real numbers -/

theorem half_real : Ideal.ofBits .f32 0x3F000000#32 = ((1 / 2 : ℝ) : EReal) := by
  simp [Ideal.ofBits, Ideal.ieee, -EReal.coe_mul]; norm_num

theorem real_add {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨_, (EReal.coe_add a b).symm⟩

theorem real_sub {a b : EReal} (ha : ∃ r : ℝ, a = (r : EReal)) (hb : ∃ r : ℝ, b = (r : EReal)) : ∃ r : ℝ, a - b = (r : EReal) := by
  obtain ⟨a, rfl⟩ := ha
  obtain ⟨b, rfl⟩ := hb
  exact ⟨_, (EReal.coe_sub a b).symm⟩

theorem real_mul {a b : EReal} (ha : ∃ r : ℝ, a = (r : EReal)) (hb : ∃ r : ℝ, b = (r : EReal)) : ∃ r : ℝ, a * b = (r : EReal) := by
  obtain ⟨a, rfl⟩ := ha
  obtain ⟨b, rfl⟩ := hb
  exact ⟨_, (EReal.coe_mul a b).symm⟩

theorem real_logistic {a : EReal} (ha : ∃ r : ℝ, a = (r : EReal)) : ∃ r : ℝ, Ideal.logistic a = (r : EReal) := by
  obtain ⟨a, rfl⟩ := ha
  exact ⟨_, Ideal.logistic_coe a⟩

theorem real_div {n : ℝ} (hn : n ≠ 0) {a : EReal} (ha : ∃ r : ℝ, a = (r : EReal)) : ∃ r : ℝ, Ideal.div a (n : EReal) = (r : EReal) := by
  rw [Ideal.div_coe hn]
  exact real_mul ha ⟨_, rfl⟩

theorem real_rinv {K : ℕ} {n e : ℝ} (hn : 0 < n) (he : 0 < e) {x : Fin K → EReal} (hx : ∀ k, ∃ r : ℝ, x k = (r : EReal)) :
    ∃ r : ℝ, Cert.Rows.rinv (n : EReal) (e : EReal) x = (r : EReal) := by
  obtain ⟨x, rfl⟩ := Cert.Rows.exists_real_fun hx
  exact ⟨_, Cert.Rows.rinv_coe hn he x⟩

/-- A real factor goes through a sum of real numbers. -/
theorem mul_sum_real {ι : Type*} [Fintype ι] (h : ℝ) {f : ι → EReal} (hf : ∀ i, ∃ r : ℝ, f i = (r : EReal)) :
    ∑ i, (h : EReal) * f i = (h : EReal) * ∑ i, f i := by
  obtain ⟨f, rfl⟩ := Cert.Rows.exists_real_fun hf
  simp only [← EReal.coe_mul, Cert.Rows.coe_sum, Finset.mul_sum]

theorem mul_add3_real (h : ℝ) {a b c : EReal} (ha : ∃ r : ℝ, a = (r : EReal)) (hb : ∃ r : ℝ, b = (r : EReal)) (hc : ∃ r : ℝ, c = (r : EReal)) :
    (h : EReal) * a + (h : EReal) * b + (h : EReal) * c = (h : EReal) * (a + b + c) := by
  obtain ⟨a, rfl⟩ := ha
  obtain ⟨b, rfl⟩ := hb
  obtain ⟨c, rfl⟩ := hc
  simp only [← EReal.coe_mul, ← EReal.coe_add]
  congr 1; ring

theorem real_sum {ι : Type*} [Fintype ι] {f : ι → EReal} (hf : ∀ i, ∃ r : ℝ, f i = (r : EReal)) : ∃ r : ℝ, ∑ i, f i = (r : EReal) := by
  obtain ⟨f, rfl⟩ := Cert.Rows.exists_real_fun hf
  exact ⟨_, Cert.Rows.coe_sum _ f⟩

variable (m : (ℓ : Loc Cert.OutLossIdeal.nD Cert.OutLossIdeal.τ Cert.OutLossIdeal.sig) → Buf (Elt Ideal) ℓ)
  (m' : (ℓ : Loc Cert.OutLossRefIdeal.nD Cert.OutLossRefIdeal.τ Cert.OutLossRefIdeal.sig) → Buf (Elt Ideal) ℓ)
  (c : Dev Cert.OutLossIdeal.nD)

/-- The two memories hold the same arguments. -/
def Same : Prop :=
  m' (c.tc.loc Cert.OutLossRefIdeal.main_arg0) = m (c.tc.loc Cert.OutLossIdeal.main_arg0)
  ∧ m' (c.tc.loc Cert.OutLossRefIdeal.main_arg1) = m (c.tc.loc Cert.OutLossIdeal.main_arg1)
  ∧ m' (c.tc.loc Cert.OutLossRefIdeal.main_arg2) = m (c.tc.loc Cert.OutLossIdeal.main_arg2)
  ∧ m' (c.tc.loc Cert.OutLossRefIdeal.main_arg3) = m (c.tc.loc Cert.OutLossIdeal.main_arg3)
  ∧ m' (c.tc.loc Cert.OutLossRefIdeal.main_arg4) = m (c.tc.loc Cert.OutLossIdeal.main_arg4)
  ∧ m' (c.tc.loc Cert.OutLossRefIdeal.main_arg5) = m (c.tc.loc Cert.OutLossIdeal.main_arg5)

/-- The padded rows of an array of the reference. -/
abbrev under (a : Fin 4112 → Fin 1024 → EReal) : Fin 4224 → Fin 1024 → EReal := Cert.Rows.pad 112 (by rfl : 112 + 4112 = 4224) a

variable (hs : Same m m' c)
include hs

theorem A_eq : OutLossIdeal.Value.A m c = under (OutLossRefIdeal.Value.A m' c) := by
  unfold OutLossRefIdeal.Value.A; rw [hs.1]; rfl

theorem B_eq : OutLossIdeal.Value.B m c = under (OutLossRefIdeal.Value.B m' c) := by
  unfold OutLossRefIdeal.Value.B; rw [hs.2.1]; rfl

theorem W_eq : OutLossIdeal.Value.W m c = OutLossRefIdeal.Value.W m' c := by
  unfold OutLossRefIdeal.Value.W; rw [hs.2.2.1]; rfl

theorem D_eq : OutLossIdeal.Value.D m c = under (OutLossRefIdeal.Value.D m' c) := by
  unfold OutLossRefIdeal.Value.D; rw [hs.2.2.2.1]; rfl

theorem G_eq : OutLossIdeal.Value.G m c = OutLossRefIdeal.Value.G m' c := by
  unfold OutLossRefIdeal.Value.G; rw [hs.2.2.2.2.1]; rfl

theorem T_eq : OutLossIdeal.Value.T m c = OutLossRefIdeal.Value.T m' c := by
  unfold OutLossRefIdeal.Value.T; rw [hs.2.2.2.2.2]; rfl

theorem H_eq (i : Fin 4224) : OutLossIdeal.Value.H m c i = under (OutLossRefIdeal.Value.H m' c) i := by
  funext k
  unfold OutLossIdeal.Value.H
  rw [A_eq m m' c hs, B_eq m m' c hs, W_eq m m' c hs, D_eq m m' c hs]
  rcases Cert.Rows.row_cases (by rfl : 112 + 4112 = 4224) i with h | ⟨t, h, rfl⟩
  · simp only [under, OutLossIdeal.Value.kga, Cert.Rows.pad_lo (by rfl : 112 + 4112 = 4224) h, zero_mul, Finset.sum_const_zero, add_zero]
  · simp only [under, Cert.Rows.pad_hi]
    rfl

/-- Row `128 + t` of the padded rows is row `16 + t` of the rows. -/
theorem H_at (t : Fin 4096) : OutLossIdeal.Value.H m c ⟨128 + t.val, by omega⟩ = OutLossRefIdeal.Value.H m' c ⟨16 + t.val, by omega⟩ := by
  rw [H_eq m m' c hs]
  funext k
  refine Eq.trans ?_ (Cert.Rows.pad_hi (by rfl : 112 + 4112 = 4224) (OutLossRefIdeal.Value.H m' c) ⟨16 + t.val, by omega⟩ (by show 112 + (16 + t.val) < 4224; omega) k)
  exact congrArg (under (OutLossRefIdeal.Value.H m' c) · k) (Fin.ext (by show 128 + t.val = 112 + (16 + t.val); omega))

theorem ER_eq : OutLossIdeal.Value.ER m c = Cert.Rows.pad 128 (by rfl : 128 + 4096 = 4224) (OutLossRefIdeal.Value.ER m' c) := by
  funext i k
  unfold OutLossIdeal.Value.ER
  congr 1
  funext t k
  rw [H_at m m' c hs, G_eq m m' c hs, T_eq m m' c hs]
  rfl

omit hs in
/-- A number over the row's length, as the derivative has it. -/
theorem over_eq {q : EReal} (hq : ∃ r : ℝ, q = (r : EReal)) : Ideal.div q OutLossIdeal.Value.nn = q * OutLossRefIdeal.Value.cc + OutLossRefIdeal.Value.cc * q := by
  obtain ⟨r, rfl⟩ := hq
  unfold OutLossRefIdeal.Value.cc OutLossRefIdeal.Value.half OutLossRefIdeal.Value.nn OutLossIdeal.Value.nn
  rw [Cert.Finite.n1024, half_real, Ideal.div_coe (by norm_num), Ideal.div_coe (by norm_num)]
  simp only [← EReal.coe_mul, ← EReal.coe_add]
  congr 1; ring

omit hs in
theorem over_zero : Ideal.div 0 OutLossIdeal.Value.nn = 0 := by
  unfold OutLossIdeal.Value.nn
  rw [Cert.Finite.n1024, Ideal.div_coe (by norm_num), zero_mul]

variable [Cert.Pre_finite_out_loss.Facts] (hp : Cert.Pre_OutLossIdeal_finite_out_loss m)
include hp

theorem A_real (i : Fin 4112) (k : Fin 1024) : ∃ r : ℝ, OutLossRefIdeal.Value.A m' c i k = (r : EReal) := by
  unfold OutLossRefIdeal.Value.A; rw [hs.1]; exact (finite _ _ _ _ _ _ (hp c)).1 _

theorem B_real (i : Fin 4112) (k : Fin 1024) : ∃ r : ℝ, OutLossRefIdeal.Value.B m' c i k = (r : EReal) := by
  unfold OutLossRefIdeal.Value.B; rw [hs.2.1]; exact (finite _ _ _ _ _ _ (hp c)).2.1 _

theorem W_real (i k : Fin 1024) : ∃ r : ℝ, OutLossRefIdeal.Value.W m' c i k = (r : EReal) := by
  unfold OutLossRefIdeal.Value.W; rw [hs.2.2.1]; exact (finite _ _ _ _ _ _ (hp c)).2.2.1 _

theorem G_real (k : Fin 1024) : ∃ r : ℝ, OutLossRefIdeal.Value.G m' c k = (r : EReal) := by
  unfold OutLossRefIdeal.Value.G; rw [hs.2.2.2.2.1]; exact (finite _ _ _ _ _ _ (hp c)).2.2.2.2.1 _

theorem H_real (i : Fin 4112) (k : Fin 1024) : ∃ r : ℝ, OutLossRefIdeal.Value.H m' c i k = (r : EReal) := by
  unfold OutLossRefIdeal.Value.H
  refine real_add ?_ (Cert.Rows.real_sum_mul (fun n => ?_) fun n => W_real m m' c hs hp n k)
  · unfold OutLossRefIdeal.Value.D; rw [hs.2.2.2.1]; exact (finite _ _ _ _ _ _ (hp c)).2.2.2.1 _
  · exact real_mul (A_real m m' c hs hp i n) (real_mul (B_real m m' c hs hp i n) (real_logistic (B_real m m' c hs hp i n)))

theorem ER_real (i : Fin 4096) (k : Fin 1024) : ∃ r : ℝ, OutLossRefIdeal.Value.ER m' c i k = (r : EReal) := by
  obtain ⟨e, he, hee⟩ := Cert.Finite.eps
  unfold OutLossRefIdeal.Value.ER OutLossRefIdeal.Value.nn OutLossRefIdeal.Value.ee
  rw [Cert.Finite.n1024, hee]
  refine real_sub (real_mul (real_mul (H_real m m' c hs hp _ k) (real_rinv (by norm_num) he (H_real m m' c hs hp _))) (G_real m m' c hs hp k)) ?_
  unfold OutLossRefIdeal.Value.T; rw [hs.2.2.2.2.2]; exact (finite _ _ _ _ _ _ (hp c)).2.2.2.2.2 _

theorem DY_real (i : Fin 4112) (k : Fin 1024) : ∃ r : ℝ, OutLossRefIdeal.Value.DY m' c i k = (r : EReal) := by
  unfold OutLossRefIdeal.Value.DY
  rcases Cert.Rows.row_cases (by rfl : 16 + 4096 = 4112) i with h | ⟨t, h, rfl⟩
  · exact ⟨0, (Cert.Rows.pad_lo (by rfl : 16 + 4096 = 4112) h k).trans EReal.coe_zero.symm⟩
  · rw [Cert.Rows.pad_hi, ← over_eq (ER_real m m' c hs hp t k)]
    unfold OutLossIdeal.Value.nn
    rw [Cert.Finite.n1024]
    exact real_div (by norm_num) (ER_real m m' c hs hp t k)

theorem DY_eq (i : Fin 4224) : OutLossIdeal.Value.DY m c i = under (OutLossRefIdeal.Value.DY m' c) i := by
  funext k
  unfold OutLossIdeal.Value.DY
  rw [ER_eq m m' c hs]
  rcases Cert.Rows.row_cases (by rfl : 128 + 4096 = 4224) i with h | ⟨t, h, rfl⟩
  · rw [Cert.Rows.pad_lo (by rfl : 128 + 4096 = 4224) h, over_zero]
    rcases Cert.Rows.row_cases (by rfl : 112 + 4112 = 4224) i with h2 | ⟨t, h2, rfl⟩
    · exact (Cert.Rows.pad_lo (by rfl : 112 + 4112 = 4224) h2 k).symm
    · rw [under, Cert.Rows.pad_hi]
      have h3 : t.val < 16 := by have : 112 + t.val < 128 := h; omega
      exact (Cert.Rows.pad_lo (by rfl : 16 + 4096 = 4112) h3 k).symm
  · rw [Cert.Rows.pad_hi, over_eq (ER_real m m' c hs hp t k)]
    have e : (⟨128 + t.val, h⟩ : Fin 4224) = ⟨112 + (⟨16 + t.val, by omega⟩ : Fin 4112).val, by show 112 + (16 + t.val) < 4224; omega⟩ :=
      Fin.ext (by show 128 + t.val = 112 + (16 + t.val); omega)
    rw [e, under, Cert.Rows.pad_hi]
    exact (Cert.Rows.pad_hi (by rfl : 16 + 4096 = 4112) (fun t k => OutLossRefIdeal.Value.ER m' c t k * OutLossRefIdeal.Value.cc
      + OutLossRefIdeal.Value.cc * OutLossRefIdeal.Value.ER m' c t k) t (by omega) k).symm

theorem DH_eq : OutLossIdeal.Value.DH m c = under (OutLossRefIdeal.Value.DH m' c) := by
  funext i j
  unfold OutLossIdeal.Value.DH
  rw [DY_eq m m' c hs hp, H_eq m m' c hs, G_eq m m' c hs]
  obtain ⟨e, he, hee⟩ := Cert.Finite.eps
  unfold OutLossRefIdeal.Value.DH OutLossRefIdeal.Value.nn OutLossRefIdeal.Value.ee OutLossRefIdeal.Value.hh OutLossIdeal.Value.nn OutLossIdeal.Value.ee
  rw [Cert.Finite.n1024, Cert.Finite.half, hee]
  exact Cert.NormRows.dx_eq _ (by norm_num) he _ _ _ (H_real m m' c hs hp) (DY_real m m' c hs hp) (G_real m m' c hs hp) _ _

theorem DH_real (i : Fin 4112) (j : Fin 1024) : ∃ r : ℝ, OutLossRefIdeal.Value.DH m' c i j = (r : EReal) := by
  obtain ⟨e, he, hee⟩ := Cert.Finite.eps
  obtain ⟨x, hx⟩ := Cert.Rows.exists_real_fun (H_real m m' c hs hp i)
  obtain ⟨d, hd⟩ := Cert.Rows.exists_real_fun (DY_real m m' c hs hp i)
  obtain ⟨g, hg⟩ := Cert.Rows.exists_real_fun (G_real m m' c hs hp)
  unfold OutLossRefIdeal.Value.DH OutLossRefIdeal.Value.nn OutLossRefIdeal.Value.ee OutLossRefIdeal.Value.hh
  rw [Cert.Finite.n1024, Cert.Finite.half, hee, hx, hd, hg, ← Cert.Rows.kdx_eq (by norm_num) he, Cert.Rows.kdx_coe (by norm_num) he]
  exact ⟨_, rfl⟩

theorem DV_eq : OutLossIdeal.Value.DV m c = under (OutLossRefIdeal.Value.DV m' c) := by
  funext i k
  unfold OutLossIdeal.Value.DV
  rw [DH_eq m m' c hs hp, W_eq m m' c hs]
  exact Cert.Rows.sum_mul_pad _ _ _ _ _

theorem DV_real (i : Fin 4112) (k : Fin 1024) : ∃ r : ℝ, OutLossRefIdeal.Value.DV m' c i k = (r : EReal) :=
  Cert.Rows.real_sum_mul (DH_real m m' c hs hp i) (W_real m m' c hs hp k)

theorem res0_eq : OutLossIdeal.Value.res8 m c = OutLossRefIdeal.Value.res0 m' c := by
  unfold OutLossIdeal.Value.res8
  rw [DH_eq m m' c hs hp]
  rfl

/-- A row's part of the loss is a real number. -/
theorem LS_real (i : Fin 4224) : ∃ r : ℝ, OutLossIdeal.Value.LS m c i = (r : EReal) := by
  unfold OutLossIdeal.Value.LS OutLossIdeal.Value.nn
  rw [Cert.Finite.n1024, ER_eq m m' c hs]
  have h : ∀ k, ∃ r : ℝ, Cert.Rows.pad 128 (by rfl : 128 + 4096 = 4224) (OutLossRefIdeal.Value.ER m' c) i k = (r : EReal) := fun k => by
    rcases Cert.Rows.row_cases (by rfl : 128 + 4096 = 4224) i with h | ⟨t, h, rfl⟩
    · exact ⟨0, (Cert.Rows.pad_lo (by rfl : 128 + 4096 = 4224) h k).trans EReal.coe_zero.symm⟩
    · rw [Cert.Rows.pad_hi]; exact ER_real m m' c hs hp t k
  exact real_div (by norm_num) (Cert.Rows.real_sum_mul h h)

theorem lossPart_eq (t : Fin Cert.OutLossIdeal.cfg0.N) : OutLossIdeal.Value.lossPart m c t
    = ((1 / 2 : ℝ) : EReal) * ∑ i, OutLossIdeal.Value.LS m c (OutLossIdeal.Value.rowAt t i) := by
  unfold OutLossIdeal.Value.lossPart OutLossIdeal.Value.half
  rw [half_real, mul_add3_real _ (real_sum fun i => LS_real m m' c hs hp _) (real_sum fun i => LS_real m m' c hs hp _) (real_sum fun i => LS_real m m' c hs hp _)]
  exact congrArg _ (OutLossIdeal.Value.sum3 fun i => OutLossIdeal.Value.LS m c (OutLossIdeal.Value.rowAt t i))

theorem loss_rows : ∑ i, OutLossIdeal.Value.LS m c i = ∑ t, Ideal.div (∑ k, OutLossRefIdeal.Value.ER m' c t k * OutLossRefIdeal.Value.ER m' c t k) OutLossRefIdeal.Value.nn := by
  unfold OutLossIdeal.Value.LS
  rw [ER_eq m m' c hs]
  refine Cert.Rows.sum_pad (by rfl : 128 + 4096 = 4224) _ _ (fun i h => ?_) fun t h => ?_
  · simp only [Cert.Rows.pad_lo (by rfl : 128 + 4096 = 4224) h, zero_mul, Finset.sum_const_zero, over_zero]
  · simp only [Cert.Rows.pad_hi]

theorem res1_eq : OutLossIdeal.Value.res9 m c = OutLossRefIdeal.Value.res1 m' c := by
  funext y
  show ∑ t : Fin 11, OutLossIdeal.Value.lossPart m c t = OutLossRefIdeal.Value.half * _
  unfold OutLossRefIdeal.Value.half
  rw [half_real, ← loss_rows m m' c hs hp]
  refine (Finset.sum_congr rfl fun t _ => lossPart_eq m m' c hs hp t).trans ?_
  refine (mul_sum_real _ fun t => real_sum fun i => LS_real m m' c hs hp _).trans (congrArg _ ?_)
  exact Fin.sum_mul_add_congr (fun s k hl => rfl)

theorem res2_eq : OutLossIdeal.Value.res10 m c = OutLossRefIdeal.Value.res2 m' c := by
  funext y
  show (∑ i, OutLossIdeal.Value.DY m c i (y 1) * (OutLossIdeal.Value.H m c i (y 1)
    * Cert.Rows.rinv OutLossIdeal.Value.nn OutLossIdeal.Value.ee (OutLossIdeal.Value.H m c i))) = _
  simp only [H_eq m m' c hs, DY_eq m m' c hs hp]
  exact Cert.Rows.dg_eq _ _ _ _ _ _

theorem da_eq (i : Fin 4224) (k : Fin 1024) : OutLossIdeal.Value.kda (OutLossIdeal.Value.DV m c i k) (OutLossIdeal.Value.B m c i k) = under (OutLossRefIdeal.Value.da m' c) i k := by
  rw [DV_eq m m' c hs hp, B_eq m m' c hs]
  rcases Cert.Rows.row_cases (by rfl : 112 + 4112 = 4224) i with h | ⟨t, h, rfl⟩
  · simp only [under, OutLossIdeal.Value.kda, Cert.Rows.pad_lo (by rfl : 112 + 4112 = 4224) h, zero_mul]
  · simp only [under, Cert.Rows.pad_hi]
    rfl

theorem res3_eq : OutLossIdeal.Value.res11 m c = OutLossRefIdeal.Value.res3 m' c :=
  funext fun y => da_eq m m' c hs hp (y 0) (y 1)

theorem dgate_at (t : Fin 4112) (k : Fin 1024) : OutLossIdeal.Value.kdg (OutLossRefIdeal.Value.DV m' c t k) (OutLossRefIdeal.Value.B m' c t k) (OutLossRefIdeal.Value.A m' c t k)
    = OutLossRefIdeal.Value.dgate m' c t k := by
  unfold OutLossRefIdeal.Value.dgate OutLossIdeal.Value.kdg
  rw [mul_comm (OutLossRefIdeal.Value.A m' c t k)]
  obtain ⟨r, hr⟩ := real_mul (DV_real m m' c hs hp t k) (A_real m m' c hs hp t k)
  rw [hr, Cert.Gate.dgate_eq, mul_comm (r : EReal) (OutLossRefIdeal.Value.B m' c t k)]

theorem dgate_eq (i : Fin 4224) (k : Fin 1024) : OutLossIdeal.Value.kdg (OutLossIdeal.Value.DV m c i k) (OutLossIdeal.Value.B m c i k) (OutLossIdeal.Value.A m c i k)
    = under (OutLossRefIdeal.Value.dgate m' c) i k := by
  rw [DV_eq m m' c hs hp, B_eq m m' c hs, A_eq m m' c hs]
  rcases Cert.Rows.row_cases (by rfl : 112 + 4112 = 4224) i with h | ⟨t, h, rfl⟩
  · simp only [under, OutLossIdeal.Value.kdg, Cert.Rows.pad_lo (by rfl : 112 + 4112 = 4224) h, zero_mul]
  · simp only [under, Cert.Rows.pad_hi]
    exact dgate_at m m' c hs hp t k

theorem res4_eq : OutLossIdeal.Value.res12 m c = OutLossRefIdeal.Value.res4 m' c :=
  funext fun y => dgate_eq m m' c hs hp (y 0) (y 1)

theorem dw_eq (a b : Fin 1024) : (∑ i, OutLossIdeal.Value.kga (OutLossIdeal.Value.B m c i a) (OutLossIdeal.Value.A m c i a) * OutLossIdeal.Value.DH m c i b)
    = ∑ i, OutLossRefIdeal.Value.DH m' c i b * (OutLossRefIdeal.Value.A m' c i a * (OutLossRefIdeal.Value.B m' c i a * Ideal.logistic (OutLossRefIdeal.Value.B m' c i a))) := by
  rw [DH_eq m m' c hs hp, B_eq m m' c hs, A_eq m m' c hs]
  refine Cert.Rows.sum_pad (by rfl : 112 + 4112 = 4224) _ _ (fun i h => ?_) fun t h => ?_
  · simp only [under, OutLossIdeal.Value.kga, Cert.Rows.pad_lo (by rfl : 112 + 4112 = 4224) h, zero_mul]
  · simp only [under, Cert.Rows.pad_hi]
    exact mul_comm _ _

theorem res5_eq : OutLossIdeal.Value.res13 m c = OutLossRefIdeal.Value.res5 m' c :=
  funext fun y => dw_eq m m' c hs hp (y 0) (y 1)

end Cert.OutLossEq

end
-- ==== Proof.OutInKernel.lean ====
/- What the three arrays of the `a_out_b_in_proj` call end holding, index by index, as functions of the arguments. -/
module

public import proofs.«01_k».proof.Proof.Rows
public import proofs.«01_k».proof.Proof.Cols
public import proofs.«01_k».proof.Proof.Gen.OutInIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.OutInIdeal.Value

open Cert.OutInIdeal Cert.OutInIdeal.Gen

variable (m : (ℓ : Loc nD τ sig) → Buf (Elt Ideal) ℓ)

/-- The blocks a point sees: its 384 rows, and the weights and the gain whole. -/
theorem idx_val : ∀ t : Fin cfg0.N, win0_0.index t = ![t.val, 0]
    ∧ win0_1.index t = ![t.val, 0]
    ∧ win0_2.index t = ![0, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0] :=
  (by decide +kernel : ∀ t : Fin grid0.N, _)

/-! ## What the body computes of a block -/

/-- The entries of the norm's mean, and the number added to the mean square. -/
abbrev nn : EReal := Ideal.ofBits .f32 0x44800000#32
abbrev ee : EReal := Ideal.ofBits .f32 0x358637BD#32

/-- The gated rows through the projection, added to the residual. -/
theorem h_blk (g a r : Vec Ideal S384x1024 .f32) (w : Vec Ideal S1024x1024 .bf16) (i : Fin 384) (k : Fin 1024) :
    k0_pay4 g a r w (ix2 i k) = r (ix2 i k) + ∑ n, (a (ix2 i n) * (g (ix2 i n) * Ideal.logistic (g (ix2 i n)))) * w (ix2 n k) := by
  pointwise [k0_pay4]
  simp only [zero_sub]
  rfl

/-- One entry of the normed row `x` through column `w`. -/
abbrev proj (x g w : Fin 1024 → EReal) : EReal := ∑ k, (x k * Cert.Rows.rinv nn ee x * g k) * w k

/-- The left half of the normed rows' projection, and the right half. -/
theorem u_blk (g a r : Vec Ideal S384x1024 .f32) (w : Vec Ideal S1024x1024 .bf16) (e : Vec Ideal S1x1024 .f32) (v : Vec Ideal S1024x2048 .bf16)
    (i : Fin 384) (k : Fin 1024) : k0_pay2 (k0_pay5 g a r w e) (k0_pay6 v) (ix2 i k)
      = proj (fun n => k0_pay4 g a r w (ix2 i n)) (fun n => e (ix2 0 n)) fun n => v (ix2 n ⟨0 + k.val, by omega⟩) := by
  pointwise [k0_pay2, k0_pay1, k0_pay5, k0_pay6, proj, Cert.Rows.rinv]

theorem gate_blk (g a r : Vec Ideal S384x1024 .f32) (w : Vec Ideal S1024x1024 .bf16) (e : Vec Ideal S1x1024 .f32) (v : Vec Ideal S1024x2048 .bf16)
    (i : Fin 384) (k : Fin 1024) : k0_pay3 (k0_pay5 g a r w e) (k0_pay6 v) (ix2 i k)
      = proj (fun n => k0_pay4 g a r w (ix2 i n)) (fun n => e (ix2 0 n)) fun n => v (ix2 n ⟨1024 + k.val, by omega⟩) := by
  pointwise [k0_pay3, k0_pay1, k0_pay5, k0_pay6, proj, Cert.Rows.rinv]

/-! ## The operands the host lines prepare -/

/-- The arguments as the body reads them: rows under the 112 rows of padding, the weights and the gain. -/
def A (c : Dev nD) (i : Fin 4224) (k : Fin 1024) : EReal :=
  Cert.Rows.pad 112 (by rfl : 112 + 4112 = 4224) (fun a b => m (c.tc.loc main_arg0) (ix2 a b)) i k
def B (c : Dev nD) (i : Fin 4224) (k : Fin 1024) : EReal :=
  Cert.Rows.pad 112 (by rfl : 112 + 4112 = 4224) (fun a b => m (c.tc.loc main_arg1) (ix2 a b)) i k
def D (c : Dev nD) (i : Fin 4224) (k : Fin 1024) : EReal :=
  Cert.Rows.pad 112 (by rfl : 112 + 4112 = 4224) (fun a b => m (c.tc.loc main_arg3) (ix2 a b)) i k
def W (c : Dev nD) (k n : Fin 1024) : EReal := m (c.tc.loc main_arg2) (ix3 0 k n)
def G (c : Dev nD) (k : Fin 1024) : EReal := m (c.tc.loc main_arg4) (ix2 0 k)
def Z (c : Dev nD) (k : Fin 1024) (n : Fin 2048) : EReal := m (c.tc.loc main_arg5) (ix3 0 k n)

/-- The rows the norm reads. -/
def H (c : Dev nD) (i : Fin 4224) (k : Fin 1024) : EReal :=
  D m c i k + ∑ n, (A m c i n * (B m c i n * Ideal.logistic (B m c i n))) * W m c n k

theorem V_v0 (c : Dev nD) (i : Fin 4224) (k : Fin 1024) : V m c main_v0 (ix2 i k) = A m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg0) (ix2 a b)) i k

theorem V_v1 (c : Dev nD) (i : Fin 4224) (k : Fin 1024) : V m c main_v1 (ix2 i k) = B m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg1) (ix2 a b)) i k

theorem V_v4 (c : Dev nD) (i : Fin 4224) (k : Fin 1024) : V m c main_v4 (ix2 i k) = D m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 _ (fun a b => m (c.tc.loc main_arg3) (ix2 a b)) i k

theorem V_v3 (c : Dev nD) (i k : Fin 1024) : V m c main_v3 (ix2 i k) = W m c i k := by
  simp only [V, List.flatten_cons, List.flatten_nil, List.cons_append, List.nil_append, List.append_nil]
  entry_read
  pointwise
  rfl

theorem V_v6 (c : Dev nD) (i : Fin 1024) (k : Fin 2048) : V m c main_v6 (ix2 i k) = Z m c i k := by
  simp only [V, List.flatten_cons, List.flatten_nil, List.cons_append, List.nil_append, List.append_nil]
  entry_read
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 1024) : iblk m c 0 t (ix2 i k) = A m c (rowAt t i) k := by
  rw [← V_v0]
  blk_simp [iblk, idx_val t]
  blk_ext [idx_val t]

theorem in1 (c : Dev nD) (t : Fin cfg0.N) (i : Fin 384) (k : Fin 1024) : iblk m c 1 t (ix2 i k) = B m c (rowAt t i) k := by
  rw [← V_v1]
  blk_simp [iblk, idx_val t]
  blk_ext [idx_val t]

theorem in2 (c : Dev nD) (t : Fin cfg0.N) (i k : Fin 1024) : iblk m c 2 t (ix2 i k) = W m c i k := by
  rw [← V_v3]
  blk_simp [iblk, idx_val t]
  blk_ext [idx_val t]

theorem in3 (c : Dev nD) (t : Fin cfg0.N) (i : Fin 384) (k : Fin 1024) : iblk m c 3 t (ix2 i k) = D m c (rowAt t i) k := by
  rw [← V_v4]
  blk_simp [iblk, idx_val t]
  blk_ext [idx_val t]

theorem in5 (c : Dev nD) (t : Fin cfg0.N) (i : Fin 1024) (k : Fin 2048) : iblk m c 5 t (ix2 i k) = Z m c i k := by
  rw [← V_v6]
  blk_simp [iblk, idx_val t]
  blk_ext [idx_val t]

theorem in4 (c : Dev nD) (t : Fin cfg0.N) (k : Fin 1024) : iblk m c 4 t (ix2 0 k) = G m c k := by
  unfold G
  rw [← V_main_arg4 m c]
  blk_simp [iblk, idx_val t]
  blk_ext [idx_val t]

/-- The norm's rows of a point, and the gain. -/
theorem h_row (c : Dev nD) (t : Fin cfg0.N) (i : Fin 384) :
    (fun k : Fin 1024 => k0_pay4 (iblk m c 1 t) (iblk m c 0 t) (iblk m c 3 t) (iblk m c 2 t) (ix2 i k)) = H m c (rowAt t i) := by
  funext k
  rw [h_blk]
  simp only [in0, in1, in2, in3]
  rfl

theorem g_row (c : Dev nD) (t : Fin cfg0.N) : (fun k : Fin 1024 => iblk m c 4 t (ix2 0 k)) = G m c := funext fun k => in4 m c t k

/-! ## What a point leaves -/

theorem left6 (c : Dev nD) (t : Fin cfg0.N) : out0_6 (iblk m c 0 t) (iblk m c 1 t) (iblk m c 2 t) (iblk m c 3 t) (iblk m c 4 t) (iblk m c 5 t)
    = k0_pay4 (iblk m c 1 t) (iblk m c 0 t) (iblk m c 3 t) (iblk m c 2 t) := by
  unfold_out out0_6
  frame_out

theorem left7 (c : Dev nD) (t : Fin cfg0.N) : out0_7 (iblk m c 0 t) (iblk m c 1 t) (iblk m c 2 t) (iblk m c 3 t) (iblk m c 4 t) (iblk m c 5 t)
    = k0_pay2 (k0_pay5 (iblk m c 1 t) (iblk m c 0 t) (iblk m c 3 t) (iblk m c 2 t) (iblk m c 4 t)) (k0_pay6 (iblk m c 5 t)) := by
  unfold_out out0_7
  frame_out

theorem left8 (c : Dev nD) (t : Fin cfg0.N) : out0_8 (iblk m c 0 t) (iblk m c 1 t) (iblk m c 2 t) (iblk m c 3 t) (iblk m c 4 t) (iblk m c 5 t)
    = k0_pay3 (k0_pay5 (iblk m c 1 t) (iblk m c 0 t) (iblk m c 3 t) (iblk m c 2 t) (iblk m c 4 t)) (k0_pay6 (iblk m c 5 t)) := by
  unfold_out out0_8
  frame_out

/-! ## The arrays -/

/-- The three arrays. -/
def res6 (c : Dev nD) : FVec Ideal S4224x1024 .f32 := fun y => H m c (y 0) (y 1)
def res7 (c : Dev nD) : FVec Ideal S4224x1024 .f32 := fun y => proj (H m c (y 0)) (G m c) fun k =>
  Z m c k ⟨0 + (y 1).val, by have : (y 1).val < 1024 := (y 1).isLt; omega⟩
def res8 (c : Dev nD) : FVec Ideal S4224x1024 .f32 := fun y => proj (H m c (y 0)) (G m c) fun k =>
  Z m c k ⟨1024 + (y 1).val, by have : (y 1).val < 1024 := (y 1).isLt; omega⟩

theorem final_6 (c : Dev nD) : (dats m 0 c).arrAt 6 (cfgs 0).N = res6 m c := by
  refine (dats m 0 c).arrAt_eq_of_covers 6 _ (by decide +kernel) fun t hf y => ?_
  blk_simp; rw [after0_6, left6]
  idx_vars y
  rw [h_blk]
  simp only [in0, in1, in2, in3]
  refine Eq.trans ?_ (congrArg (res6 m c) (?_ : ix2 (rowAt t y0) y1 = _))
  · rfl
  · blk_ext [idx_val t]

theorem final_7 (c : Dev nD) : (dats m 0 c).arrAt 7 (cfgs 0).N = res7 m c := by
  refine (dats m 0 c).arrAt_eq_of_covers 7 _ (by decide +kernel) fun t hf y => ?_
  blk_simp; rw [after0_7, left7]
  idx_vars y
  rw [u_blk]
  simp only [h_row, g_row, in5]
  refine Eq.trans ?_ (congrArg (res7 m c) (?_ : ix2 (rowAt t y0) y1 = _))
  · rfl
  · blk_ext [idx_val t]

theorem final_8 (c : Dev nD) : (dats m 0 c).arrAt 8 (cfgs 0).N = res8 m c := by
  refine (dats m 0 c).arrAt_eq_of_covers 8 _ (by decide +kernel) fun t hf y => ?_
  blk_simp; rw [after0_8, left8]
  idx_vars y
  rw [gate_blk]
  simp only [h_row, g_row, in5]
  refine Eq.trans ?_ (congrArg (res8 m c) (?_ : ix2 (rowAt t y0) y1 = _))
  · rfl
  · blk_ext [idx_val t]

end Cert.OutInIdeal.Value

end
-- ==== Proof.OutInRef.lean ====
/- What the three results of the reference of the attention's output projection with the next layer's norm and projection are,
   index by index, as functions of the arguments. -/
module

public import proofs.«01_k».proof.Proof.Rows
public import proofs.«01_k».proof.Proof.Gen.OutInRefIdeal.Run
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open scoped BigOperators

namespace Cert.OutInRefIdeal.Value

open Cert.OutInRefIdeal Cert.OutInRefIdeal.Gen

variable (m : (ℓ : Loc nD τ sig) → Buf (Elt Ideal) ℓ)

/-- The entries of the norm's mean, and the number added to the mean square. -/
abbrev nn : EReal := Ideal.ofBits .f32 0x44800000#32
abbrev ee : EReal := Ideal.ofBits .f32 0x358637BD#32

/-- The sigmoid of every entry. -/
def sgVec (g : FVec Ideal S4112x1024 .f32) : FVec Ideal S4112x1024 .f32 := fun y => Ideal.logistic (g y)

theorem sg_eq (g : FVec Ideal S4112x1024 .f32) : Host.divf (broadcastInDim S4112x1024 ![] bcast_S_S4112x1024 (constant (F := Ideal) S_ .f32 0x3F800000#32)) (addf (φ := .f32) (broadcastInDim S4112x1024 ![] bcast_S_S4112x1024 (constant (F := Ideal) S_ .f32 0x3F800000#32)) (Host.exp (Host.negf g))) = sgVec g := by
  funext y
  idx_vars y
  pointwise [sgVec]
  rfl

/-- The rows the norm reads: the gated rows through the projection, added to the residual. -/
def hVec (a g : FVec Ideal S4112x1024 .f32) (w : FVec Ideal S1x1024x1024 .f32) (r : FVec Ideal S4112x1024 .f32) : FVec Ideal S4112x1024 .f32 :=
  fun y => r y + ∑ n : Fin 1024, (a (ix2 (y 0) n) * (g (ix2 (y 0) n) * Ideal.logistic (g (ix2 (y 0) n)))) * w (ix3 0 n (y 1))

theorem h_eq (a g : FVec Ideal S4112x1024 .f32) (w : FVec Ideal S1x1024x1024 .f32) (r : FVec Ideal S4112x1024 .f32) : addf r (Host.dotGeneral (F := Ideal) (φ₁ := .f32) (φ₂ := .f32) dot_S4112x1024_S1024x1024_S4112x1024_1_0_0_1_n_n none (mulf a (mulf g (sgVec g))) (shapeCast _ w shapeCasts_S1x1024x1024_S1024x1024))
    = hVec a g w r := by
  funext y
  idx_vars y
  pointwise [hVec, sgVec]

/-- The mean square of a row and the small number added to it. -/
def msVec (x : FVec Ideal S4112x1024 .f32) : FVec Ideal S4112x1 .f32 :=
  fun y => Ideal.div (∑ k, x (ix2 (y 0) k) * x (ix2 (y 0) k)) nn + ee

theorem ms_eq (h : FVec Ideal S4112x1024 .f32) : addf (φ := .f32) (Host.divf (broadcastInDim S4112x1 ![0] bcast_S4112_S4112x1_0 (Host.reduceAdd (mulf h h) (constant (F := Ideal) S_ .f32 0x00000000#32) reducesTo_S4112x1024_S4112_d1 h_S_)) (broadcastInDim S4112x1 ![] bcast_S_S4112x1 (constant (F := Ideal) S_ .f32 0x44800000#32))) (broadcastInDim S4112x1 ![] bcast_S_S4112x1 (constant (F := Ideal) S_ .f32 0x358637BD#32))
    = msVec h := by
  funext y
  idx_vars y
  pointwise [msVec]

/-- The normed rows. -/
def xhVec (h : FVec Ideal S4112x1024 .f32) : FVec Ideal S4112x1024 .f32 :=
  fun y => h y * Cert.Rows.rinv nn ee (fun k => h (ix2 (y 0) k))

theorem xh_eq (h : FVec Ideal S4112x1024 .f32) : mulf h (broadcastInDim S4112x1024 ![0, 1] bcast_S4112x1_S4112x1024_0_1 (Host.rsqrt (msVec h))) = xhVec h := by
  funext y
  idx_vars y
  pointwise [xhVec, msVec, Cert.Rows.rinv]

/-- The normed rows, times the gain, through the projection. -/
def zVec (x : FVec Ideal S4112x1024 .f32) (e : FVec Ideal S1x1024 .f32) (v : FVec Ideal S1x1024x2048 .f32) : FVec Ideal S4112x2048 .f32 :=
  fun y => ∑ k : Fin 1024, (x (ix2 (y 0) k) * e (ix2 0 k)) * v (ix3 0 k (y 1))

theorem z_eq (x : FVec Ideal S4112x1024 .f32) (e : FVec Ideal S1x1024 .f32) (v : FVec Ideal S1x1024x2048 .f32) : Host.dotGeneral (F := Ideal) (φ₁ := .f32) (φ₂ := .f32) dot_S4112x1024_S1024x2048_S4112x2048_1_0_0_1_n_n none (mulf x (broadcastInDim S4112x1024 ![0, 1] bcast_S1x1024_S4112x1024_0_1 (broadcastInDim S1x1024 ![1] bcast_S1024_S1x1024_1 (shapeCast _ e shapeCasts_S1x1024_S1024)))) (shapeCast _ v shapeCasts_S1x1024x2048_S1024x2048)
    = zVec x e v := by
  funext y
  idx_vars y
  pointwise [zVec]

/-- The arguments' entries, the rows the norm reads, and their projection. -/
def A (c : Dev nD) (i : Fin 4112) (k : Fin 1024) : EReal := m (c.tc.loc main_arg0) (ix2 i k)
def B (c : Dev nD) (i : Fin 4112) (k : Fin 1024) : EReal := m (c.tc.loc main_arg1) (ix2 i k)
def W (c : Dev nD) (k n : Fin 1024) : EReal := m (c.tc.loc main_arg2) (ix3 0 k n)
def D (c : Dev nD) (i : Fin 4112) (k : Fin 1024) : EReal := m (c.tc.loc main_arg3) (ix2 i k)
def G (c : Dev nD) (k : Fin 1024) : EReal := m (c.tc.loc main_arg4) (ix2 0 k)
def Z (c : Dev nD) (k : Fin 1024) (n : Fin 2048) : EReal := m (c.tc.loc main_arg5) (ix3 0 k n)
def H (c : Dev nD) (i : Fin 4112) (k : Fin 1024) : EReal :=
  D m c i k + ∑ n, (A m c i n * (B m c i n * Ideal.logistic (B m c i n))) * W m c n k
def ZV (c : Dev nD) (i : Fin 4112) (n : Fin 2048) : EReal := ∑ k, (H m c i k * Cert.Rows.rinv nn ee (H m c i) * G m c k) * Z m c k n

/-- The three results. -/
def res0 (c : Dev nD) : FVec Ideal S4224x1024 .f32 := fun y => Cert.Rows.pad 112 (by rfl : 112 + 4112 = 4224) (H m c) (y 0) (y 1)
def res1 (c : Dev nD) : FVec Ideal S4224x1024 .f32 :=
  fun y => Cert.Rows.pad 112 (by rfl : 112 + 4112 = 4224) (fun i (k : Fin 1024) => ZV m c i ⟨0 + k.val, by omega⟩) (y 0) (y 1)
def res2 (c : Dev nD) : FVec Ideal S4224x1024 .f32 :=
  fun y => Cert.Rows.pad 112 (by rfl : 112 + 4112 = 4224) (fun i (k : Fin 1024) => ZV m c i ⟨1024 + k.val, by omega⟩) (y 0) (y 1)

/-- The arrays between as the vectors above state them. -/
abbrev hV (c : Dev nD) : FVec Ideal S4112x1024 .f32 :=
  hVec (m (c.tc.loc main_arg0)) (m (c.tc.loc main_arg1)) (m (c.tc.loc main_arg2)) (m (c.tc.loc main_arg3))
abbrev zV (c : Dev nD) : FVec Ideal S4112x2048 .f32 := zVec (xhVec (hV m c)) (m (c.tc.loc main_arg4)) (m (c.tc.loc main_arg5))

theorem hV_apply (c : Dev nD) (i : Fin 4112) (k : Fin 1024) : hV m c (ix2 i k) = H m c i k := rfl
theorem zV_apply (c : Dev nD) (i : Fin 4112) (n : Fin 2048) : zV m c (ix2 i n) = ZV m c i n := rfl

theorem padded (v : FVec Ideal S4112x1024 .f32) (f : Fin 4112 → Fin 1024 → EReal) (h : ∀ i k, v (ix2 i k) = f i k) :
    (pad S4224x1024 ![112, 0] ![0, 0] ![0, 0] v (sitofp (F := Ideal) FTy.f32 (constantI S_ 32 0#32)) pads_S4112x1024_S4224x1024_11200_000 h_S_ : FVec Ideal S4224x1024 .f32)
      = fun y => Cert.Rows.pad 112 (by rfl : 112 + 4112 = 4224) f (y 0) (y 1) := by
  funext y
  idx_vars y
  refine Eq.trans ?_ (Cert.Rows.pad_eq 112 (by rfl : 112 + 4112 = 4224) f y0 y1)
  pointwise
  simp only [h]

theorem run_res (ρ : Dev nD → PrngReg) :
    θ_run defs (onTc (τ := τ) (main (F := Ideal))) ⟨m, fun _ => 0, ρ⟩ fun r => ∀ c : Dev nD,
      r.2.mem ((c.tc : Thread nD τ).loc main_v23) = res0 m c
      ∧ r.2.mem ((c.tc : Thread nD τ).loc main_v24) = res1 m c
      ∧ r.2.mem ((c.tc : Thread nD τ).loc main_v25) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, hr⟩ := h c
  rw [sg_eq, h_eq] at h0
  rw [sg_eq, h_eq, ms_eq, xh_eq, z_eq] at h1 h2
  refine ⟨h0.trans (padded _ _ (hV_apply m c)), h1.trans (padded _ _ fun i k => ?_), h2.trans (padded _ _ fun i k => ?_), hr⟩
  · refine Eq.trans ?_ (zV_apply m c i ⟨0 + k.val, by omega⟩)
    pointwise
  · refine Eq.trans ?_ (zV_apply m c i ⟨1024 + k.val, by omega⟩)
    pointwise

end Cert.OutInRefIdeal.Value

end
-- ==== Proof.OutInEq.lean ====
/- The attention's gated output projection with the next layer's norm and input projection: the kernel's three results are the
   reference's, whatever the arguments. -/
module

public import proofs.«01_k».proof.Proof.OutInKernel
public import proofs.«01_k».proof.Proof.OutInRef
public import proofs.«01_k».proof.Defs

@[expose] public section

set_option maxRecDepth 16384
set_option maxHeartbeats 1000000

noncomputable section

open Idealize.ShloMosaic Idealize.ShloMosaic.TcCoe Idealize.SL.Sem
open scoped BigOperators

namespace Cert.OutInEq

variable (m : (ℓ : Loc Cert.OutInIdeal.nD Cert.OutInIdeal.τ Cert.OutInIdeal.sig) → Buf (Elt Ideal) ℓ)
  (m' : (ℓ : Loc Cert.OutInRefIdeal.nD Cert.OutInRefIdeal.τ Cert.OutInRefIdeal.sig) → Buf (Elt Ideal) ℓ)
  (c : Dev Cert.OutInIdeal.nD)

/-- The two memories hold the same arguments. -/
def Same : Prop :=
  m' (c.tc.loc Cert.OutInRefIdeal.main_arg0) = m (c.tc.loc Cert.OutInIdeal.main_arg0)
  ∧ m' (c.tc.loc Cert.OutInRefIdeal.main_arg1) = m (c.tc.loc Cert.OutInIdeal.main_arg1)
  ∧ m' (c.tc.loc Cert.OutInRefIdeal.main_arg2) = m (c.tc.loc Cert.OutInIdeal.main_arg2)
  ∧ m' (c.tc.loc Cert.OutInRefIdeal.main_arg3) = m (c.tc.loc Cert.OutInIdeal.main_arg3)
  ∧ m' (c.tc.loc Cert.OutInRefIdeal.main_arg4) = m (c.tc.loc Cert.OutInIdeal.main_arg4)
  ∧ m' (c.tc.loc Cert.OutInRefIdeal.main_arg5) = m (c.tc.loc Cert.OutInIdeal.main_arg5)

/-- The padded rows of an array of the reference. -/
abbrev under (a : Fin 4112 → Fin 1024 → EReal) : Fin 4224 → Fin 1024 → EReal := Cert.Rows.pad 112 (by rfl : 112 + 4112 = 4224) a

variable (hs : Same m m' c)
include hs

theorem A_eq : OutInIdeal.Value.A m c = under (OutInRefIdeal.Value.A m' c) := by
  unfold OutInRefIdeal.Value.A; rw [hs.1]; rfl

theorem B_eq : OutInIdeal.Value.B m c = under (OutInRefIdeal.Value.B m' c) := by
  unfold OutInRefIdeal.Value.B; rw [hs.2.1]; rfl

theorem W_eq : OutInIdeal.Value.W m c = OutInRefIdeal.Value.W m' c := by
  unfold OutInRefIdeal.Value.W; rw [hs.2.2.1]; rfl

theorem D_eq : OutInIdeal.Value.D m c = under (OutInRefIdeal.Value.D m' c) := by
  unfold OutInRefIdeal.Value.D; rw [hs.2.2.2.1]; rfl

theorem G_eq : OutInIdeal.Value.G m c = OutInRefIdeal.Value.G m' c := by
  unfold OutInRefIdeal.Value.G; rw [hs.2.2.2.2.1]; rfl

theorem Z_eq : OutInIdeal.Value.Z m c = OutInRefIdeal.Value.Z m' c := by
  unfold OutInRefIdeal.Value.Z; rw [hs.2.2.2.2.2]; rfl

theorem H_eq : OutInIdeal.Value.H m c = under (OutInRefIdeal.Value.H m' c) := by
  funext i k
  unfold OutInIdeal.Value.H
  rw [A_eq m m' c hs, B_eq m m' c hs, W_eq m m' c hs, D_eq m m' c hs]
  rcases Cert.Rows.row_cases (by rfl : 112 + 4112 = 4224) i with h | ⟨t, h, rfl⟩
  · simp only [under, Cert.Rows.pad_lo (by rfl : 112 + 4112 = 4224) h, zero_mul, Finset.sum_const_zero, add_zero]
  · simp only [under, Cert.Rows.pad_hi]
    rfl

theorem res0_eq : OutInIdeal.Value.res6 m c = OutInRefIdeal.Value.res0 m' c := by
  unfold OutInIdeal.Value.res6
  rw [H_eq m m' c hs]
  rfl

/-- The projection of a row of zeros is zero, that of any other row the reference's. -/
theorem proj_eq (q : Fin 1024 → Fin 2048) (i : Fin 4224) (k : Fin 1024) :
    OutInIdeal.Value.proj (OutInIdeal.Value.H m c i) (OutInIdeal.Value.G m c) (fun n => OutInIdeal.Value.Z m c n (q k)) = under (fun t k => OutInRefIdeal.Value.ZV m' c t (q k)) i k := by
  rw [H_eq m m' c hs, G_eq m m' c hs, Z_eq m m' c hs]
  rcases Cert.Rows.row_cases (by rfl : 112 + 4112 = 4224) i with h | ⟨t, h, rfl⟩
  · simp only [OutInIdeal.Value.proj, under, Cert.Rows.pad_lo (by rfl : 112 + 4112 = 4224) h, zero_mul, Finset.sum_const_zero]
  · simp only [OutInIdeal.Value.proj, under, Cert.Rows.pad_hi]
    rw [show Cert.Rows.pad 112 (by rfl : 112 + 4112 = 4224) (OutInRefIdeal.Value.H m' c) ⟨112 + t.val, h⟩ = OutInRefIdeal.Value.H m' c t from
      funext fun n => Cert.Rows.pad_hi _ _ t h n]
    rfl

theorem res1_eq : OutInIdeal.Value.res7 m c = OutInRefIdeal.Value.res1 m' c :=
  funext fun y => proj_eq m m' c hs (fun k => ⟨0 + k.val, by omega⟩) (y 0) (y 1)

theorem res2_eq : OutInIdeal.Value.res8 m c = OutInRefIdeal.Value.res2 m' c :=
  funext fun y => proj_eq m m' c hs (fun k => ⟨1024 + k.val, by omega⟩) (y 0) (y 1)

end Cert.OutInEq

end
-- ==== Proof.RopeFwd.lean ====
/- The rotary embedding itself: the kernels rotate a head's last 128 lanes against a table of sines with signs, the reference
   pairs the two halves of the 64 rotary columns. Both as functions of one row, and that they agree. -/
module

public import proofs.«01_k».proof.Proof.Rope

@[expose] public section

set_option maxRecDepth 16384

noncomputable section

open Idealize.ShloMosaic

namespace Cert.Rope

/-- The kernels' way of one row of 128 lanes: the lanes turned by 32 either way, times the sines. -/
def rot (d cs sn : Fin 128 → EReal) (l : Fin 128) : EReal :=
  d l * cs l + (if l.val < 32 then d ⟨(l.val + 128 - 96) % 128, Nat.mod_lt _ (by omega)⟩
    else d ⟨(l.val + 128 - 32) % 128, Nat.mod_lt _ (by omega)⟩) * sn l

/-- `rot` as the kernels state it, by a selection. -/
theorem rot_eq (d cs sn : Fin 128 → EReal) (l : Fin 128) :
    d l * cs l + Scalar.select (IntOp.cmpi CmpIPredicate.slt (BitVec.ofNat 32 l.val) 32#32)
        (d ⟨(l.val + 128 - 96) % 128, Nat.mod_lt _ (by omega)⟩) (d ⟨(l.val + 128 - 32) % 128, Nat.mod_lt _ (by omega)⟩) * sn l = rot d cs sn l := by
  rw [lt32]
  unfold rot
  split_ifs <;> rfl

/-- The reference's way: a head's 192 columns after the rotation. -/
def fwd (q : Fin 192 → EReal) (t : ℕ) (l : Fin 192) : EReal :=
  if h : l.val < 128 then q l
    else if h2 : l.val < 160 then q l * Ideal.cos (ang t ⟨l.val - 128, by omega⟩) - q ⟨l.val + 32, by omega⟩ * Ideal.sin (ang t ⟨l.val - 128, by omega⟩)
      else q ⟨l.val - 32, by omega⟩ * Ideal.sin (ang t ⟨l.val - 160, by omega⟩) + q l * Ideal.cos (ang t ⟨l.val - 160, by omega⟩)

theorem fwd_lo (q : Fin 192 → EReal) (t : ℕ) (l : Fin 192) (h : l.val < 128) : fwd q t l = q l := dif_pos h

theorem fwd_mid (q : Fin 192 → EReal) (t : ℕ) (l : Fin 192) (h : ¬l.val < 128) (h2 : l.val < 160) : fwd q t l
    = q l * Ideal.cos (ang t ⟨l.val - 128, by omega⟩) - q ⟨l.val + 32, by omega⟩ * Ideal.sin (ang t ⟨l.val - 128, by omega⟩) :=
  (dif_neg h).trans (dif_pos h2)

theorem fwd_hi (q : Fin 192 → EReal) (t : ℕ) (l : Fin 192) (h : ¬l.val < 128) (h2 : ¬l.val < 160) : fwd q t l
    = q ⟨l.val - 32, by omega⟩ * Ideal.sin (ang t ⟨l.val - 160, by omega⟩) + q l * Ideal.cos (ang t ⟨l.val - 160, by omega⟩) :=
  (dif_neg h).trans (dif_neg h2)

/-- The tables' entries. -/
theorem cos_lo (i : ℕ) (l : Fin 128) (h : l.val < 32) : cosTab i l = Ideal.cos (angPad i ⟨l.val, h⟩) := dif_pos h
theorem cos_hi (i : ℕ) (l : Fin 128) (h : ¬l.val < 32) (h2 : l.val - 32 < 32) : cosTab i l = Ideal.cos (angPad i ⟨l.val - 32, h2⟩) :=
  (dif_neg h).trans (dif_pos h2)
theorem sin_lo (i : ℕ) (l : Fin 128) (h : l.val < 32) : sinTab i l = -Ideal.sin (angPad i ⟨l.val, h⟩) := dif_pos h
theorem sin_hi (i : ℕ) (l : Fin 128) (h : ¬l.val < 32) (h2 : l.val - 32 < 32) : sinTab i l = Ideal.sin (angPad i ⟨l.val - 32, h2⟩) :=
  (dif_neg h).trans (dif_pos h2)
theorem sin_none (i : ℕ) (l : Fin 128) (h : ¬l.val < 32) (h2 : ¬l.val - 32 < 32) : sinTab i l = 0 := (dif_neg h).trans (dif_neg h2)

/-- Behind the padding the kernels' way gives the reference's, on the rotary columns widened by zeros. -/
theorem rot_fwd (q : Fin 192 → EReal) {i : ℕ} (h : 112 ≤ i) (hi : i < 4224) (l : Fin 128) :
    rot (fun k => if h : k.val < 64 then q ⟨128 + k.val, by omega⟩ else 0) (cosTab i) (sinTab i) l
      = if h : l.val < 64 then fwd q (i - 112) ⟨128 + l.val, by omega⟩ else 0 := by
  have hl := l.isLt
  unfold rot
  dsimp only
  by_cases h1 : l.val < 64
  · rw [dif_pos h1, dif_pos h1]
    by_cases h2 : l.val < 32
    · rw [if_pos h2, dif_pos (by omega : (l.val + 128 - 96) % 128 < 64)]
      rw [fwd_mid q _ ⟨128 + l.val, by omega⟩ (by show ¬(128 + l.val < 128); omega) (by show 128 + l.val < 160; omega), cos_lo i l h2, sin_lo i l h2,
        angPad_eq h hi, mul_neg, ← sub_eq_add_neg]
      have e2 : (⟨128 + l.val - 128, by omega⟩ : Fin 32) = ⟨l.val, h2⟩ := Fin.ext (by show 128 + l.val - 128 = l.val; omega)
      have e3 : (⟨128 + (l.val + 128 - 96) % 128, by omega⟩ : Fin 192) = ⟨128 + l.val + 32, by omega⟩ := Fin.ext (by show 128 + (l.val + 128 - 96) % 128 = 128 + l.val + 32; omega)
      simp only [e2, e3]
    · rw [if_neg h2, dif_pos (by omega : (l.val + 128 - 32) % 128 < 64)]
      rw [fwd_hi q _ ⟨128 + l.val, by omega⟩ (by show ¬(128 + l.val < 128); omega) (by show ¬(128 + l.val < 160); omega),
        cos_hi i l h2 (by omega), sin_hi i l h2 (by omega), angPad_eq h hi, add_comm]
      have e2 : (⟨128 + l.val - 160, by omega⟩ : Fin 32) = ⟨l.val - 32, by omega⟩ := Fin.ext (by show 128 + l.val - 160 = l.val - 32; omega)
      have e3 : (⟨128 + (l.val + 128 - 32) % 128, by omega⟩ : Fin 192) = ⟨128 + l.val - 32, by omega⟩ := Fin.ext (by show 128 + (l.val + 128 - 32) % 128 = 128 + l.val - 32; omega)
      simp only [e2, e3]
  · rw [dif_neg h1, dif_neg h1]
    rw [sin_none i l (by omega) (by omega), zero_mul, mul_zero, add_zero]

/-- The reference's way as a host program states it: the columns before the rotary ones and the two halves of those side by side,
    widened by padding. -/
theorem wide_fwd (v : Fin 1536 → EReal) (t : ℕ) (n : Fin 2048) :
    (if h : n.val / 256 < 8 ∧ n.val % 256 < 192 then
      if h1 : n.val % 256 < 128 then v ⟨n.val / 256 * 192 + n.val % 256, by omega⟩
      else
        if h2 : n.val % 256 - 128 < 32 then
          v ⟨n.val / 256 * 192 + (128 + (n.val % 256 - 128)), by omega⟩ * Ideal.cos (ang t ⟨n.val % 256 - 128, h2⟩)
            - v ⟨n.val / 256 * 192 + (128 + (32 + (n.val % 256 - 128))), by omega⟩ * Ideal.sin (ang t ⟨n.val % 256 - 128, h2⟩)
        else
          v ⟨n.val / 256 * 192 + (128 + (n.val % 256 - 128 - 32)), by omega⟩ * Ideal.sin (ang t ⟨n.val % 256 - 128 - 32, by omega⟩)
            + v ⟨n.val / 256 * 192 + (128 + (32 + (n.val % 256 - 128 - 32))), by omega⟩ * Ideal.cos (ang t ⟨n.val % 256 - 128 - 32, by omega⟩)
    else FloatOps.sitofp (F := Ideal) FTy.f32 0#32)
      = wide (heads fun h => fwd (fun l => v ⟨h.val * 192 + l.val, by omega⟩) t) n := by
  have hn := n.isLt
  have e : ∀ (a b : ℕ) (ha : a < 1536) (hb : b < 1536), a = b → v ⟨a, ha⟩ = v ⟨b, hb⟩ := fun a b ha hb h => by subst h; rfl
  rw [wide_heads]
  by_cases h0 : n.val % 256 < 192
  · rw [dif_pos ⟨by omega, h0⟩, dif_pos h0]
    by_cases h1 : n.val % 256 < 128
    · rw [dif_pos h1, fwd_lo _ _ ⟨n.val % 256, h0⟩ h1]
    · rw [dif_neg h1]
      by_cases h2 : n.val % 256 - 128 < 32
      · rw [dif_pos h2, fwd_mid _ _ ⟨n.val % 256, h0⟩ h1 (by show n.val % 256 < 160; omega)]
        exact congrArg₂ (· - ·) (congrArg (· * _) (e _ _ _ _ (by dsimp only; omega))) (congrArg (· * _) (e _ _ _ _ (by dsimp only; omega)))
      · rw [dif_neg h2, fwd_hi _ _ ⟨n.val % 256, h0⟩ h1 (by show ¬n.val % 256 < 160; omega)]
        have e2 : (⟨n.val % 256 - 128 - 32, by omega⟩ : Fin 32) = ⟨n.val % 256 - 160, by omega⟩ := Fin.ext (by show n.val % 256 - 128 - 32 = n.val % 256 - 160; omega)
        rw [e2]
        exact congrArg₂ (· + ·) (congrArg (· * _) (e _ _ _ _ (by dsimp only; omega))) (congrArg (· * _) (e _ _ _ _ (by dsimp only; omega)))
  · rw [dif_neg (fun h => h0 h.2), dif_neg h0, zero_f32]

theorem rot_zero (cs sn : Fin 128 → EReal) (l : Fin 128) : rot (fun _ => 0) cs sn l = 0 := by
  unfold rot
  simp

/-- A row of the kernels' output: the columns before the rotary ones as they come, the rotary ones rotated. -/
theorem rotated (f : Fin 8 → Fin 192 → EReal) {i : ℕ} (h : 112 ≤ i) (hi : i < 4224) (n : Fin 2048) :
    (if n.val / 128 % 2 = 0 then wide (heads f) n
      else rot (fun k => wide (heads f) ⟨128 * (n.val / 128) + k.val, by omega⟩) (cosTab i) (sinTab i) ⟨n.val % 128, Nat.mod_lt _ (by omega)⟩)
      = wide (heads fun h => fwd (f h) (i - 112)) n := by
  have hn := n.isLt
  rw [wide_heads]
  by_cases h2 : n.val / 128 % 2 = 0
  · rw [if_pos h2, wide_heads, dif_pos (by omega : n.val % 256 < 192), dif_pos (by omega : n.val % 256 < 192)]
    rw [fwd_lo _ _ ⟨n.val % 256, by omega⟩ (by show n.val % 256 < 128; omega)]
  · rw [if_neg h2]
    have e1 : (fun k : Fin 128 => wide (heads f) ⟨128 * (n.val / 128) + k.val, by omega⟩)
        = fun k => if h : k.val < 64 then f ⟨n.val / 256, by omega⟩ ⟨128 + k.val, by omega⟩ else 0 := by
      funext k
      have hk := k.isLt
      rw [wide_heads]
      by_cases h3 : k.val < 64
      · rw [dif_pos h3, dif_pos (by show (128 * (n.val / 128) + k.val) % 256 < 192; omega)]
        exact congrArg₂ f (Fin.ext (by show (128 * (n.val / 128) + k.val) / 256 = n.val / 256; omega))
          (Fin.ext (by show (128 * (n.val / 128) + k.val) % 256 = 128 + k.val; omega))
      · rw [dif_neg h3, dif_neg (by show ¬((128 * (n.val / 128) + k.val) % 256 < 192); omega)]
    rw [e1, rot_fwd (f ⟨n.val / 256, by omega⟩) h hi]
    by_cases h3 : n.val % 128 < 64
    · rw [dif_pos h3, wide_heads, dif_pos (by omega : n.val % 256 < 192)]
      have e3 : (⟨128 + n.val % 128, by omega⟩ : Fin 192) = ⟨n.val % 256, by omega⟩ := Fin.ext (by show 128 + n.val % 128 = n.val % 256; omega)
      rw [e3]
    · rw [dif_neg h3, wide_heads, dif_neg (by omega : ¬n.val % 256 < 192)]

end Cert.Rope

end
-- ==== Proof.QFwdKernel.lean ====
/- What the array of the `a_q_proj` call ends holding, index by index, as a function of the arguments. -/
module

public import proofs.«01_k».proof.Proof.Rows
public import proofs.«01_k».proof.Proof.RopeFwd
public import proofs.«01_k».proof.Proof.Pieces
public import proofs.«01_k».proof.Proof.Gen.QFwdIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.QFwdIdeal.Value

open Cert.QFwdIdeal Cert.QFwdIdeal.Gen

variable (m : (ℓ : Loc nD τ sig) → Buf (Elt Ideal) ℓ)

/-- The blocks a point sees: its 384 rows, and the gain and the weights whole. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0] :=
  (by decide +kernel : ∀ t : Fin grid0.N, _)

/-! ## The product's columns, and the rotary ones rotated -/

/-- The entries of the norm's mean and the number added to the mean square. -/
abbrev nn : EReal := Ideal.ofBits .f32 0x43C00000#32
abbrev ee : EReal := Ideal.ofBits .f32 0x358637BD#32

theorem y_blk (x : Vec Ideal S384x384 .f32) (g : Vec Ideal S1x384 .f32) (w : Vec Ideal S384x2048 .bf16) (i : Fin 384) (n : Fin 2048) :
    k0_pay5 x g w (ix2 i n) = ∑ k, (x (ix2 i k) * Cert.Rows.rinv nn ee (fun k => x (ix2 i k)) * g (ix2 0 k)) * w (ix2 k n) := by
  pointwise [k0_pay5, Cert.Rows.rinv]

/-- Piece `p` of the product's columns. -/
def cols (v : FVec Ideal S384x2048 .f32) (p : Fin 16) (i : Fin 384) (l : Fin 128) : EReal := v (ix2 i ⟨128 * p.val + l.val, by omega⟩)

/-- Piece `p` of the output. -/
def piece (v : FVec Ideal S384x2048 .f32) (c s : FVec Ideal S384x128 .f32) (p : Fin 16) : FVec Ideal S384x128 .bf16 := fun y =>
  if p.val % 2 = 0 then cols v p (y 0) (y 1) else Cert.Rope.rot (cols v p (y 0)) (fun l => c (ix2 (y 0) l)) (fun l => s (ix2 (y 0) l)) (y 1)

/-- The payloads are those pieces. -/
theorem pay_0 (x : Vec Ideal S384x384 .f32) (g : Vec Ideal S1x384 .f32) (w : Vec Ideal S384x2048 .bf16) (c s : Vec Ideal S384x128 .f32) :
    k0_pay8 x g w = piece (k0_pay5 x g w) c s 0 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_1 (x : Vec Ideal S384x384 .f32) (g : Vec Ideal S1x384 .f32) (w : Vec Ideal S384x2048 .bf16) (c s : Vec Ideal S384x128 .f32) :
    k0_pay9 x g w c s = piece (k0_pay5 x g w) c s 1 := by
  funext y
  idx_vars y
  refine Eq.trans ?_ (if_neg (by decide)).symm
  refine Eq.trans ?_ (Cert.Rope.rot_eq (cols (k0_pay5 x g w) 1 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_2 (x : Vec Ideal S384x384 .f32) (g : Vec Ideal S1x384 .f32) (w : Vec Ideal S384x2048 .bf16) (c s : Vec Ideal S384x128 .f32) :
    k0_pay10 (k0_pay5 x g w) = piece (k0_pay5 x g w) c s 2 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_3 (x : Vec Ideal S384x384 .f32) (g : Vec Ideal S1x384 .f32) (w : Vec Ideal S384x2048 .bf16) (c s : Vec Ideal S384x128 .f32) :
    k0_pay11 (k0_pay5 x g w) (k0_pay6 c) (k0_pay7 s) = piece (k0_pay5 x g w) c s 3 := by
  funext y
  idx_vars y
  refine Eq.trans ?_ (if_neg (by decide)).symm
  refine Eq.trans ?_ (Cert.Rope.rot_eq (cols (k0_pay5 x g w) 3 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_4 (x : Vec Ideal S384x384 .f32) (g : Vec Ideal S1x384 .f32) (w : Vec Ideal S384x2048 .bf16) (c s : Vec Ideal S384x128 .f32) :
    k0_pay12 (k0_pay5 x g w) = piece (k0_pay5 x g w) c s 4 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_5 (x : Vec Ideal S384x384 .f32) (g : Vec Ideal S1x384 .f32) (w : Vec Ideal S384x2048 .bf16) (c s : Vec Ideal S384x128 .f32) :
    k0_pay13 (k0_pay5 x g w) (k0_pay6 c) (k0_pay7 s) = piece (k0_pay5 x g w) c s 5 := by
  funext y
  idx_vars y
  refine Eq.trans ?_ (if_neg (by decide)).symm
  refine Eq.trans ?_ (Cert.Rope.rot_eq (cols (k0_pay5 x g w) 5 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_6 (x : Vec Ideal S384x384 .f32) (g : Vec Ideal S1x384 .f32) (w : Vec Ideal S384x2048 .bf16) (c s : Vec Ideal S384x128 .f32) :
    k0_pay14 (k0_pay5 x g w) = piece (k0_pay5 x g w) c s 6 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_7 (x : Vec Ideal S384x384 .f32) (g : Vec Ideal S1x384 .f32) (w : Vec Ideal S384x2048 .bf16) (c s : Vec Ideal S384x128 .f32) :
    k0_pay17 (k0_pay7 s) (k0_pay15 (k0_pay5 x g w)) (k0_pay16 (k0_pay5 x g w) (k0_pay6 c)) (iota Kind.tc S384x128 32 [1] iota_S384x128_d1_w32) 32#32 = piece (k0_pay5 x g w) c s 7 := by
  funext y
  idx_vars y
  refine Eq.trans ?_ (if_neg (by decide)).symm
  refine Eq.trans ?_ (Cert.Rope.rot_eq (cols (k0_pay5 x g w) 7 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_8 (x : Vec Ideal S384x384 .f32) (g : Vec Ideal S1x384 .f32) (w : Vec Ideal S384x2048 .bf16) (c s : Vec Ideal S384x128 .f32) :
    k0_pay18 (k0_pay5 x g w) = piece (k0_pay5 x g w) c s 8 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_9 (x : Vec Ideal S384x384 .f32) (g : Vec Ideal S1x384 .f32) (w : Vec Ideal S384x2048 .bf16) (c s : Vec Ideal S384x128 .f32) :
    k0_pay19 (k0_pay5 x g w) (k0_pay6 c) (k0_pay7 s) = piece (k0_pay5 x g w) c s 9 := by
  funext y
  idx_vars y
  refine Eq.trans ?_ (if_neg (by decide)).symm
  refine Eq.trans ?_ (Cert.Rope.rot_eq (cols (k0_pay5 x g w) 9 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_10 (x : Vec Ideal S384x384 .f32) (g : Vec Ideal S1x384 .f32) (w : Vec Ideal S384x2048 .bf16) (c s : Vec Ideal S384x128 .f32) :
    k0_pay20 (k0_pay5 x g w) = piece (k0_pay5 x g w) c s 10 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_11 (x : Vec Ideal S384x384 .f32) (g : Vec Ideal S1x384 .f32) (w : Vec Ideal S384x2048 .bf16) (c s : Vec Ideal S384x128 .f32) :
    k0_pay21 (k0_pay5 x g w) (k0_pay6 c) (k0_pay7 s) = piece (k0_pay5 x g w) c s 11 := by
  funext y
  idx_vars y
  refine Eq.trans ?_ (if_neg (by decide)).symm
  refine Eq.trans ?_ (Cert.Rope.rot_eq (cols (k0_pay5 x g w) 11 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_12 (x : Vec Ideal S384x384 .f32) (g : Vec Ideal S1x384 .f32) (w : Vec Ideal S384x2048 .bf16) (c s : Vec Ideal S384x128 .f32) :
    k0_pay1 (k0_pay5 x g w) = piece (k0_pay5 x g w) c s 12 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_13 (x : Vec Ideal S384x384 .f32) (g : Vec Ideal S1x384 .f32) (w : Vec Ideal S384x2048 .bf16) (c s : Vec Ideal S384x128 .f32) :
    k0_pay2 (k0_pay5 x g w) (k0_pay6 c) (k0_pay7 s) = piece (k0_pay5 x g w) c s 13 := by
  funext y
  idx_vars y
  refine Eq.trans ?_ (if_neg (by decide)).symm
  refine Eq.trans ?_ (Cert.Rope.rot_eq (cols (k0_pay5 x g w) 13 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_14 (x : Vec Ideal S384x384 .f32) (g : Vec Ideal S1x384 .f32) (w : Vec Ideal S384x2048 .bf16) (c s : Vec Ideal S384x128 .f32) :
    k0_pay3 (k0_pay5 x g w) = piece (k0_pay5 x g w) c s 14 := by
  funext y
  idx_vars y
  refine Eq.trans ?_ (if_pos rfl).symm
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

theorem pay_15 (x : Vec Ideal S384x384 .f32) (g : Vec Ideal S1x384 .f32) (w : Vec Ideal S384x2048 .bf16) (c s : Vec Ideal S384x128 .f32) :
    k0_pay4 (k0_pay5 x g w) (k0_pay6 c) (k0_pay7 s) = piece (k0_pay5 x g w) c s 15 := by
  funext y
  idx_vars y
  refine Eq.trans ?_ (if_neg (by decide)).symm
  refine Eq.trans ?_ (Cert.Rope.rot_eq (cols (k0_pay5 x g w) 15 y0) (fun l => c (ix2 y0 l)) (fun l => s (ix2 y0 l)) y1)
  pointwise [k0_pay1, k0_pay2, k0_pay3, k0_pay4, k0_pay6, k0_pay7, k0_pay8, k0_pay9, k0_pay10, k0_pay11, k0_pay12, k0_pay13, k0_pay14, k0_pay15, k0_pay16, k0_pay17, k0_pay18, k0_pay19, k0_pay20, k0_pay21, cols]

/-- The output a point writes. -/
def outBlk (x : Vec Ideal S384x384 .f32) (g : Vec Ideal S1x384 .f32) (w : Vec Ideal S384x2048 .bf16) (c s : Vec Ideal S384x128 .f32) :
    Vec Ideal S384x2048 .bf16 := Cert.Pieces.all (Val := Elt Ideal) (e := .bf16) (piece (k0_pay5 x g w) c s)

theorem outBlk_apply (x : Vec Ideal S384x384 .f32) (g : Vec Ideal S1x384 .f32) (w : Vec Ideal S384x2048 .bf16) (c s : Vec Ideal S384x128 .f32) (i : Fin 384) (n : Fin 2048) :
    outBlk x g w c s (ix2 i n) = if n.val / 128 % 2 = 0 then k0_pay5 x g w (ix2 i n)
      else Cert.Rope.rot (fun k => k0_pay5 x g w (ix2 i ⟨128 * (n.val / 128) + k.val, by omega⟩)) (fun l => c (ix2 i l)) (fun l => s (ix2 i l))
        ⟨n.val % 128, Nat.mod_lt _ (by omega)⟩ := by
  have hn := n.isLt
  show piece (k0_pay5 x g w) c s ⟨n.val / 128, by omega⟩ (ix2 i ⟨n.val % 128, Nat.mod_lt _ (by omega)⟩) = _
  unfold piece
  by_cases h : n.val / 128 % 2 = 0
  · refine (if_pos h).trans (Eq.trans ?_ (if_pos h).symm)
    exact congrArg (fun k => k0_pay5 x g w (ix2 i k)) (Fin.ext (by show 128 * (n.val / 128) + n.val % 128 = n.val; omega))
  · exact (if_neg h).trans (if_neg h).symm

/-! ## The operands the host lines prepare -/

/-- The arguments as the body reads them: rows under the 112 rows of padding, the gain, the weights with every head's columns
    widened to 256. -/
def X (c : Dev nD) (i : Fin 4224) (k : Fin 384) : EReal :=
  Cert.Rows.pad 112 (by rfl : 112 + 4112 = 4224) (fun a b => m (c.tc.loc main_arg0) (ix2 a b)) i k
def G (c : Dev nD) (k : Fin 384) : EReal := m (c.tc.loc main_arg1) (ix2 0 k)
def W (c : Dev nD) (k : Fin 384) (n : Fin 2048) : EReal := Cert.Rope.wide (fun n => m (c.tc.loc main_arg2) (ix3 0 k n)) n
/-- The product's entries. -/
def Y (c : Dev nD) (i : Fin 4224) (n : Fin 2048) : EReal :=
  ∑ k, (X m c i k * Cert.Rows.rinv nn ee (X m c i) * G m c k) * W m c k n

theorem V_v31 (c : Dev nD) (i : Fin 4224) (k : Fin 384) : V m c main_v31 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg0) (ix2 a b)) i k

theorem V_v30 (c : Dev nD) (k : Fin 384) (n : Fin 2048) : V m c main_v30 (ix2 k n) = W m c k n := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rope.wide_pad _ Cert.Rope.zero_bf16 (fun n => m (c.tc.loc main_arg2) (ix3 0 k n)) n

theorem V_v23 (c : Dev nD) (i : Fin 4224) (l : Fin 128) : V m c main_v23 (ix2 i l) = Cert.Rope.cosTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

theorem V_v25 (c : Dev nD) (i : Fin 4224) (l : Fin 128) : V m c main_v25 (ix2 i l) = Cert.Rope.sinTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 384) : iblk m c 0 t (ix2 i k) = X m c (rowAt t i) k := by
  rw [← V_v31]
  blk_simp [iblk, idx_val t]
  blk_ext [idx_val t]

theorem in1 (c : Dev nD) (t : Fin cfg0.N) (k : Fin 384) : iblk m c 1 t (ix2 0 k) = G m c k := by
  unfold G
  rw [← V_main_arg1 m c]
  blk_simp [iblk, idx_val t]
  blk_ext [idx_val t]

theorem in2 (c : Dev nD) (t : Fin cfg0.N) (i : Fin 384) (k : Fin 2048) : iblk m c 2 t (ix2 i k) = W m c i k := by
  rw [← V_v30]
  blk_simp [iblk, idx_val t]
  blk_ext [idx_val t]

theorem in3 (c : Dev nD) (t : Fin cfg0.N) (i : Fin 384) (k : Fin 128) : iblk m c 3 t (ix2 i k) = Cert.Rope.cosTab (rowAt t i).val k := by
  rw [← V_v23 m c]
  blk_simp [iblk, idx_val t]
  blk_ext [idx_val t]

theorem in4 (c : Dev nD) (t : Fin cfg0.N) (i : Fin 384) (k : Fin 128) : iblk m c 4 t (ix2 i k) = Cert.Rope.sinTab (rowAt t i).val k := by
  rw [← V_v25 m c]
  blk_simp [iblk, idx_val t]
  blk_ext [idx_val t]

theorem inY (c : Dev nD) (t : Fin cfg0.N) (i : Fin 384) (n : Fin 2048) :
    k0_pay5 (iblk m c 0 t) (iblk m c 1 t) (iblk m c 2 t) (ix2 i n) = Y m c (rowAt t i) n := by
  rw [y_blk]
  simp only [in0, in1, in2]
  rfl

/-! ## What a point leaves -/

theorem left5 (c : Dev nD) (t : Fin cfg0.N) : out0_5 (iblk m c 0 t) (iblk m c 1 t) (iblk m c 2 t) (iblk m c 3 t) (iblk m c 4 t)
    = outBlk (iblk m c 0 t) (iblk m c 1 t) (iblk m c 2 t) (iblk m c 3 t) (iblk m c 4 t) := by
  unfold_out out0_5
  frame_out
  rw [pay_15, pay_14, pay_13, pay_12, pay_11, pay_10, pay_9, pay_8, pay_7, pay_6, pay_5, pay_4, pay_3, pay_2, pay_1, pay_0]
  funext y
  idx_vars y
  exact Cert.Pieces.canon_cols (Val := Elt Ideal) (e := .bf16)
    (piece (k0_pay5 (iblk m c 0 t) (iblk m c 1 t) (iblk m c 2 t)) (iblk m c 3 t) (iblk m c 4 t)) y0 y1 16 le_rfl (by have := y1.isLt; omega)

/-! ## The array -/

/-- The array. -/
def out (c : Dev nD) (i : Fin 4224) (n : Fin 2048) : EReal :=
  if n.val / 128 % 2 = 0 then Y m c i n
    else Cert.Rope.rot (fun k => Y m c i ⟨128 * (n.val / 128) + k.val, by omega⟩) (Cert.Rope.cosTab i.val) (Cert.Rope.sinTab i.val)
      ⟨n.val % 128, Nat.mod_lt _ (by omega)⟩
def res5 (c : Dev nD) : FVec Ideal S4224x2048 .bf16 := fun y => out m c (y 0) (y 1)

theorem final_5 (c : Dev nD) : (dats m 0 c).arrAt 5 (cfgs 0).N = res5 m c := by
  refine (dats m 0 c).arrAt_eq_of_covers 5 _ (by decide +kernel) fun t hf y => ?_
  blk_simp; rw [after0_5, left5]
  idx_vars y
  rw [outBlk_apply]
  simp only [inY, in3, in4]
  refine Eq.trans ?_ (congrArg (res5 m c) (?_ : ix2 (rowAt t y0) y1 = _))
  · rfl
  · blk_ext [idx_val t]

end Cert.QFwdIdeal.Value

end
-- ==== Proof.QFwdRef.lean ====
/- What the reference's queries' projection is, index by index, as a function of the arguments. -/
module

public import proofs.«01_k».proof.Proof.Rows
public import proofs.«01_k».proof.Proof.RopeFwd
public import proofs.«01_k».proof.Proof.Gen.QFwdRefIdeal.Run
public import Idealize.ShloMosaic.Lib.Pipeline.ValueKit

@[expose] public section

set_option maxRecDepth 16384
set_option maxHeartbeats 1000000

noncomputable section

open Idealize.ShloMosaic Idealize.ShloMosaic.TcCoe Idealize.SL.Sem
open scoped BigOperators

namespace Cert.QFwdRefIdeal.Value

open Cert.QFwdRefIdeal Cert.QFwdRefIdeal.Gen

variable (m : (ℓ : Loc nD τ sig) → Buf (Elt Ideal) ℓ)

/-- The entries of the norm's mean, and the number added to the mean square. -/
abbrev nn : EReal := Ideal.ofBits .f32 0x43C00000#32
abbrev ee : EReal := Ideal.ofBits .f32 0x358637BD#32

/-- The angles of every position. -/
def angVec : FVec Ideal S4112x32 .f32 := fun y => Cert.Rope.ang (y 0).val (y 1)

theorem ang_eq : mulf (broadcastInDim S4112x32 ![0, 1] bcast_S4112x1_S4112x32_0_1 (broadcastInDim S4112x1 ![0] bcast_S4112_S4112x1_0 (sitofp .f32 (iotaInDim S4112 32 0)))) (broadcastInDim S4112x32 ![0, 1] bcast_S1x32_S4112x32_0_1 (broadcastInDim S1x32 ![1] bcast_S32_S1x32_1 (Host.powf (broadcastInDim S32 ![] bcast_S_S32 (constant S_ .f32 0x461C4000#32)) (Host.divf (Host.negf (sitofp .f32 (addi (broadcastInDim S32 ![] bcast_S_S32 (constantI S_ 32 0#32)) (muli (broadcastInDim S32 ![] bcast_S_S32 (constantI S_ 32 2#32)) (iotaInDim S32 32 0))))) (broadcastInDim S32 ![] bcast_S_S32 (constant S_ .f32 0x42800000#32)))))) = angVec := by
  funext y
  idx_vars y
  pointwise [angVec]
  rfl

/-- The normed rows through the weights. -/
def yVec (x : FVec Ideal S4112x384 .f32) (g : FVec Ideal S1x384 .f32) (w : FVec Ideal S1x384x1536 .f32) : FVec Ideal S4112x1536 .f32 :=
  fun y => ∑ k : Fin 384, (x (ix2 (y 0) k) * Cert.Rows.rinv nn ee (fun k => x (ix2 (y 0) k)) * g (ix2 0 k)) * w (ix3 0 k (y 1))

theorem y_eq (x : FVec Ideal S4112x384 .f32) (g : FVec Ideal S1x384 .f32) (w : FVec Ideal S1x384x1536 .f32) :
    Host.dotGeneral (F := Ideal) (φ₁ := .f32) (φ₂ := .f32) dot_S4112x384_S384x1536_S4112x1536_1_0_0_1_n_n none (mulf (mulf x (broadcastInDim S4112x384 ![0, 1] bcast_S4112x1_S4112x384_0_1 (Host.rsqrt (addf (Host.divf (broadcastInDim S4112x1 ![0] bcast_S4112_S4112x1_0 (Host.reduceAdd (mulf x x) (constant S_ .f32 0x00000000#32) reducesTo_S4112x384_S4112_d1 h_S_)) (broadcastInDim S4112x1 ![] bcast_S_S4112x1 (constant S_ .f32 0x43C00000#32))) (broadcastInDim S4112x1 ![] bcast_S_S4112x1 (constant S_ .f32 0x358637BD#32)))))) (broadcastInDim S4112x384 ![0, 1] bcast_S1x384_S4112x384_0_1 (broadcastInDim S1x384 ![1] bcast_S384_S1x384_1 (shapeCast _ g shapeCasts_S1x384_S384)))) (shapeCast _ w shapeCasts_S1x384x1536_S384x1536) = yVec x g w := by
  funext y
  idx_vars y
  pointwise [yVec, Cert.Rows.rinv]

/-- The rotated heads, widened. -/
def outVec (v : FVec Ideal S4112x1536 .f32) : FVec Ideal S4112x2048 .f32 := fun y =>
  Cert.Rope.wide (Cert.Rope.heads fun h => Cert.Rope.fwd (fun l => v (ix2 (y 0) ⟨h.val * 192 + l.val, by omega⟩)) (y 0).val) (y 1)

theorem out_eq (v : FVec Ideal S4112x1536 .f32) : shapeCast S4112x2048 (pad S4112x8x256 ![0, 0, 0] ![0, 0, 64] ![0, 0, 0] (concatenate S4112x8x192 2 [⟨S4112x8x128, (extractStridedSlice S4112x8x128 ![0, 0, 0] (shapeCast S4112x8x192 v shapeCasts_S4112x1536_S4112x8x192) slices_S4112x8x192_S4112x8x128_0_0_0)⟩, ⟨S4112x8x64, (concatenate S4112x8x64 2 [⟨S4112x8x32, (subf (mulf (extractStridedSlice S4112x8x32 ![0, 0, 0] (extractStridedSlice S4112x8x64 ![0, 0, 128] (shapeCast S4112x8x192 v shapeCasts_S4112x1536_S4112x8x192) slices_S4112x8x192_S4112x8x64_0_0_128) slices_S4112x8x64_S4112x8x32_0_0_0) (broadcastInDim S4112x8x32 ![0, 1, 2] bcast_S4112x1x32_S4112x8x32_0_1_2 (broadcastInDim S4112x1x32 ![0, 2] bcast_S4112x32_S4112x1x32_0_2 (Host.cos angVec)))) (mulf (extractStridedSlice S4112x8x32 ![0, 0, 32] (extractStridedSlice S4112x8x64 ![0, 0, 128] (shapeCast S4112x8x192 v shapeCasts_S4112x1536_S4112x8x192) slices_S4112x8x192_S4112x8x64_0_0_128) slices_S4112x8x64_S4112x8x32_0_0_32) (broadcastInDim S4112x8x32 ![0, 1, 2] bcast_S4112x1x32_S4112x8x32_0_1_2 (broadcastInDim S4112x1x32 ![0, 2] bcast_S4112x32_S4112x1x32_0_2 (Host.sin angVec)))))⟩, ⟨S4112x8x32, (addf (mulf (extractStridedSlice S4112x8x32 ![0, 0, 0] (extractStridedSlice S4112x8x64 ![0, 0, 128] (shapeCast S4112x8x192 v shapeCasts_S4112x1536_S4112x8x192) slices_S4112x8x192_S4112x8x64_0_0_128) slices_S4112x8x64_S4112x8x32_0_0_0) (broadcastInDim S4112x8x32 ![0, 1, 2] bcast_S4112x1x32_S4112x8x32_0_1_2 (broadcastInDim S4112x1x32 ![0, 2] bcast_S4112x32_S4112x1x32_0_2 (Host.sin angVec)))) (mulf (extractStridedSlice S4112x8x32 ![0, 0, 32] (extractStridedSlice S4112x8x64 ![0, 0, 128] (shapeCast S4112x8x192 v shapeCasts_S4112x1536_S4112x8x192) slices_S4112x8x192_S4112x8x64_0_0_128) slices_S4112x8x64_S4112x8x32_0_0_32) (broadcastInDim S4112x8x32 ![0, 1, 2] bcast_S4112x1x32_S4112x8x32_0_1_2 (broadcastInDim S4112x1x32 ![0, 2] bcast_S4112x32_S4112x1x32_0_2 (Host.cos angVec)))))⟩] concatenates_S4112x8x32_S4112x8x32_S4112x8x64_d2)⟩] concatenates_S4112x8x128_S4112x8x64_S4112x8x192_d2) (sitofp FTy.f32 (constantI S_ 32 0#32)) pads_S4112x8x192_S4112x8x256_000_000_0640 h_S_) shapeCasts_S4112x8x256_S4112x2048 = outVec v := by
  funext y
  idx_vars y
  refine Eq.trans ?_ (Cert.Rope.wide_fwd (fun n => v (ix2 y0 n)) y0.val y1)
  pointwise [angVec]

/-- The result. -/
def res0 (c : Dev nD) : FVec Ideal S4224x2048 .bf16 := fun y => Cert.Rows.pad 112 (by rfl : 112 + 4112 = 4224)
  (fun t n => outVec (yVec (m (c.tc.loc main_arg0)) (m (c.tc.loc main_arg1)) (m (c.tc.loc main_arg2))) (ix2 t n)) (y 0) (y 1)

theorem res0_eq (c : Dev nD) : res_main_v58 m c = res0 m c := by
  unfold res_main_v58
  rw [ang_eq, y_eq, out_eq]
  funext y
  idx_vars y
  refine Eq.trans ?_ (Cert.Rows.pad_eq 112 (by rfl : 112 + 4112 = 4224) _ y0 y1)
  pointwise

theorem run_res (ρ : Dev nD → PrngReg) :
    θ_run defs (onTc (τ := τ) (main (F := Ideal))) ⟨m, fun _ => 0, ρ⟩ fun r => ∀ c : Dev nD,
      r.2.mem ((c.tc : Thread nD τ).loc main_v58) = res0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res0_eq m c), (h c).2⟩) (run m ρ)

end Cert.QFwdRefIdeal.Value

end
-- ==== Proof.QFwdEq.lean ====
/- The forward call of the queries' projection: the kernel's result is the reference's, whatever the arguments. -/
module

public import proofs.«01_k».proof.Proof.QFwdKernel
public import proofs.«01_k».proof.Proof.QFwdRef
public import proofs.«01_k».proof.Defs

@[expose] public section

set_option maxRecDepth 16384
set_option maxHeartbeats 1000000

noncomputable section

open Idealize.ShloMosaic Idealize.ShloMosaic.TcCoe Idealize.SL.Sem
open scoped BigOperators

namespace Cert.QFwdEq

variable (m : (ℓ : Loc Cert.QFwdIdeal.nD Cert.QFwdIdeal.τ Cert.QFwdIdeal.sig) → Buf (Elt Ideal) ℓ)
  (m' : (ℓ : Loc Cert.QFwdRefIdeal.nD Cert.QFwdRefIdeal.τ Cert.QFwdRefIdeal.sig) → Buf (Elt Ideal) ℓ)
  (c : Dev Cert.QFwdIdeal.nD)

/-- The two memories hold the same arguments. -/
def Same : Prop :=
  m' (c.tc.loc Cert.QFwdRefIdeal.main_arg0) = m (c.tc.loc Cert.QFwdIdeal.main_arg0)
  ∧ m' (c.tc.loc Cert.QFwdRefIdeal.main_arg1) = m (c.tc.loc Cert.QFwdIdeal.main_arg1)
  ∧ m' (c.tc.loc Cert.QFwdRefIdeal.main_arg2) = m (c.tc.loc Cert.QFwdIdeal.main_arg2)

/-- The product's rows, of the kernel's arguments, before the padding and before the heads are widened. -/
def y0 (t : Fin 4112) (n : Fin 1536) : EReal := QFwdRefIdeal.Value.yVec (m (c.tc.loc Cert.QFwdIdeal.main_arg0))
  (m (c.tc.loc Cert.QFwdIdeal.main_arg1)) (m (c.tc.loc Cert.QFwdIdeal.main_arg2)) (ValueIdx.ix2 t n)

theorem Y_lo (i : Fin 4224) (h : i.val < 112) (n : Fin 2048) : QFwdIdeal.Value.Y m c i n = 0 := by
  have hx : QFwdIdeal.Value.X m c i = fun _ => 0 := funext fun k => Cert.Rows.pad_lo (by rfl : 112 + 4112 = 4224) h k
  unfold QFwdIdeal.Value.Y
  rw [hx]
  exact Finset.sum_eq_zero fun k _ => by rw [zero_mul, zero_mul, zero_mul]

theorem Y_hi (t : Fin 4112) (h : 112 + t.val < 4224) (n : Fin 2048) : QFwdIdeal.Value.Y m c ⟨112 + t.val, h⟩ n = Cert.Rope.wide (y0 m c t) n := by
  have hx : QFwdIdeal.Value.X m c ⟨112 + t.val, h⟩ = fun k => m (c.tc.loc Cert.QFwdIdeal.main_arg0) (ValueIdx.ix2 t k) :=
    funext fun k => Cert.Rows.pad_hi (by rfl : 112 + 4112 = 4224) _ t h k
  unfold QFwdIdeal.Value.Y
  rw [hx]
  unfold QFwdIdeal.Value.W Cert.Rope.wide
  by_cases h1 : n.val % 256 < 192
  · rw [dif_pos h1]
    exact Finset.sum_congr rfl fun k _ => congrArg (_ * ·) (dif_pos h1)
  · rw [dif_neg h1]
    exact Finset.sum_eq_zero fun k _ => (congrArg (_ * ·) (dif_neg h1)).trans (mul_zero _)

theorem heads_rows (v : Fin 1536 → EReal) : Cert.Rope.heads (fun h l => v ⟨h.val * 192 + l.val, by omega⟩) = v :=
  funext fun n => congrArg v (Fin.ext (by show n.val / 192 * 192 + n.val % 192 = n.val; omega))

variable (hs : Same m m' c)
include hs

theorem out_eq (i : Fin 4224) (n : Fin 2048) : QFwdIdeal.Value.out m c i n = Cert.Rows.pad 112 (by rfl : 112 + 4112 = 4224)
    (fun t n => QFwdRefIdeal.Value.outVec (QFwdRefIdeal.Value.yVec (m' (c.tc.loc Cert.QFwdRefIdeal.main_arg0))
      (m' (c.tc.loc Cert.QFwdRefIdeal.main_arg1)) (m' (c.tc.loc Cert.QFwdRefIdeal.main_arg2))) (ValueIdx.ix2 t n)) i n := by
  rw [hs.1, hs.2.1, hs.2.2]
  unfold QFwdIdeal.Value.out
  rcases Cert.Rows.row_cases (by rfl : 112 + 4112 = 4224) i with h | ⟨t, h, rfl⟩
  · rw [Cert.Rows.pad_lo (by rfl : 112 + 4112 = 4224) h]
    simp only [Y_lo m c i h, Cert.Rope.rot_zero, ite_self]
  · rw [Cert.Rows.pad_hi]
    simp only [Y_hi]
    refine Eq.trans ?_ ((Cert.Rope.rotated (fun h l => y0 m c t ⟨h.val * 192 + l.val, by omega⟩) (by omega : 112 ≤ 112 + t.val) h n).trans ?_)
    · rw [heads_rows]
    · rw [show 112 + t.val - 112 = t.val by omega]
      rfl

theorem res0_eq : QFwdIdeal.Value.res5 m c = QFwdRefIdeal.Value.res0 m' c :=
  funext fun y => out_eq m m' c hs (y 0) (y 1)

end Cert.QFwdEq

end
-- ==== Proof.KeyRows.lean ====
/- The columns of one row of the keys, widened: every head's own 128, then the rotary key shared by the heads. -/
module

public import proofs.«01_k».proof.Proof.RopeFwd

@[expose] public section

set_option maxRecDepth 16384

noncomputable section

open Idealize.ShloMosaic

namespace Cert.Rope

/-- The reference's way with the shared key's 64 columns. -/
def turn (r : Fin 64 → EReal) (t : ℕ) (l : Fin 64) : EReal :=
  if h : l.val < 32 then r l * Ideal.cos (ang t ⟨l.val, h⟩) - r ⟨32 + l.val, by omega⟩ * Ideal.sin (ang t ⟨l.val, h⟩)
    else r ⟨l.val - 32, by omega⟩ * Ideal.sin (ang t ⟨l.val - 32, by omega⟩) + r ⟨32 + (l.val - 32), by omega⟩ * Ideal.cos (ang t ⟨l.val - 32, by omega⟩)

/-- The shared key's columns behind a head's own. -/
def shared (r : Fin 64 → EReal) (l : Fin 192) : EReal := if h : l.val < 128 then 0 else r ⟨l.val - 128, by omega⟩

theorem shared_eq (r : Fin 64 → EReal) (l : Fin 192) (k : Fin 64) (e : l.val = 128 + k.val) : shared r l = r k :=
  (dif_neg (by omega)).trans (congrArg r (Fin.ext (by show l.val - 128 = k.val; omega)))

/-- The kernel's way gives the same on those columns widened by zeros. -/
theorem rot_turn (r : Fin 64 → EReal) {i : ℕ} (h : 112 ≤ i) (hi : i < 4224) (l : Fin 128) :
    rot (fun k => if h : k.val < 64 then r ⟨k.val, h⟩ else 0) (cosTab i) (sinTab i) l
      = if h : l.val < 64 then turn r (i - 112) ⟨l.val, h⟩ else 0 := by
  have e1 : (fun k : Fin 128 => if h : k.val < 64 then r ⟨k.val, h⟩ else 0)
      = fun k : Fin 128 => if h : k.val < 64 then shared r ⟨128 + k.val, by omega⟩ else 0 := by
    funext k
    by_cases hk : k.val < 64
    · rw [dif_pos hk, dif_pos hk]
      exact (shared_eq r ⟨128 + k.val, by omega⟩ ⟨k.val, hk⟩ rfl).symm
    · rw [dif_neg hk, dif_neg hk]
  rw [e1, rot_fwd (shared r) h hi l]
  by_cases hl : l.val < 64
  · rw [dif_pos hl, dif_pos hl]
    unfold turn
    by_cases h2 : l.val < 32
    · rw [fwd_mid _ _ ⟨128 + l.val, by omega⟩ (by show ¬(128 + l.val < 128); omega) (by show 128 + l.val < 160; omega), dif_pos h2,
        shared_eq r ⟨128 + l.val, by omega⟩ ⟨l.val, hl⟩ rfl,
        shared_eq r _ ⟨32 + l.val, by omega⟩ (by show 128 + l.val + 32 = 128 + (32 + l.val); omega)]
      have e2 : (⟨128 + l.val - 128, by omega⟩ : Fin 32) = ⟨l.val, h2⟩ := Fin.ext (by show 128 + l.val - 128 = l.val; omega)
      simp only [e2]
    · rw [fwd_hi _ _ ⟨128 + l.val, by omega⟩ (by show ¬(128 + l.val < 128); omega) (by show ¬(128 + l.val < 160); omega), dif_neg h2,
        shared_eq r ⟨128 + l.val, by omega⟩ ⟨32 + (l.val - 32), by omega⟩ (by show 128 + l.val = 128 + (32 + (l.val - 32)); omega),
        shared_eq r _ ⟨l.val - 32, by omega⟩ (by show 128 + l.val - 32 = 128 + (l.val - 32); omega)]
      have e2 : (⟨128 + l.val - 160, by omega⟩ : Fin 32) = ⟨l.val - 32, by omega⟩ := Fin.ext (by show 128 + l.val - 160 = l.val - 32; omega)
      simp only [e2]
  · rw [dif_neg hl, dif_neg hl]

/-- A head's 192 columns: its own 128 of the product, then the shared key. -/
def joint (v : Fin 2048 → EReal) (r : Fin 64 → EReal) (h : Fin 8) (l : Fin 192) : EReal :=
  if h1 : l.val < 128 then v ⟨h.val * 256 + l.val, by omega⟩ else r ⟨l.val - 128, by omega⟩

/-- The widened heads as a host program states them. -/
theorem wide_joint (v : Fin 2048 → EReal) (r : Fin 64 → EReal) (n : Fin 2048) :
    (if h : n.val / 256 < 8 ∧ n.val % 256 < 192 then
      if h1 : n.val % 256 < 128 then v n else r ⟨n.val % 256 - 128, by omega⟩
    else FloatOps.sitofp (F := Ideal) FTy.f32 0#32) = wide (heads (joint v r)) n := by
  have hn := n.isLt
  rw [wide_heads]
  by_cases h0 : n.val % 256 < 192
  · rw [dif_pos ⟨by omega, h0⟩, dif_pos h0]
    unfold joint
    by_cases h1 : n.val % 256 < 128
    · rw [dif_pos h1, dif_pos h1]
      exact congrArg v (Fin.ext (by show n.val = n.val / 256 * 256 + n.val % 256; omega))
    · rw [dif_neg h1, dif_neg h1]
  · rw [dif_neg (fun h => h0 h.2), dif_neg h0, zero_f32]

/-- The kernel's row of keys is those. -/
theorem key_row (v : Fin 2048 → EReal) (r : Fin 64 → EReal) {i : ℕ} (h : 112 ≤ i) (hi : i < 4224) (n : Fin 2048) :
    (if n.val / 128 % 2 = 0 then v n
      else rot (fun k => if h : k.val < 64 then r ⟨k.val, h⟩ else 0) (cosTab i) (sinTab i) ⟨n.val % 128, Nat.mod_lt _ (by omega)⟩)
      = wide (heads (joint v (turn r (i - 112)))) n := by
  have hn := n.isLt
  rw [wide_heads]
  by_cases h2 : n.val / 128 % 2 = 0
  · rw [if_pos h2, dif_pos (by omega : n.val % 256 < 192)]
    unfold joint
    rw [dif_pos (by show n.val % 256 < 128; omega)]
    exact congrArg v (Fin.ext (by show n.val = n.val / 256 * 256 + n.val % 256; omega))
  · rw [if_neg h2, rot_turn r h hi]
    by_cases h3 : n.val % 128 < 64
    · rw [dif_pos h3, dif_pos (by omega : n.val % 256 < 192)]
      unfold joint
      rw [dif_neg (by show ¬(n.val % 256 < 128); omega)]
      exact congrArg (turn r (i - 112)) (Fin.ext (by show n.val % 128 = n.val % 256 - 128; omega))
    · rw [dif_neg h3, dif_neg (by omega : ¬n.val % 256 < 192)]

end Cert.Rope

end
-- ==== Proof.KvFwdKernel.lean ====
/- What the arrays of the `a_kv_proj` call end holding, index by index, as functions of the arguments. -/
module

public import proofs.«01_k».proof.Proof.Rows
public import proofs.«01_k».proof.Proof.KeyRows
public import proofs.«01_k».proof.Proof.Pieces
public import proofs.«01_k».proof.Proof.Gen.KvFwdIdeal.Value
public import Idealize.ShloMosaic.Lib.Pipeline.ValueKit
public import Idealize.ShloMosaic.Lib.Claim

@[expose] public section

set_option maxRecDepth 16384
set_option maxHeartbeats 1000000

noncomputable section

open Idealize.ShloMosaic Idealize.ShloMosaic.TcCoe Idealize.SL.Sem
open Idealize.ShloMosaic.Pipeline (Dat)
open scoped BigOperators

namespace Cert.KvFwdIdeal.Value

open Cert.KvFwdIdeal Cert.KvFwdIdeal.Gen

variable (m : (ℓ : Loc nD τ sig) → Buf (Elt Ideal) ℓ)

/-- The blocks a point sees: its 384 rows, and the gain and the weights whole. -/
theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-! ## The product's columns, and the shared key rotated -/

/-- The entries of the norm's mean and the number added to the mean square. -/
abbrev nn : EReal := Ideal.ofBits .f32 0x43800000#32
abbrev ee : EReal := Ideal.ofBits .f32 0x358637BD#32

theorem y_blk (x : Vec Ideal S384x256 .f32) (g : Vec Ideal S1x256 .f32) (w : Vec Ideal S256x2048 .bf16) (i : Fin 384) (n : Fin 2048) :
    k0_pay1 x g w (ix2 i n) = ∑ k, (x (ix2 i k) * Cert.Rows.rinv nn ee (fun k => x (ix2 i k)) * g (ix2 0 k)) * w (ix2 k n) := by
  pointwise [k0_pay1, Cert.Rows.rinv]

/-- Piece `p` of the product's columns. -/
def cols (v : FVec Ideal S384x2048 .f32) (p : Fin 16) : FVec Ideal S384x128 .bf16 := fun y => v (ix2 (y 0) ⟨128 * p.val + (y 1).val, by
  have : (y 1).val < 128 := (y 1).isLt
  omega⟩)

/-- The rotated key every head shares. -/
def key (d c s : FVec Ideal S384x128 .f32) : FVec Ideal S384x128 .bf16 := fun y =>
  Cert.Rope.rot (fun l => d (ix2 (y 0) l)) (fun l => c (ix2 (y 0) l)) (fun l => s (ix2 (y 0) l)) (y 1)

theorem pay_key (d c s : Vec Ideal S384x128 .f32) : k0_pay2 d c s = key d c s := by
  funext y
  idx_vars y
  refine Eq.trans ?_ (Cert.Rope.rot_eq (fun l => d (ix2 y0 l)) (fun l => c (ix2 y0 l)) (fun l => s (ix2 y0 l)) y1)
  pointwise [k0_pay2]

/-- The payloads of the keys' own columns, then those of the values. -/
theorem pay_0 (x : Vec Ideal S384x256 .f32) (g : Vec Ideal S1x256 .f32) (w : Vec Ideal S256x2048 .bf16) : k0_pay3 x g w = cols (k0_pay1 x g w) 0 := by
  funext y
  idx_vars y
  pointwise [k0_pay3, k0_pay1, cols]

theorem pay_2 (v : FVec Ideal S384x2048 .f32) : k0_pay5 v = cols v 2 := by
  funext y
  idx_vars y
  pointwise [k0_pay5, cols]

theorem pay_4 (v : FVec Ideal S384x2048 .f32) : k0_pay7 v = cols v 4 := by
  funext y
  idx_vars y
  pointwise [k0_pay7, cols]

theorem pay_6 (v : FVec Ideal S384x2048 .f32) : k0_pay9 v = cols v 6 := by
  funext y
  idx_vars y
  pointwise [k0_pay9, cols]

theorem pay_8 (v : FVec Ideal S384x2048 .f32) : k0_pay12 (k0_pay11 v) = cols v 8 := by
  funext y
  idx_vars y
  pointwise [k0_pay12, k0_pay11, cols]

theorem pay_10 (v : FVec Ideal S384x2048 .f32) : k0_pay14 v = cols v 10 := by
  funext y
  idx_vars y
  pointwise [k0_pay14, cols]

theorem pay_12 (v : FVec Ideal S384x2048 .f32) : k0_pay16 v = cols v 12 := by
  funext y
  idx_vars y
  pointwise [k0_pay16, cols]

theorem pay_14 (v : FVec Ideal S384x2048 .f32) : k0_pay18 v = cols v 14 := by
  funext y
  idx_vars y
  pointwise [k0_pay18, cols]

theorem pay_1 (v : FVec Ideal S384x2048 .f32) : k0_pay4 v = cols v 1 := by
  funext y
  idx_vars y
  pointwise [k0_pay4, cols]

theorem pay_3 (v : FVec Ideal S384x2048 .f32) : k0_pay6 v = cols v 3 := by
  funext y
  idx_vars y
  pointwise [k0_pay6, cols]

theorem pay_5 (v : FVec Ideal S384x2048 .f32) : k0_pay8 v = cols v 5 := by
  funext y
  idx_vars y
  pointwise [k0_pay8, cols]

theorem pay_7 (v : FVec Ideal S384x2048 .f32) : k0_pay10 v = cols v 7 := by
  funext y
  idx_vars y
  pointwise [k0_pay10, cols]

theorem pay_9 (v : FVec Ideal S384x2048 .f32) : k0_pay13 v = cols v 9 := by
  funext y
  idx_vars y
  pointwise [k0_pay13, cols]

theorem pay_11 (v : FVec Ideal S384x2048 .f32) : k0_pay15 v = cols v 11 := by
  funext y
  idx_vars y
  pointwise [k0_pay15, cols]

theorem pay_13 (v : FVec Ideal S384x2048 .f32) : k0_pay17 v = cols v 13 := by
  funext y
  idx_vars y
  pointwise [k0_pay17, cols]

theorem pay_15 (v : FVec Ideal S384x2048 .f32) : k0_pay19 v = cols v 15 := by
  funext y
  idx_vars y
  pointwise [k0_pay19, cols]

/-- Piece `p` of the keys. -/
def piece (v : FVec Ideal S384x2048 .f32) (d c s : FVec Ideal S384x128 .f32) (p : Fin 16) : FVec Ideal S384x128 .bf16 :=
  if p.val % 2 = 0 then cols v p else key d c s

/-- The keys a point writes. -/
def keyBlk (v : FVec Ideal S384x2048 .f32) (d c s : FVec Ideal S384x128 .f32) : Vec Ideal S384x2048 .bf16 :=
  Cert.Pieces.all (Val := Elt Ideal) (e := .bf16) (piece v d c s)

theorem keyBlk_apply (v : FVec Ideal S384x2048 .f32) (d c s : FVec Ideal S384x128 .f32) (i : Fin 384) (n : Fin 2048) :
    keyBlk v d c s (ix2 i n) = if n.val / 128 % 2 = 0 then v (ix2 i n)
      else Cert.Rope.rot (fun l => d (ix2 i l)) (fun l => c (ix2 i l)) (fun l => s (ix2 i l)) ⟨n.val % 128, Nat.mod_lt _ (by omega)⟩ := by
  have hn := n.isLt
  show piece v d c s ⟨n.val / 128, by omega⟩ (ix2 i ⟨n.val % 128, Nat.mod_lt _ (by omega)⟩) = _
  unfold piece
  by_cases h : n.val / 128 % 2 = 0
  · refine (congrFun (if_pos h) _).trans (Eq.trans ?_ (if_pos h).symm)
    exact congrArg (fun k => v (ix2 i k)) (Fin.ext (by show 128 * (n.val / 128) + n.val % 128 = n.val; omega))
  · exact (congrFun (if_neg h) _).trans (if_neg h).symm

theorem inb (p : ℕ) (h : p < 8) : ∀ a, (![0, 128 * p] : Fin 2 → ℕ) a + (![384, 128] : Fin 2 → ℕ) a ≤ (⟨2, ![384, 1024]⟩ : Shape).size a := by
  intro a
  fin_cases a
  · show 0 + 384 ≤ 384; omega
  · show 128 * p + 128 ≤ 1024; omega

/-- The values' first `P` pieces, the newest in front. -/
def vals (f : Fin 8 → FVec Ideal S384x128 .bf16) : (P : ℕ) → P ≤ 8 → List (View.Piece (Elt Ideal) S384x1024 .bf16)
  | 0, _ => []
  | P + 1, h => ⟨Rect.unit (s := S384x1024) ![0, 128 * P] ![384, 128] (inb P h), f ⟨P, h⟩⟩ :: vals f P (Nat.le_of_succ_le h)

theorem canon_vals (f : Fin 8 → FVec Ideal S384x128 .bf16) (i : Fin 384) (k : Fin 1024) :
    ∀ (P : ℕ) (h : P ≤ 8), k.val < 128 * P →
      View.canon (vals f P h) (ix2 i k) = f ⟨k.val / 128, by omega⟩ (ix2 i ⟨k.val % 128, Nat.mod_lt _ (by omega)⟩)
  | 0, _, h0 => absurd h0 (by omega)
  | P + 1, h, h1 => by
    refine (Cert.Cols.canon_cons_cols (R := 384) (N := 1024) (A := 128) (Val := Elt Ideal) (e := .bf16) (128 * P) (inb P h) (f ⟨P, h⟩) _ i k).trans ?_
    by_cases hk : 128 * P ≤ k.val
    · rw [dif_pos ⟨hk, by omega⟩]
      have e1 : (⟨P, h⟩ : Fin 8) = ⟨k.val / 128, by omega⟩ := Fin.ext (by show P = k.val / 128; omega)
      have e2 : (⟨k.val - 128 * P, by omega⟩ : Fin 128) = ⟨k.val % 128, Nat.mod_lt _ (by omega)⟩ := Fin.ext (by show k.val - 128 * P = k.val % 128; omega)
      rw [e1, e2]
    · rw [dif_neg fun hh => hk hh.1]
      exact canon_vals f i k P _ (by omega)

/-- The column of the product that column `k` of the values is. -/
abbrev valCol (k : Fin 1024) : Fin 2048 := ⟨k.val / 128 * 256 + (128 + k.val % 128), by omega⟩

/-! ## The operands the host lines prepare -/

/-- The arguments as the body reads them: rows under the 112 rows of padding, the gain, the weights, and the shared key's rows
    widened by zeros. -/
def X (c : Dev nD) (i : Fin 4224) (k : Fin 256) : EReal :=
  Cert.Rows.pad 112 (by rfl : 112 + 4112 = 4224) (fun a b => m (c.tc.loc main_arg0) (ix2 a b)) i k
def G (c : Dev nD) (k : Fin 256) : EReal := m (c.tc.loc main_arg2) (ix2 0 k)
def W (c : Dev nD) (k : Fin 256) (n : Fin 2048) : EReal := m (c.tc.loc main_arg3) (ix3 0 k n)
def D (c : Dev nD) (i : Fin 4224) (l : Fin 128) : EReal :=
  Cert.Rows.pad 112 (by rfl : 112 + 4112 = 4224) (fun a (b : Fin 128) => if h : b.val < 64 then m (c.tc.loc main_arg1) (ix2 a ⟨b.val, h⟩) else 0) i l
/-- The product's entries. -/
def Y (c : Dev nD) (i : Fin 4224) (n : Fin 2048) : EReal :=
  ∑ k, (X m c i k * Cert.Rows.rinv nn ee (X m c i) * G m c k) * W m c k n

theorem V_v27 (c : Dev nD) (i : Fin 4224) (k : Fin 256) : V m c main_v27 (ix2 i k) = X m c i k := by
  simp only [V, List.flatten_cons, List.flatten_nil, List.cons_append, List.nil_append, List.append_nil]
  entry_read
  simp only [StableHlo.TRef.toBuf, StableHlo.TRef.ofBuf, StableHlo.TRef.of, cast_eq]
  pointwise
  exact Cert.Rows.pad_eq 112 (by rfl : 112 + 4112 = 4224) (fun a b => m (c.tc.loc main_arg0) (ix2 a b)) i k

theorem D_eq (r : Fin 4112 → Fin 64 → EReal) (i : Fin 4224) (l : Fin 128) :
    (if h : (112 ≤ i.val ∧ i.val - 112 < 4112) ∧ l.val < 64 then r ⟨i.val - 112, h.1.2⟩ ⟨l.val, h.2⟩ else FloatOps.sitofp (F := Ideal) FTy.f32 0#32)
      = Cert.Rows.pad 112 (by rfl : 112 + 4112 = 4224) (fun a (b : Fin 128) => if h : b.val < 64 then r a ⟨b.val, h⟩ else 0) i l := by
  have hi := i.isLt
  unfold Cert.Rows.pad
  simp only [Cert.Rope.zero_f32]
  split_ifs <;> first
    | rfl
    | omega

theorem V_v26 (c : Dev nD) (i : Fin 4224) (l : Fin 128) : V m c main_v26 (ix2 i l) = D m c i l := by
  simp only [V, List.flatten_cons, List.flatten_nil, List.cons_append, List.nil_append, List.append_nil]
  entry_read
  simp only [StableHlo.TRef.toBuf, StableHlo.TRef.ofBuf, StableHlo.TRef.of, cast_eq]
  pointwise
  exact D_eq (fun a b => m (c.tc.loc main_arg1) (ix2 a b)) i l

theorem V_v29 (c : Dev nD) (k : Fin 256) (n : Fin 2048) : V m c main_v29 (ix2 k n) = W m c k n := by
  simp only [V, List.flatten_cons, List.flatten_nil, List.cons_append, List.nil_append, List.append_nil]
  entry_read
  pointwise [W]

theorem V_v23 (c : Dev nD) (i : Fin 4224) (l : Fin 128) : V m c main_v23 (ix2 i l) = Cert.Rope.cosTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

theorem V_v25 (c : Dev nD) (i : Fin 4224) (l : Fin 128) : V m c main_v25 (ix2 i l) = Cert.Rope.sinTab i.val l := by
  simp only [V, List.flatten_cons, List.flatten_nil, List.cons_append, List.nil_append, List.append_nil]
  simp only [StableHlo.TRef.binary, StableHlo.TRef.unary, StableHlo.TRef.toBuf, StableHlo.TRef.ofBuf, cast_eq]
  after_results_simp
  dsimp only [Matrix.cons_val]
  after_results_simp
  pointwise
  rfl

/-! ## The blocks -/

/-- The array row that row `i` of point `t`'s blocks is. -/
abbrev rowAt (t : Fin cfg0.N) (i : Fin 384) : Fin 4224 := ⟨t.val * 384 + i.val, by have := lt_of_lt_of_eq t.isLt N_0; omega⟩

theorem in0 (c : Dev nD) (t : Fin cfg0.N) (i : Fin 384) (k : Fin 256) : iblk m c 0 t (ix2 i k) = X m c (rowAt t i) k := by
  rw [← V_v27]
  blk_simp [iblk, idx_val t]
  blk_ext [idx_val t]

theorem in1 (c : Dev nD) (t : Fin cfg0.N) (k : Fin 256) : iblk m c 1 t (ix2 0 k) = G m c k := by
  unfold G
  rw [← V_main_arg2 m c]
  blk_simp [iblk, idx_val t]
  blk_ext [idx_val t]

theorem in2 (c : Dev nD) (t : Fin cfg0.N) (i : Fin 256) (k : Fin 2048) : iblk m c 2 t (ix2 i k) = W m c i k := by
  rw [← V_v29]
  blk_simp [iblk, idx_val t]
  blk_ext [idx_val t]

theorem in3 (c : Dev nD) (t : Fin cfg0.N) (i : Fin 384) (k : Fin 128) : iblk m c 3 t (ix2 i k) = D m c (rowAt t i) k := by
  rw [← V_v26]
  blk_simp [iblk, idx_val t]
  blk_ext [idx_val t]

theorem in4 (c : Dev nD) (t : Fin cfg0.N) (i : Fin 384) (k : Fin 128) : iblk m c 4 t (ix2 i k) = Cert.Rope.cosTab (rowAt t i).val k := by
  rw [← V_v23 m c]
  blk_simp [iblk, idx_val t]
  blk_ext [idx_val t]

theorem in5 (c : Dev nD) (t : Fin cfg0.N) (i : Fin 384) (k : Fin 128) : iblk m c 5 t (ix2 i k) = Cert.Rope.sinTab (rowAt t i).val k := by
  rw [← V_v25 m c]
  blk_simp [iblk, idx_val t]
  blk_ext [idx_val t]

/-- The product's block of a point. -/
abbrev prod (c : Dev nD) (t : Fin cfg0.N) : FVec Ideal S384x2048 .f32 := k0_pay1 (iblk m c 0 t) (iblk m c 1 t) (iblk m c 2 t)

theorem inY (c : Dev nD) (t : Fin cfg0.N) (i : Fin 384) (n : Fin 2048) : prod m c t (ix2 i n) = Y m c (rowAt t i) n := by
  unfold prod
  rw [y_blk]
  simp only [in0, in1, in2]
  rfl

/-! ## What a point leaves -/

theorem left6 (c : Dev nD) (t : Fin cfg0.N) :
    out0_6 (iblk m c 0 t) (iblk m c 1 t) (iblk m c 2 t) (iblk m c 3 t) (iblk m c 4 t) (iblk m c 5 t)
      = keyBlk (prod m c t) (iblk m c 3 t) (iblk m c 4 t) (iblk m c 5 t) := by
  unfold_out out0_6
  frame_out
  rw [pay_14, pay_12, pay_10, pay_8, pay_6, pay_4, pay_2, pay_0, pay_key]
  funext y
  idx_vars y
  exact Cert.Pieces.canon_cols (Val := Elt Ideal) (e := .bf16)
    (piece (prod m c t) (iblk m c 3 t) (iblk m c 4 t) (iblk m c 5 t)) y0 y1 16 le_rfl (by have := y1.isLt; omega)

theorem left7 (c : Dev nD) (t : Fin cfg0.N) (i : Fin 384) (k : Fin 1024) :
    out0_7 (iblk m c 0 t) (iblk m c 1 t) (iblk m c 2 t) (iblk m c 3 t) (iblk m c 4 t) (iblk m c 5 t) (ix2 i k) = prod m c t (ix2 i (valCol k)) := by
  have hk := k.isLt
  unfold_out out0_7
  frame_out
  rw [pay_15, pay_13, pay_11, pay_9, pay_7, pay_5, pay_3, pay_1]
  refine (canon_vals (fun h => cols (prod m c t) ⟨2 * h.val + 1, by omega⟩) i k 8 le_rfl (by omega)).trans ?_
  exact congrArg (fun k => prod m c t (ix2 i k)) (Fin.ext (by
    show 128 * (2 * (k.val / 128) + 1) + k.val % 128 = k.val / 128 * 256 + (128 + k.val % 128)
    omega))

/-! ## The arrays -/

/-- The keys and the values. -/
def keys (c : Dev nD) (i : Fin 4224) (n : Fin 2048) : EReal :=
  if n.val / 128 % 2 = 0 then Y m c i n
    else Cert.Rope.rot (D m c i) (Cert.Rope.cosTab i.val) (Cert.Rope.sinTab i.val) ⟨n.val % 128, Nat.mod_lt _ (by omega)⟩
def res6 (c : Dev nD) : FVec Ideal S4224x2048 .bf16 := fun y => keys m c (y 0) (y 1)
def res7 (c : Dev nD) : FVec Ideal S4224x1024 .bf16 := fun y => Y m c (y 0) (valCol (y 1))

theorem final_6 (c : Dev nD) : (dats m 0 c).arrAt 6 (cfgs 0).N = res6 m c := by
  refine (dats m 0 c).arrAt_eq_of_covers 6 _ (by decide +kernel) fun t hf y => ?_
  blk_simp; rw [after0_6, left6]
  idx_vars y
  rw [keyBlk_apply]
  simp only [inY, in3, in4, in5]
  refine Eq.trans ?_ (congrArg (res6 m c) (?_ : ix2 (rowAt t y0) y1 = _))
  · rfl
  · blk_ext [idx_val t]

theorem final_7 (c : Dev nD) : (dats m 0 c).arrAt 7 (cfgs 0).N = res7 m c := by
  refine (dats m 0 c).arrAt_eq_of_covers 7 _ (by decide +kernel) fun t hf y => ?_
  blk_simp; rw [after0_7]
  idx_vars y
  rw [left7, inY]
  refine Eq.trans ?_ (congrArg (res7 m c) (?_ : ix2 (rowAt t y0) y1 = _))
  · rfl
  · blk_ext [idx_val t]

end Cert.KvFwdIdeal.Value

end
-- ==== Proof.KvFwdRef.lean ====
/- What the reference's keys and values are, index by index, as functions of the arguments. -/
module

public import proofs.«01_k».proof.Proof.Rows
public import proofs.«01_k».proof.Proof.KeyRows
public import proofs.«01_k».proof.Proof.Gen.KvFwdRefIdeal.Run
public import Idealize.ShloMosaic.Lib.Pipeline.ValueKit

@[expose] public section

set_option maxRecDepth 16384
set_option maxHeartbeats 1000000

noncomputable section

open Idealize.ShloMosaic Idealize.ShloMosaic.TcCoe Idealize.SL.Sem
open scoped BigOperators

namespace Cert.KvFwdRefIdeal.Value

open Cert.KvFwdRefIdeal Cert.KvFwdRefIdeal.Gen

variable (m : (ℓ : Loc nD τ sig) → Buf (Elt Ideal) ℓ)

/-- The entries of the norm's mean, and the number added to the mean square. -/
abbrev nn : EReal := Ideal.ofBits .f32 0x43800000#32
abbrev ee : EReal := Ideal.ofBits .f32 0x358637BD#32

/-- The angles of every position. -/
def angVec : FVec Ideal S4112x32 .f32 := fun y => Cert.Rope.ang (y 0).val (y 1)

theorem ang_eq : mulf (broadcastInDim S4112x32 ![0, 1] bcast_S4112x1_S4112x32_0_1 (broadcastInDim S4112x1 ![0] bcast_S4112_S4112x1_0 (sitofp .f32 (iotaInDim S4112 32 0)))) (broadcastInDim S4112x32 ![0, 1] bcast_S1x32_S4112x32_0_1 (broadcastInDim S1x32 ![1] bcast_S32_S1x32_1 (Host.powf (broadcastInDim S32 ![] bcast_S_S32 (constant S_ .f32 0x461C4000#32)) (Host.divf (Host.negf (sitofp .f32 (addi (broadcastInDim S32 ![] bcast_S_S32 (constantI S_ 32 0#32)) (muli (broadcastInDim S32 ![] bcast_S_S32 (constantI S_ 32 2#32)) (iotaInDim S32 32 0))))) (broadcastInDim S32 ![] bcast_S_S32 (constant S_ .f32 0x42800000#32)))))) = angVec := by
  funext y
  idx_vars y
  pointwise [angVec]
  rfl

/-- The normed rows through the weights. -/
def yVec (x : FVec Ideal S4112x256 .f32) (g : FVec Ideal S1x256 .f32) (w : FVec Ideal S1x256x2048 .f32) : FVec Ideal S4112x2048 .f32 :=
  fun y => ∑ k : Fin 256, (x (ix2 (y 0) k) * Cert.Rows.rinv nn ee (fun k => x (ix2 (y 0) k)) * g (ix2 0 k)) * w (ix3 0 k (y 1))

theorem y_eq (x : FVec Ideal S4112x256 .f32) (g : FVec Ideal S1x256 .f32) (w : FVec Ideal S1x256x2048 .f32) :
    Host.dotGeneral (F := Ideal) (φ₁ := .f32) (φ₂ := .f32) dot_S4112x256_S256x2048_S4112x2048_1_0_0_1_n_n none (mulf (mulf x (broadcastInDim S4112x256 ![0, 1] bcast_S4112x1_S4112x256_0_1 (Host.rsqrt (addf (Host.divf (broadcastInDim S4112x1 ![0] bcast_S4112_S4112x1_0 (Host.reduceAdd (mulf x x) (constant S_ .f32 0x00000000#32) reducesTo_S4112x256_S4112_d1 h_S_)) (broadcastInDim S4112x1 ![] bcast_S_S4112x1 (constant S_ .f32 0x43800000#32))) (broadcastInDim S4112x1 ![] bcast_S_S4112x1 (constant S_ .f32 0x358637BD#32)))))) (broadcastInDim S4112x256 ![0, 1] bcast_S1x256_S4112x256_0_1 (broadcastInDim S1x256 ![1] bcast_S256_S1x256_1 (shapeCast _ g shapeCasts_S1x256_S256)))) (shapeCast _ w shapeCasts_S1x256x2048_S256x2048) = yVec x g w := by
  funext y
  idx_vars y
  pointwise [yVec, Cert.Rows.rinv]

/-- The shared key, rotated. -/
def turnVec (r : FVec Ideal S4112x64 .f32) : FVec Ideal S4112x64 .f32 := fun y => Cert.Rope.turn (fun l => r (ix2 (y 0) l)) (y 0).val (y 1)

theorem turn_eq (r : FVec Ideal S4112x64 .f32) : concatenate S4112x64 1 [⟨S4112x32, (subf (mulf (extractStridedSlice S4112x32 ![0, 0] r slices_S4112x64_S4112x32_0_0) (Host.cos angVec)) (mulf (extractStridedSlice S4112x32 ![0, 32] r slices_S4112x64_S4112x32_0_32) (Host.sin angVec)))⟩, ⟨S4112x32, (addf (mulf (extractStridedSlice S4112x32 ![0, 0] r slices_S4112x64_S4112x32_0_0) (Host.sin angVec)) (mulf (extractStridedSlice S4112x32 ![0, 32] r slices_S4112x64_S4112x32_0_32) (Host.cos angVec)))⟩] concatenates_S4112x32_S4112x32_S4112x64_d1 = turnVec r := by
  funext y
  idx_vars y
  pointwise [turnVec, Cert.Rope.turn, angVec]

/-- The keys, widened. -/
def outVec (v : FVec Ideal S4112x2048 .f32) (r : FVec Ideal S4112x64 .f32) : FVec Ideal S4112x2048 .f32 := fun y =>
  Cert.Rope.wide (Cert.Rope.heads (Cert.Rope.joint (fun n => v (ix2 (y 0) n)) fun l => r (ix2 (y 0) l))) (y 1)

theorem out_eq (v : FVec Ideal S4112x2048 .f32) (r : FVec Ideal S4112x64 .f32) : shapeCast S4112x2048 (pad S4112x8x256 ![0, 0, 0] ![0, 0, 64] ![0, 0, 0] (concatenate S4112x8x192 2 [⟨S4112x8x128, (extractStridedSlice S4112x8x128 ![0, 0, 0] (shapeCast S4112x8x256 v shapeCasts_S4112x2048_S4112x8x256) slices_S4112x8x256_S4112x8x128_0_0_0)⟩, ⟨S4112x8x64, (broadcastInDim S4112x8x64 ![0, 1, 2] bcast_S4112x1x64_S4112x8x64_0_1_2 (broadcastInDim S4112x1x64 ![0, 2] bcast_S4112x64_S4112x1x64_0_2 r))⟩] concatenates_S4112x8x128_S4112x8x64_S4112x8x192_d2) (sitofp FTy.f32 (constantI S_ 32 0#32)) pads_S4112x8x192_S4112x8x256_000_000_0640 h_S_) shapeCasts_S4112x8x256_S4112x2048 = outVec v r := by
  funext y
  idx_vars y
  refine Eq.trans ?_ (Cert.Rope.wide_joint (fun n => v (ix2 y0 n)) (fun l => r (ix2 y0 l)) y1)
  pointwise

/-- The values. -/
def valVec (v : FVec Ideal S4112x2048 .f32) : FVec Ideal S4112x1024 .f32 := fun y =>
  v (ix2 (y 0) ⟨(y 1).val / 128 * 256 + (128 + (y 1).val % 128), by have : (y 1).val < 1024 := (y 1).isLt; omega⟩)

theorem val_eq (v : FVec Ideal S4112x2048 .f32) : shapeCast S4112x1024 (extractStridedSlice S4112x8x128 ![0, 0, 128] (shapeCast S4112x8x256 v shapeCasts_S4112x2048_S4112x8x256) slices_S4112x8x256_S4112x8x128_0_0_128) shapeCasts_S4112x8x128_S4112x1024 = valVec v := by
  funext y
  idx_vars y
  pointwise [valVec]

/-- The two results. -/
def res0 (c : Dev nD) : FVec Ideal S4224x2048 .bf16 := fun y => Cert.Rows.pad 112 (by rfl : 112 + 4112 = 4224)
  (fun t n => outVec (yVec (m (c.tc.loc main_arg0)) (m (c.tc.loc main_arg2)) (m (c.tc.loc main_arg3))) (turnVec (m (c.tc.loc main_arg1))) (ix2 t n)) (y 0) (y 1)
def res1 (c : Dev nD) : FVec Ideal S4224x1024 .bf16 := fun y => Cert.Rows.pad 112 (by rfl : 112 + 4112 = 4224)
  (fun t n => valVec (yVec (m (c.tc.loc main_arg0)) (m (c.tc.loc main_arg2)) (m (c.tc.loc main_arg3))) (ix2 t n)) (y 0) (y 1)

theorem res0_eq (c : Dev nD) : res_main_v54 m c = res0 m c := by
  unfold res_main_v54
  rw [ang_eq, y_eq, turn_eq, out_eq]
  funext y
  idx_vars y
  refine Eq.trans ?_ (Cert.Rows.pad_eq 112 (by rfl : 112 + 4112 = 4224) _ y0 y1)
  pointwise

theorem res1_eq (c : Dev nD) :
    truncf .bf16 (pad S4224x1024 ![112, 0] ![0, 0] ![0, 0] (shapeCast _ (extractStridedSlice S4112x8x128 ![0, 0, 128] (shapeCast _ (Host.dotGeneral (F := Ideal) (φ₁ := .f32) (φ₂ := .f32) dot_S4112x256_S256x2048_S4112x2048_1_0_0_1_n_n none (mulf (mulf (m ((c.tc : Thread nD τ).loc main_arg0)) (broadcastInDim S4112x256 ![0, 1] bcast_S4112x1_S4112x256_0_1 (Host.rsqrt (addf (Host.divf (broadcastInDim S4112x1 ![0] bcast_S4112_S4112x1_0 (Host.reduceAdd (mulf (m ((c.tc : Thread nD τ).loc main_arg0)) (m ((c.tc : Thread nD τ).loc main_arg0))) (constant S_ .f32 0x00000000#32) reducesTo_S4112x256_S4112_d1 h_S_)) (broadcastInDim S4112x1 ![] bcast_S_S4112x1 (constant S_ .f32 0x43800000#32))) (broadcastInDim S4112x1 ![] bcast_S_S4112x1 (constant S_ .f32 0x358637BD#32)))))) (broadcastInDim S4112x256 ![0, 1] bcast_S1x256_S4112x256_0_1 (broadcastInDim S1x256 ![1] bcast_S256_S1x256_1 (shapeCast _ (m ((c.tc : Thread nD τ).loc main_arg2)) shapeCasts_S1x256_S256)))) (shapeCast _ (m ((c.tc : Thread nD τ).loc main_arg3)) shapeCasts_S1x256x2048_S256x2048)) shapeCasts_S4112x2048_S4112x8x256) slices_S4112x8x256_S4112x8x128_0_0_128) shapeCasts_S4112x8x128_S4112x1024) (sitofp .f32 (constantI S_ 32 0#32)) pads_S4112x1024_S4224x1024_11200_000 h_S_) bitsLt_bf16_f32
      = res1 m c := by
  rw [y_eq, val_eq]
  funext y
  idx_vars y
  refine Eq.trans ?_ (Cert.Rows.pad_eq 112 (by rfl : 112 + 4112 = 4224) _ y0 y1)
  pointwise

theorem run_res (ρ : Dev nD → PrngReg) :
    θ_run defs (onTc (τ := τ) (main (F := Ideal))) ⟨m, fun _ => 0, ρ⟩ fun r => ∀ c : Dev nD,
      r.2.mem ((c.tc : Thread nD τ).loc main_v54) = res0 m c
      ∧ r.2.mem ((c.tc : Thread nD τ).loc main_v57) = res1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res0_eq m c), (h c).2.1.trans (res1_eq m c), (h c).2.2⟩) (run m ρ)

end Cert.KvFwdRefIdeal.Value

end
-- ==== Proof.KvFwdEq.lean ====
/- The forward call of the keys' and values' projection: the kernel's two results are the reference's, whatever the arguments. -/
module

public import proofs.«01_k».proof.Proof.KvFwdKernel
public import proofs.«01_k».proof.Proof.KvFwdRef
public import proofs.«01_k».proof.Defs

@[expose] public section

set_option maxRecDepth 16384
set_option maxHeartbeats 1000000

noncomputable section

open Idealize.ShloMosaic Idealize.ShloMosaic.TcCoe Idealize.SL.Sem
open scoped BigOperators

namespace Cert.KvFwdEq

variable (m : (ℓ : Loc Cert.KvFwdIdeal.nD Cert.KvFwdIdeal.τ Cert.KvFwdIdeal.sig) → Buf (Elt Ideal) ℓ)
  (m' : (ℓ : Loc Cert.KvFwdRefIdeal.nD Cert.KvFwdRefIdeal.τ Cert.KvFwdRefIdeal.sig) → Buf (Elt Ideal) ℓ)
  (c : Dev Cert.KvFwdIdeal.nD)

/-- The two memories hold the same arguments. -/
def Same : Prop :=
  m' (c.tc.loc Cert.KvFwdRefIdeal.main_arg0) = m (c.tc.loc Cert.KvFwdIdeal.main_arg0)
  ∧ m' (c.tc.loc Cert.KvFwdRefIdeal.main_arg1) = m (c.tc.loc Cert.KvFwdIdeal.main_arg1)
  ∧ m' (c.tc.loc Cert.KvFwdRefIdeal.main_arg2) = m (c.tc.loc Cert.KvFwdIdeal.main_arg2)
  ∧ m' (c.tc.loc Cert.KvFwdRefIdeal.main_arg3) = m (c.tc.loc Cert.KvFwdIdeal.main_arg3)

/-- The product's rows, of the kernel's arguments, before the padding. -/
def y0 (t : Fin 4112) (n : Fin 2048) : EReal := KvFwdRefIdeal.Value.yVec (m (c.tc.loc Cert.KvFwdIdeal.main_arg0))
  (m (c.tc.loc Cert.KvFwdIdeal.main_arg2)) (m (c.tc.loc Cert.KvFwdIdeal.main_arg3)) (ValueIdx.ix2 t n)

theorem Y_lo (i : Fin 4224) (h : i.val < 112) (n : Fin 2048) : KvFwdIdeal.Value.Y m c i n = 0 := by
  have hx : KvFwdIdeal.Value.X m c i = fun _ => 0 := funext fun k => Cert.Rows.pad_lo (by rfl : 112 + 4112 = 4224) h k
  unfold KvFwdIdeal.Value.Y
  rw [hx]
  exact Finset.sum_eq_zero fun k _ => by rw [zero_mul, zero_mul, zero_mul]

theorem Y_hi (t : Fin 4112) (h : 112 + t.val < 4224) (n : Fin 2048) : KvFwdIdeal.Value.Y m c ⟨112 + t.val, h⟩ n = y0 m c t n := by
  have hx : KvFwdIdeal.Value.X m c ⟨112 + t.val, h⟩ = fun k => m (c.tc.loc Cert.KvFwdIdeal.main_arg0) (ValueIdx.ix2 t k) :=
    funext fun k => Cert.Rows.pad_hi (by rfl : 112 + 4112 = 4224) _ t h k
  unfold KvFwdIdeal.Value.Y
  rw [hx]
  rfl

theorem D_lo (i : Fin 4224) (h : i.val < 112) : KvFwdIdeal.Value.D m c i = fun _ => 0 :=
  funext fun k => Cert.Rows.pad_lo (by rfl : 112 + 4112 = 4224) h k

theorem D_hi (t : Fin 4112) (h : 112 + t.val < 4224) : KvFwdIdeal.Value.D m c ⟨112 + t.val, h⟩
    = (fun k => if h : k.val < 64 then m (c.tc.loc Cert.KvFwdIdeal.main_arg1) (ValueIdx.ix2 t ⟨k.val, h⟩) else 0 : Fin 128 → EReal) :=
  funext fun k => Cert.Rows.pad_hi (by rfl : 112 + 4112 = 4224) _ t h k

variable (hs : Same m m' c)
include hs

theorem keys_eq (i : Fin 4224) (n : Fin 2048) : KvFwdIdeal.Value.keys m c i n = Cert.Rows.pad 112 (by rfl : 112 + 4112 = 4224)
    (fun t n => KvFwdRefIdeal.Value.outVec (KvFwdRefIdeal.Value.yVec (m' (c.tc.loc Cert.KvFwdRefIdeal.main_arg0))
      (m' (c.tc.loc Cert.KvFwdRefIdeal.main_arg2)) (m' (c.tc.loc Cert.KvFwdRefIdeal.main_arg3)))
      (KvFwdRefIdeal.Value.turnVec (m' (c.tc.loc Cert.KvFwdRefIdeal.main_arg1))) (ValueIdx.ix2 t n)) i n := by
  rw [hs.1, hs.2.1, hs.2.2.1, hs.2.2.2]
  unfold KvFwdIdeal.Value.keys
  rcases Cert.Rows.row_cases (by rfl : 112 + 4112 = 4224) i with h | ⟨t, h, rfl⟩
  · rw [Cert.Rows.pad_lo (by rfl : 112 + 4112 = 4224) h, Y_lo m c i h, D_lo m c i h, Cert.Rope.rot_zero, ite_self]
  · rw [Cert.Rows.pad_hi, Y_hi, D_hi]
    refine (Cert.Rope.key_row (y0 m c t) (fun l => m (c.tc.loc Cert.KvFwdIdeal.main_arg1) (ValueIdx.ix2 t l)) (by omega : 112 ≤ 112 + t.val) h n).trans ?_
    rw [show 112 + t.val - 112 = t.val by omega]
    rfl

theorem vals_eq (i : Fin 4224) (k : Fin 1024) : KvFwdIdeal.Value.Y m c i (KvFwdIdeal.Value.valCol k) = Cert.Rows.pad 112 (by rfl : 112 + 4112 = 4224)
    (fun t k => KvFwdRefIdeal.Value.valVec (KvFwdRefIdeal.Value.yVec (m' (c.tc.loc Cert.KvFwdRefIdeal.main_arg0))
      (m' (c.tc.loc Cert.KvFwdRefIdeal.main_arg2)) (m' (c.tc.loc Cert.KvFwdRefIdeal.main_arg3))) (ValueIdx.ix2 t k)) i k := by
  rw [hs.1, hs.2.2.1, hs.2.2.2]
  rcases Cert.Rows.row_cases (by rfl : 112 + 4112 = 4224) i with h | ⟨t, h, rfl⟩
  · rw [Cert.Rows.pad_lo (by rfl : 112 + 4112 = 4224) h, Y_lo m c i h]
  · rw [Cert.Rows.pad_hi, Y_hi]
    rfl

theorem res0_eq : KvFwdIdeal.Value.res6 m c = KvFwdRefIdeal.Value.res0 m' c :=
  funext fun y => keys_eq m m' c hs (y 0) (y 1)

theorem res1_eq : KvFwdIdeal.Value.res7 m c = KvFwdRefIdeal.Value.res1 m' c :=
  funext fun y => vals_eq m m' c hs (y 0) (y 1)

end Cert.KvFwdEq

end
-- ==== Proof.lean ====
/- The claims, put together: each call's frames come from the generated run, its values from the call's own modules
   (what the kernel's arrays hold, what the reference computes, and that the two are equal). -/
module

public import proofs.«01_k».proof.Defs
public import proofs.«01_k».proof.Proof.Gen.BInIdeal.Value
public import proofs.«01_k».proof.Proof.Gen.BInRefIdeal.Run
public import proofs.«01_k».proof.Proof.Gen.BIn
public import proofs.«01_k».proof.Proof.Gen.BIn.Skeleton
public import proofs.«01_k».proof.Proof.Gen.BIn.Launch
public import proofs.«01_k».proof.Proof.Gen.BIn.Points
public import proofs.«01_k».proof.Proof.Gen.BIn.Frame
public import proofs.«01_k».proof.Proof.Gen.BInIdeal
public import proofs.«01_k».proof.Proof.Gen.BInIdeal.Skeleton
public import proofs.«01_k».proof.Proof.Gen.BInIdeal.Launch
public import proofs.«01_k».proof.Proof.Gen.BInIdeal.Points
public import proofs.«01_k».proof.Proof.Gen.BInIdeal.Frame
public import proofs.«01_k».proof.Proof.Gen.BInRefIdeal
public import proofs.«01_k».proof.Proof.Gen.Flash.Frame
public import proofs.«01_k».proof.Proof.Gen.FlashIdeal.Frame
public import proofs.«01_k».proof.Proof.Gen.FlashRefIdeal.Run
public import proofs.«01_k».proof.Proof.Gen.Gated.Frame
public import proofs.«01_k».proof.Proof.Gen.GatedIdeal.Frame
public import proofs.«01_k».proof.Proof.Gen.GatedIdeal.Value
public import proofs.«01_k».proof.Proof.Gen.GatedRefIdeal.Run
public import proofs.«01_k».proof.Proof.Gen.QProj.Frame
public import proofs.«01_k».proof.Proof.Gen.QProjIdeal.Frame
public import proofs.«01_k».proof.Proof.Gen.QProjIdeal.Value
public import proofs.«01_k».proof.Proof.Gen.QProjRefIdeal.Run
public import proofs.«01_k».proof.Proof.Gen.KvProj.Frame
public import proofs.«01_k».proof.Proof.Gen.KvProjIdeal.Frame
public import proofs.«01_k».proof.Proof.Gen.KvProjIdeal.Value
public import proofs.«01_k».proof.Proof.Gen.KvProjRefIdeal.Run
public import proofs.«01_k».proof.Proof.Gen.AIn.Frame
public import proofs.«01_k».proof.Proof.Gen.AInIdeal.Frame
public import proofs.«01_k».proof.Proof.Gen.AInIdeal.Value
public import proofs.«01_k».proof.Proof.Gen.AInRefIdeal.Run
public import proofs.«01_k».proof.Proof.Gen.OutLoss.Frame
public import proofs.«01_k».proof.Proof.Gen.OutLossIdeal.Frame
public import proofs.«01_k».proof.Proof.Gen.OutLossIdeal.Value
public import proofs.«01_k».proof.Proof.Gen.OutLossRefIdeal.Run
public import proofs.«01_k».proof.Proof.Gen.OutIn.Frame
public import proofs.«01_k».proof.Proof.Gen.OutInIdeal.Frame
public import proofs.«01_k».proof.Proof.Gen.OutInIdeal.Value
public import proofs.«01_k».proof.Proof.Gen.OutInRefIdeal.Run
public import proofs.«01_k».proof.Proof.Gen.QFwd.Frame
public import proofs.«01_k».proof.Proof.Gen.QFwdIdeal.Frame
public import proofs.«01_k».proof.Proof.Gen.QFwdIdeal.Value
public import proofs.«01_k».proof.Proof.Gen.QFwdRefIdeal.Run
public import proofs.«01_k».proof.Proof.Gen.KvFwd.Frame
public import proofs.«01_k».proof.Proof.Gen.KvFwdIdeal.Frame
public import proofs.«01_k».proof.Proof.Gen.KvFwdIdeal.Value
public import proofs.«01_k».proof.Proof.Gen.KvFwdRefIdeal.Run
public import proofs.«01_k».proof.Proof.BInEq
public import proofs.«01_k».proof.Proof.FlashEq
public import proofs.«01_k».proof.Proof.GatedEq
public import proofs.«01_k».proof.Proof.QProjEq
public import proofs.«01_k».proof.Proof.KvProjEq
public import proofs.«01_k».proof.Proof.AInEq
public import proofs.«01_k».proof.Proof.OutLossEq
public import proofs.«01_k».proof.Proof.OutInEq
public import proofs.«01_k».proof.Proof.QFwdEq
public import proofs.«01_k».proof.Proof.KvFwdEq
public import Idealize.ShloMosaic.Lib.Quiescent
public import Idealize.ShloMosaic.Adequacy
public import Idealize.ShloMosaic.Init

@[expose] public section

noncomputable section

namespace Cert.Proof

open Idealize.ShloMosaic Idealize.SL.Sem

instance : Cert.Pre_finite_args.Facts := Cert.BInEq.pre_facts

/-- The recurrent block's input projection, backward: the kernel's three results are the derivative's. -/
theorem b_in : Cert.algebraic_BInIdeal_BInRefIdeal_pre_finite_args := by
  intro m g m' g' hp hs
  refine ⟨fun c => Cert.BInIdeal.Value.res6 m c, fun c => Cert.BInIdeal.Value.res7 m c, fun c => Cert.BInIdeal.Value.res8 m c, ?_, ?_⟩
  · exact (θ_run Cert.BInIdeal.defs _ _).mono (fun _ h c => ⟨(h c).1.trans (Cert.BInIdeal.Value.final_6 m c),
      (h c).2.1.trans (Cert.BInIdeal.Value.final_7 m c), (h c).2.2.1.trans (Cert.BInIdeal.Value.final_8 m c), (h c).2.2.2⟩)
      (Cert.BInIdeal.Value.run_blocks m g)
  · exact (θ_run Cert.BInRefIdeal.defs _ _).mono (fun _ h c => ⟨(h c).1.trans (Cert.BInEq.res0_eq m m' c (hs c) hp).symm,
      (h c).2.1.trans (Cert.BInEq.res1_eq m m' c (hs c)).symm, (h c).2.2.1.trans (Cert.BInEq.res2_eq m m' c (hs c)).symm, (h c).2.2.2⟩)
      (Cert.BInRefIdeal.Value.run_res m' g')

/-- The reference runs. -/
theorem b_in_ref_frame : Cert.quiescent_BInRefIdeal := fun m g _ =>
  (θ_run Cert.BInRefIdeal.defs _ _).mono (fun _ h => ⟨fun c => (h c).2.2.2, sem_eq_zero_of_no_sems rfl _⟩) (Cert.BInRefIdeal.Value.run_res m g)

instance : Cert.Pre_finite_flash.Facts := Cert.FlashEq.pre_facts

/-- The attention, backward: the kernel's three results are the derivative's. -/
theorem flash : Cert.algebraic_FlashIdeal_FlashRefIdeal_pre_finite_flash := by
  intro m g m' g' hp hs
  refine ⟨fun c => Cert.FlashIdeal.Value.out0 m c, fun c => Cert.FlashIdeal.Value.out1 m c, fun c => Cert.FlashIdeal.Value.out2 m c, Cert.FlashIdeal.Value.run_res m g, ?_⟩
  exact (θ_run Cert.FlashRefIdeal.defs _ _).mono (fun _ h c => ⟨(h c).1.trans (Cert.FlashEq.out0_eq m m' c (hs c) hp).symm,
    (h c).2.1.trans (Cert.FlashEq.out1_eq m m' c (hs c) hp).symm, (h c).2.2.1.trans (Cert.FlashEq.out2_eq m m' c (hs c) hp).symm, (h c).2.2.2⟩)
    (Cert.FlashRefIdeal.Value.run_res m' g')

/-- The reference runs. -/
theorem flash_ref_frame : Cert.quiescent_FlashRefIdeal := fun m g _ =>
  (θ_run Cert.FlashRefIdeal.defs _ _).mono (fun _ h => ⟨fun c => (h c).2.2.2, sem_eq_zero_of_no_sems rfl _⟩) (Cert.FlashRefIdeal.Value.run_res m g)

/-- The two named scales are the constants the kernel writes. -/
theorem flash_preserves : Cert.preserves_Flash_FlashIdeal :=
  ⟨IdealRules.named_const.statement _ _ _ _ _ rfl, IdealRules.named_const.statement _ _ _ _ _ rfl⟩

instance : Cert.Pre_finite_gated.Facts := Cert.GatedEq.pre_facts

/-- The attention's gated output projection, backward: the kernel's four results are the derivative's. -/
theorem gated : Cert.algebraic_GatedIdeal_GatedRefIdeal_pre_finite_gated := by
  intro m g m' g' hp hs
  refine ⟨fun c => Cert.GatedIdeal.Value.res4 m c, fun c => Cert.GatedIdeal.Value.res5 m c, fun c => Cert.GatedIdeal.Value.res6 m c, fun c => Cert.GatedIdeal.Value.res7 m c, ?_, ?_⟩
  · exact (θ_run Cert.GatedIdeal.defs _ _).mono (fun _ h c => ⟨(h c).1.trans (Cert.GatedIdeal.Value.final_4 m c),
      (h c).2.1.trans (Cert.GatedIdeal.Value.final_5 m c),
      (h c).2.2.1.trans (Cert.GatedIdeal.Value.final_6 m c),
      (h c).2.2.2.1.trans (Cert.GatedIdeal.Value.final_7 m c), (h c).2.2.2.2⟩)
      (Cert.GatedIdeal.Value.run_blocks m g)
  · exact (θ_run Cert.GatedRefIdeal.defs _ _).mono (fun _ h c => ⟨(h c).1.trans (Cert.GatedEq.res4_eq m m' c (hs c)).symm,
      (h c).2.1.trans (Cert.GatedEq.res5_eq m m' c (hs c) hp).symm,
      (h c).2.2.1.trans (Cert.GatedEq.res6_eq m m' c (hs c)).symm,
      (h c).2.2.2.1.trans (Cert.GatedEq.res7_eq m m' c (hs c)).symm, (h c).2.2.2.2⟩)
      (Cert.GatedRefIdeal.Value.run_res m' g')

/-- The reference runs. -/
theorem gated_ref_frame : Cert.quiescent_GatedRefIdeal := fun m g _ =>
  (θ_run Cert.GatedRefIdeal.defs _ _).mono (fun _ h => ⟨fun c => (h c).2.2.2.2, sem_eq_zero_of_no_sems rfl _⟩) (Cert.GatedRefIdeal.Value.run_res m g)

instance : Cert.Pre_finite_q.Facts := Cert.QProjEq.pre_facts

/-- The queries' projection, backward: the kernel's three results are the derivative's. -/
theorem q_proj : Cert.algebraic_QProjIdeal_QProjRefIdeal_pre_finite_q := by
  intro m g m' g' hp hs
  refine ⟨fun c => Cert.QProjIdeal.Value.res6 m c, fun c => Cert.QProjIdeal.Value.res7 m c, fun c => Cert.QProjIdeal.Value.res8 m c, ?_, ?_⟩
  · exact (θ_run Cert.QProjIdeal.defs _ _).mono (fun _ h c => ⟨(h c).1.trans (Cert.QProjIdeal.Value.final_6 m c),
      (h c).2.1.trans (Cert.QProjIdeal.Value.final_7 m c),
      (h c).2.2.1.trans (Cert.QProjIdeal.Value.final_8 m c), (h c).2.2.2⟩)
      (Cert.QProjIdeal.Value.run_blocks m g)
  · exact (θ_run Cert.QProjRefIdeal.defs _ _).mono (fun _ h c => ⟨(h c).1.trans (Cert.QProjEq.res0_eq m m' c (hs c) hp).symm,
      (h c).2.1.trans (Cert.QProjEq.res1_eq m m' c (hs c)).symm,
      (h c).2.2.1.trans (Cert.QProjEq.res2_eq m m' c (hs c)).symm, (h c).2.2.2⟩)
      (Cert.QProjRefIdeal.Value.run_res m' g')

/-- The reference runs. -/
theorem q_proj_ref_frame : Cert.quiescent_QProjRefIdeal := fun m g _ =>
  (θ_run Cert.QProjRefIdeal.defs _ _).mono (fun _ h => ⟨fun c => (h c).2.2.2, sem_eq_zero_of_no_sems rfl _⟩) (Cert.QProjRefIdeal.Value.run_res m g)

instance : Cert.Pre_finite_kv.Facts := Cert.KvProjEq.pre_facts

/-- The keys' and values' projection, backward: the kernel's four results are the derivative's. -/
theorem kv_proj : Cert.algebraic_KvProjIdeal_KvProjRefIdeal_pre_finite_kv := by
  intro m g m' g' hp hs
  refine ⟨fun c => Cert.KvProjIdeal.Value.res7 m c, fun c => Cert.KvProjIdeal.Value.res8 m c, fun c => Cert.KvProjIdeal.Value.res9 m c, fun c => Cert.KvProjIdeal.Value.res10 m c, ?_, ?_⟩
  · exact (θ_run Cert.KvProjIdeal.defs _ _).mono (fun _ h c => ⟨(h c).1.trans (Cert.KvProjIdeal.Value.final_7 m c),
      (h c).2.1.trans (Cert.KvProjIdeal.Value.final_8 m c),
      (h c).2.2.1.trans (Cert.KvProjIdeal.Value.final_9 m c),
      (h c).2.2.2.1.trans (Cert.KvProjIdeal.Value.final_10 m c), (h c).2.2.2.2⟩)
      (Cert.KvProjIdeal.Value.run_blocks m g)
  · exact (θ_run Cert.KvProjRefIdeal.defs _ _).mono (fun _ h c => ⟨(h c).1.trans (Cert.KvProjEq.res0_eq m m' c (hs c) hp).symm,
      (h c).2.1.trans (Cert.KvProjEq.res1_eq m m' c (hs c)).symm,
      (h c).2.2.1.trans (Cert.KvProjEq.res2_eq m m' c (hs c)).symm,
      (h c).2.2.2.1.trans (Cert.KvProjEq.res3_eq m m' c (hs c)).symm, (h c).2.2.2.2⟩)
      (Cert.KvProjRefIdeal.Value.run_res m' g')

/-- The reference runs. -/
theorem kv_proj_ref_frame : Cert.quiescent_KvProjRefIdeal := fun m g _ =>
  (θ_run Cert.KvProjRefIdeal.defs _ _).mono (fun _ h => ⟨fun c => (h c).2.2.2.2, sem_eq_zero_of_no_sems rfl _⟩) (Cert.KvProjRefIdeal.Value.run_res m g)

instance : Cert.Pre_finite_a_in.Facts := Cert.AInEq.pre_facts

/-- The attention's input projection, backward: the kernel's three results are the derivative's. -/
theorem a_in : Cert.algebraic_AInIdeal_AInRefIdeal_pre_finite_a_in := by
  intro m g m' g' hp hs
  refine ⟨fun c => Cert.AInIdeal.Value.res8 m c, fun c => Cert.AInIdeal.Value.res9 m c, fun c => Cert.AInIdeal.Value.res10 m c, ?_, ?_⟩
  · exact (θ_run Cert.AInIdeal.defs _ _).mono (fun _ h c => ⟨(h c).1.trans (Cert.AInIdeal.Value.final_8 m c),
      (h c).2.1.trans (Cert.AInIdeal.Value.final_9 m c),
      (h c).2.2.1.trans (Cert.AInIdeal.Value.final_10 m c), (h c).2.2.2⟩)
      (Cert.AInIdeal.Value.run_blocks m g)
  · exact (θ_run Cert.AInRefIdeal.defs _ _).mono (fun _ h c => ⟨(h c).1.trans (Cert.AInEq.res0_eq m m' c (hs c) hp).symm,
      (h c).2.1.trans (Cert.AInEq.res1_eq m m' c (hs c)).symm,
      (h c).2.2.1.trans (Cert.AInEq.res2_eq m m' c (hs c)).symm, (h c).2.2.2⟩)
      (Cert.AInRefIdeal.Value.run_res m' g')

/-- The reference runs. -/
theorem a_in_ref_frame : Cert.quiescent_AInRefIdeal := fun m g _ =>
  (θ_run Cert.AInRefIdeal.defs _ _).mono (fun _ h => ⟨fun c => (h c).2.2.2, sem_eq_zero_of_no_sems rfl _⟩) (Cert.AInRefIdeal.Value.run_res m g)

instance : Cert.Pre_finite_out_loss.Facts := Cert.OutLossEq.pre_facts

/-- The output projection with the loss, backward: the kernel's six results are the derivative's. -/
theorem out_loss : Cert.algebraic_OutLossIdeal_OutLossRefIdeal_pre_finite_out_loss := by
  intro m g m' g' hp hs
  refine ⟨fun c => Cert.OutLossIdeal.Value.res8 m c, fun c => Cert.OutLossIdeal.Value.res9 m c, fun c => Cert.OutLossIdeal.Value.res10 m c, fun c => Cert.OutLossIdeal.Value.res11 m c, fun c => Cert.OutLossIdeal.Value.res12 m c, fun c => Cert.OutLossIdeal.Value.res13 m c, ?_, ?_⟩
  · exact (θ_run Cert.OutLossIdeal.defs _ _).mono (fun _ h c => ⟨(h c).1.trans (Cert.OutLossIdeal.Value.final_8 m c),
      (h c).2.1.trans (Cert.OutLossIdeal.Value.final_9 m c),
      (h c).2.2.1.trans (Cert.OutLossIdeal.Value.final_10 m c),
      (h c).2.2.2.1.trans (Cert.OutLossIdeal.Value.final_11 m c),
      (h c).2.2.2.2.1.trans (Cert.OutLossIdeal.Value.final_12 m c),
      (h c).2.2.2.2.2.1.trans (Cert.OutLossIdeal.Value.final_13 m c), (h c).2.2.2.2.2.2⟩)
      (Cert.OutLossIdeal.Value.run_blocks m g)
  · exact (θ_run Cert.OutLossRefIdeal.defs _ _).mono (fun _ h c => ⟨(h c).1.trans (Cert.OutLossEq.res0_eq m m' c (hs c) hp).symm,
      (h c).2.1.trans (Cert.OutLossEq.res1_eq m m' c (hs c) hp).symm,
      (h c).2.2.1.trans (Cert.OutLossEq.res2_eq m m' c (hs c) hp).symm,
      (h c).2.2.2.1.trans (Cert.OutLossEq.res3_eq m m' c (hs c) hp).symm,
      (h c).2.2.2.2.1.trans (Cert.OutLossEq.res4_eq m m' c (hs c) hp).symm,
      (h c).2.2.2.2.2.1.trans (Cert.OutLossEq.res5_eq m m' c (hs c) hp).symm, (h c).2.2.2.2.2.2⟩)
      (Cert.OutLossRefIdeal.Value.run_res m' g')

/-- The reference runs. -/
theorem out_loss_ref_frame : Cert.quiescent_OutLossRefIdeal := fun m g _ =>
  (θ_run Cert.OutLossRefIdeal.defs _ _).mono (fun _ h => ⟨fun c => (h c).2.2.2.2.2.2, sem_eq_zero_of_no_sems rfl _⟩) (Cert.OutLossRefIdeal.Value.run_res m g)

/-- The attention's output projection with the next norm and projection: the kernel's three results are the reference's. -/
theorem out_in : Cert.algebraic_OutInIdeal_OutInRefIdeal := by
  intro m g m' g' _ hs
  refine ⟨fun c => Cert.OutInIdeal.Value.res6 m c, fun c => Cert.OutInIdeal.Value.res7 m c, fun c => Cert.OutInIdeal.Value.res8 m c, ?_, ?_⟩
  · exact (θ_run Cert.OutInIdeal.defs _ _).mono (fun _ h c => ⟨(h c).1.trans (Cert.OutInIdeal.Value.final_6 m c),
      (h c).2.1.trans (Cert.OutInIdeal.Value.final_7 m c), (h c).2.2.1.trans (Cert.OutInIdeal.Value.final_8 m c), (h c).2.2.2⟩)
      (Cert.OutInIdeal.Value.run_blocks m g)
  · exact (θ_run Cert.OutInRefIdeal.defs _ _).mono (fun _ h c => ⟨(h c).1.trans (Cert.OutInEq.res0_eq m m' c (hs c)).symm,
      (h c).2.1.trans (Cert.OutInEq.res1_eq m m' c (hs c)).symm, (h c).2.2.1.trans (Cert.OutInEq.res2_eq m m' c (hs c)).symm, (h c).2.2.2⟩)
      (Cert.OutInRefIdeal.Value.run_res m' g')

/-- The reference runs. -/
theorem out_in_ref_frame : Cert.quiescent_OutInRefIdeal := fun m g _ =>
  (θ_run Cert.OutInRefIdeal.defs _ _).mono (fun _ h => ⟨fun c => (h c).2.2.2, sem_eq_zero_of_no_sems rfl _⟩) (Cert.OutInRefIdeal.Value.run_res m g)

/-- The queries' projection: the kernel's result is the reference's. -/
theorem q_fwd : Cert.algebraic_QFwdIdeal_QFwdRefIdeal := by
  intro m g m' g' _ hs
  refine ⟨fun c => Cert.QFwdIdeal.Value.res5 m c, ?_, ?_⟩
  · exact (θ_run Cert.QFwdIdeal.defs _ _).mono (fun _ h c => ⟨(h c).1.trans (Cert.QFwdIdeal.Value.final_5 m c), (h c).2⟩)
      (Cert.QFwdIdeal.Value.run_blocks m g)
  · exact (θ_run Cert.QFwdRefIdeal.defs _ _).mono (fun _ h c => ⟨(h c).1.trans (Cert.QFwdEq.res0_eq m m' c (hs c)).symm, (h c).2⟩)
      (Cert.QFwdRefIdeal.Value.run_res m' g')

/-- The reference runs. -/
theorem q_fwd_ref_frame : Cert.quiescent_QFwdRefIdeal := fun m g _ =>
  (θ_run Cert.QFwdRefIdeal.defs _ _).mono (fun _ h => ⟨fun c => (h c).2, sem_eq_zero_of_no_sems rfl _⟩) (Cert.QFwdRefIdeal.Value.run_res m g)

/-- The keys' and values' projection: the kernel's two results are the reference's. -/
theorem kv_fwd : Cert.algebraic_KvFwdIdeal_KvFwdRefIdeal := by
  intro m g m' g' _ hs
  refine ⟨fun c => Cert.KvFwdIdeal.Value.res6 m c, fun c => Cert.KvFwdIdeal.Value.res7 m c, ?_, ?_⟩
  · exact (θ_run Cert.KvFwdIdeal.defs _ _).mono (fun _ h c => ⟨(h c).1.trans (Cert.KvFwdIdeal.Value.final_6 m c),
      (h c).2.1.trans (Cert.KvFwdIdeal.Value.final_7 m c), (h c).2.2⟩)
      (Cert.KvFwdIdeal.Value.run_blocks m g)
  · exact (θ_run Cert.KvFwdRefIdeal.defs _ _).mono (fun _ h c => ⟨(h c).1.trans (Cert.KvFwdEq.res0_eq m m' c (hs c)).symm,
      (h c).2.1.trans (Cert.KvFwdEq.res1_eq m m' c (hs c)).symm, (h c).2.2⟩)
      (Cert.KvFwdRefIdeal.Value.run_res m' g')

/-- The reference runs. -/
theorem kv_fwd_ref_frame : Cert.quiescent_KvFwdRefIdeal := fun m g _ =>
  (θ_run Cert.KvFwdRefIdeal.defs _ _).mono (fun _ h => ⟨fun c => (h c).2.2, sem_eq_zero_of_no_sems rfl _⟩) (Cert.KvFwdRefIdeal.Value.run_res m g)

theorem claim : Cert.Claim := ⟨Cert.BIn.Gen.facts, Cert.BInIdeal.Gen.facts, Cert.BInRefIdeal.Gen.facts,
  Cert.Flash.Gen.facts, Cert.FlashIdeal.Gen.facts, Cert.FlashRefIdeal.Gen.facts,
  Cert.Gated.Gen.facts, Cert.GatedIdeal.Gen.facts, Cert.GatedRefIdeal.Gen.facts,
  Cert.QProj.Gen.facts, Cert.QProjIdeal.Gen.facts, Cert.QProjRefIdeal.Gen.facts,
  Cert.KvProj.Gen.facts, Cert.KvProjIdeal.Gen.facts, Cert.KvProjRefIdeal.Gen.facts,
  Cert.AIn.Gen.facts, Cert.AInIdeal.Gen.facts, Cert.AInRefIdeal.Gen.facts,
  Cert.OutLoss.Gen.facts, Cert.OutLossIdeal.Gen.facts, Cert.OutLossRefIdeal.Gen.facts,
  Cert.OutIn.Gen.facts, Cert.OutInIdeal.Gen.facts, Cert.OutInRefIdeal.Gen.facts,
  Cert.QFwd.Gen.facts, Cert.QFwdIdeal.Gen.facts, Cert.QFwdRefIdeal.Gen.facts,
  Cert.KvFwd.Gen.facts, Cert.KvFwdIdeal.Gen.facts, Cert.KvFwdRefIdeal.Gen.facts,
  Cert.BInEq.pre_facts, Cert.FlashEq.pre_facts, Cert.GatedEq.pre_facts, Cert.QProjEq.pre_facts, Cert.KvProjEq.pre_facts, Cert.AInEq.pre_facts, Cert.OutLossEq.pre_facts,
  fun m g _ => Cert.BIn.Gen.frame m g, fun m g _ => Cert.BInIdeal.Gen.frame m g, fun m g _ => Cert.BInIdeal.Gen.frame m g,
  b_in_ref_frame, fun m g _ => b_in_ref_frame m g trivial,
  fun m g _ => Cert.Flash.Gen.frame m g, fun m g _ => Cert.FlashIdeal.Gen.frame m g, fun m g _ => Cert.FlashIdeal.Gen.frame m g,
  flash_ref_frame, fun m g _ => flash_ref_frame m g trivial,
  fun m g _ => Cert.Gated.Gen.frame m g, fun m g _ => Cert.GatedIdeal.Gen.frame m g, fun m g _ => Cert.GatedIdeal.Gen.frame m g,
  gated_ref_frame, fun m g _ => gated_ref_frame m g trivial,
  fun m g _ => Cert.QProj.Gen.frame m g, fun m g _ => Cert.QProjIdeal.Gen.frame m g, fun m g _ => Cert.QProjIdeal.Gen.frame m g,
  q_proj_ref_frame, fun m g _ => q_proj_ref_frame m g trivial,
  fun m g _ => Cert.KvProj.Gen.frame m g, fun m g _ => Cert.KvProjIdeal.Gen.frame m g, fun m g _ => Cert.KvProjIdeal.Gen.frame m g,
  kv_proj_ref_frame, fun m g _ => kv_proj_ref_frame m g trivial,
  fun m g _ => Cert.AIn.Gen.frame m g, fun m g _ => Cert.AInIdeal.Gen.frame m g, fun m g _ => Cert.AInIdeal.Gen.frame m g,
  a_in_ref_frame, fun m g _ => a_in_ref_frame m g trivial,
  fun m g _ => Cert.OutLoss.Gen.frame m g, fun m g _ => Cert.OutLossIdeal.Gen.frame m g, fun m g _ => Cert.OutLossIdeal.Gen.frame m g,
  out_loss_ref_frame, fun m g _ => out_loss_ref_frame m g trivial,
  fun m g _ => Cert.OutIn.Gen.frame m g, fun m g _ => Cert.OutInIdeal.Gen.frame m g, out_in_ref_frame,
  fun m g _ => Cert.QFwd.Gen.frame m g, fun m g _ => Cert.QFwdIdeal.Gen.frame m g, q_fwd_ref_frame,
  fun m g _ => Cert.KvFwd.Gen.frame m g, fun m g _ => Cert.KvFwdIdeal.Gen.frame m g, kv_fwd_ref_frame,
  trivial, b_in, flash_preserves, flash, trivial, gated, trivial, q_proj, trivial, kv_proj, trivial, a_in, trivial, out_loss, trivial, out_in, trivial, q_fwd, trivial, kv_fwd⟩

end Cert.Proof

end
